-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_DFfnDown (m : (ℓ : Loc Cert.DFfnDown.nD Cert.DFfnDown.τ Cert.DFfnDown.sig) → Buf (Elt Bits) ℓ) : Prop :=
  True

def Pre_DFfnDownIdeal (m : (ℓ : Loc Cert.DFfnDownIdeal.nD Cert.DFfnDownIdeal.τ Cert.DFfnDownIdeal.sig) → Buf (Elt Ideal) ℓ) : Prop :=
  True

def Pre_DFfnDownRefIdeal (m : (ℓ : Loc Cert.DFfnDownRefIdeal.nD Cert.DFfnDownRefIdeal.τ Cert.DFfnDownRefIdeal.sig) → Buf (Elt Ideal) ℓ) : Prop :=
  True

def Pre_DInA (m : (ℓ : Loc Cert.DInA.nD Cert.DInA.τ Cert.DInA.sig) → Buf (Elt Bits) ℓ) : Prop :=
  True

def Pre_DInAIdeal (m : (ℓ : Loc Cert.DInAIdeal.nD Cert.DInAIdeal.τ Cert.DInAIdeal.sig) → Buf (Elt Ideal) ℓ) : Prop :=
  True

def Pre_DInARefIdeal (m : (ℓ : Loc Cert.DInARefIdeal.nD Cert.DInARefIdeal.τ Cert.DInARefIdeal.sig) → Buf (Elt Ideal) ℓ) : Prop :=
  True

def Pre_DInB (m : (ℓ : Loc Cert.DInB.nD Cert.DInB.τ Cert.DInB.sig) → Buf (Elt Bits) ℓ) : Prop :=
  True

def Pre_DInBIdeal (m : (ℓ : Loc Cert.DInBIdeal.nD Cert.DInBIdeal.τ Cert.DInBIdeal.sig) → Buf (Elt Ideal) ℓ) : Prop :=
  True

def Pre_DInBRefIdeal (m : (ℓ : Loc Cert.DInBRefIdeal.nD Cert.DInBRefIdeal.τ Cert.DInBRefIdeal.sig) → Buf (Elt Ideal) ℓ) : Prop :=
  True

def Pre_DOut (m : (ℓ : Loc Cert.DOut.nD Cert.DOut.τ Cert.DOut.sig) → Buf (Elt Bits) ℓ) : Prop :=
  True

def Pre_DOutIdeal (m : (ℓ : Loc Cert.DOutIdeal.nD Cert.DOutIdeal.τ Cert.DOutIdeal.sig) → Buf (Elt Ideal) ℓ) : Prop :=
  True

def Pre_DOutRefIdeal (m : (ℓ : Loc Cert.DOutRefIdeal.nD Cert.DOutRefIdeal.τ Cert.DOutRefIdeal.sig) → Buf (Elt Ideal) ℓ) : Prop :=
  True

def Pre_DPleGate (m : (ℓ : Loc Cert.DPleGate.nD Cert.DPleGate.τ Cert.DPleGate.sig) → Buf (Elt Bits) ℓ) : Prop :=
  True

def Pre_DPleGateIdeal (m : (ℓ : Loc Cert.DPleGateIdeal.nD Cert.DPleGateIdeal.τ Cert.DPleGateIdeal.sig) → Buf (Elt Ideal) ℓ) : Prop :=
  True

def Pre_DPleGateRefIdeal (m : (ℓ : Loc Cert.DPleGateRefIdeal.nD Cert.DPleGateRefIdeal.τ Cert.DPleGateRefIdeal.sig) → Buf (Elt Ideal) ℓ) : Prop :=
  True

def Pre_DPleProj (m : (ℓ : Loc Cert.DPleProj.nD Cert.DPleProj.τ Cert.DPleProj.sig) → Buf (Elt Bits) ℓ) : Prop :=
  True

def Pre_DPleProjIdeal (m : (ℓ : Loc Cert.DPleProjIdeal.nD Cert.DPleProjIdeal.τ Cert.DPleProjIdeal.sig) → Buf (Elt Ideal) ℓ) : Prop :=
  True

def Pre_DPleProjRefIdeal (m : (ℓ : Loc Cert.DPleProjRefIdeal.nD Cert.DPleProjRefIdeal.τ Cert.DPleProjRefIdeal.sig) → Buf (Elt Ideal) ℓ) : Prop :=
  True

def Pre_DGlu (m : (ℓ : Loc Cert.DGlu.nD Cert.DGlu.τ Cert.DGlu.sig) → Buf (Elt Bits) ℓ) : Prop :=
  True

def Pre_DGluIdeal (m : (ℓ : Loc Cert.DGluIdeal.nD Cert.DGluIdeal.τ Cert.DGluIdeal.sig) → Buf (Elt Ideal) ℓ) : Prop :=
  True

def Pre_DGluRefIdeal (m : (ℓ : Loc Cert.DGluRefIdeal.nD Cert.DGluRefIdeal.τ Cert.DGluRefIdeal.sig) → Buf (Elt Ideal) ℓ) : Prop :=
  True

def Pre_DFfnUp (m : (ℓ : Loc Cert.DFfnUp.nD Cert.DFfnUp.τ Cert.DFfnUp.sig) → Buf (Elt Bits) ℓ) : Prop :=
  True

def Pre_DFfnUpIdeal (m : (ℓ : Loc Cert.DFfnUpIdeal.nD Cert.DFfnUpIdeal.τ Cert.DFfnUpIdeal.sig) → Buf (Elt Ideal) ℓ) : Prop :=
  True

def Pre_DFfnUpRefIdeal (m : (ℓ : Loc Cert.DFfnUpRefIdeal.nD Cert.DFfnUpRefIdeal.τ Cert.DFfnUpRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_InBwdEven (m : (ℓ : Loc Cert.InBwdEven.nD Cert.InBwdEven.τ Cert.InBwdEven.sig) → Buf (Elt Bits) ℓ) : Prop :=
  True

def Pre_InBwdEvenIdeal (m : (ℓ : Loc Cert.InBwdEvenIdeal.nD Cert.InBwdEvenIdeal.τ Cert.InBwdEvenIdeal.sig) → Buf (Elt Ideal) ℓ) : Prop :=
  True

def Pre_InBwdEvenRefIdeal (m : (ℓ : Loc Cert.InBwdEvenRefIdeal.nD Cert.InBwdEvenRefIdeal.τ Cert.InBwdEvenRefIdeal.sig) → Buf (Elt Ideal) ℓ) : Prop :=
  True

def Pre_InBwdOdd (m : (ℓ : Loc Cert.InBwdOdd.nD Cert.InBwdOdd.τ Cert.InBwdOdd.sig) → Buf (Elt Bits) ℓ) : Prop :=
  True

def Pre_InBwdOddIdeal (m : (ℓ : Loc Cert.InBwdOddIdeal.nD Cert.InBwdOddIdeal.τ Cert.InBwdOddIdeal.sig) → Buf (Elt Ideal) ℓ) : Prop :=
  True

def Pre_InBwdOddRefIdeal (m : (ℓ : Loc Cert.InBwdOddRefIdeal.nD Cert.InBwdOddRefIdeal.τ Cert.InBwdOddRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def Pre_DownLn (m : (ℓ : Loc Cert.DownLn.nD Cert.DownLn.τ Cert.DownLn.sig) → Buf (Elt Bits) ℓ) : Prop :=
  True

def Pre_DownLnIdeal (m : (ℓ : Loc Cert.DownLnIdeal.nD Cert.DownLnIdeal.τ Cert.DownLnIdeal.sig) → Buf (Elt Ideal) ℓ) : Prop :=
  True

def Pre_DownLnRefIdeal (m : (ℓ : Loc Cert.DownLnRefIdeal.nD Cert.DownLnRefIdeal.τ Cert.DownLnRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_AdamEvIn (m : (ℓ : Loc Cert.AdamEvIn.nD Cert.AdamEvIn.τ Cert.AdamEvIn.sig) → Buf (Elt Bits) ℓ) : Prop :=
  True

def Pre_AdamEvInIdeal (m : (ℓ : Loc Cert.AdamEvInIdeal.nD Cert.AdamEvInIdeal.τ Cert.AdamEvInIdeal.sig) → Buf (Elt Ideal) ℓ) : Prop :=
  True

def Pre_AdamEvInRefIdeal (m : (ℓ : Loc Cert.AdamEvInRefIdeal.nD Cert.AdamEvInRefIdeal.τ Cert.AdamEvInRefIdeal.sig) → Buf (Elt Ideal) ℓ) : Prop :=
  True

def Pre_AdamEvGlu (m : (ℓ : Loc Cert.AdamEvGlu.nD Cert.AdamEvGlu.τ Cert.AdamEvGlu.sig) → Buf (Elt Bits) ℓ) : Prop :=
  True

def Pre_AdamEvGluIdeal (m : (ℓ : Loc Cert.AdamEvGluIdeal.nD Cert.AdamEvGluIdeal.τ Cert.AdamEvGluIdeal.sig) → Buf (Elt Ideal) ℓ) : Prop :=
  True

def Pre_AdamEvGluRefIdeal (m : (ℓ : Loc Cert.AdamEvGluRefIdeal.nD Cert.AdamEvGluRefIdeal.τ Cert.AdamEvGluRefIdeal.sig) → Buf (Elt Ideal) ℓ) : Prop :=
  True

def Pre_AdamEvOut (m : (ℓ : Loc Cert.AdamEvOut.nD Cert.AdamEvOut.τ Cert.AdamEvOut.sig) → Buf (Elt Bits) ℓ) : Prop :=
  True

def Pre_AdamEvOutIdeal (m : (ℓ : Loc Cert.AdamEvOutIdeal.nD Cert.AdamEvOutIdeal.τ Cert.AdamEvOutIdeal.sig) → Buf (Elt Ideal) ℓ) : Prop :=
  True

def Pre_AdamEvOutRefIdeal (m : (ℓ : Loc Cert.AdamEvOutRefIdeal.nD Cert.AdamEvOutRefIdeal.τ Cert.AdamEvOutRefIdeal.sig) → Buf (Elt Ideal) ℓ) : Prop :=
  True

def Pre_AdamOdIn (m : (ℓ : Loc Cert.AdamOdIn.nD Cert.AdamOdIn.τ Cert.AdamOdIn.sig) → Buf (Elt Bits) ℓ) : Prop :=
  True

def Pre_AdamOdInIdeal (m : (ℓ : Loc Cert.AdamOdInIdeal.nD Cert.AdamOdInIdeal.τ Cert.AdamOdInIdeal.sig) → Buf (Elt Ideal) ℓ) : Prop :=
  True

def Pre_AdamOdInRefIdeal (m : (ℓ : Loc Cert.AdamOdInRefIdeal.nD Cert.AdamOdInRefIdeal.τ Cert.AdamOdInRefIdeal.sig) → Buf (Elt Ideal) ℓ) : Prop :=
  True

def Pre_AdamOdOut (m : (ℓ : Loc Cert.AdamOdOut.nD Cert.AdamOdOut.τ Cert.AdamOdOut.sig) → Buf (Elt Bits) ℓ) : Prop :=
  True

def Pre_AdamOdOutIdeal (m : (ℓ : Loc Cert.AdamOdOutIdeal.nD Cert.AdamOdOutIdeal.τ Cert.AdamOdOutIdeal.sig) → Buf (Elt Ideal) ℓ) : Prop :=
  True

def Pre_AdamOdOutRefIdeal (m : (ℓ : Loc Cert.AdamOdOutRefIdeal.nD Cert.AdamOdOutRefIdeal.τ Cert.AdamOdOutRefIdeal.sig) → Buf (Elt Ideal) ℓ) : Prop :=
  True

def Pre_AdamFfnUp (m : (ℓ : Loc Cert.AdamFfnUp.nD Cert.AdamFfnUp.τ Cert.AdamFfnUp.sig) → Buf (Elt Bits) ℓ) : Prop :=
  True

def Pre_AdamFfnUpIdeal (m : (ℓ : Loc Cert.AdamFfnUpIdeal.nD Cert.AdamFfnUpIdeal.τ Cert.AdamFfnUpIdeal.sig) → Buf (Elt Ideal) ℓ) : Prop :=
  True

def Pre_AdamFfnUpRefIdeal (m : (ℓ : Loc Cert.AdamFfnUpRefIdeal.nD Cert.AdamFfnUpRefIdeal.τ Cert.AdamFfnUpRefIdeal.sig) → Buf (Elt Ideal) ℓ) : Prop :=
  True

def Pre_AdamFfnDown (m : (ℓ : Loc Cert.AdamFfnDown.nD Cert.AdamFfnDown.τ Cert.AdamFfnDown.sig) → Buf (Elt Bits) ℓ) : Prop :=
  True

def Pre_AdamFfnDownIdeal (m : (ℓ : Loc Cert.AdamFfnDownIdeal.nD Cert.AdamFfnDownIdeal.τ Cert.AdamFfnDownIdeal.sig) → Buf (Elt Ideal) ℓ) : Prop :=
  True

def Pre_AdamFfnDownRefIdeal (m : (ℓ : Loc Cert.AdamFfnDownRefIdeal.nD Cert.AdamFfnDownRefIdeal.τ Cert.AdamFfnDownRefIdeal.sig) → Buf (Elt Ideal) ℓ) : Prop :=
  True

def Pre_AdamPleProj (m : (ℓ : Loc Cert.AdamPleProj.nD Cert.AdamPleProj.τ Cert.AdamPleProj.sig) → Buf (Elt Bits) ℓ) : Prop :=
  True

def Pre_AdamPleProjIdeal (m : (ℓ : Loc Cert.AdamPleProjIdeal.nD Cert.AdamPleProjIdeal.τ Cert.AdamPleProjIdeal.sig) → Buf (Elt Ideal) ℓ) : Prop :=
  True

def Pre_AdamPleProjRefIdeal (m : (ℓ : Loc Cert.AdamPleProjRefIdeal.nD Cert.AdamPleProjRefIdeal.τ Cert.AdamPleProjRefIdeal.sig) → Buf (Elt Ideal) ℓ) : Prop :=
  True

def Pre_AdamPleGate (m : (ℓ : Loc Cert.AdamPleGate.nD Cert.AdamPleGate.τ Cert.AdamPleGate.sig) → Buf (Elt Bits) ℓ) : Prop :=
  True

def Pre_AdamPleGateIdeal (m : (ℓ : Loc Cert.AdamPleGateIdeal.nD Cert.AdamPleGateIdeal.τ Cert.AdamPleGateIdeal.sig) → Buf (Elt Ideal) ℓ) : Prop :=
  True

def Pre_AdamPleGateRefIdeal (m : (ℓ : Loc Cert.AdamPleGateRefIdeal.nD Cert.AdamPleGateRefIdeal.τ Cert.AdamPleGateRefIdeal.sig) → Buf (Elt Ideal) ℓ) : Prop :=
  True

def Pre_FfnDownBwd (m : (ℓ : Loc Cert.FfnDownBwd.nD Cert.FfnDownBwd.τ Cert.FfnDownBwd.sig) → Buf (Elt Bits) ℓ) : Prop :=
  True

def Pre_FfnDownBwdIdeal [hPre_finite_down : Cert.Pre_finite_down.Facts] (m : (ℓ : Loc Cert.FfnDownBwdIdeal.nD Cert.FfnDownBwdIdeal.τ Cert.FfnDownBwdIdeal.sig) → Buf (Elt Ideal) ℓ) : Prop :=
  ∀ c : Dev Cert.FfnDownBwdIdeal.nD,
    (Cert.Pre_finite_down.fn (F := Ideal) (m ((c.tc : Thread Cert.FfnDownBwdIdeal.nD Cert.FfnDownBwdIdeal.τ).loc Cert.FfnDownBwdIdeal.main_arg0)) (m ((c.tc : Thread Cert.FfnDownBwdIdeal.nD Cert.FfnDownBwdIdeal.τ).loc Cert.FfnDownBwdIdeal.main_arg1)) (m ((c.tc : Thread Cert.FfnDownBwdIdeal.nD Cert.FfnDownBwdIdeal.τ).loc Cert.FfnDownBwdIdeal.main_arg2))) = (fun _ => 1#1)

def Pre_FfnDownBwdIdeal_none (m : (ℓ : Loc Cert.FfnDownBwdIdeal.nD Cert.FfnDownBwdIdeal.τ Cert.FfnDownBwdIdeal.sig) → Buf (Elt Ideal) ℓ) : Prop :=
  True

def Pre_FfnDownBwdRefIdeal (m : (ℓ : Loc Cert.FfnDownBwdRefIdeal.nD Cert.FfnDownBwdRefIdeal.τ Cert.FfnDownBwdRefIdeal.sig) → Buf (Elt Ideal) ℓ) : Prop :=
  True

def Pre_FfnDownBwdRefIdeal_finite_down [hPre_finite_down : Cert.Pre_finite_down.Facts] (m : (ℓ : Loc Cert.FfnDownBwdRefIdeal.nD Cert.FfnDownBwdRefIdeal.τ Cert.FfnDownBwdRefIdeal.sig) → Buf (Elt Ideal) ℓ) : Prop :=
  ∀ c : Dev Cert.FfnDownBwdRefIdeal.nD,
    (Cert.Pre_finite_down.fn (F := Ideal) (m ((c.tc : Thread Cert.FfnDownBwdRefIdeal.nD Cert.FfnDownBwdRefIdeal.τ).loc Cert.FfnDownBwdRefIdeal.main_arg0)) (m ((c.tc : Thread Cert.FfnDownBwdRefIdeal.nD Cert.FfnDownBwdRefIdeal.τ).loc Cert.FfnDownBwdRefIdeal.main_arg1)) (m ((c.tc : Thread Cert.FfnDownBwdRefIdeal.nD Cert.FfnDownBwdRefIdeal.τ).loc Cert.FfnDownBwdRefIdeal.main_arg2))) = (fun _ => 1#1)

def Pre_UpLnBwd (m : (ℓ : Loc Cert.UpLnBwd.nD Cert.UpLnBwd.τ Cert.UpLnBwd.sig) → Buf (Elt Bits) ℓ) : Prop :=
  True

def Pre_UpLnBwdIdeal [hPre_finite_up : Cert.Pre_finite_up.Facts] (m : (ℓ : Loc Cert.UpLnBwdIdeal.nD Cert.UpLnBwdIdeal.τ Cert.UpLnBwdIdeal.sig) → Buf (Elt Ideal) ℓ) : Prop :=
  ∀ c : Dev Cert.UpLnBwdIdeal.nD,
    (Cert.Pre_finite_up.fn (F := Ideal) (m ((c.tc : Thread Cert.UpLnBwdIdeal.nD Cert.UpLnBwdIdeal.τ).loc Cert.UpLnBwdIdeal.main_arg0)) (m ((c.tc : Thread Cert.UpLnBwdIdeal.nD Cert.UpLnBwdIdeal.τ).loc Cert.UpLnBwdIdeal.main_arg1)) (m ((c.tc : Thread Cert.UpLnBwdIdeal.nD Cert.UpLnBwdIdeal.τ).loc Cert.UpLnBwdIdeal.main_arg2)) (m ((c.tc : Thread Cert.UpLnBwdIdeal.nD Cert.UpLnBwdIdeal.τ).loc Cert.UpLnBwdIdeal.main_arg3)) (m ((c.tc : Thread Cert.UpLnBwdIdeal.nD Cert.UpLnBwdIdeal.τ).loc Cert.UpLnBwdIdeal.main_arg4))) = (fun _ => 1#1)

def Pre_UpLnBwdIdeal_none (m : (ℓ : Loc Cert.UpLnBwdIdeal.nD Cert.UpLnBwdIdeal.τ Cert.UpLnBwdIdeal.sig) → Buf (Elt Ideal) ℓ) : Prop :=
  True

def Pre_UpLnBwdRefIdeal (m : (ℓ : Loc Cert.UpLnBwdRefIdeal.nD Cert.UpLnBwdRefIdeal.τ Cert.UpLnBwdRefIdeal.sig) → Buf (Elt Ideal) ℓ) : Prop :=
  True

def Pre_UpLnBwdRefIdeal_finite_up [hPre_finite_up : Cert.Pre_finite_up.Facts] (m : (ℓ : Loc Cert.UpLnBwdRefIdeal.nD Cert.UpLnBwdRefIdeal.τ Cert.UpLnBwdRefIdeal.sig) → Buf (Elt Ideal) ℓ) : Prop :=
  ∀ c : Dev Cert.UpLnBwdRefIdeal.nD,
    (Cert.Pre_finite_up.fn (F := Ideal) (m ((c.tc : Thread Cert.UpLnBwdRefIdeal.nD Cert.UpLnBwdRefIdeal.τ).loc Cert.UpLnBwdRefIdeal.main_arg0)) (m ((c.tc : Thread Cert.UpLnBwdRefIdeal.nD Cert.UpLnBwdRefIdeal.τ).loc Cert.UpLnBwdRefIdeal.main_arg1)) (m ((c.tc : Thread Cert.UpLnBwdRefIdeal.nD Cert.UpLnBwdRefIdeal.τ).loc Cert.UpLnBwdRefIdeal.main_arg2)) (m ((c.tc : Thread Cert.UpLnBwdRefIdeal.nD Cert.UpLnBwdRefIdeal.τ).loc Cert.UpLnBwdRefIdeal.main_arg3)) (m ((c.tc : Thread Cert.UpLnBwdRefIdeal.nD Cert.UpLnBwdRefIdeal.τ).loc Cert.UpLnBwdRefIdeal.main_arg4))) = (fun _ => 1#1)

def Pre_PleLnBwd (m : (ℓ : Loc Cert.PleLnBwd.nD Cert.PleLnBwd.τ Cert.PleLnBwd.sig) → Buf (Elt Bits) ℓ) : Prop :=
  True

def Pre_PleLnBwdIdeal [hPre_finite_ple : Cert.Pre_finite_ple.Facts] (m : (ℓ : Loc Cert.PleLnBwdIdeal.nD Cert.PleLnBwdIdeal.τ Cert.PleLnBwdIdeal.sig) → Buf (Elt Ideal) ℓ) : Prop :=
  ∀ c : Dev Cert.PleLnBwdIdeal.nD,
    (Cert.Pre_finite_ple.fn (F := Ideal) (m ((c.tc : Thread Cert.PleLnBwdIdeal.nD Cert.PleLnBwdIdeal.τ).loc Cert.PleLnBwdIdeal.main_arg0)) (m ((c.tc : Thread Cert.PleLnBwdIdeal.nD Cert.PleLnBwdIdeal.τ).loc Cert.PleLnBwdIdeal.main_arg1)) (m ((c.tc : Thread Cert.PleLnBwdIdeal.nD Cert.PleLnBwdIdeal.τ).loc Cert.PleLnBwdIdeal.main_arg2)) (m ((c.tc : Thread Cert.PleLnBwdIdeal.nD Cert.PleLnBwdIdeal.τ).loc Cert.PleLnBwdIdeal.main_arg3)) (m ((c.tc : Thread Cert.PleLnBwdIdeal.nD Cert.PleLnBwdIdeal.τ).loc Cert.PleLnBwdIdeal.main_arg4)) (m ((c.tc : Thread Cert.PleLnBwdIdeal.nD Cert.PleLnBwdIdeal.τ).loc Cert.PleLnBwdIdeal.main_arg5)) (m ((c.tc : Thread Cert.PleLnBwdIdeal.nD Cert.PleLnBwdIdeal.τ).loc Cert.PleLnBwdIdeal.main_arg6)) (m ((c.tc : Thread Cert.PleLnBwdIdeal.nD Cert.PleLnBwdIdeal.τ).loc Cert.PleLnBwdIdeal.main_arg7))) = (fun _ => 1#1)

def Pre_PleLnBwdIdeal_none (m : (ℓ : Loc Cert.PleLnBwdIdeal.nD Cert.PleLnBwdIdeal.τ Cert.PleLnBwdIdeal.sig) → Buf (Elt Ideal) ℓ) : Prop :=
  True

def Pre_PleLnBwdRefIdeal (m : (ℓ : Loc Cert.PleLnBwdRefIdeal.nD Cert.PleLnBwdRefIdeal.τ Cert.PleLnBwdRefIdeal.sig) → Buf (Elt Ideal) ℓ) : Prop :=
  True

def Pre_PleLnBwdRefIdeal_finite_ple [hPre_finite_ple : Cert.Pre_finite_ple.Facts] (m : (ℓ : Loc Cert.PleLnBwdRefIdeal.nD Cert.PleLnBwdRefIdeal.τ Cert.PleLnBwdRefIdeal.sig) → Buf (Elt Ideal) ℓ) : Prop :=
  ∀ c : Dev Cert.PleLnBwdRefIdeal.nD,
    (Cert.Pre_finite_ple.fn (F := Ideal) (m ((c.tc : Thread Cert.PleLnBwdRefIdeal.nD Cert.PleLnBwdRefIdeal.τ).loc Cert.PleLnBwdRefIdeal.main_arg0)) (m ((c.tc : Thread Cert.PleLnBwdRefIdeal.nD Cert.PleLnBwdRefIdeal.τ).loc Cert.PleLnBwdRefIdeal.main_arg1)) (m ((c.tc : Thread Cert.PleLnBwdRefIdeal.nD Cert.PleLnBwdRefIdeal.τ).loc Cert.PleLnBwdRefIdeal.main_arg2)) (m ((c.tc : Thread Cert.PleLnBwdRefIdeal.nD Cert.PleLnBwdRefIdeal.τ).loc Cert.PleLnBwdRefIdeal.main_arg3)) (m ((c.tc : Thread Cert.PleLnBwdRefIdeal.nD Cert.PleLnBwdRefIdeal.τ).loc Cert.PleLnBwdRefIdeal.main_arg4)) (m ((c.tc : Thread Cert.PleLnBwdRefIdeal.nD Cert.PleLnBwdRefIdeal.τ).loc Cert.PleLnBwdRefIdeal.main_arg5)) (m ((c.tc : Thread Cert.PleLnBwdRefIdeal.nD Cert.PleLnBwdRefIdeal.τ).loc Cert.PleLnBwdRefIdeal.main_arg6)) (m ((c.tc : Thread Cert.PleLnBwdRefIdeal.nD Cert.PleLnBwdRefIdeal.τ).loc Cert.PleLnBwdRefIdeal.main_arg7))) = (fun _ => 1#1)

def Pre_DS5B (m : (ℓ : Loc Cert.DS5B.nD Cert.DS5B.τ Cert.DS5B.sig) → Buf (Elt Bits) ℓ) : Prop :=
  True

def Pre_DS5BIdeal (m : (ℓ : Loc Cert.DS5BIdeal.nD Cert.DS5BIdeal.τ Cert.DS5BIdeal.sig) → Buf (Elt Ideal) ℓ) : Prop :=
  True

def Pre_DS5BRefIdeal (m : (ℓ : Loc Cert.DS5BRefIdeal.nD Cert.DS5BRefIdeal.τ Cert.DS5BRefIdeal.sig) → Buf (Elt Ideal) ℓ) : Prop :=
  True

def Pre_DS5C (m : (ℓ : Loc Cert.DS5C.nD Cert.DS5C.τ Cert.DS5C.sig) → Buf (Elt Bits) ℓ) : Prop :=
  True

def Pre_DS5CIdeal (m : (ℓ : Loc Cert.DS5CIdeal.nD Cert.DS5CIdeal.τ Cert.DS5CIdeal.sig) → Buf (Elt Ideal) ℓ) : Prop :=
  True

def Pre_DS5CRefIdeal (m : (ℓ : Loc Cert.DS5CRefIdeal.nD Cert.DS5CRefIdeal.τ Cert.DS5CRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_SumGlu (m : (ℓ : Loc Cert.SumGlu.nD Cert.SumGlu.τ Cert.SumGlu.sig) → Buf (Elt Bits) ℓ) : Prop :=
  True

def Pre_SumGluIdeal (m : (ℓ : Loc Cert.SumGluIdeal.nD Cert.SumGluIdeal.τ Cert.SumGluIdeal.sig) → Buf (Elt Ideal) ℓ) : Prop :=
  True

def Pre_SumGluRefIdeal (m : (ℓ : Loc Cert.SumGluRefIdeal.nD Cert.SumGluRefIdeal.τ Cert.SumGluRefIdeal.sig) → Buf (Elt Ideal) ℓ) : Prop :=
  True

def Pre_SumOut (m : (ℓ : Loc Cert.SumOut.nD Cert.SumOut.τ Cert.SumOut.sig) → Buf (Elt Bits) ℓ) : Prop :=
  True

def Pre_SumOutIdeal (m : (ℓ : Loc Cert.SumOutIdeal.nD Cert.SumOutIdeal.τ Cert.SumOutIdeal.sig) → Buf (Elt Ideal) ℓ) : Prop :=
  True

def Pre_SumOutRefIdeal (m : (ℓ : Loc Cert.SumOutRefIdeal.nD Cert.SumOutRefIdeal.τ Cert.SumOutRefIdeal.sig) → Buf (Elt Ideal) ℓ) : Prop :=
  True

def Pre_SumUp (m : (ℓ : Loc Cert.SumUp.nD Cert.SumUp.τ Cert.SumUp.sig) → Buf (Elt Bits) ℓ) : Prop :=
  True

def Pre_SumUpIdeal (m : (ℓ : Loc Cert.SumUpIdeal.nD Cert.SumUpIdeal.τ Cert.SumUpIdeal.sig) → Buf (Elt Ideal) ℓ) : Prop :=
  True

def Pre_SumUpRefIdeal (m : (ℓ : Loc Cert.SumUpRefIdeal.nD Cert.SumUpRefIdeal.τ Cert.SumUpRefIdeal.sig) → Buf (Elt Ideal) ℓ) : Prop :=
  True

def Pre_SumDown (m : (ℓ : Loc Cert.SumDown.nD Cert.SumDown.τ Cert.SumDown.sig) → Buf (Elt Bits) ℓ) : Prop :=
  True

def Pre_SumDownIdeal (m : (ℓ : Loc Cert.SumDownIdeal.nD Cert.SumDownIdeal.τ Cert.SumDownIdeal.sig) → Buf (Elt Ideal) ℓ) : Prop :=
  True

def Pre_SumDownRefIdeal (m : (ℓ : Loc Cert.SumDownRefIdeal.nD Cert.SumDownRefIdeal.τ Cert.SumDownRefIdeal.sig) → Buf (Elt Ideal) ℓ) : Prop :=
  True

def Pre_SumProj (m : (ℓ : Loc Cert.SumProj.nD Cert.SumProj.τ Cert.SumProj.sig) → Buf (Elt Bits) ℓ) : Prop :=
  True

def Pre_SumProjIdeal (m : (ℓ : Loc Cert.SumProjIdeal.nD Cert.SumProjIdeal.τ Cert.SumProjIdeal.sig) → Buf (Elt Ideal) ℓ) : Prop :=
  True

def Pre_SumProjRefIdeal (m : (ℓ : Loc Cert.SumProjRefIdeal.nD Cert.SumProjRefIdeal.τ Cert.SumProjRefIdeal.sig) → Buf (Elt Ideal) ℓ) : Prop :=
  True

def Pre_PoolFwd (m : (ℓ : Loc Cert.PoolFwd.nD Cert.PoolFwd.τ Cert.PoolFwd.sig) → Buf (Elt Bits) ℓ) : Prop :=
  True

def Pre_PoolFwdIdeal (m : (ℓ : Loc Cert.PoolFwdIdeal.nD Cert.PoolFwdIdeal.τ Cert.PoolFwdIdeal.sig) → Buf (Elt Ideal) ℓ) : Prop :=
  True

def Pre_PoolFwdRefIdeal (m : (ℓ : Loc Cert.PoolFwdRefIdeal.nD Cert.PoolFwdRefIdeal.τ Cert.PoolFwdRefIdeal.sig) → Buf (Elt Ideal) ℓ) : Prop :=
  True

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdRefIdeal (m : (ℓ : Loc Cert.PoolBwdRefIdeal.nD Cert.PoolBwdRefIdeal.τ Cert.PoolBwdRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_DFfnDown [hDFfnDown : Cert.DFfnDown.Facts] : Prop :=
  ∀ (m : (ℓ : Loc Cert.DFfnDown.nD Cert.DFfnDown.τ Cert.DFfnDown.sig) → Buf (Elt Bits) ℓ) (g : Dev Cert.DFfnDown.nD → PrngReg), Pre_DFfnDown m →
    θ_run (Cert.DFfnDown.defs (F := Bits)) (onTc (τ := Cert.DFfnDown.τ) (Cert.DFfnDown.main (F := Bits))) ⟨m, fun _ => 0, g⟩ (fun r => (∀ c : Dev Cert.DFfnDown.nD,
      r.2.mem ((c.tc : Thread Cert.DFfnDown.nD Cert.DFfnDown.τ).loc Cert.DFfnDown.main_arg0) = m ((c.tc : Thread Cert.DFfnDown.nD Cert.DFfnDown.τ).loc Cert.DFfnDown.main_arg0)
      ∧ r.2.mem ((c.tc : Thread Cert.DFfnDown.nD Cert.DFfnDown.τ).loc Cert.DFfnDown.main_arg1) = m ((c.tc : Thread Cert.DFfnDown.nD Cert.DFfnDown.τ).loc Cert.DFfnDown.main_arg1))
      ∧ r.2.sem = fun _ => 0)

def quiescent_DFfnDownIdeal [hDFfnDownIdeal : Cert.DFfnDownIdeal.Facts] : Prop :=
  ∀ (m : (ℓ : Loc Cert.DFfnDownIdeal.nD Cert.DFfnDownIdeal.τ Cert.DFfnDownIdeal.sig) → Buf (Elt Ideal) ℓ) (g : Dev Cert.DFfnDownIdeal.nD → PrngReg), Pre_DFfnDownIdeal m →
    θ_run (Cert.DFfnDownIdeal.defs (F := Ideal)) (onTc (τ := Cert.DFfnDownIdeal.τ) (Cert.DFfnDownIdeal.main (F := Ideal))) ⟨m, fun _ => 0, g⟩ (fun r => (∀ c : Dev Cert.DFfnDownIdeal.nD,
      r.2.mem ((c.tc : Thread Cert.DFfnDownIdeal.nD Cert.DFfnDownIdeal.τ).loc Cert.DFfnDownIdeal.main_arg0) = m ((c.tc : Thread Cert.DFfnDownIdeal.nD Cert.DFfnDownIdeal.τ).loc Cert.DFfnDownIdeal.main_arg0)
      ∧ r.2.mem ((c.tc : Thread Cert.DFfnDownIdeal.nD Cert.DFfnDownIdeal.τ).loc Cert.DFfnDownIdeal.main_arg1) = m ((c.tc : Thread Cert.DFfnDownIdeal.nD Cert.DFfnDownIdeal.τ).loc Cert.DFfnDownIdeal.main_arg1))
      ∧ r.2.sem = fun _ => 0)

def quiescent_DFfnDownRefIdeal [hDFfnDownRefIdeal : Cert.DFfnDownRefIdeal.Facts] : Prop :=
  ∀ (m : (ℓ : Loc Cert.DFfnDownRefIdeal.nD Cert.DFfnDownRefIdeal.τ Cert.DFfnDownRefIdeal.sig) → Buf (Elt Ideal) ℓ) (g : Dev Cert.DFfnDownRefIdeal.nD → PrngReg), Pre_DFfnDownRefIdeal m →
    θ_run (Cert.DFfnDownRefIdeal.defs (F := Ideal)) (onTc (τ := Cert.DFfnDownRefIdeal.τ) (Cert.DFfnDownRefIdeal.main (F := Ideal))) ⟨m, fun _ => 0, g⟩ (fun r => (∀ c : Dev Cert.DFfnDownRefIdeal.nD,
      r.2.mem ((c.tc : Thread Cert.DFfnDownRefIdeal.nD Cert.DFfnDownRefIdeal.τ).loc Cert.DFfnDownRefIdeal.main_arg0) = m ((c.tc : Thread Cert.DFfnDownRefIdeal.nD Cert.DFfnDownRefIdeal.τ).loc Cert.DFfnDownRefIdeal.main_arg0)
      ∧ r.2.mem ((c.tc : Thread Cert.DFfnDownRefIdeal.nD Cert.DFfnDownRefIdeal.τ).loc Cert.DFfnDownRefIdeal.main_arg1) = m ((c.tc : Thread Cert.DFfnDownRefIdeal.nD Cert.DFfnDownRefIdeal.τ).loc Cert.DFfnDownRefIdeal.main_arg1))
      ∧ r.2.sem = fun _ => 0)

def quiescent_DInA [hDInA : Cert.DInA.Facts] : Prop :=
  ∀ (m : (ℓ : Loc Cert.DInA.nD Cert.DInA.τ Cert.DInA.sig) → Buf (Elt Bits) ℓ) (g : Dev Cert.DInA.nD → PrngReg), Pre_DInA m →
    θ_run (Cert.DInA.defs (F := Bits)) (onTc (τ := Cert.DInA.τ) (Cert.DInA.main (F := Bits))) ⟨m, fun _ => 0, g⟩ (fun r => (∀ c : Dev Cert.DInA.nD,
      r.2.mem ((c.tc : Thread Cert.DInA.nD Cert.DInA.τ).loc Cert.DInA.main_arg0) = m ((c.tc : Thread Cert.DInA.nD Cert.DInA.τ).loc Cert.DInA.main_arg0)
      ∧ r.2.mem ((c.tc : Thread Cert.DInA.nD Cert.DInA.τ).loc Cert.DInA.main_arg1) = m ((c.tc : Thread Cert.DInA.nD Cert.DInA.τ).loc Cert.DInA.main_arg1))
      ∧ r.2.sem = fun _ => 0)

def quiescent_DInAIdeal [hDInAIdeal : Cert.DInAIdeal.Facts] : Prop :=
  ∀ (m : (ℓ : Loc Cert.DInAIdeal.nD Cert.DInAIdeal.τ Cert.DInAIdeal.sig) → Buf (Elt Ideal) ℓ) (g : Dev Cert.DInAIdeal.nD → PrngReg), Pre_DInAIdeal m →
    θ_run (Cert.DInAIdeal.defs (F := Ideal)) (onTc (τ := Cert.DInAIdeal.τ) (Cert.DInAIdeal.main (F := Ideal))) ⟨m, fun _ => 0, g⟩ (fun r => (∀ c : Dev Cert.DInAIdeal.nD,
      r.2.mem ((c.tc : Thread Cert.DInAIdeal.nD Cert.DInAIdeal.τ).loc Cert.DInAIdeal.main_arg0) = m ((c.tc : Thread Cert.DInAIdeal.nD Cert.DInAIdeal.τ).loc Cert.DInAIdeal.main_arg0)
      ∧ r.2.mem ((c.tc : Thread Cert.DInAIdeal.nD Cert.DInAIdeal.τ).loc Cert.DInAIdeal.main_arg1) = m ((c.tc : Thread Cert.DInAIdeal.nD Cert.DInAIdeal.τ).loc Cert.DInAIdeal.main_arg1))
      ∧ r.2.sem = fun _ => 0)

def quiescent_DInARefIdeal [hDInARefIdeal : Cert.DInARefIdeal.Facts] : Prop :=
  ∀ (m : (ℓ : Loc Cert.DInARefIdeal.nD Cert.DInARefIdeal.τ Cert.DInARefIdeal.sig) → Buf (Elt Ideal) ℓ) (g : Dev Cert.DInARefIdeal.nD → PrngReg), Pre_DInARefIdeal m →
    θ_run (Cert.DInARefIdeal.defs (F := Ideal)) (onTc (τ := Cert.DInARefIdeal.τ) (Cert.DInARefIdeal.main (F := Ideal))) ⟨m, fun _ => 0, g⟩ (fun r => (∀ c : Dev Cert.DInARefIdeal.nD,
      r.2.mem ((c.tc : Thread Cert.DInARefIdeal.nD Cert.DInARefIdeal.τ).loc Cert.DInARefIdeal.main_arg0) = m ((c.tc : Thread Cert.DInARefIdeal.nD Cert.DInARefIdeal.τ).loc Cert.DInARefIdeal.main_arg0)
      ∧ r.2.mem ((c.tc : Thread Cert.DInARefIdeal.nD Cert.DInARefIdeal.τ).loc Cert.DInARefIdeal.main_arg1) = m ((c.tc : Thread Cert.DInARefIdeal.nD Cert.DInARefIdeal.τ).loc Cert.DInARefIdeal.main_arg1))
      ∧ r.2.sem = fun _ => 0)

def quiescent_DInB [hDInB : Cert.DInB.Facts] : Prop :=
  ∀ (m : (ℓ : Loc Cert.DInB.nD Cert.DInB.τ Cert.DInB.sig) → Buf (Elt Bits) ℓ) (g : Dev Cert.DInB.nD → PrngReg), Pre_DInB m →
    θ_run (Cert.DInB.defs (F := Bits)) (onTc (τ := Cert.DInB.τ) (Cert.DInB.main (F := Bits))) ⟨m, fun _ => 0, g⟩ (fun r => (∀ c : Dev Cert.DInB.nD,
      r.2.mem ((c.tc : Thread Cert.DInB.nD Cert.DInB.τ).loc Cert.DInB.main_arg0) = m ((c.tc : Thread Cert.DInB.nD Cert.DInB.τ).loc Cert.DInB.main_arg0)
      ∧ r.2.mem ((c.tc : Thread Cert.DInB.nD Cert.DInB.τ).loc Cert.DInB.main_arg1) = m ((c.tc : Thread Cert.DInB.nD Cert.DInB.τ).loc Cert.DInB.main_arg1))
      ∧ r.2.sem = fun _ => 0)

def quiescent_DInBIdeal [hDInBIdeal : Cert.DInBIdeal.Facts] : Prop :=
  ∀ (m : (ℓ : Loc Cert.DInBIdeal.nD Cert.DInBIdeal.τ Cert.DInBIdeal.sig) → Buf (Elt Ideal) ℓ) (g : Dev Cert.DInBIdeal.nD → PrngReg), Pre_DInBIdeal m →
    θ_run (Cert.DInBIdeal.defs (F := Ideal)) (onTc (τ := Cert.DInBIdeal.τ) (Cert.DInBIdeal.main (F := Ideal))) ⟨m, fun _ => 0, g⟩ (fun r => (∀ c : Dev Cert.DInBIdeal.nD,
      r.2.mem ((c.tc : Thread Cert.DInBIdeal.nD Cert.DInBIdeal.τ).loc Cert.DInBIdeal.main_arg0) = m ((c.tc : Thread Cert.DInBIdeal.nD Cert.DInBIdeal.τ).loc Cert.DInBIdeal.main_arg0)
      ∧ r.2.mem ((c.tc : Thread Cert.DInBIdeal.nD Cert.DInBIdeal.τ).loc Cert.DInBIdeal.main_arg1) = m ((c.tc : Thread Cert.DInBIdeal.nD Cert.DInBIdeal.τ).loc Cert.DInBIdeal.main_arg1))
      ∧ r.2.sem = fun _ => 0)

def quiescent_DInBRefIdeal [hDInBRefIdeal : Cert.DInBRefIdeal.Facts] : Prop :=
  ∀ (m : (ℓ : Loc Cert.DInBRefIdeal.nD Cert.DInBRefIdeal.τ Cert.DInBRefIdeal.sig) → Buf (Elt Ideal) ℓ) (g : Dev Cert.DInBRefIdeal.nD → PrngReg), Pre_DInBRefIdeal m →
    θ_run (Cert.DInBRefIdeal.defs (F := Ideal)) (onTc (τ := Cert.DInBRefIdeal.τ) (Cert.DInBRefIdeal.main (F := Ideal))) ⟨m, fun _ => 0, g⟩ (fun r => (∀ c : Dev Cert.DInBRefIdeal.nD,
      r.2.mem ((c.tc : Thread Cert.DInBRefIdeal.nD Cert.DInBRefIdeal.τ).loc Cert.DInBRefIdeal.main_arg0) = m ((c.tc : Thread Cert.DInBRefIdeal.nD Cert.DInBRefIdeal.τ).loc Cert.DInBRefIdeal.main_arg0)
      ∧ r.2.mem ((c.tc : Thread Cert.DInBRefIdeal.nD Cert.DInBRefIdeal.τ).loc Cert.DInBRefIdeal.main_arg1) = m ((c.tc : Thread Cert.DInBRefIdeal.nD Cert.DInBRefIdeal.τ).loc Cert.DInBRefIdeal.main_arg1))
      ∧ r.2.sem = fun _ => 0)

def quiescent_DOut [hDOut : Cert.DOut.Facts] : Prop :=
  ∀ (m : (ℓ : Loc Cert.DOut.nD Cert.DOut.τ Cert.DOut.sig) → Buf (Elt Bits) ℓ) (g : Dev Cert.DOut.nD → PrngReg), Pre_DOut m →
    θ_run (Cert.DOut.defs (F := Bits)) (onTc (τ := Cert.DOut.τ) (Cert.DOut.main (F := Bits))) ⟨m, fun _ => 0, g⟩ (fun r => (∀ c : Dev Cert.DOut.nD,
      r.2.mem ((c.tc : Thread Cert.DOut.nD Cert.DOut.τ).loc Cert.DOut.main_arg0) = m ((c.tc : Thread Cert.DOut.nD Cert.DOut.τ).loc Cert.DOut.main_arg0)
      ∧ r.2.mem ((c.tc : Thread Cert.DOut.nD Cert.DOut.τ).loc Cert.DOut.main_arg1) = m ((c.tc : Thread Cert.DOut.nD Cert.DOut.τ).loc Cert.DOut.main_arg1))
      ∧ r.2.sem = fun _ => 0)

def quiescent_DOutIdeal [hDOutIdeal : Cert.DOutIdeal.Facts] : Prop :=
  ∀ (m : (ℓ : Loc Cert.DOutIdeal.nD Cert.DOutIdeal.τ Cert.DOutIdeal.sig) → Buf (Elt Ideal) ℓ) (g : Dev Cert.DOutIdeal.nD → PrngReg), Pre_DOutIdeal m →
    θ_run (Cert.DOutIdeal.defs (F := Ideal)) (onTc (τ := Cert.DOutIdeal.τ) (Cert.DOutIdeal.main (F := Ideal))) ⟨m, fun _ => 0, g⟩ (fun r => (∀ c : Dev Cert.DOutIdeal.nD,
      r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
      ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1))
      ∧ r.2.sem = fun _ => 0)

def quiescent_DOutRefIdeal [hDOutRefIdeal : Cert.DOutRefIdeal.Facts] : Prop :=
  ∀ (m : (ℓ : Loc Cert.DOutRefIdeal.nD Cert.DOutRefIdeal.τ Cert.DOutRefIdeal.sig) → Buf (Elt Ideal) ℓ) (g : Dev Cert.DOutRefIdeal.nD → PrngReg), Pre_DOutRefIdeal m →
    θ_run (Cert.DOutRefIdeal.defs (F := Ideal)) (onTc (τ := Cert.DOutRefIdeal.τ) (Cert.DOutRefIdeal.main (F := Ideal))) ⟨m, fun _ => 0, g⟩ (fun r => (∀ c : Dev Cert.DOutRefIdeal.nD,
      r.2.mem ((c.tc : Thread Cert.DOutRefIdeal.nD Cert.DOutRefIdeal.τ).loc Cert.DOutRefIdeal.main_arg0) = m ((c.tc : Thread Cert.DOutRefIdeal.nD Cert.DOutRefIdeal.τ).loc Cert.DOutRefIdeal.main_arg0)
      ∧ r.2.mem ((c.tc : Thread Cert.DOutRefIdeal.nD Cert.DOutRefIdeal.τ).loc Cert.DOutRefIdeal.main_arg1) = m ((c.tc : Thread Cert.DOutRefIdeal.nD Cert.DOutRefIdeal.τ).loc Cert.DOutRefIdeal.main_arg1))
      ∧ r.2.sem = fun _ => 0)

def quiescent_DPleGate [hDPleGate : Cert.DPleGate.Facts] : Prop :=
  ∀ (m : (ℓ : Loc Cert.DPleGate.nD Cert.DPleGate.τ Cert.DPleGate.sig) → Buf (Elt Bits) ℓ) (g : Dev Cert.DPleGate.nD → PrngReg), Pre_DPleGate m →
    θ_run (Cert.DPleGate.defs (F := Bits)) (onTc (τ := Cert.DPleGate.τ) (Cert.DPleGate.main (F := Bits))) ⟨m, fun _ => 0, g⟩ (fun r => (∀ c : Dev Cert.DPleGate.nD,
      r.2.mem ((c.tc : Thread Cert.DPleGate.nD Cert.DPleGate.τ).loc Cert.DPleGate.main_arg0) = m ((c.tc : Thread Cert.DPleGate.nD Cert.DPleGate.τ).loc Cert.DPleGate.main_arg0)
      ∧ r.2.mem ((c.tc : Thread Cert.DPleGate.nD Cert.DPleGate.τ).loc Cert.DPleGate.main_arg1) = m ((c.tc : Thread Cert.DPleGate.nD Cert.DPleGate.τ).loc Cert.DPleGate.main_arg1))
      ∧ r.2.sem = fun _ => 0)

def quiescent_DPleGateIdeal [hDPleGateIdeal : Cert.DPleGateIdeal.Facts] : Prop :=
  ∀ (m : (ℓ : Loc Cert.DPleGateIdeal.nD Cert.DPleGateIdeal.τ Cert.DPleGateIdeal.sig) → Buf (Elt Ideal) ℓ) (g : Dev Cert.DPleGateIdeal.nD → PrngReg), Pre_DPleGateIdeal m →
    θ_run (Cert.DPleGateIdeal.defs (F := Ideal)) (onTc (τ := Cert.DPleGateIdeal.τ) (Cert.DPleGateIdeal.main (F := Ideal))) ⟨m, fun _ => 0, g⟩ (fun r => (∀ c : Dev Cert.DPleGateIdeal.nD,
      r.2.mem ((c.tc : Thread Cert.DPleGateIdeal.nD Cert.DPleGateIdeal.τ).loc Cert.DPleGateIdeal.main_arg0) = m ((c.tc : Thread Cert.DPleGateIdeal.nD Cert.DPleGateIdeal.τ).loc Cert.DPleGateIdeal.main_arg0)
      ∧ r.2.mem ((c.tc : Thread Cert.DPleGateIdeal.nD Cert.DPleGateIdeal.τ).loc Cert.DPleGateIdeal.main_arg1) = m ((c.tc : Thread Cert.DPleGateIdeal.nD Cert.DPleGateIdeal.τ).loc Cert.DPleGateIdeal.main_arg1))
      ∧ r.2.sem = fun _ => 0)

def quiescent_DPleGateRefIdeal [hDPleGateRefIdeal : Cert.DPleGateRefIdeal.Facts] : Prop :=
  ∀ (m : (ℓ : Loc Cert.DPleGateRefIdeal.nD Cert.DPleGateRefIdeal.τ Cert.DPleGateRefIdeal.sig) → Buf (Elt Ideal) ℓ) (g : Dev Cert.DPleGateRefIdeal.nD → PrngReg), Pre_DPleGateRefIdeal m →
    θ_run (Cert.DPleGateRefIdeal.defs (F := Ideal)) (onTc (τ := Cert.DPleGateRefIdeal.τ) (Cert.DPleGateRefIdeal.main (F := Ideal))) ⟨m, fun _ => 0, g⟩ (fun r => (∀ c : Dev Cert.DPleGateRefIdeal.nD,
      r.2.mem ((c.tc : Thread Cert.DPleGateRefIdeal.nD Cert.DPleGateRefIdeal.τ).loc Cert.DPleGateRefIdeal.main_arg0) = m ((c.tc : Thread Cert.DPleGateRefIdeal.nD Cert.DPleGateRefIdeal.τ).loc Cert.DPleGateRefIdeal.main_arg0)
      ∧ r.2.mem ((c.tc : Thread Cert.DPleGateRefIdeal.nD Cert.DPleGateRefIdeal.τ).loc Cert.DPleGateRefIdeal.main_arg1) = m ((c.tc : Thread Cert.DPleGateRefIdeal.nD Cert.DPleGateRefIdeal.τ).loc Cert.DPleGateRefIdeal.main_arg1))
      ∧ r.2.sem = fun _ => 0)

def quiescent_DPleProj [hDPleProj : Cert.DPleProj.Facts] : Prop :=
  ∀ (m : (ℓ : Loc Cert.DPleProj.nD Cert.DPleProj.τ Cert.DPleProj.sig) → Buf (Elt Bits) ℓ) (g : Dev Cert.DPleProj.nD → PrngReg), Pre_DPleProj m →
    θ_run (Cert.DPleProj.defs (F := Bits)) (onTc (τ := Cert.DPleProj.τ) (Cert.DPleProj.main (F := Bits))) ⟨m, fun _ => 0, g⟩ (fun r => (∀ c : Dev Cert.DPleProj.nD,
      r.2.mem ((c.tc : Thread Cert.DPleProj.nD Cert.DPleProj.τ).loc Cert.DPleProj.main_arg0) = m ((c.tc : Thread Cert.DPleProj.nD Cert.DPleProj.τ).loc Cert.DPleProj.main_arg0)
      ∧ r.2.mem ((c.tc : Thread Cert.DPleProj.nD Cert.DPleProj.τ).loc Cert.DPleProj.main_arg1) = m ((c.tc : Thread Cert.DPleProj.nD Cert.DPleProj.τ).loc Cert.DPleProj.main_arg1))
      ∧ r.2.sem = fun _ => 0)

def quiescent_DPleProjIdeal [hDPleProjIdeal : Cert.DPleProjIdeal.Facts] : Prop :=
  ∀ (m : (ℓ : Loc Cert.DPleProjIdeal.nD Cert.DPleProjIdeal.τ Cert.DPleProjIdeal.sig) → Buf (Elt Ideal) ℓ) (g : Dev Cert.DPleProjIdeal.nD → PrngReg), Pre_DPleProjIdeal m →
    θ_run (Cert.DPleProjIdeal.defs (F := Ideal)) (onTc (τ := Cert.DPleProjIdeal.τ) (Cert.DPleProjIdeal.main (F := Ideal))) ⟨m, fun _ => 0, g⟩ (fun r => (∀ c : Dev Cert.DPleProjIdeal.nD,
      r.2.mem ((c.tc : Thread Cert.DPleProjIdeal.nD Cert.DPleProjIdeal.τ).loc Cert.DPleProjIdeal.main_arg0) = m ((c.tc : Thread Cert.DPleProjIdeal.nD Cert.DPleProjIdeal.τ).loc Cert.DPleProjIdeal.main_arg0)
      ∧ r.2.mem ((c.tc : Thread Cert.DPleProjIdeal.nD Cert.DPleProjIdeal.τ).loc Cert.DPleProjIdeal.main_arg1) = m ((c.tc : Thread Cert.DPleProjIdeal.nD Cert.DPleProjIdeal.τ).loc Cert.DPleProjIdeal.main_arg1))
      ∧ r.2.sem = fun _ => 0)

def quiescent_DPleProjRefIdeal [hDPleProjRefIdeal : Cert.DPleProjRefIdeal.Facts] : Prop :=
  ∀ (m : (ℓ : Loc Cert.DPleProjRefIdeal.nD Cert.DPleProjRefIdeal.τ Cert.DPleProjRefIdeal.sig) → Buf (Elt Ideal) ℓ) (g : Dev Cert.DPleProjRefIdeal.nD → PrngReg), Pre_DPleProjRefIdeal m →
    θ_run (Cert.DPleProjRefIdeal.defs (F := Ideal)) (onTc (τ := Cert.DPleProjRefIdeal.τ) (Cert.DPleProjRefIdeal.main (F := Ideal))) ⟨m, fun _ => 0, g⟩ (fun r => (∀ c : Dev Cert.DPleProjRefIdeal.nD,
      r.2.mem ((c.tc : Thread Cert.DPleProjRefIdeal.nD Cert.DPleProjRefIdeal.τ).loc Cert.DPleProjRefIdeal.main_arg0) = m ((c.tc : Thread Cert.DPleProjRefIdeal.nD Cert.DPleProjRefIdeal.τ).loc Cert.DPleProjRefIdeal.main_arg0)
      ∧ r.2.mem ((c.tc : Thread Cert.DPleProjRefIdeal.nD Cert.DPleProjRefIdeal.τ).loc Cert.DPleProjRefIdeal.main_arg1) = m ((c.tc : Thread Cert.DPleProjRefIdeal.nD Cert.DPleProjRefIdeal.τ).loc Cert.DPleProjRefIdeal.main_arg1))
      ∧ r.2.sem = fun _ => 0)

def quiescent_DGlu [hDGlu : Cert.DGlu.Facts] : Prop :=
  ∀ (m : (ℓ : Loc Cert.DGlu.nD Cert.DGlu.τ Cert.DGlu.sig) → Buf (Elt Bits) ℓ) (g : Dev Cert.DGlu.nD → PrngReg), Pre_DGlu m →
    θ_run (Cert.DGlu.defs (F := Bits)) (onTc (τ := Cert.DGlu.τ) (Cert.DGlu.main (F := Bits))) ⟨m, fun _ => 0, g⟩ (fun r => (∀ c : Dev Cert.DGlu.nD,
      r.2.mem ((c.tc : Thread Cert.DGlu.nD Cert.DGlu.τ).loc Cert.DGlu.main_arg0) = m ((c.tc : Thread Cert.DGlu.nD Cert.DGlu.τ).loc Cert.DGlu.main_arg0)
      ∧ r.2.mem ((c.tc : Thread Cert.DGlu.nD Cert.DGlu.τ).loc Cert.DGlu.main_arg1) = m ((c.tc : Thread Cert.DGlu.nD Cert.DGlu.τ).loc Cert.DGlu.main_arg1))
      ∧ r.2.sem = fun _ => 0)

def quiescent_DGluIdeal [hDGluIdeal : Cert.DGluIdeal.Facts] : Prop :=
  ∀ (m : (ℓ : Loc Cert.DGluIdeal.nD Cert.DGluIdeal.τ Cert.DGluIdeal.sig) → Buf (Elt Ideal) ℓ) (g : Dev Cert.DGluIdeal.nD → PrngReg), Pre_DGluIdeal m →
    θ_run (Cert.DGluIdeal.defs (F := Ideal)) (onTc (τ := Cert.DGluIdeal.τ) (Cert.DGluIdeal.main (F := Ideal))) ⟨m, fun _ => 0, g⟩ (fun r => (∀ c : Dev Cert.DGluIdeal.nD,
      r.2.mem ((c.tc : Thread Cert.DGluIdeal.nD Cert.DGluIdeal.τ).loc Cert.DGluIdeal.main_arg0) = m ((c.tc : Thread Cert.DGluIdeal.nD Cert.DGluIdeal.τ).loc Cert.DGluIdeal.main_arg0)
      ∧ r.2.mem ((c.tc : Thread Cert.DGluIdeal.nD Cert.DGluIdeal.τ).loc Cert.DGluIdeal.main_arg1) = m ((c.tc : Thread Cert.DGluIdeal.nD Cert.DGluIdeal.τ).loc Cert.DGluIdeal.main_arg1))
      ∧ r.2.sem = fun _ => 0)

def quiescent_DGluRefIdeal [hDGluRefIdeal : Cert.DGluRefIdeal.Facts] : Prop :=
  ∀ (m : (ℓ : Loc Cert.DGluRefIdeal.nD Cert.DGluRefIdeal.τ Cert.DGluRefIdeal.sig) → Buf (Elt Ideal) ℓ) (g : Dev Cert.DGluRefIdeal.nD → PrngReg), Pre_DGluRefIdeal m →
    θ_run (Cert.DGluRefIdeal.defs (F := Ideal)) (onTc (τ := Cert.DGluRefIdeal.τ) (Cert.DGluRefIdeal.main (F := Ideal))) ⟨m, fun _ => 0, g⟩ (fun r => (∀ c : Dev Cert.DGluRefIdeal.nD,
      r.2.mem ((c.tc : Thread Cert.DGluRefIdeal.nD Cert.DGluRefIdeal.τ).loc Cert.DGluRefIdeal.main_arg0) = m ((c.tc : Thread Cert.DGluRefIdeal.nD Cert.DGluRefIdeal.τ).loc Cert.DGluRefIdeal.main_arg0)
      ∧ r.2.mem ((c.tc : Thread Cert.DGluRefIdeal.nD Cert.DGluRefIdeal.τ).loc Cert.DGluRefIdeal.main_arg1) = m ((c.tc : Thread Cert.DGluRefIdeal.nD Cert.DGluRefIdeal.τ).loc Cert.DGluRefIdeal.main_arg1))
      ∧ r.2.sem = fun _ => 0)

def quiescent_DFfnUp [hDFfnUp : Cert.DFfnUp.Facts] : Prop :=
  ∀ (m : (ℓ : Loc Cert.DFfnUp.nD Cert.DFfnUp.τ Cert.DFfnUp.sig) → Buf (Elt Bits) ℓ) (g : Dev Cert.DFfnUp.nD → PrngReg), Pre_DFfnUp m →
    θ_run (Cert.DFfnUp.defs (F := Bits)) (onTc (τ := Cert.DFfnUp.τ) (Cert.DFfnUp.main (F := Bits))) ⟨m, fun _ => 0, g⟩ (fun r => (∀ c : Dev Cert.DFfnUp.nD,
      r.2.mem ((c.tc : Thread Cert.DFfnUp.nD Cert.DFfnUp.τ).loc Cert.DFfnUp.main_arg0) = m ((c.tc : Thread Cert.DFfnUp.nD Cert.DFfnUp.τ).loc Cert.DFfnUp.main_arg0)
      ∧ r.2.mem ((c.tc : Thread Cert.DFfnUp.nD Cert.DFfnUp.τ).loc Cert.DFfnUp.main_arg1) = m ((c.tc : Thread Cert.DFfnUp.nD Cert.DFfnUp.τ).loc Cert.DFfnUp.main_arg1))
      ∧ r.2.sem = fun _ => 0)

def quiescent_DFfnUpIdeal [hDFfnUpIdeal : Cert.DFfnUpIdeal.Facts] : Prop :=
  ∀ (m : (ℓ : Loc Cert.DFfnUpIdeal.nD Cert.DFfnUpIdeal.τ Cert.DFfnUpIdeal.sig) → Buf (Elt Ideal) ℓ) (g : Dev Cert.DFfnUpIdeal.nD → PrngReg), Pre_DFfnUpIdeal m →
    θ_run (Cert.DFfnUpIdeal.defs (F := Ideal)) (onTc (τ := Cert.DFfnUpIdeal.τ) (Cert.DFfnUpIdeal.main (F := Ideal))) ⟨m, fun _ => 0, g⟩ (fun r => (∀ c : Dev Cert.DFfnUpIdeal.nD,
      r.2.mem ((c.tc : Thread Cert.DFfnUpIdeal.nD Cert.DFfnUpIdeal.τ).loc Cert.DFfnUpIdeal.main_arg0) = m ((c.tc : Thread Cert.DFfnUpIdeal.nD Cert.DFfnUpIdeal.τ).loc Cert.DFfnUpIdeal.main_arg0)
      ∧ r.2.mem ((c.tc : Thread Cert.DFfnUpIdeal.nD Cert.DFfnUpIdeal.τ).loc Cert.DFfnUpIdeal.main_arg1) = m ((c.tc : Thread Cert.DFfnUpIdeal.nD Cert.DFfnUpIdeal.τ).loc Cert.DFfnUpIdeal.main_arg1))
      ∧ r.2.sem = fun _ => 0)

def quiescent_DFfnUpRefIdeal [hDFfnUpRefIdeal : Cert.DFfnUpRefIdeal.Facts] : Prop :=
  ∀ (m : (ℓ : Loc Cert.DFfnUpRefIdeal.nD Cert.DFfnUpRefIdeal.τ Cert.DFfnUpRefIdeal.sig) → Buf (Elt Ideal) ℓ) (g : Dev Cert.DFfnUpRefIdeal.nD → PrngReg), Pre_DFfnUpRefIdeal m →
    θ_run (Cert.DFfnUpRefIdeal.defs (F := Ideal)) (onTc (τ := Cert.DFfnUpRefIdeal.τ) (Cert.DFfnUpRefIdeal.main (F := Ideal))) ⟨m, fun _ => 0, g⟩ (fun r => (∀ c : Dev Cert.DFfnUpRefIdeal.nD,
      r.2.mem ((c.tc : Thread Cert.DFfnUpRefIdeal.nD Cert.DFfnUpRefIdeal.τ).loc Cert.DFfnUpRefIdeal.main_arg0) = m ((c.tc : Thread Cert.DFfnUpRefIdeal.nD Cert.DFfnUpRefIdeal.τ).loc Cert.DFfnUpRefIdeal.main_arg0)
      ∧ r.2.mem ((c.tc : Thread Cert.DFfnUpRefIdeal.nD Cert.DFfnUpRefIdeal.τ).loc Cert.DFfnUpRefIdeal.main_arg1) = m ((c.tc : Thread Cert.DFfnUpRefIdeal.nD Cert.DFfnUpRefIdeal.τ).loc Cert.DFfnUpRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_InBwdEven [hInBwdEven : Cert.InBwdEven.Facts] : Prop :=
  ∀ (m : (ℓ : Loc Cert.InBwdEven.nD Cert.InBwdEven.τ Cert.InBwdEven.sig) → Buf (Elt Bits) ℓ) (g : Dev Cert.InBwdEven.nD → PrngReg), Pre_InBwdEven m →
    θ_run (Cert.InBwdEven.defs (F := Bits)) (onTc (τ := Cert.InBwdEven.τ) (Cert.InBwdEven.main (F := Bits))) ⟨m, fun _ => 0, g⟩ (fun r => (∀ c : Dev Cert.InBwdEven.nD,
      r.2.mem ((c.tc : Thread Cert.InBwdEven.nD Cert.InBwdEven.τ).loc Cert.InBwdEven.main_arg0) = m ((c.tc : Thread Cert.InBwdEven.nD Cert.InBwdEven.τ).loc Cert.InBwdEven.main_arg0)
      ∧ r.2.mem ((c.tc : Thread Cert.InBwdEven.nD Cert.InBwdEven.τ).loc Cert.InBwdEven.main_arg1) = m ((c.tc : Thread Cert.InBwdEven.nD Cert.InBwdEven.τ).loc Cert.InBwdEven.main_arg1)
      ∧ r.2.mem ((c.tc : Thread Cert.InBwdEven.nD Cert.InBwdEven.τ).loc Cert.InBwdEven.main_arg2) = m ((c.tc : Thread Cert.InBwdEven.nD Cert.InBwdEven.τ).loc Cert.InBwdEven.main_arg2)
      ∧ r.2.mem ((c.tc : Thread Cert.InBwdEven.nD Cert.InBwdEven.τ).loc Cert.InBwdEven.main_arg3) = m ((c.tc : Thread Cert.InBwdEven.nD Cert.InBwdEven.τ).loc Cert.InBwdEven.main_arg3))
      ∧ r.2.sem = fun _ => 0)

def quiescent_InBwdEvenIdeal [hInBwdEvenIdeal : Cert.InBwdEvenIdeal.Facts] : Prop :=
  ∀ (m : (ℓ : Loc Cert.InBwdEvenIdeal.nD Cert.InBwdEvenIdeal.τ Cert.InBwdEvenIdeal.sig) → Buf (Elt Ideal) ℓ) (g : Dev Cert.InBwdEvenIdeal.nD → PrngReg), Pre_InBwdEvenIdeal m →
    θ_run (Cert.InBwdEvenIdeal.defs (F := Ideal)) (onTc (τ := Cert.InBwdEvenIdeal.τ) (Cert.InBwdEvenIdeal.main (F := Ideal))) ⟨m, fun _ => 0, g⟩ (fun r => (∀ c : Dev Cert.InBwdEvenIdeal.nD,
      r.2.mem ((c.tc : Thread Cert.InBwdEvenIdeal.nD Cert.InBwdEvenIdeal.τ).loc Cert.InBwdEvenIdeal.main_arg0) = m ((c.tc : Thread Cert.InBwdEvenIdeal.nD Cert.InBwdEvenIdeal.τ).loc Cert.InBwdEvenIdeal.main_arg0)
      ∧ r.2.mem ((c.tc : Thread Cert.InBwdEvenIdeal.nD Cert.InBwdEvenIdeal.τ).loc Cert.InBwdEvenIdeal.main_arg1) = m ((c.tc : Thread Cert.InBwdEvenIdeal.nD Cert.InBwdEvenIdeal.τ).loc Cert.InBwdEvenIdeal.main_arg1)
      ∧ r.2.mem ((c.tc : Thread Cert.InBwdEvenIdeal.nD Cert.InBwdEvenIdeal.τ).loc Cert.InBwdEvenIdeal.main_arg2) = m ((c.tc : Thread Cert.InBwdEvenIdeal.nD Cert.InBwdEvenIdeal.τ).loc Cert.InBwdEvenIdeal.main_arg2)
      ∧ r.2.mem ((c.tc : Thread Cert.InBwdEvenIdeal.nD Cert.InBwdEvenIdeal.τ).loc Cert.InBwdEvenIdeal.main_arg3) = m ((c.tc : Thread Cert.InBwdEvenIdeal.nD Cert.InBwdEvenIdeal.τ).loc Cert.InBwdEvenIdeal.main_arg3))
      ∧ r.2.sem = fun _ => 0)

def quiescent_InBwdEvenRefIdeal [hInBwdEvenRefIdeal : Cert.InBwdEvenRefIdeal.Facts] : Prop :=
  ∀ (m : (ℓ : Loc Cert.InBwdEvenRefIdeal.nD Cert.InBwdEvenRefIdeal.τ Cert.InBwdEvenRefIdeal.sig) → Buf (Elt Ideal) ℓ) (g : Dev Cert.InBwdEvenRefIdeal.nD → PrngReg), Pre_InBwdEvenRefIdeal m →
    θ_run (Cert.InBwdEvenRefIdeal.defs (F := Ideal)) (onTc (τ := Cert.InBwdEvenRefIdeal.τ) (Cert.InBwdEvenRefIdeal.main (F := Ideal))) ⟨m, fun _ => 0, g⟩ (fun r => (∀ c : Dev Cert.InBwdEvenRefIdeal.nD,
      r.2.mem ((c.tc : Thread Cert.InBwdEvenRefIdeal.nD Cert.InBwdEvenRefIdeal.τ).loc Cert.InBwdEvenRefIdeal.main_arg0) = m ((c.tc : Thread Cert.InBwdEvenRefIdeal.nD Cert.InBwdEvenRefIdeal.τ).loc Cert.InBwdEvenRefIdeal.main_arg0)
      ∧ r.2.mem ((c.tc : Thread Cert.InBwdEvenRefIdeal.nD Cert.InBwdEvenRefIdeal.τ).loc Cert.InBwdEvenRefIdeal.main_arg1) = m ((c.tc : Thread Cert.InBwdEvenRefIdeal.nD Cert.InBwdEvenRefIdeal.τ).loc Cert.InBwdEvenRefIdeal.main_arg1)
      ∧ r.2.mem ((c.tc : Thread Cert.InBwdEvenRefIdeal.nD Cert.InBwdEvenRefIdeal.τ).loc Cert.InBwdEvenRefIdeal.main_arg2) = m ((c.tc : Thread Cert.InBwdEvenRefIdeal.nD Cert.InBwdEvenRefIdeal.τ).loc Cert.InBwdEvenRefIdeal.main_arg2)
      ∧ r.2.mem ((c.tc : Thread Cert.InBwdEvenRefIdeal.nD Cert.InBwdEvenRefIdeal.τ).loc Cert.InBwdEvenRefIdeal.main_arg3) = m ((c.tc : Thread Cert.InBwdEvenRefIdeal.nD Cert.InBwdEvenRefIdeal.τ).loc Cert.InBwdEvenRefIdeal.main_arg3))
      ∧ r.2.sem = fun _ => 0)

def quiescent_InBwdOdd [hInBwdOdd : Cert.InBwdOdd.Facts] : Prop :=
  ∀ (m : (ℓ : Loc Cert.InBwdOdd.nD Cert.InBwdOdd.τ Cert.InBwdOdd.sig) → Buf (Elt Bits) ℓ) (g : Dev Cert.InBwdOdd.nD → PrngReg), Pre_InBwdOdd m →
    θ_run (Cert.InBwdOdd.defs (F := Bits)) (onTc (τ := Cert.InBwdOdd.τ) (Cert.InBwdOdd.main (F := Bits))) ⟨m, fun _ => 0, g⟩ (fun r => (∀ c : Dev Cert.InBwdOdd.nD,
      r.2.mem ((c.tc : Thread Cert.InBwdOdd.nD Cert.InBwdOdd.τ).loc Cert.InBwdOdd.main_arg0) = m ((c.tc : Thread Cert.InBwdOdd.nD Cert.InBwdOdd.τ).loc Cert.InBwdOdd.main_arg0)
      ∧ r.2.mem ((c.tc : Thread Cert.InBwdOdd.nD Cert.InBwdOdd.τ).loc Cert.InBwdOdd.main_arg1) = m ((c.tc : Thread Cert.InBwdOdd.nD Cert.InBwdOdd.τ).loc Cert.InBwdOdd.main_arg1)
      ∧ r.2.mem ((c.tc : Thread Cert.InBwdOdd.nD Cert.InBwdOdd.τ).loc Cert.InBwdOdd.main_arg2) = m ((c.tc : Thread Cert.InBwdOdd.nD Cert.InBwdOdd.τ).loc Cert.InBwdOdd.main_arg2)
      ∧ r.2.mem ((c.tc : Thread Cert.InBwdOdd.nD Cert.InBwdOdd.τ).loc Cert.InBwdOdd.main_arg3) = m ((c.tc : Thread Cert.InBwdOdd.nD Cert.InBwdOdd.τ).loc Cert.InBwdOdd.main_arg3)
      ∧ r.2.mem ((c.tc : Thread Cert.InBwdOdd.nD Cert.InBwdOdd.τ).loc Cert.InBwdOdd.main_arg4) = m ((c.tc : Thread Cert.InBwdOdd.nD Cert.InBwdOdd.τ).loc Cert.InBwdOdd.main_arg4)
      ∧ r.2.mem ((c.tc : Thread Cert.InBwdOdd.nD Cert.InBwdOdd.τ).loc Cert.InBwdOdd.main_arg5) = m ((c.tc : Thread Cert.InBwdOdd.nD Cert.InBwdOdd.τ).loc Cert.InBwdOdd.main_arg5))
      ∧ r.2.sem = fun _ => 0)

def quiescent_InBwdOddIdeal [hInBwdOddIdeal : Cert.InBwdOddIdeal.Facts] : Prop :=
  ∀ (m : (ℓ : Loc Cert.InBwdOddIdeal.nD Cert.InBwdOddIdeal.τ Cert.InBwdOddIdeal.sig) → Buf (Elt Ideal) ℓ) (g : Dev Cert.InBwdOddIdeal.nD → PrngReg), Pre_InBwdOddIdeal m →
    θ_run (Cert.InBwdOddIdeal.defs (F := Ideal)) (onTc (τ := Cert.InBwdOddIdeal.τ) (Cert.InBwdOddIdeal.main (F := Ideal))) ⟨m, fun _ => 0, g⟩ (fun r => (∀ c : Dev Cert.InBwdOddIdeal.nD,
      r.2.mem ((c.tc : Thread Cert.InBwdOddIdeal.nD Cert.InBwdOddIdeal.τ).loc Cert.InBwdOddIdeal.main_arg0) = m ((c.tc : Thread Cert.InBwdOddIdeal.nD Cert.InBwdOddIdeal.τ).loc Cert.InBwdOddIdeal.main_arg0)
      ∧ r.2.mem ((c.tc : Thread Cert.InBwdOddIdeal.nD Cert.InBwdOddIdeal.τ).loc Cert.InBwdOddIdeal.main_arg1) = m ((c.tc : Thread Cert.InBwdOddIdeal.nD Cert.InBwdOddIdeal.τ).loc Cert.InBwdOddIdeal.main_arg1)
      ∧ r.2.mem ((c.tc : Thread Cert.InBwdOddIdeal.nD Cert.InBwdOddIdeal.τ).loc Cert.InBwdOddIdeal.main_arg2) = m ((c.tc : Thread Cert.InBwdOddIdeal.nD Cert.InBwdOddIdeal.τ).loc Cert.InBwdOddIdeal.main_arg2)
      ∧ r.2.mem ((c.tc : Thread Cert.InBwdOddIdeal.nD Cert.InBwdOddIdeal.τ).loc Cert.InBwdOddIdeal.main_arg3) = m ((c.tc : Thread Cert.InBwdOddIdeal.nD Cert.InBwdOddIdeal.τ).loc Cert.InBwdOddIdeal.main_arg3)
      ∧ r.2.mem ((c.tc : Thread Cert.InBwdOddIdeal.nD Cert.InBwdOddIdeal.τ).loc Cert.InBwdOddIdeal.main_arg4) = m ((c.tc : Thread Cert.InBwdOddIdeal.nD Cert.InBwdOddIdeal.τ).loc Cert.InBwdOddIdeal.main_arg4)
      ∧ r.2.mem ((c.tc : Thread Cert.InBwdOddIdeal.nD Cert.InBwdOddIdeal.τ).loc Cert.InBwdOddIdeal.main_arg5) = m ((c.tc : Thread Cert.InBwdOddIdeal.nD Cert.InBwdOddIdeal.τ).loc Cert.InBwdOddIdeal.main_arg5))
      ∧ r.2.sem = fun _ => 0)

def quiescent_InBwdOddRefIdeal [hInBwdOddRefIdeal : Cert.InBwdOddRefIdeal.Facts] : Prop :=
  ∀ (m : (ℓ : Loc Cert.InBwdOddRefIdeal.nD Cert.InBwdOddRefIdeal.τ Cert.InBwdOddRefIdeal.sig) → Buf (Elt Ideal) ℓ) (g : Dev Cert.InBwdOddRefIdeal.nD → PrngReg), Pre_InBwdOddRefIdeal m →
    θ_run (Cert.InBwdOddRefIdeal.defs (F := Ideal)) (onTc (τ := Cert.InBwdOddRefIdeal.τ) (Cert.InBwdOddRefIdeal.main (F := Ideal))) ⟨m, fun _ => 0, g⟩ (fun r => (∀ c : Dev Cert.InBwdOddRefIdeal.nD,
      r.2.mem ((c.tc : Thread Cert.InBwdOddRefIdeal.nD Cert.InBwdOddRefIdeal.τ).loc Cert.InBwdOddRefIdeal.main_arg0) = m ((c.tc : Thread Cert.InBwdOddRefIdeal.nD Cert.InBwdOddRefIdeal.τ).loc Cert.InBwdOddRefIdeal.main_arg0)
      ∧ r.2.mem ((c.tc : Thread Cert.InBwdOddRefIdeal.nD Cert.InBwdOddRefIdeal.τ).loc Cert.InBwdOddRefIdeal.main_arg1) = m ((c.tc : Thread Cert.InBwdOddRefIdeal.nD Cert.InBwdOddRefIdeal.τ).loc Cert.InBwdOddRefIdeal.main_arg1)
      ∧ r.2.mem ((c.tc : Thread Cert.InBwdOddRefIdeal.nD Cert.InBwdOddRefIdeal.τ).loc Cert.InBwdOddRefIdeal.main_arg2) = m ((c.tc : Thread Cert.InBwdOddRefIdeal.nD Cert.InBwdOddRefIdeal.τ).loc Cert.InBwdOddRefIdeal.main_arg2)
      ∧ r.2.mem ((c.tc : Thread Cert.InBwdOddRefIdeal.nD Cert.InBwdOddRefIdeal.τ).loc Cert.InBwdOddRefIdeal.main_arg3) = m ((c.tc : Thread Cert.InBwdOddRefIdeal.nD Cert.InBwdOddRefIdeal.τ).loc Cert.InBwdOddRefIdeal.main_arg3)
      ∧ r.2.mem ((c.tc : Thread Cert.InBwdOddRefIdeal.nD Cert.InBwdOddRefIdeal.τ).loc Cert.InBwdOddRefIdeal.main_arg4) = m ((c.tc : Thread Cert.InBwdOddRefIdeal.nD Cert.InBwdOddRefIdeal.τ).loc Cert.InBwdOddRefIdeal.main_arg4)
      ∧ r.2.mem ((c.tc : Thread Cert.InBwdOddRefIdeal.nD Cert.InBwdOddRefIdeal.τ).loc Cert.InBwdOddRefIdeal.main_arg5) = m ((c.tc : Thread Cert.InBwdOddRefIdeal.nD Cert.InBwdOddRefIdeal.τ).loc Cert.InBwdOddRefIdeal.main_arg5))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4)
      ∧ r.2.mem ((c.tc : Thread Cert.OutLn.nD Cert.OutLn.τ).loc Cert.OutLn.main_arg5) = m ((c.tc : Thread Cert.OutLn.nD Cert.OutLn.τ).loc Cert.OutLn.main_arg5))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
      ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4)
      ∧ r.2.mem ((c.tc : Thread Cert.OutLnRefIdeal.nD Cert.OutLnRefIdeal.τ).loc Cert.OutLnRefIdeal.main_arg5) = m ((c.tc : Thread Cert.OutLnRefIdeal.nD Cert.OutLnRefIdeal.τ).loc Cert.OutLnRefIdeal.main_arg5))
      ∧ r.2.sem = fun _ => 0)

def quiescent_DownLn [hDownLn : Cert.DownLn.Facts] : Prop :=
  ∀ (m : (ℓ : Loc Cert.DownLn.nD Cert.DownLn.τ Cert.DownLn.sig) → Buf (Elt Bits) ℓ) (g : Dev Cert.DownLn.nD → PrngReg), Pre_DownLn m →
    θ_run (Cert.DownLn.defs (F := Bits)) (onTc (τ := Cert.DownLn.τ) (Cert.DownLn.main (F := Bits))) ⟨m, fun _ => 0, g⟩ (fun r => (∀ c : Dev Cert.DownLn.nD,
      r.2.mem ((c.tc : Thread Cert.DownLn.nD Cert.DownLn.τ).loc Cert.DownLn.main_arg0) = m ((c.tc : Thread Cert.DownLn.nD Cert.DownLn.τ).loc Cert.DownLn.main_arg0)
      ∧ r.2.mem ((c.tc : Thread Cert.DownLn.nD Cert.DownLn.τ).loc Cert.DownLn.main_arg1) = m ((c.tc : Thread Cert.DownLn.nD Cert.DownLn.τ).loc Cert.DownLn.main_arg1)
      ∧ r.2.mem ((c.tc : Thread Cert.DownLn.nD Cert.DownLn.τ).loc Cert.DownLn.main_arg2) = m ((c.tc : Thread Cert.DownLn.nD Cert.DownLn.τ).loc Cert.DownLn.main_arg2)
      ∧ r.2.mem ((c.tc : Thread Cert.DownLn.nD Cert.DownLn.τ).loc Cert.DownLn.main_arg3) = m ((c.tc : Thread Cert.DownLn.nD Cert.DownLn.τ).loc Cert.DownLn.main_arg3)
      ∧ r.2.mem ((c.tc : Thread Cert.DownLn.nD Cert.DownLn.τ).loc Cert.DownLn.main_arg4) = m ((c.tc : Thread Cert.DownLn.nD Cert.DownLn.τ).loc Cert.DownLn.main_arg4))
      ∧ r.2.sem = fun _ => 0)

def quiescent_DownLnIdeal [hDownLnIdeal : Cert.DownLnIdeal.Facts] : Prop :=
  ∀ (m : (ℓ : Loc Cert.DownLnIdeal.nD Cert.DownLnIdeal.τ Cert.DownLnIdeal.sig) → Buf (Elt Ideal) ℓ) (g : Dev Cert.DownLnIdeal.nD → PrngReg), Pre_DownLnIdeal m →
    θ_run (Cert.DownLnIdeal.defs (F := Ideal)) (onTc (τ := Cert.DownLnIdeal.τ) (Cert.DownLnIdeal.main (F := Ideal))) ⟨m, fun _ => 0, g⟩ (fun r => (∀ c : Dev Cert.DownLnIdeal.nD,
      r.2.mem ((c.tc : Thread Cert.DownLnIdeal.nD Cert.DownLnIdeal.τ).loc Cert.DownLnIdeal.main_arg0) = m ((c.tc : Thread Cert.DownLnIdeal.nD Cert.DownLnIdeal.τ).loc Cert.DownLnIdeal.main_arg0)
      ∧ r.2.mem ((c.tc : Thread Cert.DownLnIdeal.nD Cert.DownLnIdeal.τ).loc Cert.DownLnIdeal.main_arg1) = m ((c.tc : Thread Cert.DownLnIdeal.nD Cert.DownLnIdeal.τ).loc Cert.DownLnIdeal.main_arg1)
      ∧ r.2.mem ((c.tc : Thread Cert.DownLnIdeal.nD Cert.DownLnIdeal.τ).loc Cert.DownLnIdeal.main_arg2) = m ((c.tc : Thread Cert.DownLnIdeal.nD Cert.DownLnIdeal.τ).loc Cert.DownLnIdeal.main_arg2)
      ∧ r.2.mem ((c.tc : Thread Cert.DownLnIdeal.nD Cert.DownLnIdeal.τ).loc Cert.DownLnIdeal.main_arg3) = m ((c.tc : Thread Cert.DownLnIdeal.nD Cert.DownLnIdeal.τ).loc Cert.DownLnIdeal.main_arg3)
      ∧ r.2.mem ((c.tc : Thread Cert.DownLnIdeal.nD Cert.DownLnIdeal.τ).loc Cert.DownLnIdeal.main_arg4) = m ((c.tc : Thread Cert.DownLnIdeal.nD Cert.DownLnIdeal.τ).loc Cert.DownLnIdeal.main_arg4))
      ∧ r.2.sem = fun _ => 0)

def quiescent_DownLnRefIdeal [hDownLnRefIdeal : Cert.DownLnRefIdeal.Facts] : Prop :=
  ∀ (m : (ℓ : Loc Cert.DownLnRefIdeal.nD Cert.DownLnRefIdeal.τ Cert.DownLnRefIdeal.sig) → Buf (Elt Ideal) ℓ) (g : Dev Cert.DownLnRefIdeal.nD → PrngReg), Pre_DownLnRefIdeal m →
    θ_run (Cert.DownLnRefIdeal.defs (F := Ideal)) (onTc (τ := Cert.DownLnRefIdeal.τ) (Cert.DownLnRefIdeal.main (F := Ideal))) ⟨m, fun _ => 0, g⟩ (fun r => (∀ c : Dev Cert.DownLnRefIdeal.nD,
      r.2.mem ((c.tc : Thread Cert.DownLnRefIdeal.nD Cert.DownLnRefIdeal.τ).loc Cert.DownLnRefIdeal.main_arg0) = m ((c.tc : Thread Cert.DownLnRefIdeal.nD Cert.DownLnRefIdeal.τ).loc Cert.DownLnRefIdeal.main_arg0)
      ∧ r.2.mem ((c.tc : Thread Cert.DownLnRefIdeal.nD Cert.DownLnRefIdeal.τ).loc Cert.DownLnRefIdeal.main_arg1) = m ((c.tc : Thread Cert.DownLnRefIdeal.nD Cert.DownLnRefIdeal.τ).loc Cert.DownLnRefIdeal.main_arg1)
      ∧ r.2.mem ((c.tc : Thread Cert.DownLnRefIdeal.nD Cert.DownLnRefIdeal.τ).loc Cert.DownLnRefIdeal.main_arg2) = m ((c.tc : Thread Cert.DownLnRefIdeal.nD Cert.DownLnRefIdeal.τ).loc Cert.DownLnRefIdeal.main_arg2)
      ∧ r.2.mem ((c.tc : Thread Cert.DownLnRefIdeal.nD Cert.DownLnRefIdeal.τ).loc Cert.DownLnRefIdeal.main_arg3) = m ((c.tc : Thread Cert.DownLnRefIdeal.nD Cert.DownLnRefIdeal.τ).loc Cert.DownLnRefIdeal.main_arg3)
      ∧ r.2.mem ((c.tc : Thread Cert.DownLnRefIdeal.nD Cert.DownLnRefIdeal.τ).loc Cert.DownLnRefIdeal.main_arg4) = m ((c.tc : Thread Cert.DownLnRefIdeal.nD Cert.DownLnRefIdeal.τ).loc Cert.DownLnRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_AdamEvIn [hAdamEvIn : Cert.AdamEvIn.Facts] : Prop :=
  ∀ (m : (ℓ : Loc Cert.AdamEvIn.nD Cert.AdamEvIn.τ Cert.AdamEvIn.sig) → Buf (Elt Bits) ℓ) (g : Dev Cert.AdamEvIn.nD → PrngReg), Pre_AdamEvIn m →
    θ_run (Cert.AdamEvIn.defs (F := Bits)) (onTc (τ := Cert.AdamEvIn.τ) (Cert.AdamEvIn.main (F := Bits))) ⟨m, fun _ => 0, g⟩ (fun r => (∀ c : Dev Cert.AdamEvIn.nD,
      r.2.mem ((c.tc : Thread Cert.AdamEvIn.nD Cert.AdamEvIn.τ).loc Cert.AdamEvIn.main_arg0) = m ((c.tc : Thread Cert.AdamEvIn.nD Cert.AdamEvIn.τ).loc Cert.AdamEvIn.main_arg0)
      ∧ r.2.mem ((c.tc : Thread Cert.AdamEvIn.nD Cert.AdamEvIn.τ).loc Cert.AdamEvIn.main_arg1) = m ((c.tc : Thread Cert.AdamEvIn.nD Cert.AdamEvIn.τ).loc Cert.AdamEvIn.main_arg1)
      ∧ r.2.mem ((c.tc : Thread Cert.AdamEvIn.nD Cert.AdamEvIn.τ).loc Cert.AdamEvIn.main_arg2) = m ((c.tc : Thread Cert.AdamEvIn.nD Cert.AdamEvIn.τ).loc Cert.AdamEvIn.main_arg2)
      ∧ r.2.mem ((c.tc : Thread Cert.AdamEvIn.nD Cert.AdamEvIn.τ).loc Cert.AdamEvIn.main_arg3) = m ((c.tc : Thread Cert.AdamEvIn.nD Cert.AdamEvIn.τ).loc Cert.AdamEvIn.main_arg3))
      ∧ r.2.sem = fun _ => 0)

def quiescent_AdamEvInIdeal [hAdamEvInIdeal : Cert.AdamEvInIdeal.Facts] : Prop :=
  ∀ (m : (ℓ : Loc Cert.AdamEvInIdeal.nD Cert.AdamEvInIdeal.τ Cert.AdamEvInIdeal.sig) → Buf (Elt Ideal) ℓ) (g : Dev Cert.AdamEvInIdeal.nD → PrngReg), Pre_AdamEvInIdeal m →
    θ_run (Cert.AdamEvInIdeal.defs (F := Ideal)) (onTc (τ := Cert.AdamEvInIdeal.τ) (Cert.AdamEvInIdeal.main (F := Ideal))) ⟨m, fun _ => 0, g⟩ (fun r => (∀ c : Dev Cert.AdamEvInIdeal.nD,
      r.2.mem ((c.tc : Thread Cert.AdamEvInIdeal.nD Cert.AdamEvInIdeal.τ).loc Cert.AdamEvInIdeal.main_arg0) = m ((c.tc : Thread Cert.AdamEvInIdeal.nD Cert.AdamEvInIdeal.τ).loc Cert.AdamEvInIdeal.main_arg0)
      ∧ r.2.mem ((c.tc : Thread Cert.AdamEvInIdeal.nD Cert.AdamEvInIdeal.τ).loc Cert.AdamEvInIdeal.main_arg1) = m ((c.tc : Thread Cert.AdamEvInIdeal.nD Cert.AdamEvInIdeal.τ).loc Cert.AdamEvInIdeal.main_arg1)
      ∧ r.2.mem ((c.tc : Thread Cert.AdamEvInIdeal.nD Cert.AdamEvInIdeal.τ).loc Cert.AdamEvInIdeal.main_arg2) = m ((c.tc : Thread Cert.AdamEvInIdeal.nD Cert.AdamEvInIdeal.τ).loc Cert.AdamEvInIdeal.main_arg2)
      ∧ r.2.mem ((c.tc : Thread Cert.AdamEvInIdeal.nD Cert.AdamEvInIdeal.τ).loc Cert.AdamEvInIdeal.main_arg3) = m ((c.tc : Thread Cert.AdamEvInIdeal.nD Cert.AdamEvInIdeal.τ).loc Cert.AdamEvInIdeal.main_arg3))
      ∧ r.2.sem = fun _ => 0)

def quiescent_AdamEvInRefIdeal [hAdamEvInRefIdeal : Cert.AdamEvInRefIdeal.Facts] : Prop :=
  ∀ (m : (ℓ : Loc Cert.AdamEvInRefIdeal.nD Cert.AdamEvInRefIdeal.τ Cert.AdamEvInRefIdeal.sig) → Buf (Elt Ideal) ℓ) (g : Dev Cert.AdamEvInRefIdeal.nD → PrngReg), Pre_AdamEvInRefIdeal m →
    θ_run (Cert.AdamEvInRefIdeal.defs (F := Ideal)) (onTc (τ := Cert.AdamEvInRefIdeal.τ) (Cert.AdamEvInRefIdeal.main (F := Ideal))) ⟨m, fun _ => 0, g⟩ (fun r => (∀ c : Dev Cert.AdamEvInRefIdeal.nD,
      r.2.mem ((c.tc : Thread Cert.AdamEvInRefIdeal.nD Cert.AdamEvInRefIdeal.τ).loc Cert.AdamEvInRefIdeal.main_arg0) = m ((c.tc : Thread Cert.AdamEvInRefIdeal.nD Cert.AdamEvInRefIdeal.τ).loc Cert.AdamEvInRefIdeal.main_arg0)
      ∧ r.2.mem ((c.tc : Thread Cert.AdamEvInRefIdeal.nD Cert.AdamEvInRefIdeal.τ).loc Cert.AdamEvInRefIdeal.main_arg1) = m ((c.tc : Thread Cert.AdamEvInRefIdeal.nD Cert.AdamEvInRefIdeal.τ).loc Cert.AdamEvInRefIdeal.main_arg1)
      ∧ r.2.mem ((c.tc : Thread Cert.AdamEvInRefIdeal.nD Cert.AdamEvInRefIdeal.τ).loc Cert.AdamEvInRefIdeal.main_arg2) = m ((c.tc : Thread Cert.AdamEvInRefIdeal.nD Cert.AdamEvInRefIdeal.τ).loc Cert.AdamEvInRefIdeal.main_arg2)
      ∧ r.2.mem ((c.tc : Thread Cert.AdamEvInRefIdeal.nD Cert.AdamEvInRefIdeal.τ).loc Cert.AdamEvInRefIdeal.main_arg3) = m ((c.tc : Thread Cert.AdamEvInRefIdeal.nD Cert.AdamEvInRefIdeal.τ).loc Cert.AdamEvInRefIdeal.main_arg3))
      ∧ r.2.sem = fun _ => 0)

def quiescent_AdamEvGlu [hAdamEvGlu : Cert.AdamEvGlu.Facts] : Prop :=
  ∀ (m : (ℓ : Loc Cert.AdamEvGlu.nD Cert.AdamEvGlu.τ Cert.AdamEvGlu.sig) → Buf (Elt Bits) ℓ) (g : Dev Cert.AdamEvGlu.nD → PrngReg), Pre_AdamEvGlu m →
    θ_run (Cert.AdamEvGlu.defs (F := Bits)) (onTc (τ := Cert.AdamEvGlu.τ) (Cert.AdamEvGlu.main (F := Bits))) ⟨m, fun _ => 0, g⟩ (fun r => (∀ c : Dev Cert.AdamEvGlu.nD,
      r.2.mem ((c.tc : Thread Cert.AdamEvGlu.nD Cert.AdamEvGlu.τ).loc Cert.AdamEvGlu.main_arg0) = m ((c.tc : Thread Cert.AdamEvGlu.nD Cert.AdamEvGlu.τ).loc Cert.AdamEvGlu.main_arg0)
      ∧ r.2.mem ((c.tc : Thread Cert.AdamEvGlu.nD Cert.AdamEvGlu.τ).loc Cert.AdamEvGlu.main_arg1) = m ((c.tc : Thread Cert.AdamEvGlu.nD Cert.AdamEvGlu.τ).loc Cert.AdamEvGlu.main_arg1)
      ∧ r.2.mem ((c.tc : Thread Cert.AdamEvGlu.nD Cert.AdamEvGlu.τ).loc Cert.AdamEvGlu.main_arg2) = m ((c.tc : Thread Cert.AdamEvGlu.nD Cert.AdamEvGlu.τ).loc Cert.AdamEvGlu.main_arg2)
      ∧ r.2.mem ((c.tc : Thread Cert.AdamEvGlu.nD Cert.AdamEvGlu.τ).loc Cert.AdamEvGlu.main_arg3) = m ((c.tc : Thread Cert.AdamEvGlu.nD Cert.AdamEvGlu.τ).loc Cert.AdamEvGlu.main_arg3))
      ∧ r.2.sem = fun _ => 0)

def quiescent_AdamEvGluIdeal [hAdamEvGluIdeal : Cert.AdamEvGluIdeal.Facts] : Prop :=
  ∀ (m : (ℓ : Loc Cert.AdamEvGluIdeal.nD Cert.AdamEvGluIdeal.τ Cert.AdamEvGluIdeal.sig) → Buf (Elt Ideal) ℓ) (g : Dev Cert.AdamEvGluIdeal.nD → PrngReg), Pre_AdamEvGluIdeal m →
    θ_run (Cert.AdamEvGluIdeal.defs (F := Ideal)) (onTc (τ := Cert.AdamEvGluIdeal.τ) (Cert.AdamEvGluIdeal.main (F := Ideal))) ⟨m, fun _ => 0, g⟩ (fun r => (∀ c : Dev Cert.AdamEvGluIdeal.nD,
      r.2.mem ((c.tc : Thread Cert.AdamEvGluIdeal.nD Cert.AdamEvGluIdeal.τ).loc Cert.AdamEvGluIdeal.main_arg0) = m ((c.tc : Thread Cert.AdamEvGluIdeal.nD Cert.AdamEvGluIdeal.τ).loc Cert.AdamEvGluIdeal.main_arg0)
      ∧ r.2.mem ((c.tc : Thread Cert.AdamEvGluIdeal.nD Cert.AdamEvGluIdeal.τ).loc Cert.AdamEvGluIdeal.main_arg1) = m ((c.tc : Thread Cert.AdamEvGluIdeal.nD Cert.AdamEvGluIdeal.τ).loc Cert.AdamEvGluIdeal.main_arg1)
      ∧ r.2.mem ((c.tc : Thread Cert.AdamEvGluIdeal.nD Cert.AdamEvGluIdeal.τ).loc Cert.AdamEvGluIdeal.main_arg2) = m ((c.tc : Thread Cert.AdamEvGluIdeal.nD Cert.AdamEvGluIdeal.τ).loc Cert.AdamEvGluIdeal.main_arg2)
      ∧ r.2.mem ((c.tc : Thread Cert.AdamEvGluIdeal.nD Cert.AdamEvGluIdeal.τ).loc Cert.AdamEvGluIdeal.main_arg3) = m ((c.tc : Thread Cert.AdamEvGluIdeal.nD Cert.AdamEvGluIdeal.τ).loc Cert.AdamEvGluIdeal.main_arg3))
      ∧ r.2.sem = fun _ => 0)

def quiescent_AdamEvGluRefIdeal [hAdamEvGluRefIdeal : Cert.AdamEvGluRefIdeal.Facts] : Prop :=
  ∀ (m : (ℓ : Loc Cert.AdamEvGluRefIdeal.nD Cert.AdamEvGluRefIdeal.τ Cert.AdamEvGluRefIdeal.sig) → Buf (Elt Ideal) ℓ) (g : Dev Cert.AdamEvGluRefIdeal.nD → PrngReg), Pre_AdamEvGluRefIdeal m →
    θ_run (Cert.AdamEvGluRefIdeal.defs (F := Ideal)) (onTc (τ := Cert.AdamEvGluRefIdeal.τ) (Cert.AdamEvGluRefIdeal.main (F := Ideal))) ⟨m, fun _ => 0, g⟩ (fun r => (∀ c : Dev Cert.AdamEvGluRefIdeal.nD,
      r.2.mem ((c.tc : Thread Cert.AdamEvGluRefIdeal.nD Cert.AdamEvGluRefIdeal.τ).loc Cert.AdamEvGluRefIdeal.main_arg0) = m ((c.tc : Thread Cert.AdamEvGluRefIdeal.nD Cert.AdamEvGluRefIdeal.τ).loc Cert.AdamEvGluRefIdeal.main_arg0)
      ∧ r.2.mem ((c.tc : Thread Cert.AdamEvGluRefIdeal.nD Cert.AdamEvGluRefIdeal.τ).loc Cert.AdamEvGluRefIdeal.main_arg1) = m ((c.tc : Thread Cert.AdamEvGluRefIdeal.nD Cert.AdamEvGluRefIdeal.τ).loc Cert.AdamEvGluRefIdeal.main_arg1)
      ∧ r.2.mem ((c.tc : Thread Cert.AdamEvGluRefIdeal.nD Cert.AdamEvGluRefIdeal.τ).loc Cert.AdamEvGluRefIdeal.main_arg2) = m ((c.tc : Thread Cert.AdamEvGluRefIdeal.nD Cert.AdamEvGluRefIdeal.τ).loc Cert.AdamEvGluRefIdeal.main_arg2)
      ∧ r.2.mem ((c.tc : Thread Cert.AdamEvGluRefIdeal.nD Cert.AdamEvGluRefIdeal.τ).loc Cert.AdamEvGluRefIdeal.main_arg3) = m ((c.tc : Thread Cert.AdamEvGluRefIdeal.nD Cert.AdamEvGluRefIdeal.τ).loc Cert.AdamEvGluRefIdeal.main_arg3))
      ∧ r.2.sem = fun _ => 0)

def quiescent_AdamEvOut [hAdamEvOut : Cert.AdamEvOut.Facts] : Prop :=
  ∀ (m : (ℓ : Loc Cert.AdamEvOut.nD Cert.AdamEvOut.τ Cert.AdamEvOut.sig) → Buf (Elt Bits) ℓ) (g : Dev Cert.AdamEvOut.nD → PrngReg), Pre_AdamEvOut m →
    θ_run (Cert.AdamEvOut.defs (F := Bits)) (onTc (τ := Cert.AdamEvOut.τ) (Cert.AdamEvOut.main (F := Bits))) ⟨m, fun _ => 0, g⟩ (fun r => (∀ c : Dev Cert.AdamEvOut.nD,
      r.2.mem ((c.tc : Thread Cert.AdamEvOut.nD Cert.AdamEvOut.τ).loc Cert.AdamEvOut.main_arg0) = m ((c.tc : Thread Cert.AdamEvOut.nD Cert.AdamEvOut.τ).loc Cert.AdamEvOut.main_arg0)
      ∧ r.2.mem ((c.tc : Thread Cert.AdamEvOut.nD Cert.AdamEvOut.τ).loc Cert.AdamEvOut.main_arg1) = m ((c.tc : Thread Cert.AdamEvOut.nD Cert.AdamEvOut.τ).loc Cert.AdamEvOut.main_arg1)
      ∧ r.2.mem ((c.tc : Thread Cert.AdamEvOut.nD Cert.AdamEvOut.τ).loc Cert.AdamEvOut.main_arg2) = m ((c.tc : Thread Cert.AdamEvOut.nD Cert.AdamEvOut.τ).loc Cert.AdamEvOut.main_arg2)
      ∧ r.2.mem ((c.tc : Thread Cert.AdamEvOut.nD Cert.AdamEvOut.τ).loc Cert.AdamEvOut.main_arg3) = m ((c.tc : Thread Cert.AdamEvOut.nD Cert.AdamEvOut.τ).loc Cert.AdamEvOut.main_arg3))
      ∧ r.2.sem = fun _ => 0)

def quiescent_AdamEvOutIdeal [hAdamEvOutIdeal : Cert.AdamEvOutIdeal.Facts] : Prop :=
  ∀ (m : (ℓ : Loc Cert.AdamEvOutIdeal.nD Cert.AdamEvOutIdeal.τ Cert.AdamEvOutIdeal.sig) → Buf (Elt Ideal) ℓ) (g : Dev Cert.AdamEvOutIdeal.nD → PrngReg), Pre_AdamEvOutIdeal m →
    θ_run (Cert.AdamEvOutIdeal.defs (F := Ideal)) (onTc (τ := Cert.AdamEvOutIdeal.τ) (Cert.AdamEvOutIdeal.main (F := Ideal))) ⟨m, fun _ => 0, g⟩ (fun r => (∀ c : Dev Cert.AdamEvOutIdeal.nD,
      r.2.mem ((c.tc : Thread Cert.AdamEvOutIdeal.nD Cert.AdamEvOutIdeal.τ).loc Cert.AdamEvOutIdeal.main_arg0) = m ((c.tc : Thread Cert.AdamEvOutIdeal.nD Cert.AdamEvOutIdeal.τ).loc Cert.AdamEvOutIdeal.main_arg0)
      ∧ r.2.mem ((c.tc : Thread Cert.AdamEvOutIdeal.nD Cert.AdamEvOutIdeal.τ).loc Cert.AdamEvOutIdeal.main_arg1) = m ((c.tc : Thread Cert.AdamEvOutIdeal.nD Cert.AdamEvOutIdeal.τ).loc Cert.AdamEvOutIdeal.main_arg1)
      ∧ r.2.mem ((c.tc : Thread Cert.AdamEvOutIdeal.nD Cert.AdamEvOutIdeal.τ).loc Cert.AdamEvOutIdeal.main_arg2) = m ((c.tc : Thread Cert.AdamEvOutIdeal.nD Cert.AdamEvOutIdeal.τ).loc Cert.AdamEvOutIdeal.main_arg2)
      ∧ r.2.mem ((c.tc : Thread Cert.AdamEvOutIdeal.nD Cert.AdamEvOutIdeal.τ).loc Cert.AdamEvOutIdeal.main_arg3) = m ((c.tc : Thread Cert.AdamEvOutIdeal.nD Cert.AdamEvOutIdeal.τ).loc Cert.AdamEvOutIdeal.main_arg3))
      ∧ r.2.sem = fun _ => 0)

def quiescent_AdamEvOutRefIdeal [hAdamEvOutRefIdeal : Cert.AdamEvOutRefIdeal.Facts] : Prop :=
  ∀ (m : (ℓ : Loc Cert.AdamEvOutRefIdeal.nD Cert.AdamEvOutRefIdeal.τ Cert.AdamEvOutRefIdeal.sig) → Buf (Elt Ideal) ℓ) (g : Dev Cert.AdamEvOutRefIdeal.nD → PrngReg), Pre_AdamEvOutRefIdeal m →
    θ_run (Cert.AdamEvOutRefIdeal.defs (F := Ideal)) (onTc (τ := Cert.AdamEvOutRefIdeal.τ) (Cert.AdamEvOutRefIdeal.main (F := Ideal))) ⟨m, fun _ => 0, g⟩ (fun r => (∀ c : Dev Cert.AdamEvOutRefIdeal.nD,
      r.2.mem ((c.tc : Thread Cert.AdamEvOutRefIdeal.nD Cert.AdamEvOutRefIdeal.τ).loc Cert.AdamEvOutRefIdeal.main_arg0) = m ((c.tc : Thread Cert.AdamEvOutRefIdeal.nD Cert.AdamEvOutRefIdeal.τ).loc Cert.AdamEvOutRefIdeal.main_arg0)
      ∧ r.2.mem ((c.tc : Thread Cert.AdamEvOutRefIdeal.nD Cert.AdamEvOutRefIdeal.τ).loc Cert.AdamEvOutRefIdeal.main_arg1) = m ((c.tc : Thread Cert.AdamEvOutRefIdeal.nD Cert.AdamEvOutRefIdeal.τ).loc Cert.AdamEvOutRefIdeal.main_arg1)
      ∧ r.2.mem ((c.tc : Thread Cert.AdamEvOutRefIdeal.nD Cert.AdamEvOutRefIdeal.τ).loc Cert.AdamEvOutRefIdeal.main_arg2) = m ((c.tc : Thread Cert.AdamEvOutRefIdeal.nD Cert.AdamEvOutRefIdeal.τ).loc Cert.AdamEvOutRefIdeal.main_arg2)
      ∧ r.2.mem ((c.tc : Thread Cert.AdamEvOutRefIdeal.nD Cert.AdamEvOutRefIdeal.τ).loc Cert.AdamEvOutRefIdeal.main_arg3) = m ((c.tc : Thread Cert.AdamEvOutRefIdeal.nD Cert.AdamEvOutRefIdeal.τ).loc Cert.AdamEvOutRefIdeal.main_arg3))
      ∧ r.2.sem = fun _ => 0)

def quiescent_AdamOdIn [hAdamOdIn : Cert.AdamOdIn.Facts] : Prop :=
  ∀ (m : (ℓ : Loc Cert.AdamOdIn.nD Cert.AdamOdIn.τ Cert.AdamOdIn.sig) → Buf (Elt Bits) ℓ) (g : Dev Cert.AdamOdIn.nD → PrngReg), Pre_AdamOdIn m →
    θ_run (Cert.AdamOdIn.defs (F := Bits)) (onTc (τ := Cert.AdamOdIn.τ) (Cert.AdamOdIn.main (F := Bits))) ⟨m, fun _ => 0, g⟩ (fun r => (∀ c : Dev Cert.AdamOdIn.nD,
      r.2.mem ((c.tc : Thread Cert.AdamOdIn.nD Cert.AdamOdIn.τ).loc Cert.AdamOdIn.main_arg0) = m ((c.tc : Thread Cert.AdamOdIn.nD Cert.AdamOdIn.τ).loc Cert.AdamOdIn.main_arg0)
      ∧ r.2.mem ((c.tc : Thread Cert.AdamOdIn.nD Cert.AdamOdIn.τ).loc Cert.AdamOdIn.main_arg1) = m ((c.tc : Thread Cert.AdamOdIn.nD Cert.AdamOdIn.τ).loc Cert.AdamOdIn.main_arg1)
      ∧ r.2.mem ((c.tc : Thread Cert.AdamOdIn.nD Cert.AdamOdIn.τ).loc Cert.AdamOdIn.main_arg2) = m ((c.tc : Thread Cert.AdamOdIn.nD Cert.AdamOdIn.τ).loc Cert.AdamOdIn.main_arg2)
      ∧ r.2.mem ((c.tc : Thread Cert.AdamOdIn.nD Cert.AdamOdIn.τ).loc Cert.AdamOdIn.main_arg3) = m ((c.tc : Thread Cert.AdamOdIn.nD Cert.AdamOdIn.τ).loc Cert.AdamOdIn.main_arg3))
      ∧ r.2.sem = fun _ => 0)

def quiescent_AdamOdInIdeal [hAdamOdInIdeal : Cert.AdamOdInIdeal.Facts] : Prop :=
  ∀ (m : (ℓ : Loc Cert.AdamOdInIdeal.nD Cert.AdamOdInIdeal.τ Cert.AdamOdInIdeal.sig) → Buf (Elt Ideal) ℓ) (g : Dev Cert.AdamOdInIdeal.nD → PrngReg), Pre_AdamOdInIdeal m →
    θ_run (Cert.AdamOdInIdeal.defs (F := Ideal)) (onTc (τ := Cert.AdamOdInIdeal.τ) (Cert.AdamOdInIdeal.main (F := Ideal))) ⟨m, fun _ => 0, g⟩ (fun r => (∀ c : Dev Cert.AdamOdInIdeal.nD,
      r.2.mem ((c.tc : Thread Cert.AdamOdInIdeal.nD Cert.AdamOdInIdeal.τ).loc Cert.AdamOdInIdeal.main_arg0) = m ((c.tc : Thread Cert.AdamOdInIdeal.nD Cert.AdamOdInIdeal.τ).loc Cert.AdamOdInIdeal.main_arg0)
      ∧ r.2.mem ((c.tc : Thread Cert.AdamOdInIdeal.nD Cert.AdamOdInIdeal.τ).loc Cert.AdamOdInIdeal.main_arg1) = m ((c.tc : Thread Cert.AdamOdInIdeal.nD Cert.AdamOdInIdeal.τ).loc Cert.AdamOdInIdeal.main_arg1)
      ∧ r.2.mem ((c.tc : Thread Cert.AdamOdInIdeal.nD Cert.AdamOdInIdeal.τ).loc Cert.AdamOdInIdeal.main_arg2) = m ((c.tc : Thread Cert.AdamOdInIdeal.nD Cert.AdamOdInIdeal.τ).loc Cert.AdamOdInIdeal.main_arg2)
      ∧ r.2.mem ((c.tc : Thread Cert.AdamOdInIdeal.nD Cert.AdamOdInIdeal.τ).loc Cert.AdamOdInIdeal.main_arg3) = m ((c.tc : Thread Cert.AdamOdInIdeal.nD Cert.AdamOdInIdeal.τ).loc Cert.AdamOdInIdeal.main_arg3))
      ∧ r.2.sem = fun _ => 0)

def quiescent_AdamOdInRefIdeal [hAdamOdInRefIdeal : Cert.AdamOdInRefIdeal.Facts] : Prop :=
  ∀ (m : (ℓ : Loc Cert.AdamOdInRefIdeal.nD Cert.AdamOdInRefIdeal.τ Cert.AdamOdInRefIdeal.sig) → Buf (Elt Ideal) ℓ) (g : Dev Cert.AdamOdInRefIdeal.nD → PrngReg), Pre_AdamOdInRefIdeal m →
    θ_run (Cert.AdamOdInRefIdeal.defs (F := Ideal)) (onTc (τ := Cert.AdamOdInRefIdeal.τ) (Cert.AdamOdInRefIdeal.main (F := Ideal))) ⟨m, fun _ => 0, g⟩ (fun r => (∀ c : Dev Cert.AdamOdInRefIdeal.nD,
      r.2.mem ((c.tc : Thread Cert.AdamOdInRefIdeal.nD Cert.AdamOdInRefIdeal.τ).loc Cert.AdamOdInRefIdeal.main_arg0) = m ((c.tc : Thread Cert.AdamOdInRefIdeal.nD Cert.AdamOdInRefIdeal.τ).loc Cert.AdamOdInRefIdeal.main_arg0)
      ∧ r.2.mem ((c.tc : Thread Cert.AdamOdInRefIdeal.nD Cert.AdamOdInRefIdeal.τ).loc Cert.AdamOdInRefIdeal.main_arg1) = m ((c.tc : Thread Cert.AdamOdInRefIdeal.nD Cert.AdamOdInRefIdeal.τ).loc Cert.AdamOdInRefIdeal.main_arg1)
      ∧ r.2.mem ((c.tc : Thread Cert.AdamOdInRefIdeal.nD Cert.AdamOdInRefIdeal.τ).loc Cert.AdamOdInRefIdeal.main_arg2) = m ((c.tc : Thread Cert.AdamOdInRefIdeal.nD Cert.AdamOdInRefIdeal.τ).loc Cert.AdamOdInRefIdeal.main_arg2)
      ∧ r.2.mem ((c.tc : Thread Cert.AdamOdInRefIdeal.nD Cert.AdamOdInRefIdeal.τ).loc Cert.AdamOdInRefIdeal.main_arg3) = m ((c.tc : Thread Cert.AdamOdInRefIdeal.nD Cert.AdamOdInRefIdeal.τ).loc Cert.AdamOdInRefIdeal.main_arg3))
      ∧ r.2.sem = fun _ => 0)

def quiescent_AdamOdOut [hAdamOdOut : Cert.AdamOdOut.Facts] : Prop :=
  ∀ (m : (ℓ : Loc Cert.AdamOdOut.nD Cert.AdamOdOut.τ Cert.AdamOdOut.sig) → Buf (Elt Bits) ℓ) (g : Dev Cert.AdamOdOut.nD → PrngReg), Pre_AdamOdOut m →
    θ_run (Cert.AdamOdOut.defs (F := Bits)) (onTc (τ := Cert.AdamOdOut.τ) (Cert.AdamOdOut.main (F := Bits))) ⟨m, fun _ => 0, g⟩ (fun r => (∀ c : Dev Cert.AdamOdOut.nD,
      r.2.mem ((c.tc : Thread Cert.AdamOdOut.nD Cert.AdamOdOut.τ).loc Cert.AdamOdOut.main_arg0) = m ((c.tc : Thread Cert.AdamOdOut.nD Cert.AdamOdOut.τ).loc Cert.AdamOdOut.main_arg0)
      ∧ r.2.mem ((c.tc : Thread Cert.AdamOdOut.nD Cert.AdamOdOut.τ).loc Cert.AdamOdOut.main_arg1) = m ((c.tc : Thread Cert.AdamOdOut.nD Cert.AdamOdOut.τ).loc Cert.AdamOdOut.main_arg1)
      ∧ r.2.mem ((c.tc : Thread Cert.AdamOdOut.nD Cert.AdamOdOut.τ).loc Cert.AdamOdOut.main_arg2) = m ((c.tc : Thread Cert.AdamOdOut.nD Cert.AdamOdOut.τ).loc Cert.AdamOdOut.main_arg2)
      ∧ r.2.mem ((c.tc : Thread Cert.AdamOdOut.nD Cert.AdamOdOut.τ).loc Cert.AdamOdOut.main_arg3) = m ((c.tc : Thread Cert.AdamOdOut.nD Cert.AdamOdOut.τ).loc Cert.AdamOdOut.main_arg3))
      ∧ r.2.sem = fun _ => 0)

def quiescent_AdamOdOutIdeal [hAdamOdOutIdeal : Cert.AdamOdOutIdeal.Facts] : Prop :=
  ∀ (m : (ℓ : Loc Cert.AdamOdOutIdeal.nD Cert.AdamOdOutIdeal.τ Cert.AdamOdOutIdeal.sig) → Buf (Elt Ideal) ℓ) (g : Dev Cert.AdamOdOutIdeal.nD → PrngReg), Pre_AdamOdOutIdeal m →
    θ_run (Cert.AdamOdOutIdeal.defs (F := Ideal)) (onTc (τ := Cert.AdamOdOutIdeal.τ) (Cert.AdamOdOutIdeal.main (F := Ideal))) ⟨m, fun _ => 0, g⟩ (fun r => (∀ c : Dev Cert.AdamOdOutIdeal.nD,
      r.2.mem ((c.tc : Thread Cert.AdamOdOutIdeal.nD Cert.AdamOdOutIdeal.τ).loc Cert.AdamOdOutIdeal.main_arg0) = m ((c.tc : Thread Cert.AdamOdOutIdeal.nD Cert.AdamOdOutIdeal.τ).loc Cert.AdamOdOutIdeal.main_arg0)
      ∧ r.2.mem ((c.tc : Thread Cert.AdamOdOutIdeal.nD Cert.AdamOdOutIdeal.τ).loc Cert.AdamOdOutIdeal.main_arg1) = m ((c.tc : Thread Cert.AdamOdOutIdeal.nD Cert.AdamOdOutIdeal.τ).loc Cert.AdamOdOutIdeal.main_arg1)
      ∧ r.2.mem ((c.tc : Thread Cert.AdamOdOutIdeal.nD Cert.AdamOdOutIdeal.τ).loc Cert.AdamOdOutIdeal.main_arg2) = m ((c.tc : Thread Cert.AdamOdOutIdeal.nD Cert.AdamOdOutIdeal.τ).loc Cert.AdamOdOutIdeal.main_arg2)
      ∧ r.2.mem ((c.tc : Thread Cert.AdamOdOutIdeal.nD Cert.AdamOdOutIdeal.τ).loc Cert.AdamOdOutIdeal.main_arg3) = m ((c.tc : Thread Cert.AdamOdOutIdeal.nD Cert.AdamOdOutIdeal.τ).loc Cert.AdamOdOutIdeal.main_arg3))
      ∧ r.2.sem = fun _ => 0)

def quiescent_AdamOdOutRefIdeal [hAdamOdOutRefIdeal : Cert.AdamOdOutRefIdeal.Facts] : Prop :=
  ∀ (m : (ℓ : Loc Cert.AdamOdOutRefIdeal.nD Cert.AdamOdOutRefIdeal.τ Cert.AdamOdOutRefIdeal.sig) → Buf (Elt Ideal) ℓ) (g : Dev Cert.AdamOdOutRefIdeal.nD → PrngReg), Pre_AdamOdOutRefIdeal m →
    θ_run (Cert.AdamOdOutRefIdeal.defs (F := Ideal)) (onTc (τ := Cert.AdamOdOutRefIdeal.τ) (Cert.AdamOdOutRefIdeal.main (F := Ideal))) ⟨m, fun _ => 0, g⟩ (fun r => (∀ c : Dev Cert.AdamOdOutRefIdeal.nD,
      r.2.mem ((c.tc : Thread Cert.AdamOdOutRefIdeal.nD Cert.AdamOdOutRefIdeal.τ).loc Cert.AdamOdOutRefIdeal.main_arg0) = m ((c.tc : Thread Cert.AdamOdOutRefIdeal.nD Cert.AdamOdOutRefIdeal.τ).loc Cert.AdamOdOutRefIdeal.main_arg0)
      ∧ r.2.mem ((c.tc : Thread Cert.AdamOdOutRefIdeal.nD Cert.AdamOdOutRefIdeal.τ).loc Cert.AdamOdOutRefIdeal.main_arg1) = m ((c.tc : Thread Cert.AdamOdOutRefIdeal.nD Cert.AdamOdOutRefIdeal.τ).loc Cert.AdamOdOutRefIdeal.main_arg1)
      ∧ r.2.mem ((c.tc : Thread Cert.AdamOdOutRefIdeal.nD Cert.AdamOdOutRefIdeal.τ).loc Cert.AdamOdOutRefIdeal.main_arg2) = m ((c.tc : Thread Cert.AdamOdOutRefIdeal.nD Cert.AdamOdOutRefIdeal.τ).loc Cert.AdamOdOutRefIdeal.main_arg2)
      ∧ r.2.mem ((c.tc : Thread Cert.AdamOdOutRefIdeal.nD Cert.AdamOdOutRefIdeal.τ).loc Cert.AdamOdOutRefIdeal.main_arg3) = m ((c.tc : Thread Cert.AdamOdOutRefIdeal.nD Cert.AdamOdOutRefIdeal.τ).loc Cert.AdamOdOutRefIdeal.main_arg3))
      ∧ r.2.sem = fun _ => 0)

def quiescent_AdamFfnUp [hAdamFfnUp : Cert.AdamFfnUp.Facts] : Prop :=
  ∀ (m : (ℓ : Loc Cert.AdamFfnUp.nD Cert.AdamFfnUp.τ Cert.AdamFfnUp.sig) → Buf (Elt Bits) ℓ) (g : Dev Cert.AdamFfnUp.nD → PrngReg), Pre_AdamFfnUp m →
    θ_run (Cert.AdamFfnUp.defs (F := Bits)) (onTc (τ := Cert.AdamFfnUp.τ) (Cert.AdamFfnUp.main (F := Bits))) ⟨m, fun _ => 0, g⟩ (fun r => (∀ c : Dev Cert.AdamFfnUp.nD,
      r.2.mem ((c.tc : Thread Cert.AdamFfnUp.nD Cert.AdamFfnUp.τ).loc Cert.AdamFfnUp.main_arg0) = m ((c.tc : Thread Cert.AdamFfnUp.nD Cert.AdamFfnUp.τ).loc Cert.AdamFfnUp.main_arg0)
      ∧ r.2.mem ((c.tc : Thread Cert.AdamFfnUp.nD Cert.AdamFfnUp.τ).loc Cert.AdamFfnUp.main_arg1) = m ((c.tc : Thread Cert.AdamFfnUp.nD Cert.AdamFfnUp.τ).loc Cert.AdamFfnUp.main_arg1)
      ∧ r.2.mem ((c.tc : Thread Cert.AdamFfnUp.nD Cert.AdamFfnUp.τ).loc Cert.AdamFfnUp.main_arg2) = m ((c.tc : Thread Cert.AdamFfnUp.nD Cert.AdamFfnUp.τ).loc Cert.AdamFfnUp.main_arg2)
      ∧ r.2.mem ((c.tc : Thread Cert.AdamFfnUp.nD Cert.AdamFfnUp.τ).loc Cert.AdamFfnUp.main_arg3) = m ((c.tc : Thread Cert.AdamFfnUp.nD Cert.AdamFfnUp.τ).loc Cert.AdamFfnUp.main_arg3))
      ∧ r.2.sem = fun _ => 0)

def quiescent_AdamFfnUpIdeal [hAdamFfnUpIdeal : Cert.AdamFfnUpIdeal.Facts] : Prop :=
  ∀ (m : (ℓ : Loc Cert.AdamFfnUpIdeal.nD Cert.AdamFfnUpIdeal.τ Cert.AdamFfnUpIdeal.sig) → Buf (Elt Ideal) ℓ) (g : Dev Cert.AdamFfnUpIdeal.nD → PrngReg), Pre_AdamFfnUpIdeal m →
    θ_run (Cert.AdamFfnUpIdeal.defs (F := Ideal)) (onTc (τ := Cert.AdamFfnUpIdeal.τ) (Cert.AdamFfnUpIdeal.main (F := Ideal))) ⟨m, fun _ => 0, g⟩ (fun r => (∀ c : Dev Cert.AdamFfnUpIdeal.nD,
      r.2.mem ((c.tc : Thread Cert.AdamFfnUpIdeal.nD Cert.AdamFfnUpIdeal.τ).loc Cert.AdamFfnUpIdeal.main_arg0) = m ((c.tc : Thread Cert.AdamFfnUpIdeal.nD Cert.AdamFfnUpIdeal.τ).loc Cert.AdamFfnUpIdeal.main_arg0)
      ∧ r.2.mem ((c.tc : Thread Cert.AdamFfnUpIdeal.nD Cert.AdamFfnUpIdeal.τ).loc Cert.AdamFfnUpIdeal.main_arg1) = m ((c.tc : Thread Cert.AdamFfnUpIdeal.nD Cert.AdamFfnUpIdeal.τ).loc Cert.AdamFfnUpIdeal.main_arg1)
      ∧ r.2.mem ((c.tc : Thread Cert.AdamFfnUpIdeal.nD Cert.AdamFfnUpIdeal.τ).loc Cert.AdamFfnUpIdeal.main_arg2) = m ((c.tc : Thread Cert.AdamFfnUpIdeal.nD Cert.AdamFfnUpIdeal.τ).loc Cert.AdamFfnUpIdeal.main_arg2)
      ∧ r.2.mem ((c.tc : Thread Cert.AdamFfnUpIdeal.nD Cert.AdamFfnUpIdeal.τ).loc Cert.AdamFfnUpIdeal.main_arg3) = m ((c.tc : Thread Cert.AdamFfnUpIdeal.nD Cert.AdamFfnUpIdeal.τ).loc Cert.AdamFfnUpIdeal.main_arg3))
      ∧ r.2.sem = fun _ => 0)

def quiescent_AdamFfnUpRefIdeal [hAdamFfnUpRefIdeal : Cert.AdamFfnUpRefIdeal.Facts] : Prop :=
  ∀ (m : (ℓ : Loc Cert.AdamFfnUpRefIdeal.nD Cert.AdamFfnUpRefIdeal.τ Cert.AdamFfnUpRefIdeal.sig) → Buf (Elt Ideal) ℓ) (g : Dev Cert.AdamFfnUpRefIdeal.nD → PrngReg), Pre_AdamFfnUpRefIdeal m →
    θ_run (Cert.AdamFfnUpRefIdeal.defs (F := Ideal)) (onTc (τ := Cert.AdamFfnUpRefIdeal.τ) (Cert.AdamFfnUpRefIdeal.main (F := Ideal))) ⟨m, fun _ => 0, g⟩ (fun r => (∀ c : Dev Cert.AdamFfnUpRefIdeal.nD,
      r.2.mem ((c.tc : Thread Cert.AdamFfnUpRefIdeal.nD Cert.AdamFfnUpRefIdeal.τ).loc Cert.AdamFfnUpRefIdeal.main_arg0) = m ((c.tc : Thread Cert.AdamFfnUpRefIdeal.nD Cert.AdamFfnUpRefIdeal.τ).loc Cert.AdamFfnUpRefIdeal.main_arg0)
      ∧ r.2.mem ((c.tc : Thread Cert.AdamFfnUpRefIdeal.nD Cert.AdamFfnUpRefIdeal.τ).loc Cert.AdamFfnUpRefIdeal.main_arg1) = m ((c.tc : Thread Cert.AdamFfnUpRefIdeal.nD Cert.AdamFfnUpRefIdeal.τ).loc Cert.AdamFfnUpRefIdeal.main_arg1)
      ∧ r.2.mem ((c.tc : Thread Cert.AdamFfnUpRefIdeal.nD Cert.AdamFfnUpRefIdeal.τ).loc Cert.AdamFfnUpRefIdeal.main_arg2) = m ((c.tc : Thread Cert.AdamFfnUpRefIdeal.nD Cert.AdamFfnUpRefIdeal.τ).loc Cert.AdamFfnUpRefIdeal.main_arg2)
      ∧ r.2.mem ((c.tc : Thread Cert.AdamFfnUpRefIdeal.nD Cert.AdamFfnUpRefIdeal.τ).loc Cert.AdamFfnUpRefIdeal.main_arg3) = m ((c.tc : Thread Cert.AdamFfnUpRefIdeal.nD Cert.AdamFfnUpRefIdeal.τ).loc Cert.AdamFfnUpRefIdeal.main_arg3))
      ∧ r.2.sem = fun _ => 0)

def quiescent_AdamFfnDown [hAdamFfnDown : Cert.AdamFfnDown.Facts] : Prop :=
  ∀ (m : (ℓ : Loc Cert.AdamFfnDown.nD Cert.AdamFfnDown.τ Cert.AdamFfnDown.sig) → Buf (Elt Bits) ℓ) (g : Dev Cert.AdamFfnDown.nD → PrngReg), Pre_AdamFfnDown m →
    θ_run (Cert.AdamFfnDown.defs (F := Bits)) (onTc (τ := Cert.AdamFfnDown.τ) (Cert.AdamFfnDown.main (F := Bits))) ⟨m, fun _ => 0, g⟩ (fun r => (∀ c : Dev Cert.AdamFfnDown.nD,
      r.2.mem ((c.tc : Thread Cert.AdamFfnDown.nD Cert.AdamFfnDown.τ).loc Cert.AdamFfnDown.main_arg0) = m ((c.tc : Thread Cert.AdamFfnDown.nD Cert.AdamFfnDown.τ).loc Cert.AdamFfnDown.main_arg0)
      ∧ r.2.mem ((c.tc : Thread Cert.AdamFfnDown.nD Cert.AdamFfnDown.τ).loc Cert.AdamFfnDown.main_arg1) = m ((c.tc : Thread Cert.AdamFfnDown.nD Cert.AdamFfnDown.τ).loc Cert.AdamFfnDown.main_arg1)
      ∧ r.2.mem ((c.tc : Thread Cert.AdamFfnDown.nD Cert.AdamFfnDown.τ).loc Cert.AdamFfnDown.main_arg2) = m ((c.tc : Thread Cert.AdamFfnDown.nD Cert.AdamFfnDown.τ).loc Cert.AdamFfnDown.main_arg2)
      ∧ r.2.mem ((c.tc : Thread Cert.AdamFfnDown.nD Cert.AdamFfnDown.τ).loc Cert.AdamFfnDown.main_arg3) = m ((c.tc : Thread Cert.AdamFfnDown.nD Cert.AdamFfnDown.τ).loc Cert.AdamFfnDown.main_arg3))
      ∧ r.2.sem = fun _ => 0)

def quiescent_AdamFfnDownIdeal [hAdamFfnDownIdeal : Cert.AdamFfnDownIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg), Pre_AdamFfnDownIdeal m →
    θ_run (Cert.AdamFfnDownIdeal.defs (F := Ideal)) (onTc (τ := Cert.AdamFfnDownIdeal.τ) (Cert.AdamFfnDownIdeal.main (F := Ideal))) ⟨m, fun _ => 0, g⟩ (fun r => (∀ c : Dev Cert.AdamFfnDownIdeal.nD,
      r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
      ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
      ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
      ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3))
      ∧ r.2.sem = fun _ => 0)

def quiescent_AdamFfnDownRefIdeal [hAdamFfnDownRefIdeal : Cert.AdamFfnDownRefIdeal.Facts] : Prop :=
  ∀ (m : (ℓ : Loc Cert.AdamFfnDownRefIdeal.nD Cert.AdamFfnDownRefIdeal.τ Cert.AdamFfnDownRefIdeal.sig) → Buf (Elt Ideal) ℓ) (g : Dev Cert.AdamFfnDownRefIdeal.nD → PrngReg), Pre_AdamFfnDownRefIdeal m →
    θ_run (Cert.AdamFfnDownRefIdeal.defs (F := Ideal)) (onTc (τ := Cert.AdamFfnDownRefIdeal.τ) (Cert.AdamFfnDownRefIdeal.main (F := Ideal))) ⟨m, fun _ => 0, g⟩ (fun r => (∀ c : Dev Cert.AdamFfnDownRefIdeal.nD,
      r.2.mem ((c.tc : Thread Cert.AdamFfnDownRefIdeal.nD Cert.AdamFfnDownRefIdeal.τ).loc Cert.AdamFfnDownRefIdeal.main_arg0) = m ((c.tc : Thread Cert.AdamFfnDownRefIdeal.nD Cert.AdamFfnDownRefIdeal.τ).loc Cert.AdamFfnDownRefIdeal.main_arg0)
      ∧ r.2.mem ((c.tc : Thread Cert.AdamFfnDownRefIdeal.nD Cert.AdamFfnDownRefIdeal.τ).loc Cert.AdamFfnDownRefIdeal.main_arg1) = m ((c.tc : Thread Cert.AdamFfnDownRefIdeal.nD Cert.AdamFfnDownRefIdeal.τ).loc Cert.AdamFfnDownRefIdeal.main_arg1)
      ∧ r.2.mem ((c.tc : Thread Cert.AdamFfnDownRefIdeal.nD Cert.AdamFfnDownRefIdeal.τ).loc Cert.AdamFfnDownRefIdeal.main_arg2) = m ((c.tc : Thread Cert.AdamFfnDownRefIdeal.nD Cert.AdamFfnDownRefIdeal.τ).loc Cert.AdamFfnDownRefIdeal.main_arg2)
      ∧ r.2.mem ((c.tc : Thread Cert.AdamFfnDownRefIdeal.nD Cert.AdamFfnDownRefIdeal.τ).loc Cert.AdamFfnDownRefIdeal.main_arg3) = m ((c.tc : Thread Cert.AdamFfnDownRefIdeal.nD Cert.AdamFfnDownRefIdeal.τ).loc Cert.AdamFfnDownRefIdeal.main_arg3))
      ∧ r.2.sem = fun _ => 0)

def quiescent_AdamPleProj [hAdamPleProj : Cert.AdamPleProj.Facts] : Prop :=
  ∀ (m : (ℓ : Loc Cert.AdamPleProj.nD Cert.AdamPleProj.τ Cert.AdamPleProj.sig) → Buf (Elt Bits) ℓ) (g : Dev Cert.AdamPleProj.nD → PrngReg), Pre_AdamPleProj m →
    θ_run (Cert.AdamPleProj.defs (F := Bits)) (onTc (τ := Cert.AdamPleProj.τ) (Cert.AdamPleProj.main (F := Bits))) ⟨m, fun _ => 0, g⟩ (fun r => (∀ c : Dev Cert.AdamPleProj.nD,
      r.2.mem ((c.tc : Thread Cert.AdamPleProj.nD Cert.AdamPleProj.τ).loc Cert.AdamPleProj.main_arg0) = m ((c.tc : Thread Cert.AdamPleProj.nD Cert.AdamPleProj.τ).loc Cert.AdamPleProj.main_arg0)
      ∧ r.2.mem ((c.tc : Thread Cert.AdamPleProj.nD Cert.AdamPleProj.τ).loc Cert.AdamPleProj.main_arg1) = m ((c.tc : Thread Cert.AdamPleProj.nD Cert.AdamPleProj.τ).loc Cert.AdamPleProj.main_arg1)
      ∧ r.2.mem ((c.tc : Thread Cert.AdamPleProj.nD Cert.AdamPleProj.τ).loc Cert.AdamPleProj.main_arg2) = m ((c.tc : Thread Cert.AdamPleProj.nD Cert.AdamPleProj.τ).loc Cert.AdamPleProj.main_arg2)
      ∧ r.2.mem ((c.tc : Thread Cert.AdamPleProj.nD Cert.AdamPleProj.τ).loc Cert.AdamPleProj.main_arg3) = m ((c.tc : Thread Cert.AdamPleProj.nD Cert.AdamPleProj.τ).loc Cert.AdamPleProj.main_arg3))
      ∧ r.2.sem = fun _ => 0)

def quiescent_AdamPleProjIdeal [hAdamPleProjIdeal : Cert.AdamPleProjIdeal.Facts] : Prop :=
  ∀ (m : (ℓ : Loc Cert.AdamPleProjIdeal.nD Cert.AdamPleProjIdeal.τ Cert.AdamPleProjIdeal.sig) → Buf (Elt Ideal) ℓ) (g : Dev Cert.AdamPleProjIdeal.nD → PrngReg), Pre_AdamPleProjIdeal m →
    θ_run (Cert.AdamPleProjIdeal.defs (F := Ideal)) (onTc (τ := Cert.AdamPleProjIdeal.τ) (Cert.AdamPleProjIdeal.main (F := Ideal))) ⟨m, fun _ => 0, g⟩ (fun r => (∀ c : Dev Cert.AdamPleProjIdeal.nD,
      r.2.mem ((c.tc : Thread Cert.AdamPleProjIdeal.nD Cert.AdamPleProjIdeal.τ).loc Cert.AdamPleProjIdeal.main_arg0) = m ((c.tc : Thread Cert.AdamPleProjIdeal.nD Cert.AdamPleProjIdeal.τ).loc Cert.AdamPleProjIdeal.main_arg0)
      ∧ r.2.mem ((c.tc : Thread Cert.AdamPleProjIdeal.nD Cert.AdamPleProjIdeal.τ).loc Cert.AdamPleProjIdeal.main_arg1) = m ((c.tc : Thread Cert.AdamPleProjIdeal.nD Cert.AdamPleProjIdeal.τ).loc Cert.AdamPleProjIdeal.main_arg1)
      ∧ r.2.mem ((c.tc : Thread Cert.AdamPleProjIdeal.nD Cert.AdamPleProjIdeal.τ).loc Cert.AdamPleProjIdeal.main_arg2) = m ((c.tc : Thread Cert.AdamPleProjIdeal.nD Cert.AdamPleProjIdeal.τ).loc Cert.AdamPleProjIdeal.main_arg2)
      ∧ r.2.mem ((c.tc : Thread Cert.AdamPleProjIdeal.nD Cert.AdamPleProjIdeal.τ).loc Cert.AdamPleProjIdeal.main_arg3) = m ((c.tc : Thread Cert.AdamPleProjIdeal.nD Cert.AdamPleProjIdeal.τ).loc Cert.AdamPleProjIdeal.main_arg3))
      ∧ r.2.sem = fun _ => 0)

def quiescent_AdamPleProjRefIdeal [hAdamPleProjRefIdeal : Cert.AdamPleProjRefIdeal.Facts] : Prop :=
  ∀ (m : (ℓ : Loc Cert.AdamPleProjRefIdeal.nD Cert.AdamPleProjRefIdeal.τ Cert.AdamPleProjRefIdeal.sig) → Buf (Elt Ideal) ℓ) (g : Dev Cert.AdamPleProjRefIdeal.nD → PrngReg), Pre_AdamPleProjRefIdeal m →
    θ_run (Cert.AdamPleProjRefIdeal.defs (F := Ideal)) (onTc (τ := Cert.AdamPleProjRefIdeal.τ) (Cert.AdamPleProjRefIdeal.main (F := Ideal))) ⟨m, fun _ => 0, g⟩ (fun r => (∀ c : Dev Cert.AdamPleProjRefIdeal.nD,
      r.2.mem ((c.tc : Thread Cert.AdamPleProjRefIdeal.nD Cert.AdamPleProjRefIdeal.τ).loc Cert.AdamPleProjRefIdeal.main_arg0) = m ((c.tc : Thread Cert.AdamPleProjRefIdeal.nD Cert.AdamPleProjRefIdeal.τ).loc Cert.AdamPleProjRefIdeal.main_arg0)
      ∧ r.2.mem ((c.tc : Thread Cert.AdamPleProjRefIdeal.nD Cert.AdamPleProjRefIdeal.τ).loc Cert.AdamPleProjRefIdeal.main_arg1) = m ((c.tc : Thread Cert.AdamPleProjRefIdeal.nD Cert.AdamPleProjRefIdeal.τ).loc Cert.AdamPleProjRefIdeal.main_arg1)
      ∧ r.2.mem ((c.tc : Thread Cert.AdamPleProjRefIdeal.nD Cert.AdamPleProjRefIdeal.τ).loc Cert.AdamPleProjRefIdeal.main_arg2) = m ((c.tc : Thread Cert.AdamPleProjRefIdeal.nD Cert.AdamPleProjRefIdeal.τ).loc Cert.AdamPleProjRefIdeal.main_arg2)
      ∧ r.2.mem ((c.tc : Thread Cert.AdamPleProjRefIdeal.nD Cert.AdamPleProjRefIdeal.τ).loc Cert.AdamPleProjRefIdeal.main_arg3) = m ((c.tc : Thread Cert.AdamPleProjRefIdeal.nD Cert.AdamPleProjRefIdeal.τ).loc Cert.AdamPleProjRefIdeal.main_arg3))
      ∧ r.2.sem = fun _ => 0)

def quiescent_AdamPleGate [hAdamPleGate : Cert.AdamPleGate.Facts] : Prop :=
  ∀ (m : (ℓ : Loc Cert.AdamPleGate.nD Cert.AdamPleGate.τ Cert.AdamPleGate.sig) → Buf (Elt Bits) ℓ) (g : Dev Cert.AdamPleGate.nD → PrngReg), Pre_AdamPleGate m →
    θ_run (Cert.AdamPleGate.defs (F := Bits)) (onTc (τ := Cert.AdamPleGate.τ) (Cert.AdamPleGate.main (F := Bits))) ⟨m, fun _ => 0, g⟩ (fun r => (∀ c : Dev Cert.AdamPleGate.nD,
      r.2.mem ((c.tc : Thread Cert.AdamPleGate.nD Cert.AdamPleGate.τ).loc Cert.AdamPleGate.main_arg0) = m ((c.tc : Thread Cert.AdamPleGate.nD Cert.AdamPleGate.τ).loc Cert.AdamPleGate.main_arg0)
      ∧ r.2.mem ((c.tc : Thread Cert.AdamPleGate.nD Cert.AdamPleGate.τ).loc Cert.AdamPleGate.main_arg1) = m ((c.tc : Thread Cert.AdamPleGate.nD Cert.AdamPleGate.τ).loc Cert.AdamPleGate.main_arg1)
      ∧ r.2.mem ((c.tc : Thread Cert.AdamPleGate.nD Cert.AdamPleGate.τ).loc Cert.AdamPleGate.main_arg2) = m ((c.tc : Thread Cert.AdamPleGate.nD Cert.AdamPleGate.τ).loc Cert.AdamPleGate.main_arg2)
      ∧ r.2.mem ((c.tc : Thread Cert.AdamPleGate.nD Cert.AdamPleGate.τ).loc Cert.AdamPleGate.main_arg3) = m ((c.tc : Thread Cert.AdamPleGate.nD Cert.AdamPleGate.τ).loc Cert.AdamPleGate.main_arg3))
      ∧ r.2.sem = fun _ => 0)

def quiescent_AdamPleGateIdeal [hAdamPleGateIdeal : Cert.AdamPleGateIdeal.Facts] : Prop :=
  ∀ (m : (ℓ : Loc Cert.AdamPleGateIdeal.nD Cert.AdamPleGateIdeal.τ Cert.AdamPleGateIdeal.sig) → Buf (Elt Ideal) ℓ) (g : Dev Cert.AdamPleGateIdeal.nD → PrngReg), Pre_AdamPleGateIdeal m →
    θ_run (Cert.AdamPleGateIdeal.defs (F := Ideal)) (onTc (τ := Cert.AdamPleGateIdeal.τ) (Cert.AdamPleGateIdeal.main (F := Ideal))) ⟨m, fun _ => 0, g⟩ (fun r => (∀ c : Dev Cert.AdamPleGateIdeal.nD,
      r.2.mem ((c.tc : Thread Cert.AdamPleGateIdeal.nD Cert.AdamPleGateIdeal.τ).loc Cert.AdamPleGateIdeal.main_arg0) = m ((c.tc : Thread Cert.AdamPleGateIdeal.nD Cert.AdamPleGateIdeal.τ).loc Cert.AdamPleGateIdeal.main_arg0)
      ∧ r.2.mem ((c.tc : Thread Cert.AdamPleGateIdeal.nD Cert.AdamPleGateIdeal.τ).loc Cert.AdamPleGateIdeal.main_arg1) = m ((c.tc : Thread Cert.AdamPleGateIdeal.nD Cert.AdamPleGateIdeal.τ).loc Cert.AdamPleGateIdeal.main_arg1)
      ∧ r.2.mem ((c.tc : Thread Cert.AdamPleGateIdeal.nD Cert.AdamPleGateIdeal.τ).loc Cert.AdamPleGateIdeal.main_arg2) = m ((c.tc : Thread Cert.AdamPleGateIdeal.nD Cert.AdamPleGateIdeal.τ).loc Cert.AdamPleGateIdeal.main_arg2)
      ∧ r.2.mem ((c.tc : Thread Cert.AdamPleGateIdeal.nD Cert.AdamPleGateIdeal.τ).loc Cert.AdamPleGateIdeal.main_arg3) = m ((c.tc : Thread Cert.AdamPleGateIdeal.nD Cert.AdamPleGateIdeal.τ).loc Cert.AdamPleGateIdeal.main_arg3))
      ∧ r.2.sem = fun _ => 0)

def quiescent_AdamPleGateRefIdeal [hAdamPleGateRefIdeal : Cert.AdamPleGateRefIdeal.Facts] : Prop :=
  ∀ (m : (ℓ : Loc Cert.AdamPleGateRefIdeal.nD Cert.AdamPleGateRefIdeal.τ Cert.AdamPleGateRefIdeal.sig) → Buf (Elt Ideal) ℓ) (g : Dev Cert.AdamPleGateRefIdeal.nD → PrngReg), Pre_AdamPleGateRefIdeal m →
    θ_run (Cert.AdamPleGateRefIdeal.defs (F := Ideal)) (onTc (τ := Cert.AdamPleGateRefIdeal.τ) (Cert.AdamPleGateRefIdeal.main (F := Ideal))) ⟨m, fun _ => 0, g⟩ (fun r => (∀ c : Dev Cert.AdamPleGateRefIdeal.nD,
      r.2.mem ((c.tc : Thread Cert.AdamPleGateRefIdeal.nD Cert.AdamPleGateRefIdeal.τ).loc Cert.AdamPleGateRefIdeal.main_arg0) = m ((c.tc : Thread Cert.AdamPleGateRefIdeal.nD Cert.AdamPleGateRefIdeal.τ).loc Cert.AdamPleGateRefIdeal.main_arg0)
      ∧ r.2.mem ((c.tc : Thread Cert.AdamPleGateRefIdeal.nD Cert.AdamPleGateRefIdeal.τ).loc Cert.AdamPleGateRefIdeal.main_arg1) = m ((c.tc : Thread Cert.AdamPleGateRefIdeal.nD Cert.AdamPleGateRefIdeal.τ).loc Cert.AdamPleGateRefIdeal.main_arg1)
      ∧ r.2.mem ((c.tc : Thread Cert.AdamPleGateRefIdeal.nD Cert.AdamPleGateRefIdeal.τ).loc Cert.AdamPleGateRefIdeal.main_arg2) = m ((c.tc : Thread Cert.AdamPleGateRefIdeal.nD Cert.AdamPleGateRefIdeal.τ).loc Cert.AdamPleGateRefIdeal.main_arg2)
      ∧ r.2.mem ((c.tc : Thread Cert.AdamPleGateRefIdeal.nD Cert.AdamPleGateRefIdeal.τ).loc Cert.AdamPleGateRefIdeal.main_arg3) = m ((c.tc : Thread Cert.AdamPleGateRefIdeal.nD Cert.AdamPleGateRefIdeal.τ).loc Cert.AdamPleGateRefIdeal.main_arg3))
      ∧ r.2.sem = fun _ => 0)

def quiescent_FfnDownBwd [hFfnDownBwd : Cert.FfnDownBwd.Facts] : Prop :=
  ∀ (m : (ℓ : Loc Cert.FfnDownBwd.nD Cert.FfnDownBwd.τ Cert.FfnDownBwd.sig) → Buf (Elt Bits) ℓ) (g : Dev Cert.FfnDownBwd.nD → PrngReg), Pre_FfnDownBwd m →
    θ_run (Cert.FfnDownBwd.defs (F := Bits)) (onTc (τ := Cert.FfnDownBwd.τ) (Cert.FfnDownBwd.main (F := Bits))) ⟨m, fun _ => 0, g⟩ (fun r => (∀ c : Dev Cert.FfnDownBwd.nD,
      r.2.mem ((c.tc : Thread Cert.FfnDownBwd.nD Cert.FfnDownBwd.τ).loc Cert.FfnDownBwd.main_arg0) = m ((c.tc : Thread Cert.FfnDownBwd.nD Cert.FfnDownBwd.τ).loc Cert.FfnDownBwd.main_arg0)
      ∧ r.2.mem ((c.tc : Thread Cert.FfnDownBwd.nD Cert.FfnDownBwd.τ).loc Cert.FfnDownBwd.main_arg1) = m ((c.tc : Thread Cert.FfnDownBwd.nD Cert.FfnDownBwd.τ).loc Cert.FfnDownBwd.main_arg1)
      ∧ r.2.mem ((c.tc : Thread Cert.FfnDownBwd.nD Cert.FfnDownBwd.τ).loc Cert.FfnDownBwd.main_arg2) = m ((c.tc : Thread Cert.FfnDownBwd.nD Cert.FfnDownBwd.τ).loc Cert.FfnDownBwd.main_arg2))
      ∧ r.2.sem = fun _ => 0)

def quiescent_FfnDownBwdIdeal [hFfnDownBwdIdeal : Cert.FfnDownBwdIdeal.Facts] [hPre_finite_down : Cert.Pre_finite_down.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg), Pre_FfnDownBwdIdeal m →
    θ_run (Cert.FfnDownBwdIdeal.defs (F := Ideal)) (onTc (τ := Cert.FfnDownBwdIdeal.τ) (Cert.FfnDownBwdIdeal.main (F := Ideal))) ⟨m, fun _ => 0, g⟩ (fun r => (∀ c : Dev Cert.FfnDownBwdIdeal.nD,
      r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
      ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1)
      ∧ r.2.mem ((c.tc : Thread Cert.FfnDownBwdIdeal.nD Cert.FfnDownBwdIdeal.τ).loc Cert.FfnDownBwdIdeal.main_arg2) = m ((c.tc : Thread Cert.FfnDownBwdIdeal.nD Cert.FfnDownBwdIdeal.τ).loc Cert.FfnDownBwdIdeal.main_arg2))
      ∧ r.2.sem = fun _ => 0)

def quiescent_FfnDownBwdIdeal_pre_none [hFfnDownBwdIdeal : Cert.FfnDownBwdIdeal.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg), Pre_FfnDownBwdIdeal_none m →
    θ_run (Cert.FfnDownBwdIdeal.defs (F := Ideal)) (onTc (τ := Cert.FfnDownBwdIdeal.τ) (Cert.FfnDownBwdIdeal.main (F := Ideal))) ⟨m, fun _ => 0, g⟩ (fun r => (∀ c : Dev Cert.FfnDownBwdIdeal.nD,
      r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
      ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1)
      ∧ r.2.mem ((c.tc : Thread Cert.FfnDownBwdIdeal.nD Cert.FfnDownBwdIdeal.τ).loc Cert.FfnDownBwdIdeal.main_arg2) = m ((c.tc : Thread Cert.FfnDownBwdIdeal.nD Cert.FfnDownBwdIdeal.τ).loc Cert.FfnDownBwdIdeal.main_arg2))
      ∧ r.2.sem = fun _ => 0)

def quiescent_FfnDownBwdRefIdeal [hFfnDownBwdRefIdeal : Cert.FfnDownBwdRefIdeal.Facts] : Prop :=
  ∀ (m : (ℓ : Loc Cert.FfnDownBwdRefIdeal.nD Cert.FfnDownBwdRefIdeal.τ Cert.FfnDownBwdRefIdeal.sig) → Buf (Elt Ideal) ℓ) (g : Dev Cert.FfnDownBwdRefIdeal.nD → PrngReg), Pre_FfnDownBwdRefIdeal m →
    θ_run (Cert.FfnDownBwdRefIdeal.defs (F := Ideal)) (onTc (τ := Cert.FfnDownBwdRefIdeal.τ) (Cert.FfnDownBwdRefIdeal.main (F := Ideal))) ⟨m, fun _ => 0, g⟩ (fun r => (∀ c : Dev Cert.FfnDownBwdRefIdeal.nD,
      r.2.mem ((c.tc : Thread Cert.FfnDownBwdRefIdeal.nD Cert.FfnDownBwdRefIdeal.τ).loc Cert.FfnDownBwdRefIdeal.main_arg0) = m ((c.tc : Thread Cert.FfnDownBwdRefIdeal.nD Cert.FfnDownBwdRefIdeal.τ).loc Cert.FfnDownBwdRefIdeal.main_arg0)
      ∧ r.2.mem ((c.tc : Thread Cert.FfnDownBwdRefIdeal.nD Cert.FfnDownBwdRefIdeal.τ).loc Cert.FfnDownBwdRefIdeal.main_arg1) = m ((c.tc : Thread Cert.FfnDownBwdRefIdeal.nD Cert.FfnDownBwdRefIdeal.τ).loc Cert.FfnDownBwdRefIdeal.main_arg1)
      ∧ r.2.mem ((c.tc : Thread Cert.FfnDownBwdRefIdeal.nD Cert.FfnDownBwdRefIdeal.τ).loc Cert.FfnDownBwdRefIdeal.main_arg2) = m ((c.tc : Thread Cert.FfnDownBwdRefIdeal.nD Cert.FfnDownBwdRefIdeal.τ).loc Cert.FfnDownBwdRefIdeal.main_arg2))
      ∧ r.2.sem = fun _ => 0)

def quiescent_FfnDownBwdRefIdeal_pre_finite_down [hFfnDownBwdRefIdeal : Cert.FfnDownBwdRefIdeal.Facts] [hPre_finite_down : Cert.Pre_finite_down.Facts] : Prop :=
  ∀ (m : (ℓ : Loc Cert.FfnDownBwdRefIdeal.nD Cert.FfnDownBwdRefIdeal.τ Cert.FfnDownBwdRefIdeal.sig) → Buf (Elt Ideal) ℓ) (g : Dev Cert.FfnDownBwdRefIdeal.nD → PrngReg), Pre_FfnDownBwdRefIdeal_finite_down m →
    θ_run (Cert.FfnDownBwdRefIdeal.defs (F := Ideal)) (onTc (τ := Cert.FfnDownBwdRefIdeal.τ) (Cert.FfnDownBwdRefIdeal.main (F := Ideal))) ⟨m, fun _ => 0, g⟩ (fun r => (∀ c : Dev Cert.FfnDownBwdRefIdeal.nD,
      r.2.mem ((c.tc : Thread Cert.FfnDownBwdRefIdeal.nD Cert.FfnDownBwdRefIdeal.τ).loc Cert.FfnDownBwdRefIdeal.main_arg0) = m ((c.tc : Thread Cert.FfnDownBwdRefIdeal.nD Cert.FfnDownBwdRefIdeal.τ).loc Cert.FfnDownBwdRefIdeal.main_arg0)
      ∧ r.2.mem ((c.tc : Thread Cert.FfnDownBwdRefIdeal.nD Cert.FfnDownBwdRefIdeal.τ).loc Cert.FfnDownBwdRefIdeal.main_arg1) = m ((c.tc : Thread Cert.FfnDownBwdRefIdeal.nD Cert.FfnDownBwdRefIdeal.τ).loc Cert.FfnDownBwdRefIdeal.main_arg1)
      ∧ r.2.mem ((c.tc : Thread Cert.FfnDownBwdRefIdeal.nD Cert.FfnDownBwdRefIdeal.τ).loc Cert.FfnDownBwdRefIdeal.main_arg2) = m ((c.tc : Thread Cert.FfnDownBwdRefIdeal.nD Cert.FfnDownBwdRefIdeal.τ).loc Cert.FfnDownBwdRefIdeal.main_arg2))
      ∧ r.2.sem = fun _ => 0)

def quiescent_UpLnBwd [hUpLnBwd : Cert.UpLnBwd.Facts] : Prop :=
  ∀ (m : (ℓ : Loc Cert.UpLnBwd.nD Cert.UpLnBwd.τ Cert.UpLnBwd.sig) → Buf (Elt Bits) ℓ) (g : Dev Cert.UpLnBwd.nD → PrngReg), Pre_UpLnBwd m →
    θ_run (Cert.UpLnBwd.defs (F := Bits)) (onTc (τ := Cert.UpLnBwd.τ) (Cert.UpLnBwd.main (F := Bits))) ⟨m, fun _ => 0, g⟩ (fun r => (∀ c : Dev Cert.UpLnBwd.nD,
      r.2.mem ((c.tc : Thread Cert.UpLnBwd.nD Cert.UpLnBwd.τ).loc Cert.UpLnBwd.main_arg0) = m ((c.tc : Thread Cert.UpLnBwd.nD Cert.UpLnBwd.τ).loc Cert.UpLnBwd.main_arg0)
      ∧ r.2.mem ((c.tc : Thread Cert.UpLnBwd.nD Cert.UpLnBwd.τ).loc Cert.UpLnBwd.main_arg1) = m ((c.tc : Thread Cert.UpLnBwd.nD Cert.UpLnBwd.τ).loc Cert.UpLnBwd.main_arg1)
      ∧ r.2.mem ((c.tc : Thread Cert.UpLnBwd.nD Cert.UpLnBwd.τ).loc Cert.UpLnBwd.main_arg2) = m ((c.tc : Thread Cert.UpLnBwd.nD Cert.UpLnBwd.τ).loc Cert.UpLnBwd.main_arg2)
      ∧ r.2.mem ((c.tc : Thread Cert.UpLnBwd.nD Cert.UpLnBwd.τ).loc Cert.UpLnBwd.main_arg3) = m ((c.tc : Thread Cert.UpLnBwd.nD Cert.UpLnBwd.τ).loc Cert.UpLnBwd.main_arg3)
      ∧ r.2.mem ((c.tc : Thread Cert.UpLnBwd.nD Cert.UpLnBwd.τ).loc Cert.UpLnBwd.main_arg4) = m ((c.tc : Thread Cert.UpLnBwd.nD Cert.UpLnBwd.τ).loc Cert.UpLnBwd.main_arg4))
      ∧ r.2.sem = fun _ => 0)

def quiescent_UpLnBwdIdeal [hUpLnBwdIdeal : Cert.UpLnBwdIdeal.Facts] [hPre_finite_up : Cert.Pre_finite_up.Facts] : Prop :=
  ∀ (m : (ℓ : Loc Cert.UpLnBwdIdeal.nD Cert.UpLnBwdIdeal.τ Cert.UpLnBwdIdeal.sig) → Buf (Elt Ideal) ℓ) (g : Dev Cert.UpLnBwdIdeal.nD → PrngReg), Pre_UpLnBwdIdeal m →
    θ_run (Cert.UpLnBwdIdeal.defs (F := Ideal)) (onTc (τ := Cert.UpLnBwdIdeal.τ) (Cert.UpLnBwdIdeal.main (F := Ideal))) ⟨m, fun _ => 0, g⟩ (fun r => (∀ c : Dev Cert.UpLnBwdIdeal.nD,
      r.2.mem ((c.tc : Thread Cert.UpLnBwdIdeal.nD Cert.UpLnBwdIdeal.τ).loc Cert.UpLnBwdIdeal.main_arg0) = m ((c.tc : Thread Cert.UpLnBwdIdeal.nD Cert.UpLnBwdIdeal.τ).loc Cert.UpLnBwdIdeal.main_arg0)
      ∧ r.2.mem ((c.tc : Thread Cert.UpLnBwdIdeal.nD Cert.UpLnBwdIdeal.τ).loc Cert.UpLnBwdIdeal.main_arg1) = m ((c.tc : Thread Cert.UpLnBwdIdeal.nD Cert.UpLnBwdIdeal.τ).loc Cert.UpLnBwdIdeal.main_arg1)
      ∧ r.2.mem ((c.tc : Thread Cert.UpLnBwdIdeal.nD Cert.UpLnBwdIdeal.τ).loc Cert.UpLnBwdIdeal.main_arg2) = m ((c.tc : Thread Cert.UpLnBwdIdeal.nD Cert.UpLnBwdIdeal.τ).loc Cert.UpLnBwdIdeal.main_arg2)
      ∧ r.2.mem ((c.tc : Thread Cert.UpLnBwdIdeal.nD Cert.UpLnBwdIdeal.τ).loc Cert.UpLnBwdIdeal.main_arg3) = m ((c.tc : Thread Cert.UpLnBwdIdeal.nD Cert.UpLnBwdIdeal.τ).loc Cert.UpLnBwdIdeal.main_arg3)
      ∧ r.2.mem ((c.tc : Thread Cert.UpLnBwdIdeal.nD Cert.UpLnBwdIdeal.τ).loc Cert.UpLnBwdIdeal.main_arg4) = m ((c.tc : Thread Cert.UpLnBwdIdeal.nD Cert.UpLnBwdIdeal.τ).loc Cert.UpLnBwdIdeal.main_arg4))
      ∧ r.2.sem = fun _ => 0)

def quiescent_UpLnBwdIdeal_pre_none [hUpLnBwdIdeal : Cert.UpLnBwdIdeal.Facts] : Prop :=
  ∀ (m : (ℓ : Loc Cert.UpLnBwdIdeal.nD Cert.UpLnBwdIdeal.τ Cert.UpLnBwdIdeal.sig) → Buf (Elt Ideal) ℓ) (g : Dev Cert.UpLnBwdIdeal.nD → PrngReg), Pre_UpLnBwdIdeal_none m →
    θ_run (Cert.UpLnBwdIdeal.defs (F := Ideal)) (onTc (τ := Cert.UpLnBwdIdeal.τ) (Cert.UpLnBwdIdeal.main (F := Ideal))) ⟨m, fun _ => 0, g⟩ (fun r => (∀ c : Dev Cert.UpLnBwdIdeal.nD,
      r.2.mem ((c.tc : Thread Cert.UpLnBwdIdeal.nD Cert.UpLnBwdIdeal.τ).loc Cert.UpLnBwdIdeal.main_arg0) = m ((c.tc : Thread Cert.UpLnBwdIdeal.nD Cert.UpLnBwdIdeal.τ).loc Cert.UpLnBwdIdeal.main_arg0)
      ∧ r.2.mem ((c.tc : Thread Cert.UpLnBwdIdeal.nD Cert.UpLnBwdIdeal.τ).loc Cert.UpLnBwdIdeal.main_arg1) = m ((c.tc : Thread Cert.UpLnBwdIdeal.nD Cert.UpLnBwdIdeal.τ).loc Cert.UpLnBwdIdeal.main_arg1)
      ∧ r.2.mem ((c.tc : Thread Cert.UpLnBwdIdeal.nD Cert.UpLnBwdIdeal.τ).loc Cert.UpLnBwdIdeal.main_arg2) = m ((c.tc : Thread Cert.UpLnBwdIdeal.nD Cert.UpLnBwdIdeal.τ).loc Cert.UpLnBwdIdeal.main_arg2)
      ∧ r.2.mem ((c.tc : Thread Cert.UpLnBwdIdeal.nD Cert.UpLnBwdIdeal.τ).loc Cert.UpLnBwdIdeal.main_arg3) = m ((c.tc : Thread Cert.UpLnBwdIdeal.nD Cert.UpLnBwdIdeal.τ).loc Cert.UpLnBwdIdeal.main_arg3)
      ∧ r.2.mem ((c.tc : Thread Cert.UpLnBwdIdeal.nD Cert.UpLnBwdIdeal.τ).loc Cert.UpLnBwdIdeal.main_arg4) = m ((c.tc : Thread Cert.UpLnBwdIdeal.nD Cert.UpLnBwdIdeal.τ).loc Cert.UpLnBwdIdeal.main_arg4))
      ∧ r.2.sem = fun _ => 0)

def quiescent_UpLnBwdRefIdeal [hUpLnBwdRefIdeal : Cert.UpLnBwdRefIdeal.Facts] : Prop :=
  ∀ (m : (ℓ : Loc Cert.UpLnBwdRefIdeal.nD Cert.UpLnBwdRefIdeal.τ Cert.UpLnBwdRefIdeal.sig) → Buf (Elt Ideal) ℓ) (g : Dev Cert.UpLnBwdRefIdeal.nD → PrngReg), Pre_UpLnBwdRefIdeal m →
    θ_run (Cert.UpLnBwdRefIdeal.defs (F := Ideal)) (onTc (τ := Cert.UpLnBwdRefIdeal.τ) (Cert.UpLnBwdRefIdeal.main (F := Ideal))) ⟨m, fun _ => 0, g⟩ (fun r => (∀ c : Dev Cert.UpLnBwdRefIdeal.nD,
      r.2.mem ((c.tc : Thread Cert.UpLnBwdRefIdeal.nD Cert.UpLnBwdRefIdeal.τ).loc Cert.UpLnBwdRefIdeal.main_arg0) = m ((c.tc : Thread Cert.UpLnBwdRefIdeal.nD Cert.UpLnBwdRefIdeal.τ).loc Cert.UpLnBwdRefIdeal.main_arg0)
      ∧ r.2.mem ((c.tc : Thread Cert.UpLnBwdRefIdeal.nD Cert.UpLnBwdRefIdeal.τ).loc Cert.UpLnBwdRefIdeal.main_arg1) = m ((c.tc : Thread Cert.UpLnBwdRefIdeal.nD Cert.UpLnBwdRefIdeal.τ).loc Cert.UpLnBwdRefIdeal.main_arg1)
      ∧ r.2.mem ((c.tc : Thread Cert.UpLnBwdRefIdeal.nD Cert.UpLnBwdRefIdeal.τ).loc Cert.UpLnBwdRefIdeal.main_arg2) = m ((c.tc : Thread Cert.UpLnBwdRefIdeal.nD Cert.UpLnBwdRefIdeal.τ).loc Cert.UpLnBwdRefIdeal.main_arg2)
      ∧ r.2.mem ((c.tc : Thread Cert.UpLnBwdRefIdeal.nD Cert.UpLnBwdRefIdeal.τ).loc Cert.UpLnBwdRefIdeal.main_arg3) = m ((c.tc : Thread Cert.UpLnBwdRefIdeal.nD Cert.UpLnBwdRefIdeal.τ).loc Cert.UpLnBwdRefIdeal.main_arg3)
      ∧ r.2.mem ((c.tc : Thread Cert.UpLnBwdRefIdeal.nD Cert.UpLnBwdRefIdeal.τ).loc Cert.UpLnBwdRefIdeal.main_arg4) = m ((c.tc : Thread Cert.UpLnBwdRefIdeal.nD Cert.UpLnBwdRefIdeal.τ).loc Cert.UpLnBwdRefIdeal.main_arg4))
      ∧ r.2.sem = fun _ => 0)

def quiescent_UpLnBwdRefIdeal_pre_finite_up [hUpLnBwdRefIdeal : Cert.UpLnBwdRefIdeal.Facts] [hPre_finite_up : Cert.Pre_finite_up.Facts] : Prop :=
  ∀ (m : (ℓ : Loc Cert.UpLnBwdRefIdeal.nD Cert.UpLnBwdRefIdeal.τ Cert.UpLnBwdRefIdeal.sig) → Buf (Elt Ideal) ℓ) (g : Dev Cert.UpLnBwdRefIdeal.nD → PrngReg), Pre_UpLnBwdRefIdeal_finite_up m →
    θ_run (Cert.UpLnBwdRefIdeal.defs (F := Ideal)) (onTc (τ := Cert.UpLnBwdRefIdeal.τ) (Cert.UpLnBwdRefIdeal.main (F := Ideal))) ⟨m, fun _ => 0, g⟩ (fun r => (∀ c : Dev Cert.UpLnBwdRefIdeal.nD,
      r.2.mem ((c.tc : Thread Cert.UpLnBwdRefIdeal.nD Cert.UpLnBwdRefIdeal.τ).loc Cert.UpLnBwdRefIdeal.main_arg0) = m ((c.tc : Thread Cert.UpLnBwdRefIdeal.nD Cert.UpLnBwdRefIdeal.τ).loc Cert.UpLnBwdRefIdeal.main_arg0)
      ∧ r.2.mem ((c.tc : Thread Cert.UpLnBwdRefIdeal.nD Cert.UpLnBwdRefIdeal.τ).loc Cert.UpLnBwdRefIdeal.main_arg1) = m ((c.tc : Thread Cert.UpLnBwdRefIdeal.nD Cert.UpLnBwdRefIdeal.τ).loc Cert.UpLnBwdRefIdeal.main_arg1)
      ∧ r.2.mem ((c.tc : Thread Cert.UpLnBwdRefIdeal.nD Cert.UpLnBwdRefIdeal.τ).loc Cert.UpLnBwdRefIdeal.main_arg2) = m ((c.tc : Thread Cert.UpLnBwdRefIdeal.nD Cert.UpLnBwdRefIdeal.τ).loc Cert.UpLnBwdRefIdeal.main_arg2)
      ∧ r.2.mem ((c.tc : Thread Cert.UpLnBwdRefIdeal.nD Cert.UpLnBwdRefIdeal.τ).loc Cert.UpLnBwdRefIdeal.main_arg3) = m ((c.tc : Thread Cert.UpLnBwdRefIdeal.nD Cert.UpLnBwdRefIdeal.τ).loc Cert.UpLnBwdRefIdeal.main_arg3)
      ∧ r.2.mem ((c.tc : Thread Cert.UpLnBwdRefIdeal.nD Cert.UpLnBwdRefIdeal.τ).loc Cert.UpLnBwdRefIdeal.main_arg4) = m ((c.tc : Thread Cert.UpLnBwdRefIdeal.nD Cert.UpLnBwdRefIdeal.τ).loc Cert.UpLnBwdRefIdeal.main_arg4))
      ∧ r.2.sem = fun _ => 0)

def quiescent_PleLnBwd [hPleLnBwd : Cert.PleLnBwd.Facts] : Prop :=
  ∀ (m : (ℓ : Loc Cert.PleLnBwd.nD Cert.PleLnBwd.τ Cert.PleLnBwd.sig) → Buf (Elt Bits) ℓ) (g : Dev Cert.PleLnBwd.nD → PrngReg), Pre_PleLnBwd m →
    θ_run (Cert.PleLnBwd.defs (F := Bits)) (onTc (τ := Cert.PleLnBwd.τ) (Cert.PleLnBwd.main (F := Bits))) ⟨m, fun _ => 0, g⟩ (fun r => (∀ c : Dev Cert.PleLnBwd.nD,
      r.2.mem ((c.tc : Thread Cert.PleLnBwd.nD Cert.PleLnBwd.τ).loc Cert.PleLnBwd.main_arg0) = m ((c.tc : Thread Cert.PleLnBwd.nD Cert.PleLnBwd.τ).loc Cert.PleLnBwd.main_arg0)
      ∧ r.2.mem ((c.tc : Thread Cert.PleLnBwd.nD Cert.PleLnBwd.τ).loc Cert.PleLnBwd.main_arg1) = m ((c.tc : Thread Cert.PleLnBwd.nD Cert.PleLnBwd.τ).loc Cert.PleLnBwd.main_arg1)
      ∧ r.2.mem ((c.tc : Thread Cert.PleLnBwd.nD Cert.PleLnBwd.τ).loc Cert.PleLnBwd.main_arg2) = m ((c.tc : Thread Cert.PleLnBwd.nD Cert.PleLnBwd.τ).loc Cert.PleLnBwd.main_arg2)
      ∧ r.2.mem ((c.tc : Thread Cert.PleLnBwd.nD Cert.PleLnBwd.τ).loc Cert.PleLnBwd.main_arg3) = m ((c.tc : Thread Cert.PleLnBwd.nD Cert.PleLnBwd.τ).loc Cert.PleLnBwd.main_arg3)
      ∧ r.2.mem ((c.tc : Thread Cert.PleLnBwd.nD Cert.PleLnBwd.τ).loc Cert.PleLnBwd.main_arg4) = m ((c.tc : Thread Cert.PleLnBwd.nD Cert.PleLnBwd.τ).loc Cert.PleLnBwd.main_arg4)
      ∧ r.2.mem ((c.tc : Thread Cert.PleLnBwd.nD Cert.PleLnBwd.τ).loc Cert.PleLnBwd.main_arg5) = m ((c.tc : Thread Cert.PleLnBwd.nD Cert.PleLnBwd.τ).loc Cert.PleLnBwd.main_arg5)
      ∧ r.2.mem ((c.tc : Thread Cert.PleLnBwd.nD Cert.PleLnBwd.τ).loc Cert.PleLnBwd.main_arg6) = m ((c.tc : Thread Cert.PleLnBwd.nD Cert.PleLnBwd.τ).loc Cert.PleLnBwd.main_arg6)
      ∧ r.2.mem ((c.tc : Thread Cert.PleLnBwd.nD Cert.PleLnBwd.τ).loc Cert.PleLnBwd.main_arg7) = m ((c.tc : Thread Cert.PleLnBwd.nD Cert.PleLnBwd.τ).loc Cert.PleLnBwd.main_arg7))
      ∧ r.2.sem = fun _ => 0)

def quiescent_PleLnBwdIdeal [hPleLnBwdIdeal : Cert.PleLnBwdIdeal.Facts] [hPre_finite_ple : Cert.Pre_finite_ple.Facts] : Prop :=
  ∀ (m : (ℓ : Loc Cert.PleLnBwdIdeal.nD Cert.PleLnBwdIdeal.τ Cert.PleLnBwdIdeal.sig) → Buf (Elt Ideal) ℓ) (g : Dev Cert.PleLnBwdIdeal.nD → PrngReg), Pre_PleLnBwdIdeal m →
    θ_run (Cert.PleLnBwdIdeal.defs (F := Ideal)) (onTc (τ := Cert.PleLnBwdIdeal.τ) (Cert.PleLnBwdIdeal.main (F := Ideal))) ⟨m, fun _ => 0, g⟩ (fun r => (∀ c : Dev Cert.PleLnBwdIdeal.nD,
      r.2.mem ((c.tc : Thread Cert.PleLnBwdIdeal.nD Cert.PleLnBwdIdeal.τ).loc Cert.PleLnBwdIdeal.main_arg0) = m ((c.tc : Thread Cert.PleLnBwdIdeal.nD Cert.PleLnBwdIdeal.τ).loc Cert.PleLnBwdIdeal.main_arg0)
      ∧ r.2.mem ((c.tc : Thread Cert.PleLnBwdIdeal.nD Cert.PleLnBwdIdeal.τ).loc Cert.PleLnBwdIdeal.main_arg1) = m ((c.tc : Thread Cert.PleLnBwdIdeal.nD Cert.PleLnBwdIdeal.τ).loc Cert.PleLnBwdIdeal.main_arg1)
      ∧ r.2.mem ((c.tc : Thread Cert.PleLnBwdIdeal.nD Cert.PleLnBwdIdeal.τ).loc Cert.PleLnBwdIdeal.main_arg2) = m ((c.tc : Thread Cert.PleLnBwdIdeal.nD Cert.PleLnBwdIdeal.τ).loc Cert.PleLnBwdIdeal.main_arg2)
      ∧ r.2.mem ((c.tc : Thread Cert.PleLnBwdIdeal.nD Cert.PleLnBwdIdeal.τ).loc Cert.PleLnBwdIdeal.main_arg3) = m ((c.tc : Thread Cert.PleLnBwdIdeal.nD Cert.PleLnBwdIdeal.τ).loc Cert.PleLnBwdIdeal.main_arg3)
      ∧ r.2.mem ((c.tc : Thread Cert.PleLnBwdIdeal.nD Cert.PleLnBwdIdeal.τ).loc Cert.PleLnBwdIdeal.main_arg4) = m ((c.tc : Thread Cert.PleLnBwdIdeal.nD Cert.PleLnBwdIdeal.τ).loc Cert.PleLnBwdIdeal.main_arg4)
      ∧ r.2.mem ((c.tc : Thread Cert.PleLnBwdIdeal.nD Cert.PleLnBwdIdeal.τ).loc Cert.PleLnBwdIdeal.main_arg5) = m ((c.tc : Thread Cert.PleLnBwdIdeal.nD Cert.PleLnBwdIdeal.τ).loc Cert.PleLnBwdIdeal.main_arg5)
      ∧ r.2.mem ((c.tc : Thread Cert.PleLnBwdIdeal.nD Cert.PleLnBwdIdeal.τ).loc Cert.PleLnBwdIdeal.main_arg6) = m ((c.tc : Thread Cert.PleLnBwdIdeal.nD Cert.PleLnBwdIdeal.τ).loc Cert.PleLnBwdIdeal.main_arg6)
      ∧ r.2.mem ((c.tc : Thread Cert.PleLnBwdIdeal.nD Cert.PleLnBwdIdeal.τ).loc Cert.PleLnBwdIdeal.main_arg7) = m ((c.tc : Thread Cert.PleLnBwdIdeal.nD Cert.PleLnBwdIdeal.τ).loc Cert.PleLnBwdIdeal.main_arg7))
      ∧ r.2.sem = fun _ => 0)

def quiescent_PleLnBwdIdeal_pre_none [hPleLnBwdIdeal : Cert.PleLnBwdIdeal.Facts] : Prop :=
  ∀ (m : (ℓ : Loc Cert.PleLnBwdIdeal.nD Cert.PleLnBwdIdeal.τ Cert.PleLnBwdIdeal.sig) → Buf (Elt Ideal) ℓ) (g : Dev Cert.PleLnBwdIdeal.nD → PrngReg), Pre_PleLnBwdIdeal_none m →
    θ_run (Cert.PleLnBwdIdeal.defs (F := Ideal)) (onTc (τ := Cert.PleLnBwdIdeal.τ) (Cert.PleLnBwdIdeal.main (F := Ideal))) ⟨m, fun _ => 0, g⟩ (fun r => (∀ c : Dev Cert.PleLnBwdIdeal.nD,
      r.2.mem ((c.tc : Thread Cert.PleLnBwdIdeal.nD Cert.PleLnBwdIdeal.τ).loc Cert.PleLnBwdIdeal.main_arg0) = m ((c.tc : Thread Cert.PleLnBwdIdeal.nD Cert.PleLnBwdIdeal.τ).loc Cert.PleLnBwdIdeal.main_arg0)
      ∧ r.2.mem ((c.tc : Thread Cert.PleLnBwdIdeal.nD Cert.PleLnBwdIdeal.τ).loc Cert.PleLnBwdIdeal.main_arg1) = m ((c.tc : Thread Cert.PleLnBwdIdeal.nD Cert.PleLnBwdIdeal.τ).loc Cert.PleLnBwdIdeal.main_arg1)
      ∧ r.2.mem ((c.tc : Thread Cert.PleLnBwdIdeal.nD Cert.PleLnBwdIdeal.τ).loc Cert.PleLnBwdIdeal.main_arg2) = m ((c.tc : Thread Cert.PleLnBwdIdeal.nD Cert.PleLnBwdIdeal.τ).loc Cert.PleLnBwdIdeal.main_arg2)
      ∧ r.2.mem ((c.tc : Thread Cert.PleLnBwdIdeal.nD Cert.PleLnBwdIdeal.τ).loc Cert.PleLnBwdIdeal.main_arg3) = m ((c.tc : Thread Cert.PleLnBwdIdeal.nD Cert.PleLnBwdIdeal.τ).loc Cert.PleLnBwdIdeal.main_arg3)
      ∧ r.2.mem ((c.tc : Thread Cert.PleLnBwdIdeal.nD Cert.PleLnBwdIdeal.τ).loc Cert.PleLnBwdIdeal.main_arg4) = m ((c.tc : Thread Cert.PleLnBwdIdeal.nD Cert.PleLnBwdIdeal.τ).loc Cert.PleLnBwdIdeal.main_arg4)
      ∧ r.2.mem ((c.tc : Thread Cert.PleLnBwdIdeal.nD Cert.PleLnBwdIdeal.τ).loc Cert.PleLnBwdIdeal.main_arg5) = m ((c.tc : Thread Cert.PleLnBwdIdeal.nD Cert.PleLnBwdIdeal.τ).loc Cert.PleLnBwdIdeal.main_arg5)
      ∧ r.2.mem ((c.tc : Thread Cert.PleLnBwdIdeal.nD Cert.PleLnBwdIdeal.τ).loc Cert.PleLnBwdIdeal.main_arg6) = m ((c.tc : Thread Cert.PleLnBwdIdeal.nD Cert.PleLnBwdIdeal.τ).loc Cert.PleLnBwdIdeal.main_arg6)
      ∧ r.2.mem ((c.tc : Thread Cert.PleLnBwdIdeal.nD Cert.PleLnBwdIdeal.τ).loc Cert.PleLnBwdIdeal.main_arg7) = m ((c.tc : Thread Cert.PleLnBwdIdeal.nD Cert.PleLnBwdIdeal.τ).loc Cert.PleLnBwdIdeal.main_arg7))
      ∧ r.2.sem = fun _ => 0)

def quiescent_PleLnBwdRefIdeal [hPleLnBwdRefIdeal : Cert.PleLnBwdRefIdeal.Facts] : Prop :=
  ∀ (m : (ℓ : Loc Cert.PleLnBwdRefIdeal.nD Cert.PleLnBwdRefIdeal.τ Cert.PleLnBwdRefIdeal.sig) → Buf (Elt Ideal) ℓ) (g : Dev Cert.PleLnBwdRefIdeal.nD → PrngReg), Pre_PleLnBwdRefIdeal m →
    θ_run (Cert.PleLnBwdRefIdeal.defs (F := Ideal)) (onTc (τ := Cert.PleLnBwdRefIdeal.τ) (Cert.PleLnBwdRefIdeal.main (F := Ideal))) ⟨m, fun _ => 0, g⟩ (fun r => (∀ c : Dev Cert.PleLnBwdRefIdeal.nD,
      r.2.mem ((c.tc : Thread Cert.PleLnBwdRefIdeal.nD Cert.PleLnBwdRefIdeal.τ).loc Cert.PleLnBwdRefIdeal.main_arg0) = m ((c.tc : Thread Cert.PleLnBwdRefIdeal.nD Cert.PleLnBwdRefIdeal.τ).loc Cert.PleLnBwdRefIdeal.main_arg0)
      ∧ r.2.mem ((c.tc : Thread Cert.PleLnBwdRefIdeal.nD Cert.PleLnBwdRefIdeal.τ).loc Cert.PleLnBwdRefIdeal.main_arg1) = m ((c.tc : Thread Cert.PleLnBwdRefIdeal.nD Cert.PleLnBwdRefIdeal.τ).loc Cert.PleLnBwdRefIdeal.main_arg1)
      ∧ r.2.mem ((c.tc : Thread Cert.PleLnBwdRefIdeal.nD Cert.PleLnBwdRefIdeal.τ).loc Cert.PleLnBwdRefIdeal.main_arg2) = m ((c.tc : Thread Cert.PleLnBwdRefIdeal.nD Cert.PleLnBwdRefIdeal.τ).loc Cert.PleLnBwdRefIdeal.main_arg2)
      ∧ r.2.mem ((c.tc : Thread Cert.PleLnBwdRefIdeal.nD Cert.PleLnBwdRefIdeal.τ).loc Cert.PleLnBwdRefIdeal.main_arg3) = m ((c.tc : Thread Cert.PleLnBwdRefIdeal.nD Cert.PleLnBwdRefIdeal.τ).loc Cert.PleLnBwdRefIdeal.main_arg3)
      ∧ r.2.mem ((c.tc : Thread Cert.PleLnBwdRefIdeal.nD Cert.PleLnBwdRefIdeal.τ).loc Cert.PleLnBwdRefIdeal.main_arg4) = m ((c.tc : Thread Cert.PleLnBwdRefIdeal.nD Cert.PleLnBwdRefIdeal.τ).loc Cert.PleLnBwdRefIdeal.main_arg4)
      ∧ r.2.mem ((c.tc : Thread Cert.PleLnBwdRefIdeal.nD Cert.PleLnBwdRefIdeal.τ).loc Cert.PleLnBwdRefIdeal.main_arg5) = m ((c.tc : Thread Cert.PleLnBwdRefIdeal.nD Cert.PleLnBwdRefIdeal.τ).loc Cert.PleLnBwdRefIdeal.main_arg5)
      ∧ r.2.mem ((c.tc : Thread Cert.PleLnBwdRefIdeal.nD Cert.PleLnBwdRefIdeal.τ).loc Cert.PleLnBwdRefIdeal.main_arg6) = m ((c.tc : Thread Cert.PleLnBwdRefIdeal.nD Cert.PleLnBwdRefIdeal.τ).loc Cert.PleLnBwdRefIdeal.main_arg6)
      ∧ r.2.mem ((c.tc : Thread Cert.PleLnBwdRefIdeal.nD Cert.PleLnBwdRefIdeal.τ).loc Cert.PleLnBwdRefIdeal.main_arg7) = m ((c.tc : Thread Cert.PleLnBwdRefIdeal.nD Cert.PleLnBwdRefIdeal.τ).loc Cert.PleLnBwdRefIdeal.main_arg7))
      ∧ r.2.sem = fun _ => 0)

def quiescent_PleLnBwdRefIdeal_pre_finite_ple [hPleLnBwdRefIdeal : Cert.PleLnBwdRefIdeal.Facts] [hPre_finite_ple : Cert.Pre_finite_ple.Facts] : Prop :=
  ∀ (m : (ℓ : Loc Cert.PleLnBwdRefIdeal.nD Cert.PleLnBwdRefIdeal.τ Cert.PleLnBwdRefIdeal.sig) → Buf (Elt Ideal) ℓ) (g : Dev Cert.PleLnBwdRefIdeal.nD → PrngReg), Pre_PleLnBwdRefIdeal_finite_ple m →
    θ_run (Cert.PleLnBwdRefIdeal.defs (F := Ideal)) (onTc (τ := Cert.PleLnBwdRefIdeal.τ) (Cert.PleLnBwdRefIdeal.main (F := Ideal))) ⟨m, fun _ => 0, g⟩ (fun r => (∀ c : Dev Cert.PleLnBwdRefIdeal.nD,
      r.2.mem ((c.tc : Thread Cert.PleLnBwdRefIdeal.nD Cert.PleLnBwdRefIdeal.τ).loc Cert.PleLnBwdRefIdeal.main_arg0) = m ((c.tc : Thread Cert.PleLnBwdRefIdeal.nD Cert.PleLnBwdRefIdeal.τ).loc Cert.PleLnBwdRefIdeal.main_arg0)
      ∧ r.2.mem ((c.tc : Thread Cert.PleLnBwdRefIdeal.nD Cert.PleLnBwdRefIdeal.τ).loc Cert.PleLnBwdRefIdeal.main_arg1) = m ((c.tc : Thread Cert.PleLnBwdRefIdeal.nD Cert.PleLnBwdRefIdeal.τ).loc Cert.PleLnBwdRefIdeal.main_arg1)
      ∧ r.2.mem ((c.tc : Thread Cert.PleLnBwdRefIdeal.nD Cert.PleLnBwdRefIdeal.τ).loc Cert.PleLnBwdRefIdeal.main_arg2) = m ((c.tc : Thread Cert.PleLnBwdRefIdeal.nD Cert.PleLnBwdRefIdeal.τ).loc Cert.PleLnBwdRefIdeal.main_arg2)
      ∧ r.2.mem ((c.tc : Thread Cert.PleLnBwdRefIdeal.nD Cert.PleLnBwdRefIdeal.τ).loc Cert.PleLnBwdRefIdeal.main_arg3) = m ((c.tc : Thread Cert.PleLnBwdRefIdeal.nD Cert.PleLnBwdRefIdeal.τ).loc Cert.PleLnBwdRefIdeal.main_arg3)
      ∧ r.2.mem ((c.tc : Thread Cert.PleLnBwdRefIdeal.nD Cert.PleLnBwdRefIdeal.τ).loc Cert.PleLnBwdRefIdeal.main_arg4) = m ((c.tc : Thread Cert.PleLnBwdRefIdeal.nD Cert.PleLnBwdRefIdeal.τ).loc Cert.PleLnBwdRefIdeal.main_arg4)
      ∧ r.2.mem ((c.tc : Thread Cert.PleLnBwdRefIdeal.nD Cert.PleLnBwdRefIdeal.τ).loc Cert.PleLnBwdRefIdeal.main_arg5) = m ((c.tc : Thread Cert.PleLnBwdRefIdeal.nD Cert.PleLnBwdRefIdeal.τ).loc Cert.PleLnBwdRefIdeal.main_arg5)
      ∧ r.2.mem ((c.tc : Thread Cert.PleLnBwdRefIdeal.nD Cert.PleLnBwdRefIdeal.τ).loc Cert.PleLnBwdRefIdeal.main_arg6) = m ((c.tc : Thread Cert.PleLnBwdRefIdeal.nD Cert.PleLnBwdRefIdeal.τ).loc Cert.PleLnBwdRefIdeal.main_arg6)
      ∧ r.2.mem ((c.tc : Thread Cert.PleLnBwdRefIdeal.nD Cert.PleLnBwdRefIdeal.τ).loc Cert.PleLnBwdRefIdeal.main_arg7) = m ((c.tc : Thread Cert.PleLnBwdRefIdeal.nD Cert.PleLnBwdRefIdeal.τ).loc Cert.PleLnBwdRefIdeal.main_arg7))
      ∧ r.2.sem = fun _ => 0)

def quiescent_DS5B [hDS5B : Cert.DS5B.Facts] : Prop :=
  ∀ (m : (ℓ : Loc Cert.DS5B.nD Cert.DS5B.τ Cert.DS5B.sig) → Buf (Elt Bits) ℓ) (g : Dev Cert.DS5B.nD → PrngReg), Pre_DS5B m →
    θ_run (Cert.DS5B.defs (F := Bits)) (onTc (τ := Cert.DS5B.τ) (Cert.DS5B.main (F := Bits))) ⟨m, fun _ => 0, g⟩ (fun r => (∀ c : Dev Cert.DS5B.nD,
      r.2.mem ((c.tc : Thread Cert.DS5B.nD Cert.DS5B.τ).loc Cert.DS5B.main_arg0) = m ((c.tc : Thread Cert.DS5B.nD Cert.DS5B.τ).loc Cert.DS5B.main_arg0)
      ∧ r.2.mem ((c.tc : Thread Cert.DS5B.nD Cert.DS5B.τ).loc Cert.DS5B.main_arg1) = m ((c.tc : Thread Cert.DS5B.nD Cert.DS5B.τ).loc Cert.DS5B.main_arg1))
      ∧ r.2.sem = fun _ => 0)

def quiescent_DS5BIdeal [hDS5BIdeal : Cert.DS5BIdeal.Facts] : Prop :=
  ∀ (m : (ℓ : Loc Cert.DS5BIdeal.nD Cert.DS5BIdeal.τ Cert.DS5BIdeal.sig) → Buf (Elt Ideal) ℓ) (g : Dev Cert.DS5BIdeal.nD → PrngReg), Pre_DS5BIdeal m →
    θ_run (Cert.DS5BIdeal.defs (F := Ideal)) (onTc (τ := Cert.DS5BIdeal.τ) (Cert.DS5BIdeal.main (F := Ideal))) ⟨m, fun _ => 0, g⟩ (fun r => (∀ c : Dev Cert.DS5BIdeal.nD,
      r.2.mem ((c.tc : Thread Cert.DS5BIdeal.nD Cert.DS5BIdeal.τ).loc Cert.DS5BIdeal.main_arg0) = m ((c.tc : Thread Cert.DS5BIdeal.nD Cert.DS5BIdeal.τ).loc Cert.DS5BIdeal.main_arg0)
      ∧ r.2.mem ((c.tc : Thread Cert.DS5BIdeal.nD Cert.DS5BIdeal.τ).loc Cert.DS5BIdeal.main_arg1) = m ((c.tc : Thread Cert.DS5BIdeal.nD Cert.DS5BIdeal.τ).loc Cert.DS5BIdeal.main_arg1))
      ∧ r.2.sem = fun _ => 0)

def quiescent_DS5BRefIdeal [hDS5BRefIdeal : Cert.DS5BRefIdeal.Facts] : Prop :=
  ∀ (m : (ℓ : Loc Cert.DS5BRefIdeal.nD Cert.DS5BRefIdeal.τ Cert.DS5BRefIdeal.sig) → Buf (Elt Ideal) ℓ) (g : Dev Cert.DS5BRefIdeal.nD → PrngReg), Pre_DS5BRefIdeal m →
    θ_run (Cert.DS5BRefIdeal.defs (F := Ideal)) (onTc (τ := Cert.DS5BRefIdeal.τ) (Cert.DS5BRefIdeal.main (F := Ideal))) ⟨m, fun _ => 0, g⟩ (fun r => (∀ c : Dev Cert.DS5BRefIdeal.nD,
      r.2.mem ((c.tc : Thread Cert.DS5BRefIdeal.nD Cert.DS5BRefIdeal.τ).loc Cert.DS5BRefIdeal.main_arg0) = m ((c.tc : Thread Cert.DS5BRefIdeal.nD Cert.DS5BRefIdeal.τ).loc Cert.DS5BRefIdeal.main_arg0)
      ∧ r.2.mem ((c.tc : Thread Cert.DS5BRefIdeal.nD Cert.DS5BRefIdeal.τ).loc Cert.DS5BRefIdeal.main_arg1) = m ((c.tc : Thread Cert.DS5BRefIdeal.nD Cert.DS5BRefIdeal.τ).loc Cert.DS5BRefIdeal.main_arg1))
      ∧ r.2.sem = fun _ => 0)

def quiescent_DS5C [hDS5C : Cert.DS5C.Facts] : Prop :=
  ∀ (m : (ℓ : Loc Cert.DS5C.nD Cert.DS5C.τ Cert.DS5C.sig) → Buf (Elt Bits) ℓ) (g : Dev Cert.DS5C.nD → PrngReg), Pre_DS5C m →
    θ_run (Cert.DS5C.defs (F := Bits)) (onTc (τ := Cert.DS5C.τ) (Cert.DS5C.main (F := Bits))) ⟨m, fun _ => 0, g⟩ (fun r => (∀ c : Dev Cert.DS5C.nD,
      r.2.mem ((c.tc : Thread Cert.DS5C.nD Cert.DS5C.τ).loc Cert.DS5C.main_arg0) = m ((c.tc : Thread Cert.DS5C.nD Cert.DS5C.τ).loc Cert.DS5C.main_arg0)
      ∧ r.2.mem ((c.tc : Thread Cert.DS5C.nD Cert.DS5C.τ).loc Cert.DS5C.main_arg1) = m ((c.tc : Thread Cert.DS5C.nD Cert.DS5C.τ).loc Cert.DS5C.main_arg1))
      ∧ r.2.sem = fun _ => 0)

def quiescent_DS5CIdeal [hDS5CIdeal : Cert.DS5CIdeal.Facts] : Prop :=
  ∀ (m : (ℓ : Loc Cert.DS5CIdeal.nD Cert.DS5CIdeal.τ Cert.DS5CIdeal.sig) → Buf (Elt Ideal) ℓ) (g : Dev Cert.DS5CIdeal.nD → PrngReg), Pre_DS5CIdeal m →
    θ_run (Cert.DS5CIdeal.defs (F := Ideal)) (onTc (τ := Cert.DS5CIdeal.τ) (Cert.DS5CIdeal.main (F := Ideal))) ⟨m, fun _ => 0, g⟩ (fun r => (∀ c : Dev Cert.DS5CIdeal.nD,
      r.2.mem ((c.tc : Thread Cert.DS5CIdeal.nD Cert.DS5CIdeal.τ).loc Cert.DS5CIdeal.main_arg0) = m ((c.tc : Thread Cert.DS5CIdeal.nD Cert.DS5CIdeal.τ).loc Cert.DS5CIdeal.main_arg0)
      ∧ r.2.mem ((c.tc : Thread Cert.DS5CIdeal.nD Cert.DS5CIdeal.τ).loc Cert.DS5CIdeal.main_arg1) = m ((c.tc : Thread Cert.DS5CIdeal.nD Cert.DS5CIdeal.τ).loc Cert.DS5CIdeal.main_arg1))
      ∧ r.2.sem = fun _ => 0)

def quiescent_DS5CRefIdeal [hDS5CRefIdeal : Cert.DS5CRefIdeal.Facts] : Prop :=
  ∀ (m : (ℓ : Loc Cert.DS5CRefIdeal.nD Cert.DS5CRefIdeal.τ Cert.DS5CRefIdeal.sig) → Buf (Elt Ideal) ℓ) (g : Dev Cert.DS5CRefIdeal.nD → PrngReg), Pre_DS5CRefIdeal m →
    θ_run (Cert.DS5CRefIdeal.defs (F := Ideal)) (onTc (τ := Cert.DS5CRefIdeal.τ) (Cert.DS5CRefIdeal.main (F := Ideal))) ⟨m, fun _ => 0, g⟩ (fun r => (∀ c : Dev Cert.DS5CRefIdeal.nD,
      r.2.mem ((c.tc : Thread Cert.DS5CRefIdeal.nD Cert.DS5CRefIdeal.τ).loc Cert.DS5CRefIdeal.main_arg0) = m ((c.tc : Thread Cert.DS5CRefIdeal.nD Cert.DS5CRefIdeal.τ).loc Cert.DS5CRefIdeal.main_arg0)
      ∧ r.2.mem ((c.tc : Thread Cert.DS5CRefIdeal.nD Cert.DS5CRefIdeal.τ).loc Cert.DS5CRefIdeal.main_arg1) = m ((c.tc : Thread Cert.DS5CRefIdeal.nD Cert.DS5CRefIdeal.τ).loc Cert.DS5CRefIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47)
      ∧ r.2.mem ((c.tc : Thread Cert.AdamSmall.nD Cert.AdamSmall.τ).loc Cert.AdamSmall.main_arg48) = m ((c.tc : Thread Cert.AdamSmall.nD Cert.AdamSmall.τ).loc Cert.AdamSmall.main_arg48)
      ∧ r.2.mem ((c.tc : Thread Cert.AdamSmall.nD Cert.AdamSmall.τ).loc Cert.AdamSmall.main_arg49) = m ((c.tc : Thread Cert.AdamSmall.nD Cert.AdamSmall.τ).loc Cert.AdamSmall.main_arg49)
      ∧ r.2.mem ((c.tc : Thread Cert.AdamSmall.nD Cert.AdamSmall.τ).loc Cert.AdamSmall.main_arg50) = m ((c.tc : Thread Cert.AdamSmall.nD Cert.AdamSmall.τ).loc Cert.AdamSmall.main_arg50)
      ∧ r.2.mem ((c.tc : Thread Cert.AdamSmall.nD Cert.AdamSmall.τ).loc Cert.AdamSmall.main_arg51) = m ((c.tc : Thread Cert.AdamSmall.nD Cert.AdamSmall.τ).loc Cert.AdamSmall.main_arg51)
      ∧ r.2.mem ((c.tc : Thread Cert.AdamSmall.nD Cert.AdamSmall.τ).loc Cert.AdamSmall.main_arg52) = m ((c.tc : Thread Cert.AdamSmall.nD Cert.AdamSmall.τ).loc Cert.AdamSmall.main_arg52)
      ∧ r.2.mem ((c.tc : Thread Cert.AdamSmall.nD Cert.AdamSmall.τ).loc Cert.AdamSmall.main_arg53) = m ((c.tc : Thread Cert.AdamSmall.nD Cert.AdamSmall.τ).loc Cert.AdamSmall.main_arg53)
      ∧ r.2.mem ((c.tc : Thread Cert.AdamSmall.nD Cert.AdamSmall.τ).loc Cert.AdamSmall.main_arg54) = m ((c.tc : Thread Cert.AdamSmall.nD Cert.AdamSmall.τ).loc Cert.AdamSmall.main_arg54)
      ∧ r.2.mem ((c.tc : Thread Cert.AdamSmall.nD Cert.AdamSmall.τ).loc Cert.AdamSmall.main_arg55) = m ((c.tc : Thread Cert.AdamSmall.nD Cert.AdamSmall.τ).loc Cert.AdamSmall.main_arg55)
      ∧ r.2.mem ((c.tc : Thread Cert.AdamSmall.nD Cert.AdamSmall.τ).loc Cert.AdamSmall.main_arg56) = m ((c.tc : Thread Cert.AdamSmall.nD Cert.AdamSmall.τ).loc Cert.AdamSmall.main_arg56)
      ∧ r.2.mem ((c.tc : Thread Cert.AdamSmall.nD Cert.AdamSmall.τ).loc Cert.AdamSmall.main_arg57) = m ((c.tc : Thread Cert.AdamSmall.nD Cert.AdamSmall.τ).loc Cert.AdamSmall.main_arg57)
      ∧ r.2.mem ((c.tc : Thread Cert.AdamSmall.nD Cert.AdamSmall.τ).loc Cert.AdamSmall.main_arg58) = m ((c.tc : Thread Cert.AdamSmall.nD Cert.AdamSmall.τ).loc Cert.AdamSmall.main_arg58)
      ∧ r.2.mem ((c.tc : Thread Cert.AdamSmall.nD Cert.AdamSmall.τ).loc Cert.AdamSmall.main_arg59) = m ((c.tc : Thread Cert.AdamSmall.nD Cert.AdamSmall.τ).loc Cert.AdamSmall.main_arg59)
      ∧ r.2.mem ((c.tc : Thread Cert.AdamSmall.nD Cert.AdamSmall.τ).loc Cert.AdamSmall.main_arg60) = m ((c.tc : Thread Cert.AdamSmall.nD Cert.AdamSmall.τ).loc Cert.AdamSmall.main_arg60)
      ∧ r.2.mem ((c.tc : Thread Cert.AdamSmall.nD Cert.AdamSmall.τ).loc Cert.AdamSmall.main_arg61) = m ((c.tc : Thread Cert.AdamSmall.nD Cert.AdamSmall.τ).loc Cert.AdamSmall.main_arg61)
      ∧ r.2.mem ((c.tc : Thread Cert.AdamSmall.nD Cert.AdamSmall.τ).loc Cert.AdamSmall.main_arg62) = m ((c.tc : Thread Cert.AdamSmall.nD Cert.AdamSmall.τ).loc Cert.AdamSmall.main_arg62)
      ∧ r.2.mem ((c.tc : Thread Cert.AdamSmall.nD Cert.AdamSmall.τ).loc Cert.AdamSmall.main_arg63) = m ((c.tc : Thread Cert.AdamSmall.nD Cert.AdamSmall.τ).loc Cert.AdamSmall.main_arg63)
      ∧ r.2.mem ((c.tc : Thread Cert.AdamSmall.nD Cert.AdamSmall.τ).loc Cert.AdamSmall.main_arg64) = m ((c.tc : Thread Cert.AdamSmall.nD Cert.AdamSmall.τ).loc Cert.AdamSmall.main_arg64)
      ∧ r.2.mem ((c.tc : Thread Cert.AdamSmall.nD Cert.AdamSmall.τ).loc Cert.AdamSmall.main_arg65) = m ((c.tc : Thread Cert.AdamSmall.nD Cert.AdamSmall.τ).loc Cert.AdamSmall.main_arg65)
      ∧ r.2.mem ((c.tc : Thread Cert.AdamSmall.nD Cert.AdamSmall.τ).loc Cert.AdamSmall.main_arg66) = m ((c.tc : Thread Cert.AdamSmall.nD Cert.AdamSmall.τ).loc Cert.AdamSmall.main_arg66)
      ∧ r.2.mem ((c.tc : Thread Cert.AdamSmall.nD Cert.AdamSmall.τ).loc Cert.AdamSmall.main_arg67) = m ((c.tc : Thread Cert.AdamSmall.nD Cert.AdamSmall.τ).loc Cert.AdamSmall.main_arg67)
      ∧ r.2.mem ((c.tc : Thread Cert.AdamSmall.nD Cert.AdamSmall.τ).loc Cert.AdamSmall.main_arg68) = m ((c.tc : Thread Cert.AdamSmall.nD Cert.AdamSmall.τ).loc Cert.AdamSmall.main_arg68)
      ∧ r.2.mem ((c.tc : Thread Cert.AdamSmall.nD Cert.AdamSmall.τ).loc Cert.AdamSmall.main_arg69) = m ((c.tc : Thread Cert.AdamSmall.nD Cert.AdamSmall.τ).loc Cert.AdamSmall.main_arg69)
      ∧ r.2.mem ((c.tc : Thread Cert.AdamSmall.nD Cert.AdamSmall.τ).loc Cert.AdamSmall.main_arg70) = m ((c.tc : Thread Cert.AdamSmall.nD Cert.AdamSmall.τ).loc Cert.AdamSmall.main_arg70)
      ∧ r.2.mem ((c.tc : Thread Cert.AdamSmall.nD Cert.AdamSmall.τ).loc Cert.AdamSmall.main_arg71) = m ((c.tc : Thread Cert.AdamSmall.nD Cert.AdamSmall.τ).loc Cert.AdamSmall.main_arg71))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
      ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
      ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
      ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
      ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
      ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
      ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
      ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
      ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55)
      ∧ r.2.mem ((c.tc : Thread Cert.AdamSmallIdeal.nD Cert.AdamSmallIdeal.τ).loc Cert.AdamSmallIdeal.main_arg56) = m ((c.tc : Thread Cert.AdamSmallIdeal.nD Cert.AdamSmallIdeal.τ).loc Cert.AdamSmallIdeal.main_arg56)
      ∧ r.2.mem ((c.tc : Thread Cert.AdamSmallIdeal.nD Cert.AdamSmallIdeal.τ).loc Cert.AdamSmallIdeal.main_arg57) = m ((c.tc : Thread Cert.AdamSmallIdeal.nD Cert.AdamSmallIdeal.τ).loc Cert.AdamSmallIdeal.main_arg57)
      ∧ r.2.mem ((c.tc : Thread Cert.AdamSmallIdeal.nD Cert.AdamSmallIdeal.τ).loc Cert.AdamSmallIdeal.main_arg58) = m ((c.tc : Thread Cert.AdamSmallIdeal.nD Cert.AdamSmallIdeal.τ).loc Cert.AdamSmallIdeal.main_arg58)
      ∧ r.2.mem ((c.tc : Thread Cert.AdamSmallIdeal.nD Cert.AdamSmallIdeal.τ).loc Cert.AdamSmallIdeal.main_arg59) = m ((c.tc : Thread Cert.AdamSmallIdeal.nD Cert.AdamSmallIdeal.τ).loc Cert.AdamSmallIdeal.main_arg59)
      ∧ r.2.mem ((c.tc : Thread Cert.AdamSmallIdeal.nD Cert.AdamSmallIdeal.τ).loc Cert.AdamSmallIdeal.main_arg60) = m ((c.tc : Thread Cert.AdamSmallIdeal.nD Cert.AdamSmallIdeal.τ).loc Cert.AdamSmallIdeal.main_arg60)
      ∧ r.2.mem ((c.tc : Thread Cert.AdamSmallIdeal.nD Cert.AdamSmallIdeal.τ).loc Cert.AdamSmallIdeal.main_arg61) = m ((c.tc : Thread Cert.AdamSmallIdeal.nD Cert.AdamSmallIdeal.τ).loc Cert.AdamSmallIdeal.main_arg61)
      ∧ r.2.mem ((c.tc : Thread Cert.AdamSmallIdeal.nD Cert.AdamSmallIdeal.τ).loc Cert.AdamSmallIdeal.main_arg62) = m ((c.tc : Thread Cert.AdamSmallIdeal.nD Cert.AdamSmallIdeal.τ).loc Cert.AdamSmallIdeal.main_arg62)
      ∧ r.2.mem ((c.tc : Thread Cert.AdamSmallIdeal.nD Cert.AdamSmallIdeal.τ).loc Cert.AdamSmallIdeal.main_arg63) = m ((c.tc : Thread Cert.AdamSmallIdeal.nD Cert.AdamSmallIdeal.τ).loc Cert.AdamSmallIdeal.main_arg63)
      ∧ r.2.mem ((c.tc : Thread Cert.AdamSmallIdeal.nD Cert.AdamSmallIdeal.τ).loc Cert.AdamSmallIdeal.main_arg64) = m ((c.tc : Thread Cert.AdamSmallIdeal.nD Cert.AdamSmallIdeal.τ).loc Cert.AdamSmallIdeal.main_arg64)
      ∧ r.2.mem ((c.tc : Thread Cert.AdamSmallIdeal.nD Cert.AdamSmallIdeal.τ).loc Cert.AdamSmallIdeal.main_arg65) = m ((c.tc : Thread Cert.AdamSmallIdeal.nD Cert.AdamSmallIdeal.τ).loc Cert.AdamSmallIdeal.main_arg65)
      ∧ r.2.mem ((c.tc : Thread Cert.AdamSmallIdeal.nD Cert.AdamSmallIdeal.τ).loc Cert.AdamSmallIdeal.main_arg66) = m ((c.tc : Thread Cert.AdamSmallIdeal.nD Cert.AdamSmallIdeal.τ).loc Cert.AdamSmallIdeal.main_arg66)
      ∧ r.2.mem ((c.tc : Thread Cert.AdamSmallIdeal.nD Cert.AdamSmallIdeal.τ).loc Cert.AdamSmallIdeal.main_arg67) = m ((c.tc : Thread Cert.AdamSmallIdeal.nD Cert.AdamSmallIdeal.τ).loc Cert.AdamSmallIdeal.main_arg67)
      ∧ r.2.mem ((c.tc : Thread Cert.AdamSmallIdeal.nD Cert.AdamSmallIdeal.τ).loc Cert.AdamSmallIdeal.main_arg68) = m ((c.tc : Thread Cert.AdamSmallIdeal.nD Cert.AdamSmallIdeal.τ).loc Cert.AdamSmallIdeal.main_arg68)
      ∧ r.2.mem ((c.tc : Thread Cert.AdamSmallIdeal.nD Cert.AdamSmallIdeal.τ).loc Cert.AdamSmallIdeal.main_arg69) = m ((c.tc : Thread Cert.AdamSmallIdeal.nD Cert.AdamSmallIdeal.τ).loc Cert.AdamSmallIdeal.main_arg69)
      ∧ r.2.mem ((c.tc : Thread Cert.AdamSmallIdeal.nD Cert.AdamSmallIdeal.τ).loc Cert.AdamSmallIdeal.main_arg70) = m ((c.tc : Thread Cert.AdamSmallIdeal.nD Cert.AdamSmallIdeal.τ).loc Cert.AdamSmallIdeal.main_arg70)
      ∧ r.2.mem ((c.tc : Thread Cert.AdamSmallIdeal.nD Cert.AdamSmallIdeal.τ).loc Cert.AdamSmallIdeal.main_arg71) = m ((c.tc : Thread Cert.AdamSmallIdeal.nD Cert.AdamSmallIdeal.τ).loc Cert.AdamSmallIdeal.main_arg71))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43)
      ∧ r.2.mem ((c.tc : Thread Cert.AdamSmallRefIdeal.nD Cert.AdamSmallRefIdeal.τ).loc Cert.AdamSmallRefIdeal.main_arg44) = m ((c.tc : Thread Cert.AdamSmallRefIdeal.nD Cert.AdamSmallRefIdeal.τ).loc Cert.AdamSmallRefIdeal.main_arg44)
      ∧ r.2.mem ((c.tc : Thread Cert.AdamSmallRefIdeal.nD Cert.AdamSmallRefIdeal.τ).loc Cert.AdamSmallRefIdeal.main_arg45) = m ((c.tc : Thread Cert.AdamSmallRefIdeal.nD Cert.AdamSmallRefIdeal.τ).loc Cert.AdamSmallRefIdeal.main_arg45)
      ∧ r.2.mem ((c.tc : Thread Cert.AdamSmallRefIdeal.nD Cert.AdamSmallRefIdeal.τ).loc Cert.AdamSmallRefIdeal.main_arg46) = m ((c.tc : Thread Cert.AdamSmallRefIdeal.nD Cert.AdamSmallRefIdeal.τ).loc Cert.AdamSmallRefIdeal.main_arg46)
      ∧ r.2.mem ((c.tc : Thread Cert.AdamSmallRefIdeal.nD Cert.AdamSmallRefIdeal.τ).loc Cert.AdamSmallRefIdeal.main_arg47) = m ((c.tc : Thread Cert.AdamSmallRefIdeal.nD Cert.AdamSmallRefIdeal.τ).loc Cert.AdamSmallRefIdeal.main_arg47)
      ∧ r.2.mem ((c.tc : Thread Cert.AdamSmallRefIdeal.nD Cert.AdamSmallRefIdeal.τ).loc Cert.AdamSmallRefIdeal.main_arg48) = m ((c.tc : Thread Cert.AdamSmallRefIdeal.nD Cert.AdamSmallRefIdeal.τ).loc Cert.AdamSmallRefIdeal.main_arg48)
      ∧ r.2.mem ((c.tc : Thread Cert.AdamSmallRefIdeal.nD Cert.AdamSmallRefIdeal.τ).loc Cert.AdamSmallRefIdeal.main_arg49) = m ((c.tc : Thread Cert.AdamSmallRefIdeal.nD Cert.AdamSmallRefIdeal.τ).loc Cert.AdamSmallRefIdeal.main_arg49)
      ∧ r.2.mem ((c.tc : Thread Cert.AdamSmallRefIdeal.nD Cert.AdamSmallRefIdeal.τ).loc Cert.AdamSmallRefIdeal.main_arg50) = m ((c.tc : Thread Cert.AdamSmallRefIdeal.nD Cert.AdamSmallRefIdeal.τ).loc Cert.AdamSmallRefIdeal.main_arg50)
      ∧ r.2.mem ((c.tc : Thread Cert.AdamSmallRefIdeal.nD Cert.AdamSmallRefIdeal.τ).loc Cert.AdamSmallRefIdeal.main_arg51) = m ((c.tc : Thread Cert.AdamSmallRefIdeal.nD Cert.AdamSmallRefIdeal.τ).loc Cert.AdamSmallRefIdeal.main_arg51)
      ∧ r.2.mem ((c.tc : Thread Cert.AdamSmallRefIdeal.nD Cert.AdamSmallRefIdeal.τ).loc Cert.AdamSmallRefIdeal.main_arg52) = m ((c.tc : Thread Cert.AdamSmallRefIdeal.nD Cert.AdamSmallRefIdeal.τ).loc Cert.AdamSmallRefIdeal.main_arg52)
      ∧ r.2.mem ((c.tc : Thread Cert.AdamSmallRefIdeal.nD Cert.AdamSmallRefIdeal.τ).loc Cert.AdamSmallRefIdeal.main_arg53) = m ((c.tc : Thread Cert.AdamSmallRefIdeal.nD Cert.AdamSmallRefIdeal.τ).loc Cert.AdamSmallRefIdeal.main_arg53)
      ∧ r.2.mem ((c.tc : Thread Cert.AdamSmallRefIdeal.nD Cert.AdamSmallRefIdeal.τ).loc Cert.AdamSmallRefIdeal.main_arg54) = m ((c.tc : Thread Cert.AdamSmallRefIdeal.nD Cert.AdamSmallRefIdeal.τ).loc Cert.AdamSmallRefIdeal.main_arg54)
      ∧ r.2.mem ((c.tc : Thread Cert.AdamSmallRefIdeal.nD Cert.AdamSmallRefIdeal.τ).loc Cert.AdamSmallRefIdeal.main_arg55) = m ((c.tc : Thread Cert.AdamSmallRefIdeal.nD Cert.AdamSmallRefIdeal.τ).loc Cert.AdamSmallRefIdeal.main_arg55)
      ∧ r.2.mem ((c.tc : Thread Cert.AdamSmallRefIdeal.nD Cert.AdamSmallRefIdeal.τ).loc Cert.AdamSmallRefIdeal.main_arg56) = m ((c.tc : Thread Cert.AdamSmallRefIdeal.nD Cert.AdamSmallRefIdeal.τ).loc Cert.AdamSmallRefIdeal.main_arg56)
      ∧ r.2.mem ((c.tc : Thread Cert.AdamSmallRefIdeal.nD Cert.AdamSmallRefIdeal.τ).loc Cert.AdamSmallRefIdeal.main_arg57) = m ((c.tc : Thread Cert.AdamSmallRefIdeal.nD Cert.AdamSmallRefIdeal.τ).loc Cert.AdamSmallRefIdeal.main_arg57)
      ∧ r.2.mem ((c.tc : Thread Cert.AdamSmallRefIdeal.nD Cert.AdamSmallRefIdeal.τ).loc Cert.AdamSmallRefIdeal.main_arg58) = m ((c.tc : Thread Cert.AdamSmallRefIdeal.nD Cert.AdamSmallRefIdeal.τ).loc Cert.AdamSmallRefIdeal.main_arg58)
      ∧ r.2.mem ((c.tc : Thread Cert.AdamSmallRefIdeal.nD Cert.AdamSmallRefIdeal.τ).loc Cert.AdamSmallRefIdeal.main_arg59) = m ((c.tc : Thread Cert.AdamSmallRefIdeal.nD Cert.AdamSmallRefIdeal.τ).loc Cert.AdamSmallRefIdeal.main_arg59)
      ∧ r.2.mem ((c.tc : Thread Cert.AdamSmallRefIdeal.nD Cert.AdamSmallRefIdeal.τ).loc Cert.AdamSmallRefIdeal.main_arg60) = m ((c.tc : Thread Cert.AdamSmallRefIdeal.nD Cert.AdamSmallRefIdeal.τ).loc Cert.AdamSmallRefIdeal.main_arg60)
      ∧ r.2.mem ((c.tc : Thread Cert.AdamSmallRefIdeal.nD Cert.AdamSmallRefIdeal.τ).loc Cert.AdamSmallRefIdeal.main_arg61) = m ((c.tc : Thread Cert.AdamSmallRefIdeal.nD Cert.AdamSmallRefIdeal.τ).loc Cert.AdamSmallRefIdeal.main_arg61)
      ∧ r.2.mem ((c.tc : Thread Cert.AdamSmallRefIdeal.nD Cert.AdamSmallRefIdeal.τ).loc Cert.AdamSmallRefIdeal.main_arg62) = m ((c.tc : Thread Cert.AdamSmallRefIdeal.nD Cert.AdamSmallRefIdeal.τ).loc Cert.AdamSmallRefIdeal.main_arg62)
      ∧ r.2.mem ((c.tc : Thread Cert.AdamSmallRefIdeal.nD Cert.AdamSmallRefIdeal.τ).loc Cert.AdamSmallRefIdeal.main_arg63) = m ((c.tc : Thread Cert.AdamSmallRefIdeal.nD Cert.AdamSmallRefIdeal.τ).loc Cert.AdamSmallRefIdeal.main_arg63)
      ∧ r.2.mem ((c.tc : Thread Cert.AdamSmallRefIdeal.nD Cert.AdamSmallRefIdeal.τ).loc Cert.AdamSmallRefIdeal.main_arg64) = m ((c.tc : Thread Cert.AdamSmallRefIdeal.nD Cert.AdamSmallRefIdeal.τ).loc Cert.AdamSmallRefIdeal.main_arg64)
      ∧ r.2.mem ((c.tc : Thread Cert.AdamSmallRefIdeal.nD Cert.AdamSmallRefIdeal.τ).loc Cert.AdamSmallRefIdeal.main_arg65) = m ((c.tc : Thread Cert.AdamSmallRefIdeal.nD Cert.AdamSmallRefIdeal.τ).loc Cert.AdamSmallRefIdeal.main_arg65)
      ∧ r.2.mem ((c.tc : Thread Cert.AdamSmallRefIdeal.nD Cert.AdamSmallRefIdeal.τ).loc Cert.AdamSmallRefIdeal.main_arg66) = m ((c.tc : Thread Cert.AdamSmallRefIdeal.nD Cert.AdamSmallRefIdeal.τ).loc Cert.AdamSmallRefIdeal.main_arg66)
      ∧ r.2.mem ((c.tc : Thread Cert.AdamSmallRefIdeal.nD Cert.AdamSmallRefIdeal.τ).loc Cert.AdamSmallRefIdeal.main_arg67) = m ((c.tc : Thread Cert.AdamSmallRefIdeal.nD Cert.AdamSmallRefIdeal.τ).loc Cert.AdamSmallRefIdeal.main_arg67)
      ∧ r.2.mem ((c.tc : Thread Cert.AdamSmallRefIdeal.nD Cert.AdamSmallRefIdeal.τ).loc Cert.AdamSmallRefIdeal.main_arg68) = m ((c.tc : Thread Cert.AdamSmallRefIdeal.nD Cert.AdamSmallRefIdeal.τ).loc Cert.AdamSmallRefIdeal.main_arg68)
      ∧ r.2.mem ((c.tc : Thread Cert.AdamSmallRefIdeal.nD Cert.AdamSmallRefIdeal.τ).loc Cert.AdamSmallRefIdeal.main_arg69) = m ((c.tc : Thread Cert.AdamSmallRefIdeal.nD Cert.AdamSmallRefIdeal.τ).loc Cert.AdamSmallRefIdeal.main_arg69)
      ∧ r.2.mem ((c.tc : Thread Cert.AdamSmallRefIdeal.nD Cert.AdamSmallRefIdeal.τ).loc Cert.AdamSmallRefIdeal.main_arg70) = m ((c.tc : Thread Cert.AdamSmallRefIdeal.nD Cert.AdamSmallRefIdeal.τ).loc Cert.AdamSmallRefIdeal.main_arg70)
      ∧ r.2.mem ((c.tc : Thread Cert.AdamSmallRefIdeal.nD Cert.AdamSmallRefIdeal.τ).loc Cert.AdamSmallRefIdeal.main_arg71) = m ((c.tc : Thread Cert.AdamSmallRefIdeal.nD Cert.AdamSmallRefIdeal.τ).loc Cert.AdamSmallRefIdeal.main_arg71))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0)
      ∧ r.2.mem ((c.tc : Thread Cert.SumIn.nD Cert.SumIn.τ).loc Cert.SumIn.main_arg1) = m ((c.tc : Thread Cert.SumIn.nD Cert.SumIn.τ).loc Cert.SumIn.main_arg1))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
      ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0)
      ∧ r.2.mem ((c.tc : Thread Cert.SumInRefIdeal.nD Cert.SumInRefIdeal.τ).loc Cert.SumInRefIdeal.main_arg1) = m ((c.tc : Thread Cert.SumInRefIdeal.nD Cert.SumInRefIdeal.τ).loc Cert.SumInRefIdeal.main_arg1))
      ∧ r.2.sem = fun _ => 0)

def quiescent_SumGlu [hSumGlu : Cert.SumGlu.Facts] : Prop :=
  ∀ (m : (ℓ : Loc Cert.SumGlu.nD Cert.SumGlu.τ Cert.SumGlu.sig) → Buf (Elt Bits) ℓ) (g : Dev Cert.SumGlu.nD → PrngReg), Pre_SumGlu m →
    θ_run (Cert.SumGlu.defs (F := Bits)) (onTc (τ := Cert.SumGlu.τ) (Cert.SumGlu.main (F := Bits))) ⟨m, fun _ => 0, g⟩ (fun r => (∀ c : Dev Cert.SumGlu.nD,
      r.2.mem ((c.tc : Thread Cert.SumGlu.nD Cert.SumGlu.τ).loc Cert.SumGlu.main_arg0) = m ((c.tc : Thread Cert.SumGlu.nD Cert.SumGlu.τ).loc Cert.SumGlu.main_arg0)
      ∧ r.2.mem ((c.tc : Thread Cert.SumGlu.nD Cert.SumGlu.τ).loc Cert.SumGlu.main_arg1) = m ((c.tc : Thread Cert.SumGlu.nD Cert.SumGlu.τ).loc Cert.SumGlu.main_arg1))
      ∧ r.2.sem = fun _ => 0)

def quiescent_SumGluIdeal [hSumGluIdeal : Cert.SumGluIdeal.Facts] : Prop :=
  ∀ (m : (ℓ : Loc Cert.SumGluIdeal.nD Cert.SumGluIdeal.τ Cert.SumGluIdeal.sig) → Buf (Elt Ideal) ℓ) (g : Dev Cert.SumGluIdeal.nD → PrngReg), Pre_SumGluIdeal m →
    θ_run (Cert.SumGluIdeal.defs (F := Ideal)) (onTc (τ := Cert.SumGluIdeal.τ) (Cert.SumGluIdeal.main (F := Ideal))) ⟨m, fun _ => 0, g⟩ (fun r => (∀ c : Dev Cert.SumGluIdeal.nD,
      r.2.mem ((c.tc : Thread Cert.SumGluIdeal.nD Cert.SumGluIdeal.τ).loc Cert.SumGluIdeal.main_arg0) = m ((c.tc : Thread Cert.SumGluIdeal.nD Cert.SumGluIdeal.τ).loc Cert.SumGluIdeal.main_arg0)
      ∧ r.2.mem ((c.tc : Thread Cert.SumGluIdeal.nD Cert.SumGluIdeal.τ).loc Cert.SumGluIdeal.main_arg1) = m ((c.tc : Thread Cert.SumGluIdeal.nD Cert.SumGluIdeal.τ).loc Cert.SumGluIdeal.main_arg1))
      ∧ r.2.sem = fun _ => 0)

def quiescent_SumGluRefIdeal [hSumGluRefIdeal : Cert.SumGluRefIdeal.Facts] : Prop :=
  ∀ (m : (ℓ : Loc Cert.SumGluRefIdeal.nD Cert.SumGluRefIdeal.τ Cert.SumGluRefIdeal.sig) → Buf (Elt Ideal) ℓ) (g : Dev Cert.SumGluRefIdeal.nD → PrngReg), Pre_SumGluRefIdeal m →
    θ_run (Cert.SumGluRefIdeal.defs (F := Ideal)) (onTc (τ := Cert.SumGluRefIdeal.τ) (Cert.SumGluRefIdeal.main (F := Ideal))) ⟨m, fun _ => 0, g⟩ (fun r => (∀ c : Dev Cert.SumGluRefIdeal.nD,
      r.2.mem ((c.tc : Thread Cert.SumGluRefIdeal.nD Cert.SumGluRefIdeal.τ).loc Cert.SumGluRefIdeal.main_arg0) = m ((c.tc : Thread Cert.SumGluRefIdeal.nD Cert.SumGluRefIdeal.τ).loc Cert.SumGluRefIdeal.main_arg0)
      ∧ r.2.mem ((c.tc : Thread Cert.SumGluRefIdeal.nD Cert.SumGluRefIdeal.τ).loc Cert.SumGluRefIdeal.main_arg1) = m ((c.tc : Thread Cert.SumGluRefIdeal.nD Cert.SumGluRefIdeal.τ).loc Cert.SumGluRefIdeal.main_arg1))
      ∧ r.2.sem = fun _ => 0)

def quiescent_SumOut [hSumOut : Cert.SumOut.Facts] : Prop :=
  ∀ (m : (ℓ : Loc Cert.SumOut.nD Cert.SumOut.τ Cert.SumOut.sig) → Buf (Elt Bits) ℓ) (g : Dev Cert.SumOut.nD → PrngReg), Pre_SumOut m →
    θ_run (Cert.SumOut.defs (F := Bits)) (onTc (τ := Cert.SumOut.τ) (Cert.SumOut.main (F := Bits))) ⟨m, fun _ => 0, g⟩ (fun r => (∀ c : Dev Cert.SumOut.nD,
      r.2.mem ((c.tc : Thread Cert.SumOut.nD Cert.SumOut.τ).loc Cert.SumOut.main_arg0) = m ((c.tc : Thread Cert.SumOut.nD Cert.SumOut.τ).loc Cert.SumOut.main_arg0)
      ∧ r.2.mem ((c.tc : Thread Cert.SumOut.nD Cert.SumOut.τ).loc Cert.SumOut.main_arg1) = m ((c.tc : Thread Cert.SumOut.nD Cert.SumOut.τ).loc Cert.SumOut.main_arg1))
      ∧ r.2.sem = fun _ => 0)

def quiescent_SumOutIdeal [hSumOutIdeal : Cert.SumOutIdeal.Facts] : Prop :=
  ∀ (m : (ℓ : Loc Cert.SumOutIdeal.nD Cert.SumOutIdeal.τ Cert.SumOutIdeal.sig) → Buf (Elt Ideal) ℓ) (g : Dev Cert.SumOutIdeal.nD → PrngReg), Pre_SumOutIdeal m →
    θ_run (Cert.SumOutIdeal.defs (F := Ideal)) (onTc (τ := Cert.SumOutIdeal.τ) (Cert.SumOutIdeal.main (F := Ideal))) ⟨m, fun _ => 0, g⟩ (fun r => (∀ c : Dev Cert.SumOutIdeal.nD,
      r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
      ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1))
      ∧ r.2.sem = fun _ => 0)

def quiescent_SumOutRefIdeal [hSumOutRefIdeal : Cert.SumOutRefIdeal.Facts] : Prop :=
  ∀ (m : (ℓ : Loc Cert.SumOutRefIdeal.nD Cert.SumOutRefIdeal.τ Cert.SumOutRefIdeal.sig) → Buf (Elt Ideal) ℓ) (g : Dev Cert.SumOutRefIdeal.nD → PrngReg), Pre_SumOutRefIdeal m →
    θ_run (Cert.SumOutRefIdeal.defs (F := Ideal)) (onTc (τ := Cert.SumOutRefIdeal.τ) (Cert.SumOutRefIdeal.main (F := Ideal))) ⟨m, fun _ => 0, g⟩ (fun r => (∀ c : Dev Cert.SumOutRefIdeal.nD,
      r.2.mem ((c.tc : Thread Cert.SumOutRefIdeal.nD Cert.SumOutRefIdeal.τ).loc Cert.SumOutRefIdeal.main_arg0) = m ((c.tc : Thread Cert.SumOutRefIdeal.nD Cert.SumOutRefIdeal.τ).loc Cert.SumOutRefIdeal.main_arg0)
      ∧ r.2.mem ((c.tc : Thread Cert.SumOutRefIdeal.nD Cert.SumOutRefIdeal.τ).loc Cert.SumOutRefIdeal.main_arg1) = m ((c.tc : Thread Cert.SumOutRefIdeal.nD Cert.SumOutRefIdeal.τ).loc Cert.SumOutRefIdeal.main_arg1))
      ∧ r.2.sem = fun _ => 0)

def quiescent_SumUp [hSumUp : Cert.SumUp.Facts] : Prop :=
  ∀ (m : (ℓ : Loc Cert.SumUp.nD Cert.SumUp.τ Cert.SumUp.sig) → Buf (Elt Bits) ℓ) (g : Dev Cert.SumUp.nD → PrngReg), Pre_SumUp m →
    θ_run (Cert.SumUp.defs (F := Bits)) (onTc (τ := Cert.SumUp.τ) (Cert.SumUp.main (F := Bits))) ⟨m, fun _ => 0, g⟩ (fun r => (∀ c : Dev Cert.SumUp.nD,
      r.2.mem ((c.tc : Thread Cert.SumUp.nD Cert.SumUp.τ).loc Cert.SumUp.main_arg0) = m ((c.tc : Thread Cert.SumUp.nD Cert.SumUp.τ).loc Cert.SumUp.main_arg0)
      ∧ r.2.mem ((c.tc : Thread Cert.SumUp.nD Cert.SumUp.τ).loc Cert.SumUp.main_arg1) = m ((c.tc : Thread Cert.SumUp.nD Cert.SumUp.τ).loc Cert.SumUp.main_arg1))
      ∧ r.2.sem = fun _ => 0)

def quiescent_SumUpIdeal [hSumUpIdeal : Cert.SumUpIdeal.Facts] : Prop :=
  ∀ (m : (ℓ : Loc Cert.SumUpIdeal.nD Cert.SumUpIdeal.τ Cert.SumUpIdeal.sig) → Buf (Elt Ideal) ℓ) (g : Dev Cert.SumUpIdeal.nD → PrngReg), Pre_SumUpIdeal m →
    θ_run (Cert.SumUpIdeal.defs (F := Ideal)) (onTc (τ := Cert.SumUpIdeal.τ) (Cert.SumUpIdeal.main (F := Ideal))) ⟨m, fun _ => 0, g⟩ (fun r => (∀ c : Dev Cert.SumUpIdeal.nD,
      r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0)
      ∧ r.2.mem ((c.tc : Thread Cert.SumUpIdeal.nD Cert.SumUpIdeal.τ).loc Cert.SumUpIdeal.main_arg1) = m ((c.tc : Thread Cert.SumUpIdeal.nD Cert.SumUpIdeal.τ).loc Cert.SumUpIdeal.main_arg1))
      ∧ r.2.sem = fun _ => 0)

def quiescent_SumUpRefIdeal [hSumUpRefIdeal : Cert.SumUpRefIdeal.Facts] : Prop :=
  ∀ (m : (ℓ : Loc Cert.SumUpRefIdeal.nD Cert.SumUpRefIdeal.τ Cert.SumUpRefIdeal.sig) → Buf (Elt Ideal) ℓ) (g : Dev Cert.SumUpRefIdeal.nD → PrngReg), Pre_SumUpRefIdeal m →
    θ_run (Cert.SumUpRefIdeal.defs (F := Ideal)) (onTc (τ := Cert.SumUpRefIdeal.τ) (Cert.SumUpRefIdeal.main (F := Ideal))) ⟨m, fun _ => 0, g⟩ (fun r => (∀ c : Dev Cert.SumUpRefIdeal.nD,
      r.2.mem ((c.tc : Thread Cert.SumUpRefIdeal.nD Cert.SumUpRefIdeal.τ).loc Cert.SumUpRefIdeal.main_arg0) = m ((c.tc : Thread Cert.SumUpRefIdeal.nD Cert.SumUpRefIdeal.τ).loc Cert.SumUpRefIdeal.main_arg0)
      ∧ r.2.mem ((c.tc : Thread Cert.SumUpRefIdeal.nD Cert.SumUpRefIdeal.τ).loc Cert.SumUpRefIdeal.main_arg1) = m ((c.tc : Thread Cert.SumUpRefIdeal.nD Cert.SumUpRefIdeal.τ).loc Cert.SumUpRefIdeal.main_arg1))
      ∧ r.2.sem = fun _ => 0)

def quiescent_SumDown [hSumDown : Cert.SumDown.Facts] : Prop :=
  ∀ (m : (ℓ : Loc Cert.SumDown.nD Cert.SumDown.τ Cert.SumDown.sig) → Buf (Elt Bits) ℓ) (g : Dev Cert.SumDown.nD → PrngReg), Pre_SumDown m →
    θ_run (Cert.SumDown.defs (F := Bits)) (onTc (τ := Cert.SumDown.τ) (Cert.SumDown.main (F := Bits))) ⟨m, fun _ => 0, g⟩ (fun r => (∀ c : Dev Cert.SumDown.nD,
      r.2.mem ((c.tc : Thread Cert.SumDown.nD Cert.SumDown.τ).loc Cert.SumDown.main_arg0) = m ((c.tc : Thread Cert.SumDown.nD Cert.SumDown.τ).loc Cert.SumDown.main_arg0)
      ∧ r.2.mem ((c.tc : Thread Cert.SumDown.nD Cert.SumDown.τ).loc Cert.SumDown.main_arg1) = m ((c.tc : Thread Cert.SumDown.nD Cert.SumDown.τ).loc Cert.SumDown.main_arg1))
      ∧ r.2.sem = fun _ => 0)

def quiescent_SumDownIdeal [hSumDownIdeal : Cert.SumDownIdeal.Facts] : Prop :=
  ∀ (m : (ℓ : Loc Cert.SumDownIdeal.nD Cert.SumDownIdeal.τ Cert.SumDownIdeal.sig) → Buf (Elt Ideal) ℓ) (g : Dev Cert.SumDownIdeal.nD → PrngReg), Pre_SumDownIdeal m →
    θ_run (Cert.SumDownIdeal.defs (F := Ideal)) (onTc (τ := Cert.SumDownIdeal.τ) (Cert.SumDownIdeal.main (F := Ideal))) ⟨m, fun _ => 0, g⟩ (fun r => (∀ c : Dev Cert.SumDownIdeal.nD,
      r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0)
      ∧ r.2.mem ((c.tc : Thread Cert.SumDownIdeal.nD Cert.SumDownIdeal.τ).loc Cert.SumDownIdeal.main_arg1) = m ((c.tc : Thread Cert.SumDownIdeal.nD Cert.SumDownIdeal.τ).loc Cert.SumDownIdeal.main_arg1))
      ∧ r.2.sem = fun _ => 0)

def quiescent_SumDownRefIdeal [hSumDownRefIdeal : Cert.SumDownRefIdeal.Facts] : Prop :=
  ∀ (m : (ℓ : Loc Cert.SumDownRefIdeal.nD Cert.SumDownRefIdeal.τ Cert.SumDownRefIdeal.sig) → Buf (Elt Ideal) ℓ) (g : Dev Cert.SumDownRefIdeal.nD → PrngReg), Pre_SumDownRefIdeal m →
    θ_run (Cert.SumDownRefIdeal.defs (F := Ideal)) (onTc (τ := Cert.SumDownRefIdeal.τ) (Cert.SumDownRefIdeal.main (F := Ideal))) ⟨m, fun _ => 0, g⟩ (fun r => (∀ c : Dev Cert.SumDownRefIdeal.nD,
      r.2.mem ((c.tc : Thread Cert.SumDownRefIdeal.nD Cert.SumDownRefIdeal.τ).loc Cert.SumDownRefIdeal.main_arg0) = m ((c.tc : Thread Cert.SumDownRefIdeal.nD Cert.SumDownRefIdeal.τ).loc Cert.SumDownRefIdeal.main_arg0)
      ∧ r.2.mem ((c.tc : Thread Cert.SumDownRefIdeal.nD Cert.SumDownRefIdeal.τ).loc Cert.SumDownRefIdeal.main_arg1) = m ((c.tc : Thread Cert.SumDownRefIdeal.nD Cert.SumDownRefIdeal.τ).loc Cert.SumDownRefIdeal.main_arg1))
      ∧ r.2.sem = fun _ => 0)

def quiescent_SumProj [hSumProj : Cert.SumProj.Facts] : Prop :=
  ∀ (m : (ℓ : Loc Cert.SumProj.nD Cert.SumProj.τ Cert.SumProj.sig) → Buf (Elt Bits) ℓ) (g : Dev Cert.SumProj.nD → PrngReg), Pre_SumProj m →
    θ_run (Cert.SumProj.defs (F := Bits)) (onTc (τ := Cert.SumProj.τ) (Cert.SumProj.main (F := Bits))) ⟨m, fun _ => 0, g⟩ (fun r => (∀ c : Dev Cert.SumProj.nD,
      r.2.mem ((c.tc : Thread Cert.SumProj.nD Cert.SumProj.τ).loc Cert.SumProj.main_arg0) = m ((c.tc : Thread Cert.SumProj.nD Cert.SumProj.τ).loc Cert.SumProj.main_arg0)
      ∧ r.2.mem ((c.tc : Thread Cert.SumProj.nD Cert.SumProj.τ).loc Cert.SumProj.main_arg1) = m ((c.tc : Thread Cert.SumProj.nD Cert.SumProj.τ).loc Cert.SumProj.main_arg1))
      ∧ r.2.sem = fun _ => 0)

def quiescent_SumProjIdeal [hSumProjIdeal : Cert.SumProjIdeal.Facts] : Prop :=
  ∀ (m : (ℓ : Loc Cert.SumProjIdeal.nD Cert.SumProjIdeal.τ Cert.SumProjIdeal.sig) → Buf (Elt Ideal) ℓ) (g : Dev Cert.SumProjIdeal.nD → PrngReg), Pre_SumProjIdeal m →
    θ_run (Cert.SumProjIdeal.defs (F := Ideal)) (onTc (τ := Cert.SumProjIdeal.τ) (Cert.SumProjIdeal.main (F := Ideal))) ⟨m, fun _ => 0, g⟩ (fun r => (∀ c : Dev Cert.SumProjIdeal.nD,
      r.2.mem ((c.tc : Thread Cert.SumProjIdeal.nD Cert.SumProjIdeal.τ).loc Cert.SumProjIdeal.main_arg0) = m ((c.tc : Thread Cert.SumProjIdeal.nD Cert.SumProjIdeal.τ).loc Cert.SumProjIdeal.main_arg0)
      ∧ r.2.mem ((c.tc : Thread Cert.SumProjIdeal.nD Cert.SumProjIdeal.τ).loc Cert.SumProjIdeal.main_arg1) = m ((c.tc : Thread Cert.SumProjIdeal.nD Cert.SumProjIdeal.τ).loc Cert.SumProjIdeal.main_arg1))
      ∧ r.2.sem = fun _ => 0)

def quiescent_SumProjRefIdeal [hSumProjRefIdeal : Cert.SumProjRefIdeal.Facts] : Prop :=
  ∀ (m : (ℓ : Loc Cert.SumProjRefIdeal.nD Cert.SumProjRefIdeal.τ Cert.SumProjRefIdeal.sig) → Buf (Elt Ideal) ℓ) (g : Dev Cert.SumProjRefIdeal.nD → PrngReg), Pre_SumProjRefIdeal m →
    θ_run (Cert.SumProjRefIdeal.defs (F := Ideal)) (onTc (τ := Cert.SumProjRefIdeal.τ) (Cert.SumProjRefIdeal.main (F := Ideal))) ⟨m, fun _ => 0, g⟩ (fun r => (∀ c : Dev Cert.SumProjRefIdeal.nD,
      r.2.mem ((c.tc : Thread Cert.SumProjRefIdeal.nD Cert.SumProjRefIdeal.τ).loc Cert.SumProjRefIdeal.main_arg0) = m ((c.tc : Thread Cert.SumProjRefIdeal.nD Cert.SumProjRefIdeal.τ).loc Cert.SumProjRefIdeal.main_arg0)
      ∧ r.2.mem ((c.tc : Thread Cert.SumProjRefIdeal.nD Cert.SumProjRefIdeal.τ).loc Cert.SumProjRefIdeal.main_arg1) = m ((c.tc : Thread Cert.SumProjRefIdeal.nD Cert.SumProjRefIdeal.τ).loc Cert.SumProjRefIdeal.main_arg1))
      ∧ r.2.sem = fun _ => 0)

def quiescent_PoolFwd [hPoolFwd : Cert.PoolFwd.Facts] : Prop :=
  ∀ (m : (ℓ : Loc Cert.PoolFwd.nD Cert.PoolFwd.τ Cert.PoolFwd.sig) → Buf (Elt Bits) ℓ) (g : Dev Cert.PoolFwd.nD → PrngReg), Pre_PoolFwd m →
    θ_run (Cert.PoolFwd.defs (F := Bits)) (onTc (τ := Cert.PoolFwd.τ) (Cert.PoolFwd.main (F := Bits))) ⟨m, fun _ => 0, g⟩ (fun r => (∀ c : Dev Cert.PoolFwd.nD,
      r.2.mem ((c.tc : Thread Cert.PoolFwd.nD Cert.PoolFwd.τ).loc Cert.PoolFwd.main_arg0) = m ((c.tc : Thread Cert.PoolFwd.nD Cert.PoolFwd.τ).loc Cert.PoolFwd.main_arg0)
      ∧ r.2.mem ((c.tc : Thread Cert.PoolFwd.nD Cert.PoolFwd.τ).loc Cert.PoolFwd.main_arg1) = m ((c.tc : Thread Cert.PoolFwd.nD Cert.PoolFwd.τ).loc Cert.PoolFwd.main_arg1)
      ∧ r.2.mem ((c.tc : Thread Cert.PoolFwd.nD Cert.PoolFwd.τ).loc Cert.PoolFwd.main_arg2) = m ((c.tc : Thread Cert.PoolFwd.nD Cert.PoolFwd.τ).loc Cert.PoolFwd.main_arg2))
      ∧ r.2.sem = fun _ => 0)

def quiescent_PoolFwdIdeal [hPoolFwdIdeal : Cert.PoolFwdIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg), Pre_PoolFwdIdeal m →
    θ_run (Cert.PoolFwdIdeal.defs (F := Ideal)) (onTc (τ := Cert.PoolFwdIdeal.τ) (Cert.PoolFwdIdeal.main (F := Ideal))) ⟨m, fun _ => 0, g⟩ (fun r => (∀ c : Dev Cert.PoolFwdIdeal.nD,
      r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
      ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
      ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ r.2.sem = fun _ => 0)

def quiescent_PoolFwdRefIdeal [hPoolFwdRefIdeal : Cert.PoolFwdRefIdeal.Facts] : Prop :=
  ∀ (m : (ℓ : Loc Cert.PoolFwdRefIdeal.nD Cert.PoolFwdRefIdeal.τ Cert.PoolFwdRefIdeal.sig) → Buf (Elt Ideal) ℓ) (g : Dev Cert.PoolFwdRefIdeal.nD → PrngReg), Pre_PoolFwdRefIdeal m →
    θ_run (Cert.PoolFwdRefIdeal.defs (F := Ideal)) (onTc (τ := Cert.PoolFwdRefIdeal.τ) (Cert.PoolFwdRefIdeal.main (F := Ideal))) ⟨m, fun _ => 0, g⟩ (fun r => (∀ c : Dev Cert.PoolFwdRefIdeal.nD,
      r.2.mem ((c.tc : Thread Cert.PoolFwdRefIdeal.nD Cert.PoolFwdRefIdeal.τ).loc Cert.PoolFwdRefIdeal.main_arg0) = m ((c.tc : Thread Cert.PoolFwdRefIdeal.nD Cert.PoolFwdRefIdeal.τ).loc Cert.PoolFwdRefIdeal.main_arg0)
      ∧ r.2.mem ((c.tc : Thread Cert.PoolFwdRefIdeal.nD Cert.PoolFwdRefIdeal.τ).loc Cert.PoolFwdRefIdeal.main_arg1) = m ((c.tc : Thread Cert.PoolFwdRefIdeal.nD Cert.PoolFwdRefIdeal.τ).loc Cert.PoolFwdRefIdeal.main_arg1)
      ∧ r.2.mem ((c.tc : Thread Cert.PoolFwdRefIdeal.nD Cert.PoolFwdRefIdeal.τ).loc Cert.PoolFwdRefIdeal.main_arg2) = m ((c.tc : Thread Cert.PoolFwdRefIdeal.nD Cert.PoolFwdRefIdeal.τ).loc Cert.PoolFwdRefIdeal.main_arg2))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v70) = v0 c
          ∧ r.2.mem ((c.tc : Thread Cert.ConvRefIdeal.nD Cert.ConvRefIdeal.τ).loc Cert.ConvRefIdeal.main_v72) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_DFfnDown_DFfnDownIdeal : Prop :=
  True

def algebraic_DFfnDownIdeal_DFfnDownRefIdeal [hDFfnDownIdeal : Cert.DFfnDownIdeal.Facts] [hDFfnDownRefIdeal : Cert.DFfnDownRefIdeal.Facts] : Prop :=
  ∀ (m : (ℓ : Loc Cert.DFfnDownIdeal.nD Cert.DFfnDownIdeal.τ Cert.DFfnDownIdeal.sig) → Buf (Elt Ideal) ℓ) (g : Dev Cert.DFfnDownIdeal.nD → PrngReg)
    (m' : (ℓ : Loc Cert.DFfnDownRefIdeal.nD Cert.DFfnDownRefIdeal.τ Cert.DFfnDownRefIdeal.sig) → Buf (Elt Ideal) ℓ) (g' : Dev Cert.DFfnDownRefIdeal.nD → PrngReg), Pre_DFfnDownIdeal m →
    (∀ c : Dev Cert.DFfnDownIdeal.nD,
      m' ((c.tc : Thread Cert.DFfnDownRefIdeal.nD Cert.DFfnDownRefIdeal.τ).loc Cert.DFfnDownRefIdeal.main_arg0) = m ((c.tc : Thread Cert.DFfnDownIdeal.nD Cert.DFfnDownIdeal.τ).loc Cert.DFfnDownIdeal.main_arg0)
      ∧ m' ((c.tc : Thread Cert.DFfnDownRefIdeal.nD Cert.DFfnDownRefIdeal.τ).loc Cert.DFfnDownRefIdeal.main_arg1) = m ((c.tc : Thread Cert.DFfnDownIdeal.nD Cert.DFfnDownIdeal.τ).loc Cert.DFfnDownIdeal.main_arg1)) →
    ∃ (v0 : (c : Dev Cert.DFfnDownIdeal.nD) → Buf (Elt Ideal) ((c.tc : Thread Cert.DFfnDownIdeal.nD Cert.DFfnDownIdeal.τ).loc Cert.DFfnDownIdeal.main_v0_0)) (v1 : (c : Dev Cert.DFfnDownIdeal.nD) → Buf (Elt Ideal) ((c.tc : Thread Cert.DFfnDownIdeal.nD Cert.DFfnDownIdeal.τ).loc Cert.DFfnDownIdeal.main_v0_1)),
      θ_run (Cert.DFfnDownIdeal.defs (F := Ideal)) (onTc (τ := Cert.DFfnDownIdeal.τ) (Cert.DFfnDownIdeal.main (F := Ideal))) ⟨m, fun _ => 0, g⟩ (fun r => ∀ c : Dev Cert.DFfnDownIdeal.nD,
          r.2.mem ((c.tc : Thread Cert.DFfnDownIdeal.nD Cert.DFfnDownIdeal.τ).loc Cert.DFfnDownIdeal.main_v0_0) = v0 c
          ∧ r.2.mem ((c.tc : Thread Cert.DFfnDownIdeal.nD Cert.DFfnDownIdeal.τ).loc Cert.DFfnDownIdeal.main_v0_1) = v1 c
          ∧ r.2.mem ((c.tc : Thread Cert.DFfnDownIdeal.nD Cert.DFfnDownIdeal.τ).loc Cert.DFfnDownIdeal.main_arg0) = m ((c.tc : Thread Cert.DFfnDownIdeal.nD Cert.DFfnDownIdeal.τ).loc Cert.DFfnDownIdeal.main_arg0)
          ∧ r.2.mem ((c.tc : Thread Cert.DFfnDownIdeal.nD Cert.DFfnDownIdeal.τ).loc Cert.DFfnDownIdeal.main_arg1) = m ((c.tc : Thread Cert.DFfnDownIdeal.nD Cert.DFfnDownIdeal.τ).loc Cert.DFfnDownIdeal.main_arg1))
      ∧ θ_run (Cert.DFfnDownRefIdeal.defs (F := Ideal)) (onTc (τ := Cert.DFfnDownRefIdeal.τ) (Cert.DFfnDownRefIdeal.main (F := Ideal))) ⟨m', fun _ => 0, g'⟩ (fun r => ∀ c : Dev Cert.DFfnDownRefIdeal.nD,
          r.2.mem ((c.tc : Thread Cert.DFfnDownRefIdeal.nD Cert.DFfnDownRefIdeal.τ).loc Cert.DFfnDownRefIdeal.main_v4) = v0 c
          ∧ r.2.mem ((c.tc : Thread Cert.DFfnDownRefIdeal.nD Cert.DFfnDownRefIdeal.τ).loc Cert.DFfnDownRefIdeal.main_v5) = v1 c
          ∧ r.2.mem ((c.tc : Thread Cert.DFfnDownRefIdeal.nD Cert.DFfnDownRefIdeal.τ).loc Cert.DFfnDownRefIdeal.main_arg0) = m' ((c.tc : Thread Cert.DFfnDownRefIdeal.nD Cert.DFfnDownRefIdeal.τ).loc Cert.DFfnDownRefIdeal.main_arg0)
          ∧ r.2.mem ((c.tc : Thread Cert.DFfnDownRefIdeal.nD Cert.DFfnDownRefIdeal.τ).loc Cert.DFfnDownRefIdeal.main_arg1) = m' ((c.tc : Thread Cert.DFfnDownRefIdeal.nD Cert.DFfnDownRefIdeal.τ).loc Cert.DFfnDownRefIdeal.main_arg1))

def preserves_DInA_DInAIdeal : Prop :=
  True

def algebraic_DInAIdeal_DInARefIdeal [hDInAIdeal : Cert.DInAIdeal.Facts] [hDInARefIdeal : Cert.DInARefIdeal.Facts] : Prop :=
  ∀ (m : (ℓ : Loc Cert.DInAIdeal.nD Cert.DInAIdeal.τ Cert.DInAIdeal.sig) → Buf (Elt Ideal) ℓ) (g : Dev Cert.DInAIdeal.nD → PrngReg)
    (m' : (ℓ : Loc Cert.DInARefIdeal.nD Cert.DInARefIdeal.τ Cert.DInARefIdeal.sig) → Buf (Elt Ideal) ℓ) (g' : Dev Cert.DInARefIdeal.nD → PrngReg), Pre_DInAIdeal m →
    (∀ c : Dev Cert.DInAIdeal.nD,
      m' ((c.tc : Thread Cert.DInARefIdeal.nD Cert.DInARefIdeal.τ).loc Cert.DInARefIdeal.main_arg0) = m ((c.tc : Thread Cert.DInAIdeal.nD Cert.DInAIdeal.τ).loc Cert.DInAIdeal.main_arg0)
      ∧ m' ((c.tc : Thread Cert.DInARefIdeal.nD Cert.DInARefIdeal.τ).loc Cert.DInARefIdeal.main_arg1) = m ((c.tc : Thread Cert.DInAIdeal.nD Cert.DInAIdeal.τ).loc Cert.DInAIdeal.main_arg1)) →
    ∃ (v0 : (c : Dev Cert.DInAIdeal.nD) → Buf (Elt Ideal) ((c.tc : Thread Cert.DInAIdeal.nD Cert.DInAIdeal.τ).loc Cert.DInAIdeal.main_v0_0)) (v1 : (c : Dev Cert.DInAIdeal.nD) → Buf (Elt Ideal) ((c.tc : Thread Cert.DInAIdeal.nD Cert.DInAIdeal.τ).loc Cert.DInAIdeal.main_v0_1)),
      θ_run (Cert.DInAIdeal.defs (F := Ideal)) (onTc (τ := Cert.DInAIdeal.τ) (Cert.DInAIdeal.main (F := Ideal))) ⟨m, fun _ => 0, g⟩ (fun r => ∀ c : Dev Cert.DInAIdeal.nD,
          r.2.mem ((c.tc : Thread Cert.DInAIdeal.nD Cert.DInAIdeal.τ).loc Cert.DInAIdeal.main_v0_0) = v0 c
          ∧ r.2.mem ((c.tc : Thread Cert.DInAIdeal.nD Cert.DInAIdeal.τ).loc Cert.DInAIdeal.main_v0_1) = v1 c
          ∧ r.2.mem ((c.tc : Thread Cert.DInAIdeal.nD Cert.DInAIdeal.τ).loc Cert.DInAIdeal.main_arg0) = m ((c.tc : Thread Cert.DInAIdeal.nD Cert.DInAIdeal.τ).loc Cert.DInAIdeal.main_arg0)
          ∧ r.2.mem ((c.tc : Thread Cert.DInAIdeal.nD Cert.DInAIdeal.τ).loc Cert.DInAIdeal.main_arg1) = m ((c.tc : Thread Cert.DInAIdeal.nD Cert.DInAIdeal.τ).loc Cert.DInAIdeal.main_arg1))
      ∧ θ_run (Cert.DInARefIdeal.defs (F := Ideal)) (onTc (τ := Cert.DInARefIdeal.τ) (Cert.DInARefIdeal.main (F := Ideal))) ⟨m', fun _ => 0, g'⟩ (fun r => ∀ c : Dev Cert.DInARefIdeal.nD,
          r.2.mem ((c.tc : Thread Cert.DInARefIdeal.nD Cert.DInARefIdeal.τ).loc Cert.DInARefIdeal.main_v3) = v0 c
          ∧ r.2.mem ((c.tc : Thread Cert.DInARefIdeal.nD Cert.DInARefIdeal.τ).loc Cert.DInARefIdeal.main_v4) = v1 c
          ∧ r.2.mem ((c.tc : Thread Cert.DInARefIdeal.nD Cert.DInARefIdeal.τ).loc Cert.DInARefIdeal.main_arg0) = m' ((c.tc : Thread Cert.DInARefIdeal.nD Cert.DInARefIdeal.τ).loc Cert.DInARefIdeal.main_arg0)
          ∧ r.2.mem ((c.tc : Thread Cert.DInARefIdeal.nD Cert.DInARefIdeal.τ).loc Cert.DInARefIdeal.main_arg1) = m' ((c.tc : Thread Cert.DInARefIdeal.nD Cert.DInARefIdeal.τ).loc Cert.DInARefIdeal.main_arg1))

def preserves_DInB_DInBIdeal : Prop :=
  True

def algebraic_DInBIdeal_DInBRefIdeal [hDInBIdeal : Cert.DInBIdeal.Facts] [hDInBRefIdeal : Cert.DInBRefIdeal.Facts] : Prop :=
  ∀ (m : (ℓ : Loc Cert.DInBIdeal.nD Cert.DInBIdeal.τ Cert.DInBIdeal.sig) → Buf (Elt Ideal) ℓ) (g : Dev Cert.DInBIdeal.nD → PrngReg)
    (m' : (ℓ : Loc Cert.DInBRefIdeal.nD Cert.DInBRefIdeal.τ Cert.DInBRefIdeal.sig) → Buf (Elt Ideal) ℓ) (g' : Dev Cert.DInBRefIdeal.nD → PrngReg), Pre_DInBIdeal m →
    (∀ c : Dev Cert.DInBIdeal.nD,
      m' ((c.tc : Thread Cert.DInBRefIdeal.nD Cert.DInBRefIdeal.τ).loc Cert.DInBRefIdeal.main_arg0) = m ((c.tc : Thread Cert.DInBIdeal.nD Cert.DInBIdeal.τ).loc Cert.DInBIdeal.main_arg0)
      ∧ m' ((c.tc : Thread Cert.DInBRefIdeal.nD Cert.DInBRefIdeal.τ).loc Cert.DInBRefIdeal.main_arg1) = m ((c.tc : Thread Cert.DInBIdeal.nD Cert.DInBIdeal.τ).loc Cert.DInBIdeal.main_arg1)) →
    ∃ (v0 : (c : Dev Cert.DInBIdeal.nD) → Buf (Elt Ideal) ((c.tc : Thread Cert.DInBIdeal.nD Cert.DInBIdeal.τ).loc Cert.DInBIdeal.main_v0_0)) (v1 : (c : Dev Cert.DInBIdeal.nD) → Buf (Elt Ideal) ((c.tc : Thread Cert.DInBIdeal.nD Cert.DInBIdeal.τ).loc Cert.DInBIdeal.main_v0_1)),
      θ_run (Cert.DInBIdeal.defs (F := Ideal)) (onTc (τ := Cert.DInBIdeal.τ) (Cert.DInBIdeal.main (F := Ideal))) ⟨m, fun _ => 0, g⟩ (fun r => ∀ c : Dev Cert.DInBIdeal.nD,
          r.2.mem ((c.tc : Thread Cert.DInBIdeal.nD Cert.DInBIdeal.τ).loc Cert.DInBIdeal.main_v0_0) = v0 c
          ∧ r.2.mem ((c.tc : Thread Cert.DInBIdeal.nD Cert.DInBIdeal.τ).loc Cert.DInBIdeal.main_v0_1) = v1 c
          ∧ r.2.mem ((c.tc : Thread Cert.DInBIdeal.nD Cert.DInBIdeal.τ).loc Cert.DInBIdeal.main_arg0) = m ((c.tc : Thread Cert.DInBIdeal.nD Cert.DInBIdeal.τ).loc Cert.DInBIdeal.main_arg0)
          ∧ r.2.mem ((c.tc : Thread Cert.DInBIdeal.nD Cert.DInBIdeal.τ).loc Cert.DInBIdeal.main_arg1) = m ((c.tc : Thread Cert.DInBIdeal.nD Cert.DInBIdeal.τ).loc Cert.DInBIdeal.main_arg1))
      ∧ θ_run (Cert.DInBRefIdeal.defs (F := Ideal)) (onTc (τ := Cert.DInBRefIdeal.τ) (Cert.DInBRefIdeal.main (F := Ideal))) ⟨m', fun _ => 0, g'⟩ (fun r => ∀ c : Dev Cert.DInBRefIdeal.nD,
          r.2.mem ((c.tc : Thread Cert.DInBRefIdeal.nD Cert.DInBRefIdeal.τ).loc Cert.DInBRefIdeal.main_v3) = v0 c
          ∧ r.2.mem ((c.tc : Thread Cert.DInBRefIdeal.nD Cert.DInBRefIdeal.τ).loc Cert.DInBRefIdeal.main_v4) = v1 c
          ∧ r.2.mem ((c.tc : Thread Cert.DInBRefIdeal.nD Cert.DInBRefIdeal.τ).loc Cert.DInBRefIdeal.main_arg0) = m' ((c.tc : Thread Cert.DInBRefIdeal.nD Cert.DInBRefIdeal.τ).loc Cert.DInBRefIdeal.main_arg0)
          ∧ r.2.mem ((c.tc : Thread Cert.DInBRefIdeal.nD Cert.DInBRefIdeal.τ).loc Cert.DInBRefIdeal.main_arg1) = m' ((c.tc : Thread Cert.DInBRefIdeal.nD Cert.DInBRefIdeal.τ).loc Cert.DInBRefIdeal.main_arg1))

def preserves_DOut_DOutIdeal : Prop :=
  True

def algebraic_DOutIdeal_DOutRefIdeal [hDOutIdeal : Cert.DOutIdeal.Facts] [hDOutRefIdeal : Cert.DOutRefIdeal.Facts] : Prop :=
  ∀ (m : (ℓ : Loc Cert.DOutIdeal.nD Cert.DOutIdeal.τ Cert.DOutIdeal.sig) → Buf (Elt Ideal) ℓ) (g : Dev Cert.DOutIdeal.nD → PrngReg)
    (m' : (ℓ : Loc Cert.DOutRefIdeal.nD Cert.DOutRefIdeal.τ Cert.DOutRefIdeal.sig) → Buf (Elt Ideal) ℓ) (g' : Dev Cert.DOutRefIdeal.nD → PrngReg), Pre_DOutIdeal m →
    (∀ c : Dev Cert.DOutIdeal.nD,
      m' ((c.tc : Thread Cert.DOutRefIdeal.nD Cert.DOutRefIdeal.τ).loc Cert.DOutRefIdeal.main_arg0) = m ((c.tc : Thread Cert.DOutIdeal.nD Cert.DOutIdeal.τ).loc Cert.DOutIdeal.main_arg0)
      ∧ m' ((c.tc : Thread Cert.DOutRefIdeal.nD Cert.DOutRefIdeal.τ).loc Cert.DOutRefIdeal.main_arg1) = m ((c.tc : Thread Cert.DOutIdeal.nD Cert.DOutIdeal.τ).loc Cert.DOutIdeal.main_arg1)) →
    ∃ (v0 : (c : Dev Cert.DOutIdeal.nD) → Buf (Elt Ideal) ((c.tc : Thread Cert.DOutIdeal.nD Cert.DOutIdeal.τ).loc Cert.DOutIdeal.main_v0_0)) (v1 : (c : Dev Cert.DOutIdeal.nD) → Buf (Elt Ideal) ((c.tc : Thread Cert.DOutIdeal.nD Cert.DOutIdeal.τ).loc Cert.DOutIdeal.main_v0_1)),
      θ_run (Cert.DOutIdeal.defs (F := Ideal)) (onTc (τ := Cert.DOutIdeal.τ) (Cert.DOutIdeal.main (F := Ideal))) ⟨m, fun _ => 0, g⟩ (fun r => ∀ c : Dev Cert.DOutIdeal.nD,
          r.2.mem ((c.tc : Thread Cert.DOutIdeal.nD Cert.DOutIdeal.τ).loc Cert.DOutIdeal.main_v0_0) = v0 c
          ∧ r.2.mem ((c.tc : Thread Cert.DOutIdeal.nD Cert.DOutIdeal.τ).loc Cert.DOutIdeal.main_v0_1) = v1 c
          ∧ r.2.mem ((c.tc : Thread Cert.DOutIdeal.nD Cert.DOutIdeal.τ).loc Cert.DOutIdeal.main_arg0) = m ((c.tc : Thread Cert.DOutIdeal.nD Cert.DOutIdeal.τ).loc Cert.DOutIdeal.main_arg0)
          ∧ r.2.mem ((c.tc : Thread Cert.DOutIdeal.nD Cert.DOutIdeal.τ).loc Cert.DOutIdeal.main_arg1) = m ((c.tc : Thread Cert.DOutIdeal.nD Cert.DOutIdeal.τ).loc Cert.DOutIdeal.main_arg1))
      ∧ θ_run (Cert.DOutRefIdeal.defs (F := Ideal)) (onTc (τ := Cert.DOutRefIdeal.τ) (Cert.DOutRefIdeal.main (F := Ideal))) ⟨m', fun _ => 0, g'⟩ (fun r => ∀ c : Dev Cert.DOutRefIdeal.nD,
          r.2.mem ((c.tc : Thread Cert.DOutRefIdeal.nD Cert.DOutRefIdeal.τ).loc Cert.DOutRefIdeal.main_v4) = v0 c
          ∧ r.2.mem ((c.tc : Thread Cert.DOutRefIdeal.nD Cert.DOutRefIdeal.τ).loc Cert.DOutRefIdeal.main_v5) = v1 c
          ∧ r.2.mem ((c.tc : Thread Cert.DOutRefIdeal.nD Cert.DOutRefIdeal.τ).loc Cert.DOutRefIdeal.main_arg0) = m' ((c.tc : Thread Cert.DOutRefIdeal.nD Cert.DOutRefIdeal.τ).loc Cert.DOutRefIdeal.main_arg0)
          ∧ r.2.mem ((c.tc : Thread Cert.DOutRefIdeal.nD Cert.DOutRefIdeal.τ).loc Cert.DOutRefIdeal.main_arg1) = m' ((c.tc : Thread Cert.DOutRefIdeal.nD Cert.DOutRefIdeal.τ).loc Cert.DOutRefIdeal.main_arg1))

def preserves_DPleGate_DPleGateIdeal : Prop :=
  True

def algebraic_DPleGateIdeal_DPleGateRefIdeal [hDPleGateIdeal : Cert.DPleGateIdeal.Facts] [hDPleGateRefIdeal : Cert.DPleGateRefIdeal.Facts] : Prop :=
  ∀ (m : (ℓ : Loc Cert.DPleGateIdeal.nD Cert.DPleGateIdeal.τ Cert.DPleGateIdeal.sig) → Buf (Elt Ideal) ℓ) (g : Dev Cert.DPleGateIdeal.nD → PrngReg)
    (m' : (ℓ : Loc Cert.DPleGateRefIdeal.nD Cert.DPleGateRefIdeal.τ Cert.DPleGateRefIdeal.sig) → Buf (Elt Ideal) ℓ) (g' : Dev Cert.DPleGateRefIdeal.nD → PrngReg), Pre_DPleGateIdeal m →
    (∀ c : Dev Cert.DPleGateIdeal.nD,
      m' ((c.tc : Thread Cert.DPleGateRefIdeal.nD Cert.DPleGateRefIdeal.τ).loc Cert.DPleGateRefIdeal.main_arg0) = m ((c.tc : Thread Cert.DPleGateIdeal.nD Cert.DPleGateIdeal.τ).loc Cert.DPleGateIdeal.main_arg0)
      ∧ m' ((c.tc : Thread Cert.DPleGateRefIdeal.nD Cert.DPleGateRefIdeal.τ).loc Cert.DPleGateRefIdeal.main_arg1) = m ((c.tc : Thread Cert.DPleGateIdeal.nD Cert.DPleGateIdeal.τ).loc Cert.DPleGateIdeal.main_arg1)) →
    ∃ (v0 : (c : Dev Cert.DPleGateIdeal.nD) → Buf (Elt Ideal) ((c.tc : Thread Cert.DPleGateIdeal.nD Cert.DPleGateIdeal.τ).loc Cert.DPleGateIdeal.main_v0_0)) (v1 : (c : Dev Cert.DPleGateIdeal.nD) → Buf (Elt Ideal) ((c.tc : Thread Cert.DPleGateIdeal.nD Cert.DPleGateIdeal.τ).loc Cert.DPleGateIdeal.main_v0_1)),
      θ_run (Cert.DPleGateIdeal.defs (F := Ideal)) (onTc (τ := Cert.DPleGateIdeal.τ) (Cert.DPleGateIdeal.main (F := Ideal))) ⟨m, fun _ => 0, g⟩ (fun r => ∀ c : Dev Cert.DPleGateIdeal.nD,
          r.2.mem ((c.tc : Thread Cert.DPleGateIdeal.nD Cert.DPleGateIdeal.τ).loc Cert.DPleGateIdeal.main_v0_0) = v0 c
          ∧ r.2.mem ((c.tc : Thread Cert.DPleGateIdeal.nD Cert.DPleGateIdeal.τ).loc Cert.DPleGateIdeal.main_v0_1) = v1 c
          ∧ r.2.mem ((c.tc : Thread Cert.DPleGateIdeal.nD Cert.DPleGateIdeal.τ).loc Cert.DPleGateIdeal.main_arg0) = m ((c.tc : Thread Cert.DPleGateIdeal.nD Cert.DPleGateIdeal.τ).loc Cert.DPleGateIdeal.main_arg0)
          ∧ r.2.mem ((c.tc : Thread Cert.DPleGateIdeal.nD Cert.DPleGateIdeal.τ).loc Cert.DPleGateIdeal.main_arg1) = m ((c.tc : Thread Cert.DPleGateIdeal.nD Cert.DPleGateIdeal.τ).loc Cert.DPleGateIdeal.main_arg1))
      ∧ θ_run (Cert.DPleGateRefIdeal.defs (F := Ideal)) (onTc (τ := Cert.DPleGateRefIdeal.τ) (Cert.DPleGateRefIdeal.main (F := Ideal))) ⟨m', fun _ => 0, g'⟩ (fun r => ∀ c : Dev Cert.DPleGateRefIdeal.nD,
          r.2.mem ((c.tc : Thread Cert.DPleGateRefIdeal.nD Cert.DPleGateRefIdeal.τ).loc Cert.DPleGateRefIdeal.main_v4) = v0 c
          ∧ r.2.mem ((c.tc : Thread Cert.DPleGateRefIdeal.nD Cert.DPleGateRefIdeal.τ).loc Cert.DPleGateRefIdeal.main_v5) = v1 c
          ∧ r.2.mem ((c.tc : Thread Cert.DPleGateRefIdeal.nD Cert.DPleGateRefIdeal.τ).loc Cert.DPleGateRefIdeal.main_arg0) = m' ((c.tc : Thread Cert.DPleGateRefIdeal.nD Cert.DPleGateRefIdeal.τ).loc Cert.DPleGateRefIdeal.main_arg0)
          ∧ r.2.mem ((c.tc : Thread Cert.DPleGateRefIdeal.nD Cert.DPleGateRefIdeal.τ).loc Cert.DPleGateRefIdeal.main_arg1) = m' ((c.tc : Thread Cert.DPleGateRefIdeal.nD Cert.DPleGateRefIdeal.τ).loc Cert.DPleGateRefIdeal.main_arg1))

def preserves_DPleProj_DPleProjIdeal : Prop :=
  True

def algebraic_DPleProjIdeal_DPleProjRefIdeal [hDPleProjIdeal : Cert.DPleProjIdeal.Facts] [hDPleProjRefIdeal : Cert.DPleProjRefIdeal.Facts] : Prop :=
  ∀ (m : (ℓ : Loc Cert.DPleProjIdeal.nD Cert.DPleProjIdeal.τ Cert.DPleProjIdeal.sig) → Buf (Elt Ideal) ℓ) (g : Dev Cert.DPleProjIdeal.nD → PrngReg)
    (m' : (ℓ : Loc Cert.DPleProjRefIdeal.nD Cert.DPleProjRefIdeal.τ Cert.DPleProjRefIdeal.sig) → Buf (Elt Ideal) ℓ) (g' : Dev Cert.DPleProjRefIdeal.nD → PrngReg), Pre_DPleProjIdeal m →
    (∀ c : Dev Cert.DPleProjIdeal.nD,
      m' ((c.tc : Thread Cert.DPleProjRefIdeal.nD Cert.DPleProjRefIdeal.τ).loc Cert.DPleProjRefIdeal.main_arg0) = m ((c.tc : Thread Cert.DPleProjIdeal.nD Cert.DPleProjIdeal.τ).loc Cert.DPleProjIdeal.main_arg0)
      ∧ m' ((c.tc : Thread Cert.DPleProjRefIdeal.nD Cert.DPleProjRefIdeal.τ).loc Cert.DPleProjRefIdeal.main_arg1) = m ((c.tc : Thread Cert.DPleProjIdeal.nD Cert.DPleProjIdeal.τ).loc Cert.DPleProjIdeal.main_arg1)) →
    ∃ (v0 : (c : Dev Cert.DPleProjIdeal.nD) → Buf (Elt Ideal) ((c.tc : Thread Cert.DPleProjIdeal.nD Cert.DPleProjIdeal.τ).loc Cert.DPleProjIdeal.main_v0_0)) (v1 : (c : Dev Cert.DPleProjIdeal.nD) → Buf (Elt Ideal) ((c.tc : Thread Cert.DPleProjIdeal.nD Cert.DPleProjIdeal.τ).loc Cert.DPleProjIdeal.main_v0_1)),
      θ_run (Cert.DPleProjIdeal.defs (F := Ideal)) (onTc (τ := Cert.DPleProjIdeal.τ) (Cert.DPleProjIdeal.main (F := Ideal))) ⟨m, fun _ => 0, g⟩ (fun r => ∀ c : Dev Cert.DPleProjIdeal.nD,
          r.2.mem ((c.tc : Thread Cert.DPleProjIdeal.nD Cert.DPleProjIdeal.τ).loc Cert.DPleProjIdeal.main_v0_0) = v0 c
          ∧ r.2.mem ((c.tc : Thread Cert.DPleProjIdeal.nD Cert.DPleProjIdeal.τ).loc Cert.DPleProjIdeal.main_v0_1) = v1 c
          ∧ r.2.mem ((c.tc : Thread Cert.DPleProjIdeal.nD Cert.DPleProjIdeal.τ).loc Cert.DPleProjIdeal.main_arg0) = m ((c.tc : Thread Cert.DPleProjIdeal.nD Cert.DPleProjIdeal.τ).loc Cert.DPleProjIdeal.main_arg0)
          ∧ r.2.mem ((c.tc : Thread Cert.DPleProjIdeal.nD Cert.DPleProjIdeal.τ).loc Cert.DPleProjIdeal.main_arg1) = m ((c.tc : Thread Cert.DPleProjIdeal.nD Cert.DPleProjIdeal.τ).loc Cert.DPleProjIdeal.main_arg1))
      ∧ θ_run (Cert.DPleProjRefIdeal.defs (F := Ideal)) (onTc (τ := Cert.DPleProjRefIdeal.τ) (Cert.DPleProjRefIdeal.main (F := Ideal))) ⟨m', fun _ => 0, g'⟩ (fun r => ∀ c : Dev Cert.DPleProjRefIdeal.nD,
          r.2.mem ((c.tc : Thread Cert.DPleProjRefIdeal.nD Cert.DPleProjRefIdeal.τ).loc Cert.DPleProjRefIdeal.main_v4) = v0 c
          ∧ r.2.mem ((c.tc : Thread Cert.DPleProjRefIdeal.nD Cert.DPleProjRefIdeal.τ).loc Cert.DPleProjRefIdeal.main_v5) = v1 c
          ∧ r.2.mem ((c.tc : Thread Cert.DPleProjRefIdeal.nD Cert.DPleProjRefIdeal.τ).loc Cert.DPleProjRefIdeal.main_arg0) = m' ((c.tc : Thread Cert.DPleProjRefIdeal.nD Cert.DPleProjRefIdeal.τ).loc Cert.DPleProjRefIdeal.main_arg0)
          ∧ r.2.mem ((c.tc : Thread Cert.DPleProjRefIdeal.nD Cert.DPleProjRefIdeal.τ).loc Cert.DPleProjRefIdeal.main_arg1) = m' ((c.tc : Thread Cert.DPleProjRefIdeal.nD Cert.DPleProjRefIdeal.τ).loc Cert.DPleProjRefIdeal.main_arg1))

def preserves_DGlu_DGluIdeal : Prop :=
  True

def algebraic_DGluIdeal_DGluRefIdeal [hDGluIdeal : Cert.DGluIdeal.Facts] [hDGluRefIdeal : Cert.DGluRefIdeal.Facts] : Prop :=
  ∀ (m : (ℓ : Loc Cert.DGluIdeal.nD Cert.DGluIdeal.τ Cert.DGluIdeal.sig) → Buf (Elt Ideal) ℓ) (g : Dev Cert.DGluIdeal.nD → PrngReg)
    (m' : (ℓ : Loc Cert.DGluRefIdeal.nD Cert.DGluRefIdeal.τ Cert.DGluRefIdeal.sig) → Buf (Elt Ideal) ℓ) (g' : Dev Cert.DGluRefIdeal.nD → PrngReg), Pre_DGluIdeal m →
    (∀ c : Dev Cert.DGluIdeal.nD,
      m' ((c.tc : Thread Cert.DGluRefIdeal.nD Cert.DGluRefIdeal.τ).loc Cert.DGluRefIdeal.main_arg0) = m ((c.tc : Thread Cert.DGluIdeal.nD Cert.DGluIdeal.τ).loc Cert.DGluIdeal.main_arg0)
      ∧ m' ((c.tc : Thread Cert.DGluRefIdeal.nD Cert.DGluRefIdeal.τ).loc Cert.DGluRefIdeal.main_arg1) = m ((c.tc : Thread Cert.DGluIdeal.nD Cert.DGluIdeal.τ).loc Cert.DGluIdeal.main_arg1)) →
    ∃ (v0 : (c : Dev Cert.DGluIdeal.nD) → Buf (Elt Ideal) ((c.tc : Thread Cert.DGluIdeal.nD Cert.DGluIdeal.τ).loc Cert.DGluIdeal.main_v0_0)) (v1 : (c : Dev Cert.DGluIdeal.nD) → Buf (Elt Ideal) ((c.tc : Thread Cert.DGluIdeal.nD Cert.DGluIdeal.τ).loc Cert.DGluIdeal.main_v0_1)),
      θ_run (Cert.DGluIdeal.defs (F := Ideal)) (onTc (τ := Cert.DGluIdeal.τ) (Cert.DGluIdeal.main (F := Ideal))) ⟨m, fun _ => 0, g⟩ (fun r => ∀ c : Dev Cert.DGluIdeal.nD,
          r.2.mem ((c.tc : Thread Cert.DGluIdeal.nD Cert.DGluIdeal.τ).loc Cert.DGluIdeal.main_v0_0) = v0 c
          ∧ r.2.mem ((c.tc : Thread Cert.DGluIdeal.nD Cert.DGluIdeal.τ).loc Cert.DGluIdeal.main_v0_1) = v1 c
          ∧ r.2.mem ((c.tc : Thread Cert.DGluIdeal.nD Cert.DGluIdeal.τ).loc Cert.DGluIdeal.main_arg0) = m ((c.tc : Thread Cert.DGluIdeal.nD Cert.DGluIdeal.τ).loc Cert.DGluIdeal.main_arg0)
          ∧ r.2.mem ((c.tc : Thread Cert.DGluIdeal.nD Cert.DGluIdeal.τ).loc Cert.DGluIdeal.main_arg1) = m ((c.tc : Thread Cert.DGluIdeal.nD Cert.DGluIdeal.τ).loc Cert.DGluIdeal.main_arg1))
      ∧ θ_run (Cert.DGluRefIdeal.defs (F := Ideal)) (onTc (τ := Cert.DGluRefIdeal.τ) (Cert.DGluRefIdeal.main (F := Ideal))) ⟨m', fun _ => 0, g'⟩ (fun r => ∀ c : Dev Cert.DGluRefIdeal.nD,
          r.2.mem ((c.tc : Thread Cert.DGluRefIdeal.nD Cert.DGluRefIdeal.τ).loc Cert.DGluRefIdeal.main_v5) = v0 c
          ∧ r.2.mem ((c.tc : Thread Cert.DGluRefIdeal.nD Cert.DGluRefIdeal.τ).loc Cert.DGluRefIdeal.main_v6) = v1 c
          ∧ r.2.mem ((c.tc : Thread Cert.DGluRefIdeal.nD Cert.DGluRefIdeal.τ).loc Cert.DGluRefIdeal.main_arg0) = m' ((c.tc : Thread Cert.DGluRefIdeal.nD Cert.DGluRefIdeal.τ).loc Cert.DGluRefIdeal.main_arg0)
          ∧ r.2.mem ((c.tc : Thread Cert.DGluRefIdeal.nD Cert.DGluRefIdeal.τ).loc Cert.DGluRefIdeal.main_arg1) = m' ((c.tc : Thread Cert.DGluRefIdeal.nD Cert.DGluRefIdeal.τ).loc Cert.DGluRefIdeal.main_arg1))

def preserves_DFfnUp_DFfnUpIdeal : Prop :=
  True

def algebraic_DFfnUpIdeal_DFfnUpRefIdeal [hDFfnUpIdeal : Cert.DFfnUpIdeal.Facts] [hDFfnUpRefIdeal : Cert.DFfnUpRefIdeal.Facts] : Prop :=
  ∀ (m : (ℓ : Loc Cert.DFfnUpIdeal.nD Cert.DFfnUpIdeal.τ Cert.DFfnUpIdeal.sig) → Buf (Elt Ideal) ℓ) (g : Dev Cert.DFfnUpIdeal.nD → PrngReg)
    (m' : (ℓ : Loc Cert.DFfnUpRefIdeal.nD Cert.DFfnUpRefIdeal.τ Cert.DFfnUpRefIdeal.sig) → Buf (Elt Ideal) ℓ) (g' : Dev Cert.DFfnUpRefIdeal.nD → PrngReg), Pre_DFfnUpIdeal m →
    (∀ c : Dev Cert.DFfnUpIdeal.nD,
      m' ((c.tc : Thread Cert.DFfnUpRefIdeal.nD Cert.DFfnUpRefIdeal.τ).loc Cert.DFfnUpRefIdeal.main_arg0) = m ((c.tc : Thread Cert.DFfnUpIdeal.nD Cert.DFfnUpIdeal.τ).loc Cert.DFfnUpIdeal.main_arg0)
      ∧ m' ((c.tc : Thread Cert.DFfnUpRefIdeal.nD Cert.DFfnUpRefIdeal.τ).loc Cert.DFfnUpRefIdeal.main_arg1) = m ((c.tc : Thread Cert.DFfnUpIdeal.nD Cert.DFfnUpIdeal.τ).loc Cert.DFfnUpIdeal.main_arg1)) →
    ∃ (v0 : (c : Dev Cert.DFfnUpIdeal.nD) → Buf (Elt Ideal) ((c.tc : Thread Cert.DFfnUpIdeal.nD Cert.DFfnUpIdeal.τ).loc Cert.DFfnUpIdeal.main_v0_0)) (v1 : (c : Dev Cert.DFfnUpIdeal.nD) → Buf (Elt Ideal) ((c.tc : Thread Cert.DFfnUpIdeal.nD Cert.DFfnUpIdeal.τ).loc Cert.DFfnUpIdeal.main_v0_1)),
      θ_run (Cert.DFfnUpIdeal.defs (F := Ideal)) (onTc (τ := Cert.DFfnUpIdeal.τ) (Cert.DFfnUpIdeal.main (F := Ideal))) ⟨m, fun _ => 0, g⟩ (fun r => ∀ c : Dev Cert.DFfnUpIdeal.nD,
          r.2.mem ((c.tc : Thread Cert.DFfnUpIdeal.nD Cert.DFfnUpIdeal.τ).loc Cert.DFfnUpIdeal.main_v0_0) = v0 c
          ∧ r.2.mem ((c.tc : Thread Cert.DFfnUpIdeal.nD Cert.DFfnUpIdeal.τ).loc Cert.DFfnUpIdeal.main_v0_1) = v1 c
          ∧ r.2.mem ((c.tc : Thread Cert.DFfnUpIdeal.nD Cert.DFfnUpIdeal.τ).loc Cert.DFfnUpIdeal.main_arg0) = m ((c.tc : Thread Cert.DFfnUpIdeal.nD Cert.DFfnUpIdeal.τ).loc Cert.DFfnUpIdeal.main_arg0)
          ∧ r.2.mem ((c.tc : Thread Cert.DFfnUpIdeal.nD Cert.DFfnUpIdeal.τ).loc Cert.DFfnUpIdeal.main_arg1) = m ((c.tc : Thread Cert.DFfnUpIdeal.nD Cert.DFfnUpIdeal.τ).loc Cert.DFfnUpIdeal.main_arg1))
      ∧ θ_run (Cert.DFfnUpRefIdeal.defs (F := Ideal)) (onTc (τ := Cert.DFfnUpRefIdeal.τ) (Cert.DFfnUpRefIdeal.main (F := Ideal))) ⟨m', fun _ => 0, g'⟩ (fun r => ∀ c : Dev Cert.DFfnUpRefIdeal.nD,
          r.2.mem ((c.tc : Thread Cert.DFfnUpRefIdeal.nD Cert.DFfnUpRefIdeal.τ).loc Cert.DFfnUpRefIdeal.main_v4) = v0 c
          ∧ r.2.mem ((c.tc : Thread Cert.DFfnUpRefIdeal.nD Cert.DFfnUpRefIdeal.τ).loc Cert.DFfnUpRefIdeal.main_v5) = v1 c
          ∧ r.2.mem ((c.tc : Thread Cert.DFfnUpRefIdeal.nD Cert.DFfnUpRefIdeal.τ).loc Cert.DFfnUpRefIdeal.main_arg0) = m' ((c.tc : Thread Cert.DFfnUpRefIdeal.nD Cert.DFfnUpRefIdeal.τ).loc Cert.DFfnUpRefIdeal.main_arg0)
          ∧ r.2.mem ((c.tc : Thread Cert.DFfnUpRefIdeal.nD Cert.DFfnUpRefIdeal.τ).loc Cert.DFfnUpRefIdeal.main_arg1) = m' ((c.tc : Thread Cert.DFfnUpRefIdeal.nD Cert.DFfnUpRefIdeal.τ).loc Cert.DFfnUpRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v0) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v1)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v1) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v2) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_InBwdEven_InBwdEvenIdeal : Prop :=
  True

def algebraic_InBwdEvenIdeal_InBwdEvenRefIdeal [hInBwdEvenIdeal : Cert.InBwdEvenIdeal.Facts] [hInBwdEvenRefIdeal : Cert.InBwdEvenRefIdeal.Facts] : Prop :=
  ∀ (m : (ℓ : Loc Cert.InBwdEvenIdeal.nD Cert.InBwdEvenIdeal.τ Cert.InBwdEvenIdeal.sig) → Buf (Elt Ideal) ℓ) (g : Dev Cert.InBwdEvenIdeal.nD → PrngReg)
    (m' : (ℓ : Loc Cert.InBwdEvenRefIdeal.nD Cert.InBwdEvenRefIdeal.τ Cert.InBwdEvenRefIdeal.sig) → Buf (Elt Ideal) ℓ) (g' : Dev Cert.InBwdEvenRefIdeal.nD → PrngReg), Pre_InBwdEvenIdeal m →
    (∀ c : Dev Cert.InBwdEvenIdeal.nD,
      m' ((c.tc : Thread Cert.InBwdEvenRefIdeal.nD Cert.InBwdEvenRefIdeal.τ).loc Cert.InBwdEvenRefIdeal.main_arg0) = m ((c.tc : Thread Cert.InBwdEvenIdeal.nD Cert.InBwdEvenIdeal.τ).loc Cert.InBwdEvenIdeal.main_arg0)
      ∧ m' ((c.tc : Thread Cert.InBwdEvenRefIdeal.nD Cert.InBwdEvenRefIdeal.τ).loc Cert.InBwdEvenRefIdeal.main_arg1) = m ((c.tc : Thread Cert.InBwdEvenIdeal.nD Cert.InBwdEvenIdeal.τ).loc Cert.InBwdEvenIdeal.main_arg1)
      ∧ m' ((c.tc : Thread Cert.InBwdEvenRefIdeal.nD Cert.InBwdEvenRefIdeal.τ).loc Cert.InBwdEvenRefIdeal.main_arg2) = m ((c.tc : Thread Cert.InBwdEvenIdeal.nD Cert.InBwdEvenIdeal.τ).loc Cert.InBwdEvenIdeal.main_arg2)
      ∧ m' ((c.tc : Thread Cert.InBwdEvenRefIdeal.nD Cert.InBwdEvenRefIdeal.τ).loc Cert.InBwdEvenRefIdeal.main_arg3) = m ((c.tc : Thread Cert.InBwdEvenIdeal.nD Cert.InBwdEvenIdeal.τ).loc Cert.InBwdEvenIdeal.main_arg3)) →
    ∃ (v0 : (c : Dev Cert.InBwdEvenIdeal.nD) → Buf (Elt Ideal) ((c.tc : Thread Cert.InBwdEvenIdeal.nD Cert.InBwdEvenIdeal.τ).loc Cert.InBwdEvenIdeal.main_v1)),
      θ_run (Cert.InBwdEvenIdeal.defs (F := Ideal)) (onTc (τ := Cert.InBwdEvenIdeal.τ) (Cert.InBwdEvenIdeal.main (F := Ideal))) ⟨m, fun _ => 0, g⟩ (fun r => ∀ c : Dev Cert.InBwdEvenIdeal.nD,
          r.2.mem ((c.tc : Thread Cert.InBwdEvenIdeal.nD Cert.InBwdEvenIdeal.τ).loc Cert.InBwdEvenIdeal.main_v1) = v0 c
          ∧ r.2.mem ((c.tc : Thread Cert.InBwdEvenIdeal.nD Cert.InBwdEvenIdeal.τ).loc Cert.InBwdEvenIdeal.main_arg0) = m ((c.tc : Thread Cert.InBwdEvenIdeal.nD Cert.InBwdEvenIdeal.τ).loc Cert.InBwdEvenIdeal.main_arg0)
          ∧ r.2.mem ((c.tc : Thread Cert.InBwdEvenIdeal.nD Cert.InBwdEvenIdeal.τ).loc Cert.InBwdEvenIdeal.main_arg1) = m ((c.tc : Thread Cert.InBwdEvenIdeal.nD Cert.InBwdEvenIdeal.τ).loc Cert.InBwdEvenIdeal.main_arg1)
          ∧ r.2.mem ((c.tc : Thread Cert.InBwdEvenIdeal.nD Cert.InBwdEvenIdeal.τ).loc Cert.InBwdEvenIdeal.main_arg2) = m ((c.tc : Thread Cert.InBwdEvenIdeal.nD Cert.InBwdEvenIdeal.τ).loc Cert.InBwdEvenIdeal.main_arg2)
          ∧ r.2.mem ((c.tc : Thread Cert.InBwdEvenIdeal.nD Cert.InBwdEvenIdeal.τ).loc Cert.InBwdEvenIdeal.main_arg3) = m ((c.tc : Thread Cert.InBwdEvenIdeal.nD Cert.InBwdEvenIdeal.τ).loc Cert.InBwdEvenIdeal.main_arg3))
      ∧ θ_run (Cert.InBwdEvenRefIdeal.defs (F := Ideal)) (onTc (τ := Cert.InBwdEvenRefIdeal.τ) (Cert.InBwdEvenRefIdeal.main (F := Ideal))) ⟨m', fun _ => 0, g'⟩ (fun r => ∀ c : Dev Cert.InBwdEvenRefIdeal.nD,
          r.2.mem ((c.tc : Thread Cert.InBwdEvenRefIdeal.nD Cert.InBwdEvenRefIdeal.τ).loc Cert.InBwdEvenRefIdeal.main_v8) = v0 c
          ∧ r.2.mem ((c.tc : Thread Cert.InBwdEvenRefIdeal.nD Cert.InBwdEvenRefIdeal.τ).loc Cert.InBwdEvenRefIdeal.main_arg0) = m' ((c.tc : Thread Cert.InBwdEvenRefIdeal.nD Cert.InBwdEvenRefIdeal.τ).loc Cert.InBwdEvenRefIdeal.main_arg0)
          ∧ r.2.mem ((c.tc : Thread Cert.InBwdEvenRefIdeal.nD Cert.InBwdEvenRefIdeal.τ).loc Cert.InBwdEvenRefIdeal.main_arg1) = m' ((c.tc : Thread Cert.InBwdEvenRefIdeal.nD Cert.InBwdEvenRefIdeal.τ).loc Cert.InBwdEvenRefIdeal.main_arg1)
          ∧ r.2.mem ((c.tc : Thread Cert.InBwdEvenRefIdeal.nD Cert.InBwdEvenRefIdeal.τ).loc Cert.InBwdEvenRefIdeal.main_arg2) = m' ((c.tc : Thread Cert.InBwdEvenRefIdeal.nD Cert.InBwdEvenRefIdeal.τ).loc Cert.InBwdEvenRefIdeal.main_arg2)
          ∧ r.2.mem ((c.tc : Thread Cert.InBwdEvenRefIdeal.nD Cert.InBwdEvenRefIdeal.τ).loc Cert.InBwdEvenRefIdeal.main_arg3) = m' ((c.tc : Thread Cert.InBwdEvenRefIdeal.nD Cert.InBwdEvenRefIdeal.τ).loc Cert.InBwdEvenRefIdeal.main_arg3))

def preserves_InBwdOdd_InBwdOddIdeal : Prop :=
  True

def algebraic_InBwdOddIdeal_InBwdOddRefIdeal [hInBwdOddIdeal : Cert.InBwdOddIdeal.Facts] [hInBwdOddRefIdeal : Cert.InBwdOddRefIdeal.Facts] : Prop :=
  ∀ (m : (ℓ : Loc Cert.InBwdOddIdeal.nD Cert.InBwdOddIdeal.τ Cert.InBwdOddIdeal.sig) → Buf (Elt Ideal) ℓ) (g : Dev Cert.InBwdOddIdeal.nD → PrngReg)
    (m' : (ℓ : Loc Cert.InBwdOddRefIdeal.nD Cert.InBwdOddRefIdeal.τ Cert.InBwdOddRefIdeal.sig) → Buf (Elt Ideal) ℓ) (g' : Dev Cert.InBwdOddRefIdeal.nD → PrngReg), Pre_InBwdOddIdeal m →
    (∀ c : Dev Cert.InBwdOddIdeal.nD,
      m' ((c.tc : Thread Cert.InBwdOddRefIdeal.nD Cert.InBwdOddRefIdeal.τ).loc Cert.InBwdOddRefIdeal.main_arg0) = m ((c.tc : Thread Cert.InBwdOddIdeal.nD Cert.InBwdOddIdeal.τ).loc Cert.InBwdOddIdeal.main_arg0)
      ∧ m' ((c.tc : Thread Cert.InBwdOddRefIdeal.nD Cert.InBwdOddRefIdeal.τ).loc Cert.InBwdOddRefIdeal.main_arg1) = m ((c.tc : Thread Cert.InBwdOddIdeal.nD Cert.InBwdOddIdeal.τ).loc Cert.InBwdOddIdeal.main_arg1)
      ∧ m' ((c.tc : Thread Cert.InBwdOddRefIdeal.nD Cert.InBwdOddRefIdeal.τ).loc Cert.InBwdOddRefIdeal.main_arg2) = m ((c.tc : Thread Cert.InBwdOddIdeal.nD Cert.InBwdOddIdeal.τ).loc Cert.InBwdOddIdeal.main_arg2)
      ∧ m' ((c.tc : Thread Cert.InBwdOddRefIdeal.nD Cert.InBwdOddRefIdeal.τ).loc Cert.InBwdOddRefIdeal.main_arg3) = m ((c.tc : Thread Cert.InBwdOddIdeal.nD Cert.InBwdOddIdeal.τ).loc Cert.InBwdOddIdeal.main_arg3)
      ∧ m' ((c.tc : Thread Cert.InBwdOddRefIdeal.nD Cert.InBwdOddRefIdeal.τ).loc Cert.InBwdOddRefIdeal.main_arg4) = m ((c.tc : Thread Cert.InBwdOddIdeal.nD Cert.InBwdOddIdeal.τ).loc Cert.InBwdOddIdeal.main_arg4)
      ∧ m' ((c.tc : Thread Cert.InBwdOddRefIdeal.nD Cert.InBwdOddRefIdeal.τ).loc Cert.InBwdOddRefIdeal.main_arg5) = m ((c.tc : Thread Cert.InBwdOddIdeal.nD Cert.InBwdOddIdeal.τ).loc Cert.InBwdOddIdeal.main_arg5)) →
    ∃ (v0 : (c : Dev Cert.InBwdOddIdeal.nD) → Buf (Elt Ideal) ((c.tc : Thread Cert.InBwdOddIdeal.nD Cert.InBwdOddIdeal.τ).loc Cert.InBwdOddIdeal.main_v1)),
      θ_run (Cert.InBwdOddIdeal.defs (F := Ideal)) (onTc (τ := Cert.InBwdOddIdeal.τ) (Cert.InBwdOddIdeal.main (F := Ideal))) ⟨m, fun _ => 0, g⟩ (fun r => ∀ c : Dev Cert.InBwdOddIdeal.nD,
          r.2.mem ((c.tc : Thread Cert.InBwdOddIdeal.nD Cert.InBwdOddIdeal.τ).loc Cert.InBwdOddIdeal.main_v1) = v0 c
          ∧ r.2.mem ((c.tc : Thread Cert.InBwdOddIdeal.nD Cert.InBwdOddIdeal.τ).loc Cert.InBwdOddIdeal.main_arg0) = m ((c.tc : Thread Cert.InBwdOddIdeal.nD Cert.InBwdOddIdeal.τ).loc Cert.InBwdOddIdeal.main_arg0)
          ∧ r.2.mem ((c.tc : Thread Cert.InBwdOddIdeal.nD Cert.InBwdOddIdeal.τ).loc Cert.InBwdOddIdeal.main_arg1) = m ((c.tc : Thread Cert.InBwdOddIdeal.nD Cert.InBwdOddIdeal.τ).loc Cert.InBwdOddIdeal.main_arg1)
          ∧ r.2.mem ((c.tc : Thread Cert.InBwdOddIdeal.nD Cert.InBwdOddIdeal.τ).loc Cert.InBwdOddIdeal.main_arg2) = m ((c.tc : Thread Cert.InBwdOddIdeal.nD Cert.InBwdOddIdeal.τ).loc Cert.InBwdOddIdeal.main_arg2)
          ∧ r.2.mem ((c.tc : Thread Cert.InBwdOddIdeal.nD Cert.InBwdOddIdeal.τ).loc Cert.InBwdOddIdeal.main_arg3) = m ((c.tc : Thread Cert.InBwdOddIdeal.nD Cert.InBwdOddIdeal.τ).loc Cert.InBwdOddIdeal.main_arg3)
          ∧ r.2.mem ((c.tc : Thread Cert.InBwdOddIdeal.nD Cert.InBwdOddIdeal.τ).loc Cert.InBwdOddIdeal.main_arg4) = m ((c.tc : Thread Cert.InBwdOddIdeal.nD Cert.InBwdOddIdeal.τ).loc Cert.InBwdOddIdeal.main_arg4)
          ∧ r.2.mem ((c.tc : Thread Cert.InBwdOddIdeal.nD Cert.InBwdOddIdeal.τ).loc Cert.InBwdOddIdeal.main_arg5) = m ((c.tc : Thread Cert.InBwdOddIdeal.nD Cert.InBwdOddIdeal.τ).loc Cert.InBwdOddIdeal.main_arg5))
      ∧ θ_run (Cert.InBwdOddRefIdeal.defs (F := Ideal)) (onTc (τ := Cert.InBwdOddRefIdeal.τ) (Cert.InBwdOddRefIdeal.main (F := Ideal))) ⟨m', fun _ => 0, g'⟩ (fun r => ∀ c : Dev Cert.InBwdOddRefIdeal.nD,
          r.2.mem ((c.tc : Thread Cert.InBwdOddRefIdeal.nD Cert.InBwdOddRefIdeal.τ).loc Cert.InBwdOddRefIdeal.main_v8) = v0 c
          ∧ r.2.mem ((c.tc : Thread Cert.InBwdOddRefIdeal.nD Cert.InBwdOddRefIdeal.τ).loc Cert.InBwdOddRefIdeal.main_arg0) = m' ((c.tc : Thread Cert.InBwdOddRefIdeal.nD Cert.InBwdOddRefIdeal.τ).loc Cert.InBwdOddRefIdeal.main_arg0)
          ∧ r.2.mem ((c.tc : Thread Cert.InBwdOddRefIdeal.nD Cert.InBwdOddRefIdeal.τ).loc Cert.InBwdOddRefIdeal.main_arg1) = m' ((c.tc : Thread Cert.InBwdOddRefIdeal.nD Cert.InBwdOddRefIdeal.τ).loc Cert.InBwdOddRefIdeal.main_arg1)
          ∧ r.2.mem ((c.tc : Thread Cert.InBwdOddRefIdeal.nD Cert.InBwdOddRefIdeal.τ).loc Cert.InBwdOddRefIdeal.main_arg2) = m' ((c.tc : Thread Cert.InBwdOddRefIdeal.nD Cert.InBwdOddRefIdeal.τ).loc Cert.InBwdOddRefIdeal.main_arg2)
          ∧ r.2.mem ((c.tc : Thread Cert.InBwdOddRefIdeal.nD Cert.InBwdOddRefIdeal.τ).loc Cert.InBwdOddRefIdeal.main_arg3) = m' ((c.tc : Thread Cert.InBwdOddRefIdeal.nD Cert.InBwdOddRefIdeal.τ).loc Cert.InBwdOddRefIdeal.main_arg3)
          ∧ r.2.mem ((c.tc : Thread Cert.InBwdOddRefIdeal.nD Cert.InBwdOddRefIdeal.τ).loc Cert.InBwdOddRefIdeal.main_arg4) = m' ((c.tc : Thread Cert.InBwdOddRefIdeal.nD Cert.InBwdOddRefIdeal.τ).loc Cert.InBwdOddRefIdeal.main_arg4)
          ∧ r.2.mem ((c.tc : Thread Cert.InBwdOddRefIdeal.nD Cert.InBwdOddRefIdeal.τ).loc Cert.InBwdOddRefIdeal.main_arg5) = m' ((c.tc : Thread Cert.InBwdOddRefIdeal.nD Cert.InBwdOddRefIdeal.τ).loc Cert.InBwdOddRefIdeal.main_arg5))

def preserves_OutLn_OutLnIdeal : Prop :=
  True

def algebraic_OutLnIdeal_OutLnRefIdeal [hOutLnIdeal : Cert.OutLnIdeal.Facts] [hOutLnRefIdeal : Cert.OutLnRefIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)
      ∧ m' ((c.tc : Thread Cert.OutLnRefIdeal.nD Cert.OutLnRefIdeal.τ).loc Cert.OutLnRefIdeal.main_arg5) = m ((c.tc : Thread Cert.OutLnIdeal.nD Cert.OutLnIdeal.τ).loc Cert.OutLnIdeal.main_arg5)) →
    ∃ (v0 : (c : Dev Cert.OutLnIdeal.nD) → Buf (Elt Ideal) ((c.tc : Thread Cert.OutLnIdeal.nD Cert.OutLnIdeal.τ).loc Cert.OutLnIdeal.main_v3_0)) (v1 : (c : Dev Cert.OutLnIdeal.nD) → Buf (Elt Ideal) ((c.tc : Thread Cert.OutLnIdeal.nD Cert.OutLnIdeal.τ).loc Cert.OutLnIdeal.main_v3_1)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v3_0) = v0 c
          ∧ r.2.mem ((c.tc : Thread Cert.OutLnIdeal.nD Cert.OutLnIdeal.τ).loc Cert.OutLnIdeal.main_v3_1) = v1 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4)
          ∧ r.2.mem ((c.tc : Thread Cert.OutLnIdeal.nD Cert.OutLnIdeal.τ).loc Cert.OutLnIdeal.main_arg5) = m ((c.tc : Thread Cert.OutLnIdeal.nD Cert.OutLnIdeal.τ).loc Cert.OutLnIdeal.main_arg5))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v6) = v0 c
          ∧ r.2.mem ((c.tc : Thread Cert.OutLnRefIdeal.nD Cert.OutLnRefIdeal.τ).loc Cert.OutLnRefIdeal.main_v30) = v1 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4)
          ∧ r.2.mem ((c.tc : Thread Cert.OutLnRefIdeal.nD Cert.OutLnRefIdeal.τ).loc Cert.OutLnRefIdeal.main_arg5) = m' ((c.tc : Thread Cert.OutLnRefIdeal.nD Cert.OutLnRefIdeal.τ).loc Cert.OutLnRefIdeal.main_arg5))

def preserves_DownLn_DownLnIdeal : Prop :=
  True

def algebraic_DownLnIdeal_DownLnRefIdeal [hDownLnIdeal : Cert.DownLnIdeal.Facts] [hDownLnRefIdeal : Cert.DownLnRefIdeal.Facts] : Prop :=
  ∀ (m : (ℓ : Loc Cert.DownLnIdeal.nD Cert.DownLnIdeal.τ Cert.DownLnIdeal.sig) → Buf (Elt Ideal) ℓ) (g : Dev Cert.DownLnIdeal.nD → PrngReg)
    (m' : (ℓ : Loc Cert.DownLnRefIdeal.nD Cert.DownLnRefIdeal.τ Cert.DownLnRefIdeal.sig) → Buf (Elt Ideal) ℓ) (g' : Dev Cert.DownLnRefIdeal.nD → PrngReg), Pre_DownLnIdeal m →
    (∀ c : Dev Cert.DownLnIdeal.nD,
      m' ((c.tc : Thread Cert.DownLnRefIdeal.nD Cert.DownLnRefIdeal.τ).loc Cert.DownLnRefIdeal.main_arg0) = m ((c.tc : Thread Cert.DownLnIdeal.nD Cert.DownLnIdeal.τ).loc Cert.DownLnIdeal.main_arg0)
      ∧ m' ((c.tc : Thread Cert.DownLnRefIdeal.nD Cert.DownLnRefIdeal.τ).loc Cert.DownLnRefIdeal.main_arg1) = m ((c.tc : Thread Cert.DownLnIdeal.nD Cert.DownLnIdeal.τ).loc Cert.DownLnIdeal.main_arg1)
      ∧ m' ((c.tc : Thread Cert.DownLnRefIdeal.nD Cert.DownLnRefIdeal.τ).loc Cert.DownLnRefIdeal.main_arg2) = m ((c.tc : Thread Cert.DownLnIdeal.nD Cert.DownLnIdeal.τ).loc Cert.DownLnIdeal.main_arg2)
      ∧ m' ((c.tc : Thread Cert.DownLnRefIdeal.nD Cert.DownLnRefIdeal.τ).loc Cert.DownLnRefIdeal.main_arg3) = m ((c.tc : Thread Cert.DownLnIdeal.nD Cert.DownLnIdeal.τ).loc Cert.DownLnIdeal.main_arg3)
      ∧ m' ((c.tc : Thread Cert.DownLnRefIdeal.nD Cert.DownLnRefIdeal.τ).loc Cert.DownLnRefIdeal.main_arg4) = m ((c.tc : Thread Cert.DownLnIdeal.nD Cert.DownLnIdeal.τ).loc Cert.DownLnIdeal.main_arg4)) →
    ∃ (v0 : (c : Dev Cert.DownLnIdeal.nD) → Buf (Elt Ideal) ((c.tc : Thread Cert.DownLnIdeal.nD Cert.DownLnIdeal.τ).loc Cert.DownLnIdeal.main_v3_0)) (v1 : (c : Dev Cert.DownLnIdeal.nD) → Buf (Elt Ideal) ((c.tc : Thread Cert.DownLnIdeal.nD Cert.DownLnIdeal.τ).loc Cert.DownLnIdeal.main_v3_1)),
      θ_run (Cert.DownLnIdeal.defs (F := Ideal)) (onTc (τ := Cert.DownLnIdeal.τ) (Cert.DownLnIdeal.main (F := Ideal))) ⟨m, fun _ => 0, g⟩ (fun r => ∀ c : Dev Cert.DownLnIdeal.nD,
          r.2.mem ((c.tc : Thread Cert.DownLnIdeal.nD Cert.DownLnIdeal.τ).loc Cert.DownLnIdeal.main_v3_0) = v0 c
          ∧ r.2.mem ((c.tc : Thread Cert.DownLnIdeal.nD Cert.DownLnIdeal.τ).loc Cert.DownLnIdeal.main_v3_1) = v1 c
          ∧ r.2.mem ((c.tc : Thread Cert.DownLnIdeal.nD Cert.DownLnIdeal.τ).loc Cert.DownLnIdeal.main_arg0) = m ((c.tc : Thread Cert.DownLnIdeal.nD Cert.DownLnIdeal.τ).loc Cert.DownLnIdeal.main_arg0)
          ∧ r.2.mem ((c.tc : Thread Cert.DownLnIdeal.nD Cert.DownLnIdeal.τ).loc Cert.DownLnIdeal.main_arg1) = m ((c.tc : Thread Cert.DownLnIdeal.nD Cert.DownLnIdeal.τ).loc Cert.DownLnIdeal.main_arg1)
          ∧ r.2.mem ((c.tc : Thread Cert.DownLnIdeal.nD Cert.DownLnIdeal.τ).loc Cert.DownLnIdeal.main_arg2) = m ((c.tc : Thread Cert.DownLnIdeal.nD Cert.DownLnIdeal.τ).loc Cert.DownLnIdeal.main_arg2)
          ∧ r.2.mem ((c.tc : Thread Cert.DownLnIdeal.nD Cert.DownLnIdeal.τ).loc Cert.DownLnIdeal.main_arg3) = m ((c.tc : Thread Cert.DownLnIdeal.nD Cert.DownLnIdeal.τ).loc Cert.DownLnIdeal.main_arg3)
          ∧ r.2.mem ((c.tc : Thread Cert.DownLnIdeal.nD Cert.DownLnIdeal.τ).loc Cert.DownLnIdeal.main_arg4) = m ((c.tc : Thread Cert.DownLnIdeal.nD Cert.DownLnIdeal.τ).loc Cert.DownLnIdeal.main_arg4))
      ∧ θ_run (Cert.DownLnRefIdeal.defs (F := Ideal)) (onTc (τ := Cert.DownLnRefIdeal.τ) (Cert.DownLnRefIdeal.main (F := Ideal))) ⟨m', fun _ => 0, g'⟩ (fun r => ∀ c : Dev Cert.DownLnRefIdeal.nD,
          r.2.mem ((c.tc : Thread Cert.DownLnRefIdeal.nD Cert.DownLnRefIdeal.τ).loc Cert.DownLnRefIdeal.main_v4) = v0 c
          ∧ r.2.mem ((c.tc : Thread Cert.DownLnRefIdeal.nD Cert.DownLnRefIdeal.τ).loc Cert.DownLnRefIdeal.main_v28) = v1 c
          ∧ r.2.mem ((c.tc : Thread Cert.DownLnRefIdeal.nD Cert.DownLnRefIdeal.τ).loc Cert.DownLnRefIdeal.main_arg0) = m' ((c.tc : Thread Cert.DownLnRefIdeal.nD Cert.DownLnRefIdeal.τ).loc Cert.DownLnRefIdeal.main_arg0)
          ∧ r.2.mem ((c.tc : Thread Cert.DownLnRefIdeal.nD Cert.DownLnRefIdeal.τ).loc Cert.DownLnRefIdeal.main_arg1) = m' ((c.tc : Thread Cert.DownLnRefIdeal.nD Cert.DownLnRefIdeal.τ).loc Cert.DownLnRefIdeal.main_arg1)
          ∧ r.2.mem ((c.tc : Thread Cert.DownLnRefIdeal.nD Cert.DownLnRefIdeal.τ).loc Cert.DownLnRefIdeal.main_arg2) = m' ((c.tc : Thread Cert.DownLnRefIdeal.nD Cert.DownLnRefIdeal.τ).loc Cert.DownLnRefIdeal.main_arg2)
          ∧ r.2.mem ((c.tc : Thread Cert.DownLnRefIdeal.nD Cert.DownLnRefIdeal.τ).loc Cert.DownLnRefIdeal.main_arg3) = m' ((c.tc : Thread Cert.DownLnRefIdeal.nD Cert.DownLnRefIdeal.τ).loc Cert.DownLnRefIdeal.main_arg3)
          ∧ r.2.mem ((c.tc : Thread Cert.DownLnRefIdeal.nD Cert.DownLnRefIdeal.τ).loc Cert.DownLnRefIdeal.main_arg4) = m' ((c.tc : Thread Cert.DownLnRefIdeal.nD Cert.DownLnRefIdeal.τ).loc Cert.DownLnRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v3_0)) (v1 : (c : Dev Cert.PleIdeal.nD) → Buf (Elt Ideal) ((c.tc : Thread Cert.PleIdeal.nD Cert.PleIdeal.τ).loc Cert.PleIdeal.main_v3_1)) (v2 : (c : Dev Cert.PleIdeal.nD) → Buf (Elt Ideal) ((c.tc : Thread Cert.PleIdeal.nD Cert.PleIdeal.τ).loc Cert.PleIdeal.main_v3_2)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3_0) = v0 c
          ∧ r.2.mem ((c.tc : Thread Cert.PleIdeal.nD Cert.PleIdeal.τ).loc Cert.PleIdeal.main_v3_1) = v1 c
          ∧ r.2.mem ((c.tc : Thread Cert.PleIdeal.nD Cert.PleIdeal.τ).loc Cert.PleIdeal.main_v3_2) = v2 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v12) = v0 c
          ∧ r.2.mem ((c.tc : Thread Cert.PleRefIdeal.nD Cert.PleRefIdeal.τ).loc Cert.PleRefIdeal.main_v13) = v1 c
          ∧ r.2.mem ((c.tc : Thread Cert.PleRefIdeal.nD Cert.PleRefIdeal.τ).loc Cert.PleRefIdeal.main_v14) = v2 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v1_0)) (v1 : (c : Dev Cert.FfnUpIdeal.nD) → Buf (Elt Ideal) ((c.tc : Thread Cert.FfnUpIdeal.nD Cert.FfnUpIdeal.τ).loc Cert.FfnUpIdeal.main_v1_1)) (v2 : (c : Dev Cert.FfnUpIdeal.nD) → Buf (Elt Ideal) ((c.tc : Thread Cert.FfnUpIdeal.nD Cert.FfnUpIdeal.τ).loc Cert.FfnUpIdeal.main_v1_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v1_0) = v0 c
          ∧ r.2.mem ((c.tc : Thread Cert.FfnUpIdeal.nD Cert.FfnUpIdeal.τ).loc Cert.FfnUpIdeal.main_v1_1) = v1 c
          ∧ r.2.mem ((c.tc : Thread Cert.FfnUpIdeal.nD Cert.FfnUpIdeal.τ).loc Cert.FfnUpIdeal.main_v1_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_v9) = v1 c
          ∧ r.2.mem ((c.tc : Thread Cert.FfnUpRefIdeal.nD Cert.FfnUpRefIdeal.τ).loc Cert.FfnUpRefIdeal.main_v10) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_AdamEvIn_AdamEvInIdeal : Prop :=
  True

def algebraic_AdamEvInIdeal_AdamEvInRefIdeal [hAdamEvInIdeal : Cert.AdamEvInIdeal.Facts] [hAdamEvInRefIdeal : Cert.AdamEvInRefIdeal.Facts] : Prop :=
  ∀ (m : (ℓ : Loc Cert.AdamEvInIdeal.nD Cert.AdamEvInIdeal.τ Cert.AdamEvInIdeal.sig) → Buf (Elt Ideal) ℓ) (g : Dev Cert.AdamEvInIdeal.nD → PrngReg)
    (m' : (ℓ : Loc Cert.AdamEvInRefIdeal.nD Cert.AdamEvInRefIdeal.τ Cert.AdamEvInRefIdeal.sig) → Buf (Elt Ideal) ℓ) (g' : Dev Cert.AdamEvInRefIdeal.nD → PrngReg), Pre_AdamEvInIdeal m →
    (∀ c : Dev Cert.AdamEvInIdeal.nD,
      m' ((c.tc : Thread Cert.AdamEvInRefIdeal.nD Cert.AdamEvInRefIdeal.τ).loc Cert.AdamEvInRefIdeal.main_arg0) = m ((c.tc : Thread Cert.AdamEvInIdeal.nD Cert.AdamEvInIdeal.τ).loc Cert.AdamEvInIdeal.main_arg0)
      ∧ m' ((c.tc : Thread Cert.AdamEvInRefIdeal.nD Cert.AdamEvInRefIdeal.τ).loc Cert.AdamEvInRefIdeal.main_arg1) = m ((c.tc : Thread Cert.AdamEvInIdeal.nD Cert.AdamEvInIdeal.τ).loc Cert.AdamEvInIdeal.main_arg1)
      ∧ m' ((c.tc : Thread Cert.AdamEvInRefIdeal.nD Cert.AdamEvInRefIdeal.τ).loc Cert.AdamEvInRefIdeal.main_arg2) = m ((c.tc : Thread Cert.AdamEvInIdeal.nD Cert.AdamEvInIdeal.τ).loc Cert.AdamEvInIdeal.main_arg2)
      ∧ m' ((c.tc : Thread Cert.AdamEvInRefIdeal.nD Cert.AdamEvInRefIdeal.τ).loc Cert.AdamEvInRefIdeal.main_arg3) = m ((c.tc : Thread Cert.AdamEvInIdeal.nD Cert.AdamEvInIdeal.τ).loc Cert.AdamEvInIdeal.main_arg3)) →
    ∃ (v0 : (c : Dev Cert.AdamEvInIdeal.nD) → Buf (Elt Ideal) ((c.tc : Thread Cert.AdamEvInIdeal.nD Cert.AdamEvInIdeal.τ).loc Cert.AdamEvInIdeal.main_v4_0)) (v1 : (c : Dev Cert.AdamEvInIdeal.nD) → Buf (Elt Ideal) ((c.tc : Thread Cert.AdamEvInIdeal.nD Cert.AdamEvInIdeal.τ).loc Cert.AdamEvInIdeal.main_v4_1)) (v2 : (c : Dev Cert.AdamEvInIdeal.nD) → Buf (Elt Ideal) ((c.tc : Thread Cert.AdamEvInIdeal.nD Cert.AdamEvInIdeal.τ).loc Cert.AdamEvInIdeal.main_v4_2)),
      θ_run (Cert.AdamEvInIdeal.defs (F := Ideal)) (onTc (τ := Cert.AdamEvInIdeal.τ) (Cert.AdamEvInIdeal.main (F := Ideal))) ⟨m, fun _ => 0, g⟩ (fun r => ∀ c : Dev Cert.AdamEvInIdeal.nD,
          r.2.mem ((c.tc : Thread Cert.AdamEvInIdeal.nD Cert.AdamEvInIdeal.τ).loc Cert.AdamEvInIdeal.main_v4_0) = v0 c
          ∧ r.2.mem ((c.tc : Thread Cert.AdamEvInIdeal.nD Cert.AdamEvInIdeal.τ).loc Cert.AdamEvInIdeal.main_v4_1) = v1 c
          ∧ r.2.mem ((c.tc : Thread Cert.AdamEvInIdeal.nD Cert.AdamEvInIdeal.τ).loc Cert.AdamEvInIdeal.main_v4_2) = v2 c
          ∧ r.2.mem ((c.tc : Thread Cert.AdamEvInIdeal.nD Cert.AdamEvInIdeal.τ).loc Cert.AdamEvInIdeal.main_arg0) = m ((c.tc : Thread Cert.AdamEvInIdeal.nD Cert.AdamEvInIdeal.τ).loc Cert.AdamEvInIdeal.main_arg0)
          ∧ r.2.mem ((c.tc : Thread Cert.AdamEvInIdeal.nD Cert.AdamEvInIdeal.τ).loc Cert.AdamEvInIdeal.main_arg1) = m ((c.tc : Thread Cert.AdamEvInIdeal.nD Cert.AdamEvInIdeal.τ).loc Cert.AdamEvInIdeal.main_arg1)
          ∧ r.2.mem ((c.tc : Thread Cert.AdamEvInIdeal.nD Cert.AdamEvInIdeal.τ).loc Cert.AdamEvInIdeal.main_arg2) = m ((c.tc : Thread Cert.AdamEvInIdeal.nD Cert.AdamEvInIdeal.τ).loc Cert.AdamEvInIdeal.main_arg2)
          ∧ r.2.mem ((c.tc : Thread Cert.AdamEvInIdeal.nD Cert.AdamEvInIdeal.τ).loc Cert.AdamEvInIdeal.main_arg3) = m ((c.tc : Thread Cert.AdamEvInIdeal.nD Cert.AdamEvInIdeal.τ).loc Cert.AdamEvInIdeal.main_arg3))
      ∧ θ_run (Cert.AdamEvInRefIdeal.defs (F := Ideal)) (onTc (τ := Cert.AdamEvInRefIdeal.τ) (Cert.AdamEvInRefIdeal.main (F := Ideal))) ⟨m', fun _ => 0, g'⟩ (fun r => ∀ c : Dev Cert.AdamEvInRefIdeal.nD,
          r.2.mem ((c.tc : Thread Cert.AdamEvInRefIdeal.nD Cert.AdamEvInRefIdeal.τ).loc Cert.AdamEvInRefIdeal.main_v24) = v0 c
          ∧ r.2.mem ((c.tc : Thread Cert.AdamEvInRefIdeal.nD Cert.AdamEvInRefIdeal.τ).loc Cert.AdamEvInRefIdeal.main_v25) = v1 c
          ∧ r.2.mem ((c.tc : Thread Cert.AdamEvInRefIdeal.nD Cert.AdamEvInRefIdeal.τ).loc Cert.AdamEvInRefIdeal.main_v26) = v2 c
          ∧ r.2.mem ((c.tc : Thread Cert.AdamEvInRefIdeal.nD Cert.AdamEvInRefIdeal.τ).loc Cert.AdamEvInRefIdeal.main_arg0) = m' ((c.tc : Thread Cert.AdamEvInRefIdeal.nD Cert.AdamEvInRefIdeal.τ).loc Cert.AdamEvInRefIdeal.main_arg0)
          ∧ r.2.mem ((c.tc : Thread Cert.AdamEvInRefIdeal.nD Cert.AdamEvInRefIdeal.τ).loc Cert.AdamEvInRefIdeal.main_arg1) = m' ((c.tc : Thread Cert.AdamEvInRefIdeal.nD Cert.AdamEvInRefIdeal.τ).loc Cert.AdamEvInRefIdeal.main_arg1)
          ∧ r.2.mem ((c.tc : Thread Cert.AdamEvInRefIdeal.nD Cert.AdamEvInRefIdeal.τ).loc Cert.AdamEvInRefIdeal.main_arg2) = m' ((c.tc : Thread Cert.AdamEvInRefIdeal.nD Cert.AdamEvInRefIdeal.τ).loc Cert.AdamEvInRefIdeal.main_arg2)
          ∧ r.2.mem ((c.tc : Thread Cert.AdamEvInRefIdeal.nD Cert.AdamEvInRefIdeal.τ).loc Cert.AdamEvInRefIdeal.main_arg3) = m' ((c.tc : Thread Cert.AdamEvInRefIdeal.nD Cert.AdamEvInRefIdeal.τ).loc Cert.AdamEvInRefIdeal.main_arg3))

def preserves_AdamEvGlu_AdamEvGluIdeal : Prop :=
  True

def algebraic_AdamEvGluIdeal_AdamEvGluRefIdeal [hAdamEvGluIdeal : Cert.AdamEvGluIdeal.Facts] [hAdamEvGluRefIdeal : Cert.AdamEvGluRefIdeal.Facts] : Prop :=
  ∀ (m : (ℓ : Loc Cert.AdamEvGluIdeal.nD Cert.AdamEvGluIdeal.τ Cert.AdamEvGluIdeal.sig) → Buf (Elt Ideal) ℓ) (g : Dev Cert.AdamEvGluIdeal.nD → PrngReg)
    (m' : (ℓ : Loc Cert.AdamEvGluRefIdeal.nD Cert.AdamEvGluRefIdeal.τ Cert.AdamEvGluRefIdeal.sig) → Buf (Elt Ideal) ℓ) (g' : Dev Cert.AdamEvGluRefIdeal.nD → PrngReg), Pre_AdamEvGluIdeal m →
    (∀ c : Dev Cert.AdamEvGluIdeal.nD,
      m' ((c.tc : Thread Cert.AdamEvGluRefIdeal.nD Cert.AdamEvGluRefIdeal.τ).loc Cert.AdamEvGluRefIdeal.main_arg0) = m ((c.tc : Thread Cert.AdamEvGluIdeal.nD Cert.AdamEvGluIdeal.τ).loc Cert.AdamEvGluIdeal.main_arg0)
      ∧ m' ((c.tc : Thread Cert.AdamEvGluRefIdeal.nD Cert.AdamEvGluRefIdeal.τ).loc Cert.AdamEvGluRefIdeal.main_arg1) = m ((c.tc : Thread Cert.AdamEvGluIdeal.nD Cert.AdamEvGluIdeal.τ).loc Cert.AdamEvGluIdeal.main_arg1)
      ∧ m' ((c.tc : Thread Cert.AdamEvGluRefIdeal.nD Cert.AdamEvGluRefIdeal.τ).loc Cert.AdamEvGluRefIdeal.main_arg2) = m ((c.tc : Thread Cert.AdamEvGluIdeal.nD Cert.AdamEvGluIdeal.τ).loc Cert.AdamEvGluIdeal.main_arg2)
      ∧ m' ((c.tc : Thread Cert.AdamEvGluRefIdeal.nD Cert.AdamEvGluRefIdeal.τ).loc Cert.AdamEvGluRefIdeal.main_arg3) = m ((c.tc : Thread Cert.AdamEvGluIdeal.nD Cert.AdamEvGluIdeal.τ).loc Cert.AdamEvGluIdeal.main_arg3)) →
    ∃ (v0 : (c : Dev Cert.AdamEvGluIdeal.nD) → Buf (Elt Ideal) ((c.tc : Thread Cert.AdamEvGluIdeal.nD Cert.AdamEvGluIdeal.τ).loc Cert.AdamEvGluIdeal.main_v4_0)) (v1 : (c : Dev Cert.AdamEvGluIdeal.nD) → Buf (Elt Ideal) ((c.tc : Thread Cert.AdamEvGluIdeal.nD Cert.AdamEvGluIdeal.τ).loc Cert.AdamEvGluIdeal.main_v4_1)) (v2 : (c : Dev Cert.AdamEvGluIdeal.nD) → Buf (Elt Ideal) ((c.tc : Thread Cert.AdamEvGluIdeal.nD Cert.AdamEvGluIdeal.τ).loc Cert.AdamEvGluIdeal.main_v4_2)),
      θ_run (Cert.AdamEvGluIdeal.defs (F := Ideal)) (onTc (τ := Cert.AdamEvGluIdeal.τ) (Cert.AdamEvGluIdeal.main (F := Ideal))) ⟨m, fun _ => 0, g⟩ (fun r => ∀ c : Dev Cert.AdamEvGluIdeal.nD,
          r.2.mem ((c.tc : Thread Cert.AdamEvGluIdeal.nD Cert.AdamEvGluIdeal.τ).loc Cert.AdamEvGluIdeal.main_v4_0) = v0 c
          ∧ r.2.mem ((c.tc : Thread Cert.AdamEvGluIdeal.nD Cert.AdamEvGluIdeal.τ).loc Cert.AdamEvGluIdeal.main_v4_1) = v1 c
          ∧ r.2.mem ((c.tc : Thread Cert.AdamEvGluIdeal.nD Cert.AdamEvGluIdeal.τ).loc Cert.AdamEvGluIdeal.main_v4_2) = v2 c
          ∧ r.2.mem ((c.tc : Thread Cert.AdamEvGluIdeal.nD Cert.AdamEvGluIdeal.τ).loc Cert.AdamEvGluIdeal.main_arg0) = m ((c.tc : Thread Cert.AdamEvGluIdeal.nD Cert.AdamEvGluIdeal.τ).loc Cert.AdamEvGluIdeal.main_arg0)
          ∧ r.2.mem ((c.tc : Thread Cert.AdamEvGluIdeal.nD Cert.AdamEvGluIdeal.τ).loc Cert.AdamEvGluIdeal.main_arg1) = m ((c.tc : Thread Cert.AdamEvGluIdeal.nD Cert.AdamEvGluIdeal.τ).loc Cert.AdamEvGluIdeal.main_arg1)
          ∧ r.2.mem ((c.tc : Thread Cert.AdamEvGluIdeal.nD Cert.AdamEvGluIdeal.τ).loc Cert.AdamEvGluIdeal.main_arg2) = m ((c.tc : Thread Cert.AdamEvGluIdeal.nD Cert.AdamEvGluIdeal.τ).loc Cert.AdamEvGluIdeal.main_arg2)
          ∧ r.2.mem ((c.tc : Thread Cert.AdamEvGluIdeal.nD Cert.AdamEvGluIdeal.τ).loc Cert.AdamEvGluIdeal.main_arg3) = m ((c.tc : Thread Cert.AdamEvGluIdeal.nD Cert.AdamEvGluIdeal.τ).loc Cert.AdamEvGluIdeal.main_arg3))
      ∧ θ_run (Cert.AdamEvGluRefIdeal.defs (F := Ideal)) (onTc (τ := Cert.AdamEvGluRefIdeal.τ) (Cert.AdamEvGluRefIdeal.main (F := Ideal))) ⟨m', fun _ => 0, g'⟩ (fun r => ∀ c : Dev Cert.AdamEvGluRefIdeal.nD,
          r.2.mem ((c.tc : Thread Cert.AdamEvGluRefIdeal.nD Cert.AdamEvGluRefIdeal.τ).loc Cert.AdamEvGluRefIdeal.main_v24) = v0 c
          ∧ r.2.mem ((c.tc : Thread Cert.AdamEvGluRefIdeal.nD Cert.AdamEvGluRefIdeal.τ).loc Cert.AdamEvGluRefIdeal.main_v25) = v1 c
          ∧ r.2.mem ((c.tc : Thread Cert.AdamEvGluRefIdeal.nD Cert.AdamEvGluRefIdeal.τ).loc Cert.AdamEvGluRefIdeal.main_v26) = v2 c
          ∧ r.2.mem ((c.tc : Thread Cert.AdamEvGluRefIdeal.nD Cert.AdamEvGluRefIdeal.τ).loc Cert.AdamEvGluRefIdeal.main_arg0) = m' ((c.tc : Thread Cert.AdamEvGluRefIdeal.nD Cert.AdamEvGluRefIdeal.τ).loc Cert.AdamEvGluRefIdeal.main_arg0)
          ∧ r.2.mem ((c.tc : Thread Cert.AdamEvGluRefIdeal.nD Cert.AdamEvGluRefIdeal.τ).loc Cert.AdamEvGluRefIdeal.main_arg1) = m' ((c.tc : Thread Cert.AdamEvGluRefIdeal.nD Cert.AdamEvGluRefIdeal.τ).loc Cert.AdamEvGluRefIdeal.main_arg1)
          ∧ r.2.mem ((c.tc : Thread Cert.AdamEvGluRefIdeal.nD Cert.AdamEvGluRefIdeal.τ).loc Cert.AdamEvGluRefIdeal.main_arg2) = m' ((c.tc : Thread Cert.AdamEvGluRefIdeal.nD Cert.AdamEvGluRefIdeal.τ).loc Cert.AdamEvGluRefIdeal.main_arg2)
          ∧ r.2.mem ((c.tc : Thread Cert.AdamEvGluRefIdeal.nD Cert.AdamEvGluRefIdeal.τ).loc Cert.AdamEvGluRefIdeal.main_arg3) = m' ((c.tc : Thread Cert.AdamEvGluRefIdeal.nD Cert.AdamEvGluRefIdeal.τ).loc Cert.AdamEvGluRefIdeal.main_arg3))

def preserves_AdamEvOut_AdamEvOutIdeal : Prop :=
  True

def algebraic_AdamEvOutIdeal_AdamEvOutRefIdeal [hAdamEvOutIdeal : Cert.AdamEvOutIdeal.Facts] [hAdamEvOutRefIdeal : Cert.AdamEvOutRefIdeal.Facts] : Prop :=
  ∀ (m : (ℓ : Loc Cert.AdamEvOutIdeal.nD Cert.AdamEvOutIdeal.τ Cert.AdamEvOutIdeal.sig) → Buf (Elt Ideal) ℓ) (g : Dev Cert.AdamEvOutIdeal.nD → PrngReg)
    (m' : (ℓ : Loc Cert.AdamEvOutRefIdeal.nD Cert.AdamEvOutRefIdeal.τ Cert.AdamEvOutRefIdeal.sig) → Buf (Elt Ideal) ℓ) (g' : Dev Cert.AdamEvOutRefIdeal.nD → PrngReg), Pre_AdamEvOutIdeal m →
    (∀ c : Dev Cert.AdamEvOutIdeal.nD,
      m' ((c.tc : Thread Cert.AdamEvOutRefIdeal.nD Cert.AdamEvOutRefIdeal.τ).loc Cert.AdamEvOutRefIdeal.main_arg0) = m ((c.tc : Thread Cert.AdamEvOutIdeal.nD Cert.AdamEvOutIdeal.τ).loc Cert.AdamEvOutIdeal.main_arg0)
      ∧ m' ((c.tc : Thread Cert.AdamEvOutRefIdeal.nD Cert.AdamEvOutRefIdeal.τ).loc Cert.AdamEvOutRefIdeal.main_arg1) = m ((c.tc : Thread Cert.AdamEvOutIdeal.nD Cert.AdamEvOutIdeal.τ).loc Cert.AdamEvOutIdeal.main_arg1)
      ∧ m' ((c.tc : Thread Cert.AdamEvOutRefIdeal.nD Cert.AdamEvOutRefIdeal.τ).loc Cert.AdamEvOutRefIdeal.main_arg2) = m ((c.tc : Thread Cert.AdamEvOutIdeal.nD Cert.AdamEvOutIdeal.τ).loc Cert.AdamEvOutIdeal.main_arg2)
      ∧ m' ((c.tc : Thread Cert.AdamEvOutRefIdeal.nD Cert.AdamEvOutRefIdeal.τ).loc Cert.AdamEvOutRefIdeal.main_arg3) = m ((c.tc : Thread Cert.AdamEvOutIdeal.nD Cert.AdamEvOutIdeal.τ).loc Cert.AdamEvOutIdeal.main_arg3)) →
    ∃ (v0 : (c : Dev Cert.AdamEvOutIdeal.nD) → Buf (Elt Ideal) ((c.tc : Thread Cert.AdamEvOutIdeal.nD Cert.AdamEvOutIdeal.τ).loc Cert.AdamEvOutIdeal.main_v4_0)) (v1 : (c : Dev Cert.AdamEvOutIdeal.nD) → Buf (Elt Ideal) ((c.tc : Thread Cert.AdamEvOutIdeal.nD Cert.AdamEvOutIdeal.τ).loc Cert.AdamEvOutIdeal.main_v4_1)) (v2 : (c : Dev Cert.AdamEvOutIdeal.nD) → Buf (Elt Ideal) ((c.tc : Thread Cert.AdamEvOutIdeal.nD Cert.AdamEvOutIdeal.τ).loc Cert.AdamEvOutIdeal.main_v4_2)),
      θ_run (Cert.AdamEvOutIdeal.defs (F := Ideal)) (onTc (τ := Cert.AdamEvOutIdeal.τ) (Cert.AdamEvOutIdeal.main (F := Ideal))) ⟨m, fun _ => 0, g⟩ (fun r => ∀ c : Dev Cert.AdamEvOutIdeal.nD,
          r.2.mem ((c.tc : Thread Cert.AdamEvOutIdeal.nD Cert.AdamEvOutIdeal.τ).loc Cert.AdamEvOutIdeal.main_v4_0) = v0 c
          ∧ r.2.mem ((c.tc : Thread Cert.AdamEvOutIdeal.nD Cert.AdamEvOutIdeal.τ).loc Cert.AdamEvOutIdeal.main_v4_1) = v1 c
          ∧ r.2.mem ((c.tc : Thread Cert.AdamEvOutIdeal.nD Cert.AdamEvOutIdeal.τ).loc Cert.AdamEvOutIdeal.main_v4_2) = v2 c
          ∧ r.2.mem ((c.tc : Thread Cert.AdamEvOutIdeal.nD Cert.AdamEvOutIdeal.τ).loc Cert.AdamEvOutIdeal.main_arg0) = m ((c.tc : Thread Cert.AdamEvOutIdeal.nD Cert.AdamEvOutIdeal.τ).loc Cert.AdamEvOutIdeal.main_arg0)
          ∧ r.2.mem ((c.tc : Thread Cert.AdamEvOutIdeal.nD Cert.AdamEvOutIdeal.τ).loc Cert.AdamEvOutIdeal.main_arg1) = m ((c.tc : Thread Cert.AdamEvOutIdeal.nD Cert.AdamEvOutIdeal.τ).loc Cert.AdamEvOutIdeal.main_arg1)
          ∧ r.2.mem ((c.tc : Thread Cert.AdamEvOutIdeal.nD Cert.AdamEvOutIdeal.τ).loc Cert.AdamEvOutIdeal.main_arg2) = m ((c.tc : Thread Cert.AdamEvOutIdeal.nD Cert.AdamEvOutIdeal.τ).loc Cert.AdamEvOutIdeal.main_arg2)
          ∧ r.2.mem ((c.tc : Thread Cert.AdamEvOutIdeal.nD Cert.AdamEvOutIdeal.τ).loc Cert.AdamEvOutIdeal.main_arg3) = m ((c.tc : Thread Cert.AdamEvOutIdeal.nD Cert.AdamEvOutIdeal.τ).loc Cert.AdamEvOutIdeal.main_arg3))
      ∧ θ_run (Cert.AdamEvOutRefIdeal.defs (F := Ideal)) (onTc (τ := Cert.AdamEvOutRefIdeal.τ) (Cert.AdamEvOutRefIdeal.main (F := Ideal))) ⟨m', fun _ => 0, g'⟩ (fun r => ∀ c : Dev Cert.AdamEvOutRefIdeal.nD,
          r.2.mem ((c.tc : Thread Cert.AdamEvOutRefIdeal.nD Cert.AdamEvOutRefIdeal.τ).loc Cert.AdamEvOutRefIdeal.main_v24) = v0 c
          ∧ r.2.mem ((c.tc : Thread Cert.AdamEvOutRefIdeal.nD Cert.AdamEvOutRefIdeal.τ).loc Cert.AdamEvOutRefIdeal.main_v25) = v1 c
          ∧ r.2.mem ((c.tc : Thread Cert.AdamEvOutRefIdeal.nD Cert.AdamEvOutRefIdeal.τ).loc Cert.AdamEvOutRefIdeal.main_v26) = v2 c
          ∧ r.2.mem ((c.tc : Thread Cert.AdamEvOutRefIdeal.nD Cert.AdamEvOutRefIdeal.τ).loc Cert.AdamEvOutRefIdeal.main_arg0) = m' ((c.tc : Thread Cert.AdamEvOutRefIdeal.nD Cert.AdamEvOutRefIdeal.τ).loc Cert.AdamEvOutRefIdeal.main_arg0)
          ∧ r.2.mem ((c.tc : Thread Cert.AdamEvOutRefIdeal.nD Cert.AdamEvOutRefIdeal.τ).loc Cert.AdamEvOutRefIdeal.main_arg1) = m' ((c.tc : Thread Cert.AdamEvOutRefIdeal.nD Cert.AdamEvOutRefIdeal.τ).loc Cert.AdamEvOutRefIdeal.main_arg1)
          ∧ r.2.mem ((c.tc : Thread Cert.AdamEvOutRefIdeal.nD Cert.AdamEvOutRefIdeal.τ).loc Cert.AdamEvOutRefIdeal.main_arg2) = m' ((c.tc : Thread Cert.AdamEvOutRefIdeal.nD Cert.AdamEvOutRefIdeal.τ).loc Cert.AdamEvOutRefIdeal.main_arg2)
          ∧ r.2.mem ((c.tc : Thread Cert.AdamEvOutRefIdeal.nD Cert.AdamEvOutRefIdeal.τ).loc Cert.AdamEvOutRefIdeal.main_arg3) = m' ((c.tc : Thread Cert.AdamEvOutRefIdeal.nD Cert.AdamEvOutRefIdeal.τ).loc Cert.AdamEvOutRefIdeal.main_arg3))

def preserves_AdamOdIn_AdamOdInIdeal : Prop :=
  True

def algebraic_AdamOdInIdeal_AdamOdInRefIdeal [hAdamOdInIdeal : Cert.AdamOdInIdeal.Facts] [hAdamOdInRefIdeal : Cert.AdamOdInRefIdeal.Facts] : Prop :=
  ∀ (m : (ℓ : Loc Cert.AdamOdInIdeal.nD Cert.AdamOdInIdeal.τ Cert.AdamOdInIdeal.sig) → Buf (Elt Ideal) ℓ) (g : Dev Cert.AdamOdInIdeal.nD → PrngReg)
    (m' : (ℓ : Loc Cert.AdamOdInRefIdeal.nD Cert.AdamOdInRefIdeal.τ Cert.AdamOdInRefIdeal.sig) → Buf (Elt Ideal) ℓ) (g' : Dev Cert.AdamOdInRefIdeal.nD → PrngReg), Pre_AdamOdInIdeal m →
    (∀ c : Dev Cert.AdamOdInIdeal.nD,
      m' ((c.tc : Thread Cert.AdamOdInRefIdeal.nD Cert.AdamOdInRefIdeal.τ).loc Cert.AdamOdInRefIdeal.main_arg0) = m ((c.tc : Thread Cert.AdamOdInIdeal.nD Cert.AdamOdInIdeal.τ).loc Cert.AdamOdInIdeal.main_arg0)
      ∧ m' ((c.tc : Thread Cert.AdamOdInRefIdeal.nD Cert.AdamOdInRefIdeal.τ).loc Cert.AdamOdInRefIdeal.main_arg1) = m ((c.tc : Thread Cert.AdamOdInIdeal.nD Cert.AdamOdInIdeal.τ).loc Cert.AdamOdInIdeal.main_arg1)
      ∧ m' ((c.tc : Thread Cert.AdamOdInRefIdeal.nD Cert.AdamOdInRefIdeal.τ).loc Cert.AdamOdInRefIdeal.main_arg2) = m ((c.tc : Thread Cert.AdamOdInIdeal.nD Cert.AdamOdInIdeal.τ).loc Cert.AdamOdInIdeal.main_arg2)
      ∧ m' ((c.tc : Thread Cert.AdamOdInRefIdeal.nD Cert.AdamOdInRefIdeal.τ).loc Cert.AdamOdInRefIdeal.main_arg3) = m ((c.tc : Thread Cert.AdamOdInIdeal.nD Cert.AdamOdInIdeal.τ).loc Cert.AdamOdInIdeal.main_arg3)) →
    ∃ (v0 : (c : Dev Cert.AdamOdInIdeal.nD) → Buf (Elt Ideal) ((c.tc : Thread Cert.AdamOdInIdeal.nD Cert.AdamOdInIdeal.τ).loc Cert.AdamOdInIdeal.main_v4_0)) (v1 : (c : Dev Cert.AdamOdInIdeal.nD) → Buf (Elt Ideal) ((c.tc : Thread Cert.AdamOdInIdeal.nD Cert.AdamOdInIdeal.τ).loc Cert.AdamOdInIdeal.main_v4_1)) (v2 : (c : Dev Cert.AdamOdInIdeal.nD) → Buf (Elt Ideal) ((c.tc : Thread Cert.AdamOdInIdeal.nD Cert.AdamOdInIdeal.τ).loc Cert.AdamOdInIdeal.main_v4_2)),
      θ_run (Cert.AdamOdInIdeal.defs (F := Ideal)) (onTc (τ := Cert.AdamOdInIdeal.τ) (Cert.AdamOdInIdeal.main (F := Ideal))) ⟨m, fun _ => 0, g⟩ (fun r => ∀ c : Dev Cert.AdamOdInIdeal.nD,
          r.2.mem ((c.tc : Thread Cert.AdamOdInIdeal.nD Cert.AdamOdInIdeal.τ).loc Cert.AdamOdInIdeal.main_v4_0) = v0 c
          ∧ r.2.mem ((c.tc : Thread Cert.AdamOdInIdeal.nD Cert.AdamOdInIdeal.τ).loc Cert.AdamOdInIdeal.main_v4_1) = v1 c
          ∧ r.2.mem ((c.tc : Thread Cert.AdamOdInIdeal.nD Cert.AdamOdInIdeal.τ).loc Cert.AdamOdInIdeal.main_v4_2) = v2 c
          ∧ r.2.mem ((c.tc : Thread Cert.AdamOdInIdeal.nD Cert.AdamOdInIdeal.τ).loc Cert.AdamOdInIdeal.main_arg0) = m ((c.tc : Thread Cert.AdamOdInIdeal.nD Cert.AdamOdInIdeal.τ).loc Cert.AdamOdInIdeal.main_arg0)
          ∧ r.2.mem ((c.tc : Thread Cert.AdamOdInIdeal.nD Cert.AdamOdInIdeal.τ).loc Cert.AdamOdInIdeal.main_arg1) = m ((c.tc : Thread Cert.AdamOdInIdeal.nD Cert.AdamOdInIdeal.τ).loc Cert.AdamOdInIdeal.main_arg1)
          ∧ r.2.mem ((c.tc : Thread Cert.AdamOdInIdeal.nD Cert.AdamOdInIdeal.τ).loc Cert.AdamOdInIdeal.main_arg2) = m ((c.tc : Thread Cert.AdamOdInIdeal.nD Cert.AdamOdInIdeal.τ).loc Cert.AdamOdInIdeal.main_arg2)
          ∧ r.2.mem ((c.tc : Thread Cert.AdamOdInIdeal.nD Cert.AdamOdInIdeal.τ).loc Cert.AdamOdInIdeal.main_arg3) = m ((c.tc : Thread Cert.AdamOdInIdeal.nD Cert.AdamOdInIdeal.τ).loc Cert.AdamOdInIdeal.main_arg3))
      ∧ θ_run (Cert.AdamOdInRefIdeal.defs (F := Ideal)) (onTc (τ := Cert.AdamOdInRefIdeal.τ) (Cert.AdamOdInRefIdeal.main (F := Ideal))) ⟨m', fun _ => 0, g'⟩ (fun r => ∀ c : Dev Cert.AdamOdInRefIdeal.nD,
          r.2.mem ((c.tc : Thread Cert.AdamOdInRefIdeal.nD Cert.AdamOdInRefIdeal.τ).loc Cert.AdamOdInRefIdeal.main_v24) = v0 c
          ∧ r.2.mem ((c.tc : Thread Cert.AdamOdInRefIdeal.nD Cert.AdamOdInRefIdeal.τ).loc Cert.AdamOdInRefIdeal.main_v25) = v1 c
          ∧ r.2.mem ((c.tc : Thread Cert.AdamOdInRefIdeal.nD Cert.AdamOdInRefIdeal.τ).loc Cert.AdamOdInRefIdeal.main_v26) = v2 c
          ∧ r.2.mem ((c.tc : Thread Cert.AdamOdInRefIdeal.nD Cert.AdamOdInRefIdeal.τ).loc Cert.AdamOdInRefIdeal.main_arg0) = m' ((c.tc : Thread Cert.AdamOdInRefIdeal.nD Cert.AdamOdInRefIdeal.τ).loc Cert.AdamOdInRefIdeal.main_arg0)
          ∧ r.2.mem ((c.tc : Thread Cert.AdamOdInRefIdeal.nD Cert.AdamOdInRefIdeal.τ).loc Cert.AdamOdInRefIdeal.main_arg1) = m' ((c.tc : Thread Cert.AdamOdInRefIdeal.nD Cert.AdamOdInRefIdeal.τ).loc Cert.AdamOdInRefIdeal.main_arg1)
          ∧ r.2.mem ((c.tc : Thread Cert.AdamOdInRefIdeal.nD Cert.AdamOdInRefIdeal.τ).loc Cert.AdamOdInRefIdeal.main_arg2) = m' ((c.tc : Thread Cert.AdamOdInRefIdeal.nD Cert.AdamOdInRefIdeal.τ).loc Cert.AdamOdInRefIdeal.main_arg2)
          ∧ r.2.mem ((c.tc : Thread Cert.AdamOdInRefIdeal.nD Cert.AdamOdInRefIdeal.τ).loc Cert.AdamOdInRefIdeal.main_arg3) = m' ((c.tc : Thread Cert.AdamOdInRefIdeal.nD Cert.AdamOdInRefIdeal.τ).loc Cert.AdamOdInRefIdeal.main_arg3))

def preserves_AdamOdOut_AdamOdOutIdeal : Prop :=
  True

def algebraic_AdamOdOutIdeal_AdamOdOutRefIdeal [hAdamOdOutIdeal : Cert.AdamOdOutIdeal.Facts] [hAdamOdOutRefIdeal : Cert.AdamOdOutRefIdeal.Facts] : Prop :=
  ∀ (m : (ℓ : Loc Cert.AdamOdOutIdeal.nD Cert.AdamOdOutIdeal.τ Cert.AdamOdOutIdeal.sig) → Buf (Elt Ideal) ℓ) (g : Dev Cert.AdamOdOutIdeal.nD → PrngReg)
    (m' : (ℓ : Loc Cert.AdamOdOutRefIdeal.nD Cert.AdamOdOutRefIdeal.τ Cert.AdamOdOutRefIdeal.sig) → Buf (Elt Ideal) ℓ) (g' : Dev Cert.AdamOdOutRefIdeal.nD → PrngReg), Pre_AdamOdOutIdeal m →
    (∀ c : Dev Cert.AdamOdOutIdeal.nD,
      m' ((c.tc : Thread Cert.AdamOdOutRefIdeal.nD Cert.AdamOdOutRefIdeal.τ).loc Cert.AdamOdOutRefIdeal.main_arg0) = m ((c.tc : Thread Cert.AdamOdOutIdeal.nD Cert.AdamOdOutIdeal.τ).loc Cert.AdamOdOutIdeal.main_arg0)
      ∧ m' ((c.tc : Thread Cert.AdamOdOutRefIdeal.nD Cert.AdamOdOutRefIdeal.τ).loc Cert.AdamOdOutRefIdeal.main_arg1) = m ((c.tc : Thread Cert.AdamOdOutIdeal.nD Cert.AdamOdOutIdeal.τ).loc Cert.AdamOdOutIdeal.main_arg1)
      ∧ m' ((c.tc : Thread Cert.AdamOdOutRefIdeal.nD Cert.AdamOdOutRefIdeal.τ).loc Cert.AdamOdOutRefIdeal.main_arg2) = m ((c.tc : Thread Cert.AdamOdOutIdeal.nD Cert.AdamOdOutIdeal.τ).loc Cert.AdamOdOutIdeal.main_arg2)
      ∧ m' ((c.tc : Thread Cert.AdamOdOutRefIdeal.nD Cert.AdamOdOutRefIdeal.τ).loc Cert.AdamOdOutRefIdeal.main_arg3) = m ((c.tc : Thread Cert.AdamOdOutIdeal.nD Cert.AdamOdOutIdeal.τ).loc Cert.AdamOdOutIdeal.main_arg3)) →
    ∃ (v0 : (c : Dev Cert.AdamOdOutIdeal.nD) → Buf (Elt Ideal) ((c.tc : Thread Cert.AdamOdOutIdeal.nD Cert.AdamOdOutIdeal.τ).loc Cert.AdamOdOutIdeal.main_v4_0)) (v1 : (c : Dev Cert.AdamOdOutIdeal.nD) → Buf (Elt Ideal) ((c.tc : Thread Cert.AdamOdOutIdeal.nD Cert.AdamOdOutIdeal.τ).loc Cert.AdamOdOutIdeal.main_v4_1)) (v2 : (c : Dev Cert.AdamOdOutIdeal.nD) → Buf (Elt Ideal) ((c.tc : Thread Cert.AdamOdOutIdeal.nD Cert.AdamOdOutIdeal.τ).loc Cert.AdamOdOutIdeal.main_v4_2)),
      θ_run (Cert.AdamOdOutIdeal.defs (F := Ideal)) (onTc (τ := Cert.AdamOdOutIdeal.τ) (Cert.AdamOdOutIdeal.main (F := Ideal))) ⟨m, fun _ => 0, g⟩ (fun r => ∀ c : Dev Cert.AdamOdOutIdeal.nD,
          r.2.mem ((c.tc : Thread Cert.AdamOdOutIdeal.nD Cert.AdamOdOutIdeal.τ).loc Cert.AdamOdOutIdeal.main_v4_0) = v0 c
          ∧ r.2.mem ((c.tc : Thread Cert.AdamOdOutIdeal.nD Cert.AdamOdOutIdeal.τ).loc Cert.AdamOdOutIdeal.main_v4_1) = v1 c
          ∧ r.2.mem ((c.tc : Thread Cert.AdamOdOutIdeal.nD Cert.AdamOdOutIdeal.τ).loc Cert.AdamOdOutIdeal.main_v4_2) = v2 c
          ∧ r.2.mem ((c.tc : Thread Cert.AdamOdOutIdeal.nD Cert.AdamOdOutIdeal.τ).loc Cert.AdamOdOutIdeal.main_arg0) = m ((c.tc : Thread Cert.AdamOdOutIdeal.nD Cert.AdamOdOutIdeal.τ).loc Cert.AdamOdOutIdeal.main_arg0)
          ∧ r.2.mem ((c.tc : Thread Cert.AdamOdOutIdeal.nD Cert.AdamOdOutIdeal.τ).loc Cert.AdamOdOutIdeal.main_arg1) = m ((c.tc : Thread Cert.AdamOdOutIdeal.nD Cert.AdamOdOutIdeal.τ).loc Cert.AdamOdOutIdeal.main_arg1)
          ∧ r.2.mem ((c.tc : Thread Cert.AdamOdOutIdeal.nD Cert.AdamOdOutIdeal.τ).loc Cert.AdamOdOutIdeal.main_arg2) = m ((c.tc : Thread Cert.AdamOdOutIdeal.nD Cert.AdamOdOutIdeal.τ).loc Cert.AdamOdOutIdeal.main_arg2)
          ∧ r.2.mem ((c.tc : Thread Cert.AdamOdOutIdeal.nD Cert.AdamOdOutIdeal.τ).loc Cert.AdamOdOutIdeal.main_arg3) = m ((c.tc : Thread Cert.AdamOdOutIdeal.nD Cert.AdamOdOutIdeal.τ).loc Cert.AdamOdOutIdeal.main_arg3))
      ∧ θ_run (Cert.AdamOdOutRefIdeal.defs (F := Ideal)) (onTc (τ := Cert.AdamOdOutRefIdeal.τ) (Cert.AdamOdOutRefIdeal.main (F := Ideal))) ⟨m', fun _ => 0, g'⟩ (fun r => ∀ c : Dev Cert.AdamOdOutRefIdeal.nD,
          r.2.mem ((c.tc : Thread Cert.AdamOdOutRefIdeal.nD Cert.AdamOdOutRefIdeal.τ).loc Cert.AdamOdOutRefIdeal.main_v24) = v0 c
          ∧ r.2.mem ((c.tc : Thread Cert.AdamOdOutRefIdeal.nD Cert.AdamOdOutRefIdeal.τ).loc Cert.AdamOdOutRefIdeal.main_v25) = v1 c
          ∧ r.2.mem ((c.tc : Thread Cert.AdamOdOutRefIdeal.nD Cert.AdamOdOutRefIdeal.τ).loc Cert.AdamOdOutRefIdeal.main_v26) = v2 c
          ∧ r.2.mem ((c.tc : Thread Cert.AdamOdOutRefIdeal.nD Cert.AdamOdOutRefIdeal.τ).loc Cert.AdamOdOutRefIdeal.main_arg0) = m' ((c.tc : Thread Cert.AdamOdOutRefIdeal.nD Cert.AdamOdOutRefIdeal.τ).loc Cert.AdamOdOutRefIdeal.main_arg0)
          ∧ r.2.mem ((c.tc : Thread Cert.AdamOdOutRefIdeal.nD Cert.AdamOdOutRefIdeal.τ).loc Cert.AdamOdOutRefIdeal.main_arg1) = m' ((c.tc : Thread Cert.AdamOdOutRefIdeal.nD Cert.AdamOdOutRefIdeal.τ).loc Cert.AdamOdOutRefIdeal.main_arg1)
          ∧ r.2.mem ((c.tc : Thread Cert.AdamOdOutRefIdeal.nD Cert.AdamOdOutRefIdeal.τ).loc Cert.AdamOdOutRefIdeal.main_arg2) = m' ((c.tc : Thread Cert.AdamOdOutRefIdeal.nD Cert.AdamOdOutRefIdeal.τ).loc Cert.AdamOdOutRefIdeal.main_arg2)
          ∧ r.2.mem ((c.tc : Thread Cert.AdamOdOutRefIdeal.nD Cert.AdamOdOutRefIdeal.τ).loc Cert.AdamOdOutRefIdeal.main_arg3) = m' ((c.tc : Thread Cert.AdamOdOutRefIdeal.nD Cert.AdamOdOutRefIdeal.τ).loc Cert.AdamOdOutRefIdeal.main_arg3))

def preserves_AdamFfnUp_AdamFfnUpIdeal : Prop :=
  True

def algebraic_AdamFfnUpIdeal_AdamFfnUpRefIdeal [hAdamFfnUpIdeal : Cert.AdamFfnUpIdeal.Facts] [hAdamFfnUpRefIdeal : Cert.AdamFfnUpRefIdeal.Facts] : Prop :=
  ∀ (m : (ℓ : Loc Cert.AdamFfnUpIdeal.nD Cert.AdamFfnUpIdeal.τ Cert.AdamFfnUpIdeal.sig) → Buf (Elt Ideal) ℓ) (g : Dev Cert.AdamFfnUpIdeal.nD → PrngReg)
    (m' : (ℓ : Loc Cert.AdamFfnUpRefIdeal.nD Cert.AdamFfnUpRefIdeal.τ Cert.AdamFfnUpRefIdeal.sig) → Buf (Elt Ideal) ℓ) (g' : Dev Cert.AdamFfnUpRefIdeal.nD → PrngReg), Pre_AdamFfnUpIdeal m →
    (∀ c : Dev Cert.AdamFfnUpIdeal.nD,
      m' ((c.tc : Thread Cert.AdamFfnUpRefIdeal.nD Cert.AdamFfnUpRefIdeal.τ).loc Cert.AdamFfnUpRefIdeal.main_arg0) = m ((c.tc : Thread Cert.AdamFfnUpIdeal.nD Cert.AdamFfnUpIdeal.τ).loc Cert.AdamFfnUpIdeal.main_arg0)
      ∧ m' ((c.tc : Thread Cert.AdamFfnUpRefIdeal.nD Cert.AdamFfnUpRefIdeal.τ).loc Cert.AdamFfnUpRefIdeal.main_arg1) = m ((c.tc : Thread Cert.AdamFfnUpIdeal.nD Cert.AdamFfnUpIdeal.τ).loc Cert.AdamFfnUpIdeal.main_arg1)
      ∧ m' ((c.tc : Thread Cert.AdamFfnUpRefIdeal.nD Cert.AdamFfnUpRefIdeal.τ).loc Cert.AdamFfnUpRefIdeal.main_arg2) = m ((c.tc : Thread Cert.AdamFfnUpIdeal.nD Cert.AdamFfnUpIdeal.τ).loc Cert.AdamFfnUpIdeal.main_arg2)
      ∧ m' ((c.tc : Thread Cert.AdamFfnUpRefIdeal.nD Cert.AdamFfnUpRefIdeal.τ).loc Cert.AdamFfnUpRefIdeal.main_arg3) = m ((c.tc : Thread Cert.AdamFfnUpIdeal.nD Cert.AdamFfnUpIdeal.τ).loc Cert.AdamFfnUpIdeal.main_arg3)) →
    ∃ (v0 : (c : Dev Cert.AdamFfnUpIdeal.nD) → Buf (Elt Ideal) ((c.tc : Thread Cert.AdamFfnUpIdeal.nD Cert.AdamFfnUpIdeal.τ).loc Cert.AdamFfnUpIdeal.main_v4_0)) (v1 : (c : Dev Cert.AdamFfnUpIdeal.nD) → Buf (Elt Ideal) ((c.tc : Thread Cert.AdamFfnUpIdeal.nD Cert.AdamFfnUpIdeal.τ).loc Cert.AdamFfnUpIdeal.main_v4_1)) (v2 : (c : Dev Cert.AdamFfnUpIdeal.nD) → Buf (Elt Ideal) ((c.tc : Thread Cert.AdamFfnUpIdeal.nD Cert.AdamFfnUpIdeal.τ).loc Cert.AdamFfnUpIdeal.main_v4_2)),
      θ_run (Cert.AdamFfnUpIdeal.defs (F := Ideal)) (onTc (τ := Cert.AdamFfnUpIdeal.τ) (Cert.AdamFfnUpIdeal.main (F := Ideal))) ⟨m, fun _ => 0, g⟩ (fun r => ∀ c : Dev Cert.AdamFfnUpIdeal.nD,
          r.2.mem ((c.tc : Thread Cert.AdamFfnUpIdeal.nD Cert.AdamFfnUpIdeal.τ).loc Cert.AdamFfnUpIdeal.main_v4_0) = v0 c
          ∧ r.2.mem ((c.tc : Thread Cert.AdamFfnUpIdeal.nD Cert.AdamFfnUpIdeal.τ).loc Cert.AdamFfnUpIdeal.main_v4_1) = v1 c
          ∧ r.2.mem ((c.tc : Thread Cert.AdamFfnUpIdeal.nD Cert.AdamFfnUpIdeal.τ).loc Cert.AdamFfnUpIdeal.main_v4_2) = v2 c
          ∧ r.2.mem ((c.tc : Thread Cert.AdamFfnUpIdeal.nD Cert.AdamFfnUpIdeal.τ).loc Cert.AdamFfnUpIdeal.main_arg0) = m ((c.tc : Thread Cert.AdamFfnUpIdeal.nD Cert.AdamFfnUpIdeal.τ).loc Cert.AdamFfnUpIdeal.main_arg0)
          ∧ r.2.mem ((c.tc : Thread Cert.AdamFfnUpIdeal.nD Cert.AdamFfnUpIdeal.τ).loc Cert.AdamFfnUpIdeal.main_arg1) = m ((c.tc : Thread Cert.AdamFfnUpIdeal.nD Cert.AdamFfnUpIdeal.τ).loc Cert.AdamFfnUpIdeal.main_arg1)
          ∧ r.2.mem ((c.tc : Thread Cert.AdamFfnUpIdeal.nD Cert.AdamFfnUpIdeal.τ).loc Cert.AdamFfnUpIdeal.main_arg2) = m ((c.tc : Thread Cert.AdamFfnUpIdeal.nD Cert.AdamFfnUpIdeal.τ).loc Cert.AdamFfnUpIdeal.main_arg2)
          ∧ r.2.mem ((c.tc : Thread Cert.AdamFfnUpIdeal.nD Cert.AdamFfnUpIdeal.τ).loc Cert.AdamFfnUpIdeal.main_arg3) = m ((c.tc : Thread Cert.AdamFfnUpIdeal.nD Cert.AdamFfnUpIdeal.τ).loc Cert.AdamFfnUpIdeal.main_arg3))
      ∧ θ_run (Cert.AdamFfnUpRefIdeal.defs (F := Ideal)) (onTc (τ := Cert.AdamFfnUpRefIdeal.τ) (Cert.AdamFfnUpRefIdeal.main (F := Ideal))) ⟨m', fun _ => 0, g'⟩ (fun r => ∀ c : Dev Cert.AdamFfnUpRefIdeal.nD,
          r.2.mem ((c.tc : Thread Cert.AdamFfnUpRefIdeal.nD Cert.AdamFfnUpRefIdeal.τ).loc Cert.AdamFfnUpRefIdeal.main_v24) = v0 c
          ∧ r.2.mem ((c.tc : Thread Cert.AdamFfnUpRefIdeal.nD Cert.AdamFfnUpRefIdeal.τ).loc Cert.AdamFfnUpRefIdeal.main_v25) = v1 c
          ∧ r.2.mem ((c.tc : Thread Cert.AdamFfnUpRefIdeal.nD Cert.AdamFfnUpRefIdeal.τ).loc Cert.AdamFfnUpRefIdeal.main_v26) = v2 c
          ∧ r.2.mem ((c.tc : Thread Cert.AdamFfnUpRefIdeal.nD Cert.AdamFfnUpRefIdeal.τ).loc Cert.AdamFfnUpRefIdeal.main_arg0) = m' ((c.tc : Thread Cert.AdamFfnUpRefIdeal.nD Cert.AdamFfnUpRefIdeal.τ).loc Cert.AdamFfnUpRefIdeal.main_arg0)
          ∧ r.2.mem ((c.tc : Thread Cert.AdamFfnUpRefIdeal.nD Cert.AdamFfnUpRefIdeal.τ).loc Cert.AdamFfnUpRefIdeal.main_arg1) = m' ((c.tc : Thread Cert.AdamFfnUpRefIdeal.nD Cert.AdamFfnUpRefIdeal.τ).loc Cert.AdamFfnUpRefIdeal.main_arg1)
          ∧ r.2.mem ((c.tc : Thread Cert.AdamFfnUpRefIdeal.nD Cert.AdamFfnUpRefIdeal.τ).loc Cert.AdamFfnUpRefIdeal.main_arg2) = m' ((c.tc : Thread Cert.AdamFfnUpRefIdeal.nD Cert.AdamFfnUpRefIdeal.τ).loc Cert.AdamFfnUpRefIdeal.main_arg2)
          ∧ r.2.mem ((c.tc : Thread Cert.AdamFfnUpRefIdeal.nD Cert.AdamFfnUpRefIdeal.τ).loc Cert.AdamFfnUpRefIdeal.main_arg3) = m' ((c.tc : Thread Cert.AdamFfnUpRefIdeal.nD Cert.AdamFfnUpRefIdeal.τ).loc Cert.AdamFfnUpRefIdeal.main_arg3))

def preserves_AdamFfnDown_AdamFfnDownIdeal : Prop :=
  True

def algebraic_AdamFfnDownIdeal_AdamFfnDownRefIdeal [hAdamFfnDownIdeal : Cert.AdamFfnDownIdeal.Facts] [hAdamFfnDownRefIdeal : Cert.AdamFfnDownRefIdeal.Facts] : Prop :=
  ∀ (m : (ℓ : Loc Cert.AdamFfnDownIdeal.nD Cert.AdamFfnDownIdeal.τ Cert.AdamFfnDownIdeal.sig) → Buf (Elt Ideal) ℓ) (g : Dev Cert.AdamFfnDownIdeal.nD → PrngReg)
    (m' : (ℓ : Loc Cert.AdamFfnDownRefIdeal.nD Cert.AdamFfnDownRefIdeal.τ Cert.AdamFfnDownRefIdeal.sig) → Buf (Elt Ideal) ℓ) (g' : Dev Cert.AdamFfnDownRefIdeal.nD → PrngReg), Pre_AdamFfnDownIdeal m →
    (∀ c : Dev Cert.AdamFfnDownIdeal.nD,
      m' ((c.tc : Thread Cert.AdamFfnDownRefIdeal.nD Cert.AdamFfnDownRefIdeal.τ).loc Cert.AdamFfnDownRefIdeal.main_arg0) = m ((c.tc : Thread Cert.AdamFfnDownIdeal.nD Cert.AdamFfnDownIdeal.τ).loc Cert.AdamFfnDownIdeal.main_arg0)
      ∧ m' ((c.tc : Thread Cert.AdamFfnDownRefIdeal.nD Cert.AdamFfnDownRefIdeal.τ).loc Cert.AdamFfnDownRefIdeal.main_arg1) = m ((c.tc : Thread Cert.AdamFfnDownIdeal.nD Cert.AdamFfnDownIdeal.τ).loc Cert.AdamFfnDownIdeal.main_arg1)
      ∧ m' ((c.tc : Thread Cert.AdamFfnDownRefIdeal.nD Cert.AdamFfnDownRefIdeal.τ).loc Cert.AdamFfnDownRefIdeal.main_arg2) = m ((c.tc : Thread Cert.AdamFfnDownIdeal.nD Cert.AdamFfnDownIdeal.τ).loc Cert.AdamFfnDownIdeal.main_arg2)
      ∧ m' ((c.tc : Thread Cert.AdamFfnDownRefIdeal.nD Cert.AdamFfnDownRefIdeal.τ).loc Cert.AdamFfnDownRefIdeal.main_arg3) = m ((c.tc : Thread Cert.AdamFfnDownIdeal.nD Cert.AdamFfnDownIdeal.τ).loc Cert.AdamFfnDownIdeal.main_arg3)) →
    ∃ (v0 : (c : Dev Cert.AdamFfnDownIdeal.nD) → Buf (Elt Ideal) ((c.tc : Thread Cert.AdamFfnDownIdeal.nD Cert.AdamFfnDownIdeal.τ).loc Cert.AdamFfnDownIdeal.main_v4_0)) (v1 : (c : Dev Cert.AdamFfnDownIdeal.nD) → Buf (Elt Ideal) ((c.tc : Thread Cert.AdamFfnDownIdeal.nD Cert.AdamFfnDownIdeal.τ).loc Cert.AdamFfnDownIdeal.main_v4_1)) (v2 : (c : Dev Cert.AdamFfnDownIdeal.nD) → Buf (Elt Ideal) ((c.tc : Thread Cert.AdamFfnDownIdeal.nD Cert.AdamFfnDownIdeal.τ).loc Cert.AdamFfnDownIdeal.main_v4_2)),
      θ_run (Cert.AdamFfnDownIdeal.defs (F := Ideal)) (onTc (τ := Cert.AdamFfnDownIdeal.τ) (Cert.AdamFfnDownIdeal.main (F := Ideal))) ⟨m, fun _ => 0, g⟩ (fun r => ∀ c : Dev Cert.AdamFfnDownIdeal.nD,
          r.2.mem ((c.tc : Thread Cert.AdamFfnDownIdeal.nD Cert.AdamFfnDownIdeal.τ).loc Cert.AdamFfnDownIdeal.main_v4_0) = v0 c
          ∧ r.2.mem ((c.tc : Thread Cert.AdamFfnDownIdeal.nD Cert.AdamFfnDownIdeal.τ).loc Cert.AdamFfnDownIdeal.main_v4_1) = v1 c
          ∧ r.2.mem ((c.tc : Thread Cert.AdamFfnDownIdeal.nD Cert.AdamFfnDownIdeal.τ).loc Cert.AdamFfnDownIdeal.main_v4_2) = v2 c
          ∧ r.2.mem ((c.tc : Thread Cert.AdamFfnDownIdeal.nD Cert.AdamFfnDownIdeal.τ).loc Cert.AdamFfnDownIdeal.main_arg0) = m ((c.tc : Thread Cert.AdamFfnDownIdeal.nD Cert.AdamFfnDownIdeal.τ).loc Cert.AdamFfnDownIdeal.main_arg0)
          ∧ r.2.mem ((c.tc : Thread Cert.AdamFfnDownIdeal.nD Cert.AdamFfnDownIdeal.τ).loc Cert.AdamFfnDownIdeal.main_arg1) = m ((c.tc : Thread Cert.AdamFfnDownIdeal.nD Cert.AdamFfnDownIdeal.τ).loc Cert.AdamFfnDownIdeal.main_arg1)
          ∧ r.2.mem ((c.tc : Thread Cert.AdamFfnDownIdeal.nD Cert.AdamFfnDownIdeal.τ).loc Cert.AdamFfnDownIdeal.main_arg2) = m ((c.tc : Thread Cert.AdamFfnDownIdeal.nD Cert.AdamFfnDownIdeal.τ).loc Cert.AdamFfnDownIdeal.main_arg2)
          ∧ r.2.mem ((c.tc : Thread Cert.AdamFfnDownIdeal.nD Cert.AdamFfnDownIdeal.τ).loc Cert.AdamFfnDownIdeal.main_arg3) = m ((c.tc : Thread Cert.AdamFfnDownIdeal.nD Cert.AdamFfnDownIdeal.τ).loc Cert.AdamFfnDownIdeal.main_arg3))
      ∧ θ_run (Cert.AdamFfnDownRefIdeal.defs (F := Ideal)) (onTc (τ := Cert.AdamFfnDownRefIdeal.τ) (Cert.AdamFfnDownRefIdeal.main (F := Ideal))) ⟨m', fun _ => 0, g'⟩ (fun r => ∀ c : Dev Cert.AdamFfnDownRefIdeal.nD,
          r.2.mem ((c.tc : Thread Cert.AdamFfnDownRefIdeal.nD Cert.AdamFfnDownRefIdeal.τ).loc Cert.AdamFfnDownRefIdeal.main_v24) = v0 c
          ∧ r.2.mem ((c.tc : Thread Cert.AdamFfnDownRefIdeal.nD Cert.AdamFfnDownRefIdeal.τ).loc Cert.AdamFfnDownRefIdeal.main_v25) = v1 c
          ∧ r.2.mem ((c.tc : Thread Cert.AdamFfnDownRefIdeal.nD Cert.AdamFfnDownRefIdeal.τ).loc Cert.AdamFfnDownRefIdeal.main_v26) = v2 c
          ∧ r.2.mem ((c.tc : Thread Cert.AdamFfnDownRefIdeal.nD Cert.AdamFfnDownRefIdeal.τ).loc Cert.AdamFfnDownRefIdeal.main_arg0) = m' ((c.tc : Thread Cert.AdamFfnDownRefIdeal.nD Cert.AdamFfnDownRefIdeal.τ).loc Cert.AdamFfnDownRefIdeal.main_arg0)
          ∧ r.2.mem ((c.tc : Thread Cert.AdamFfnDownRefIdeal.nD Cert.AdamFfnDownRefIdeal.τ).loc Cert.AdamFfnDownRefIdeal.main_arg1) = m' ((c.tc : Thread Cert.AdamFfnDownRefIdeal.nD Cert.AdamFfnDownRefIdeal.τ).loc Cert.AdamFfnDownRefIdeal.main_arg1)
          ∧ r.2.mem ((c.tc : Thread Cert.AdamFfnDownRefIdeal.nD Cert.AdamFfnDownRefIdeal.τ).loc Cert.AdamFfnDownRefIdeal.main_arg2) = m' ((c.tc : Thread Cert.AdamFfnDownRefIdeal.nD Cert.AdamFfnDownRefIdeal.τ).loc Cert.AdamFfnDownRefIdeal.main_arg2)
          ∧ r.2.mem ((c.tc : Thread Cert.AdamFfnDownRefIdeal.nD Cert.AdamFfnDownRefIdeal.τ).loc Cert.AdamFfnDownRefIdeal.main_arg3) = m' ((c.tc : Thread Cert.AdamFfnDownRefIdeal.nD Cert.AdamFfnDownRefIdeal.τ).loc Cert.AdamFfnDownRefIdeal.main_arg3))

def preserves_AdamPleProj_AdamPleProjIdeal : Prop :=
  True

def algebraic_AdamPleProjIdeal_AdamPleProjRefIdeal [hAdamPleProjIdeal : Cert.AdamPleProjIdeal.Facts] [hAdamPleProjRefIdeal : Cert.AdamPleProjRefIdeal.Facts] : Prop :=
  ∀ (m : (ℓ : Loc Cert.AdamPleProjIdeal.nD Cert.AdamPleProjIdeal.τ Cert.AdamPleProjIdeal.sig) → Buf (Elt Ideal) ℓ) (g : Dev Cert.AdamPleProjIdeal.nD → PrngReg)
    (m' : (ℓ : Loc Cert.AdamPleProjRefIdeal.nD Cert.AdamPleProjRefIdeal.τ Cert.AdamPleProjRefIdeal.sig) → Buf (Elt Ideal) ℓ) (g' : Dev Cert.AdamPleProjRefIdeal.nD → PrngReg), Pre_AdamPleProjIdeal m →
    (∀ c : Dev Cert.AdamPleProjIdeal.nD,
      m' ((c.tc : Thread Cert.AdamPleProjRefIdeal.nD Cert.AdamPleProjRefIdeal.τ).loc Cert.AdamPleProjRefIdeal.main_arg0) = m ((c.tc : Thread Cert.AdamPleProjIdeal.nD Cert.AdamPleProjIdeal.τ).loc Cert.AdamPleProjIdeal.main_arg0)
      ∧ m' ((c.tc : Thread Cert.AdamPleProjRefIdeal.nD Cert.AdamPleProjRefIdeal.τ).loc Cert.AdamPleProjRefIdeal.main_arg1) = m ((c.tc : Thread Cert.AdamPleProjIdeal.nD Cert.AdamPleProjIdeal.τ).loc Cert.AdamPleProjIdeal.main_arg1)
      ∧ m' ((c.tc : Thread Cert.AdamPleProjRefIdeal.nD Cert.AdamPleProjRefIdeal.τ).loc Cert.AdamPleProjRefIdeal.main_arg2) = m ((c.tc : Thread Cert.AdamPleProjIdeal.nD Cert.AdamPleProjIdeal.τ).loc Cert.AdamPleProjIdeal.main_arg2)
      ∧ m' ((c.tc : Thread Cert.AdamPleProjRefIdeal.nD Cert.AdamPleProjRefIdeal.τ).loc Cert.AdamPleProjRefIdeal.main_arg3) = m ((c.tc : Thread Cert.AdamPleProjIdeal.nD Cert.AdamPleProjIdeal.τ).loc Cert.AdamPleProjIdeal.main_arg3)) →
    ∃ (v0 : (c : Dev Cert.AdamPleProjIdeal.nD) → Buf (Elt Ideal) ((c.tc : Thread Cert.AdamPleProjIdeal.nD Cert.AdamPleProjIdeal.τ).loc Cert.AdamPleProjIdeal.main_v4_0)) (v1 : (c : Dev Cert.AdamPleProjIdeal.nD) → Buf (Elt Ideal) ((c.tc : Thread Cert.AdamPleProjIdeal.nD Cert.AdamPleProjIdeal.τ).loc Cert.AdamPleProjIdeal.main_v4_1)) (v2 : (c : Dev Cert.AdamPleProjIdeal.nD) → Buf (Elt Ideal) ((c.tc : Thread Cert.AdamPleProjIdeal.nD Cert.AdamPleProjIdeal.τ).loc Cert.AdamPleProjIdeal.main_v4_2)),
      θ_run (Cert.AdamPleProjIdeal.defs (F := Ideal)) (onTc (τ := Cert.AdamPleProjIdeal.τ) (Cert.AdamPleProjIdeal.main (F := Ideal))) ⟨m, fun _ => 0, g⟩ (fun r => ∀ c : Dev Cert.AdamPleProjIdeal.nD,
          r.2.mem ((c.tc : Thread Cert.AdamPleProjIdeal.nD Cert.AdamPleProjIdeal.τ).loc Cert.AdamPleProjIdeal.main_v4_0) = v0 c
          ∧ r.2.mem ((c.tc : Thread Cert.AdamPleProjIdeal.nD Cert.AdamPleProjIdeal.τ).loc Cert.AdamPleProjIdeal.main_v4_1) = v1 c
          ∧ r.2.mem ((c.tc : Thread Cert.AdamPleProjIdeal.nD Cert.AdamPleProjIdeal.τ).loc Cert.AdamPleProjIdeal.main_v4_2) = v2 c
          ∧ r.2.mem ((c.tc : Thread Cert.AdamPleProjIdeal.nD Cert.AdamPleProjIdeal.τ).loc Cert.AdamPleProjIdeal.main_arg0) = m ((c.tc : Thread Cert.AdamPleProjIdeal.nD Cert.AdamPleProjIdeal.τ).loc Cert.AdamPleProjIdeal.main_arg0)
          ∧ r.2.mem ((c.tc : Thread Cert.AdamPleProjIdeal.nD Cert.AdamPleProjIdeal.τ).loc Cert.AdamPleProjIdeal.main_arg1) = m ((c.tc : Thread Cert.AdamPleProjIdeal.nD Cert.AdamPleProjIdeal.τ).loc Cert.AdamPleProjIdeal.main_arg1)
          ∧ r.2.mem ((c.tc : Thread Cert.AdamPleProjIdeal.nD Cert.AdamPleProjIdeal.τ).loc Cert.AdamPleProjIdeal.main_arg2) = m ((c.tc : Thread Cert.AdamPleProjIdeal.nD Cert.AdamPleProjIdeal.τ).loc Cert.AdamPleProjIdeal.main_arg2)
          ∧ r.2.mem ((c.tc : Thread Cert.AdamPleProjIdeal.nD Cert.AdamPleProjIdeal.τ).loc Cert.AdamPleProjIdeal.main_arg3) = m ((c.tc : Thread Cert.AdamPleProjIdeal.nD Cert.AdamPleProjIdeal.τ).loc Cert.AdamPleProjIdeal.main_arg3))
      ∧ θ_run (Cert.AdamPleProjRefIdeal.defs (F := Ideal)) (onTc (τ := Cert.AdamPleProjRefIdeal.τ) (Cert.AdamPleProjRefIdeal.main (F := Ideal))) ⟨m', fun _ => 0, g'⟩ (fun r => ∀ c : Dev Cert.AdamPleProjRefIdeal.nD,
          r.2.mem ((c.tc : Thread Cert.AdamPleProjRefIdeal.nD Cert.AdamPleProjRefIdeal.τ).loc Cert.AdamPleProjRefIdeal.main_v24) = v0 c
          ∧ r.2.mem ((c.tc : Thread Cert.AdamPleProjRefIdeal.nD Cert.AdamPleProjRefIdeal.τ).loc Cert.AdamPleProjRefIdeal.main_v25) = v1 c
          ∧ r.2.mem ((c.tc : Thread Cert.AdamPleProjRefIdeal.nD Cert.AdamPleProjRefIdeal.τ).loc Cert.AdamPleProjRefIdeal.main_v26) = v2 c
          ∧ r.2.mem ((c.tc : Thread Cert.AdamPleProjRefIdeal.nD Cert.AdamPleProjRefIdeal.τ).loc Cert.AdamPleProjRefIdeal.main_arg0) = m' ((c.tc : Thread Cert.AdamPleProjRefIdeal.nD Cert.AdamPleProjRefIdeal.τ).loc Cert.AdamPleProjRefIdeal.main_arg0)
          ∧ r.2.mem ((c.tc : Thread Cert.AdamPleProjRefIdeal.nD Cert.AdamPleProjRefIdeal.τ).loc Cert.AdamPleProjRefIdeal.main_arg1) = m' ((c.tc : Thread Cert.AdamPleProjRefIdeal.nD Cert.AdamPleProjRefIdeal.τ).loc Cert.AdamPleProjRefIdeal.main_arg1)
          ∧ r.2.mem ((c.tc : Thread Cert.AdamPleProjRefIdeal.nD Cert.AdamPleProjRefIdeal.τ).loc Cert.AdamPleProjRefIdeal.main_arg2) = m' ((c.tc : Thread Cert.AdamPleProjRefIdeal.nD Cert.AdamPleProjRefIdeal.τ).loc Cert.AdamPleProjRefIdeal.main_arg2)
          ∧ r.2.mem ((c.tc : Thread Cert.AdamPleProjRefIdeal.nD Cert.AdamPleProjRefIdeal.τ).loc Cert.AdamPleProjRefIdeal.main_arg3) = m' ((c.tc : Thread Cert.AdamPleProjRefIdeal.nD Cert.AdamPleProjRefIdeal.τ).loc Cert.AdamPleProjRefIdeal.main_arg3))

def preserves_AdamPleGate_AdamPleGateIdeal : Prop :=
  True

def algebraic_AdamPleGateIdeal_AdamPleGateRefIdeal [hAdamPleGateIdeal : Cert.AdamPleGateIdeal.Facts] [hAdamPleGateRefIdeal : Cert.AdamPleGateRefIdeal.Facts] : Prop :=
  ∀ (m : (ℓ : Loc Cert.AdamPleGateIdeal.nD Cert.AdamPleGateIdeal.τ Cert.AdamPleGateIdeal.sig) → Buf (Elt Ideal) ℓ) (g : Dev Cert.AdamPleGateIdeal.nD → PrngReg)
    (m' : (ℓ : Loc Cert.AdamPleGateRefIdeal.nD Cert.AdamPleGateRefIdeal.τ Cert.AdamPleGateRefIdeal.sig) → Buf (Elt Ideal) ℓ) (g' : Dev Cert.AdamPleGateRefIdeal.nD → PrngReg), Pre_AdamPleGateIdeal m →
    (∀ c : Dev Cert.AdamPleGateIdeal.nD,
      m' ((c.tc : Thread Cert.AdamPleGateRefIdeal.nD Cert.AdamPleGateRefIdeal.τ).loc Cert.AdamPleGateRefIdeal.main_arg0) = m ((c.tc : Thread Cert.AdamPleGateIdeal.nD Cert.AdamPleGateIdeal.τ).loc Cert.AdamPleGateIdeal.main_arg0)
      ∧ m' ((c.tc : Thread Cert.AdamPleGateRefIdeal.nD Cert.AdamPleGateRefIdeal.τ).loc Cert.AdamPleGateRefIdeal.main_arg1) = m ((c.tc : Thread Cert.AdamPleGateIdeal.nD Cert.AdamPleGateIdeal.τ).loc Cert.AdamPleGateIdeal.main_arg1)
      ∧ m' ((c.tc : Thread Cert.AdamPleGateRefIdeal.nD Cert.AdamPleGateRefIdeal.τ).loc Cert.AdamPleGateRefIdeal.main_arg2) = m ((c.tc : Thread Cert.AdamPleGateIdeal.nD Cert.AdamPleGateIdeal.τ).loc Cert.AdamPleGateIdeal.main_arg2)
      ∧ m' ((c.tc : Thread Cert.AdamPleGateRefIdeal.nD Cert.AdamPleGateRefIdeal.τ).loc Cert.AdamPleGateRefIdeal.main_arg3) = m ((c.tc : Thread Cert.AdamPleGateIdeal.nD Cert.AdamPleGateIdeal.τ).loc Cert.AdamPleGateIdeal.main_arg3)) →
    ∃ (v0 : (c : Dev Cert.AdamPleGateIdeal.nD) → Buf (Elt Ideal) ((c.tc : Thread Cert.AdamPleGateIdeal.nD Cert.AdamPleGateIdeal.τ).loc Cert.AdamPleGateIdeal.main_v4_0)) (v1 : (c : Dev Cert.AdamPleGateIdeal.nD) → Buf (Elt Ideal) ((c.tc : Thread Cert.AdamPleGateIdeal.nD Cert.AdamPleGateIdeal.τ).loc Cert.AdamPleGateIdeal.main_v4_1)) (v2 : (c : Dev Cert.AdamPleGateIdeal.nD) → Buf (Elt Ideal) ((c.tc : Thread Cert.AdamPleGateIdeal.nD Cert.AdamPleGateIdeal.τ).loc Cert.AdamPleGateIdeal.main_v4_2)),
      θ_run (Cert.AdamPleGateIdeal.defs (F := Ideal)) (onTc (τ := Cert.AdamPleGateIdeal.τ) (Cert.AdamPleGateIdeal.main (F := Ideal))) ⟨m, fun _ => 0, g⟩ (fun r => ∀ c : Dev Cert.AdamPleGateIdeal.nD,
          r.2.mem ((c.tc : Thread Cert.AdamPleGateIdeal.nD Cert.AdamPleGateIdeal.τ).loc Cert.AdamPleGateIdeal.main_v4_0) = v0 c
          ∧ r.2.mem ((c.tc : Thread Cert.AdamPleGateIdeal.nD Cert.AdamPleGateIdeal.τ).loc Cert.AdamPleGateIdeal.main_v4_1) = v1 c
          ∧ r.2.mem ((c.tc : Thread Cert.AdamPleGateIdeal.nD Cert.AdamPleGateIdeal.τ).loc Cert.AdamPleGateIdeal.main_v4_2) = v2 c
          ∧ r.2.mem ((c.tc : Thread Cert.AdamPleGateIdeal.nD Cert.AdamPleGateIdeal.τ).loc Cert.AdamPleGateIdeal.main_arg0) = m ((c.tc : Thread Cert.AdamPleGateIdeal.nD Cert.AdamPleGateIdeal.τ).loc Cert.AdamPleGateIdeal.main_arg0)
          ∧ r.2.mem ((c.tc : Thread Cert.AdamPleGateIdeal.nD Cert.AdamPleGateIdeal.τ).loc Cert.AdamPleGateIdeal.main_arg1) = m ((c.tc : Thread Cert.AdamPleGateIdeal.nD Cert.AdamPleGateIdeal.τ).loc Cert.AdamPleGateIdeal.main_arg1)
          ∧ r.2.mem ((c.tc : Thread Cert.AdamPleGateIdeal.nD Cert.AdamPleGateIdeal.τ).loc Cert.AdamPleGateIdeal.main_arg2) = m ((c.tc : Thread Cert.AdamPleGateIdeal.nD Cert.AdamPleGateIdeal.τ).loc Cert.AdamPleGateIdeal.main_arg2)
          ∧ r.2.mem ((c.tc : Thread Cert.AdamPleGateIdeal.nD Cert.AdamPleGateIdeal.τ).loc Cert.AdamPleGateIdeal.main_arg3) = m ((c.tc : Thread Cert.AdamPleGateIdeal.nD Cert.AdamPleGateIdeal.τ).loc Cert.AdamPleGateIdeal.main_arg3))
      ∧ θ_run (Cert.AdamPleGateRefIdeal.defs (F := Ideal)) (onTc (τ := Cert.AdamPleGateRefIdeal.τ) (Cert.AdamPleGateRefIdeal.main (F := Ideal))) ⟨m', fun _ => 0, g'⟩ (fun r => ∀ c : Dev Cert.AdamPleGateRefIdeal.nD,
          r.2.mem ((c.tc : Thread Cert.AdamPleGateRefIdeal.nD Cert.AdamPleGateRefIdeal.τ).loc Cert.AdamPleGateRefIdeal.main_v24) = v0 c
          ∧ r.2.mem ((c.tc : Thread Cert.AdamPleGateRefIdeal.nD Cert.AdamPleGateRefIdeal.τ).loc Cert.AdamPleGateRefIdeal.main_v25) = v1 c
          ∧ r.2.mem ((c.tc : Thread Cert.AdamPleGateRefIdeal.nD Cert.AdamPleGateRefIdeal.τ).loc Cert.AdamPleGateRefIdeal.main_v26) = v2 c
          ∧ r.2.mem ((c.tc : Thread Cert.AdamPleGateRefIdeal.nD Cert.AdamPleGateRefIdeal.τ).loc Cert.AdamPleGateRefIdeal.main_arg0) = m' ((c.tc : Thread Cert.AdamPleGateRefIdeal.nD Cert.AdamPleGateRefIdeal.τ).loc Cert.AdamPleGateRefIdeal.main_arg0)
          ∧ r.2.mem ((c.tc : Thread Cert.AdamPleGateRefIdeal.nD Cert.AdamPleGateRefIdeal.τ).loc Cert.AdamPleGateRefIdeal.main_arg1) = m' ((c.tc : Thread Cert.AdamPleGateRefIdeal.nD Cert.AdamPleGateRefIdeal.τ).loc Cert.AdamPleGateRefIdeal.main_arg1)
          ∧ r.2.mem ((c.tc : Thread Cert.AdamPleGateRefIdeal.nD Cert.AdamPleGateRefIdeal.τ).loc Cert.AdamPleGateRefIdeal.main_arg2) = m' ((c.tc : Thread Cert.AdamPleGateRefIdeal.nD Cert.AdamPleGateRefIdeal.τ).loc Cert.AdamPleGateRefIdeal.main_arg2)
          ∧ r.2.mem ((c.tc : Thread Cert.AdamPleGateRefIdeal.nD Cert.AdamPleGateRefIdeal.τ).loc Cert.AdamPleGateRefIdeal.main_arg3) = m' ((c.tc : Thread Cert.AdamPleGateRefIdeal.nD Cert.AdamPleGateRefIdeal.τ).loc Cert.AdamPleGateRefIdeal.main_arg3))

def preserves_FfnDownBwd_FfnDownBwdIdeal : Prop :=
  True

def algebraic_FfnDownBwdIdeal_FfnDownBwdRefIdeal [hFfnDownBwdIdeal : Cert.FfnDownBwdIdeal.Facts] [hFfnDownBwdRefIdeal : Cert.FfnDownBwdRefIdeal.Facts] [hPre_finite_down : Cert.Pre_finite_down.Facts] : Prop :=
  ∀ (m : (ℓ : Loc Cert.FfnDownBwdIdeal.nD Cert.FfnDownBwdIdeal.τ Cert.FfnDownBwdIdeal.sig) → Buf (Elt Ideal) ℓ) (g : Dev Cert.FfnDownBwdIdeal.nD → PrngReg)
    (m' : (ℓ : Loc Cert.FfnDownBwdRefIdeal.nD Cert.FfnDownBwdRefIdeal.τ Cert.FfnDownBwdRefIdeal.sig) → Buf (Elt Ideal) ℓ) (g' : Dev Cert.FfnDownBwdRefIdeal.nD → PrngReg), Pre_FfnDownBwdIdeal m →
    (∀ c : Dev Cert.FfnDownBwdIdeal.nD,
      m' ((c.tc : Thread Cert.FfnDownBwdRefIdeal.nD Cert.FfnDownBwdRefIdeal.τ).loc Cert.FfnDownBwdRefIdeal.main_arg0) = m ((c.tc : Thread Cert.FfnDownBwdIdeal.nD Cert.FfnDownBwdIdeal.τ).loc Cert.FfnDownBwdIdeal.main_arg0)
      ∧ m' ((c.tc : Thread Cert.FfnDownBwdRefIdeal.nD Cert.FfnDownBwdRefIdeal.τ).loc Cert.FfnDownBwdRefIdeal.main_arg1) = m ((c.tc : Thread Cert.FfnDownBwdIdeal.nD Cert.FfnDownBwdIdeal.τ).loc Cert.FfnDownBwdIdeal.main_arg1)
      ∧ m' ((c.tc : Thread Cert.FfnDownBwdRefIdeal.nD Cert.FfnDownBwdRefIdeal.τ).loc Cert.FfnDownBwdRefIdeal.main_arg2) = m ((c.tc : Thread Cert.FfnDownBwdIdeal.nD Cert.FfnDownBwdIdeal.τ).loc Cert.FfnDownBwdIdeal.main_arg2)) →
    ∃ (v0 : (c : Dev Cert.FfnDownBwdIdeal.nD) → Buf (Elt Ideal) ((c.tc : Thread Cert.FfnDownBwdIdeal.nD Cert.FfnDownBwdIdeal.τ).loc Cert.FfnDownBwdIdeal.main_v9)),
      θ_run (Cert.FfnDownBwdIdeal.defs (F := Ideal)) (onTc (τ := Cert.FfnDownBwdIdeal.τ) (Cert.FfnDownBwdIdeal.main (F := Ideal))) ⟨m, fun _ => 0, g⟩ (fun r => ∀ c : Dev Cert.FfnDownBwdIdeal.nD,
          r.2.mem ((c.tc : Thread Cert.FfnDownBwdIdeal.nD Cert.FfnDownBwdIdeal.τ).loc Cert.FfnDownBwdIdeal.main_v9) = v0 c
          ∧ r.2.mem ((c.tc : Thread Cert.FfnDownBwdIdeal.nD Cert.FfnDownBwdIdeal.τ).loc Cert.FfnDownBwdIdeal.main_arg0) = m ((c.tc : Thread Cert.FfnDownBwdIdeal.nD Cert.FfnDownBwdIdeal.τ).loc Cert.FfnDownBwdIdeal.main_arg0)
          ∧ r.2.mem ((c.tc : Thread Cert.FfnDownBwdIdeal.nD Cert.FfnDownBwdIdeal.τ).loc Cert.FfnDownBwdIdeal.main_arg1) = m ((c.tc : Thread Cert.FfnDownBwdIdeal.nD Cert.FfnDownBwdIdeal.τ).loc Cert.FfnDownBwdIdeal.main_arg1)
          ∧ r.2.mem ((c.tc : Thread Cert.FfnDownBwdIdeal.nD Cert.FfnDownBwdIdeal.τ).loc Cert.FfnDownBwdIdeal.main_arg2) = m ((c.tc : Thread Cert.FfnDownBwdIdeal.nD Cert.FfnDownBwdIdeal.τ).loc Cert.FfnDownBwdIdeal.main_arg2))
      ∧ θ_run (Cert.FfnDownBwdRefIdeal.defs (F := Ideal)) (onTc (τ := Cert.FfnDownBwdRefIdeal.τ) (Cert.FfnDownBwdRefIdeal.main (F := Ideal))) ⟨m', fun _ => 0, g'⟩ (fun r => ∀ c : Dev Cert.FfnDownBwdRefIdeal.nD,
          r.2.mem ((c.tc : Thread Cert.FfnDownBwdRefIdeal.nD Cert.FfnDownBwdRefIdeal.τ).loc Cert.FfnDownBwdRefIdeal.main_v10) = v0 c
          ∧ r.2.mem ((c.tc : Thread Cert.FfnDownBwdRefIdeal.nD Cert.FfnDownBwdRefIdeal.τ).loc Cert.FfnDownBwdRefIdeal.main_arg0) = m' ((c.tc : Thread Cert.FfnDownBwdRefIdeal.nD Cert.FfnDownBwdRefIdeal.τ).loc Cert.FfnDownBwdRefIdeal.main_arg0)
          ∧ r.2.mem ((c.tc : Thread Cert.FfnDownBwdRefIdeal.nD Cert.FfnDownBwdRefIdeal.τ).loc Cert.FfnDownBwdRefIdeal.main_arg1) = m' ((c.tc : Thread Cert.FfnDownBwdRefIdeal.nD Cert.FfnDownBwdRefIdeal.τ).loc Cert.FfnDownBwdRefIdeal.main_arg1)
          ∧ r.2.mem ((c.tc : Thread Cert.FfnDownBwdRefIdeal.nD Cert.FfnDownBwdRefIdeal.τ).loc Cert.FfnDownBwdRefIdeal.main_arg2) = m' ((c.tc : Thread Cert.FfnDownBwdRefIdeal.nD Cert.FfnDownBwdRefIdeal.τ).loc Cert.FfnDownBwdRefIdeal.main_arg2))

def preserves_UpLnBwd_UpLnBwdIdeal : Prop :=
  True

def algebraic_UpLnBwdIdeal_UpLnBwdRefIdeal [hUpLnBwdIdeal : Cert.UpLnBwdIdeal.Facts] [hUpLnBwdRefIdeal : Cert.UpLnBwdRefIdeal.Facts] [hPre_finite_up : Cert.Pre_finite_up.Facts] : Prop :=
  ∀ (m : (ℓ : Loc Cert.UpLnBwdIdeal.nD Cert.UpLnBwdIdeal.τ Cert.UpLnBwdIdeal.sig) → Buf (Elt Ideal) ℓ) (g : Dev Cert.UpLnBwdIdeal.nD → PrngReg)
    (m' : (ℓ : Loc Cert.UpLnBwdRefIdeal.nD Cert.UpLnBwdRefIdeal.τ Cert.UpLnBwdRefIdeal.sig) → Buf (Elt Ideal) ℓ) (g' : Dev Cert.UpLnBwdRefIdeal.nD → PrngReg), Pre_UpLnBwdIdeal m →
    (∀ c : Dev Cert.UpLnBwdIdeal.nD,
      m' ((c.tc : Thread Cert.UpLnBwdRefIdeal.nD Cert.UpLnBwdRefIdeal.τ).loc Cert.UpLnBwdRefIdeal.main_arg0) = m ((c.tc : Thread Cert.UpLnBwdIdeal.nD Cert.UpLnBwdIdeal.τ).loc Cert.UpLnBwdIdeal.main_arg0)
      ∧ m' ((c.tc : Thread Cert.UpLnBwdRefIdeal.nD Cert.UpLnBwdRefIdeal.τ).loc Cert.UpLnBwdRefIdeal.main_arg1) = m ((c.tc : Thread Cert.UpLnBwdIdeal.nD Cert.UpLnBwdIdeal.τ).loc Cert.UpLnBwdIdeal.main_arg1)
      ∧ m' ((c.tc : Thread Cert.UpLnBwdRefIdeal.nD Cert.UpLnBwdRefIdeal.τ).loc Cert.UpLnBwdRefIdeal.main_arg2) = m ((c.tc : Thread Cert.UpLnBwdIdeal.nD Cert.UpLnBwdIdeal.τ).loc Cert.UpLnBwdIdeal.main_arg2)
      ∧ m' ((c.tc : Thread Cert.UpLnBwdRefIdeal.nD Cert.UpLnBwdRefIdeal.τ).loc Cert.UpLnBwdRefIdeal.main_arg3) = m ((c.tc : Thread Cert.UpLnBwdIdeal.nD Cert.UpLnBwdIdeal.τ).loc Cert.UpLnBwdIdeal.main_arg3)
      ∧ m' ((c.tc : Thread Cert.UpLnBwdRefIdeal.nD Cert.UpLnBwdRefIdeal.τ).loc Cert.UpLnBwdRefIdeal.main_arg4) = m ((c.tc : Thread Cert.UpLnBwdIdeal.nD Cert.UpLnBwdIdeal.τ).loc Cert.UpLnBwdIdeal.main_arg4)) →
    ∃ (v0 : (c : Dev Cert.UpLnBwdIdeal.nD) → Buf (Elt Ideal) ((c.tc : Thread Cert.UpLnBwdIdeal.nD Cert.UpLnBwdIdeal.τ).loc Cert.UpLnBwdIdeal.main_v2_0)) (v1 : (c : Dev Cert.UpLnBwdIdeal.nD) → Buf (Elt Ideal) ((c.tc : Thread Cert.UpLnBwdIdeal.nD Cert.UpLnBwdIdeal.τ).loc Cert.UpLnBwdIdeal.main_v2_1)) (v2 : (c : Dev Cert.UpLnBwdIdeal.nD) → Buf (Elt Ideal) ((c.tc : Thread Cert.UpLnBwdIdeal.nD Cert.UpLnBwdIdeal.τ).loc Cert.UpLnBwdIdeal.main_v2_2)),
      θ_run (Cert.UpLnBwdIdeal.defs (F := Ideal)) (onTc (τ := Cert.UpLnBwdIdeal.τ) (Cert.UpLnBwdIdeal.main (F := Ideal))) ⟨m, fun _ => 0, g⟩ (fun r => ∀ c : Dev Cert.UpLnBwdIdeal.nD,
          r.2.mem ((c.tc : Thread Cert.UpLnBwdIdeal.nD Cert.UpLnBwdIdeal.τ).loc Cert.UpLnBwdIdeal.main_v2_0) = v0 c
          ∧ r.2.mem ((c.tc : Thread Cert.UpLnBwdIdeal.nD Cert.UpLnBwdIdeal.τ).loc Cert.UpLnBwdIdeal.main_v2_1) = v1 c
          ∧ r.2.mem ((c.tc : Thread Cert.UpLnBwdIdeal.nD Cert.UpLnBwdIdeal.τ).loc Cert.UpLnBwdIdeal.main_v2_2) = v2 c
          ∧ r.2.mem ((c.tc : Thread Cert.UpLnBwdIdeal.nD Cert.UpLnBwdIdeal.τ).loc Cert.UpLnBwdIdeal.main_arg0) = m ((c.tc : Thread Cert.UpLnBwdIdeal.nD Cert.UpLnBwdIdeal.τ).loc Cert.UpLnBwdIdeal.main_arg0)
          ∧ r.2.mem ((c.tc : Thread Cert.UpLnBwdIdeal.nD Cert.UpLnBwdIdeal.τ).loc Cert.UpLnBwdIdeal.main_arg1) = m ((c.tc : Thread Cert.UpLnBwdIdeal.nD Cert.UpLnBwdIdeal.τ).loc Cert.UpLnBwdIdeal.main_arg1)
          ∧ r.2.mem ((c.tc : Thread Cert.UpLnBwdIdeal.nD Cert.UpLnBwdIdeal.τ).loc Cert.UpLnBwdIdeal.main_arg2) = m ((c.tc : Thread Cert.UpLnBwdIdeal.nD Cert.UpLnBwdIdeal.τ).loc Cert.UpLnBwdIdeal.main_arg2)
          ∧ r.2.mem ((c.tc : Thread Cert.UpLnBwdIdeal.nD Cert.UpLnBwdIdeal.τ).loc Cert.UpLnBwdIdeal.main_arg3) = m ((c.tc : Thread Cert.UpLnBwdIdeal.nD Cert.UpLnBwdIdeal.τ).loc Cert.UpLnBwdIdeal.main_arg3)
          ∧ r.2.mem ((c.tc : Thread Cert.UpLnBwdIdeal.nD Cert.UpLnBwdIdeal.τ).loc Cert.UpLnBwdIdeal.main_arg4) = m ((c.tc : Thread Cert.UpLnBwdIdeal.nD Cert.UpLnBwdIdeal.τ).loc Cert.UpLnBwdIdeal.main_arg4))
      ∧ θ_run (Cert.UpLnBwdRefIdeal.defs (F := Ideal)) (onTc (τ := Cert.UpLnBwdRefIdeal.τ) (Cert.UpLnBwdRefIdeal.main (F := Ideal))) ⟨m', fun _ => 0, g'⟩ (fun r => ∀ c : Dev Cert.UpLnBwdRefIdeal.nD,
          r.2.mem ((c.tc : Thread Cert.UpLnBwdRefIdeal.nD Cert.UpLnBwdRefIdeal.τ).loc Cert.UpLnBwdRefIdeal.main_v70) = v0 c
          ∧ r.2.mem ((c.tc : Thread Cert.UpLnBwdRefIdeal.nD Cert.UpLnBwdRefIdeal.τ).loc Cert.UpLnBwdRefIdeal.main_v71) = v1 c
          ∧ r.2.mem ((c.tc : Thread Cert.UpLnBwdRefIdeal.nD Cert.UpLnBwdRefIdeal.τ).loc Cert.UpLnBwdRefIdeal.main_v72) = v2 c
          ∧ r.2.mem ((c.tc : Thread Cert.UpLnBwdRefIdeal.nD Cert.UpLnBwdRefIdeal.τ).loc Cert.UpLnBwdRefIdeal.main_arg0) = m' ((c.tc : Thread Cert.UpLnBwdRefIdeal.nD Cert.UpLnBwdRefIdeal.τ).loc Cert.UpLnBwdRefIdeal.main_arg0)
          ∧ r.2.mem ((c.tc : Thread Cert.UpLnBwdRefIdeal.nD Cert.UpLnBwdRefIdeal.τ).loc Cert.UpLnBwdRefIdeal.main_arg1) = m' ((c.tc : Thread Cert.UpLnBwdRefIdeal.nD Cert.UpLnBwdRefIdeal.τ).loc Cert.UpLnBwdRefIdeal.main_arg1)
          ∧ r.2.mem ((c.tc : Thread Cert.UpLnBwdRefIdeal.nD Cert.UpLnBwdRefIdeal.τ).loc Cert.UpLnBwdRefIdeal.main_arg2) = m' ((c.tc : Thread Cert.UpLnBwdRefIdeal.nD Cert.UpLnBwdRefIdeal.τ).loc Cert.UpLnBwdRefIdeal.main_arg2)
          ∧ r.2.mem ((c.tc : Thread Cert.UpLnBwdRefIdeal.nD Cert.UpLnBwdRefIdeal.τ).loc Cert.UpLnBwdRefIdeal.main_arg3) = m' ((c.tc : Thread Cert.UpLnBwdRefIdeal.nD Cert.UpLnBwdRefIdeal.τ).loc Cert.UpLnBwdRefIdeal.main_arg3)
          ∧ r.2.mem ((c.tc : Thread Cert.UpLnBwdRefIdeal.nD Cert.UpLnBwdRefIdeal.τ).loc Cert.UpLnBwdRefIdeal.main_arg4) = m' ((c.tc : Thread Cert.UpLnBwdRefIdeal.nD Cert.UpLnBwdRefIdeal.τ).loc Cert.UpLnBwdRefIdeal.main_arg4))

def preserves_PleLnBwd_PleLnBwdIdeal : Prop :=
  True

def algebraic_PleLnBwdIdeal_PleLnBwdRefIdeal [hPleLnBwdIdeal : Cert.PleLnBwdIdeal.Facts] [hPleLnBwdRefIdeal : Cert.PleLnBwdRefIdeal.Facts] [hPre_finite_ple : Cert.Pre_finite_ple.Facts] : Prop :=
  ∀ (m : (ℓ : Loc Cert.PleLnBwdIdeal.nD Cert.PleLnBwdIdeal.τ Cert.PleLnBwdIdeal.sig) → Buf (Elt Ideal) ℓ) (g : Dev Cert.PleLnBwdIdeal.nD → PrngReg)
    (m' : (ℓ : Loc Cert.PleLnBwdRefIdeal.nD Cert.PleLnBwdRefIdeal.τ Cert.PleLnBwdRefIdeal.sig) → Buf (Elt Ideal) ℓ) (g' : Dev Cert.PleLnBwdRefIdeal.nD → PrngReg), Pre_PleLnBwdIdeal m →
    (∀ c : Dev Cert.PleLnBwdIdeal.nD,
      m' ((c.tc : Thread Cert.PleLnBwdRefIdeal.nD Cert.PleLnBwdRefIdeal.τ).loc Cert.PleLnBwdRefIdeal.main_arg0) = m ((c.tc : Thread Cert.PleLnBwdIdeal.nD Cert.PleLnBwdIdeal.τ).loc Cert.PleLnBwdIdeal.main_arg0)
      ∧ m' ((c.tc : Thread Cert.PleLnBwdRefIdeal.nD Cert.PleLnBwdRefIdeal.τ).loc Cert.PleLnBwdRefIdeal.main_arg1) = m ((c.tc : Thread Cert.PleLnBwdIdeal.nD Cert.PleLnBwdIdeal.τ).loc Cert.PleLnBwdIdeal.main_arg1)
      ∧ m' ((c.tc : Thread Cert.PleLnBwdRefIdeal.nD Cert.PleLnBwdRefIdeal.τ).loc Cert.PleLnBwdRefIdeal.main_arg2) = m ((c.tc : Thread Cert.PleLnBwdIdeal.nD Cert.PleLnBwdIdeal.τ).loc Cert.PleLnBwdIdeal.main_arg2)
      ∧ m' ((c.tc : Thread Cert.PleLnBwdRefIdeal.nD Cert.PleLnBwdRefIdeal.τ).loc Cert.PleLnBwdRefIdeal.main_arg3) = m ((c.tc : Thread Cert.PleLnBwdIdeal.nD Cert.PleLnBwdIdeal.τ).loc Cert.PleLnBwdIdeal.main_arg3)
      ∧ m' ((c.tc : Thread Cert.PleLnBwdRefIdeal.nD Cert.PleLnBwdRefIdeal.τ).loc Cert.PleLnBwdRefIdeal.main_arg4) = m ((c.tc : Thread Cert.PleLnBwdIdeal.nD Cert.PleLnBwdIdeal.τ).loc Cert.PleLnBwdIdeal.main_arg4)
      ∧ m' ((c.tc : Thread Cert.PleLnBwdRefIdeal.nD Cert.PleLnBwdRefIdeal.τ).loc Cert.PleLnBwdRefIdeal.main_arg5) = m ((c.tc : Thread Cert.PleLnBwdIdeal.nD Cert.PleLnBwdIdeal.τ).loc Cert.PleLnBwdIdeal.main_arg5)
      ∧ m' ((c.tc : Thread Cert.PleLnBwdRefIdeal.nD Cert.PleLnBwdRefIdeal.τ).loc Cert.PleLnBwdRefIdeal.main_arg6) = m ((c.tc : Thread Cert.PleLnBwdIdeal.nD Cert.PleLnBwdIdeal.τ).loc Cert.PleLnBwdIdeal.main_arg6)
      ∧ m' ((c.tc : Thread Cert.PleLnBwdRefIdeal.nD Cert.PleLnBwdRefIdeal.τ).loc Cert.PleLnBwdRefIdeal.main_arg7) = m ((c.tc : Thread Cert.PleLnBwdIdeal.nD Cert.PleLnBwdIdeal.τ).loc Cert.PleLnBwdIdeal.main_arg7)) →
    ∃ (v0 : (c : Dev Cert.PleLnBwdIdeal.nD) → Buf (Elt Ideal) ((c.tc : Thread Cert.PleLnBwdIdeal.nD Cert.PleLnBwdIdeal.τ).loc Cert.PleLnBwdIdeal.main_v39_0)) (v1 : (c : Dev Cert.PleLnBwdIdeal.nD) → Buf (Elt Ideal) ((c.tc : Thread Cert.PleLnBwdIdeal.nD Cert.PleLnBwdIdeal.τ).loc Cert.PleLnBwdIdeal.main_v39_1)) (v2 : (c : Dev Cert.PleLnBwdIdeal.nD) → Buf (Elt Ideal) ((c.tc : Thread Cert.PleLnBwdIdeal.nD Cert.PleLnBwdIdeal.τ).loc Cert.PleLnBwdIdeal.main_v39_2)) (v3 : (c : Dev Cert.PleLnBwdIdeal.nD) → Buf (Elt Ideal) ((c.tc : Thread Cert.PleLnBwdIdeal.nD Cert.PleLnBwdIdeal.τ).loc Cert.PleLnBwdIdeal.main_v39_3)) (v4 : (c : Dev Cert.PleLnBwdIdeal.nD) → Buf (Elt Ideal) ((c.tc : Thread Cert.PleLnBwdIdeal.nD Cert.PleLnBwdIdeal.τ).loc Cert.PleLnBwdIdeal.main_v39_4)) (v5 : (c : Dev Cert.PleLnBwdIdeal.nD) → Buf (Elt Ideal) ((c.tc : Thread Cert.PleLnBwdIdeal.nD Cert.PleLnBwdIdeal.τ).loc Cert.PleLnBwdIdeal.main_v39_5)),
      θ_run (Cert.PleLnBwdIdeal.defs (F := Ideal)) (onTc (τ := Cert.PleLnBwdIdeal.τ) (Cert.PleLnBwdIdeal.main (F := Ideal))) ⟨m, fun _ => 0, g⟩ (fun r => ∀ c : Dev Cert.PleLnBwdIdeal.nD,
          r.2.mem ((c.tc : Thread Cert.PleLnBwdIdeal.nD Cert.PleLnBwdIdeal.τ).loc Cert.PleLnBwdIdeal.main_v39_0) = v0 c
          ∧ r.2.mem ((c.tc : Thread Cert.PleLnBwdIdeal.nD Cert.PleLnBwdIdeal.τ).loc Cert.PleLnBwdIdeal.main_v39_1) = v1 c
          ∧ r.2.mem ((c.tc : Thread Cert.PleLnBwdIdeal.nD Cert.PleLnBwdIdeal.τ).loc Cert.PleLnBwdIdeal.main_v39_2) = v2 c
          ∧ r.2.mem ((c.tc : Thread Cert.PleLnBwdIdeal.nD Cert.PleLnBwdIdeal.τ).loc Cert.PleLnBwdIdeal.main_v39_3) = v3 c
          ∧ r.2.mem ((c.tc : Thread Cert.PleLnBwdIdeal.nD Cert.PleLnBwdIdeal.τ).loc Cert.PleLnBwdIdeal.main_v39_4) = v4 c
          ∧ r.2.mem ((c.tc : Thread Cert.PleLnBwdIdeal.nD Cert.PleLnBwdIdeal.τ).loc Cert.PleLnBwdIdeal.main_v39_5) = v5 c
          ∧ r.2.mem ((c.tc : Thread Cert.PleLnBwdIdeal.nD Cert.PleLnBwdIdeal.τ).loc Cert.PleLnBwdIdeal.main_arg0) = m ((c.tc : Thread Cert.PleLnBwdIdeal.nD Cert.PleLnBwdIdeal.τ).loc Cert.PleLnBwdIdeal.main_arg0)
          ∧ r.2.mem ((c.tc : Thread Cert.PleLnBwdIdeal.nD Cert.PleLnBwdIdeal.τ).loc Cert.PleLnBwdIdeal.main_arg1) = m ((c.tc : Thread Cert.PleLnBwdIdeal.nD Cert.PleLnBwdIdeal.τ).loc Cert.PleLnBwdIdeal.main_arg1)
          ∧ r.2.mem ((c.tc : Thread Cert.PleLnBwdIdeal.nD Cert.PleLnBwdIdeal.τ).loc Cert.PleLnBwdIdeal.main_arg2) = m ((c.tc : Thread Cert.PleLnBwdIdeal.nD Cert.PleLnBwdIdeal.τ).loc Cert.PleLnBwdIdeal.main_arg2)
          ∧ r.2.mem ((c.tc : Thread Cert.PleLnBwdIdeal.nD Cert.PleLnBwdIdeal.τ).loc Cert.PleLnBwdIdeal.main_arg3) = m ((c.tc : Thread Cert.PleLnBwdIdeal.nD Cert.PleLnBwdIdeal.τ).loc Cert.PleLnBwdIdeal.main_arg3)
          ∧ r.2.mem ((c.tc : Thread Cert.PleLnBwdIdeal.nD Cert.PleLnBwdIdeal.τ).loc Cert.PleLnBwdIdeal.main_arg4) = m ((c.tc : Thread Cert.PleLnBwdIdeal.nD Cert.PleLnBwdIdeal.τ).loc Cert.PleLnBwdIdeal.main_arg4)
          ∧ r.2.mem ((c.tc : Thread Cert.PleLnBwdIdeal.nD Cert.PleLnBwdIdeal.τ).loc Cert.PleLnBwdIdeal.main_arg5) = m ((c.tc : Thread Cert.PleLnBwdIdeal.nD Cert.PleLnBwdIdeal.τ).loc Cert.PleLnBwdIdeal.main_arg5)
          ∧ r.2.mem ((c.tc : Thread Cert.PleLnBwdIdeal.nD Cert.PleLnBwdIdeal.τ).loc Cert.PleLnBwdIdeal.main_arg6) = m ((c.tc : Thread Cert.PleLnBwdIdeal.nD Cert.PleLnBwdIdeal.τ).loc Cert.PleLnBwdIdeal.main_arg6)
          ∧ r.2.mem ((c.tc : Thread Cert.PleLnBwdIdeal.nD Cert.PleLnBwdIdeal.τ).loc Cert.PleLnBwdIdeal.main_arg7) = m ((c.tc : Thread Cert.PleLnBwdIdeal.nD Cert.PleLnBwdIdeal.τ).loc Cert.PleLnBwdIdeal.main_arg7))
      ∧ θ_run (Cert.PleLnBwdRefIdeal.defs (F := Ideal)) (onTc (τ := Cert.PleLnBwdRefIdeal.τ) (Cert.PleLnBwdRefIdeal.main (F := Ideal))) ⟨m', fun _ => 0, g'⟩ (fun r => ∀ c : Dev Cert.PleLnBwdRefIdeal.nD,
          r.2.mem ((c.tc : Thread Cert.PleLnBwdRefIdeal.nD Cert.PleLnBwdRefIdeal.τ).loc Cert.PleLnBwdRefIdeal.main_v88) = v0 c
          ∧ r.2.mem ((c.tc : Thread Cert.PleLnBwdRefIdeal.nD Cert.PleLnBwdRefIdeal.τ).loc Cert.PleLnBwdRefIdeal.main_v89) = v1 c
          ∧ r.2.mem ((c.tc : Thread Cert.PleLnBwdRefIdeal.nD Cert.PleLnBwdRefIdeal.τ).loc Cert.PleLnBwdRefIdeal.main_v87) = v2 c
          ∧ r.2.mem ((c.tc : Thread Cert.PleLnBwdRefIdeal.nD Cert.PleLnBwdRefIdeal.τ).loc Cert.PleLnBwdRefIdeal.main_v90) = v3 c
          ∧ r.2.mem ((c.tc : Thread Cert.PleLnBwdRefIdeal.nD Cert.PleLnBwdRefIdeal.τ).loc Cert.PleLnBwdRefIdeal.main_v91) = v4 c
          ∧ r.2.mem ((c.tc : Thread Cert.PleLnBwdRefIdeal.nD Cert.PleLnBwdRefIdeal.τ).loc Cert.PleLnBwdRefIdeal.main_v92) = v5 c
          ∧ r.2.mem ((c.tc : Thread Cert.PleLnBwdRefIdeal.nD Cert.PleLnBwdRefIdeal.τ).loc Cert.PleLnBwdRefIdeal.main_arg0) = m' ((c.tc : Thread Cert.PleLnBwdRefIdeal.nD Cert.PleLnBwdRefIdeal.τ).loc Cert.PleLnBwdRefIdeal.main_arg0)
          ∧ r.2.mem ((c.tc : Thread Cert.PleLnBwdRefIdeal.nD Cert.PleLnBwdRefIdeal.τ).loc Cert.PleLnBwdRefIdeal.main_arg1) = m' ((c.tc : Thread Cert.PleLnBwdRefIdeal.nD Cert.PleLnBwdRefIdeal.τ).loc Cert.PleLnBwdRefIdeal.main_arg1)
          ∧ r.2.mem ((c.tc : Thread Cert.PleLnBwdRefIdeal.nD Cert.PleLnBwdRefIdeal.τ).loc Cert.PleLnBwdRefIdeal.main_arg2) = m' ((c.tc : Thread Cert.PleLnBwdRefIdeal.nD Cert.PleLnBwdRefIdeal.τ).loc Cert.PleLnBwdRefIdeal.main_arg2)
          ∧ r.2.mem ((c.tc : Thread Cert.PleLnBwdRefIdeal.nD Cert.PleLnBwdRefIdeal.τ).loc Cert.PleLnBwdRefIdeal.main_arg3) = m' ((c.tc : Thread Cert.PleLnBwdRefIdeal.nD Cert.PleLnBwdRefIdeal.τ).loc Cert.PleLnBwdRefIdeal.main_arg3)
          ∧ r.2.mem ((c.tc : Thread Cert.PleLnBwdRefIdeal.nD Cert.PleLnBwdRefIdeal.τ).loc Cert.PleLnBwdRefIdeal.main_arg4) = m' ((c.tc : Thread Cert.PleLnBwdRefIdeal.nD Cert.PleLnBwdRefIdeal.τ).loc Cert.PleLnBwdRefIdeal.main_arg4)
          ∧ r.2.mem ((c.tc : Thread Cert.PleLnBwdRefIdeal.nD Cert.PleLnBwdRefIdeal.τ).loc Cert.PleLnBwdRefIdeal.main_arg5) = m' ((c.tc : Thread Cert.PleLnBwdRefIdeal.nD Cert.PleLnBwdRefIdeal.τ).loc Cert.PleLnBwdRefIdeal.main_arg5)
          ∧ r.2.mem ((c.tc : Thread Cert.PleLnBwdRefIdeal.nD Cert.PleLnBwdRefIdeal.τ).loc Cert.PleLnBwdRefIdeal.main_arg6) = m' ((c.tc : Thread Cert.PleLnBwdRefIdeal.nD Cert.PleLnBwdRefIdeal.τ).loc Cert.PleLnBwdRefIdeal.main_arg6)
          ∧ r.2.mem ((c.tc : Thread Cert.PleLnBwdRefIdeal.nD Cert.PleLnBwdRefIdeal.τ).loc Cert.PleLnBwdRefIdeal.main_arg7) = m' ((c.tc : Thread Cert.PleLnBwdRefIdeal.nD Cert.PleLnBwdRefIdeal.τ).loc Cert.PleLnBwdRefIdeal.main_arg7))

def preserves_DS5B_DS5BIdeal : Prop :=
  True

def algebraic_DS5BIdeal_DS5BRefIdeal [hDS5BIdeal : Cert.DS5BIdeal.Facts] [hDS5BRefIdeal : Cert.DS5BRefIdeal.Facts] : Prop :=
  ∀ (m : (ℓ : Loc Cert.DS5BIdeal.nD Cert.DS5BIdeal.τ Cert.DS5BIdeal.sig) → Buf (Elt Ideal) ℓ) (g : Dev Cert.DS5BIdeal.nD → PrngReg)
    (m' : (ℓ : Loc Cert.DS5BRefIdeal.nD Cert.DS5BRefIdeal.τ Cert.DS5BRefIdeal.sig) → Buf (Elt Ideal) ℓ) (g' : Dev Cert.DS5BRefIdeal.nD → PrngReg), Pre_DS5BIdeal m →
    (∀ c : Dev Cert.DS5BIdeal.nD,
      m' ((c.tc : Thread Cert.DS5BRefIdeal.nD Cert.DS5BRefIdeal.τ).loc Cert.DS5BRefIdeal.main_arg0) = m ((c.tc : Thread Cert.DS5BIdeal.nD Cert.DS5BIdeal.τ).loc Cert.DS5BIdeal.main_arg0)
      ∧ m' ((c.tc : Thread Cert.DS5BRefIdeal.nD Cert.DS5BRefIdeal.τ).loc Cert.DS5BRefIdeal.main_arg1) = m ((c.tc : Thread Cert.DS5BIdeal.nD Cert.DS5BIdeal.τ).loc Cert.DS5BIdeal.main_arg1)) →
    ∃ (v0 : (c : Dev Cert.DS5BIdeal.nD) → Buf (Elt Ideal) ((c.tc : Thread Cert.DS5BIdeal.nD Cert.DS5BIdeal.τ).loc Cert.DS5BIdeal.main_v0)),
      θ_run (Cert.DS5BIdeal.defs (F := Ideal)) (onTc (τ := Cert.DS5BIdeal.τ) (Cert.DS5BIdeal.main (F := Ideal))) ⟨m, fun _ => 0, g⟩ (fun r => ∀ c : Dev Cert.DS5BIdeal.nD,
          r.2.mem ((c.tc : Thread Cert.DS5BIdeal.nD Cert.DS5BIdeal.τ).loc Cert.DS5BIdeal.main_v0) = v0 c
          ∧ r.2.mem ((c.tc : Thread Cert.DS5BIdeal.nD Cert.DS5BIdeal.τ).loc Cert.DS5BIdeal.main_arg0) = m ((c.tc : Thread Cert.DS5BIdeal.nD Cert.DS5BIdeal.τ).loc Cert.DS5BIdeal.main_arg0)
          ∧ r.2.mem ((c.tc : Thread Cert.DS5BIdeal.nD Cert.DS5BIdeal.τ).loc Cert.DS5BIdeal.main_arg1) = m ((c.tc : Thread Cert.DS5BIdeal.nD Cert.DS5BIdeal.τ).loc Cert.DS5BIdeal.main_arg1))
      ∧ θ_run (Cert.DS5BRefIdeal.defs (F := Ideal)) (onTc (τ := Cert.DS5BRefIdeal.τ) (Cert.DS5BRefIdeal.main (F := Ideal))) ⟨m', fun _ => 0, g'⟩ (fun r => ∀ c : Dev Cert.DS5BRefIdeal.nD,
          r.2.mem ((c.tc : Thread Cert.DS5BRefIdeal.nD Cert.DS5BRefIdeal.τ).loc Cert.DS5BRefIdeal.main_v30) = v0 c
          ∧ r.2.mem ((c.tc : Thread Cert.DS5BRefIdeal.nD Cert.DS5BRefIdeal.τ).loc Cert.DS5BRefIdeal.main_arg0) = m' ((c.tc : Thread Cert.DS5BRefIdeal.nD Cert.DS5BRefIdeal.τ).loc Cert.DS5BRefIdeal.main_arg0)
          ∧ r.2.mem ((c.tc : Thread Cert.DS5BRefIdeal.nD Cert.DS5BRefIdeal.τ).loc Cert.DS5BRefIdeal.main_arg1) = m' ((c.tc : Thread Cert.DS5BRefIdeal.nD Cert.DS5BRefIdeal.τ).loc Cert.DS5BRefIdeal.main_arg1))

def preserves_DS5C_DS5CIdeal : Prop :=
  True

def algebraic_DS5CIdeal_DS5CRefIdeal [hDS5CIdeal : Cert.DS5CIdeal.Facts] [hDS5CRefIdeal : Cert.DS5CRefIdeal.Facts] : Prop :=
  ∀ (m : (ℓ : Loc Cert.DS5CIdeal.nD Cert.DS5CIdeal.τ Cert.DS5CIdeal.sig) → Buf (Elt Ideal) ℓ) (g : Dev Cert.DS5CIdeal.nD → PrngReg)
    (m' : (ℓ : Loc Cert.DS5CRefIdeal.nD Cert.DS5CRefIdeal.τ Cert.DS5CRefIdeal.sig) → Buf (Elt Ideal) ℓ) (g' : Dev Cert.DS5CRefIdeal.nD → PrngReg), Pre_DS5CIdeal m →
    (∀ c : Dev Cert.DS5CIdeal.nD,
      m' ((c.tc : Thread Cert.DS5CRefIdeal.nD Cert.DS5CRefIdeal.τ).loc Cert.DS5CRefIdeal.main_arg0) = m ((c.tc : Thread Cert.DS5CIdeal.nD Cert.DS5CIdeal.τ).loc Cert.DS5CIdeal.main_arg0)
      ∧ m' ((c.tc : Thread Cert.DS5CRefIdeal.nD Cert.DS5CRefIdeal.τ).loc Cert.DS5CRefIdeal.main_arg1) = m ((c.tc : Thread Cert.DS5CIdeal.nD Cert.DS5CIdeal.τ).loc Cert.DS5CIdeal.main_arg1)) →
    ∃ (v0 : (c : Dev Cert.DS5CIdeal.nD) → Buf (Elt Ideal) ((c.tc : Thread Cert.DS5CIdeal.nD Cert.DS5CIdeal.τ).loc Cert.DS5CIdeal.main_v0)),
      θ_run (Cert.DS5CIdeal.defs (F := Ideal)) (onTc (τ := Cert.DS5CIdeal.τ) (Cert.DS5CIdeal.main (F := Ideal))) ⟨m, fun _ => 0, g⟩ (fun r => ∀ c : Dev Cert.DS5CIdeal.nD,
          r.2.mem ((c.tc : Thread Cert.DS5CIdeal.nD Cert.DS5CIdeal.τ).loc Cert.DS5CIdeal.main_v0) = v0 c
          ∧ r.2.mem ((c.tc : Thread Cert.DS5CIdeal.nD Cert.DS5CIdeal.τ).loc Cert.DS5CIdeal.main_arg0) = m ((c.tc : Thread Cert.DS5CIdeal.nD Cert.DS5CIdeal.τ).loc Cert.DS5CIdeal.main_arg0)
          ∧ r.2.mem ((c.tc : Thread Cert.DS5CIdeal.nD Cert.DS5CIdeal.τ).loc Cert.DS5CIdeal.main_arg1) = m ((c.tc : Thread Cert.DS5CIdeal.nD Cert.DS5CIdeal.τ).loc Cert.DS5CIdeal.main_arg1))
      ∧ θ_run (Cert.DS5CRefIdeal.defs (F := Ideal)) (onTc (τ := Cert.DS5CRefIdeal.τ) (Cert.DS5CRefIdeal.main (F := Ideal))) ⟨m', fun _ => 0, g'⟩ (fun r => ∀ c : Dev Cert.DS5CRefIdeal.nD,
          r.2.mem ((c.tc : Thread Cert.DS5CRefIdeal.nD Cert.DS5CRefIdeal.τ).loc Cert.DS5CRefIdeal.main_v30) = v0 c
          ∧ r.2.mem ((c.tc : Thread Cert.DS5CRefIdeal.nD Cert.DS5CRefIdeal.τ).loc Cert.DS5CRefIdeal.main_arg0) = m' ((c.tc : Thread Cert.DS5CRefIdeal.nD Cert.DS5CRefIdeal.τ).loc Cert.DS5CRefIdeal.main_arg0)
          ∧ r.2.mem ((c.tc : Thread Cert.DS5CRefIdeal.nD Cert.DS5CRefIdeal.τ).loc Cert.DS5CRefIdeal.main_arg1) = m' ((c.tc : Thread Cert.DS5CRefIdeal.nD Cert.DS5CRefIdeal.τ).loc Cert.DS5CRefIdeal.main_arg1))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)
      ∧ m' ((c.tc : Thread Cert.AdamSmallRefIdeal.nD Cert.AdamSmallRefIdeal.τ).loc Cert.AdamSmallRefIdeal.main_arg44) = m ((c.tc : Thread Cert.AdamSmallIdeal.nD Cert.AdamSmallIdeal.τ).loc Cert.AdamSmallIdeal.main_arg44)
      ∧ m' ((c.tc : Thread Cert.AdamSmallRefIdeal.nD Cert.AdamSmallRefIdeal.τ).loc Cert.AdamSmallRefIdeal.main_arg45) = m ((c.tc : Thread Cert.AdamSmallIdeal.nD Cert.AdamSmallIdeal.τ).loc Cert.AdamSmallIdeal.main_arg45)
      ∧ m' ((c.tc : Thread Cert.AdamSmallRefIdeal.nD Cert.AdamSmallRefIdeal.τ).loc Cert.AdamSmallRefIdeal.main_arg46) = m ((c.tc : Thread Cert.AdamSmallIdeal.nD Cert.AdamSmallIdeal.τ).loc Cert.AdamSmallIdeal.main_arg46)
      ∧ m' ((c.tc : Thread Cert.AdamSmallRefIdeal.nD Cert.AdamSmallRefIdeal.τ).loc Cert.AdamSmallRefIdeal.main_arg47) = m ((c.tc : Thread Cert.AdamSmallIdeal.nD Cert.AdamSmallIdeal.τ).loc Cert.AdamSmallIdeal.main_arg47)
      ∧ m' ((c.tc : Thread Cert.AdamSmallRefIdeal.nD Cert.AdamSmallRefIdeal.τ).loc Cert.AdamSmallRefIdeal.main_arg48) = m ((c.tc : Thread Cert.AdamSmallIdeal.nD Cert.AdamSmallIdeal.τ).loc Cert.AdamSmallIdeal.main_arg48)
      ∧ m' ((c.tc : Thread Cert.AdamSmallRefIdeal.nD Cert.AdamSmallRefIdeal.τ).loc Cert.AdamSmallRefIdeal.main_arg49) = m ((c.tc : Thread Cert.AdamSmallIdeal.nD Cert.AdamSmallIdeal.τ).loc Cert.AdamSmallIdeal.main_arg49)
      ∧ m' ((c.tc : Thread Cert.AdamSmallRefIdeal.nD Cert.AdamSmallRefIdeal.τ).loc Cert.AdamSmallRefIdeal.main_arg50) = m ((c.tc : Thread Cert.AdamSmallIdeal.nD Cert.AdamSmallIdeal.τ).loc Cert.AdamSmallIdeal.main_arg50)
      ∧ m' ((c.tc : Thread Cert.AdamSmallRefIdeal.nD Cert.AdamSmallRefIdeal.τ).loc Cert.AdamSmallRefIdeal.main_arg51) = m ((c.tc : Thread Cert.AdamSmallIdeal.nD Cert.AdamSmallIdeal.τ).loc Cert.AdamSmallIdeal.main_arg51)
      ∧ m' ((c.tc : Thread Cert.AdamSmallRefIdeal.nD Cert.AdamSmallRefIdeal.τ).loc Cert.AdamSmallRefIdeal.main_arg52) = m ((c.tc : Thread Cert.AdamSmallIdeal.nD Cert.AdamSmallIdeal.τ).loc Cert.AdamSmallIdeal.main_arg52)
      ∧ m' ((c.tc : Thread Cert.AdamSmallRefIdeal.nD Cert.AdamSmallRefIdeal.τ).loc Cert.AdamSmallRefIdeal.main_arg53) = m ((c.tc : Thread Cert.AdamSmallIdeal.nD Cert.AdamSmallIdeal.τ).loc Cert.AdamSmallIdeal.main_arg53)
      ∧ m' ((c.tc : Thread Cert.AdamSmallRefIdeal.nD Cert.AdamSmallRefIdeal.τ).loc Cert.AdamSmallRefIdeal.main_arg54) = m ((c.tc : Thread Cert.AdamSmallIdeal.nD Cert.AdamSmallIdeal.τ).loc Cert.AdamSmallIdeal.main_arg54)
      ∧ m' ((c.tc : Thread Cert.AdamSmallRefIdeal.nD Cert.AdamSmallRefIdeal.τ).loc Cert.AdamSmallRefIdeal.main_arg55) = m ((c.tc : Thread Cert.AdamSmallIdeal.nD Cert.AdamSmallIdeal.τ).loc Cert.AdamSmallIdeal.main_arg55)
      ∧ m' ((c.tc : Thread Cert.AdamSmallRefIdeal.nD Cert.AdamSmallRefIdeal.τ).loc Cert.AdamSmallRefIdeal.main_arg56) = m ((c.tc : Thread Cert.AdamSmallIdeal.nD Cert.AdamSmallIdeal.τ).loc Cert.AdamSmallIdeal.main_arg56)
      ∧ m' ((c.tc : Thread Cert.AdamSmallRefIdeal.nD Cert.AdamSmallRefIdeal.τ).loc Cert.AdamSmallRefIdeal.main_arg57) = m ((c.tc : Thread Cert.AdamSmallIdeal.nD Cert.AdamSmallIdeal.τ).loc Cert.AdamSmallIdeal.main_arg57)
      ∧ m' ((c.tc : Thread Cert.AdamSmallRefIdeal.nD Cert.AdamSmallRefIdeal.τ).loc Cert.AdamSmallRefIdeal.main_arg58) = m ((c.tc : Thread Cert.AdamSmallIdeal.nD Cert.AdamSmallIdeal.τ).loc Cert.AdamSmallIdeal.main_arg58)
      ∧ m' ((c.tc : Thread Cert.AdamSmallRefIdeal.nD Cert.AdamSmallRefIdeal.τ).loc Cert.AdamSmallRefIdeal.main_arg59) = m ((c.tc : Thread Cert.AdamSmallIdeal.nD Cert.AdamSmallIdeal.τ).loc Cert.AdamSmallIdeal.main_arg59)
      ∧ m' ((c.tc : Thread Cert.AdamSmallRefIdeal.nD Cert.AdamSmallRefIdeal.τ).loc Cert.AdamSmallRefIdeal.main_arg60) = m ((c.tc : Thread Cert.AdamSmallIdeal.nD Cert.AdamSmallIdeal.τ).loc Cert.AdamSmallIdeal.main_arg60)
      ∧ m' ((c.tc : Thread Cert.AdamSmallRefIdeal.nD Cert.AdamSmallRefIdeal.τ).loc Cert.AdamSmallRefIdeal.main_arg61) = m ((c.tc : Thread Cert.AdamSmallIdeal.nD Cert.AdamSmallIdeal.τ).loc Cert.AdamSmallIdeal.main_arg61)
      ∧ m' ((c.tc : Thread Cert.AdamSmallRefIdeal.nD Cert.AdamSmallRefIdeal.τ).loc Cert.AdamSmallRefIdeal.main_arg62) = m ((c.tc : Thread Cert.AdamSmallIdeal.nD Cert.AdamSmallIdeal.τ).loc Cert.AdamSmallIdeal.main_arg62)
      ∧ m' ((c.tc : Thread Cert.AdamSmallRefIdeal.nD Cert.AdamSmallRefIdeal.τ).loc Cert.AdamSmallRefIdeal.main_arg63) = m ((c.tc : Thread Cert.AdamSmallIdeal.nD Cert.AdamSmallIdeal.τ).loc Cert.AdamSmallIdeal.main_arg63)
      ∧ m' ((c.tc : Thread Cert.AdamSmallRefIdeal.nD Cert.AdamSmallRefIdeal.τ).loc Cert.AdamSmallRefIdeal.main_arg64) = m ((c.tc : Thread Cert.AdamSmallIdeal.nD Cert.AdamSmallIdeal.τ).loc Cert.AdamSmallIdeal.main_arg64)
      ∧ m' ((c.tc : Thread Cert.AdamSmallRefIdeal.nD Cert.AdamSmallRefIdeal.τ).loc Cert.AdamSmallRefIdeal.main_arg65) = m ((c.tc : Thread Cert.AdamSmallIdeal.nD Cert.AdamSmallIdeal.τ).loc Cert.AdamSmallIdeal.main_arg65)
      ∧ m' ((c.tc : Thread Cert.AdamSmallRefIdeal.nD Cert.AdamSmallRefIdeal.τ).loc Cert.AdamSmallRefIdeal.main_arg66) = m ((c.tc : Thread Cert.AdamSmallIdeal.nD Cert.AdamSmallIdeal.τ).loc Cert.AdamSmallIdeal.main_arg66)
      ∧ m' ((c.tc : Thread Cert.AdamSmallRefIdeal.nD Cert.AdamSmallRefIdeal.τ).loc Cert.AdamSmallRefIdeal.main_arg67) = m ((c.tc : Thread Cert.AdamSmallIdeal.nD Cert.AdamSmallIdeal.τ).loc Cert.AdamSmallIdeal.main_arg67)
      ∧ m' ((c.tc : Thread Cert.AdamSmallRefIdeal.nD Cert.AdamSmallRefIdeal.τ).loc Cert.AdamSmallRefIdeal.main_arg68) = m ((c.tc : Thread Cert.AdamSmallIdeal.nD Cert.AdamSmallIdeal.τ).loc Cert.AdamSmallIdeal.main_arg68)
      ∧ m' ((c.tc : Thread Cert.AdamSmallRefIdeal.nD Cert.AdamSmallRefIdeal.τ).loc Cert.AdamSmallRefIdeal.main_arg69) = m ((c.tc : Thread Cert.AdamSmallIdeal.nD Cert.AdamSmallIdeal.τ).loc Cert.AdamSmallIdeal.main_arg69)
      ∧ m' ((c.tc : Thread Cert.AdamSmallRefIdeal.nD Cert.AdamSmallRefIdeal.τ).loc Cert.AdamSmallRefIdeal.main_arg70) = m ((c.tc : Thread Cert.AdamSmallIdeal.nD Cert.AdamSmallIdeal.τ).loc Cert.AdamSmallIdeal.main_arg70)
      ∧ m' ((c.tc : Thread Cert.AdamSmallRefIdeal.nD Cert.AdamSmallRefIdeal.τ).loc Cert.AdamSmallRefIdeal.main_arg71) = m ((c.tc : Thread Cert.AdamSmallIdeal.nD Cert.AdamSmallIdeal.τ).loc Cert.AdamSmallIdeal.main_arg71)) →
    ∃ (v0 : (c : Dev Cert.AdamSmallIdeal.nD) → Buf (Elt Ideal) ((c.tc : Thread Cert.AdamSmallIdeal.nD Cert.AdamSmallIdeal.τ).loc Cert.AdamSmallIdeal.main_v92_0)) (v1 : (c : Dev Cert.AdamSmallIdeal.nD) → Buf (Elt Ideal) ((c.tc : Thread Cert.AdamSmallIdeal.nD Cert.AdamSmallIdeal.τ).loc Cert.AdamSmallIdeal.main_v92_1)) (v2 : (c : Dev Cert.AdamSmallIdeal.nD) → Buf (Elt Ideal) ((c.tc : Thread Cert.AdamSmallIdeal.nD Cert.AdamSmallIdeal.τ).loc Cert.AdamSmallIdeal.main_v92_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v92_0) = v0 c
          ∧ r.2.mem ((c.tc : Thread Cert.AdamSmallIdeal.nD Cert.AdamSmallIdeal.τ).loc Cert.AdamSmallIdeal.main_v92_1) = v1 c
          ∧ r.2.mem ((c.tc : Thread Cert.AdamSmallIdeal.nD Cert.AdamSmallIdeal.τ).loc Cert.AdamSmallIdeal.main_v92_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
          ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
          ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
          ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
          ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
          ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
          ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
          ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
          ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55)
          ∧ r.2.mem ((c.tc : Thread Cert.AdamSmallIdeal.nD Cert.AdamSmallIdeal.τ).loc Cert.AdamSmallIdeal.main_arg56) = m ((c.tc : Thread Cert.AdamSmallIdeal.nD Cert.AdamSmallIdeal.τ).loc Cert.AdamSmallIdeal.main_arg56)
          ∧ r.2.mem ((c.tc : Thread Cert.AdamSmallIdeal.nD Cert.AdamSmallIdeal.τ).loc Cert.AdamSmallIdeal.main_arg57) = m ((c.tc : Thread Cert.AdamSmallIdeal.nD Cert.AdamSmallIdeal.τ).loc Cert.AdamSmallIdeal.main_arg57)
          ∧ r.2.mem ((c.tc : Thread Cert.AdamSmallIdeal.nD Cert.AdamSmallIdeal.τ).loc Cert.AdamSmallIdeal.main_arg58) = m ((c.tc : Thread Cert.AdamSmallIdeal.nD Cert.AdamSmallIdeal.τ).loc Cert.AdamSmallIdeal.main_arg58)
          ∧ r.2.mem ((c.tc : Thread Cert.AdamSmallIdeal.nD Cert.AdamSmallIdeal.τ).loc Cert.AdamSmallIdeal.main_arg59) = m ((c.tc : Thread Cert.AdamSmallIdeal.nD Cert.AdamSmallIdeal.τ).loc Cert.AdamSmallIdeal.main_arg59)
          ∧ r.2.mem ((c.tc : Thread Cert.AdamSmallIdeal.nD Cert.AdamSmallIdeal.τ).loc Cert.AdamSmallIdeal.main_arg60) = m ((c.tc : Thread Cert.AdamSmallIdeal.nD Cert.AdamSmallIdeal.τ).loc Cert.AdamSmallIdeal.main_arg60)
          ∧ r.2.mem ((c.tc : Thread Cert.AdamSmallIdeal.nD Cert.AdamSmallIdeal.τ).loc Cert.AdamSmallIdeal.main_arg61) = m ((c.tc : Thread Cert.AdamSmallIdeal.nD Cert.AdamSmallIdeal.τ).loc Cert.AdamSmallIdeal.main_arg61)
          ∧ r.2.mem ((c.tc : Thread Cert.AdamSmallIdeal.nD Cert.AdamSmallIdeal.τ).loc Cert.AdamSmallIdeal.main_arg62) = m ((c.tc : Thread Cert.AdamSmallIdeal.nD Cert.AdamSmallIdeal.τ).loc Cert.AdamSmallIdeal.main_arg62)
          ∧ r.2.mem ((c.tc : Thread Cert.AdamSmallIdeal.nD Cert.AdamSmallIdeal.τ).loc Cert.AdamSmallIdeal.main_arg63) = m ((c.tc : Thread Cert.AdamSmallIdeal.nD Cert.AdamSmallIdeal.τ).loc Cert.AdamSmallIdeal.main_arg63)
          ∧ r.2.mem ((c.tc : Thread Cert.AdamSmallIdeal.nD Cert.AdamSmallIdeal.τ).loc Cert.AdamSmallIdeal.main_arg64) = m ((c.tc : Thread Cert.AdamSmallIdeal.nD Cert.AdamSmallIdeal.τ).loc Cert.AdamSmallIdeal.main_arg64)
          ∧ r.2.mem ((c.tc : Thread Cert.AdamSmallIdeal.nD Cert.AdamSmallIdeal.τ).loc Cert.AdamSmallIdeal.main_arg65) = m ((c.tc : Thread Cert.AdamSmallIdeal.nD Cert.AdamSmallIdeal.τ).loc Cert.AdamSmallIdeal.main_arg65)
          ∧ r.2.mem ((c.tc : Thread Cert.AdamSmallIdeal.nD Cert.AdamSmallIdeal.τ).loc Cert.AdamSmallIdeal.main_arg66) = m ((c.tc : Thread Cert.AdamSmallIdeal.nD Cert.AdamSmallIdeal.τ).loc Cert.AdamSmallIdeal.main_arg66)
          ∧ r.2.mem ((c.tc : Thread Cert.AdamSmallIdeal.nD Cert.AdamSmallIdeal.τ).loc Cert.AdamSmallIdeal.main_arg67) = m ((c.tc : Thread Cert.AdamSmallIdeal.nD Cert.AdamSmallIdeal.τ).loc Cert.AdamSmallIdeal.main_arg67)
          ∧ r.2.mem ((c.tc : Thread Cert.AdamSmallIdeal.nD Cert.AdamSmallIdeal.τ).loc Cert.AdamSmallIdeal.main_arg68) = m ((c.tc : Thread Cert.AdamSmallIdeal.nD Cert.AdamSmallIdeal.τ).loc Cert.AdamSmallIdeal.main_arg68)
          ∧ r.2.mem ((c.tc : Thread Cert.AdamSmallIdeal.nD Cert.AdamSmallIdeal.τ).loc Cert.AdamSmallIdeal.main_arg69) = m ((c.tc : Thread Cert.AdamSmallIdeal.nD Cert.AdamSmallIdeal.τ).loc Cert.AdamSmallIdeal.main_arg69)
          ∧ r.2.mem ((c.tc : Thread Cert.AdamSmallIdeal.nD Cert.AdamSmallIdeal.τ).loc Cert.AdamSmallIdeal.main_arg70) = m ((c.tc : Thread Cert.AdamSmallIdeal.nD Cert.AdamSmallIdeal.τ).loc Cert.AdamSmallIdeal.main_arg70)
          ∧ r.2.mem ((c.tc : Thread Cert.AdamSmallIdeal.nD Cert.AdamSmallIdeal.τ).loc Cert.AdamSmallIdeal.main_arg71) = m ((c.tc : Thread Cert.AdamSmallIdeal.nD Cert.AdamSmallIdeal.τ).loc Cert.AdamSmallIdeal.main_arg71))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v454) = v0 c
          ∧ r.2.mem ((c.tc : Thread Cert.AdamSmallRefIdeal.nD Cert.AdamSmallRefIdeal.τ).loc Cert.AdamSmallRefIdeal.main_v477) = v1 c
          ∧ r.2.mem ((c.tc : Thread Cert.AdamSmallRefIdeal.nD Cert.AdamSmallRefIdeal.τ).loc Cert.AdamSmallRefIdeal.main_v500) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43)
          ∧ r.2.mem ((c.tc : Thread Cert.AdamSmallRefIdeal.nD Cert.AdamSmallRefIdeal.τ).loc Cert.AdamSmallRefIdeal.main_arg44) = m' ((c.tc : Thread Cert.AdamSmallRefIdeal.nD Cert.AdamSmallRefIdeal.τ).loc Cert.AdamSmallRefIdeal.main_arg44)
          ∧ r.2.mem ((c.tc : Thread Cert.AdamSmallRefIdeal.nD Cert.AdamSmallRefIdeal.τ).loc Cert.AdamSmallRefIdeal.main_arg45) = m' ((c.tc : Thread Cert.AdamSmallRefIdeal.nD Cert.AdamSmallRefIdeal.τ).loc Cert.AdamSmallRefIdeal.main_arg45)
          ∧ r.2.mem ((c.tc : Thread Cert.AdamSmallRefIdeal.nD Cert.AdamSmallRefIdeal.τ).loc Cert.AdamSmallRefIdeal.main_arg46) = m' ((c.tc : Thread Cert.AdamSmallRefIdeal.nD Cert.AdamSmallRefIdeal.τ).loc Cert.AdamSmallRefIdeal.main_arg46)
          ∧ r.2.mem ((c.tc : Thread Cert.AdamSmallRefIdeal.nD Cert.AdamSmallRefIdeal.τ).loc Cert.AdamSmallRefIdeal.main_arg47) = m' ((c.tc : Thread Cert.AdamSmallRefIdeal.nD Cert.AdamSmallRefIdeal.τ).loc Cert.AdamSmallRefIdeal.main_arg47)
          ∧ r.2.mem ((c.tc : Thread Cert.AdamSmallRefIdeal.nD Cert.AdamSmallRefIdeal.τ).loc Cert.AdamSmallRefIdeal.main_arg48) = m' ((c.tc : Thread Cert.AdamSmallRefIdeal.nD Cert.AdamSmallRefIdeal.τ).loc Cert.AdamSmallRefIdeal.main_arg48)
          ∧ r.2.mem ((c.tc : Thread Cert.AdamSmallRefIdeal.nD Cert.AdamSmallRefIdeal.τ).loc Cert.AdamSmallRefIdeal.main_arg49) = m' ((c.tc : Thread Cert.AdamSmallRefIdeal.nD Cert.AdamSmallRefIdeal.τ).loc Cert.AdamSmallRefIdeal.main_arg49)
          ∧ r.2.mem ((c.tc : Thread Cert.AdamSmallRefIdeal.nD Cert.AdamSmallRefIdeal.τ).loc Cert.AdamSmallRefIdeal.main_arg50) = m' ((c.tc : Thread Cert.AdamSmallRefIdeal.nD Cert.AdamSmallRefIdeal.τ).loc Cert.AdamSmallRefIdeal.main_arg50)
          ∧ r.2.mem ((c.tc : Thread Cert.AdamSmallRefIdeal.nD Cert.AdamSmallRefIdeal.τ).loc Cert.AdamSmallRefIdeal.main_arg51) = m' ((c.tc : Thread Cert.AdamSmallRefIdeal.nD Cert.AdamSmallRefIdeal.τ).loc Cert.AdamSmallRefIdeal.main_arg51)
          ∧ r.2.mem ((c.tc : Thread Cert.AdamSmallRefIdeal.nD Cert.AdamSmallRefIdeal.τ).loc Cert.AdamSmallRefIdeal.main_arg52) = m' ((c.tc : Thread Cert.AdamSmallRefIdeal.nD Cert.AdamSmallRefIdeal.τ).loc Cert.AdamSmallRefIdeal.main_arg52)
          ∧ r.2.mem ((c.tc : Thread Cert.AdamSmallRefIdeal.nD Cert.AdamSmallRefIdeal.τ).loc Cert.AdamSmallRefIdeal.main_arg53) = m' ((c.tc : Thread Cert.AdamSmallRefIdeal.nD Cert.AdamSmallRefIdeal.τ).loc Cert.AdamSmallRefIdeal.main_arg53)
          ∧ r.2.mem ((c.tc : Thread Cert.AdamSmallRefIdeal.nD Cert.AdamSmallRefIdeal.τ).loc Cert.AdamSmallRefIdeal.main_arg54) = m' ((c.tc : Thread Cert.AdamSmallRefIdeal.nD Cert.AdamSmallRefIdeal.τ).loc Cert.AdamSmallRefIdeal.main_arg54)
          ∧ r.2.mem ((c.tc : Thread Cert.AdamSmallRefIdeal.nD Cert.AdamSmallRefIdeal.τ).loc Cert.AdamSmallRefIdeal.main_arg55) = m' ((c.tc : Thread Cert.AdamSmallRefIdeal.nD Cert.AdamSmallRefIdeal.τ).loc Cert.AdamSmallRefIdeal.main_arg55)
          ∧ r.2.mem ((c.tc : Thread Cert.AdamSmallRefIdeal.nD Cert.AdamSmallRefIdeal.τ).loc Cert.AdamSmallRefIdeal.main_arg56) = m' ((c.tc : Thread Cert.AdamSmallRefIdeal.nD Cert.AdamSmallRefIdeal.τ).loc Cert.AdamSmallRefIdeal.main_arg56)
          ∧ r.2.mem ((c.tc : Thread Cert.AdamSmallRefIdeal.nD Cert.AdamSmallRefIdeal.τ).loc Cert.AdamSmallRefIdeal.main_arg57) = m' ((c.tc : Thread Cert.AdamSmallRefIdeal.nD Cert.AdamSmallRefIdeal.τ).loc Cert.AdamSmallRefIdeal.main_arg57)
          ∧ r.2.mem ((c.tc : Thread Cert.AdamSmallRefIdeal.nD Cert.AdamSmallRefIdeal.τ).loc Cert.AdamSmallRefIdeal.main_arg58) = m' ((c.tc : Thread Cert.AdamSmallRefIdeal.nD Cert.AdamSmallRefIdeal.τ).loc Cert.AdamSmallRefIdeal.main_arg58)
          ∧ r.2.mem ((c.tc : Thread Cert.AdamSmallRefIdeal.nD Cert.AdamSmallRefIdeal.τ).loc Cert.AdamSmallRefIdeal.main_arg59) = m' ((c.tc : Thread Cert.AdamSmallRefIdeal.nD Cert.AdamSmallRefIdeal.τ).loc Cert.AdamSmallRefIdeal.main_arg59)
          ∧ r.2.mem ((c.tc : Thread Cert.AdamSmallRefIdeal.nD Cert.AdamSmallRefIdeal.τ).loc Cert.AdamSmallRefIdeal.main_arg60) = m' ((c.tc : Thread Cert.AdamSmallRefIdeal.nD Cert.AdamSmallRefIdeal.τ).loc Cert.AdamSmallRefIdeal.main_arg60)
          ∧ r.2.mem ((c.tc : Thread Cert.AdamSmallRefIdeal.nD Cert.AdamSmallRefIdeal.τ).loc Cert.AdamSmallRefIdeal.main_arg61) = m' ((c.tc : Thread Cert.AdamSmallRefIdeal.nD Cert.AdamSmallRefIdeal.τ).loc Cert.AdamSmallRefIdeal.main_arg61)
          ∧ r.2.mem ((c.tc : Thread Cert.AdamSmallRefIdeal.nD Cert.AdamSmallRefIdeal.τ).loc Cert.AdamSmallRefIdeal.main_arg62) = m' ((c.tc : Thread Cert.AdamSmallRefIdeal.nD Cert.AdamSmallRefIdeal.τ).loc Cert.AdamSmallRefIdeal.main_arg62)
          ∧ r.2.mem ((c.tc : Thread Cert.AdamSmallRefIdeal.nD Cert.AdamSmallRefIdeal.τ).loc Cert.AdamSmallRefIdeal.main_arg63) = m' ((c.tc : Thread Cert.AdamSmallRefIdeal.nD Cert.AdamSmallRefIdeal.τ).loc Cert.AdamSmallRefIdeal.main_arg63)
          ∧ r.2.mem ((c.tc : Thread Cert.AdamSmallRefIdeal.nD Cert.AdamSmallRefIdeal.τ).loc Cert.AdamSmallRefIdeal.main_arg64) = m' ((c.tc : Thread Cert.AdamSmallRefIdeal.nD Cert.AdamSmallRefIdeal.τ).loc Cert.AdamSmallRefIdeal.main_arg64)
          ∧ r.2.mem ((c.tc : Thread Cert.AdamSmallRefIdeal.nD Cert.AdamSmallRefIdeal.τ).loc Cert.AdamSmallRefIdeal.main_arg65) = m' ((c.tc : Thread Cert.AdamSmallRefIdeal.nD Cert.AdamSmallRefIdeal.τ).loc Cert.AdamSmallRefIdeal.main_arg65)
          ∧ r.2.mem ((c.tc : Thread Cert.AdamSmallRefIdeal.nD Cert.AdamSmallRefIdeal.τ).loc Cert.AdamSmallRefIdeal.main_arg66) = m' ((c.tc : Thread Cert.AdamSmallRefIdeal.nD Cert.AdamSmallRefIdeal.τ).loc Cert.AdamSmallRefIdeal.main_arg66)
          ∧ r.2.mem ((c.tc : Thread Cert.AdamSmallRefIdeal.nD Cert.AdamSmallRefIdeal.τ).loc Cert.AdamSmallRefIdeal.main_arg67) = m' ((c.tc : Thread Cert.AdamSmallRefIdeal.nD Cert.AdamSmallRefIdeal.τ).loc Cert.AdamSmallRefIdeal.main_arg67)
          ∧ r.2.mem ((c.tc : Thread Cert.AdamSmallRefIdeal.nD Cert.AdamSmallRefIdeal.τ).loc Cert.AdamSmallRefIdeal.main_arg68) = m' ((c.tc : Thread Cert.AdamSmallRefIdeal.nD Cert.AdamSmallRefIdeal.τ).loc Cert.AdamSmallRefIdeal.main_arg68)
          ∧ r.2.mem ((c.tc : Thread Cert.AdamSmallRefIdeal.nD Cert.AdamSmallRefIdeal.τ).loc Cert.AdamSmallRefIdeal.main_arg69) = m' ((c.tc : Thread Cert.AdamSmallRefIdeal.nD Cert.AdamSmallRefIdeal.τ).loc Cert.AdamSmallRefIdeal.main_arg69)
          ∧ r.2.mem ((c.tc : Thread Cert.AdamSmallRefIdeal.nD Cert.AdamSmallRefIdeal.τ).loc Cert.AdamSmallRefIdeal.main_arg70) = m' ((c.tc : Thread Cert.AdamSmallRefIdeal.nD Cert.AdamSmallRefIdeal.τ).loc Cert.AdamSmallRefIdeal.main_arg70)
          ∧ r.2.mem ((c.tc : Thread Cert.AdamSmallRefIdeal.nD Cert.AdamSmallRefIdeal.τ).loc Cert.AdamSmallRefIdeal.main_arg71) = m' ((c.tc : Thread Cert.AdamSmallRefIdeal.nD Cert.AdamSmallRefIdeal.τ).loc Cert.AdamSmallRefIdeal.main_arg71))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v15) = v0 c
          ∧ r.2.mem ((c.tc : Thread Cert.LossHeadRefIdeal.nD Cert.LossHeadRefIdeal.τ).loc Cert.LossHeadRefIdeal.main_v14) = v1 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)
      ∧ m' ((c.tc : Thread Cert.SumInRefIdeal.nD Cert.SumInRefIdeal.τ).loc Cert.SumInRefIdeal.main_arg1) = m ((c.tc : Thread Cert.SumInIdeal.nD Cert.SumInIdeal.τ).loc Cert.SumInIdeal.main_arg1)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0)
          ∧ r.2.mem ((c.tc : Thread Cert.SumInIdeal.nD Cert.SumInIdeal.τ).loc Cert.SumInIdeal.main_arg1) = m ((c.tc : Thread Cert.SumInIdeal.nD Cert.SumInIdeal.τ).loc Cert.SumInIdeal.main_arg1))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v2) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0)
          ∧ r.2.mem ((c.tc : Thread Cert.SumInRefIdeal.nD Cert.SumInRefIdeal.τ).loc Cert.SumInRefIdeal.main_arg1) = m' ((c.tc : Thread Cert.SumInRefIdeal.nD Cert.SumInRefIdeal.τ).loc Cert.SumInRefIdeal.main_arg1))

def preserves_SumGlu_SumGluIdeal : Prop :=
  True

def algebraic_SumGluIdeal_SumGluRefIdeal [hSumGluIdeal : Cert.SumGluIdeal.Facts] [hSumGluRefIdeal : Cert.SumGluRefIdeal.Facts] : Prop :=
  ∀ (m : (ℓ : Loc Cert.SumGluIdeal.nD Cert.SumGluIdeal.τ Cert.SumGluIdeal.sig) → Buf (Elt Ideal) ℓ) (g : Dev Cert.SumGluIdeal.nD → PrngReg)
    (m' : (ℓ : Loc Cert.SumGluRefIdeal.nD Cert.SumGluRefIdeal.τ Cert.SumGluRefIdeal.sig) → Buf (Elt Ideal) ℓ) (g' : Dev Cert.SumGluRefIdeal.nD → PrngReg), Pre_SumGluIdeal m →
    (∀ c : Dev Cert.SumGluIdeal.nD,
      m' ((c.tc : Thread Cert.SumGluRefIdeal.nD Cert.SumGluRefIdeal.τ).loc Cert.SumGluRefIdeal.main_arg0) = m ((c.tc : Thread Cert.SumGluIdeal.nD Cert.SumGluIdeal.τ).loc Cert.SumGluIdeal.main_arg0)
      ∧ m' ((c.tc : Thread Cert.SumGluRefIdeal.nD Cert.SumGluRefIdeal.τ).loc Cert.SumGluRefIdeal.main_arg1) = m ((c.tc : Thread Cert.SumGluIdeal.nD Cert.SumGluIdeal.τ).loc Cert.SumGluIdeal.main_arg1)) →
    ∃ (v0 : (c : Dev Cert.SumGluIdeal.nD) → Buf (Elt Ideal) ((c.tc : Thread Cert.SumGluIdeal.nD Cert.SumGluIdeal.τ).loc Cert.SumGluIdeal.main_v0)),
      θ_run (Cert.SumGluIdeal.defs (F := Ideal)) (onTc (τ := Cert.SumGluIdeal.τ) (Cert.SumGluIdeal.main (F := Ideal))) ⟨m, fun _ => 0, g⟩ (fun r => ∀ c : Dev Cert.SumGluIdeal.nD,
          r.2.mem ((c.tc : Thread Cert.SumGluIdeal.nD Cert.SumGluIdeal.τ).loc Cert.SumGluIdeal.main_v0) = v0 c
          ∧ r.2.mem ((c.tc : Thread Cert.SumGluIdeal.nD Cert.SumGluIdeal.τ).loc Cert.SumGluIdeal.main_arg0) = m ((c.tc : Thread Cert.SumGluIdeal.nD Cert.SumGluIdeal.τ).loc Cert.SumGluIdeal.main_arg0)
          ∧ r.2.mem ((c.tc : Thread Cert.SumGluIdeal.nD Cert.SumGluIdeal.τ).loc Cert.SumGluIdeal.main_arg1) = m ((c.tc : Thread Cert.SumGluIdeal.nD Cert.SumGluIdeal.τ).loc Cert.SumGluIdeal.main_arg1))
      ∧ θ_run (Cert.SumGluRefIdeal.defs (F := Ideal)) (onTc (τ := Cert.SumGluRefIdeal.τ) (Cert.SumGluRefIdeal.main (F := Ideal))) ⟨m', fun _ => 0, g'⟩ (fun r => ∀ c : Dev Cert.SumGluRefIdeal.nD,
          r.2.mem ((c.tc : Thread Cert.SumGluRefIdeal.nD Cert.SumGluRefIdeal.τ).loc Cert.SumGluRefIdeal.main_v2) = v0 c
          ∧ r.2.mem ((c.tc : Thread Cert.SumGluRefIdeal.nD Cert.SumGluRefIdeal.τ).loc Cert.SumGluRefIdeal.main_arg0) = m' ((c.tc : Thread Cert.SumGluRefIdeal.nD Cert.SumGluRefIdeal.τ).loc Cert.SumGluRefIdeal.main_arg0)
          ∧ r.2.mem ((c.tc : Thread Cert.SumGluRefIdeal.nD Cert.SumGluRefIdeal.τ).loc Cert.SumGluRefIdeal.main_arg1) = m' ((c.tc : Thread Cert.SumGluRefIdeal.nD Cert.SumGluRefIdeal.τ).loc Cert.SumGluRefIdeal.main_arg1))

def preserves_SumOut_SumOutIdeal : Prop :=
  True

def algebraic_SumOutIdeal_SumOutRefIdeal [hSumOutIdeal : Cert.SumOutIdeal.Facts] [hSumOutRefIdeal : Cert.SumOutRefIdeal.Facts] : Prop :=
  ∀ (m : (ℓ : Loc Cert.SumOutIdeal.nD Cert.SumOutIdeal.τ Cert.SumOutIdeal.sig) → Buf (Elt Ideal) ℓ) (g : Dev Cert.SumOutIdeal.nD → PrngReg)
    (m' : (ℓ : Loc Cert.SumOutRefIdeal.nD Cert.SumOutRefIdeal.τ Cert.SumOutRefIdeal.sig) → Buf (Elt Ideal) ℓ) (g' : Dev Cert.SumOutRefIdeal.nD → PrngReg), Pre_SumOutIdeal m →
    (∀ c : Dev Cert.SumOutIdeal.nD,
      m' ((c.tc : Thread Cert.SumOutRefIdeal.nD Cert.SumOutRefIdeal.τ).loc Cert.SumOutRefIdeal.main_arg0) = m ((c.tc : Thread Cert.SumOutIdeal.nD Cert.SumOutIdeal.τ).loc Cert.SumOutIdeal.main_arg0)
      ∧ m' ((c.tc : Thread Cert.SumOutRefIdeal.nD Cert.SumOutRefIdeal.τ).loc Cert.SumOutRefIdeal.main_arg1) = m ((c.tc : Thread Cert.SumOutIdeal.nD Cert.SumOutIdeal.τ).loc Cert.SumOutIdeal.main_arg1)) →
    ∃ (v0 : (c : Dev Cert.SumOutIdeal.nD) → Buf (Elt Ideal) ((c.tc : Thread Cert.SumOutIdeal.nD Cert.SumOutIdeal.τ).loc Cert.SumOutIdeal.main_v0)),
      θ_run (Cert.SumOutIdeal.defs (F := Ideal)) (onTc (τ := Cert.SumOutIdeal.τ) (Cert.SumOutIdeal.main (F := Ideal))) ⟨m, fun _ => 0, g⟩ (fun r => ∀ c : Dev Cert.SumOutIdeal.nD,
          r.2.mem ((c.tc : Thread Cert.SumOutIdeal.nD Cert.SumOutIdeal.τ).loc Cert.SumOutIdeal.main_v0) = v0 c
          ∧ r.2.mem ((c.tc : Thread Cert.SumOutIdeal.nD Cert.SumOutIdeal.τ).loc Cert.SumOutIdeal.main_arg0) = m ((c.tc : Thread Cert.SumOutIdeal.nD Cert.SumOutIdeal.τ).loc Cert.SumOutIdeal.main_arg0)
          ∧ r.2.mem ((c.tc : Thread Cert.SumOutIdeal.nD Cert.SumOutIdeal.τ).loc Cert.SumOutIdeal.main_arg1) = m ((c.tc : Thread Cert.SumOutIdeal.nD Cert.SumOutIdeal.τ).loc Cert.SumOutIdeal.main_arg1))
      ∧ θ_run (Cert.SumOutRefIdeal.defs (F := Ideal)) (onTc (τ := Cert.SumOutRefIdeal.τ) (Cert.SumOutRefIdeal.main (F := Ideal))) ⟨m', fun _ => 0, g'⟩ (fun r => ∀ c : Dev Cert.SumOutRefIdeal.nD,
          r.2.mem ((c.tc : Thread Cert.SumOutRefIdeal.nD Cert.SumOutRefIdeal.τ).loc Cert.SumOutRefIdeal.main_v2) = v0 c
          ∧ r.2.mem ((c.tc : Thread Cert.SumOutRefIdeal.nD Cert.SumOutRefIdeal.τ).loc Cert.SumOutRefIdeal.main_arg0) = m' ((c.tc : Thread Cert.SumOutRefIdeal.nD Cert.SumOutRefIdeal.τ).loc Cert.SumOutRefIdeal.main_arg0)
          ∧ r.2.mem ((c.tc : Thread Cert.SumOutRefIdeal.nD Cert.SumOutRefIdeal.τ).loc Cert.SumOutRefIdeal.main_arg1) = m' ((c.tc : Thread Cert.SumOutRefIdeal.nD Cert.SumOutRefIdeal.τ).loc Cert.SumOutRefIdeal.main_arg1))

def preserves_SumUp_SumUpIdeal : Prop :=
  True

def algebraic_SumUpIdeal_SumUpRefIdeal [hSumUpIdeal : Cert.SumUpIdeal.Facts] [hSumUpRefIdeal : Cert.SumUpRefIdeal.Facts] : Prop :=
  ∀ (m : (ℓ : Loc Cert.SumUpIdeal.nD Cert.SumUpIdeal.τ Cert.SumUpIdeal.sig) → Buf (Elt Ideal) ℓ) (g : Dev Cert.SumUpIdeal.nD → PrngReg)
    (m' : (ℓ : Loc Cert.SumUpRefIdeal.nD Cert.SumUpRefIdeal.τ Cert.SumUpRefIdeal.sig) → Buf (Elt Ideal) ℓ) (g' : Dev Cert.SumUpRefIdeal.nD → PrngReg), Pre_SumUpIdeal m →
    (∀ c : Dev Cert.SumUpIdeal.nD,
      m' ((c.tc : Thread Cert.SumUpRefIdeal.nD Cert.SumUpRefIdeal.τ).loc Cert.SumUpRefIdeal.main_arg0) = m ((c.tc : Thread Cert.SumUpIdeal.nD Cert.SumUpIdeal.τ).loc Cert.SumUpIdeal.main_arg0)
      ∧ m' ((c.tc : Thread Cert.SumUpRefIdeal.nD Cert.SumUpRefIdeal.τ).loc Cert.SumUpRefIdeal.main_arg1) = m ((c.tc : Thread Cert.SumUpIdeal.nD Cert.SumUpIdeal.τ).loc Cert.SumUpIdeal.main_arg1)) →
    ∃ (v0 : (c : Dev Cert.SumUpIdeal.nD) → Buf (Elt Ideal) ((c.tc : Thread Cert.SumUpIdeal.nD Cert.SumUpIdeal.τ).loc Cert.SumUpIdeal.main_v0)),
      θ_run (Cert.SumUpIdeal.defs (F := Ideal)) (onTc (τ := Cert.SumUpIdeal.τ) (Cert.SumUpIdeal.main (F := Ideal))) ⟨m, fun _ => 0, g⟩ (fun r => ∀ c : Dev Cert.SumUpIdeal.nD,
          r.2.mem ((c.tc : Thread Cert.SumUpIdeal.nD Cert.SumUpIdeal.τ).loc Cert.SumUpIdeal.main_v0) = v0 c
          ∧ r.2.mem ((c.tc : Thread Cert.SumUpIdeal.nD Cert.SumUpIdeal.τ).loc Cert.SumUpIdeal.main_arg0) = m ((c.tc : Thread Cert.SumUpIdeal.nD Cert.SumUpIdeal.τ).loc Cert.SumUpIdeal.main_arg0)
          ∧ r.2.mem ((c.tc : Thread Cert.SumUpIdeal.nD Cert.SumUpIdeal.τ).loc Cert.SumUpIdeal.main_arg1) = m ((c.tc : Thread Cert.SumUpIdeal.nD Cert.SumUpIdeal.τ).loc Cert.SumUpIdeal.main_arg1))
      ∧ θ_run (Cert.SumUpRefIdeal.defs (F := Ideal)) (onTc (τ := Cert.SumUpRefIdeal.τ) (Cert.SumUpRefIdeal.main (F := Ideal))) ⟨m', fun _ => 0, g'⟩ (fun r => ∀ c : Dev Cert.SumUpRefIdeal.nD,
          r.2.mem ((c.tc : Thread Cert.SumUpRefIdeal.nD Cert.SumUpRefIdeal.τ).loc Cert.SumUpRefIdeal.main_v2) = v0 c
          ∧ r.2.mem ((c.tc : Thread Cert.SumUpRefIdeal.nD Cert.SumUpRefIdeal.τ).loc Cert.SumUpRefIdeal.main_arg0) = m' ((c.tc : Thread Cert.SumUpRefIdeal.nD Cert.SumUpRefIdeal.τ).loc Cert.SumUpRefIdeal.main_arg0)
          ∧ r.2.mem ((c.tc : Thread Cert.SumUpRefIdeal.nD Cert.SumUpRefIdeal.τ).loc Cert.SumUpRefIdeal.main_arg1) = m' ((c.tc : Thread Cert.SumUpRefIdeal.nD Cert.SumUpRefIdeal.τ).loc Cert.SumUpRefIdeal.main_arg1))

def preserves_SumDown_SumDownIdeal : Prop :=
  True

def algebraic_SumDownIdeal_SumDownRefIdeal [hSumDownIdeal : Cert.SumDownIdeal.Facts] [hSumDownRefIdeal : Cert.SumDownRefIdeal.Facts] : Prop :=
  ∀ (m : (ℓ : Loc Cert.SumDownIdeal.nD Cert.SumDownIdeal.τ Cert.SumDownIdeal.sig) → Buf (Elt Ideal) ℓ) (g : Dev Cert.SumDownIdeal.nD → PrngReg)
    (m' : (ℓ : Loc Cert.SumDownRefIdeal.nD Cert.SumDownRefIdeal.τ Cert.SumDownRefIdeal.sig) → Buf (Elt Ideal) ℓ) (g' : Dev Cert.SumDownRefIdeal.nD → PrngReg), Pre_SumDownIdeal m →
    (∀ c : Dev Cert.SumDownIdeal.nD,
      m' ((c.tc : Thread Cert.SumDownRefIdeal.nD Cert.SumDownRefIdeal.τ).loc Cert.SumDownRefIdeal.main_arg0) = m ((c.tc : Thread Cert.SumDownIdeal.nD Cert.SumDownIdeal.τ).loc Cert.SumDownIdeal.main_arg0)
      ∧ m' ((c.tc : Thread Cert.SumDownRefIdeal.nD Cert.SumDownRefIdeal.τ).loc Cert.SumDownRefIdeal.main_arg1) = m ((c.tc : Thread Cert.SumDownIdeal.nD Cert.SumDownIdeal.τ).loc Cert.SumDownIdeal.main_arg1)) →
    ∃ (v0 : (c : Dev Cert.SumDownIdeal.nD) → Buf (Elt Ideal) ((c.tc : Thread Cert.SumDownIdeal.nD Cert.SumDownIdeal.τ).loc Cert.SumDownIdeal.main_v0)),
      θ_run (Cert.SumDownIdeal.defs (F := Ideal)) (onTc (τ := Cert.SumDownIdeal.τ) (Cert.SumDownIdeal.main (F := Ideal))) ⟨m, fun _ => 0, g⟩ (fun r => ∀ c : Dev Cert.SumDownIdeal.nD,
          r.2.mem ((c.tc : Thread Cert.SumDownIdeal.nD Cert.SumDownIdeal.τ).loc Cert.SumDownIdeal.main_v0) = v0 c
          ∧ r.2.mem ((c.tc : Thread Cert.SumDownIdeal.nD Cert.SumDownIdeal.τ).loc Cert.SumDownIdeal.main_arg0) = m ((c.tc : Thread Cert.SumDownIdeal.nD Cert.SumDownIdeal.τ).loc Cert.SumDownIdeal.main_arg0)
          ∧ r.2.mem ((c.tc : Thread Cert.SumDownIdeal.nD Cert.SumDownIdeal.τ).loc Cert.SumDownIdeal.main_arg1) = m ((c.tc : Thread Cert.SumDownIdeal.nD Cert.SumDownIdeal.τ).loc Cert.SumDownIdeal.main_arg1))
      ∧ θ_run (Cert.SumDownRefIdeal.defs (F := Ideal)) (onTc (τ := Cert.SumDownRefIdeal.τ) (Cert.SumDownRefIdeal.main (F := Ideal))) ⟨m', fun _ => 0, g'⟩ (fun r => ∀ c : Dev Cert.SumDownRefIdeal.nD,
          r.2.mem ((c.tc : Thread Cert.SumDownRefIdeal.nD Cert.SumDownRefIdeal.τ).loc Cert.SumDownRefIdeal.main_v2) = v0 c
          ∧ r.2.mem ((c.tc : Thread Cert.SumDownRefIdeal.nD Cert.SumDownRefIdeal.τ).loc Cert.SumDownRefIdeal.main_arg0) = m' ((c.tc : Thread Cert.SumDownRefIdeal.nD Cert.SumDownRefIdeal.τ).loc Cert.SumDownRefIdeal.main_arg0)
          ∧ r.2.mem ((c.tc : Thread Cert.SumDownRefIdeal.nD Cert.SumDownRefIdeal.τ).loc Cert.SumDownRefIdeal.main_arg1) = m' ((c.tc : Thread Cert.SumDownRefIdeal.nD Cert.SumDownRefIdeal.τ).loc Cert.SumDownRefIdeal.main_arg1))

def preserves_SumProj_SumProjIdeal : Prop :=
  True

def algebraic_SumProjIdeal_SumProjRefIdeal [hSumProjIdeal : Cert.SumProjIdeal.Facts] [hSumProjRefIdeal : Cert.SumProjRefIdeal.Facts] : Prop :=
  ∀ (m : (ℓ : Loc Cert.SumProjIdeal.nD Cert.SumProjIdeal.τ Cert.SumProjIdeal.sig) → Buf (Elt Ideal) ℓ) (g : Dev Cert.SumProjIdeal.nD → PrngReg)
    (m' : (ℓ : Loc Cert.SumProjRefIdeal.nD Cert.SumProjRefIdeal.τ Cert.SumProjRefIdeal.sig) → Buf (Elt Ideal) ℓ) (g' : Dev Cert.SumProjRefIdeal.nD → PrngReg), Pre_SumProjIdeal m →
    (∀ c : Dev Cert.SumProjIdeal.nD,
      m' ((c.tc : Thread Cert.SumProjRefIdeal.nD Cert.SumProjRefIdeal.τ).loc Cert.SumProjRefIdeal.main_arg0) = m ((c.tc : Thread Cert.SumProjIdeal.nD Cert.SumProjIdeal.τ).loc Cert.SumProjIdeal.main_arg0)
      ∧ m' ((c.tc : Thread Cert.SumProjRefIdeal.nD Cert.SumProjRefIdeal.τ).loc Cert.SumProjRefIdeal.main_arg1) = m ((c.tc : Thread Cert.SumProjIdeal.nD Cert.SumProjIdeal.τ).loc Cert.SumProjIdeal.main_arg1)) →
    ∃ (v0 : (c : Dev Cert.SumProjIdeal.nD) → Buf (Elt Ideal) ((c.tc : Thread Cert.SumProjIdeal.nD Cert.SumProjIdeal.τ).loc Cert.SumProjIdeal.main_v0)),
      θ_run (Cert.SumProjIdeal.defs (F := Ideal)) (onTc (τ := Cert.SumProjIdeal.τ) (Cert.SumProjIdeal.main (F := Ideal))) ⟨m, fun _ => 0, g⟩ (fun r => ∀ c : Dev Cert.SumProjIdeal.nD,
          r.2.mem ((c.tc : Thread Cert.SumProjIdeal.nD Cert.SumProjIdeal.τ).loc Cert.SumProjIdeal.main_v0) = v0 c
          ∧ r.2.mem ((c.tc : Thread Cert.SumProjIdeal.nD Cert.SumProjIdeal.τ).loc Cert.SumProjIdeal.main_arg0) = m ((c.tc : Thread Cert.SumProjIdeal.nD Cert.SumProjIdeal.τ).loc Cert.SumProjIdeal.main_arg0)
          ∧ r.2.mem ((c.tc : Thread Cert.SumProjIdeal.nD Cert.SumProjIdeal.τ).loc Cert.SumProjIdeal.main_arg1) = m ((c.tc : Thread Cert.SumProjIdeal.nD Cert.SumProjIdeal.τ).loc Cert.SumProjIdeal.main_arg1))
      ∧ θ_run (Cert.SumProjRefIdeal.defs (F := Ideal)) (onTc (τ := Cert.SumProjRefIdeal.τ) (Cert.SumProjRefIdeal.main (F := Ideal))) ⟨m', fun _ => 0, g'⟩ (fun r => ∀ c : Dev Cert.SumProjRefIdeal.nD,
          r.2.mem ((c.tc : Thread Cert.SumProjRefIdeal.nD Cert.SumProjRefIdeal.τ).loc Cert.SumProjRefIdeal.main_v2) = v0 c
          ∧ r.2.mem ((c.tc : Thread Cert.SumProjRefIdeal.nD Cert.SumProjRefIdeal.τ).loc Cert.SumProjRefIdeal.main_arg0) = m' ((c.tc : Thread Cert.SumProjRefIdeal.nD Cert.SumProjRefIdeal.τ).loc Cert.SumProjRefIdeal.main_arg0)
          ∧ r.2.mem ((c.tc : Thread Cert.SumProjRefIdeal.nD Cert.SumProjRefIdeal.τ).loc Cert.SumProjRefIdeal.main_arg1) = m' ((c.tc : Thread Cert.SumProjRefIdeal.nD Cert.SumProjRefIdeal.τ).loc Cert.SumProjRefIdeal.main_arg1))

def preserves_PoolFwd_PoolFwdIdeal : Prop :=
  True

def algebraic_PoolFwdIdeal_PoolFwdRefIdeal [hPoolFwdIdeal : Cert.PoolFwdIdeal.Facts] [hPoolFwdRefIdeal : Cert.PoolFwdRefIdeal.Facts] : Prop :=
  ∀ (m : (ℓ : Loc Cert.PoolFwdIdeal.nD Cert.PoolFwdIdeal.τ Cert.PoolFwdIdeal.sig) → Buf (Elt Ideal) ℓ) (g : Dev Cert.PoolFwdIdeal.nD → PrngReg)
    (m' : (ℓ : Loc Cert.PoolFwdRefIdeal.nD Cert.PoolFwdRefIdeal.τ Cert.PoolFwdRefIdeal.sig) → Buf (Elt Ideal) ℓ) (g' : Dev Cert.PoolFwdRefIdeal.nD → PrngReg), Pre_PoolFwdIdeal m →
    (∀ c : Dev Cert.PoolFwdIdeal.nD,
      m' ((c.tc : Thread Cert.PoolFwdRefIdeal.nD Cert.PoolFwdRefIdeal.τ).loc Cert.PoolFwdRefIdeal.main_arg0) = m ((c.tc : Thread Cert.PoolFwdIdeal.nD Cert.PoolFwdIdeal.τ).loc Cert.PoolFwdIdeal.main_arg0)
      ∧ m' ((c.tc : Thread Cert.PoolFwdRefIdeal.nD Cert.PoolFwdRefIdeal.τ).loc Cert.PoolFwdRefIdeal.main_arg1) = m ((c.tc : Thread Cert.PoolFwdIdeal.nD Cert.PoolFwdIdeal.τ).loc Cert.PoolFwdIdeal.main_arg1)
      ∧ m' ((c.tc : Thread Cert.PoolFwdRefIdeal.nD Cert.PoolFwdRefIdeal.τ).loc Cert.PoolFwdRefIdeal.main_arg2) = m ((c.tc : Thread Cert.PoolFwdIdeal.nD Cert.PoolFwdIdeal.τ).loc Cert.PoolFwdIdeal.main_arg2)) →
    ∃ (v0 : (c : Dev Cert.PoolFwdIdeal.nD) → Buf (Elt Ideal) ((c.tc : Thread Cert.PoolFwdIdeal.nD Cert.PoolFwdIdeal.τ).loc Cert.PoolFwdIdeal.main_v2)),
      θ_run (Cert.PoolFwdIdeal.defs (F := Ideal)) (onTc (τ := Cert.PoolFwdIdeal.τ) (Cert.PoolFwdIdeal.main (F := Ideal))) ⟨m, fun _ => 0, g⟩ (fun r => ∀ c : Dev Cert.PoolFwdIdeal.nD,
          r.2.mem ((c.tc : Thread Cert.PoolFwdIdeal.nD Cert.PoolFwdIdeal.τ).loc Cert.PoolFwdIdeal.main_v2) = v0 c
          ∧ r.2.mem ((c.tc : Thread Cert.PoolFwdIdeal.nD Cert.PoolFwdIdeal.τ).loc Cert.PoolFwdIdeal.main_arg0) = m ((c.tc : Thread Cert.PoolFwdIdeal.nD Cert.PoolFwdIdeal.τ).loc Cert.PoolFwdIdeal.main_arg0)
          ∧ r.2.mem ((c.tc : Thread Cert.PoolFwdIdeal.nD Cert.PoolFwdIdeal.τ).loc Cert.PoolFwdIdeal.main_arg1) = m ((c.tc : Thread Cert.PoolFwdIdeal.nD Cert.PoolFwdIdeal.τ).loc Cert.PoolFwdIdeal.main_arg1)
          ∧ r.2.mem ((c.tc : Thread Cert.PoolFwdIdeal.nD Cert.PoolFwdIdeal.τ).loc Cert.PoolFwdIdeal.main_arg2) = m ((c.tc : Thread Cert.PoolFwdIdeal.nD Cert.PoolFwdIdeal.τ).loc Cert.PoolFwdIdeal.main_arg2))
      ∧ θ_run (Cert.PoolFwdRefIdeal.defs (F := Ideal)) (onTc (τ := Cert.PoolFwdRefIdeal.τ) (Cert.PoolFwdRefIdeal.main (F := Ideal))) ⟨m', fun _ => 0, g'⟩ (fun r => ∀ c : Dev Cert.PoolFwdRefIdeal.nD,
          r.2.mem ((c.tc : Thread Cert.PoolFwdRefIdeal.nD Cert.PoolFwdRefIdeal.τ).loc Cert.PoolFwdRefIdeal.main_v63) = v0 c
          ∧ r.2.mem ((c.tc : Thread Cert.PoolFwdRefIdeal.nD Cert.PoolFwdRefIdeal.τ).loc Cert.PoolFwdRefIdeal.main_arg0) = m' ((c.tc : Thread Cert.PoolFwdRefIdeal.nD Cert.PoolFwdRefIdeal.τ).loc Cert.PoolFwdRefIdeal.main_arg0)
          ∧ r.2.mem ((c.tc : Thread Cert.PoolFwdRefIdeal.nD Cert.PoolFwdRefIdeal.τ).loc Cert.PoolFwdRefIdeal.main_arg1) = m' ((c.tc : Thread Cert.PoolFwdRefIdeal.nD Cert.PoolFwdRefIdeal.τ).loc Cert.PoolFwdRefIdeal.main_arg1)
          ∧ r.2.mem ((c.tc : Thread Cert.PoolFwdRefIdeal.nD Cert.PoolFwdRefIdeal.τ).loc Cert.PoolFwdRefIdeal.main_arg2) = m' ((c.tc : Thread Cert.PoolFwdRefIdeal.nD Cert.PoolFwdRefIdeal.τ).loc Cert.PoolFwdRefIdeal.main_arg2))

def preserves_PoolBwd_PoolBwdIdeal : Prop :=
  True

def algebraic_PoolBwdIdeal_PoolBwdRefIdeal [hPoolBwdIdeal : Cert.PoolBwdIdeal.Facts] [hPoolBwdRefIdeal : Cert.PoolBwdRefIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)) →
    ∃ (v0 : (c : Dev Cert.PoolBwdIdeal.nD) → Buf (Elt Ideal) ((c.tc : Thread Cert.PoolBwdIdeal.nD Cert.PoolBwdIdeal.τ).loc Cert.PoolBwdIdeal.main_v2_0)) (v1 : (c : Dev Cert.PoolBwdIdeal.nD) → Buf (Elt Ideal) ((c.tc : Thread Cert.PoolBwdIdeal.nD Cert.PoolBwdIdeal.τ).loc Cert.PoolBwdIdeal.main_v2_1)) (v2 : (c : Dev Cert.PoolBwdIdeal.nD) → Buf (Elt Ideal) ((c.tc : Thread Cert.PoolBwdIdeal.nD Cert.PoolBwdIdeal.τ).loc Cert.PoolBwdIdeal.main_v2_2)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v2_0) = v0 c
          ∧ r.2.mem ((c.tc : Thread Cert.PoolBwdIdeal.nD Cert.PoolBwdIdeal.τ).loc Cert.PoolBwdIdeal.main_v2_1) = v1 c
          ∧ r.2.mem ((c.tc : Thread Cert.PoolBwdIdeal.nD Cert.PoolBwdIdeal.τ).loc Cert.PoolBwdIdeal.main_v2_2) = v2 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v131) = v0 c
          ∧ r.2.mem ((c.tc : Thread Cert.PoolBwdRefIdeal.nD Cert.PoolBwdRefIdeal.τ).loc Cert.PoolBwdRefIdeal.main_v122) = v1 c
          ∧ r.2.mem ((c.tc : Thread Cert.PoolBwdRefIdeal.nD Cert.PoolBwdRefIdeal.τ).loc Cert.PoolBwdRefIdeal.main_v132) = v2 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3))

def Claim : Prop :=
  ∃ (hConv : Cert.Conv.Facts) (hConvIdeal : Cert.ConvIdeal.Facts) (hConvRefIdeal : Cert.ConvRefIdeal.Facts) (hDFfnDown : Cert.DFfnDown.Facts) (hDFfnDownIdeal : Cert.DFfnDownIdeal.Facts) (hDFfnDownRefIdeal : Cert.DFfnDownRefIdeal.Facts) (hDInA : Cert.DInA.Facts) (hDInAIdeal : Cert.DInAIdeal.Facts) (hDInARefIdeal : Cert.DInARefIdeal.Facts) (hDInB : Cert.DInB.Facts) (hDInBIdeal : Cert.DInBIdeal.Facts) (hDInBRefIdeal : Cert.DInBRefIdeal.Facts) (hDOut : Cert.DOut.Facts) (hDOutIdeal : Cert.DOutIdeal.Facts) (hDOutRefIdeal : Cert.DOutRefIdeal.Facts) (hDPleGate : Cert.DPleGate.Facts) (hDPleGateIdeal : Cert.DPleGateIdeal.Facts) (hDPleGateRefIdeal : Cert.DPleGateRefIdeal.Facts) (hDPleProj : Cert.DPleProj.Facts) (hDPleProjIdeal : Cert.DPleProjIdeal.Facts) (hDPleProjRefIdeal : Cert.DPleProjRefIdeal.Facts) (hDGlu : Cert.DGlu.Facts) (hDGluIdeal : Cert.DGluIdeal.Facts) (hDGluRefIdeal : Cert.DGluRefIdeal.Facts) (hDFfnUp : Cert.DFfnUp.Facts) (hDFfnUpIdeal : Cert.DFfnUpIdeal.Facts) (hDFfnUpRefIdeal : Cert.DFfnUpRefIdeal.Facts) (hInProj : Cert.InProj.Facts) (hInProjIdeal : Cert.InProjIdeal.Facts) (hInProjRefIdeal : Cert.InProjRefIdeal.Facts) (hOutBwd : Cert.OutBwd.Facts) (hOutBwdIdeal : Cert.OutBwdIdeal.Facts) (hOutBwdRefIdeal : Cert.OutBwdRefIdeal.Facts) (hInBwdEven : Cert.InBwdEven.Facts) (hInBwdEvenIdeal : Cert.InBwdEvenIdeal.Facts) (hInBwdEvenRefIdeal : Cert.InBwdEvenRefIdeal.Facts) (hInBwdOdd : Cert.InBwdOdd.Facts) (hInBwdOddIdeal : Cert.InBwdOddIdeal.Facts) (hInBwdOddRefIdeal : Cert.InBwdOddRefIdeal.Facts) (hOutLn : Cert.OutLn.Facts) (hOutLnIdeal : Cert.OutLnIdeal.Facts) (hOutLnRefIdeal : Cert.OutLnRefIdeal.Facts) (hDownLn : Cert.DownLn.Facts) (hDownLnIdeal : Cert.DownLnIdeal.Facts) (hDownLnRefIdeal : Cert.DownLnRefIdeal.Facts) (hPle : Cert.Ple.Facts) (hPleIdeal : Cert.PleIdeal.Facts) (hPleRefIdeal : Cert.PleRefIdeal.Facts) (hFfnUp : Cert.FfnUp.Facts) (hFfnUpIdeal : Cert.FfnUpIdeal.Facts) (hFfnUpRefIdeal : Cert.FfnUpRefIdeal.Facts) (hAdamEvIn : Cert.AdamEvIn.Facts) (hAdamEvInIdeal : Cert.AdamEvInIdeal.Facts) (hAdamEvInRefIdeal : Cert.AdamEvInRefIdeal.Facts) (hAdamEvGlu : Cert.AdamEvGlu.Facts) (hAdamEvGluIdeal : Cert.AdamEvGluIdeal.Facts) (hAdamEvGluRefIdeal : Cert.AdamEvGluRefIdeal.Facts) (hAdamEvOut : Cert.AdamEvOut.Facts) (hAdamEvOutIdeal : Cert.AdamEvOutIdeal.Facts) (hAdamEvOutRefIdeal : Cert.AdamEvOutRefIdeal.Facts) (hAdamOdIn : Cert.AdamOdIn.Facts) (hAdamOdInIdeal : Cert.AdamOdInIdeal.Facts) (hAdamOdInRefIdeal : Cert.AdamOdInRefIdeal.Facts) (hAdamOdOut : Cert.AdamOdOut.Facts) (hAdamOdOutIdeal : Cert.AdamOdOutIdeal.Facts) (hAdamOdOutRefIdeal : Cert.AdamOdOutRefIdeal.Facts) (hAdamFfnUp : Cert.AdamFfnUp.Facts) (hAdamFfnUpIdeal : Cert.AdamFfnUpIdeal.Facts) (hAdamFfnUpRefIdeal : Cert.AdamFfnUpRefIdeal.Facts) (hAdamFfnDown : Cert.AdamFfnDown.Facts) (hAdamFfnDownIdeal : Cert.AdamFfnDownIdeal.Facts) (hAdamFfnDownRefIdeal : Cert.AdamFfnDownRefIdeal.Facts) (hAdamPleProj : Cert.AdamPleProj.Facts) (hAdamPleProjIdeal : Cert.AdamPleProjIdeal.Facts) (hAdamPleProjRefIdeal : Cert.AdamPleProjRefIdeal.Facts) (hAdamPleGate : Cert.AdamPleGate.Facts) (hAdamPleGateIdeal : Cert.AdamPleGateIdeal.Facts) (hAdamPleGateRefIdeal : Cert.AdamPleGateRefIdeal.Facts) (hFfnDownBwd : Cert.FfnDownBwd.Facts) (hFfnDownBwdIdeal : Cert.FfnDownBwdIdeal.Facts) (hFfnDownBwdRefIdeal : Cert.FfnDownBwdRefIdeal.Facts) (hUpLnBwd : Cert.UpLnBwd.Facts) (hUpLnBwdIdeal : Cert.UpLnBwdIdeal.Facts) (hUpLnBwdRefIdeal : Cert.UpLnBwdRefIdeal.Facts) (hPleLnBwd : Cert.PleLnBwd.Facts) (hPleLnBwdIdeal : Cert.PleLnBwdIdeal.Facts) (hPleLnBwdRefIdeal : Cert.PleLnBwdRefIdeal.Facts) (hDS5B : Cert.DS5B.Facts) (hDS5BIdeal : Cert.DS5BIdeal.Facts) (hDS5BRefIdeal : Cert.DS5BRefIdeal.Facts) (hDS5C : Cert.DS5C.Facts) (hDS5CIdeal : Cert.DS5CIdeal.Facts) (hDS5CRefIdeal : Cert.DS5CRefIdeal.Facts) (hAdamSmall : Cert.AdamSmall.Facts) (hAdamSmallIdeal : Cert.AdamSmallIdeal.Facts) (hAdamSmallRefIdeal : Cert.AdamSmallRefIdeal.Facts) (hLossHead : Cert.LossHead.Facts) (hLossHeadIdeal : Cert.LossHeadIdeal.Facts) (hLossHeadRefIdeal : Cert.LossHeadRefIdeal.Facts) (hSumIn : Cert.SumIn.Facts) (hSumInIdeal : Cert.SumInIdeal.Facts) (hSumInRefIdeal : Cert.SumInRefIdeal.Facts) (hSumGlu : Cert.SumGlu.Facts) (hSumGluIdeal : Cert.SumGluIdeal.Facts) (hSumGluRefIdeal : Cert.SumGluRefIdeal.Facts) (hSumOut : Cert.SumOut.Facts) (hSumOutIdeal : Cert.SumOutIdeal.Facts) (hSumOutRefIdeal : Cert.SumOutRefIdeal.Facts) (hSumUp : Cert.SumUp.Facts) (hSumUpIdeal : Cert.SumUpIdeal.Facts) (hSumUpRefIdeal : Cert.SumUpRefIdeal.Facts) (hSumDown : Cert.SumDown.Facts) (hSumDownIdeal : Cert.SumDownIdeal.Facts) (hSumDownRefIdeal : Cert.SumDownRefIdeal.Facts) (hSumProj : Cert.SumProj.Facts) (hSumProjIdeal : Cert.SumProjIdeal.Facts) (hSumProjRefIdeal : Cert.SumProjRefIdeal.Facts) (hPoolFwd : Cert.PoolFwd.Facts) (hPoolFwdIdeal : Cert.PoolFwdIdeal.Facts) (hPoolFwdRefIdeal : Cert.PoolFwdRefIdeal.Facts) (hPoolBwd : Cert.PoolBwd.Facts) (hPoolBwdIdeal : Cert.PoolBwdIdeal.Facts) (hPoolBwdRefIdeal : Cert.PoolBwdRefIdeal.Facts) (hPre_finite_down : Cert.Pre_finite_down.Facts) (hPre_finite_up : Cert.Pre_finite_up.Facts) (hPre_finite_ple : Cert.Pre_finite_ple.Facts),
    quiescent_Conv (hConv := hConv)
    ∧ quiescent_ConvIdeal (hConvIdeal := hConvIdeal)
    ∧ quiescent_ConvRefIdeal (hConvRefIdeal := hConvRefIdeal)
    ∧ quiescent_DFfnDown (hDFfnDown := hDFfnDown)
    ∧ quiescent_DFfnDownIdeal (hDFfnDownIdeal := hDFfnDownIdeal)
    ∧ quiescent_DFfnDownRefIdeal (hDFfnDownRefIdeal := hDFfnDownRefIdeal)
    ∧ quiescent_DInA (hDInA := hDInA)
    ∧ quiescent_DInAIdeal (hDInAIdeal := hDInAIdeal)
    ∧ quiescent_DInARefIdeal (hDInARefIdeal := hDInARefIdeal)
    ∧ quiescent_DInB (hDInB := hDInB)
    ∧ quiescent_DInBIdeal (hDInBIdeal := hDInBIdeal)
    ∧ quiescent_DInBRefIdeal (hDInBRefIdeal := hDInBRefIdeal)
    ∧ quiescent_DOut (hDOut := hDOut)
    ∧ quiescent_DOutIdeal (hDOutIdeal := hDOutIdeal)
    ∧ quiescent_DOutRefIdeal (hDOutRefIdeal := hDOutRefIdeal)
    ∧ quiescent_DPleGate (hDPleGate := hDPleGate)
    ∧ quiescent_DPleGateIdeal (hDPleGateIdeal := hDPleGateIdeal)
    ∧ quiescent_DPleGateRefIdeal (hDPleGateRefIdeal := hDPleGateRefIdeal)
    ∧ quiescent_DPleProj (hDPleProj := hDPleProj)
    ∧ quiescent_DPleProjIdeal (hDPleProjIdeal := hDPleProjIdeal)
    ∧ quiescent_DPleProjRefIdeal (hDPleProjRefIdeal := hDPleProjRefIdeal)
    ∧ quiescent_DGlu (hDGlu := hDGlu)
    ∧ quiescent_DGluIdeal (hDGluIdeal := hDGluIdeal)
    ∧ quiescent_DGluRefIdeal (hDGluRefIdeal := hDGluRefIdeal)
    ∧ quiescent_DFfnUp (hDFfnUp := hDFfnUp)
    ∧ quiescent_DFfnUpIdeal (hDFfnUpIdeal := hDFfnUpIdeal)
    ∧ quiescent_DFfnUpRefIdeal (hDFfnUpRefIdeal := hDFfnUpRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_InBwdEven (hInBwdEven := hInBwdEven)
    ∧ quiescent_InBwdEvenIdeal (hInBwdEvenIdeal := hInBwdEvenIdeal)
    ∧ quiescent_InBwdEvenRefIdeal (hInBwdEvenRefIdeal := hInBwdEvenRefIdeal)
    ∧ quiescent_InBwdOdd (hInBwdOdd := hInBwdOdd)
    ∧ quiescent_InBwdOddIdeal (hInBwdOddIdeal := hInBwdOddIdeal)
    ∧ quiescent_InBwdOddRefIdeal (hInBwdOddRefIdeal := hInBwdOddRefIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ quiescent_DownLn (hDownLn := hDownLn)
    ∧ quiescent_DownLnIdeal (hDownLnIdeal := hDownLnIdeal)
    ∧ quiescent_DownLnRefIdeal (hDownLnRefIdeal := hDownLnRefIdeal)
    ∧ quiescent_Ple (hPle := hPle)
    ∧ quiescent_PleIdeal (hPleIdeal := hPleIdeal)
    ∧ quiescent_PleRefIdeal (hPleRefIdeal := hPleRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_AdamEvIn (hAdamEvIn := hAdamEvIn)
    ∧ quiescent_AdamEvInIdeal (hAdamEvInIdeal := hAdamEvInIdeal)
    ∧ quiescent_AdamEvInRefIdeal (hAdamEvInRefIdeal := hAdamEvInRefIdeal)
    ∧ quiescent_AdamEvGlu (hAdamEvGlu := hAdamEvGlu)
    ∧ quiescent_AdamEvGluIdeal (hAdamEvGluIdeal := hAdamEvGluIdeal)
    ∧ quiescent_AdamEvGluRefIdeal (hAdamEvGluRefIdeal := hAdamEvGluRefIdeal)
    ∧ quiescent_AdamEvOut (hAdamEvOut := hAdamEvOut)
    ∧ quiescent_AdamEvOutIdeal (hAdamEvOutIdeal := hAdamEvOutIdeal)
    ∧ quiescent_AdamEvOutRefIdeal (hAdamEvOutRefIdeal := hAdamEvOutRefIdeal)
    ∧ quiescent_AdamOdIn (hAdamOdIn := hAdamOdIn)
    ∧ quiescent_AdamOdInIdeal (hAdamOdInIdeal := hAdamOdInIdeal)
    ∧ quiescent_AdamOdInRefIdeal (hAdamOdInRefIdeal := hAdamOdInRefIdeal)
    ∧ quiescent_AdamOdOut (hAdamOdOut := hAdamOdOut)
    ∧ quiescent_AdamOdOutIdeal (hAdamOdOutIdeal := hAdamOdOutIdeal)
    ∧ quiescent_AdamOdOutRefIdeal (hAdamOdOutRefIdeal := hAdamOdOutRefIdeal)
    ∧ quiescent_AdamFfnUp (hAdamFfnUp := hAdamFfnUp)
    ∧ quiescent_AdamFfnUpIdeal (hAdamFfnUpIdeal := hAdamFfnUpIdeal)
    ∧ quiescent_AdamFfnUpRefIdeal (hAdamFfnUpRefIdeal := hAdamFfnUpRefIdeal)
    ∧ quiescent_AdamFfnDown (hAdamFfnDown := hAdamFfnDown)
    ∧ quiescent_AdamFfnDownIdeal (hAdamFfnDownIdeal := hAdamFfnDownIdeal)
    ∧ quiescent_AdamFfnDownRefIdeal (hAdamFfnDownRefIdeal := hAdamFfnDownRefIdeal)
    ∧ quiescent_AdamPleProj (hAdamPleProj := hAdamPleProj)
    ∧ quiescent_AdamPleProjIdeal (hAdamPleProjIdeal := hAdamPleProjIdeal)
    ∧ quiescent_AdamPleProjRefIdeal (hAdamPleProjRefIdeal := hAdamPleProjRefIdeal)
    ∧ quiescent_AdamPleGate (hAdamPleGate := hAdamPleGate)
    ∧ quiescent_AdamPleGateIdeal (hAdamPleGateIdeal := hAdamPleGateIdeal)
    ∧ quiescent_AdamPleGateRefIdeal (hAdamPleGateRefIdeal := hAdamPleGateRefIdeal)
    ∧ quiescent_FfnDownBwd (hFfnDownBwd := hFfnDownBwd)
    ∧ quiescent_FfnDownBwdIdeal (hFfnDownBwdIdeal := hFfnDownBwdIdeal) (hPre_finite_down := hPre_finite_down)
    ∧ quiescent_FfnDownBwdIdeal_pre_none (hFfnDownBwdIdeal := hFfnDownBwdIdeal)
    ∧ quiescent_FfnDownBwdRefIdeal (hFfnDownBwdRefIdeal := hFfnDownBwdRefIdeal)
    ∧ quiescent_FfnDownBwdRefIdeal_pre_finite_down (hFfnDownBwdRefIdeal := hFfnDownBwdRefIdeal) (hPre_finite_down := hPre_finite_down)
    ∧ quiescent_UpLnBwd (hUpLnBwd := hUpLnBwd)
    ∧ quiescent_UpLnBwdIdeal (hUpLnBwdIdeal := hUpLnBwdIdeal) (hPre_finite_up := hPre_finite_up)
    ∧ quiescent_UpLnBwdIdeal_pre_none (hUpLnBwdIdeal := hUpLnBwdIdeal)
    ∧ quiescent_UpLnBwdRefIdeal (hUpLnBwdRefIdeal := hUpLnBwdRefIdeal)
    ∧ quiescent_UpLnBwdRefIdeal_pre_finite_up (hUpLnBwdRefIdeal := hUpLnBwdRefIdeal) (hPre_finite_up := hPre_finite_up)
    ∧ quiescent_PleLnBwd (hPleLnBwd := hPleLnBwd)
    ∧ quiescent_PleLnBwdIdeal (hPleLnBwdIdeal := hPleLnBwdIdeal) (hPre_finite_ple := hPre_finite_ple)
    ∧ quiescent_PleLnBwdIdeal_pre_none (hPleLnBwdIdeal := hPleLnBwdIdeal)
    ∧ quiescent_PleLnBwdRefIdeal (hPleLnBwdRefIdeal := hPleLnBwdRefIdeal)
    ∧ quiescent_PleLnBwdRefIdeal_pre_finite_ple (hPleLnBwdRefIdeal := hPleLnBwdRefIdeal) (hPre_finite_ple := hPre_finite_ple)
    ∧ quiescent_DS5B (hDS5B := hDS5B)
    ∧ quiescent_DS5BIdeal (hDS5BIdeal := hDS5BIdeal)
    ∧ quiescent_DS5BRefIdeal (hDS5BRefIdeal := hDS5BRefIdeal)
    ∧ quiescent_DS5C (hDS5C := hDS5C)
    ∧ quiescent_DS5CIdeal (hDS5CIdeal := hDS5CIdeal)
    ∧ quiescent_DS5CRefIdeal (hDS5CRefIdeal := hDS5CRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_SumGlu (hSumGlu := hSumGlu)
    ∧ quiescent_SumGluIdeal (hSumGluIdeal := hSumGluIdeal)
    ∧ quiescent_SumGluRefIdeal (hSumGluRefIdeal := hSumGluRefIdeal)
    ∧ quiescent_SumOut (hSumOut := hSumOut)
    ∧ quiescent_SumOutIdeal (hSumOutIdeal := hSumOutIdeal)
    ∧ quiescent_SumOutRefIdeal (hSumOutRefIdeal := hSumOutRefIdeal)
    ∧ quiescent_SumUp (hSumUp := hSumUp)
    ∧ quiescent_SumUpIdeal (hSumUpIdeal := hSumUpIdeal)
    ∧ quiescent_SumUpRefIdeal (hSumUpRefIdeal := hSumUpRefIdeal)
    ∧ quiescent_SumDown (hSumDown := hSumDown)
    ∧ quiescent_SumDownIdeal (hSumDownIdeal := hSumDownIdeal)
    ∧ quiescent_SumDownRefIdeal (hSumDownRefIdeal := hSumDownRefIdeal)
    ∧ quiescent_SumProj (hSumProj := hSumProj)
    ∧ quiescent_SumProjIdeal (hSumProjIdeal := hSumProjIdeal)
    ∧ quiescent_SumProjRefIdeal (hSumProjRefIdeal := hSumProjRefIdeal)
    ∧ quiescent_PoolFwd (hPoolFwd := hPoolFwd)
    ∧ quiescent_PoolFwdIdeal (hPoolFwdIdeal := hPoolFwdIdeal)
    ∧ quiescent_PoolFwdRefIdeal (hPoolFwdRefIdeal := hPoolFwdRefIdeal)
    ∧ quiescent_PoolBwd (hPoolBwd := hPoolBwd)
    ∧ quiescent_PoolBwdIdeal (hPoolBwdIdeal := hPoolBwdIdeal)
    ∧ quiescent_PoolBwdRefIdeal (hPoolBwdRefIdeal := hPoolBwdRefIdeal)
    ∧ preserves_Conv_ConvIdeal
    ∧ algebraic_ConvIdeal_ConvRefIdeal (hConvIdeal := hConvIdeal) (hConvRefIdeal := hConvRefIdeal)
    ∧ preserves_DFfnDown_DFfnDownIdeal
    ∧ algebraic_DFfnDownIdeal_DFfnDownRefIdeal (hDFfnDownIdeal := hDFfnDownIdeal) (hDFfnDownRefIdeal := hDFfnDownRefIdeal)
    ∧ preserves_DInA_DInAIdeal
    ∧ algebraic_DInAIdeal_DInARefIdeal (hDInAIdeal := hDInAIdeal) (hDInARefIdeal := hDInARefIdeal)
    ∧ preserves_DInB_DInBIdeal
    ∧ algebraic_DInBIdeal_DInBRefIdeal (hDInBIdeal := hDInBIdeal) (hDInBRefIdeal := hDInBRefIdeal)
    ∧ preserves_DOut_DOutIdeal
    ∧ algebraic_DOutIdeal_DOutRefIdeal (hDOutIdeal := hDOutIdeal) (hDOutRefIdeal := hDOutRefIdeal)
    ∧ preserves_DPleGate_DPleGateIdeal
    ∧ algebraic_DPleGateIdeal_DPleGateRefIdeal (hDPleGateIdeal := hDPleGateIdeal) (hDPleGateRefIdeal := hDPleGateRefIdeal)
    ∧ preserves_DPleProj_DPleProjIdeal
    ∧ algebraic_DPleProjIdeal_DPleProjRefIdeal (hDPleProjIdeal := hDPleProjIdeal) (hDPleProjRefIdeal := hDPleProjRefIdeal)
    ∧ preserves_DGlu_DGluIdeal
    ∧ algebraic_DGluIdeal_DGluRefIdeal (hDGluIdeal := hDGluIdeal) (hDGluRefIdeal := hDGluRefIdeal)
    ∧ preserves_DFfnUp_DFfnUpIdeal
    ∧ algebraic_DFfnUpIdeal_DFfnUpRefIdeal (hDFfnUpIdeal := hDFfnUpIdeal) (hDFfnUpRefIdeal := hDFfnUpRefIdeal)
    ∧ preserves_InProj_InProjIdeal
    ∧ algebraic_InProjIdeal_InProjRefIdeal (hInProjIdeal := hInProjIdeal) (hInProjRefIdeal := hInProjRefIdeal)
    ∧ preserves_OutBwd_OutBwdIdeal
    ∧ algebraic_OutBwdIdeal_OutBwdRefIdeal (hOutBwdIdeal := hOutBwdIdeal) (hOutBwdRefIdeal := hOutBwdRefIdeal)
    ∧ preserves_InBwdEven_InBwdEvenIdeal
    ∧ algebraic_InBwdEvenIdeal_InBwdEvenRefIdeal (hInBwdEvenIdeal := hInBwdEvenIdeal) (hInBwdEvenRefIdeal := hInBwdEvenRefIdeal)
    ∧ preserves_InBwdOdd_InBwdOddIdeal
    ∧ algebraic_InBwdOddIdeal_InBwdOddRefIdeal (hInBwdOddIdeal := hInBwdOddIdeal) (hInBwdOddRefIdeal := hInBwdOddRefIdeal)
    ∧ preserves_OutLn_OutLnIdeal
    ∧ algebraic_OutLnIdeal_OutLnRefIdeal (hOutLnIdeal := hOutLnIdeal) (hOutLnRefIdeal := hOutLnRefIdeal)
    ∧ preserves_DownLn_DownLnIdeal
    ∧ algebraic_DownLnIdeal_DownLnRefIdeal (hDownLnIdeal := hDownLnIdeal) (hDownLnRefIdeal := hDownLnRefIdeal)
    ∧ preserves_Ple_PleIdeal
    ∧ algebraic_PleIdeal_PleRefIdeal (hPleIdeal := hPleIdeal) (hPleRefIdeal := hPleRefIdeal)
    ∧ preserves_FfnUp_FfnUpIdeal
    ∧ algebraic_FfnUpIdeal_FfnUpRefIdeal (hFfnUpIdeal := hFfnUpIdeal) (hFfnUpRefIdeal := hFfnUpRefIdeal)
    ∧ preserves_AdamEvIn_AdamEvInIdeal
    ∧ algebraic_AdamEvInIdeal_AdamEvInRefIdeal (hAdamEvInIdeal := hAdamEvInIdeal) (hAdamEvInRefIdeal := hAdamEvInRefIdeal)
    ∧ preserves_AdamEvGlu_AdamEvGluIdeal
    ∧ algebraic_AdamEvGluIdeal_AdamEvGluRefIdeal (hAdamEvGluIdeal := hAdamEvGluIdeal) (hAdamEvGluRefIdeal := hAdamEvGluRefIdeal)
    ∧ preserves_AdamEvOut_AdamEvOutIdeal
    ∧ algebraic_AdamEvOutIdeal_AdamEvOutRefIdeal (hAdamEvOutIdeal := hAdamEvOutIdeal) (hAdamEvOutRefIdeal := hAdamEvOutRefIdeal)
    ∧ preserves_AdamOdIn_AdamOdInIdeal
    ∧ algebraic_AdamOdInIdeal_AdamOdInRefIdeal (hAdamOdInIdeal := hAdamOdInIdeal) (hAdamOdInRefIdeal := hAdamOdInRefIdeal)
    ∧ preserves_AdamOdOut_AdamOdOutIdeal
    ∧ algebraic_AdamOdOutIdeal_AdamOdOutRefIdeal (hAdamOdOutIdeal := hAdamOdOutIdeal) (hAdamOdOutRefIdeal := hAdamOdOutRefIdeal)
    ∧ preserves_AdamFfnUp_AdamFfnUpIdeal
    ∧ algebraic_AdamFfnUpIdeal_AdamFfnUpRefIdeal (hAdamFfnUpIdeal := hAdamFfnUpIdeal) (hAdamFfnUpRefIdeal := hAdamFfnUpRefIdeal)
    ∧ preserves_AdamFfnDown_AdamFfnDownIdeal
    ∧ algebraic_AdamFfnDownIdeal_AdamFfnDownRefIdeal (hAdamFfnDownIdeal := hAdamFfnDownIdeal) (hAdamFfnDownRefIdeal := hAdamFfnDownRefIdeal)
    ∧ preserves_AdamPleProj_AdamPleProjIdeal
    ∧ algebraic_AdamPleProjIdeal_AdamPleProjRefIdeal (hAdamPleProjIdeal := hAdamPleProjIdeal) (hAdamPleProjRefIdeal := hAdamPleProjRefIdeal)
    ∧ preserves_AdamPleGate_AdamPleGateIdeal
    ∧ algebraic_AdamPleGateIdeal_AdamPleGateRefIdeal (hAdamPleGateIdeal := hAdamPleGateIdeal) (hAdamPleGateRefIdeal := hAdamPleGateRefIdeal)
    ∧ preserves_FfnDownBwd_FfnDownBwdIdeal
    ∧ algebraic_FfnDownBwdIdeal_FfnDownBwdRefIdeal (hFfnDownBwdIdeal := hFfnDownBwdIdeal) (hFfnDownBwdRefIdeal := hFfnDownBwdRefIdeal) (hPre_finite_down := hPre_finite_down)
    ∧ preserves_UpLnBwd_UpLnBwdIdeal
    ∧ algebraic_UpLnBwdIdeal_UpLnBwdRefIdeal (hUpLnBwdIdeal := hUpLnBwdIdeal) (hUpLnBwdRefIdeal := hUpLnBwdRefIdeal) (hPre_finite_up := hPre_finite_up)
    ∧ preserves_PleLnBwd_PleLnBwdIdeal
    ∧ algebraic_PleLnBwdIdeal_PleLnBwdRefIdeal (hPleLnBwdIdeal := hPleLnBwdIdeal) (hPleLnBwdRefIdeal := hPleLnBwdRefIdeal) (hPre_finite_ple := hPre_finite_ple)
    ∧ preserves_DS5B_DS5BIdeal
    ∧ algebraic_DS5BIdeal_DS5BRefIdeal (hDS5BIdeal := hDS5BIdeal) (hDS5BRefIdeal := hDS5BRefIdeal)
    ∧ preserves_DS5C_DS5CIdeal
    ∧ algebraic_DS5CIdeal_DS5CRefIdeal (hDS5CIdeal := hDS5CIdeal) (hDS5CRefIdeal := hDS5CRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_LossHead_LossHeadIdeal
    ∧ algebraic_LossHeadIdeal_LossHeadRefIdeal (hLossHeadIdeal := hLossHeadIdeal) (hLossHeadRefIdeal := hLossHeadRefIdeal)
    ∧ preserves_SumIn_SumInIdeal
    ∧ algebraic_SumInIdeal_SumInRefIdeal (hSumInIdeal := hSumInIdeal) (hSumInRefIdeal := hSumInRefIdeal)
    ∧ preserves_SumGlu_SumGluIdeal
    ∧ algebraic_SumGluIdeal_SumGluRefIdeal (hSumGluIdeal := hSumGluIdeal) (hSumGluRefIdeal := hSumGluRefIdeal)
    ∧ preserves_SumOut_SumOutIdeal
    ∧ algebraic_SumOutIdeal_SumOutRefIdeal (hSumOutIdeal := hSumOutIdeal) (hSumOutRefIdeal := hSumOutRefIdeal)
    ∧ preserves_SumUp_SumUpIdeal
    ∧ algebraic_SumUpIdeal_SumUpRefIdeal (hSumUpIdeal := hSumUpIdeal) (hSumUpRefIdeal := hSumUpRefIdeal)
    ∧ preserves_SumDown_SumDownIdeal
    ∧ algebraic_SumDownIdeal_SumDownRefIdeal (hSumDownIdeal := hSumDownIdeal) (hSumDownRefIdeal := hSumDownRefIdeal)
    ∧ preserves_SumProj_SumProjIdeal
    ∧ algebraic_SumProjIdeal_SumProjRefIdeal (hSumProjIdeal := hSumProjIdeal) (hSumProjRefIdeal := hSumProjRefIdeal)
    ∧ preserves_PoolFwd_PoolFwdIdeal
    ∧ algebraic_PoolFwdIdeal_PoolFwdRefIdeal (hPoolFwdIdeal := hPoolFwdIdeal) (hPoolFwdRefIdeal := hPoolFwdRefIdeal)
    ∧ preserves_PoolBwd_PoolBwdIdeal
    ∧ algebraic_PoolBwdIdeal_PoolBwdRefIdeal (hPoolBwdIdeal := hPoolBwdIdeal) (hPoolBwdRefIdeal := hPoolBwdRefIdeal)
-- ==== Pre_finite_down.lean ====
abbrev S16384x1024 : Shape := ⟨2, ![16384, 1024]⟩
abbrev S2816x1024 : Shape := ⟨2, ![2816, 1024]⟩
abbrev S16384x5632 : Shape := ⟨2, ![16384, 5632]⟩
abbrev S16384x2816 : Shape := ⟨2, ![16384, 2816]⟩
abbrev S_ : Shape := ⟨0, ![]⟩

class Facts : Prop where
  slices_S16384x5632_S16384x2816_0_2816 : S16384x5632.Slices ![0, 2816] S16384x2816
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S16384x2816 : S_.BroadcastsInDim S16384x2816 (![] : Fin 0 → Fin S16384x2816.rank)
  reducesTo_S16384x2816_S_d0_1 : S16384x2816.ReducesTo [0, 1] S_

variable [Facts]

def fn {F : FTy → Type} [FloatOps F] (main_arg0 : FVec F S16384x1024 .f32) (main_arg1 : FVec F S2816x1024 .f32) (main_arg2 : FVec F S16384x5632 .f32) : IVec S_ 1 :=
  let main_v0 : FVec F S16384x2816 .f32 := (extractStridedSlice S16384x2816 ![0, 2816] · slices_S16384x5632_S16384x2816_0_2816) main_arg2
  let main_v1 : FVec F S16384x1024 .f32 := Host.absf main_arg0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_c_0 : IVec S_ 1 := constantI S_ 1 1#1
  let main_v5 : IVec S_ 1 := andi main_c_0 main_v4
  let main_v6 : FVec F S2816x1024 .f32 := Host.absf main_arg1
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_c_2 : IVec S_ 1 := constantI S_ 1 1#1
  let main_v9 : IVec S_ 1 := (fun x v => Host.reduce IntOp.andi x v reducesTo_S2816x1024_S_d0_1 h_S_) main_v8 main_c_2
  let main_v10 : IVec S_ 1 := andi main_v5 main_v9
  let main_v11 : FVec F S16384x2816 .f32 := Host.absf main_v0
  let main_cst_3 : FVec F S_ .f32 := constant S_ .f32 0x7F800000#32
  let main_v12 : FVec F S16384x2816 .f32 := broadcastInDim S16384x2816 ![] bcast_S_S16384x2816 main_cst_3
  let main_v13 : IVec S16384x2816 1 := cmpf .olt main_v11 main_v12
  let main_c_4 : IVec S_ 1 := constantI S_ 1 1#1
  let main_v14 : IVec S_ 1 := (fun x v => Host.reduce IntOp.andi x v reducesTo_S16384x2816_S_d0_1 h_S_) main_v13 main_c_4
  let main_v15 : IVec S_ 1 := andi main_v10 main_v14
  main_v15
-- ==== Pre_finite_ple.lean ====
abbrev S16384x1024 : Shape := ⟨2, ![16384, 1024]⟩
abbrev S16384x256 : Shape := ⟨2, ![16384, 256]⟩
abbrev S256x1024 : Shape := ⟨2, ![256, 1024]⟩
abbrev S1024 : Shape := ⟨1, ![1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg6 : FVec F S1024x1024 .f32) (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  let main_v20 : FVec F S1024x1024 .f32 := Host.absf main_arg6
  let main_cst_7 : FVec F S_ .f32 := constant S_ .f32 0x7F800000#32
  let main_v21 : FVec F S1024x1024 .f32 := broadcastInDim S1024x1024 ![] bcast_S_S1024x1024 main_cst_7
  let main_v22 : IVec S1024x1024 1 := cmpf .olt main_v20 main_v21
  let main_c_8 : IVec S_ 1 := constantI S_ 1 1#1
  let main_v23 : IVec S_ 1 := (fun x v => Host.reduce IntOp.andi x v reducesTo_S1024x1024_S_d0_1 h_S_) main_v22 main_c_8
  let main_v24 : IVec S_ 1 := andi main_v19 main_v23
  main_v24

def fn {F : FTy → Type} [FloatOps F] (main_arg0 : FVec F S16384x1024 .f32) (main_arg1 : FVec F S16384x256 .f32) (main_arg2 : FVec F S256x1024 .f32) (main_arg3 : FVec F S16384x1024 .f32) (main_arg4 : FVec F S1024 .f32) (main_arg5 : FVec F S1024 .f32) (main_arg6 : FVec F S1024x1024 .f32) (main_arg7 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_c_0 : IVec S_ 1 := constantI S_ 1 1#1
  let main_v4 : IVec S_ 1 := andi main_c_0 main_v3
  let main_v5 : FVec F S16384x256 .f32 := Host.absf main_arg1
  let main_cst_1 : FVec F S_ .f32 := constant S_ .f32 0x7F800000#32
  let main_v6 : FVec F S16384x256 .f32 := broadcastInDim S16384x256 ![] bcast_S_S16384x256 main_cst_1
  let main_v7 : IVec S16384x256 1 := cmpf .olt main_v5 main_v6
  let main_c_2 : IVec S_ 1 := constantI S_ 1 1#1
  let main_v8 : IVec S_ 1 := (fun x v => Host.reduce IntOp.andi x v reducesTo_S16384x256_S_d0_1 h_S_) main_v7 main_c_2
  let main_v9 : IVec S_ 1 := andi main_v4 main_v8
  let main_v10 : FVec F S256x1024 .f32 := Host.absf main_arg2
  let main_cst_3 : FVec F S_ .f32 := constant S_ .f32 0x7F800000#32
  let main_v11 : FVec F S256x1024 .f32 := broadcastInDim S256x1024 ![] bcast_S_S256x1024 main_cst_3
  let main_v12 : IVec S256x1024 1 := cmpf .olt main_v10 main_v11
  let main_c_4 : IVec S_ 1 := constantI S_ 1 1#1
  let main_v13 : IVec S_ 1 := (fun x v => Host.reduce IntOp.andi x v reducesTo_S256x1024_S_d0_1 h_S_) main_v12 main_c_4
  let main_v14 : IVec S_ 1 := andi main_v9 main_v13
  let main_v15 : FVec F S1024 .f32 := Host.absf main_arg4
  let main_cst_5 : FVec F S_ .f32 := constant S_ .f32 0x7F800000#32
  fn_part1 (F := F) main_arg6 main_v14 main_v15 main_cst_5
-- ==== Pre_finite_up.lean ====
abbrev S16384x5632 : Shape := ⟨2, ![16384, 5632]⟩
abbrev S1024x5632 : Shape := ⟨2, ![1024, 5632]⟩
abbrev S16384x1024 : Shape := ⟨2, ![16384, 1024]⟩
abbrev S1024 : Shape := ⟨1, ![1024]⟩
abbrev S_ : Shape := ⟨0, ![]⟩

class Facts : Prop where
  bcast_S_S16384x5632 : S_.BroadcastsInDim S16384x5632 (![] : Fin 0 → Fin S16384x5632.rank)
  reducesTo_S16384x5632_S_d0_1 : S16384x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  main_v19

def fn {F : FTy → Type} [FloatOps F] (main_arg0 : FVec F S16384x5632 .bf16) (main_arg1 : FVec F S1024x5632 .f32) (main_arg2 : FVec F S16384x1024 .f32) (main_arg3 : FVec F S16384x1024 .f32) (main_arg4 : FVec F S1024 .f32) : IVec S_ 1 :=
  let main_v0 : FVec F S16384x5632 .bf16 := Host.absf main_arg0
  let main_cst : FVec F S_ .bf16 := constant S_ .bf16 0x7F80#16
  let main_v1 : FVec F S16384x5632 .bf16 := broadcastInDim S16384x5632 ![] bcast_S_S16384x5632 main_cst
  let main_v2 : IVec S16384x5632 1 := cmpf .olt main_v0 main_v1
  let main_c : IVec S_ 1 := constantI S_ 1 1#1
  let main_v3 : IVec S_ 1 := (fun x v => Host.reduce IntOp.andi x v reducesTo_S16384x5632_S_d0_1 h_S_) main_v2 main_c
  let main_c_0 : IVec S_ 1 := constantI S_ 1 1#1
  let main_v4 : IVec S_ 1 := andi main_c_0 main_v3
  let main_v5 : FVec F S1024x5632 .f32 := Host.absf main_arg1
  let main_cst_1 : FVec F S_ .f32 := constant S_ .f32 0x7F800000#32
  let main_v6 : FVec F S1024x5632 .f32 := broadcastInDim S1024x5632 ![] bcast_S_S1024x5632 main_cst_1
  let main_v7 : IVec S1024x5632 1 := cmpf .olt main_v5 main_v6
  let main_c_2 : IVec S_ 1 := constantI S_ 1 1#1
  let main_v8 : IVec S_ 1 := (fun x v => Host.reduce IntOp.andi x v reducesTo_S1024x5632_S_d0_1 h_S_) main_v7 main_c_2
  let main_v9 : IVec S_ 1 := andi main_v4 main_v8
  let main_v10 : FVec F S16384x1024 .f32 := Host.absf main_arg3
  let main_cst_3 : FVec F S_ .f32 := constant S_ .f32 0x7F800000#32
  let main_v11 : FVec F S16384x1024 .f32 := broadcastInDim S16384x1024 ![] bcast_S_S16384x1024 main_cst_3
  let main_v12 : IVec S16384x1024 1 := cmpf .olt main_v10 main_v11
  let main_c_4 : IVec S_ 1 := constantI S_ 1 1#1
  let main_v13 : IVec S_ 1 := (fun x v => Host.reduce IntOp.andi x v reducesTo_S16384x1024_S_d0_1 h_S_) main_v12 main_c_4
  let main_v14 : IVec S_ 1 := andi main_v9 main_v13
  let main_v15 : FVec F S1024 .f32 := Host.absf main_arg4
  let main_cst_5 : FVec F S_ .f32 := constant S_ .f32 0x7F800000#32
  fn_part1 (F := F) main_v14 main_v15 main_cst_5
-- ==== Conv.lean ====
abbrev S16384x1024 : Shape := ⟨2, ![16384, 1024]⟩
abbrev S16384x2048 : Shape := ⟨2, ![16384, 2048]⟩
abbrev S3x512 : Shape := ⟨2, ![3, 512]⟩
abbrev S16384x1536 : Shape := ⟨2, ![16384, 1536]⟩
abbrev S8x512 : Shape := ⟨2, ![8, 512]⟩
abbrev S512x512 : Shape := ⟨2, ![512, 512]⟩
abbrev S512x1536 : Shape := ⟨2, ![512, 1536]⟩
abbrev S520x512 : Shape := ⟨2, ![520, 512]⟩
abbrev S1x512 : Shape := ⟨2, ![1, 512]⟩
abbrev S512 : Shape := ⟨1, ![512]⟩

abbrev nBuf : Space → Nat
  | .hbm => 5
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S3x512, .f32⟩
  | .hbm, ⟨3, _⟩ => ⟨S16384x1536, .f32⟩
  | .hbm, ⟨4, _⟩ => ⟨S8x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S3x512, .f32⟩
  | .local _ .vmem, ⟨17, _⟩ => ⟨S512x1536, .f32⟩
  | .local _ .vmem, ⟨18, _⟩ => ⟨S512x1536, .f32⟩
  | .local _ .vmem, ⟨19, _⟩ => ⟨S8x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let c0_i32_0 : BitVec 32 := 0#32
  ![v1.toNat, c3_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c1_i32_0 : BitVec 32 := 1#32
  let c0_i32 : BitVec 32 := 0#32
  ![v1.toNat, c1_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvRefIdeal.lean ====
abbrev S16384x1024 : Shape := ⟨2, ![16384, 1024]⟩
abbrev S16384x2048 : Shape := ⟨2, ![16384, 2048]⟩
abbrev S3x512 : Shape := ⟨2, ![3, 512]⟩
abbrev S1x16384x2048 : Shape := ⟨3, ![1, 16384, 2048]⟩
abbrev S1x16384x512 : Shape := ⟨3, ![1, 16384, 512]⟩
abbrev S16384x512 : Shape := ⟨2, ![16384, 512]⟩
abbrev S_ : Shape := ⟨0, ![]⟩
abbrev S1x2x512 : Shape := ⟨3, ![1, 2, 512]⟩
abbrev S1x16386x512 : Shape := ⟨3, ![1, 16386, 512]⟩
abbrev S1x512 : Shape := ⟨2, ![1, 512]⟩
abbrev S512 : Shape := ⟨1, ![512]⟩
abbrev S1x1x512 : Shape := ⟨3, ![1, 1, 512]⟩
abbrev S1x16384x1536 : Shape := ⟨3, ![1, 16384, 1536]⟩
abbrev S16384x1536 : Shape := ⟨2, ![16384, 1536]⟩
abbrev S5x512 : Shape := ⟨2, ![5, 512]⟩
abbrev S8x512 : Shape := ⟨2, ![8, 512]⟩

abbrev nBuf : Space → Nat
  | .hbm => 91
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S3x512, .f32⟩
  | .hbm, ⟨3, _⟩ => ⟨S1x16384x2048, .f32⟩
  | .hbm, ⟨4, _⟩ => ⟨S1x16384x512, .f32⟩
  | .hbm, ⟨5, _⟩ => ⟨S1x16384x512, .f32⟩
  | .hbm, ⟨6, _⟩ => ⟨S1x16384x512, .f32⟩
  | .hbm, ⟨7, _⟩ => ⟨S1x16384x512, .f32⟩
  | .hbm, ⟨8, _⟩ => ⟨S16384x512, .f32⟩
  | .hbm, ⟨9, _⟩ => ⟨S1x16384x512, .f32⟩
  | .hbm, ⟨10, _⟩ => ⟨S1x16384x512, .f32⟩
  | .hbm, ⟨11, _⟩ => ⟨S_, .f32⟩
  | .hbm, ⟨12, _⟩ => ⟨S1x2x512, .f32⟩
  | .hbm, ⟨13, _⟩ => ⟨S1x16386x512, .f32⟩
  | .hbm, ⟨14, _⟩ => ⟨S_, .f32⟩
  | .hbm, ⟨15, _⟩ => ⟨S1x2x512, .f32⟩
  | .hbm, ⟨16, _⟩ => ⟨S1x512, .f32⟩
  | .hbm, ⟨17, _⟩ => ⟨S512, .f32⟩
  | .hbm, ⟨18, _⟩ => ⟨S1x16384x512, .f32⟩
  | .hbm, ⟨19, _⟩ => ⟨S1x1x512, .f32⟩
  | .hbm, ⟨20, _⟩ => ⟨S1x16384x512, .f32⟩
  | .hbm, ⟨21, _⟩ => ⟨S1x16384x512, .f32⟩
  | .hbm, ⟨22, _⟩ => ⟨S1x512, .f32⟩
  | .hbm, ⟨23, _⟩ => ⟨S512, .f32⟩
  | .hbm, ⟨24, _⟩ => ⟨S1x16384x512, .f32⟩
  | .hbm, ⟨25, _⟩ => ⟨S1x1x512, .f32⟩
  | .hbm, ⟨26, _⟩ => ⟨S1x16384x512, .f32⟩
  | .hbm, ⟨27, _⟩ => ⟨S1x16384x512, .f32⟩
  | .hbm, ⟨28, _⟩ => ⟨S1x16384x512, .f32⟩
  | .hbm, ⟨29, _⟩ => ⟨S1x512, .f32⟩
  | .hbm, ⟨30, _⟩ => ⟨S512, .f32⟩
  | .hbm, ⟨31, _⟩ => ⟨S1x16384x512, .f32⟩
  | .hbm, ⟨32, _⟩ => ⟨S1x1x512, .f32⟩
  | .hbm, ⟨33, _⟩ => ⟨S1x16384x512, .f32⟩
  | .hbm, ⟨34, _⟩ => ⟨S1x16384x512, .f32⟩
  | .hbm, ⟨35, _⟩ => ⟨S1x16384x512, .f32⟩
  | .hbm, ⟨36, _⟩ => ⟨S1x16384x512, .f32⟩
  | .hbm, ⟨37, _⟩ => ⟨S1x16384x512, .f32⟩
  | .hbm, ⟨38, _⟩ => ⟨S1x16384x512, .f32⟩
  | .hbm, ⟨39, _⟩ => ⟨S1x16384x512, .f32⟩
  | .hbm, ⟨40, _⟩ => ⟨S1x16384x512, .f32⟩
  | .hbm, ⟨41, _⟩ => ⟨S1x16384x512, .f32⟩
  | .hbm, ⟨42, _⟩ => ⟨S_, .f32⟩
  | .hbm, ⟨43, _⟩ => ⟨S1x512, .f32⟩
  | .hbm, ⟨44, _⟩ => ⟨S1x1x512, .f32⟩
  | .hbm, ⟨45, _⟩ => ⟨S_, .f32⟩
  | .hbm, ⟨46, _⟩ => ⟨S512, .f32⟩
  | .hbm, ⟨47, _⟩ => ⟨S_, .f32⟩
  | .hbm, ⟨48, _⟩ => ⟨S1x16386x512, .f32⟩
  | .hbm, ⟨49, _⟩ => ⟨S1x512, .f32⟩
  | .hbm, ⟨50, _⟩ => ⟨S_, .f32⟩
  | .hbm, ⟨51, _⟩ => ⟨S3x512, .f32⟩
  | .hbm, ⟨52, _⟩ => ⟨S1x16384x512, .f32⟩
  | .hbm, ⟨53, _⟩ => ⟨S1x16384x512, .f32⟩
  | .hbm, ⟨54, _⟩ => ⟨S1x16384x512, .f32⟩
  | .hbm, ⟨55, _⟩ => ⟨S_, .f32⟩
  | .hbm, ⟨56, _⟩ => ⟨S1x512, .f32⟩
  | .hbm, ⟨57, _⟩ => ⟨S1x1x512, .f32⟩
  | .hbm, ⟨58, _⟩ => ⟨S_, .f32⟩
  | .hbm, ⟨59, _⟩ => ⟨S512, .f32⟩
  | .hbm, ⟨60, _⟩ => ⟨S_, .f32⟩
  | .hbm, ⟨61, _⟩ => ⟨S1x16386x512, .f32⟩
  | .hbm, ⟨62, _⟩ => ⟨S1x16386x512, .f32⟩
  | .hbm, ⟨63, _⟩ => ⟨S1x512, .f32⟩
  | .hbm, ⟨64, _⟩ => ⟨S_, .f32⟩
  | .hbm, ⟨65, _⟩ => ⟨S3x512, .f32⟩
  | .hbm, ⟨66, _⟩ => ⟨S3x512, .f32⟩
  | .hbm, ⟨67, _⟩ => ⟨S1x16384x512, .f32⟩
  | .hbm, ⟨68, _⟩ => ⟨S1x16384x512, .f32⟩
  | .hbm, ⟨69, _⟩ => ⟨S1x16384x512, .f32⟩
  | .hbm, ⟨70, _⟩ => ⟨S_, .f32⟩
  | .hbm, ⟨71, _⟩ => ⟨S1x512, .f32⟩
  | .hbm, ⟨72, _⟩ => ⟨S1x1x512, .f32⟩
  | .hbm, ⟨73, _⟩ => ⟨S_, .f32⟩
  | .hbm, ⟨74, _⟩ => ⟨S512, .f32⟩
  | .hbm, ⟨75, _⟩ => ⟨S_, .f32⟩
  | .hbm, ⟨76, _⟩ => ⟨S1x16386x512, .f32⟩
  | .hbm, ⟨77, _⟩ => ⟨S1x16386x512, .f32⟩
  | .hbm, ⟨78, _⟩ => ⟨S1x512, .f32⟩
  | .hbm, ⟨79, _⟩ => ⟨S_, .f32⟩
  | .hbm, ⟨80, _⟩ => ⟨S3x512, .f32⟩
  | .hbm, ⟨81, _⟩ => ⟨S3x512, .f32⟩
  | .hbm, ⟨82, _⟩ => ⟨S1x2x512, .f32⟩
  | .hbm, ⟨83, _⟩ => ⟨S1x16384x512, .f32⟩
  | .hbm, ⟨84, _⟩ => ⟨S1x16384x512, .f32⟩
  | .hbm, ⟨85, _⟩ => ⟨S1x16384x512, .f32⟩
  | .hbm, ⟨86, _⟩ => ⟨S1x16384x1536, .f32⟩
  | .hbm, ⟨87, _⟩ => ⟨S16384x1536, .f32⟩
  | .hbm, ⟨88, _⟩ => ⟨S_, .f32⟩
  | .hbm, ⟨89, _⟩ => ⟨S5x512, .f32⟩
  | .hbm, ⟨90, _⟩ => ⟨S8x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_v47 : Ref sig .tc := ⟨.hbm, 57, rfl⟩
abbrev main_cst_6 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_8 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_cst_10 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_13 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== DFfnDown.lean ====
abbrev S16384x2816 : Shape := ⟨2, ![16384, 2816]⟩
abbrev S16384x1024 : Shape := ⟨2, ![16384, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .f32⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DFfnDownRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S16384x2816, .f32⟩
  | .hbm, ⟨3, _⟩ => ⟨S_, .f32⟩
  | .hbm, ⟨4, _⟩ => ⟨S2816x1024, .f32⟩
  | .hbm, ⟨5, _⟩ => ⟨S16384x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DInA.lean ====
abbrev S16384x1024 : Shape := ⟨2, ![16384, 1024]⟩
abbrev S16384x512 : Shape := ⟨2, ![16384, 512]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S1024x512, .f32⟩
  | .hbm, ⟨3, _⟩ => ⟨S1024x512, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== DInARefIdeal.lean ====
abbrev S16384x1024 : Shape := ⟨2, ![16384, 1024]⟩
abbrev S16384x512 : Shape := ⟨2, ![16384, 512]⟩
abbrev S_ : Shape := ⟨0, ![]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S_, .f32⟩
  | .hbm, ⟨3, _⟩ => ⟨S1024x512, .f32⟩
  | .hbm, ⟨4, _⟩ => ⟨S16384x512, .f32⟩
  | .hbm, ⟨5, _⟩ => ⟨S512x1024, .f32⟩
  | .hbm, ⟨6, _⟩ => ⟨S1024x512, .f32⟩
  | .hbm, ⟨7, _⟩ => ⟨S1024x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DInB.lean ====
abbrev S16384x1024 : Shape := ⟨2, ![16384, 1024]⟩
abbrev S16384x1536 : Shape := ⟨2, ![16384, 1536]⟩
abbrev S1024x1536 : Shape := ⟨2, ![1024, 1536]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1536, .f32⟩
  | .hbm, ⟨2, _⟩ => ⟨S1024x1536, .f32⟩
  | .hbm, ⟨3, _⟩ => ⟨S1024x1536, .bf16⟩
  | .local _ .vmem, ⟨0, _⟩ => ⟨S1024x1024, .f32⟩
  | .local _ .vmem, ⟨1, _⟩ => ⟨S1024x1024, .f32⟩
  | .local _ .vmem, ⟨2, _⟩ => ⟨S1024x1536, .f32⟩
  | .local _ .vmem, ⟨3, _⟩ => ⟨S1024x1536, .f32⟩
  | .local _ .vmem, ⟨4, _⟩ => ⟨S1024x1536, .f32⟩
  | .local _ .vmem, ⟨5, _⟩ => ⟨S1024x1536, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v12 : BitVec 1 := Scalar.cmpi .eq arg2 c15_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== DInBRefIdeal.lean ====
abbrev S16384x1024 : Shape := ⟨2, ![16384, 1024]⟩
abbrev S16384x1536 : Shape := ⟨2, ![16384, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1536, .f32⟩
  | .hbm, ⟨2, _⟩ => ⟨S_, .f32⟩
  | .hbm, ⟨3, _⟩ => ⟨S1024x1536, .f32⟩
  | .hbm, ⟨4, _⟩ => ⟨S16384x1536, .f32⟩
  | .hbm, ⟨5, _⟩ => ⟨S1536x1024, .f32⟩
  | .hbm, ⟨6, _⟩ => ⟨S1024x1536, .f32⟩
  | .hbm, ⟨7, _⟩ => ⟨S1024x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DOut.lean ====
abbrev S16384x512 : Shape := ⟨2, ![16384, 512]⟩
abbrev S16384x1024 : Shape := ⟨2, ![16384, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S16384x1024, .f32⟩
  | .hbm, ⟨2, _⟩ => ⟨S512x1024, .f32⟩
  | .hbm, ⟨3, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== DOutRefIdeal.lean ====
abbrev S16384x512 : Shape := ⟨2, ![16384, 512]⟩
abbrev S16384x1024 : Shape := ⟨2, ![16384, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x1024, .f32⟩
  | .hbm, ⟨2, _⟩ => ⟨S16384x512, .f32⟩
  | .hbm, ⟨3, _⟩ => ⟨S_, .f32⟩
  | .hbm, ⟨4, _⟩ => ⟨S512x1024, .f32⟩
  | .hbm, ⟨5, _⟩ => ⟨S16384x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DPleGate.lean ====
abbrev S16384x1024 : Shape := ⟨2, ![16384, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== DPleGateRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .f32⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DPleProj.lean ====
abbrev S16384x256 : Shape := ⟨2, ![16384, 256]⟩
abbrev S16384x1024 : Shape := ⟨2, ![16384, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S256x1024, .f32⟩
  | .hbm, ⟨3, _⟩ => ⟨S256x1024, .bf16⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .bf16⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== DPleProjRefIdeal.lean ====
abbrev S16384x256 : Shape := ⟨2, ![16384, 256]⟩
abbrev S16384x1024 : Shape := ⟨2, ![16384, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x1024, .bf16⟩
  | .hbm, ⟨2, _⟩ => ⟨S16384x1024, .f32⟩
  | .hbm, ⟨3, _⟩ => ⟨S_, .f32⟩
  | .hbm, ⟨4, _⟩ => ⟨S256x1024, .f32⟩
  | .hbm, ⟨5, _⟩ => ⟨S16384x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DGlu.lean ====
abbrev S16384x512 : Shape := ⟨2, ![16384, 512]⟩
abbrev S512x512 : Shape := ⟨2, ![512, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S512x512, .f32⟩
  | .hbm, ⟨3, _⟩ => ⟨S512x512, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 16], ![false, false, false]⟩

def k0_cond2 (i : grid0.Coords) : BitVec 1 :=
  let arg2 : BitVec 32 := BitVec.ofNat 32 (i 2).val
  let c15_i32 : BitVec 32 := 15#32
  let v10 : BitVec 1 := Scalar.cmpi .eq arg2 c15_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== DGluRefIdeal.lean ====
abbrev S16384x512 : Shape := ⟨2, ![16384, 512]⟩
abbrev S_ : Shape := ⟨0, ![]⟩
abbrev S512x512 : Shape := ⟨2, ![512, 512]⟩

abbrev nBuf : Space → Nat
  | .hbm => 10
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .f32⟩
  | .hbm, ⟨3, _⟩ => ⟨S16384x512, .f32⟩
  | .hbm, ⟨4, _⟩ => ⟨S_, .f32⟩
  | .hbm, ⟨5, _⟩ => ⟨S512x512, .f32⟩
  | .hbm, ⟨6, _⟩ => ⟨S16384x512, .f32⟩
  | .hbm, ⟨7, _⟩ => ⟨S512x512, .f32⟩
  | .hbm, ⟨8, _⟩ => ⟨S512x512, .f32⟩
  | .hbm, ⟨9, _⟩ => ⟨S512x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DFfnUp.lean ====
abbrev S16384x1024 : Shape := ⟨2, ![16384, 1024]⟩
abbrev S16384x5632 : Shape := ⟨2, ![16384, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x5632, .bf16⟩
  | .hbm, ⟨2, _⟩ => ⟨S1024x5632, .f32⟩
  | .hbm, ⟨3, _⟩ => ⟨S1024x5632, .bf16⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .bf16⟩
  | .local _ .vmem, ⟨7, _⟩ => ⟨S1024x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 16], ![false, false, false]⟩

def k0_cond2 (i : grid0.Coords) : BitVec 1 :=
  let arg2 : BitVec 32 := BitVec.ofNat 32 (i 2).val
  let c15_i32 : BitVec 32 := 15#32
  let v11 : BitVec 1 := Scalar.cmpi .eq arg2 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DFfnUpRefIdeal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x5632, .bf16⟩
  | .hbm, ⟨2, _⟩ => ⟨S16384x5632, .f32⟩
  | .hbm, ⟨3, _⟩ => ⟨S_, .f32⟩
  | .hbm, ⟨4, _⟩ => ⟨S1024x5632, .f32⟩
  | .hbm, ⟨5, _⟩ => ⟨S16384x5632, .f32⟩
  | .hbm, ⟨6, _⟩ => ⟨S5632x1024, .f32⟩
  | .hbm, ⟨7, _⟩ => ⟨S1024x5632, .f32⟩
  | .hbm, ⟨8, _⟩ => ⟨S1024x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProj.lean ====
abbrev S16384x1024 : Shape := ⟨2, ![16384, 1024]⟩
abbrev S1024x2048 : Shape := ⟨2, ![1024, 2048]⟩
abbrev S16384x2048 : Shape := ⟨2, ![16384, 2048]⟩
abbrev S512x1024 : Shape := ⟨2, ![512, 1024]⟩
abbrev S512x2048 : Shape := ⟨2, ![512, 2048]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S1024x2048, .bf16⟩
  | .hbm, ⟨3, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S512x2048, .f32⟩
  | .local _ .vmem, ⟨4, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S16384x1024 : Shape := ⟨2, ![16384, 1024]⟩
abbrev S1024x2048 : Shape := ⟨2, ![1024, 2048]⟩
abbrev S16384x2048 : Shape := ⟨2, ![16384, 2048]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2048, .f32⟩
  | .hbm, ⟨2, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutBwd.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024x1024, .bf16⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutBwdRefIdeal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S_, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InBwdEven.lean ====
abbrev S16384x512 : Shape := ⟨2, ![16384, 512]⟩
abbrev S16384x1536 : Shape := ⟨2, ![16384, 1536]⟩
abbrev S16384x1024 : Shape := ⟨2, ![16384, 1024]⟩
abbrev S1024x2048 : Shape := ⟨2, ![1024, 2048]⟩
abbrev S512x512 : Shape := ⟨2, ![512, 512]⟩
abbrev S512x1536 : Shape := ⟨2, ![512, 1536]⟩
abbrev S512x1024 : Shape := ⟨2, ![512, 1024]⟩
abbrev S1024x512 : Shape := ⟨2, ![1024, 512]⟩
abbrev S1024x1536 : Shape := ⟨2, ![1024, 1536]⟩

abbrev nBuf : Space → Nat
  | .hbm => 6
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S16384x1536, .f32⟩
  | .hbm, ⟨2, _⟩ => ⟨S16384x1024, .f32⟩
  | .hbm, ⟨3, _⟩ => ⟨S1024x2048, .f32⟩
  | .hbm, ⟨4, _⟩ => ⟨S1024x2048, .bf16⟩
  | .hbm, ⟨5, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x1536, .f32⟩
  | .local _ .vmem, ⟨3, _⟩ => ⟨S512x1536, .f32⟩
  | .local _ .vmem, ⟨4, _⟩ => ⟨S1024x2048, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InBwdEvenRefIdeal.lean ====
abbrev S16384x512 : Shape := ⟨2, ![16384, 512]⟩
abbrev S16384x1536 : Shape := ⟨2, ![16384, 1536]⟩
abbrev S16384x1024 : Shape := ⟨2, ![16384, 1024]⟩
abbrev S1024x2048 : Shape := ⟨2, ![1024, 2048]⟩
abbrev S_ : Shape := ⟨0, ![]⟩
abbrev S16384x2048 : Shape := ⟨2, ![16384, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x1536, .f32⟩
  | .hbm, ⟨2, _⟩ => ⟨S16384x1024, .f32⟩
  | .hbm, ⟨3, _⟩ => ⟨S1024x2048, .f32⟩
  | .hbm, ⟨4, _⟩ => ⟨S_, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x2048, .f32⟩
  | .hbm, ⟨10, _⟩ => ⟨S16384x2048, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== InBwdOdd.lean ====
abbrev S16384x512 : Shape := ⟨2, ![16384, 512]⟩
abbrev S16384x1024 : Shape := ⟨2, ![16384, 1024]⟩
abbrev S1024x2048 : Shape := ⟨2, ![1024, 2048]⟩
abbrev S512x512 : Shape := ⟨2, ![512, 512]⟩
abbrev S512x1024 : Shape := ⟨2, ![512, 1024]⟩
abbrev S1024x512 : Shape := ⟨2, ![1024, 512]⟩

abbrev nBuf : Space → Nat
  | .hbm => 8
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1024, .f32⟩
  | .hbm, ⟨5, _⟩ => ⟨S1024x2048, .f32⟩
  | .hbm, ⟨6, _⟩ => ⟨S1024x2048, .bf16⟩
  | .hbm, ⟨7, _⟩ => ⟨S16384x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1024x2048, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InBwdOddRefIdeal.lean ====
abbrev S16384x512 : Shape := ⟨2, ![16384, 512]⟩
abbrev S16384x1024 : Shape := ⟨2, ![16384, 1024]⟩
abbrev S1024x2048 : Shape := ⟨2, ![1024, 2048]⟩
abbrev S_ : Shape := ⟨0, ![]⟩
abbrev S16384x2048 : Shape := ⟨2, ![16384, 2048]⟩

abbrev nBuf : Space → Nat
  | .hbm => 18
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x1024, .f32⟩
  | .hbm, ⟨5, _⟩ => ⟨S1024x2048, .f32⟩
  | .hbm, ⟨6, _⟩ => ⟨S_, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S16384x2048, .f32⟩
  | .hbm, ⟨12, _⟩ => ⟨S16384x2048, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== OutLn.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutLnRefIdeal.lean ====
abbrev S16384x512 : Shape := ⟨2, ![16384, 512]⟩
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S16384x512, .f32⟩
  | .hbm, ⟨7, _⟩ => ⟨S16384x512, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== DownLn.lean ====
abbrev S16384x2816 : Shape := ⟨2, ![16384, 2816]⟩
abbrev S16384x1024 : Shape := ⟨2, ![16384, 1024]⟩
abbrev S2816x1024 : Shape := ⟨2, ![2816, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DownLnRefIdeal.lean ====
abbrev S16384x2816 : Shape := ⟨2, ![16384, 2816]⟩
abbrev S16384x1024 : Shape := ⟨2, ![16384, 1024]⟩
abbrev S2816x1024 : Shape := ⟨2, ![2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x2816, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Ple.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S1024 : Shape := ⟨1, ![1024]⟩
abbrev S1x1024 : Shape := ⟨2, ![1, 1024]⟩
abbrev S512x256 : Shape := ⟨2, ![512, 256]⟩
abbrev S512x1024 : Shape := ⟨2, ![512, 1024]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024x1024, .f32⟩
  | .hbm, ⟨3, _⟩ => ⟨S256x1024, .f32⟩
  | .hbm, ⟨4, _⟩ => ⟨S1024, .f32⟩
  | .hbm, ⟨5, _⟩ => ⟨S1024x1024, .bf16⟩
  | .hbm, ⟨6, _⟩ => ⟨S256x1024, .bf16⟩
  | .hbm, ⟨7, _⟩ => ⟨S1x1024, .f32⟩
  | .hbm, ⟨8, _⟩ => ⟨S16384x1024, .f32⟩
  | .hbm, ⟨9, _⟩ => ⟨S16384x1024, .bf16⟩
  | .hbm, ⟨10, _⟩ => ⟨S16384x1024, .bf16⟩
  | .local _ .vmem, ⟨0, _⟩ => ⟨S1024x1024, .bf16⟩
  | .local _ .vmem, ⟨1, _⟩ => ⟨S512x256, .f32⟩
  | .local _ .vmem, ⟨2, _⟩ => ⟨S512x256, .f32⟩
  | .local _ .vmem, ⟨3, _⟩ => ⟨S256x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PleRefIdeal.lean ====
abbrev S16384x1024 : Shape := ⟨2, ![16384, 1024]⟩
abbrev S16384x256 : Shape := ⟨2, ![16384, 256]⟩
abbrev S1024x1024 : Shape := ⟨2, ![1024, 1024]⟩
abbrev S256x1024 : Shape := ⟨2, ![256, 1024]⟩
abbrev S1024 : Shape := ⟨1, ![1024]⟩
abbrev S1x1024 : Shape := ⟨2, ![1, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S1024x1024, .f32⟩
  | .hbm, ⟨3, _⟩ => ⟨S256x1024, .f32⟩
  | .hbm, ⟨4, _⟩ => ⟨S1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | .hbm, ⟨21, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== FfnUp.lean ====
abbrev S16384x1024 : Shape := ⟨2, ![16384, 1024]⟩
abbrev S1024x5632 : Shape := ⟨2, ![1024, 5632]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S1024x5632, .bf16⟩
  | .hbm, ⟨3, _⟩ => ⟨S16384x2816, .bf16⟩
  | .hbm, ⟨4, _⟩ => ⟨S16384x2816, .bf16⟩
  | .hbm, ⟨5, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S16384x1024 : Shape := ⟨2, ![16384, 1024]⟩
abbrev S1024x5632 : Shape := ⟨2, ![1024, 5632]⟩
abbrev S16384x5632 : Shape := ⟨2, ![16384, 5632]⟩
abbrev S16384x2816 : Shape := ⟨2, ![16384, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S16384x5632, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .bf16⟩
  | .hbm, ⟨26, _⟩ => ⟨S16384x2816, .f32⟩
  | .hbm, ⟨27, _⟩ => ⟨S16384x2816, .bf16⟩
  | .hbm, ⟨28, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_cst : Ref sig .tc := ⟨.hbm, 18, rfl⟩
abbrev main_v4 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== AdamEvIn.lean ====
abbrev S2x1024x512 : Shape := ⟨3, ![2, 1024, 512]⟩
abbrev S2048x512 : Shape := ⟨2, ![2048, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamEvInRefIdeal.lean ====
abbrev S2x1024x512 : Shape := ⟨3, ![2, 1024, 512]⟩
abbrev S_ : Shape := ⟨0, ![]⟩
abbrev S2048x512 : Shape := ⟨2, ![2048, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S_, .f32⟩
  | .hbm, ⟨5, _⟩ => ⟨S2x1024x512, .f32⟩
  | .hbm, ⟨6, _⟩ => ⟨S2x1024x512, .f32⟩
  | .hbm, ⟨7, _⟩ => ⟨S_, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S_, .f32⟩
  | .hbm, ⟨23, _⟩ => ⟨S2x1024x512, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024x512, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | .hbm, ⟨37, _⟩ => ⟨S2048x512, .f32⟩
  | .hbm, ⟨38, _⟩ => ⟨S2048x512, .f32⟩
  | .hbm, ⟨39, _⟩ => ⟨S2048x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamEvGlu.lean ====
abbrev S2x128x512 : Shape := ⟨3, ![2, 128, 512]⟩
abbrev S256x512 : Shape := ⟨2, ![256, 512]⟩

abbrev nBuf : Space → Nat
  | .hbm => 11
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .hbm, ⟨10, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEvGluRefIdeal.lean ====
abbrev S2x128x512 : Shape := ⟨3, ![2, 128, 512]⟩
abbrev S_ : Shape := ⟨0, ![]⟩
abbrev S256x512 : Shape := ⟨2, ![256, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S2x128x512, .f32⟩
  | .hbm, ⟨2, _⟩ => ⟨S2x128x512, .f32⟩
  | .hbm, ⟨3, _⟩ => ⟨S2x128x512, .f32⟩
  | .hbm, ⟨4, _⟩ => ⟨S_, .f32⟩
  | .hbm, ⟨5, _⟩ => ⟨S2x128x512, .f32⟩
  | .hbm, ⟨6, _⟩ => ⟨S2x128x512, .f32⟩
  | .hbm, ⟨7, _⟩ => ⟨S_, .f32⟩
  | .hbm, ⟨8, _⟩ => ⟨S2x128x512, .f32⟩
  | .hbm, ⟨9, _⟩ => ⟨S2x128x512, .f32⟩
  | .hbm, ⟨10, _⟩ => ⟨S2x128x512, .f32⟩
  | .hbm, ⟨11, _⟩ => ⟨S_, .f32⟩
  | .hbm, ⟨12, _⟩ => ⟨S2x128x512, .f32⟩
  | .hbm, ⟨13, _⟩ => ⟨S2x128x512, .f32⟩
  | .hbm, ⟨14, _⟩ => ⟨S2x128x512, .f32⟩
  | .hbm, ⟨15, _⟩ => ⟨S_, .f32⟩
  | .hbm, ⟨16, _⟩ => ⟨S2x128x512, .f32⟩
  | .hbm, ⟨17, _⟩ => ⟨S2x128x512, .f32⟩
  | .hbm, ⟨18, _⟩ => ⟨S2x128x512, .f32⟩
  | .hbm, ⟨19, _⟩ => ⟨S_, .f32⟩
  | .hbm, ⟨20, _⟩ => ⟨S2x128x512, .f32⟩
  | .hbm, ⟨21, _⟩ => ⟨S2x128x512, .f32⟩
  | .hbm, ⟨22, _⟩ => ⟨S_, .f32⟩
  | .hbm, ⟨23, _⟩ => ⟨S2x128x512, .f32⟩
  | .hbm, ⟨24, _⟩ => ⟨S2x128x512, .f32⟩
  | .hbm, ⟨25, _⟩ => ⟨S2x128x512, .f32⟩
  | .hbm, ⟨26, _⟩ => ⟨S_, .f32⟩
  | .hbm, ⟨27, _⟩ => ⟨S2x128x512, .f32⟩
  | .hbm, ⟨28, _⟩ => ⟨S2x128x512, .f32⟩
  | .hbm, ⟨29, _⟩ => ⟨S2x128x512, .f32⟩
  | .hbm, ⟨30, _⟩ => ⟨S_, .f32⟩
  | .hbm, ⟨31, _⟩ => ⟨S2x128x512, .f32⟩
  | .hbm, ⟨32, _⟩ => ⟨S2x128x512, .f32⟩
  | .hbm, ⟨33, _⟩ => ⟨S2x128x512, .f32⟩
  | .hbm, ⟨34, _⟩ => ⟨S_, .f32⟩
  | .hbm, ⟨35, _⟩ => ⟨S2x128x512, .f32⟩
  | .hbm, ⟨36, _⟩ => ⟨S2x128x512, .f32⟩
  | .hbm, ⟨37, _⟩ => ⟨S256x512, .f32⟩
  | .hbm, ⟨38, _⟩ => ⟨S256x512, .f32⟩
  | .hbm, ⟨39, _⟩ => ⟨S256x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamEvOut.lean ====
abbrev S2x256x1024 : Shape := ⟨3, ![2, 256, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamEvOutRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOdIn.lean ====
abbrev S2x1024x512 : Shape := ⟨3, ![2, 1024, 512]⟩
abbrev S2048x512 : Shape := ⟨2, ![2048, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOdInRefIdeal.lean ====
abbrev S2x1024x512 : Shape := ⟨3, ![2, 1024, 512]⟩
abbrev S_ : Shape := ⟨0, ![]⟩
abbrev S2048x512 : Shape := ⟨2, ![2048, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S_, .f32⟩
  | .hbm, ⟨5, _⟩ => ⟨S2x1024x512, .f32⟩
  | .hbm, ⟨6, _⟩ => ⟨S2x1024x512, .f32⟩
  | .hbm, ⟨7, _⟩ => ⟨S_, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S_, .f32⟩
  | .hbm, ⟨23, _⟩ => ⟨S2x1024x512, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024x512, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | .hbm, ⟨37, _⟩ => ⟨S2048x512, .f32⟩
  | .hbm, ⟨38, _⟩ => ⟨S2048x512, .f32⟩
  | .hbm, ⟨39, _⟩ => ⟨S2048x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOdOut.lean ====
abbrev S2x256x1024 : Shape := ⟨3, ![2, 256, 1024]⟩
abbrev S512x1024 : Shape := ⟨2, ![512, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOdOutRefIdeal.lean ====
abbrev S2x256x1024 : Shape := ⟨3, ![2, 256, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFfnUp.lean ====
abbrev S4x1024x1408 : Shape := ⟨3, ![4, 1024, 1408]⟩
abbrev S4096x1408 : Shape := ⟨2, ![4096, 1408]⟩
abbrev S512x1408 : Shape := ⟨2, ![512, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .f32⟩
  | .local _ .vmem, ⟨11, _⟩ => ⟨S512x1408, .f32⟩
  | .local _ .vmem, ⟨12, _⟩ => ⟨S512x1408, .f32⟩
  | .local _ .vmem, ⟨13, _⟩ => ⟨S512x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnUpRefIdeal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamFfnDown.lean ====
abbrev S4x704x1024 : Shape := ⟨3, ![4, 704, 1024]⟩
abbrev S2816x1024 : Shape := ⟨2, ![2816, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamFfnDownRefIdeal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPleProj.lean ====
abbrev S4x256x256 : Shape := ⟨3, ![4, 256, 256]⟩
abbrev S1024x256 : Shape := ⟨2, ![1024, 256]⟩
abbrev S512x256 : Shape := ⟨2, ![512, 256]⟩

abbrev nBuf : Space → Nat
  | .hbm => 11
  | .vmem => 14
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPleProjRefIdeal.lean ====
abbrev S4x256x256 : Shape := ⟨3, ![4, 256, 256]⟩
abbrev S_ : Shape := ⟨0, ![]⟩
abbrev S1024x256 : Shape := ⟨2, ![1024, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S4x256x256, .f32⟩
  | .hbm, ⟨2, _⟩ => ⟨S4x256x256, .f32⟩
  | .hbm, ⟨3, _⟩ => ⟨S4x256x256, .f32⟩
  | .hbm, ⟨4, _⟩ => ⟨S_, .f32⟩
  | .hbm, ⟨5, _⟩ => ⟨S4x256x256, .f32⟩
  | .hbm, ⟨6, _⟩ => ⟨S4x256x256, .f32⟩
  | .hbm, ⟨7, _⟩ => ⟨S_, .f32⟩
  | .hbm, ⟨8, _⟩ => ⟨S4x256x256, .f32⟩
  | .hbm, ⟨9, _⟩ => ⟨S4x256x256, .f32⟩
  | .hbm, ⟨10, _⟩ => ⟨S4x256x256, .f32⟩
  | .hbm, ⟨11, _⟩ => ⟨S_, .f32⟩
  | .hbm, ⟨12, _⟩ => ⟨S4x256x256, .f32⟩
  | .hbm, ⟨13, _⟩ => ⟨S4x256x256, .f32⟩
  | .hbm, ⟨14, _⟩ => ⟨S4x256x256, .f32⟩
  | .hbm, ⟨15, _⟩ => ⟨S_, .f32⟩
  | .hbm, ⟨16, _⟩ => ⟨S4x256x256, .f32⟩
  | .hbm, ⟨17, _⟩ => ⟨S4x256x256, .f32⟩
  | .hbm, ⟨18, _⟩ => ⟨S4x256x256, .f32⟩
  | .hbm, ⟨19, _⟩ => ⟨S_, .f32⟩
  | .hbm, ⟨20, _⟩ => ⟨S4x256x256, .f32⟩
  | .hbm, ⟨21, _⟩ => ⟨S4x256x256, .f32⟩
  | .hbm, ⟨22, _⟩ => ⟨S_, .f32⟩
  | .hbm, ⟨23, _⟩ => ⟨S4x256x256, .f32⟩
  | .hbm, ⟨24, _⟩ => ⟨S4x256x256, .f32⟩
  | .hbm, ⟨25, _⟩ => ⟨S4x256x256, .f32⟩
  | .hbm, ⟨26, _⟩ => ⟨S_, .f32⟩
  | .hbm, ⟨27, _⟩ => ⟨S4x256x256, .f32⟩
  | .hbm, ⟨28, _⟩ => ⟨S4x256x256, .f32⟩
  | .hbm, ⟨29, _⟩ => ⟨S4x256x256, .f32⟩
  | .hbm, ⟨30, _⟩ => ⟨S_, .f32⟩
  | .hbm, ⟨31, _⟩ => ⟨S4x256x256, .f32⟩
  | .hbm, ⟨32, _⟩ => ⟨S4x256x256, .f32⟩
  | .hbm, ⟨33, _⟩ => ⟨S4x256x256, .f32⟩
  | .hbm, ⟨34, _⟩ => ⟨S_, .f32⟩
  | .hbm, ⟨35, _⟩ => ⟨S4x256x256, .f32⟩
  | .hbm, ⟨36, _⟩ => ⟨S4x256x256, .f32⟩
  | .hbm, ⟨37, _⟩ => ⟨S1024x256, .f32⟩
  | .hbm, ⟨38, _⟩ => ⟨S1024x256, .f32⟩
  | .hbm, ⟨39, _⟩ => ⟨S1024x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamPleGate.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamPleGateRefIdeal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== FfnDownBwd.lean ====
abbrev S16384x1024 : Shape := ⟨2, ![16384, 1024]⟩
abbrev S2816x1024 : Shape := ⟨2, ![2816, 1024]⟩
abbrev S16384x5632 : Shape := ⟨2, ![16384, 5632]⟩
abbrev S16384x2816 : Shape := ⟨2, ![16384, 2816]⟩
abbrev S_ : Shape := ⟨0, ![]⟩
abbrev S512x1024 : Shape := ⟨2, ![512, 1024]⟩
abbrev S512x2816 : Shape := ⟨2, ![512, 2816]⟩
abbrev S512x5632 : Shape := ⟨2, ![512, 5632]⟩
abbrev S256x1024 : Shape := ⟨2, ![256, 1024]⟩
abbrev S512x256 : Shape := ⟨2, ![512, 256]⟩

abbrev nBuf : Space → Nat
  | .hbm => 29
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S16384x5632, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S_, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S2816x1024, .bf16⟩
  | .hbm, ⟨25, _⟩ => ⟨S16384x2816, .f32⟩
  | .hbm, ⟨26, _⟩ => ⟨S16384x2816, .bf16⟩
  | .hbm, ⟨27, _⟩ => ⟨S16384x2816, .bf16⟩
  | .hbm, ⟨28, _⟩ => ⟨S16384x5632, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x5632, .bf16⟩
  | .local _ .vmem, ⟨8, _⟩ => ⟨S512x5632, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_cst : Ref sig .tc := ⟨.hbm, 18, rfl⟩
abbrev main_v3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnDownBwdRefIdeal.lean ====
abbrev S16384x1024 : Shape := ⟨2, ![16384, 1024]⟩
abbrev S2816x1024 : Shape := ⟨2, ![2816, 1024]⟩
abbrev S16384x5632 : Shape := ⟨2, ![16384, 5632]⟩
abbrev S16384x2816 : Shape := ⟨2, ![16384, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2816x1024, .f32⟩
  | .hbm, ⟨2, _⟩ => ⟨S16384x5632, .f32⟩
  | .hbm, ⟨3, _⟩ => ⟨S16384x2816, .f32⟩
  | .hbm, ⟨4, _⟩ => ⟨S16384x2816, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S_, .f32⟩
  | .hbm, ⟨11, _⟩ => ⟨S16384x2816, .f32⟩
  | .hbm, ⟨12, _⟩ => ⟨S16384x2816, .f32⟩
  | .hbm, ⟨13, _⟩ => ⟨S_, .f32⟩
  | .hbm, ⟨14, _⟩ => ⟨S16384x2816, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x1024, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x5632, .f32⟩
  | .hbm, ⟨28, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== UpLnBwd.lean ====
abbrev S16384x5632 : Shape := ⟨2, ![16384, 5632]⟩
abbrev S1024x5632 : Shape := ⟨2, ![1024, 5632]⟩
abbrev S16384x1024 : Shape := ⟨2, ![16384, 1024]⟩
abbrev S1024 : Shape := ⟨1, ![1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S1024x5632, .bf16⟩
  | .hbm, ⟨6, _⟩ => ⟨S1x1024, .f32⟩
  | .hbm, ⟨7, _⟩ => ⟨S16384x1024, .f32⟩
  | .hbm, ⟨8, _⟩ => ⟨S1x1024, .f32⟩
  | .hbm, ⟨9, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== UpLnBwdRefIdeal.lean ====
abbrev S16384x5632 : Shape := ⟨2, ![16384, 5632]⟩
abbrev S1024x5632 : Shape := ⟨2, ![1024, 5632]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S1024x5632, .f32⟩
  | .hbm, ⟨2, _⟩ => ⟨S16384x1024, .f32⟩
  | .hbm, ⟨3, _⟩ => ⟨S16384x1024, .f32⟩
  | .hbm, ⟨4, _⟩ => ⟨S1024, .f32⟩
  | .hbm, ⟨5, _⟩ => ⟨S_, .f32⟩
  | .hbm, ⟨6, _⟩ => ⟨S1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x5632, .f32⟩
  | .hbm, ⟨47, _⟩ => ⟨S16384x5632, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S1024, .f32⟩
  | .hbm, ⟨58, _⟩ => ⟨S16384x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S1024, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S16384x1024, .f32⟩
  | .hbm, ⟨71, _⟩ => ⟨S16384x1024, .f32⟩
  | .hbm, ⟨72, _⟩ => ⟨S16384x1, .f32⟩
  | .hbm, ⟨73, _⟩ => ⟨S16384x1024, .f32⟩
  | .hbm, ⟨74, _⟩ => ⟨S_, .f32⟩
  | .hbm, ⟨75, _⟩ => ⟨S16384, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S_, .f32⟩
  | .hbm, ⟨81, _⟩ => ⟨S16384, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S_, .f32⟩
  | .hbm, ⟨86, _⟩ => ⟨S16384, .f32⟩
  | .hbm, ⟨87, _⟩ => ⟨S16384x1, .f32⟩
  | .hbm, ⟨88, _⟩ => ⟨S16384x1024, .f32⟩
  | .hbm, ⟨89, _⟩ => ⟨S16384x1, .f32⟩
  | .hbm, ⟨90, _⟩ => ⟨S_, .f32⟩
  | .hbm, ⟨91, _⟩ => ⟨S16384x1, .f32⟩
  | .hbm, ⟨92, _⟩ => ⟨S16384x1, .f32⟩
  | .hbm, ⟨93, _⟩ => ⟨S_, .f32⟩
  | .hbm, ⟨94, _⟩ => ⟨S16384, .f32⟩
  | .hbm, ⟨95, _⟩ => ⟨S16384x1024, .f32⟩
  | .hbm, ⟨96, _⟩ => ⟨S16384x1024, .f32⟩
  | .hbm, ⟨97, _⟩ => ⟨S1x1024, .f32⟩
  | .hbm, ⟨98, _⟩ => ⟨S1x1024, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_12 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_17 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_cst_19 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== PleLnBwd.lean ====
abbrev S16384x1024 : Shape := ⟨2, ![16384, 1024]⟩
abbrev S16384x256 : Shape := ⟨2, ![16384, 256]⟩
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 60
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S256x1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .bf16⟩
  | .hbm, ⟨50, _⟩ => ⟨S16384x1024, .f32⟩
  | .hbm, ⟨51, _⟩ => ⟨S16384x1024, .bf16⟩
  | .hbm, ⟨52, _⟩ => ⟨S1024x1024, .bf16⟩
  | .hbm, ⟨53, _⟩ => ⟨S1x1024, .f32⟩
  | .hbm, ⟨54, _⟩ => ⟨S16384x1024, .bf16⟩
  | .hbm, ⟨55, _⟩ => ⟨S16384x1024, .bf16⟩
  | .hbm, ⟨56, _⟩ => ⟨S16384x1024, .f32⟩
  | .hbm, ⟨57, _⟩ => ⟨S1x1024, .f32⟩
  | .hbm, ⟨58, _⟩ => ⟨S1x1024, .f32⟩
  | .hbm, ⟨59, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39_0 : Ref sig .tc := ⟨.hbm, 54, rfl⟩
abbrev main_v39_1 : Ref sig .tc := ⟨.hbm, 55, rfl⟩
abbrev main_v39_2 : Ref sig .tc := ⟨.hbm, 56, rfl⟩
abbrev main_v39_3 : Ref sig .tc := ⟨.hbm, 57, rfl⟩
abbrev main_v39_4 : Ref sig .tc := ⟨.hbm, 58, rfl⟩
abbrev main_v39_5 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PleLnBwdRefIdeal.lean ====
abbrev S16384x1024 : Shape := ⟨2, ![16384, 1024]⟩
abbrev S16384x256 : Shape := ⟨2, ![16384, 256]⟩
abbrev S256x1024 : Shape := ⟨2, ![256, 1024]⟩
abbrev S1024 : Shape := ⟨1, ![1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 124
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S256x1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S_, .f32⟩
  | .hbm, ⟨72, _⟩ => ⟨S1024, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S_, .f32⟩
  | .hbm, ⟨79, _⟩ => ⟨S1024, .f32⟩
  | .hbm, ⟨80, _⟩ => ⟨S16384x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S16384x1024, .f32⟩
  | .hbm, ⟨85, _⟩ => ⟨S16384x1024, .f32⟩
  | .hbm, ⟨86, _⟩ => ⟨S_, .f32⟩
  | .hbm, ⟨87, _⟩ => ⟨S1024, .f32⟩
  | .hbm, ⟨88, _⟩ => ⟨S16384x1024, .f32⟩
  | .hbm, ⟨89, _⟩ => ⟨S_, .f32⟩
  | .hbm, ⟨90, _⟩ => ⟨S16384, .f32⟩
  | .hbm, ⟨91, _⟩ => ⟨S16384x1, .f32⟩
  | .hbm, ⟨92, _⟩ => ⟨S16384x1024, .f32⟩
  | .hbm, ⟨93, _⟩ => ⟨S16384x1024, .f32⟩
  | .hbm, ⟨94, _⟩ => ⟨S16384x1, .f32⟩
  | .hbm, ⟨95, _⟩ => ⟨S16384x1024, .f32⟩
  | .hbm, ⟨96, _⟩ => ⟨S_, .f32⟩
  | .hbm, ⟨97, _⟩ => ⟨S16384, .f32⟩
  | .hbm, ⟨98, _⟩ => ⟨S16384x1, .f32⟩
  | .hbm, ⟨99, _⟩ => ⟨S_, .f32⟩
  | .hbm, ⟨100, _⟩ => ⟨S16384x1, .f32⟩
  | .hbm, ⟨101, _⟩ => ⟨S16384x1, .f32⟩
  | .hbm, ⟨102, _⟩ => ⟨S_, .f32⟩
  | .hbm, ⟨103, _⟩ => ⟨S16384, .f32⟩
  | .hbm, ⟨104, _⟩ => ⟨S16384x1024, .f32⟩
  | .hbm, ⟨105, _⟩ => ⟨S16384x1024, .f32⟩
  | .hbm, ⟨106, _⟩ => ⟨S16384x1024, .f32⟩
  | .hbm, ⟨107, _⟩ => ⟨S_, .f32⟩
  | .hbm, ⟨108, _⟩ => ⟨S16384, .f32⟩
  | .hbm, ⟨109, _⟩ => ⟨S16384x1, .f32⟩
  | .hbm, ⟨110, _⟩ => ⟨S16384x1024, .f32⟩
  | .hbm, ⟨111, _⟩ => ⟨S16384x1, .f32⟩
  | .hbm, ⟨112, _⟩ => ⟨S_, .f32⟩
  | .hbm, ⟨113, _⟩ => ⟨S16384x1, .f32⟩
  | .hbm, ⟨114, _⟩ => ⟨S16384x1, .f32⟩
  | .hbm, ⟨115, _⟩ => ⟨S_, .f32⟩
  | .hbm, ⟨116, _⟩ => ⟨S16384, .f32⟩
  | .hbm, ⟨117, _⟩ => ⟨S16384x1024, .f32⟩
  | .hbm, ⟨118, _⟩ => ⟨S16384x1024, .f32⟩
  | .hbm, ⟨119, _⟩ => ⟨S16384x1024, .bf16⟩
  | .hbm, ⟨120, _⟩ => ⟨S16384x1024, .bf16⟩
  | .hbm, ⟨121, _⟩ => ⟨S1x1024, .f32⟩
  | .hbm, ⟨122, _⟩ => ⟨S1x1024, .f32⟩
  | .hbm, ⟨123, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_v56 : Ref sig .tc := ⟨.hbm, 77, rfl⟩
abbrev main_cst_12 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_14 : Ref sig .tc := ⟨.hbm, 86, rfl⟩
abbrev main_v63 : Ref sig .tc := ⟨.hbm, 87, rfl⟩
abbrev main_v64 : Ref sig .tc := ⟨.hbm, 88, rfl⟩
abbrev main_cst_15 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_cst_17 : Ref sig .tc := ⟨.hbm, 99, rfl⟩
abbrev main_v73 : Ref sig .tc := ⟨.hbm, 100, rfl⟩
abbrev main_v74 : Ref sig .tc := ⟨.hbm, 101, rfl⟩
abbrev main_cst_18 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_19 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_20 : Ref sig .tc := ⟨.hbm, 112, rfl⟩
abbrev main_v83 : Ref sig .tc := ⟨.hbm, 113, rfl⟩
abbrev main_v84 : Ref sig .tc := ⟨.hbm, 114, rfl⟩
abbrev main_cst_21 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩

abbrev nD : Nat := 1
abbrev τ : Topo := Topo.v7x

variable {F : FTy → Type} [FloatOps F]
-- ==== DS5B.lean ====
abbrev S16384x2048 : Shape := ⟨2, ![16384, 2048]⟩
abbrev S16384x4096 : Shape := ⟨2, ![16384, 4096]⟩
abbrev S4x128x1024 : Shape := ⟨3, ![4, 128, 1024]⟩
abbrev S1024x128 : Shape := ⟨2, ![1024, 128]⟩
abbrev S1024x1024 : Shape := ⟨2, ![1024, 1024]⟩
abbrev S1x128x1024 : Shape := ⟨3, ![1, 128, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16384x4096, .bf16⟩
  | .hbm, ⟨2, _⟩ => ⟨S4x128x1024, .f32⟩
  | .local _ .vmem, ⟨0, _⟩ => ⟨S1024x128, .f32⟩
  | .local _ .vmem, ⟨1, _⟩ => ⟨S1024x128, .f32⟩
  | .local _ .vmem, ⟨2, _⟩ => ⟨S1024x1024, .bf16⟩
  | .local _ .vmem, ⟨3, _⟩ => ⟨S1024x1024, .bf16⟩
  | .local _ .vmem, ⟨4, _⟩ => ⟨S1x128x1024, .f32⟩
  | .local _ .vmem, ⟨5, _⟩ => ⟨S1x128x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DS5BRefIdeal.lean ====
abbrev S16384x2048 : Shape := ⟨2, ![16384, 2048]⟩
abbrev S16384x4096 : Shape := ⟨2, ![16384, 4096]⟩
abbrev S16384x512 : Shape := ⟨2, ![16384, 512]⟩
abbrev S16384x128 : Shape := ⟨2, ![16384, 128]⟩
abbrev S16384x1024 : Shape := ⟨2, ![16384, 1024]⟩
abbrev S_ : Shape := ⟨0, ![]⟩
abbrev S128x1024 : Shape := ⟨2, ![128, 1024]⟩
abbrev S1024x128 : Shape := ⟨2, ![1024, 128]⟩
abbrev S1x128x1024 : Shape := ⟨3, ![1, 128, 1024]⟩
abbrev S4x128x1024 : Shape := ⟨3, ![4, 128, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x4096, .bf16⟩
  | .hbm, ⟨2, _⟩ => ⟨S16384x512, .f32⟩
  | .hbm, ⟨3, _⟩ => ⟨S16384x128, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x4096, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S128x1024, .f32⟩
  | .hbm, ⟨14, _⟩ => ⟨S16384x1024, .f32⟩
  | .hbm, ⟨15, _⟩ => ⟨S1024x128, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S16384x1024, .f32⟩
  | .hbm, ⟨20, _⟩ => ⟨S1024x128, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S16384x1024, .f32⟩
  | .hbm, ⟨25, _⟩ => ⟨S1024x128, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S16384x1024, .f32⟩
  | .hbm, ⟨30, _⟩ => ⟨S1024x128, .f32⟩
  | .hbm, ⟨31, _⟩ => ⟨S128x1024, .f32⟩
  | .hbm, ⟨32, _⟩ => ⟨S1x128x1024, .f32⟩
  | .hbm, ⟨33, _⟩ => ⟨S1x128x1024, .f32⟩
  | .hbm, ⟨34, _⟩ => ⟨S1x128x1024, .f32⟩
  | .hbm, ⟨35, _⟩ => ⟨S1x128x1024, .f32⟩
  | .hbm, ⟨36, _⟩ => ⟨S4x128x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== DS5C.lean ====
abbrev S16384x4096 : Shape := ⟨2, ![16384, 4096]⟩
abbrev S16384x512 : Shape := ⟨2, ![16384, 512]⟩
abbrev S4x1024x128 : Shape := ⟨3, ![4, 1024, 128]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S16384x512, .bf16⟩
  | .hbm, ⟨2, _⟩ => ⟨S4x1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1x1024x128, .f32⟩
  | .local _ .vmem, ⟨5, _⟩ => ⟨S1x1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DS5CRefIdeal.lean ====
abbrev S16384x4096 : Shape := ⟨2, ![16384, 4096]⟩
abbrev S16384x512 : Shape := ⟨2, ![16384, 512]⟩
abbrev S16384x1024 : Shape := ⟨2, ![16384, 1024]⟩
abbrev S16384x128 : Shape := ⟨2, ![16384, 128]⟩
abbrev S_ : Shape := ⟨0, ![]⟩
abbrev S1024x128 : Shape := ⟨2, ![1024, 128]⟩
abbrev S128x1024 : Shape := ⟨2, ![128, 1024]⟩
abbrev S1x1024x128 : Shape := ⟨3, ![1, 1024, 128]⟩
abbrev S4x1024x128 : Shape := ⟨3, ![4, 1024, 128]⟩

abbrev nBuf : Space → Nat
  | .hbm => 37
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x512, .bf16⟩
  | .hbm, ⟨2, _⟩ => ⟨S16384x4096, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x512, .f32⟩
  | .hbm, ⟨8, _⟩ => ⟨S16384x128, .f32⟩
  | .hbm, ⟨9, _⟩ => ⟨S16384x128, .f32⟩
  | .hbm, ⟨10, _⟩ => ⟨S16384x128, .f32⟩
  | .hbm, ⟨11, _⟩ => ⟨S16384x128, .f32⟩
  | .hbm, ⟨12, _⟩ => ⟨S_, .f32⟩
  | .hbm, ⟨13, _⟩ => ⟨S1024x128, .f32⟩
  | .hbm, ⟨14, _⟩ => ⟨S16384x128, .f32⟩
  | .hbm, ⟨15, _⟩ => ⟨S128x1024, .f32⟩
  | .hbm, ⟨16, _⟩ => ⟨S1024x128, .f32⟩
  | .hbm, ⟨17, _⟩ => ⟨S_, .f32⟩
  | .hbm, ⟨18, _⟩ => ⟨S1024x128, .f32⟩
  | .hbm, ⟨19, _⟩ => ⟨S16384x128, .f32⟩
  | .hbm, ⟨20, _⟩ => ⟨S128x1024, .f32⟩
  | .hbm, ⟨21, _⟩ => ⟨S1024x128, .f32⟩
  | .hbm, ⟨22, _⟩ => ⟨S_, .f32⟩
  | .hbm, ⟨23, _⟩ => ⟨S1024x128, .f32⟩
  | .hbm, ⟨24, _⟩ => ⟨S16384x128, .f32⟩
  | .hbm, ⟨25, _⟩ => ⟨S128x1024, .f32⟩
  | .hbm, ⟨26, _⟩ => ⟨S1024x128, .f32⟩
  | .hbm, ⟨27, _⟩ => ⟨S_, .f32⟩
  | .hbm, ⟨28, _⟩ => ⟨S1024x128, .f32⟩
  | .hbm, ⟨29, _⟩ => ⟨S16384x128, .f32⟩
  | .hbm, ⟨30, _⟩ => ⟨S128x1024, .f32⟩
  | .hbm, ⟨31, _⟩ => ⟨S1024x128, .f32⟩
  | .hbm, ⟨32, _⟩ => ⟨S1x1024x128, .f32⟩
  | .hbm, ⟨33, _⟩ => ⟨S1x1024x128, .f32⟩
  | .hbm, ⟨34, _⟩ => ⟨S1x1024x128, .f32⟩
  | .hbm, ⟨35, _⟩ => ⟨S1x1024x128, .f32⟩
  | .hbm, ⟨36, _⟩ => ⟨S4x1024x128, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_2 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]
-- ==== AdamSmall.lean ====
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S2x512 : Shape := ⟨2, ![2, 512]⟩
abbrev S2x8x257 : Shape := ⟨3, ![2, 8, 257]⟩
abbrev S2x4x128x128 : Shape := ⟨4, ![2, 4, 128, 128]⟩
abbrev S4x1024 : Shape := ⟨2, ![4, 1024]⟩
abbrev S2x3x128 : Shape := ⟨3, ![2, 3, 128]⟩
abbrev S2x128 : Shape := ⟨2, ![2, 128]⟩
abbrev S4096 : Shape := ⟨1, ![4096]⟩
abbrev S64 : Shape := ⟨1, ![64]⟩
abbrev S65536 : Shape := ⟨1, ![65536]⟩
abbrev S1024 : Shape := ⟨1, ![1024]⟩
abbrev S4112 : Shape := ⟨1, ![4112]⟩
abbrev S131072 : Shape := ⟨1, ![131072]⟩
abbrev S768 : Shape := ⟨1, ![768]⟩
abbrev S256 : Shape := ⟨1, ![256]⟩
abbrev S428112 : Shape := ⟨1, ![428112]⟩
abbrev S429136 : Shape := ⟨1, ![429136]⟩
abbrev S_ : Shape := ⟨0, ![]⟩
abbrev S430080 : Shape := ⟨1, ![430080]⟩
abbrev S3360x128 : Shape := ⟨2, ![3360, 128]⟩
abbrev S32x128 : Shape := ⟨2, ![32, 128]⟩

abbrev nBuf : Space → Nat
  | .hbm => 175
  | .vmem => 14
  | .smem => 0
  | _ => 0

abbrev hbmTy0_0 (i : Nat) : BufTy := match i % 128 with
  | 0 => ⟨S2x32x64, .f32⟩
  | 1 => ⟨S2x32x64, .f32⟩
  | 2 => ⟨S2x32, .f32⟩
  | 3 => ⟨S2x32x64x16, .f32⟩
  | 4 => ⟨S2x32x64x16, .f32⟩
  | 5 => ⟨S2x32x16x64, .f32⟩
  | 6 => ⟨S2x32x16x64, .f32⟩
  | 7 => ⟨S2x512, .f32⟩
  | 8 => ⟨S2x512, .f32⟩
  | 9 => ⟨S2x8x257, .f32⟩
  | 10 => ⟨S2x4x128x128, .f32⟩
  | 11 => ⟨S4x1024, .f32⟩
  | 12 => ⟨S4x1024, .f32⟩
  | 13 => ⟨S4x1024, .f32⟩
  | 14 => ⟨S4x1024, .f32⟩
  | 15 => ⟨S4x1024, .f32⟩
  | 16 => ⟨S2x3x128, .f32⟩
  | 17 => ⟨S2x128, .f32⟩
  | 18 => ⟨S2x32x64, .f32⟩
  | 19 => ⟨S2x32x64, .f32⟩
  | 20 => ⟨S2x32, .f32⟩
  | 21 => ⟨S2x32x64x16, .f32⟩
  | 22 => ⟨S2x32x64x16, .f32⟩
  | 23 => ⟨S2x32x16x64, .f32⟩
  | 24 => ⟨S2x32x16x64, .f32⟩
  | 25 => ⟨S2x512, .f32⟩
  | 26 => ⟨S2x512, .f32⟩
  | 27 => ⟨S2x8x257, .f32⟩
  | 28 => ⟨S2x4x128x128, .f32⟩
  | 29 => ⟨S4x1024, .f32⟩
  | 30 => ⟨S4x1024, .f32⟩
  | 31 => ⟨S4x1024, .f32⟩
  | 32 => ⟨S4x1024, .f32⟩
  | 33 => ⟨S4x1024, .f32⟩
  | 34 => ⟨S2x3x128, .f32⟩
  | 35 => ⟨S2x128, .f32⟩
  | 36 => ⟨S2x32x64, .f32⟩
  | 37 => ⟨S2x32x64, .f32⟩
  | 38 => ⟨S2x32, .f32⟩
  | 39 => ⟨S2x32x64x16, .f32⟩
  | 40 => ⟨S2x32x64x16, .f32⟩
  | 41 => ⟨S2x32x16x64, .f32⟩
  | 42 => ⟨S2x32x16x64, .f32⟩
  | 43 => ⟨S2x512, .f32⟩
  | 44 => ⟨S2x512, .f32⟩
  | 45 => ⟨S2x8x257, .f32⟩
  | 46 => ⟨S2x4x128x128, .f32⟩
  | 47 => ⟨S4x1024, .f32⟩
  | 48 => ⟨S4x1024, .f32⟩
  | 49 => ⟨S4x1024, .f32⟩
  | 50 => ⟨S4x1024, .f32⟩
  | 51 => ⟨S4x1024, .f32⟩
  | 52 => ⟨S2x3x128, .f32⟩
  | 53 => ⟨S2x128, .f32⟩
  | 54 => ⟨S2x32x64, .f32⟩
  | 55 => ⟨S2x32x64, .f32⟩
  | 56 => ⟨S2x32, .f32⟩
  | 57 => ⟨S2x32x64x16, .f32⟩
  | 58 => ⟨S2x32x64x16, .f32⟩
  | 59 => ⟨S2x32x16x64, .f32⟩
  | 60 => ⟨S2x32x16x64, .f32⟩
  | 61 => ⟨S2x512, .f32⟩
  | 62 => ⟨S2x512, .f32⟩
  | 63 => ⟨S2x8x257, .f32⟩
  | 64 => ⟨S2x4x128x128, .f32⟩
  | 65 => ⟨S4x1024, .f32⟩
  | 66 => ⟨S4x1024, .f32⟩
  | 67 => ⟨S4x1024, .f32⟩
  | 68 => ⟨S4x1024, .f32⟩
  | 69 => ⟨S4x1024, .f32⟩
  | 70 => ⟨S2x3x128, .f32⟩
  | 71 => ⟨S2x128, .f32⟩
  | 72 => ⟨S4096, .f32⟩
  | 73 => ⟨S4096, .f32⟩
  | 74 => ⟨S64, .f32⟩
  | 75 => ⟨S65536, .f32⟩
  | 76 => ⟨S65536, .f32⟩
  | 77 => ⟨S65536, .f32⟩
  | 78 => ⟨S65536, .f32⟩
  | 79 => ⟨S1024, .f32⟩
  | 80 => ⟨S1024, .f32⟩
  | 81 => ⟨S4112, .f32⟩
  | 82 => ⟨S131072, .f32⟩
  | 83 => ⟨S4096, .f32⟩
  | 84 => ⟨S4096, .f32⟩
  | 85 => ⟨S4096, .f32⟩
  | 86 => ⟨S4096, .f32⟩
  | 87 => ⟨S4096, .f32⟩
  | 88 => ⟨S768, .f32⟩
  | 89 => ⟨S256, .f32⟩
  | 90 => ⟨S428112, .f32⟩
  | 91 => ⟨S1024, .f32⟩
  | 92 => ⟨S429136, .f32⟩
  | 93 => ⟨S_, .i32⟩
  | 94 => ⟨S_, .f32⟩
  | 95 => ⟨S430080, .f32⟩
  | 96 => ⟨S3360x128, .f32⟩
  | 97 => ⟨S4096, .f32⟩
  | 98 => ⟨S4096, .f32⟩
  | 99 => ⟨S64, .f32⟩
  | 100 => ⟨S65536, .f32⟩
  | 101 => ⟨S65536, .f32⟩
  | 102 => ⟨S65536, .f32⟩
  | 103 => ⟨S65536, .f32⟩
  | 104 => ⟨S1024, .f32⟩
  | 105 => ⟨S1024, .f32⟩
  | 106 => ⟨S4112, .f32⟩
  | 107 => ⟨S131072, .f32⟩
  | 108 => ⟨S4096, .f32⟩
  | 109 => ⟨S4096, .f32⟩
  | 110 => ⟨S4096, .f32⟩
  | 111 => ⟨S4096, .f32⟩
  | 112 => ⟨S4096, .f32⟩
  | 113 => ⟨S768, .f32⟩
  | 114 => ⟨S256, .f32⟩
  | 115 => ⟨S428112, .f32⟩
  | 116 => ⟨S1024, .f32⟩
  | 117 => ⟨S429136, .f32⟩
  | 118 => ⟨S_, .i32⟩
  | 119 => ⟨S_, .f32⟩
  | 120 => ⟨S430080, .f32⟩
  | 121 => ⟨S3360x128, .f32⟩
  | 122 => ⟨S4096, .f32⟩
  | 123 => ⟨S4096, .f32⟩
  | 124 => ⟨S64, .f32⟩
  | 125 => ⟨S65536, .f32⟩
  | 126 => ⟨S65536, .f32⟩
  | 127 => ⟨S65536, .f32⟩
  | _ => ⟨S2x32x64, .f32⟩

abbrev hbmTy0_1 (i : Nat) : BufTy := match i % 128 with
  | 0 => ⟨S65536, .f32⟩
  | 1 => ⟨S1024, .f32⟩
  | 2 => ⟨S1024, .f32⟩
  | 3 => ⟨S4112, .f32⟩
  | 4 => ⟨S131072, .f32⟩
  | 5 => ⟨S4096, .f32⟩
  | 6 => ⟨S4096, .f32⟩
  | 7 => ⟨S4096, .f32⟩
  | 8 => ⟨S4096, .f32⟩
  | 9 => ⟨S4096, .f32⟩
  | 10 => ⟨S768, .f32⟩
  | 11 => ⟨S256, .f32⟩
  | 12 => ⟨S428112, .f32⟩
  | 13 => ⟨S1024, .f32⟩
  | 14 => ⟨S429136, .f32⟩
  | 15 => ⟨S_, .i32⟩
  | 16 => ⟨S_, .f32⟩
  | 17 => ⟨S430080, .f32⟩
  | 18 => ⟨S3360x128, .f32⟩
  | 19 => ⟨S4096, .f32⟩
  | 20 => ⟨S4096, .f32⟩
  | 21 => ⟨S64, .f32⟩
  | 22 => ⟨S65536, .f32⟩
  | 23 => ⟨S65536, .f32⟩
  | 24 => ⟨S65536, .f32⟩
  | 25 => ⟨S65536, .f32⟩
  | 26 => ⟨S1024, .f32⟩
  | 27 => ⟨S1024, .f32⟩
  | 28 => ⟨S4112, .f32⟩
  | 29 => ⟨S131072, .f32⟩
  | 30 => ⟨S4096, .f32⟩
  | 31 => ⟨S4096, .f32⟩
  | 32 => ⟨S4096, .f32⟩
  | 33 => ⟨S4096, .f32⟩
  | 34 => ⟨S4096, .f32⟩
  | 35 => ⟨S768, .f32⟩
  | 36 => ⟨S256, .f32⟩
  | 37 => ⟨S428112, .f32⟩
  | 38 => ⟨S1024, .f32⟩
  | 39 => ⟨S429136, .f32⟩
  | 40 => ⟨S_, .i32⟩
  | 41 => ⟨S_, .f32⟩
  | 42 => ⟨S430080, .f32⟩
  | 43 => ⟨S3360x128, .f32⟩
  | 44 => ⟨S3360x128, .f32⟩
  | 45 => ⟨S3360x128, .f32⟩
  | 46 => ⟨S3360x128, .f32⟩
  | _ => ⟨S2x32x64, .f32⟩

abbrev hbmTy (i : Nat) : BufTy := match i / 128 with
  | 0 => hbmTy0_0 i
  | 1 => hbmTy0_1 i
  | _ => ⟨S2x32x64, .f32⟩

abbrev bufTy : (tb : Table) → Fin (tcTables nBuf tb) → BufTy
  | .hbm, ⟨i, _⟩ => hbmTy i
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | _, _ => ⟨S2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_v0 : Ref sig .tc := ⟨.hbm, 72, rfl⟩
abbrev main_v1 : Ref sig .tc := ⟨.hbm, 73, rfl⟩
abbrev main_v2 : Ref sig .tc := ⟨.hbm, 74, rfl⟩
abbrev main_v3 : Ref sig .tc := ⟨.hbm, 75, rfl⟩
abbrev main_v4 : Ref sig .tc := ⟨.hbm, 76, rfl⟩
abbrev main_v5 : Ref sig .tc := ⟨.hbm, 77, rfl⟩
abbrev main_v6 : Ref sig .tc := ⟨.hbm, 78, rfl⟩
abbrev main_v7 : Ref sig .tc := ⟨.hbm, 79, rfl⟩
abbrev main_v8 : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_v14 : Ref sig .tc := ⟨.hbm, 86, rfl⟩
abbrev main_v15 : Ref sig .tc := ⟨.hbm, 87, rfl⟩
abbrev main_v16 : Ref sig .tc := ⟨.hbm, 88, rfl⟩
abbrev main_v17 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩
abbrev main_c : Ref sig .tc := ⟨.hbm, 93, rfl⟩
abbrev main_call0_v0 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_c_0 : Ref sig .tc := ⟨.hbm, 118, rfl⟩
abbrev main_call1_v0 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_v50 : Ref sig .tc := ⟨.hbm, 126, rfl⟩
abbrev main_v51 : Ref sig .tc := ⟨.hbm, 127, rfl⟩
abbrev main_v52 : Ref sig .tc := ⟨.hbm, 128, rfl⟩
abbrev main_v53 : Ref sig .tc := ⟨.hbm, 129, rfl⟩
abbrev main_v54 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_c_1 : Ref sig .tc := ⟨.hbm, 143, rfl⟩
abbrev main_call2_v0 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_c_2 : Ref sig .tc := ⟨.hbm, 168, rfl⟩
abbrev main_call3_v0 : Ref sig .tc := ⟨.hbm, 169, rfl⟩
abbrev main_v90 : Ref sig .tc := ⟨.hbm, 170, rfl⟩
abbrev main_v91 : Ref sig .tc := ⟨.hbm, 171, rfl⟩
abbrev main_v92_0 : Ref sig .tc := ⟨.hbm, 172, rfl⟩
abbrev main_v92_1 : Ref sig .tc := ⟨.hbm, 173, rfl⟩
abbrev main_v92_2 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![105], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S2x512 : Shape := ⟨2, ![2, 512]⟩
abbrev S2x8x257 : Shape := ⟨3, ![2, 8, 257]⟩
abbrev S2x4x128x128 : Shape := ⟨4, ![2, 4, 128, 128]⟩
abbrev S4x1024 : Shape := ⟨2, ![4, 1024]⟩
abbrev S2x3x128 : Shape := ⟨3, ![2, 3, 128]⟩
abbrev S2x128 : Shape := ⟨2, ![2, 128]⟩
abbrev S_ : Shape := ⟨0, ![]⟩
abbrev S4096 : Shape := ⟨1, ![4096]⟩
abbrev S64 : Shape := ⟨1, ![64]⟩
abbrev S65536 : Shape := ⟨1, ![65536]⟩
abbrev S1024 : Shape := ⟨1, ![1024]⟩
abbrev S4112 : Shape := ⟨1, ![4112]⟩
abbrev S131072 : Shape := ⟨1, ![131072]⟩
abbrev S768 : Shape := ⟨1, ![768]⟩
abbrev S256 : Shape := ⟨1, ![256]⟩
abbrev S428112 : Shape := ⟨1, ![428112]⟩
abbrev S429136 : Shape := ⟨1, ![429136]⟩
abbrev S430080 : Shape := ⟨1, ![430080]⟩
abbrev S3360x128 : Shape := ⟨2, ![3360, 128]⟩

abbrev nBuf : Space → Nat
  | .hbm => 741
  | .vmem => 0
  | .smem => 0
  | _ => 0

abbrev hbmTy0_0 (i : Nat) : BufTy := match i % 128 with
  | 0 => ⟨S2x32x64, .f32⟩
  | 1 => ⟨S2x32x64, .f32⟩
  | 2 => ⟨S2x32, .f32⟩
  | 3 => ⟨S2x32x64x16, .f32⟩
  | 4 => ⟨S2x32x64x16, .f32⟩
  | 5 => ⟨S2x32x16x64, .f32⟩
  | 6 => ⟨S2x32x16x64, .f32⟩
  | 7 => ⟨S2x512, .f32⟩
  | 8 => ⟨S2x512, .f32⟩
  | 9 => ⟨S2x8x257, .f32⟩
  | 10 => ⟨S2x4x128x128, .f32⟩
  | 11 => ⟨S4x1024, .f32⟩
  | 12 => ⟨S4x1024, .f32⟩
  | 13 => ⟨S4x1024, .f32⟩
  | 14 => ⟨S4x1024, .f32⟩
  | 15 => ⟨S4x1024, .f32⟩
  | 16 => ⟨S2x3x128, .f32⟩
  | 17 => ⟨S2x128, .f32⟩
  | 18 => ⟨S2x32x64, .f32⟩
  | 19 => ⟨S2x32x64, .f32⟩
  | 20 => ⟨S2x32, .f32⟩
  | 21 => ⟨S2x32x64x16, .f32⟩
  | 22 => ⟨S2x32x64x16, .f32⟩
  | 23 => ⟨S2x32x16x64, .f32⟩
  | 24 => ⟨S2x32x16x64, .f32⟩
  | 25 => ⟨S2x512, .f32⟩
  | 26 => ⟨S2x512, .f32⟩
  | 27 => ⟨S2x8x257, .f32⟩
  | 28 => ⟨S2x4x128x128, .f32⟩
  | 29 => ⟨S4x1024, .f32⟩
  | 30 => ⟨S4x1024, .f32⟩
  | 31 => ⟨S4x1024, .f32⟩
  | 32 => ⟨S4x1024, .f32⟩
  | 33 => ⟨S4x1024, .f32⟩
  | 34 => ⟨S2x3x128, .f32⟩
  | 35 => ⟨S2x128, .f32⟩
  | 36 => ⟨S2x32x64, .f32⟩
  | 37 => ⟨S2x32x64, .f32⟩
  | 38 => ⟨S2x32, .f32⟩
  | 39 => ⟨S2x32x64x16, .f32⟩
  | 40 => ⟨S2x32x64x16, .f32⟩
  | 41 => ⟨S2x32x16x64, .f32⟩
  | 42 => ⟨S2x32x16x64, .f32⟩
  | 43 => ⟨S2x512, .f32⟩
  | 44 => ⟨S2x512, .f32⟩
  | 45 => ⟨S2x8x257, .f32⟩
  | 46 => ⟨S2x4x128x128, .f32⟩
  | 47 => ⟨S4x1024, .f32⟩
  | 48 => ⟨S4x1024, .f32⟩
  | 49 => ⟨S4x1024, .f32⟩
  | 50 => ⟨S4x1024, .f32⟩
  | 51 => ⟨S4x1024, .f32⟩
  | 52 => ⟨S2x3x128, .f32⟩
  | 53 => ⟨S2x128, .f32⟩
  | 54 => ⟨S2x32x64, .f32⟩
  | 55 => ⟨S2x32x64, .f32⟩
  | 56 => ⟨S2x32, .f32⟩
  | 57 => ⟨S2x32x64x16, .f32⟩
  | 58 => ⟨S2x32x64x16, .f32⟩
  | 59 => ⟨S2x32x16x64, .f32⟩
  | 60 => ⟨S2x32x16x64, .f32⟩
  | 61 => ⟨S2x512, .f32⟩
  | 62 => ⟨S2x512, .f32⟩
  | 63 => ⟨S2x8x257, .f32⟩
  | 64 => ⟨S2x4x128x128, .f32⟩
  | 65 => ⟨S4x1024, .f32⟩
  | 66 => ⟨S4x1024, .f32⟩
  | 67 => ⟨S4x1024, .f32⟩
  | 68 => ⟨S4x1024, .f32⟩
  | 69 => ⟨S4x1024, .f32⟩
  | 70 => ⟨S2x3x128, .f32⟩
  | 71 => ⟨S2x128, .f32⟩
  | 72 => ⟨S_, .f32⟩
  | 73 => ⟨S2x32x64, .f32⟩
  | 74 => ⟨S2x32x64, .f32⟩
  | 75 => ⟨S_, .f32⟩
  | 76 => ⟨S2x32x64, .f32⟩
  | 77 => ⟨S2x32x64, .f32⟩
  | 78 => ⟨S2x32x64, .f32⟩
  | 79 => ⟨S_, .f32⟩
  | 80 => ⟨S2x32x64, .f32⟩
  | 81 => ⟨S2x32x64, .f32⟩
  | 82 => ⟨S2x32x64, .f32⟩
  | 83 => ⟨S_, .f32⟩
  | 84 => ⟨S2x32x64, .f32⟩
  | 85 => ⟨S2x32x64, .f32⟩
  | 86 => ⟨S2x32x64, .f32⟩
  | 87 => ⟨S_, .f32⟩
  | 88 => ⟨S2x32x64, .f32⟩
  | 89 => ⟨S2x32x64, .f32⟩
  | 90 => ⟨S_, .f32⟩
  | 91 => ⟨S2x32x64, .f32⟩
  | 92 => ⟨S2x32x64, .f32⟩
  | 93 => ⟨S2x32x64, .f32⟩
  | 94 => ⟨S_, .f32⟩
  | 95 => ⟨S2x32x64, .f32⟩
  | 96 => ⟨S2x32x64, .f32⟩
  | 97 => ⟨S2x32x64, .f32⟩
  | 98 => ⟨S_, .f32⟩
  | 99 => ⟨S2x32x64, .f32⟩
  | 100 => ⟨S2x32x64, .f32⟩
  | 101 => ⟨S2x32x64, .f32⟩
  | 102 => ⟨S_, .f32⟩
  | 103 => ⟨S2x32x64, .f32⟩
  | 104 => ⟨S2x32x64, .f32⟩
  | 105 => ⟨S_, .f32⟩
  | 106 => ⟨S2x32x64, .f32⟩
  | 107 => ⟨S2x32x64, .f32⟩
  | 108 => ⟨S_, .f32⟩
  | 109 => ⟨S2x32x64, .f32⟩
  | 110 => ⟨S2x32x64, .f32⟩
  | 111 => ⟨S2x32x64, .f32⟩
  | 112 => ⟨S_, .f32⟩
  | 113 => ⟨S2x32x64, .f32⟩
  | 114 => ⟨S2x32x64, .f32⟩
  | 115 => ⟨S2x32x64, .f32⟩
  | 116 => ⟨S_, .f32⟩
  | 117 => ⟨S2x32x64, .f32⟩
  | 118 => ⟨S2x32x64, .f32⟩
  | 119 => ⟨S2x32x64, .f32⟩
  | 120 => ⟨S_, .f32⟩
  | 121 => ⟨S2x32x64, .f32⟩
  | 122 => ⟨S2x32x64, .f32⟩
  | 123 => ⟨S_, .f32⟩
  | 124 => ⟨S2x32x64, .f32⟩
  | 125 => ⟨S2x32x64, .f32⟩
  | 126 => ⟨S2x32x64, .f32⟩
  | 127 => ⟨S_, .f32⟩
  | _ => ⟨S2x32x64, .f32⟩

abbrev hbmTy0_1 (i : Nat) : BufTy := match i % 128 with
  | 0 => ⟨S2x32x64, .f32⟩
  | 1 => ⟨S2x32x64, .f32⟩
  | 2 => ⟨S2x32x64, .f32⟩
  | 3 => ⟨S_, .f32⟩
  | 4 => ⟨S2x32x64, .f32⟩
  | 5 => ⟨S2x32x64, .f32⟩
  | 6 => ⟨S2x32x64, .f32⟩
  | 7 => ⟨S_, .f32⟩
  | 8 => ⟨S2x32x64, .f32⟩
  | 9 => ⟨S2x32x64, .f32⟩
  | 10 => ⟨S_, .f32⟩
  | 11 => ⟨S2x32, .f32⟩
  | 12 => ⟨S2x32, .f32⟩
  | 13 => ⟨S_, .f32⟩
  | 14 => ⟨S2x32, .f32⟩
  | 15 => ⟨S2x32, .f32⟩
  | 16 => ⟨S2x32, .f32⟩
  | 17 => ⟨S_, .f32⟩
  | 18 => ⟨S2x32, .f32⟩
  | 19 => ⟨S2x32, .f32⟩
  | 20 => ⟨S2x32, .f32⟩
  | 21 => ⟨S_, .f32⟩
  | 22 => ⟨S2x32, .f32⟩
  | 23 => ⟨S2x32, .f32⟩
  | 24 => ⟨S2x32, .f32⟩
  | 25 => ⟨S_, .f32⟩
  | 26 => ⟨S2x32, .f32⟩
  | 27 => ⟨S2x32, .f32⟩
  | 28 => ⟨S_, .f32⟩
  | 29 => ⟨S2x32, .f32⟩
  | 30 => ⟨S2x32, .f32⟩
  | 31 => ⟨S2x32, .f32⟩
  | 32 => ⟨S_, .f32⟩
  | 33 => ⟨S2x32, .f32⟩
  | 34 => ⟨S2x32, .f32⟩
  | 35 => ⟨S2x32, .f32⟩
  | 36 => ⟨S_, .f32⟩
  | 37 => ⟨S2x32, .f32⟩
  | 38 => ⟨S2x32, .f32⟩
  | 39 => ⟨S2x32, .f32⟩
  | 40 => ⟨S_, .f32⟩
  | 41 => ⟨S2x32, .f32⟩
  | 42 => ⟨S2x32, .f32⟩
  | 43 => ⟨S_, .f32⟩
  | 44 => ⟨S2x32x64x16, .f32⟩
  | 45 => ⟨S2x32x64x16, .f32⟩
  | 46 => ⟨S_, .f32⟩
  | 47 => ⟨S2x32x64x16, .f32⟩
  | 48 => ⟨S2x32x64x16, .f32⟩
  | 49 => ⟨S2x32x64x16, .f32⟩
  | 50 => ⟨S_, .f32⟩
  | 51 => ⟨S2x32x64x16, .f32⟩
  | 52 => ⟨S2x32x64x16, .f32⟩
  | 53 => ⟨S2x32x64x16, .f32⟩
  | 54 => ⟨S_, .f32⟩
  | 55 => ⟨S2x32x64x16, .f32⟩
  | 56 => ⟨S2x32x64x16, .f32⟩
  | 57 => ⟨S2x32x64x16, .f32⟩
  | 58 => ⟨S_, .f32⟩
  | 59 => ⟨S2x32x64x16, .f32⟩
  | 60 => ⟨S2x32x64x16, .f32⟩
  | 61 => ⟨S_, .f32⟩
  | 62 => ⟨S2x32x64x16, .f32⟩
  | 63 => ⟨S2x32x64x16, .f32⟩
  | 64 => ⟨S2x32x64x16, .f32⟩
  | 65 => ⟨S_, .f32⟩
  | 66 => ⟨S2x32x64x16, .f32⟩
  | 67 => ⟨S2x32x64x16, .f32⟩
  | 68 => ⟨S2x32x64x16, .f32⟩
  | 69 => ⟨S_, .f32⟩
  | 70 => ⟨S2x32x64x16, .f32⟩
  | 71 => ⟨S2x32x64x16, .f32⟩
  | 72 => ⟨S2x32x64x16, .f32⟩
  | 73 => ⟨S_, .f32⟩
  | 74 => ⟨S2x32x64x16, .f32⟩
  | 75 => ⟨S2x32x64x16, .f32⟩
  | 76 => ⟨S_, .f32⟩
  | 77 => ⟨S2x32x64x16, .f32⟩
  | 78 => ⟨S2x32x64x16, .f32⟩
  | 79 => ⟨S_, .f32⟩
  | 80 => ⟨S2x32x64x16, .f32⟩
  | 81 => ⟨S2x32x64x16, .f32⟩
  | 82 => ⟨S2x32x64x16, .f32⟩
  | 83 => ⟨S_, .f32⟩
  | 84 => ⟨S2x32x64x16, .f32⟩
  | 85 => ⟨S2x32x64x16, .f32⟩
  | 86 => ⟨S2x32x64x16, .f32⟩
  | 87 => ⟨S_, .f32⟩
  | 88 => ⟨S2x32x64x16, .f32⟩
  | 89 => ⟨S2x32x64x16, .f32⟩
  | 90 => ⟨S2x32x64x16, .f32⟩
  | 91 => ⟨S_, .f32⟩
  | 92 => ⟨S2x32x64x16, .f32⟩
  | 93 => ⟨S2x32x64x16, .f32⟩
  | 94 => ⟨S_, .f32⟩
  | 95 => ⟨S2x32x64x16, .f32⟩
  | 96 => ⟨S2x32x64x16, .f32⟩
  | 97 => ⟨S2x32x64x16, .f32⟩
  | 98 => ⟨S_, .f32⟩
  | 99 => ⟨S2x32x64x16, .f32⟩
  | 100 => ⟨S2x32x64x16, .f32⟩
  | 101 => ⟨S2x32x64x16, .f32⟩
  | 102 => ⟨S_, .f32⟩
  | 103 => ⟨S2x32x64x16, .f32⟩
  | 104 => ⟨S2x32x64x16, .f32⟩
  | 105 => ⟨S2x32x64x16, .f32⟩
  | 106 => ⟨S_, .f32⟩
  | 107 => ⟨S2x32x64x16, .f32⟩
  | 108 => ⟨S2x32x64x16, .f32⟩
  | 109 => ⟨S_, .f32⟩
  | 110 => ⟨S2x32x16x64, .f32⟩
  | 111 => ⟨S2x32x16x64, .f32⟩
  | 112 => ⟨S_, .f32⟩
  | 113 => ⟨S2x32x16x64, .f32⟩
  | 114 => ⟨S2x32x16x64, .f32⟩
  | 115 => ⟨S2x32x16x64, .f32⟩
  | 116 => ⟨S_, .f32⟩
  | 117 => ⟨S2x32x16x64, .f32⟩
  | 118 => ⟨S2x32x16x64, .f32⟩
  | 119 => ⟨S2x32x16x64, .f32⟩
  | 120 => ⟨S_, .f32⟩
  | 121 => ⟨S2x32x16x64, .f32⟩
  | 122 => ⟨S2x32x16x64, .f32⟩
  | 123 => ⟨S2x32x16x64, .f32⟩
  | 124 => ⟨S_, .f32⟩
  | 125 => ⟨S2x32x16x64, .f32⟩
  | 126 => ⟨S2x32x16x64, .f32⟩
  | 127 => ⟨S_, .f32⟩
  | _ => ⟨S2x32x64, .f32⟩

abbrev hbmTy0_2 (i : Nat) : BufTy := match i % 128 with
  | 0 => ⟨S2x32x16x64, .f32⟩
  | 1 => ⟨S2x32x16x64, .f32⟩
  | 2 => ⟨S2x32x16x64, .f32⟩
  | 3 => ⟨S_, .f32⟩
  | 4 => ⟨S2x32x16x64, .f32⟩
  | 5 => ⟨S2x32x16x64, .f32⟩
  | 6 => ⟨S2x32x16x64, .f32⟩
  | 7 => ⟨S_, .f32⟩
  | 8 => ⟨S2x32x16x64, .f32⟩
  | 9 => ⟨S2x32x16x64, .f32⟩
  | 10 => ⟨S2x32x16x64, .f32⟩
  | 11 => ⟨S_, .f32⟩
  | 12 => ⟨S2x32x16x64, .f32⟩
  | 13 => ⟨S2x32x16x64, .f32⟩
  | 14 => ⟨S_, .f32⟩
  | 15 => ⟨S2x32x16x64, .f32⟩
  | 16 => ⟨S2x32x16x64, .f32⟩
  | 17 => ⟨S_, .f32⟩
  | 18 => ⟨S2x32x16x64, .f32⟩
  | 19 => ⟨S2x32x16x64, .f32⟩
  | 20 => ⟨S2x32x16x64, .f32⟩
  | 21 => ⟨S_, .f32⟩
  | 22 => ⟨S2x32x16x64, .f32⟩
  | 23 => ⟨S2x32x16x64, .f32⟩
  | 24 => ⟨S2x32x16x64, .f32⟩
  | 25 => ⟨S_, .f32⟩
  | 26 => ⟨S2x32x16x64, .f32⟩
  | 27 => ⟨S2x32x16x64, .f32⟩
  | 28 => ⟨S2x32x16x64, .f32⟩
  | 29 => ⟨S_, .f32⟩
  | 30 => ⟨S2x32x16x64, .f32⟩
  | 31 => ⟨S2x32x16x64, .f32⟩
  | 32 => ⟨S_, .f32⟩
  | 33 => ⟨S2x32x16x64, .f32⟩
  | 34 => ⟨S2x32x16x64, .f32⟩
  | 35 => ⟨S2x32x16x64, .f32⟩
  | 36 => ⟨S_, .f32⟩
  | 37 => ⟨S2x32x16x64, .f32⟩
  | 38 => ⟨S2x32x16x64, .f32⟩
  | 39 => ⟨S2x32x16x64, .f32⟩
  | 40 => ⟨S_, .f32⟩
  | 41 => ⟨S2x32x16x64, .f32⟩
  | 42 => ⟨S2x32x16x64, .f32⟩
  | 43 => ⟨S2x32x16x64, .f32⟩
  | 44 => ⟨S_, .f32⟩
  | 45 => ⟨S2x32x16x64, .f32⟩
  | 46 => ⟨S2x32x16x64, .f32⟩
  | 47 => ⟨S_, .f32⟩
  | 48 => ⟨S2x512, .f32⟩
  | 49 => ⟨S2x512, .f32⟩
  | 50 => ⟨S_, .f32⟩
  | 51 => ⟨S2x512, .f32⟩
  | 52 => ⟨S2x512, .f32⟩
  | 53 => ⟨S2x512, .f32⟩
  | 54 => ⟨S_, .f32⟩
  | 55 => ⟨S2x512, .f32⟩
  | 56 => ⟨S2x512, .f32⟩
  | 57 => ⟨S2x512, .f32⟩
  | 58 => ⟨S_, .f32⟩
  | 59 => ⟨S2x512, .f32⟩
  | 60 => ⟨S2x512, .f32⟩
  | 61 => ⟨S2x512, .f32⟩
  | 62 => ⟨S_, .f32⟩
  | 63 => ⟨S2x512, .f32⟩
  | 64 => ⟨S2x512, .f32⟩
  | 65 => ⟨S_, .f32⟩
  | 66 => ⟨S2x512, .f32⟩
  | 67 => ⟨S2x512, .f32⟩
  | 68 => ⟨S2x512, .f32⟩
  | 69 => ⟨S_, .f32⟩
  | 70 => ⟨S2x512, .f32⟩
  | 71 => ⟨S2x512, .f32⟩
  | 72 => ⟨S2x512, .f32⟩
  | 73 => ⟨S_, .f32⟩
  | 74 => ⟨S2x512, .f32⟩
  | 75 => ⟨S2x512, .f32⟩
  | 76 => ⟨S2x512, .f32⟩
  | 77 => ⟨S_, .f32⟩
  | 78 => ⟨S2x512, .f32⟩
  | 79 => ⟨S2x512, .f32⟩
  | 80 => ⟨S_, .f32⟩
  | 81 => ⟨S2x512, .f32⟩
  | 82 => ⟨S2x512, .f32⟩
  | 83 => ⟨S_, .f32⟩
  | 84 => ⟨S2x512, .f32⟩
  | 85 => ⟨S2x512, .f32⟩
  | 86 => ⟨S2x512, .f32⟩
  | 87 => ⟨S_, .f32⟩
  | 88 => ⟨S2x512, .f32⟩
  | 89 => ⟨S2x512, .f32⟩
  | 90 => ⟨S2x512, .f32⟩
  | 91 => ⟨S_, .f32⟩
  | 92 => ⟨S2x512, .f32⟩
  | 93 => ⟨S2x512, .f32⟩
  | 94 => ⟨S2x512, .f32⟩
  | 95 => ⟨S_, .f32⟩
  | 96 => ⟨S2x512, .f32⟩
  | 97 => ⟨S2x512, .f32⟩
  | 98 => ⟨S_, .f32⟩
  | 99 => ⟨S2x512, .f32⟩
  | 100 => ⟨S2x512, .f32⟩
  | 101 => ⟨S2x512, .f32⟩
  | 102 => ⟨S_, .f32⟩
  | 103 => ⟨S2x512, .f32⟩
  | 104 => ⟨S2x512, .f32⟩
  | 105 => ⟨S2x512, .f32⟩
  | 106 => ⟨S_, .f32⟩
  | 107 => ⟨S2x512, .f32⟩
  | 108 => ⟨S2x512, .f32⟩
  | 109 => ⟨S2x512, .f32⟩
  | 110 => ⟨S_, .f32⟩
  | 111 => ⟨S2x512, .f32⟩
  | 112 => ⟨S2x512, .f32⟩
  | 113 => ⟨S_, .f32⟩
  | 114 => ⟨S2x8x257, .f32⟩
  | 115 => ⟨S2x8x257, .f32⟩
  | 116 => ⟨S_, .f32⟩
  | 117 => ⟨S2x8x257, .f32⟩
  | 118 => ⟨S2x8x257, .f32⟩
  | 119 => ⟨S2x8x257, .f32⟩
  | 120 => ⟨S_, .f32⟩
  | 121 => ⟨S2x8x257, .f32⟩
  | 122 => ⟨S2x8x257, .f32⟩
  | 123 => ⟨S2x8x257, .f32⟩
  | 124 => ⟨S_, .f32⟩
  | 125 => ⟨S2x8x257, .f32⟩
  | 126 => ⟨S2x8x257, .f32⟩
  | 127 => ⟨S2x8x257, .f32⟩
  | _ => ⟨S2x32x64, .f32⟩

abbrev hbmTy0_3 (i : Nat) : BufTy := match i % 128 with
  | 0 => ⟨S_, .f32⟩
  | 1 => ⟨S2x8x257, .f32⟩
  | 2 => ⟨S2x8x257, .f32⟩
  | 3 => ⟨S_, .f32⟩
  | 4 => ⟨S2x8x257, .f32⟩
  | 5 => ⟨S2x8x257, .f32⟩
  | 6 => ⟨S2x8x257, .f32⟩
  | 7 => ⟨S_, .f32⟩
  | 8 => ⟨S2x8x257, .f32⟩
  | 9 => ⟨S2x8x257, .f32⟩
  | 10 => ⟨S2x8x257, .f32⟩
  | 11 => ⟨S_, .f32⟩
  | 12 => ⟨S2x8x257, .f32⟩
  | 13 => ⟨S2x8x257, .f32⟩
  | 14 => ⟨S2x8x257, .f32⟩
  | 15 => ⟨S_, .f32⟩
  | 16 => ⟨S2x8x257, .f32⟩
  | 17 => ⟨S2x8x257, .f32⟩
  | 18 => ⟨S_, .f32⟩
  | 19 => ⟨S2x4x128x128, .f32⟩
  | 20 => ⟨S2x4x128x128, .f32⟩
  | 21 => ⟨S_, .f32⟩
  | 22 => ⟨S2x4x128x128, .f32⟩
  | 23 => ⟨S2x4x128x128, .f32⟩
  | 24 => ⟨S2x4x128x128, .f32⟩
  | 25 => ⟨S_, .f32⟩
  | 26 => ⟨S2x4x128x128, .f32⟩
  | 27 => ⟨S2x4x128x128, .f32⟩
  | 28 => ⟨S2x4x128x128, .f32⟩
  | 29 => ⟨S_, .f32⟩
  | 30 => ⟨S2x4x128x128, .f32⟩
  | 31 => ⟨S2x4x128x128, .f32⟩
  | 32 => ⟨S2x4x128x128, .f32⟩
  | 33 => ⟨S_, .f32⟩
  | 34 => ⟨S2x4x128x128, .f32⟩
  | 35 => ⟨S2x4x128x128, .f32⟩
  | 36 => ⟨S_, .f32⟩
  | 37 => ⟨S2x4x128x128, .f32⟩
  | 38 => ⟨S2x4x128x128, .f32⟩
  | 39 => ⟨S2x4x128x128, .f32⟩
  | 40 => ⟨S_, .f32⟩
  | 41 => ⟨S2x4x128x128, .f32⟩
  | 42 => ⟨S2x4x128x128, .f32⟩
  | 43 => ⟨S2x4x128x128, .f32⟩
  | 44 => ⟨S_, .f32⟩
  | 45 => ⟨S2x4x128x128, .f32⟩
  | 46 => ⟨S2x4x128x128, .f32⟩
  | 47 => ⟨S2x4x128x128, .f32⟩
  | 48 => ⟨S_, .f32⟩
  | 49 => ⟨S2x4x128x128, .f32⟩
  | 50 => ⟨S2x4x128x128, .f32⟩
  | 51 => ⟨S_, .f32⟩
  | 52 => ⟨S4x1024, .f32⟩
  | 53 => ⟨S4x1024, .f32⟩
  | 54 => ⟨S_, .f32⟩
  | 55 => ⟨S4x1024, .f32⟩
  | 56 => ⟨S4x1024, .f32⟩
  | 57 => ⟨S4x1024, .f32⟩
  | 58 => ⟨S_, .f32⟩
  | 59 => ⟨S4x1024, .f32⟩
  | 60 => ⟨S4x1024, .f32⟩
  | 61 => ⟨S4x1024, .f32⟩
  | 62 => ⟨S_, .f32⟩
  | 63 => ⟨S4x1024, .f32⟩
  | 64 => ⟨S4x1024, .f32⟩
  | 65 => ⟨S4x1024, .f32⟩
  | 66 => ⟨S_, .f32⟩
  | 67 => ⟨S4x1024, .f32⟩
  | 68 => ⟨S4x1024, .f32⟩
  | 69 => ⟨S_, .f32⟩
  | 70 => ⟨S4x1024, .f32⟩
  | 71 => ⟨S4x1024, .f32⟩
  | 72 => ⟨S4x1024, .f32⟩
  | 73 => ⟨S_, .f32⟩
  | 74 => ⟨S4x1024, .f32⟩
  | 75 => ⟨S4x1024, .f32⟩
  | 76 => ⟨S4x1024, .f32⟩
  | 77 => ⟨S_, .f32⟩
  | 78 => ⟨S4x1024, .f32⟩
  | 79 => ⟨S4x1024, .f32⟩
  | 80 => ⟨S4x1024, .f32⟩
  | 81 => ⟨S_, .f32⟩
  | 82 => ⟨S4x1024, .f32⟩
  | 83 => ⟨S4x1024, .f32⟩
  | 84 => ⟨S_, .f32⟩
  | 85 => ⟨S4x1024, .f32⟩
  | 86 => ⟨S4x1024, .f32⟩
  | 87 => ⟨S_, .f32⟩
  | 88 => ⟨S4x1024, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S4x1024, .f32⟩
  | 95 => ⟨S_, .f32⟩
  | 96 => ⟨S4x1024, .f32⟩
  | 97 => ⟨S4x1024, .f32⟩
  | 98 => ⟨S4x1024, .f32⟩
  | 99 => ⟨S_, .f32⟩
  | 100 => ⟨S4x1024, .f32⟩
  | 101 => ⟨S4x1024, .f32⟩
  | 102 => ⟨S_, .f32⟩
  | 103 => ⟨S4x1024, .f32⟩
  | 104 => ⟨S4x1024, .f32⟩
  | 105 => ⟨S4x1024, .f32⟩
  | 106 => ⟨S_, .f32⟩
  | 107 => ⟨S4x1024, .f32⟩
  | 108 => ⟨S4x1024, .f32⟩
  | 109 => ⟨S4x1024, .f32⟩
  | 110 => ⟨S_, .f32⟩
  | 111 => ⟨S4x1024, .f32⟩
  | 112 => ⟨S4x1024, .f32⟩
  | 113 => ⟨S4x1024, .f32⟩
  | 114 => ⟨S_, .f32⟩
  | 115 => ⟨S4x1024, .f32⟩
  | 116 => ⟨S4x1024, .f32⟩
  | 117 => ⟨S_, .f32⟩
  | 118 => ⟨S4x1024, .f32⟩
  | 119 => ⟨S4x1024, .f32⟩
  | 120 => ⟨S_, .f32⟩
  | 121 => ⟨S4x1024, .f32⟩
  | 122 => ⟨S4x1024, .f32⟩
  | 123 => ⟨S4x1024, .f32⟩
  | 124 => ⟨S_, .f32⟩
  | 125 => ⟨S4x1024, .f32⟩
  | 126 => ⟨S4x1024, .f32⟩
  | 127 => ⟨S4x1024, .f32⟩
  | _ => ⟨S2x32x64, .f32⟩

abbrev hbmTy0_4 (i : Nat) : BufTy := match i % 128 with
  | 0 => ⟨S_, .f32⟩
  | 1 => ⟨S4x1024, .f32⟩
  | 2 => ⟨S4x1024, .f32⟩
  | 3 => ⟨S4x1024, .f32⟩
  | 4 => ⟨S_, .f32⟩
  | 5 => ⟨S4x1024, .f32⟩
  | 6 => ⟨S4x1024, .f32⟩
  | 7 => ⟨S_, .f32⟩
  | 8 => ⟨S4x1024, .f32⟩
  | 9 => ⟨S4x1024, .f32⟩
  | 10 => ⟨S4x1024, .f32⟩
  | 11 => ⟨S_, .f32⟩
  | 12 => ⟨S4x1024, .f32⟩
  | 13 => ⟨S4x1024, .f32⟩
  | 14 => ⟨S4x1024, .f32⟩
  | 15 => ⟨S_, .f32⟩
  | 16 => ⟨S4x1024, .f32⟩
  | 17 => ⟨S4x1024, .f32⟩
  | 18 => ⟨S4x1024, .f32⟩
  | 19 => ⟨S_, .f32⟩
  | 20 => ⟨S4x1024, .f32⟩
  | 21 => ⟨S4x1024, .f32⟩
  | 22 => ⟨S_, .f32⟩
  | 23 => ⟨S4x1024, .f32⟩
  | 24 => ⟨S4x1024, .f32⟩
  | 25 => ⟨S_, .f32⟩
  | 26 => ⟨S4x1024, .f32⟩
  | 27 => ⟨S4x1024, .f32⟩
  | 28 => ⟨S4x1024, .f32⟩
  | 29 => ⟨S_, .f32⟩
  | 30 => ⟨S4x1024, .f32⟩
  | 31 => ⟨S4x1024, .f32⟩
  | 32 => ⟨S4x1024, .f32⟩
  | 33 => ⟨S_, .f32⟩
  | 34 => ⟨S4x1024, .f32⟩
  | 35 => ⟨S4x1024, .f32⟩
  | 36 => ⟨S4x1024, .f32⟩
  | 37 => ⟨S_, .f32⟩
  | 38 => ⟨S4x1024, .f32⟩
  | 39 => ⟨S4x1024, .f32⟩
  | 40 => ⟨S_, .f32⟩
  | 41 => ⟨S4x1024, .f32⟩
  | 42 => ⟨S4x1024, .f32⟩
  | 43 => ⟨S4x1024, .f32⟩
  | 44 => ⟨S_, .f32⟩
  | 45 => ⟨S4x1024, .f32⟩
  | 46 => ⟨S4x1024, .f32⟩
  | 47 => ⟨S4x1024, .f32⟩
  | 48 => ⟨S_, .f32⟩
  | 49 => ⟨S4x1024, .f32⟩
  | 50 => ⟨S4x1024, .f32⟩
  | 51 => ⟨S4x1024, .f32⟩
  | 52 => ⟨S_, .f32⟩
  | 53 => ⟨S4x1024, .f32⟩
  | 54 => ⟨S4x1024, .f32⟩
  | 55 => ⟨S_, .f32⟩
  | 56 => ⟨S4x1024, .f32⟩
  | 57 => ⟨S4x1024, .f32⟩
  | 58 => ⟨S_, .f32⟩
  | 59 => ⟨S4x1024, .f32⟩
  | 60 => ⟨S4x1024, .f32⟩
  | 61 => ⟨S4x1024, .f32⟩
  | 62 => ⟨S_, .f32⟩
  | 63 => ⟨S4x1024, .f32⟩
  | 64 => ⟨S4x1024, .f32⟩
  | 65 => ⟨S4x1024, .f32⟩
  | 66 => ⟨S_, .f32⟩
  | 67 => ⟨S4x1024, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S_, .f32⟩
  | 74 => ⟨S4x1024, .f32⟩
  | 75 => ⟨S4x1024, .f32⟩
  | 76 => ⟨S4x1024, .f32⟩
  | 77 => ⟨S_, .f32⟩
  | 78 => ⟨S4x1024, .f32⟩
  | 79 => ⟨S4x1024, .f32⟩
  | 80 => ⟨S4x1024, .f32⟩
  | 81 => ⟨S_, .f32⟩
  | 82 => ⟨S4x1024, .f32⟩
  | 83 => ⟨S4x1024, .f32⟩
  | 84 => ⟨S4x1024, .f32⟩
  | 85 => ⟨S_, .f32⟩
  | 86 => ⟨S4x1024, .f32⟩
  | 87 => ⟨S4x1024, .f32⟩
  | 88 => ⟨S_, .f32⟩
  | 89 => ⟨S2x3x128, .f32⟩
  | 90 => ⟨S2x3x128, .f32⟩
  | 91 => ⟨S_, .f32⟩
  | 92 => ⟨S2x3x128, .f32⟩
  | 93 => ⟨S2x3x128, .f32⟩
  | 94 => ⟨S2x3x128, .f32⟩
  | 95 => ⟨S_, .f32⟩
  | 96 => ⟨S2x3x128, .f32⟩
  | 97 => ⟨S2x3x128, .f32⟩
  | 98 => ⟨S2x3x128, .f32⟩
  | 99 => ⟨S_, .f32⟩
  | 100 => ⟨S2x3x128, .f32⟩
  | 101 => ⟨S2x3x128, .f32⟩
  | 102 => ⟨S2x3x128, .f32⟩
  | 103 => ⟨S_, .f32⟩
  | 104 => ⟨S2x3x128, .f32⟩
  | 105 => ⟨S2x3x128, .f32⟩
  | 106 => ⟨S_, .f32⟩
  | 107 => ⟨S2x3x128, .f32⟩
  | 108 => ⟨S2x3x128, .f32⟩
  | 109 => ⟨S2x3x128, .f32⟩
  | 110 => ⟨S_, .f32⟩
  | 111 => ⟨S2x3x128, .f32⟩
  | 112 => ⟨S2x3x128, .f32⟩
  | 113 => ⟨S2x3x128, .f32⟩
  | 114 => ⟨S_, .f32⟩
  | 115 => ⟨S2x3x128, .f32⟩
  | 116 => ⟨S2x3x128, .f32⟩
  | 117 => ⟨S2x3x128, .f32⟩
  | 118 => ⟨S_, .f32⟩
  | 119 => ⟨S2x3x128, .f32⟩
  | 120 => ⟨S2x3x128, .f32⟩
  | 121 => ⟨S_, .f32⟩
  | 122 => ⟨S2x128, .f32⟩
  | 123 => ⟨S2x128, .f32⟩
  | 124 => ⟨S_, .f32⟩
  | 125 => ⟨S2x128, .f32⟩
  | 126 => ⟨S2x128, .f32⟩
  | 127 => ⟨S2x128, .f32⟩
  | _ => ⟨S2x32x64, .f32⟩

abbrev hbmTy0_5 (i : Nat) : BufTy := match i % 128 with
  | 0 => ⟨S_, .f32⟩
  | 1 => ⟨S2x128, .f32⟩
  | 2 => ⟨S2x128, .f32⟩
  | 3 => ⟨S2x128, .f32⟩
  | 4 => ⟨S_, .f32⟩
  | 5 => ⟨S2x128, .f32⟩
  | 6 => ⟨S2x128, .f32⟩
  | 7 => ⟨S2x128, .f32⟩
  | 8 => ⟨S_, .f32⟩
  | 9 => ⟨S2x128, .f32⟩
  | 10 => ⟨S2x128, .f32⟩
  | 11 => ⟨S_, .f32⟩
  | 12 => ⟨S2x128, .f32⟩
  | 13 => ⟨S2x128, .f32⟩
  | 14 => ⟨S2x128, .f32⟩
  | 15 => ⟨S_, .f32⟩
  | 16 => ⟨S2x128, .f32⟩
  | 17 => ⟨S2x128, .f32⟩
  | 18 => ⟨S2x128, .f32⟩
  | 19 => ⟨S_, .f32⟩
  | 20 => ⟨S2x128, .f32⟩
  | 21 => ⟨S2x128, .f32⟩
  | 22 => ⟨S2x128, .f32⟩
  | 23 => ⟨S_, .f32⟩
  | 24 => ⟨S2x128, .f32⟩
  | 25 => ⟨S2x128, .f32⟩
  | 26 => ⟨S4096, .f32⟩
  | 27 => ⟨S4096, .f32⟩
  | 28 => ⟨S64, .f32⟩
  | 29 => ⟨S65536, .f32⟩
  | 30 => ⟨S65536, .f32⟩
  | 31 => ⟨S65536, .f32⟩
  | 32 => ⟨S65536, .f32⟩
  | 33 => ⟨S1024, .f32⟩
  | 34 => ⟨S1024, .f32⟩
  | 35 => ⟨S4112, .f32⟩
  | 36 => ⟨S131072, .f32⟩
  | 37 => ⟨S4096, .f32⟩
  | 38 => ⟨S4096, .f32⟩
  | 39 => ⟨S4096, .f32⟩
  | 40 => ⟨S4096, .f32⟩
  | 41 => ⟨S4096, .f32⟩
  | 42 => ⟨S768, .f32⟩
  | 43 => ⟨S256, .f32⟩
  | 44 => ⟨S428112, .f32⟩
  | 45 => ⟨S1024, .f32⟩
  | 46 => ⟨S429136, .f32⟩
  | 47 => ⟨S_, .i32⟩
  | 48 => ⟨S_, .f32⟩
  | 49 => ⟨S430080, .f32⟩
  | 50 => ⟨S3360x128, .f32⟩
  | 51 => ⟨S4096, .f32⟩
  | 52 => ⟨S4096, .f32⟩
  | 53 => ⟨S64, .f32⟩
  | 54 => ⟨S65536, .f32⟩
  | 55 => ⟨S65536, .f32⟩
  | 56 => ⟨S65536, .f32⟩
  | 57 => ⟨S65536, .f32⟩
  | 58 => ⟨S1024, .f32⟩
  | 59 => ⟨S1024, .f32⟩
  | 60 => ⟨S4112, .f32⟩
  | 61 => ⟨S131072, .f32⟩
  | 62 => ⟨S4096, .f32⟩
  | 63 => ⟨S4096, .f32⟩
  | 64 => ⟨S4096, .f32⟩
  | 65 => ⟨S4096, .f32⟩
  | 66 => ⟨S4096, .f32⟩
  | 67 => ⟨S768, .f32⟩
  | 68 => ⟨S256, .f32⟩
  | 69 => ⟨S428112, .f32⟩
  | 70 => ⟨S1024, .f32⟩
  | 71 => ⟨S429136, .f32⟩
  | 72 => ⟨S_, .i32⟩
  | 73 => ⟨S_, .f32⟩
  | 74 => ⟨S430080, .f32⟩
  | 75 => ⟨S3360x128, .f32⟩
  | 76 => ⟨S4096, .f32⟩
  | 77 => ⟨S4096, .f32⟩
  | 78 => ⟨S64, .f32⟩
  | 79 => ⟨S65536, .f32⟩
  | 80 => ⟨S65536, .f32⟩
  | 81 => ⟨S65536, .f32⟩
  | 82 => ⟨S65536, .f32⟩
  | 83 => ⟨S1024, .f32⟩
  | 84 => ⟨S1024, .f32⟩
  | 85 => ⟨S4112, .f32⟩
  | 86 => ⟨S131072, .f32⟩
  | 87 => ⟨S4096, .f32⟩
  | 88 => ⟨S4096, .f32⟩
  | 89 => ⟨S4096, .f32⟩
  | 90 => ⟨S4096, .f32⟩
  | 91 => ⟨S4096, .f32⟩
  | 92 => ⟨S768, .f32⟩
  | 93 => ⟨S256, .f32⟩
  | 94 => ⟨S428112, .f32⟩
  | 95 => ⟨S1024, .f32⟩
  | 96 => ⟨S429136, .f32⟩
  | 97 => ⟨S_, .i32⟩
  | 98 => ⟨S_, .f32⟩
  | 99 => ⟨S430080, .f32⟩
  | 100 => ⟨S3360x128, .f32⟩
  | _ => ⟨S2x32x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x32x64, .f32⟩

abbrev bufTy : (tb : Table) → Fin (tcTables nBuf tb) → BufTy
  | .hbm, ⟨i, _⟩ => hbmTy i
  | _, _ => ⟨S2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_arg65 : Ref sig .tc := ⟨.hbm, 65, rfl⟩
abbrev main_arg66 : Ref sig .tc := ⟨.hbm, 66, rfl⟩
abbrev main_arg67 : Ref sig .tc := ⟨.hbm, 67, rfl⟩
abbrev main_arg68 : Ref sig .tc := ⟨.hbm, 68, rfl⟩
abbrev main_arg69 : Ref sig .tc := ⟨.hbm, 69, rfl⟩
abbrev main_arg70 : Ref sig .tc := ⟨.hbm, 70, rfl⟩
abbrev main_arg71 : Ref sig .tc := ⟨.hbm, 71, rfl⟩
abbrev main_cst : Ref sig .tc := ⟨.hbm, 72, rfl⟩
abbrev main_v0 : Ref sig .tc := ⟨.hbm, 73, rfl⟩
abbrev main_v1 : Ref sig .tc := ⟨.hbm, 74, rfl⟩
abbrev main_cst_0 : Ref sig .tc := ⟨.hbm, 75, rfl⟩
abbrev main_v2 : Ref sig .tc := ⟨.hbm, 76, rfl⟩
abbrev main_v3 : Ref sig .tc := ⟨.hbm, 77, rfl⟩
abbrev main_v4 : Ref sig .tc := ⟨.hbm, 78, rfl⟩
abbrev main_cst_1 : Ref sig .tc := ⟨.hbm, 79, rfl⟩
abbrev main_v5 : Ref sig .tc := ⟨.hbm, 80, rfl⟩
abbrev main_v6 : Ref sig .tc := ⟨.hbm, 81, rfl⟩
abbrev main_v7 : Ref sig .tc := ⟨.hbm, 82, rfl⟩
abbrev main_cst_2 : Ref sig .tc := ⟨.hbm, 83, rfl⟩
abbrev main_v8 : Ref sig .tc := ⟨.hbm, 84, rfl⟩
abbrev main_v9 : Ref sig .tc := ⟨.hbm, 85, rfl⟩
abbrev main_v10 : Ref sig .tc := ⟨.hbm, 86, rfl⟩
abbrev main_cst_3 : Ref sig .tc := ⟨.hbm, 87, rfl⟩
abbrev main_v11 : Ref sig .tc := ⟨.hbm, 88, rfl⟩
abbrev main_v12 : Ref sig .tc := ⟨.hbm, 89, rfl⟩
abbrev main_cst_4 : Ref sig .tc := ⟨.hbm, 90, rfl⟩
abbrev main_v13 : Ref sig .tc := ⟨.hbm, 91, rfl⟩
abbrev main_v14 : Ref sig .tc := ⟨.hbm, 92, rfl⟩
abbrev main_v15 : Ref sig .tc := ⟨.hbm, 93, rfl⟩
abbrev main_cst_5 : Ref sig .tc := ⟨.hbm, 94, rfl⟩
abbrev main_v16 : Ref sig .tc := ⟨.hbm, 95, rfl⟩
abbrev main_v17 : Ref sig .tc := ⟨.hbm, 96, rfl⟩
abbrev main_v18 : Ref sig .tc := ⟨.hbm, 97, rfl⟩
abbrev main_cst_6 : Ref sig .tc := ⟨.hbm, 98, rfl⟩
abbrev main_v19 : Ref sig .tc := ⟨.hbm, 99, rfl⟩
abbrev main_v20 : Ref sig .tc := ⟨.hbm, 100, rfl⟩
abbrev main_v21 : Ref sig .tc := ⟨.hbm, 101, rfl⟩
abbrev main_cst_7 : Ref sig .tc := ⟨.hbm, 102, rfl⟩
abbrev main_v22 : Ref sig .tc := ⟨.hbm, 103, rfl⟩
abbrev main_v23 : Ref sig .tc := ⟨.hbm, 104, rfl⟩
abbrev main_cst_8 : Ref sig .tc := ⟨.hbm, 105, rfl⟩
abbrev main_v24 : Ref sig .tc := ⟨.hbm, 106, rfl⟩
abbrev main_v25 : Ref sig .tc := ⟨.hbm, 107, rfl⟩
abbrev main_cst_9 : Ref sig .tc := ⟨.hbm, 108, rfl⟩
abbrev main_v26 : Ref sig .tc := ⟨.hbm, 109, rfl⟩
abbrev main_v27 : Ref sig .tc := ⟨.hbm, 110, rfl⟩
abbrev main_v28 : Ref sig .tc := ⟨.hbm, 111, rfl⟩
abbrev main_cst_10 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_cst_11 : Ref sig .tc := ⟨.hbm, 116, rfl⟩
abbrev main_v32 : Ref sig .tc := ⟨.hbm, 117, rfl⟩
abbrev main_v33 : Ref sig .tc := ⟨.hbm, 118, rfl⟩
abbrev main_v34 : Ref sig .tc := ⟨.hbm, 119, rfl⟩
abbrev main_cst_12 : Ref sig .tc := ⟨.hbm, 120, rfl⟩
abbrev main_v35 : Ref sig .tc := ⟨.hbm, 121, rfl⟩
abbrev main_v36 : Ref sig .tc := ⟨.hbm, 122, rfl⟩
abbrev main_cst_13 : Ref sig .tc := ⟨.hbm, 123, rfl⟩
abbrev main_v37 : Ref sig .tc := ⟨.hbm, 124, rfl⟩
abbrev main_v38 : Ref sig .tc := ⟨.hbm, 125, rfl⟩
abbrev main_v39 : Ref sig .tc := ⟨.hbm, 126, rfl⟩
abbrev main_cst_14 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_cst_15 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_cst_16 : Ref sig .tc := ⟨.hbm, 135, rfl⟩
abbrev main_v46 : Ref sig .tc := ⟨.hbm, 136, rfl⟩
abbrev main_v47 : Ref sig .tc := ⟨.hbm, 137, rfl⟩
abbrev main_cst_17 : Ref sig .tc := ⟨.hbm, 138, rfl⟩
abbrev main_v48 : Ref sig .tc := ⟨.hbm, 139, rfl⟩
abbrev main_v49 : Ref sig .tc := ⟨.hbm, 140, rfl⟩
abbrev main_cst_18 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_cst_19 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_cst_20 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_cst_21 : Ref sig .tc := ⟨.hbm, 153, rfl⟩
abbrev main_v59 : Ref sig .tc := ⟨.hbm, 154, rfl⟩
abbrev main_v60 : Ref sig .tc := ⟨.hbm, 155, rfl⟩
abbrev main_cst_22 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_cst_23 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_cst_24 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_cst_25 : Ref sig .tc := ⟨.hbm, 168, rfl⟩
abbrev main_v70 : Ref sig .tc := ⟨.hbm, 169, rfl⟩
abbrev main_v71 : Ref sig .tc := ⟨.hbm, 170, rfl⟩
abbrev main_cst_26 : Ref sig .tc := ⟨.hbm, 171, rfl⟩
abbrev main_v72 : Ref sig .tc := ⟨.hbm, 172, rfl⟩
abbrev main_v73 : Ref sig .tc := ⟨.hbm, 173, rfl⟩
abbrev main_cst_27 : Ref sig .tc := ⟨.hbm, 174, rfl⟩
abbrev main_v74 : Ref sig .tc := ⟨.hbm, 175, rfl⟩
abbrev main_v75 : Ref sig .tc := ⟨.hbm, 176, rfl⟩
abbrev main_v76 : Ref sig .tc := ⟨.hbm, 177, rfl⟩
abbrev main_cst_28 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_cst_29 : Ref sig .tc := ⟨.hbm, 182, rfl⟩
abbrev main_v80 : Ref sig .tc := ⟨.hbm, 183, rfl⟩
abbrev main_v81 : Ref sig .tc := ⟨.hbm, 184, rfl⟩
abbrev main_v82 : Ref sig .tc := ⟨.hbm, 185, rfl⟩
abbrev main_cst_30 : Ref sig .tc := ⟨.hbm, 186, rfl⟩
abbrev main_v83 : Ref sig .tc := ⟨.hbm, 187, rfl⟩
abbrev main_v84 : Ref sig .tc := ⟨.hbm, 188, rfl⟩
abbrev main_cst_31 : Ref sig .tc := ⟨.hbm, 189, rfl⟩
abbrev main_v85 : Ref sig .tc := ⟨.hbm, 190, rfl⟩
abbrev main_v86 : Ref sig .tc := ⟨.hbm, 191, rfl⟩
abbrev main_v87 : Ref sig .tc := ⟨.hbm, 192, rfl⟩
abbrev main_cst_32 : Ref sig .tc := ⟨.hbm, 193, rfl⟩
abbrev main_v88 : Ref sig .tc := ⟨.hbm, 194, rfl⟩
abbrev main_v89 : Ref sig .tc := ⟨.hbm, 195, rfl⟩
abbrev main_v90 : Ref sig .tc := ⟨.hbm, 196, rfl⟩
abbrev main_cst_33 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_cst_34 : Ref sig .tc := ⟨.hbm, 201, rfl⟩
abbrev main_v94 : Ref sig .tc := ⟨.hbm, 202, rfl⟩
abbrev main_v95 : Ref sig .tc := ⟨.hbm, 203, rfl⟩
abbrev main_cst_35 : Ref sig .tc := ⟨.hbm, 204, rfl⟩
abbrev main_v96 : Ref sig .tc := ⟨.hbm, 205, rfl⟩
abbrev main_v97 : Ref sig .tc := ⟨.hbm, 206, rfl⟩
abbrev main_cst_36 : Ref sig .tc := ⟨.hbm, 207, rfl⟩
abbrev main_v98 : Ref sig .tc := ⟨.hbm, 208, rfl⟩
abbrev main_v99 : Ref sig .tc := ⟨.hbm, 209, rfl⟩
abbrev main_v100 : Ref sig .tc := ⟨.hbm, 210, rfl⟩
abbrev main_cst_37 : Ref sig .tc := ⟨.hbm, 211, rfl⟩
abbrev main_v101 : Ref sig .tc := ⟨.hbm, 212, rfl⟩
abbrev main_v102 : Ref sig .tc := ⟨.hbm, 213, rfl⟩
abbrev main_v103 : Ref sig .tc := ⟨.hbm, 214, rfl⟩
abbrev main_cst_38 : Ref sig .tc := ⟨.hbm, 215, rfl⟩
abbrev main_v104 : Ref sig .tc := ⟨.hbm, 216, rfl⟩
abbrev main_v105 : Ref sig .tc := ⟨.hbm, 217, rfl⟩
abbrev main_v106 : Ref sig .tc := ⟨.hbm, 218, rfl⟩
abbrev main_cst_39 : Ref sig .tc := ⟨.hbm, 219, rfl⟩
abbrev main_v107 : Ref sig .tc := ⟨.hbm, 220, rfl⟩
abbrev main_v108 : Ref sig .tc := ⟨.hbm, 221, rfl⟩
abbrev main_cst_40 : Ref sig .tc := ⟨.hbm, 222, rfl⟩
abbrev main_v109 : Ref sig .tc := ⟨.hbm, 223, rfl⟩
abbrev main_v110 : Ref sig .tc := ⟨.hbm, 224, rfl⟩
abbrev main_v111 : Ref sig .tc := ⟨.hbm, 225, rfl⟩
abbrev main_cst_41 : Ref sig .tc := ⟨.hbm, 226, rfl⟩
abbrev main_v112 : Ref sig .tc := ⟨.hbm, 227, rfl⟩
abbrev main_v113 : Ref sig .tc := ⟨.hbm, 228, rfl⟩
abbrev main_v114 : Ref sig .tc := ⟨.hbm, 229, rfl⟩
abbrev main_cst_42 : Ref sig .tc := ⟨.hbm, 230, rfl⟩
abbrev main_v115 : Ref sig .tc := ⟨.hbm, 231, rfl⟩
abbrev main_v116 : Ref sig .tc := ⟨.hbm, 232, rfl⟩
abbrev main_v117 : Ref sig .tc := ⟨.hbm, 233, rfl⟩
abbrev main_cst_43 : Ref sig .tc := ⟨.hbm, 234, rfl⟩
abbrev main_v118 : Ref sig .tc := ⟨.hbm, 235, rfl⟩
abbrev main_v119 : Ref sig .tc := ⟨.hbm, 236, rfl⟩
abbrev main_cst_44 : Ref sig .tc := ⟨.hbm, 237, rfl⟩
abbrev main_v120 : Ref sig .tc := ⟨.hbm, 238, rfl⟩
abbrev main_v121 : Ref sig .tc := ⟨.hbm, 239, rfl⟩
abbrev main_cst_45 : Ref sig .tc := ⟨.hbm, 240, rfl⟩
abbrev main_v122 : Ref sig .tc := ⟨.hbm, 241, rfl⟩
abbrev main_v123 : Ref sig .tc := ⟨.hbm, 242, rfl⟩
abbrev main_v124 : Ref sig .tc := ⟨.hbm, 243, rfl⟩
abbrev main_cst_46 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_cst_47 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_cst_48 : Ref sig .tc := ⟨.hbm, 252, rfl⟩
abbrev main_v131 : Ref sig .tc := ⟨.hbm, 253, rfl⟩
abbrev main_v132 : Ref sig .tc := ⟨.hbm, 254, rfl⟩
abbrev main_cst_49 : Ref sig .tc := ⟨.hbm, 255, rfl⟩
abbrev main_v133 : Ref sig .tc := ⟨.hbm, 256, rfl⟩
abbrev main_v134 : Ref sig .tc := ⟨.hbm, 257, rfl⟩
abbrev main_v135 : Ref sig .tc := ⟨.hbm, 258, rfl⟩
abbrev main_cst_50 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_cst_51 : Ref sig .tc := ⟨.hbm, 263, rfl⟩
abbrev main_v139 : Ref sig .tc := ⟨.hbm, 264, rfl⟩
abbrev main_v140 : Ref sig .tc := ⟨.hbm, 265, rfl⟩
abbrev main_v141 : Ref sig .tc := ⟨.hbm, 266, rfl⟩
abbrev main_cst_52 : Ref sig .tc := ⟨.hbm, 267, rfl⟩
abbrev main_v142 : Ref sig .tc := ⟨.hbm, 268, rfl⟩
abbrev main_v143 : Ref sig .tc := ⟨.hbm, 269, rfl⟩
abbrev main_cst_53 : Ref sig .tc := ⟨.hbm, 270, rfl⟩
abbrev main_v144 : Ref sig .tc := ⟨.hbm, 271, rfl⟩
abbrev main_v145 : Ref sig .tc := ⟨.hbm, 272, rfl⟩
abbrev main_cst_54 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩
abbrev main_cst_55 : Ref sig .tc := ⟨.hbm, 277, rfl⟩
abbrev main_v149 : Ref sig .tc := ⟨.hbm, 278, rfl⟩
abbrev main_v150 : Ref sig .tc := ⟨.hbm, 279, rfl⟩
abbrev main_v151 : Ref sig .tc := ⟨.hbm, 280, rfl⟩
abbrev main_cst_56 : Ref sig .tc := ⟨.hbm, 281, rfl⟩
abbrev main_v152 : Ref sig .tc := ⟨.hbm, 282, rfl⟩
abbrev main_v153 : Ref sig .tc := ⟨.hbm, 283, rfl⟩
abbrev main_v154 : Ref sig .tc := ⟨.hbm, 284, rfl⟩
abbrev main_cst_57 : Ref sig .tc := ⟨.hbm, 285, rfl⟩
abbrev main_v155 : Ref sig .tc := ⟨.hbm, 286, rfl⟩
abbrev main_v156 : Ref sig .tc := ⟨.hbm, 287, rfl⟩
abbrev main_cst_58 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩
abbrev main_cst_59 : Ref sig .tc := ⟨.hbm, 292, rfl⟩
abbrev main_v160 : Ref sig .tc := ⟨.hbm, 293, rfl⟩
abbrev main_v161 : Ref sig .tc := ⟨.hbm, 294, rfl⟩
abbrev main_v162 : Ref sig .tc := ⟨.hbm, 295, rfl⟩
abbrev main_cst_60 : Ref sig .tc := ⟨.hbm, 296, rfl⟩
abbrev main_v163 : Ref sig .tc := ⟨.hbm, 297, rfl⟩
abbrev main_v164 : Ref sig .tc := ⟨.hbm, 298, rfl⟩
abbrev main_v165 : Ref sig .tc := ⟨.hbm, 299, rfl⟩
abbrev main_cst_61 : Ref sig .tc := ⟨.hbm, 300, rfl⟩
abbrev main_v166 : Ref sig .tc := ⟨.hbm, 301, rfl⟩
abbrev main_v167 : Ref sig .tc := ⟨.hbm, 302, rfl⟩
abbrev main_cst_62 : Ref sig .tc := ⟨.hbm, 303, rfl⟩
abbrev main_v168 : Ref sig .tc := ⟨.hbm, 304, rfl⟩
abbrev main_v169 : Ref sig .tc := ⟨.hbm, 305, rfl⟩
abbrev main_cst_63 : Ref sig .tc := ⟨.hbm, 306, rfl⟩
abbrev main_v170 : Ref sig .tc := ⟨.hbm, 307, rfl⟩
abbrev main_v171 : Ref sig .tc := ⟨.hbm, 308, rfl⟩
abbrev main_v172 : Ref sig .tc := ⟨.hbm, 309, rfl⟩
abbrev main_cst_64 : Ref sig .tc := ⟨.hbm, 310, rfl⟩
abbrev main_v173 : Ref sig .tc := ⟨.hbm, 311, rfl⟩
abbrev main_v174 : Ref sig .tc := ⟨.hbm, 312, rfl⟩
abbrev main_v175 : Ref sig .tc := ⟨.hbm, 313, rfl⟩
abbrev main_cst_65 : Ref sig .tc := ⟨.hbm, 314, rfl⟩
abbrev main_v176 : Ref sig .tc := ⟨.hbm, 315, rfl⟩
abbrev main_v177 : Ref sig .tc := ⟨.hbm, 316, rfl⟩
abbrev main_v178 : Ref sig .tc := ⟨.hbm, 317, rfl⟩
abbrev main_cst_66 : Ref sig .tc := ⟨.hbm, 318, rfl⟩
abbrev main_v179 : Ref sig .tc := ⟨.hbm, 319, rfl⟩
abbrev main_v180 : Ref sig .tc := ⟨.hbm, 320, rfl⟩
abbrev main_cst_67 : Ref sig .tc := ⟨.hbm, 321, rfl⟩
abbrev main_v181 : Ref sig .tc := ⟨.hbm, 322, rfl⟩
abbrev main_v182 : Ref sig .tc := ⟨.hbm, 323, rfl⟩
abbrev main_v183 : Ref sig .tc := ⟨.hbm, 324, rfl⟩
abbrev main_cst_68 : Ref sig .tc := ⟨.hbm, 325, rfl⟩
abbrev main_v184 : Ref sig .tc := ⟨.hbm, 326, rfl⟩
abbrev main_v185 : Ref sig .tc := ⟨.hbm, 327, rfl⟩
abbrev main_v186 : Ref sig .tc := ⟨.hbm, 328, rfl⟩
abbrev main_cst_69 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_cst_70 : Ref sig .tc := ⟨.hbm, 333, rfl⟩
abbrev main_v190 : Ref sig .tc := ⟨.hbm, 334, rfl⟩
abbrev main_v191 : Ref sig .tc := ⟨.hbm, 335, rfl⟩
abbrev main_cst_71 : Ref sig .tc := ⟨.hbm, 336, rfl⟩
abbrev main_v192 : Ref sig .tc := ⟨.hbm, 337, rfl⟩
abbrev main_v193 : Ref sig .tc := ⟨.hbm, 338, rfl⟩
abbrev main_cst_72 : Ref sig .tc := ⟨.hbm, 339, rfl⟩
abbrev main_v194 : Ref sig .tc := ⟨.hbm, 340, rfl⟩
abbrev main_v195 : Ref sig .tc := ⟨.hbm, 341, rfl⟩
abbrev main_v196 : Ref sig .tc := ⟨.hbm, 342, rfl⟩
abbrev main_cst_73 : Ref sig .tc := ⟨.hbm, 343, rfl⟩
abbrev main_v197 : Ref sig .tc := ⟨.hbm, 344, rfl⟩
abbrev main_v198 : Ref sig .tc := ⟨.hbm, 345, rfl⟩
abbrev main_v199 : Ref sig .tc := ⟨.hbm, 346, rfl⟩
abbrev main_cst_74 : Ref sig .tc := ⟨.hbm, 347, rfl⟩
abbrev main_v200 : Ref sig .tc := ⟨.hbm, 348, rfl⟩
abbrev main_v201 : Ref sig .tc := ⟨.hbm, 349, rfl⟩
abbrev main_v202 : Ref sig .tc := ⟨.hbm, 350, rfl⟩
abbrev main_cst_75 : Ref sig .tc := ⟨.hbm, 351, rfl⟩
abbrev main_v203 : Ref sig .tc := ⟨.hbm, 352, rfl⟩
abbrev main_v204 : Ref sig .tc := ⟨.hbm, 353, rfl⟩
abbrev main_cst_76 : Ref sig .tc := ⟨.hbm, 354, rfl⟩
abbrev main_v205 : Ref sig .tc := ⟨.hbm, 355, rfl⟩
abbrev main_v206 : Ref sig .tc := ⟨.hbm, 356, rfl⟩
abbrev main_v207 : Ref sig .tc := ⟨.hbm, 357, rfl⟩
abbrev main_cst_77 : Ref sig .tc := ⟨.hbm, 358, rfl⟩
abbrev main_v208 : Ref sig .tc := ⟨.hbm, 359, rfl⟩
abbrev main_v209 : Ref sig .tc := ⟨.hbm, 360, rfl⟩
abbrev main_v210 : Ref sig .tc := ⟨.hbm, 361, rfl⟩
abbrev main_cst_78 : Ref sig .tc := ⟨.hbm, 362, rfl⟩
abbrev main_v211 : Ref sig .tc := ⟨.hbm, 363, rfl⟩
abbrev main_v212 : Ref sig .tc := ⟨.hbm, 364, rfl⟩
abbrev main_v213 : Ref sig .tc := ⟨.hbm, 365, rfl⟩
abbrev main_cst_79 : Ref sig .tc := ⟨.hbm, 366, rfl⟩
abbrev main_v214 : Ref sig .tc := ⟨.hbm, 367, rfl⟩
abbrev main_v215 : Ref sig .tc := ⟨.hbm, 368, rfl⟩
abbrev main_cst_80 : Ref sig .tc := ⟨.hbm, 369, rfl⟩
abbrev main_v216 : Ref sig .tc := ⟨.hbm, 370, rfl⟩
abbrev main_v217 : Ref sig .tc := ⟨.hbm, 371, rfl⟩
abbrev main_cst_81 : Ref sig .tc := ⟨.hbm, 372, rfl⟩
abbrev main_v218 : Ref sig .tc := ⟨.hbm, 373, rfl⟩
abbrev main_v219 : Ref sig .tc := ⟨.hbm, 374, rfl⟩
abbrev main_v220 : Ref sig .tc := ⟨.hbm, 375, rfl⟩
abbrev main_cst_82 : Ref sig .tc := ⟨.hbm, 376, rfl⟩
abbrev main_v221 : Ref sig .tc := ⟨.hbm, 377, rfl⟩
abbrev main_v222 : Ref sig .tc := ⟨.hbm, 378, rfl⟩
abbrev main_v223 : Ref sig .tc := ⟨.hbm, 379, rfl⟩
abbrev main_cst_83 : Ref sig .tc := ⟨.hbm, 380, rfl⟩
abbrev main_v224 : Ref sig .tc := ⟨.hbm, 381, rfl⟩
abbrev main_v225 : Ref sig .tc := ⟨.hbm, 382, rfl⟩
abbrev main_v226 : Ref sig .tc := ⟨.hbm, 383, rfl⟩
abbrev main_cst_84 : Ref sig .tc := ⟨.hbm, 384, rfl⟩
abbrev main_v227 : Ref sig .tc := ⟨.hbm, 385, rfl⟩
abbrev main_v228 : Ref sig .tc := ⟨.hbm, 386, rfl⟩
abbrev main_cst_85 : Ref sig .tc := ⟨.hbm, 387, rfl⟩
abbrev main_v229 : Ref sig .tc := ⟨.hbm, 388, rfl⟩
abbrev main_v230 : Ref sig .tc := ⟨.hbm, 389, rfl⟩
abbrev main_v231 : Ref sig .tc := ⟨.hbm, 390, rfl⟩
abbrev main_cst_86 : Ref sig .tc := ⟨.hbm, 391, rfl⟩
abbrev main_v232 : Ref sig .tc := ⟨.hbm, 392, rfl⟩
abbrev main_v233 : Ref sig .tc := ⟨.hbm, 393, rfl⟩
abbrev main_v234 : Ref sig .tc := ⟨.hbm, 394, rfl⟩
abbrev main_cst_87 : Ref sig .tc := ⟨.hbm, 395, rfl⟩
abbrev main_v235 : Ref sig .tc := ⟨.hbm, 396, rfl⟩
abbrev main_v236 : Ref sig .tc := ⟨.hbm, 397, rfl⟩
abbrev main_v237 : Ref sig .tc := ⟨.hbm, 398, rfl⟩
abbrev main_cst_88 : Ref sig .tc := ⟨.hbm, 399, rfl⟩
abbrev main_v238 : Ref sig .tc := ⟨.hbm, 400, rfl⟩
abbrev main_v239 : Ref sig .tc := ⟨.hbm, 401, rfl⟩
abbrev main_cst_89 : Ref sig .tc := ⟨.hbm, 402, rfl⟩
abbrev main_v240 : Ref sig .tc := ⟨.hbm, 403, rfl⟩
abbrev main_v241 : Ref sig .tc := ⟨.hbm, 404, rfl⟩
abbrev main_cst_90 : Ref sig .tc := ⟨.hbm, 405, rfl⟩
abbrev main_v242 : Ref sig .tc := ⟨.hbm, 406, rfl⟩
abbrev main_v243 : Ref sig .tc := ⟨.hbm, 407, rfl⟩
abbrev main_v244 : Ref sig .tc := ⟨.hbm, 408, rfl⟩
abbrev main_cst_91 : Ref sig .tc := ⟨.hbm, 409, rfl⟩
abbrev main_v245 : Ref sig .tc := ⟨.hbm, 410, rfl⟩
abbrev main_v246 : Ref sig .tc := ⟨.hbm, 411, rfl⟩
abbrev main_v247 : Ref sig .tc := ⟨.hbm, 412, rfl⟩
abbrev main_cst_92 : Ref sig .tc := ⟨.hbm, 413, rfl⟩
abbrev main_v248 : Ref sig .tc := ⟨.hbm, 414, rfl⟩
abbrev main_v249 : Ref sig .tc := ⟨.hbm, 415, rfl⟩
abbrev main_v250 : Ref sig .tc := ⟨.hbm, 416, rfl⟩
abbrev main_cst_93 : Ref sig .tc := ⟨.hbm, 417, rfl⟩
abbrev main_v251 : Ref sig .tc := ⟨.hbm, 418, rfl⟩
abbrev main_v252 : Ref sig .tc := ⟨.hbm, 419, rfl⟩
abbrev main_cst_94 : Ref sig .tc := ⟨.hbm, 420, rfl⟩
abbrev main_v253 : Ref sig .tc := ⟨.hbm, 421, rfl⟩
abbrev main_v254 : Ref sig .tc := ⟨.hbm, 422, rfl⟩
abbrev main_v255 : Ref sig .tc := ⟨.hbm, 423, rfl⟩
abbrev main_cst_95 : Ref sig .tc := ⟨.hbm, 424, rfl⟩
abbrev main_v256 : Ref sig .tc := ⟨.hbm, 425, rfl⟩
abbrev main_v257 : Ref sig .tc := ⟨.hbm, 426, rfl⟩
abbrev main_v258 : Ref sig .tc := ⟨.hbm, 427, rfl⟩
abbrev main_cst_96 : Ref sig .tc := ⟨.hbm, 428, rfl⟩
abbrev main_v259 : Ref sig .tc := ⟨.hbm, 429, rfl⟩
abbrev main_v260 : Ref sig .tc := ⟨.hbm, 430, rfl⟩
abbrev main_v261 : Ref sig .tc := ⟨.hbm, 431, rfl⟩
abbrev main_cst_97 : Ref sig .tc := ⟨.hbm, 432, rfl⟩
abbrev main_v262 : Ref sig .tc := ⟨.hbm, 433, rfl⟩
abbrev main_v263 : Ref sig .tc := ⟨.hbm, 434, rfl⟩
abbrev main_cst_98 : Ref sig .tc := ⟨.hbm, 435, rfl⟩
abbrev main_v264 : Ref sig .tc := ⟨.hbm, 436, rfl⟩
abbrev main_v265 : Ref sig .tc := ⟨.hbm, 437, rfl⟩
abbrev main_cst_99 : Ref sig .tc := ⟨.hbm, 438, rfl⟩
abbrev main_v266 : Ref sig .tc := ⟨.hbm, 439, rfl⟩
abbrev main_v267 : Ref sig .tc := ⟨.hbm, 440, rfl⟩
abbrev main_v268 : Ref sig .tc := ⟨.hbm, 441, rfl⟩
abbrev main_cst_100 : Ref sig .tc := ⟨.hbm, 442, rfl⟩
abbrev main_v269 : Ref sig .tc := ⟨.hbm, 443, rfl⟩
abbrev main_v270 : Ref sig .tc := ⟨.hbm, 444, rfl⟩
abbrev main_v271 : Ref sig .tc := ⟨.hbm, 445, rfl⟩
abbrev main_cst_101 : Ref sig .tc := ⟨.hbm, 446, rfl⟩
abbrev main_v272 : Ref sig .tc := ⟨.hbm, 447, rfl⟩
abbrev main_v273 : Ref sig .tc := ⟨.hbm, 448, rfl⟩
abbrev main_v274 : Ref sig .tc := ⟨.hbm, 449, rfl⟩
abbrev main_cst_102 : Ref sig .tc := ⟨.hbm, 450, rfl⟩
abbrev main_v275 : Ref sig .tc := ⟨.hbm, 451, rfl⟩
abbrev main_v276 : Ref sig .tc := ⟨.hbm, 452, rfl⟩
abbrev main_cst_103 : Ref sig .tc := ⟨.hbm, 453, rfl⟩
abbrev main_v277 : Ref sig .tc := ⟨.hbm, 454, rfl⟩
abbrev main_v278 : Ref sig .tc := ⟨.hbm, 455, rfl⟩
abbrev main_v279 : Ref sig .tc := ⟨.hbm, 456, rfl⟩
abbrev main_cst_104 : Ref sig .tc := ⟨.hbm, 457, rfl⟩
abbrev main_v280 : Ref sig .tc := ⟨.hbm, 458, rfl⟩
abbrev main_v281 : Ref sig .tc := ⟨.hbm, 459, rfl⟩
abbrev main_v282 : Ref sig .tc := ⟨.hbm, 460, rfl⟩
abbrev main_cst_105 : Ref sig .tc := ⟨.hbm, 461, rfl⟩
abbrev main_v283 : Ref sig .tc := ⟨.hbm, 462, rfl⟩
abbrev main_v284 : Ref sig .tc := ⟨.hbm, 463, rfl⟩
abbrev main_v285 : Ref sig .tc := ⟨.hbm, 464, rfl⟩
abbrev main_cst_106 : Ref sig .tc := ⟨.hbm, 465, rfl⟩
abbrev main_v286 : Ref sig .tc := ⟨.hbm, 466, rfl⟩
abbrev main_v287 : Ref sig .tc := ⟨.hbm, 467, rfl⟩
abbrev main_cst_107 : Ref sig .tc := ⟨.hbm, 468, rfl⟩
abbrev main_v288 : Ref sig .tc := ⟨.hbm, 469, rfl⟩
abbrev main_v289 : Ref sig .tc := ⟨.hbm, 470, rfl⟩
abbrev main_cst_108 : Ref sig .tc := ⟨.hbm, 471, rfl⟩
abbrev main_v290 : Ref sig .tc := ⟨.hbm, 472, rfl⟩
abbrev main_v291 : Ref sig .tc := ⟨.hbm, 473, rfl⟩
abbrev main_v292 : Ref sig .tc := ⟨.hbm, 474, rfl⟩
abbrev main_cst_109 : Ref sig .tc := ⟨.hbm, 475, rfl⟩
abbrev main_v293 : Ref sig .tc := ⟨.hbm, 476, rfl⟩
abbrev main_v294 : Ref sig .tc := ⟨.hbm, 477, rfl⟩
abbrev main_v295 : Ref sig .tc := ⟨.hbm, 478, rfl⟩
abbrev main_cst_110 : Ref sig .tc := ⟨.hbm, 479, rfl⟩
abbrev main_v296 : Ref sig .tc := ⟨.hbm, 480, rfl⟩
abbrev main_v297 : Ref sig .tc := ⟨.hbm, 481, rfl⟩
abbrev main_v298 : Ref sig .tc := ⟨.hbm, 482, rfl⟩
abbrev main_cst_111 : Ref sig .tc := ⟨.hbm, 483, rfl⟩
abbrev main_v299 : Ref sig .tc := ⟨.hbm, 484, rfl⟩
abbrev main_v300 : Ref sig .tc := ⟨.hbm, 485, rfl⟩
abbrev main_cst_112 : Ref sig .tc := ⟨.hbm, 486, rfl⟩
abbrev main_v301 : Ref sig .tc := ⟨.hbm, 487, rfl⟩
abbrev main_v302 : Ref sig .tc := ⟨.hbm, 488, rfl⟩
abbrev main_v303 : Ref sig .tc := ⟨.hbm, 489, rfl⟩
abbrev main_cst_113 : Ref sig .tc := ⟨.hbm, 490, rfl⟩
abbrev main_v304 : Ref sig .tc := ⟨.hbm, 491, rfl⟩
abbrev main_v305 : Ref sig .tc := ⟨.hbm, 492, rfl⟩
abbrev main_v306 : Ref sig .tc := ⟨.hbm, 493, rfl⟩
abbrev main_cst_114 : Ref sig .tc := ⟨.hbm, 494, rfl⟩
abbrev main_v307 : Ref sig .tc := ⟨.hbm, 495, rfl⟩
abbrev main_v308 : Ref sig .tc := ⟨.hbm, 496, rfl⟩
abbrev main_v309 : Ref sig .tc := ⟨.hbm, 497, rfl⟩
abbrev main_cst_115 : Ref sig .tc := ⟨.hbm, 498, rfl⟩
abbrev main_v310 : Ref sig .tc := ⟨.hbm, 499, rfl⟩
abbrev main_v311 : Ref sig .tc := ⟨.hbm, 500, rfl⟩
abbrev main_cst_116 : Ref sig .tc := ⟨.hbm, 501, rfl⟩
abbrev main_v312 : Ref sig .tc := ⟨.hbm, 502, rfl⟩
abbrev main_v313 : Ref sig .tc := ⟨.hbm, 503, rfl⟩
abbrev main_cst_117 : Ref sig .tc := ⟨.hbm, 504, rfl⟩
abbrev main_v314 : Ref sig .tc := ⟨.hbm, 505, rfl⟩
abbrev main_v315 : Ref sig .tc := ⟨.hbm, 506, rfl⟩
abbrev main_v316 : Ref sig .tc := ⟨.hbm, 507, rfl⟩
abbrev main_cst_118 : Ref sig .tc := ⟨.hbm, 508, rfl⟩
abbrev main_v317 : Ref sig .tc := ⟨.hbm, 509, rfl⟩
abbrev main_v318 : Ref sig .tc := ⟨.hbm, 510, rfl⟩
abbrev main_v319 : Ref sig .tc := ⟨.hbm, 511, rfl⟩
abbrev main_cst_119 : Ref sig .tc := ⟨.hbm, 512, rfl⟩
abbrev main_v320 : Ref sig .tc := ⟨.hbm, 513, rfl⟩
abbrev main_v321 : Ref sig .tc := ⟨.hbm, 514, rfl⟩
abbrev main_v322 : Ref sig .tc := ⟨.hbm, 515, rfl⟩
abbrev main_cst_120 : Ref sig .tc := ⟨.hbm, 516, rfl⟩
abbrev main_v323 : Ref sig .tc := ⟨.hbm, 517, rfl⟩
abbrev main_v324 : Ref sig .tc := ⟨.hbm, 518, rfl⟩
abbrev main_cst_121 : Ref sig .tc := ⟨.hbm, 519, rfl⟩
abbrev main_v325 : Ref sig .tc := ⟨.hbm, 520, rfl⟩
abbrev main_v326 : Ref sig .tc := ⟨.hbm, 521, rfl⟩
abbrev main_v327 : Ref sig .tc := ⟨.hbm, 522, rfl⟩
abbrev main_cst_122 : Ref sig .tc := ⟨.hbm, 523, rfl⟩
abbrev main_v328 : Ref sig .tc := ⟨.hbm, 524, rfl⟩
abbrev main_v329 : Ref sig .tc := ⟨.hbm, 525, rfl⟩
abbrev main_v330 : Ref sig .tc := ⟨.hbm, 526, rfl⟩
abbrev main_cst_123 : Ref sig .tc := ⟨.hbm, 527, rfl⟩
abbrev main_v331 : Ref sig .tc := ⟨.hbm, 528, rfl⟩
abbrev main_v332 : Ref sig .tc := ⟨.hbm, 529, rfl⟩
abbrev main_v333 : Ref sig .tc := ⟨.hbm, 530, rfl⟩
abbrev main_cst_124 : Ref sig .tc := ⟨.hbm, 531, rfl⟩
abbrev main_v334 : Ref sig .tc := ⟨.hbm, 532, rfl⟩
abbrev main_v335 : Ref sig .tc := ⟨.hbm, 533, rfl⟩
abbrev main_cst_125 : Ref sig .tc := ⟨.hbm, 534, rfl⟩
abbrev main_v336 : Ref sig .tc := ⟨.hbm, 535, rfl⟩
abbrev main_v337 : Ref sig .tc := ⟨.hbm, 536, rfl⟩
abbrev main_cst_126 : Ref sig .tc := ⟨.hbm, 537, rfl⟩
abbrev main_v338 : Ref sig .tc := ⟨.hbm, 538, rfl⟩
abbrev main_v339 : Ref sig .tc := ⟨.hbm, 539, rfl⟩
abbrev main_v340 : Ref sig .tc := ⟨.hbm, 540, rfl⟩
abbrev main_cst_127 : Ref sig .tc := ⟨.hbm, 541, rfl⟩
abbrev main_v341 : Ref sig .tc := ⟨.hbm, 542, rfl⟩
abbrev main_v342 : Ref sig .tc := ⟨.hbm, 543, rfl⟩
abbrev main_v343 : Ref sig .tc := ⟨.hbm, 544, rfl⟩
abbrev main_cst_128 : Ref sig .tc := ⟨.hbm, 545, rfl⟩
abbrev main_v344 : Ref sig .tc := ⟨.hbm, 546, rfl⟩
abbrev main_v345 : Ref sig .tc := ⟨.hbm, 547, rfl⟩
abbrev main_v346 : Ref sig .tc := ⟨.hbm, 548, rfl⟩
abbrev main_cst_129 : Ref sig .tc := ⟨.hbm, 549, rfl⟩
abbrev main_v347 : Ref sig .tc := ⟨.hbm, 550, rfl⟩
abbrev main_v348 : Ref sig .tc := ⟨.hbm, 551, rfl⟩
abbrev main_cst_130 : Ref sig .tc := ⟨.hbm, 552, rfl⟩
abbrev main_v349 : Ref sig .tc := ⟨.hbm, 553, rfl⟩
abbrev main_v350 : Ref sig .tc := ⟨.hbm, 554, rfl⟩
abbrev main_v351 : Ref sig .tc := ⟨.hbm, 555, rfl⟩
abbrev main_cst_131 : Ref sig .tc := ⟨.hbm, 556, rfl⟩
abbrev main_v352 : Ref sig .tc := ⟨.hbm, 557, rfl⟩
abbrev main_v353 : Ref sig .tc := ⟨.hbm, 558, rfl⟩
abbrev main_v354 : Ref sig .tc := ⟨.hbm, 559, rfl⟩
abbrev main_cst_132 : Ref sig .tc := ⟨.hbm, 560, rfl⟩
abbrev main_v355 : Ref sig .tc := ⟨.hbm, 561, rfl⟩
abbrev main_v356 : Ref sig .tc := ⟨.hbm, 562, rfl⟩
abbrev main_v357 : Ref sig .tc := ⟨.hbm, 563, rfl⟩
abbrev main_cst_133 : Ref sig .tc := ⟨.hbm, 564, rfl⟩
abbrev main_v358 : Ref sig .tc := ⟨.hbm, 565, rfl⟩
abbrev main_v359 : Ref sig .tc := ⟨.hbm, 566, rfl⟩
abbrev main_cst_134 : Ref sig .tc := ⟨.hbm, 567, rfl⟩
abbrev main_v360 : Ref sig .tc := ⟨.hbm, 568, rfl⟩
abbrev main_v361 : Ref sig .tc := ⟨.hbm, 569, rfl⟩
abbrev main_cst_135 : Ref sig .tc := ⟨.hbm, 570, rfl⟩
abbrev main_v362 : Ref sig .tc := ⟨.hbm, 571, rfl⟩
abbrev main_v363 : Ref sig .tc := ⟨.hbm, 572, rfl⟩
abbrev main_v364 : Ref sig .tc := ⟨.hbm, 573, rfl⟩
abbrev main_cst_136 : Ref sig .tc := ⟨.hbm, 574, rfl⟩
abbrev main_v365 : Ref sig .tc := ⟨.hbm, 575, rfl⟩
abbrev main_v366 : Ref sig .tc := ⟨.hbm, 576, rfl⟩
abbrev main_v367 : Ref sig .tc := ⟨.hbm, 577, rfl⟩
abbrev main_cst_137 : Ref sig .tc := ⟨.hbm, 578, rfl⟩
abbrev main_v368 : Ref sig .tc := ⟨.hbm, 579, rfl⟩
abbrev main_v369 : Ref sig .tc := ⟨.hbm, 580, rfl⟩
abbrev main_v370 : Ref sig .tc := ⟨.hbm, 581, rfl⟩
abbrev main_cst_138 : Ref sig .tc := ⟨.hbm, 582, rfl⟩
abbrev main_v371 : Ref sig .tc := ⟨.hbm, 583, rfl⟩
abbrev main_v372 : Ref sig .tc := ⟨.hbm, 584, rfl⟩
abbrev main_cst_139 : Ref sig .tc := ⟨.hbm, 585, rfl⟩
abbrev main_v373 : Ref sig .tc := ⟨.hbm, 586, rfl⟩
abbrev main_v374 : Ref sig .tc := ⟨.hbm, 587, rfl⟩
abbrev main_v375 : Ref sig .tc := ⟨.hbm, 588, rfl⟩
abbrev main_cst_140 : Ref sig .tc := ⟨.hbm, 589, rfl⟩
abbrev main_v376 : Ref sig .tc := ⟨.hbm, 590, rfl⟩
abbrev main_v377 : Ref sig .tc := ⟨.hbm, 591, rfl⟩
abbrev main_v378 : Ref sig .tc := ⟨.hbm, 592, rfl⟩
abbrev main_cst_141 : Ref sig .tc := ⟨.hbm, 593, rfl⟩
abbrev main_v379 : Ref sig .tc := ⟨.hbm, 594, rfl⟩
abbrev main_v380 : Ref sig .tc := ⟨.hbm, 595, rfl⟩
abbrev main_v381 : Ref sig .tc := ⟨.hbm, 596, rfl⟩
abbrev main_cst_142 : Ref sig .tc := ⟨.hbm, 597, rfl⟩
abbrev main_v382 : Ref sig .tc := ⟨.hbm, 598, rfl⟩
abbrev main_v383 : Ref sig .tc := ⟨.hbm, 599, rfl⟩
abbrev main_cst_143 : Ref sig .tc := ⟨.hbm, 600, rfl⟩
abbrev main_v384 : Ref sig .tc := ⟨.hbm, 601, rfl⟩
abbrev main_v385 : Ref sig .tc := ⟨.hbm, 602, rfl⟩
abbrev main_cst_144 : Ref sig .tc := ⟨.hbm, 603, rfl⟩
abbrev main_v386 : Ref sig .tc := ⟨.hbm, 604, rfl⟩
abbrev main_v387 : Ref sig .tc := ⟨.hbm, 605, rfl⟩
abbrev main_v388 : Ref sig .tc := ⟨.hbm, 606, rfl⟩
abbrev main_cst_145 : Ref sig .tc := ⟨.hbm, 607, rfl⟩
abbrev main_v389 : Ref sig .tc := ⟨.hbm, 608, rfl⟩
abbrev main_v390 : Ref sig .tc := ⟨.hbm, 609, rfl⟩
abbrev main_v391 : Ref sig .tc := ⟨.hbm, 610, rfl⟩
abbrev main_cst_146 : Ref sig .tc := ⟨.hbm, 611, rfl⟩
abbrev main_v392 : Ref sig .tc := ⟨.hbm, 612, rfl⟩
abbrev main_v393 : Ref sig .tc := ⟨.hbm, 613, rfl⟩
abbrev main_v394 : Ref sig .tc := ⟨.hbm, 614, rfl⟩
abbrev main_cst_147 : Ref sig .tc := ⟨.hbm, 615, rfl⟩
abbrev main_v395 : Ref sig .tc := ⟨.hbm, 616, rfl⟩
abbrev main_v396 : Ref sig .tc := ⟨.hbm, 617, rfl⟩
abbrev main_cst_148 : Ref sig .tc := ⟨.hbm, 618, rfl⟩
abbrev main_v397 : Ref sig .tc := ⟨.hbm, 619, rfl⟩
abbrev main_v398 : Ref sig .tc := ⟨.hbm, 620, rfl⟩
abbrev main_v399 : Ref sig .tc := ⟨.hbm, 621, rfl⟩
abbrev main_cst_149 : Ref sig .tc := ⟨.hbm, 622, rfl⟩
abbrev main_v400 : Ref sig .tc := ⟨.hbm, 623, rfl⟩
abbrev main_v401 : Ref sig .tc := ⟨.hbm, 624, rfl⟩
abbrev main_v402 : Ref sig .tc := ⟨.hbm, 625, rfl⟩
abbrev main_cst_150 : Ref sig .tc := ⟨.hbm, 626, rfl⟩
abbrev main_v403 : Ref sig .tc := ⟨.hbm, 627, rfl⟩
abbrev main_v404 : Ref sig .tc := ⟨.hbm, 628, rfl⟩
abbrev main_v405 : Ref sig .tc := ⟨.hbm, 629, rfl⟩
abbrev main_cst_151 : Ref sig .tc := ⟨.hbm, 630, rfl⟩
abbrev main_v406 : Ref sig .tc := ⟨.hbm, 631, rfl⟩
abbrev main_v407 : Ref sig .tc := ⟨.hbm, 632, rfl⟩
abbrev main_cst_152 : Ref sig .tc := ⟨.hbm, 633, rfl⟩
abbrev main_v408 : Ref sig .tc := ⟨.hbm, 634, rfl⟩
abbrev main_v409 : Ref sig .tc := ⟨.hbm, 635, rfl⟩
abbrev main_cst_153 : Ref sig .tc := ⟨.hbm, 636, rfl⟩
abbrev main_v410 : Ref sig .tc := ⟨.hbm, 637, rfl⟩
abbrev main_v411 : Ref sig .tc := ⟨.hbm, 638, rfl⟩
abbrev main_v412 : Ref sig .tc := ⟨.hbm, 639, rfl⟩
abbrev main_cst_154 : Ref sig .tc := ⟨.hbm, 640, rfl⟩
abbrev main_v413 : Ref sig .tc := ⟨.hbm, 641, rfl⟩
abbrev main_v414 : Ref sig .tc := ⟨.hbm, 642, rfl⟩
abbrev main_v415 : Ref sig .tc := ⟨.hbm, 643, rfl⟩
abbrev main_cst_155 : Ref sig .tc := ⟨.hbm, 644, rfl⟩
abbrev main_v416 : Ref sig .tc := ⟨.hbm, 645, rfl⟩
abbrev main_v417 : Ref sig .tc := ⟨.hbm, 646, rfl⟩
abbrev main_v418 : Ref sig .tc := ⟨.hbm, 647, rfl⟩
abbrev main_cst_156 : Ref sig .tc := ⟨.hbm, 648, rfl⟩
abbrev main_v419 : Ref sig .tc := ⟨.hbm, 649, rfl⟩
abbrev main_v420 : Ref sig .tc := ⟨.hbm, 650, rfl⟩
abbrev main_cst_157 : Ref sig .tc := ⟨.hbm, 651, rfl⟩
abbrev main_v421 : Ref sig .tc := ⟨.hbm, 652, rfl⟩
abbrev main_v422 : Ref sig .tc := ⟨.hbm, 653, rfl⟩
abbrev main_v423 : Ref sig .tc := ⟨.hbm, 654, rfl⟩
abbrev main_cst_158 : Ref sig .tc := ⟨.hbm, 655, rfl⟩
abbrev main_v424 : Ref sig .tc := ⟨.hbm, 656, rfl⟩
abbrev main_v425 : Ref sig .tc := ⟨.hbm, 657, rfl⟩
abbrev main_v426 : Ref sig .tc := ⟨.hbm, 658, rfl⟩
abbrev main_cst_159 : Ref sig .tc := ⟨.hbm, 659, rfl⟩
abbrev main_v427 : Ref sig .tc := ⟨.hbm, 660, rfl⟩
abbrev main_v428 : Ref sig .tc := ⟨.hbm, 661, rfl⟩
abbrev main_v429 : Ref sig .tc := ⟨.hbm, 662, rfl⟩
abbrev main_cst_160 : Ref sig .tc := ⟨.hbm, 663, rfl⟩
abbrev main_v430 : Ref sig .tc := ⟨.hbm, 664, rfl⟩
abbrev main_v431 : Ref sig .tc := ⟨.hbm, 665, rfl⟩
abbrev main_v432 : Ref sig .tc := ⟨.hbm, 666, rfl⟩
abbrev main_v433 : Ref sig .tc := ⟨.hbm, 667, rfl⟩
abbrev main_v434 : Ref sig .tc := ⟨.hbm, 668, rfl⟩
abbrev main_v435 : Ref sig .tc := ⟨.hbm, 669, rfl⟩
abbrev main_v436 : Ref sig .tc := ⟨.hbm, 670, rfl⟩
abbrev main_v437 : Ref sig .tc := ⟨.hbm, 671, rfl⟩
abbrev main_v438 : Ref sig .tc := ⟨.hbm, 672, rfl⟩
abbrev main_v439 : Ref sig .tc := ⟨.hbm, 673, rfl⟩
abbrev main_v440 : Ref sig .tc := ⟨.hbm, 674, rfl⟩
abbrev main_v441 : Ref sig .tc := ⟨.hbm, 675, rfl⟩
abbrev main_v442 : Ref sig .tc := ⟨.hbm, 676, rfl⟩
abbrev main_v443 : Ref sig .tc := ⟨.hbm, 677, rfl⟩
abbrev main_v444 : Ref sig .tc := ⟨.hbm, 678, rfl⟩
abbrev main_v445 : Ref sig .tc := ⟨.hbm, 679, rfl⟩
abbrev main_v446 : Ref sig .tc := ⟨.hbm, 680, rfl⟩
abbrev main_v447 : Ref sig .tc := ⟨.hbm, 681, rfl⟩
abbrev main_v448 : Ref sig .tc := ⟨.hbm, 682, rfl⟩
abbrev main_v449 : Ref sig .tc := ⟨.hbm, 683, rfl⟩
abbrev main_v450 : Ref sig .tc := ⟨.hbm, 684, rfl⟩
abbrev main_v451 : Ref sig .tc := ⟨.hbm, 685, rfl⟩
abbrev main_v452 : Ref sig .tc := ⟨.hbm, 686, rfl⟩
abbrev main_c : Ref sig .tc := ⟨.hbm, 687, rfl⟩
abbrev main_call0_v0 : Ref sig .tc := ⟨.hbm, 688, rfl⟩
abbrev main_v453 : Ref sig .tc := ⟨.hbm, 689, rfl⟩
abbrev main_v454 : Ref sig .tc := ⟨.hbm, 690, rfl⟩
abbrev main_v455 : Ref sig .tc := ⟨.hbm, 691, rfl⟩
abbrev main_v456 : Ref sig .tc := ⟨.hbm, 692, rfl⟩
abbrev main_v457 : Ref sig .tc := ⟨.hbm, 693, rfl⟩
abbrev main_v458 : Ref sig .tc := ⟨.hbm, 694, rfl⟩
abbrev main_v459 : Ref sig .tc := ⟨.hbm, 695, rfl⟩
abbrev main_v460 : Ref sig .tc := ⟨.hbm, 696, rfl⟩
abbrev main_v461 : Ref sig .tc := ⟨.hbm, 697, rfl⟩
abbrev main_v462 : Ref sig .tc := ⟨.hbm, 698, rfl⟩
abbrev main_v463 : Ref sig .tc := ⟨.hbm, 699, rfl⟩
abbrev main_v464 : Ref sig .tc := ⟨.hbm, 700, rfl⟩
abbrev main_v465 : Ref sig .tc := ⟨.hbm, 701, rfl⟩
abbrev main_v466 : Ref sig .tc := ⟨.hbm, 702, rfl⟩
abbrev main_v467 : Ref sig .tc := ⟨.hbm, 703, rfl⟩
abbrev main_v468 : Ref sig .tc := ⟨.hbm, 704, rfl⟩
abbrev main_v469 : Ref sig .tc := ⟨.hbm, 705, rfl⟩
abbrev main_v470 : Ref sig .tc := ⟨.hbm, 706, rfl⟩
abbrev main_v471 : Ref sig .tc := ⟨.hbm, 707, rfl⟩
abbrev main_v472 : Ref sig .tc := ⟨.hbm, 708, rfl⟩
abbrev main_v473 : Ref sig .tc := ⟨.hbm, 709, rfl⟩
abbrev main_v474 : Ref sig .tc := ⟨.hbm, 710, rfl⟩
abbrev main_v475 : Ref sig .tc := ⟨.hbm, 711, rfl⟩
abbrev main_c_161 : Ref sig .tc := ⟨.hbm, 712, rfl⟩
abbrev main_call1_v0 : Ref sig .tc := ⟨.hbm, 713, rfl⟩
abbrev main_v476 : Ref sig .tc := ⟨.hbm, 714, rfl⟩
abbrev main_v477 : Ref sig .tc := ⟨.hbm, 715, rfl⟩
abbrev main_v478 : Ref sig .tc := ⟨.hbm, 716, rfl⟩
abbrev main_v479 : Ref sig .tc := ⟨.hbm, 717, rfl⟩
abbrev main_v480 : Ref sig .tc := ⟨.hbm, 718, rfl⟩
abbrev main_v481 : Ref sig .tc := ⟨.hbm, 719, rfl⟩
abbrev main_v482 : Ref sig .tc := ⟨.hbm, 720, rfl⟩
abbrev main_v483 : Ref sig .tc := ⟨.hbm, 721, rfl⟩
abbrev main_v484 : Ref sig .tc := ⟨.hbm, 722, rfl⟩
abbrev main_v485 : Ref sig .tc := ⟨.hbm, 723, rfl⟩
abbrev main_v486 : Ref sig .tc := ⟨.hbm, 724, rfl⟩
abbrev main_v487 : Ref sig .tc := ⟨.hbm, 725, rfl⟩
abbrev main_v488 : Ref sig .tc := ⟨.hbm, 726, rfl⟩
abbrev main_v489 : Ref sig .tc := ⟨.hbm, 727, rfl⟩
abbrev main_v490 : Ref sig .tc := ⟨.hbm, 728, rfl⟩
abbrev main_v491 : Ref sig .tc := ⟨.hbm, 729, rfl⟩
abbrev main_v492 : Ref sig .tc := ⟨.hbm, 730, rfl⟩
abbrev main_v493 : Ref sig .tc := ⟨.hbm, 731, rfl⟩
abbrev main_v494 : Ref sig .tc := ⟨.hbm, 732, rfl⟩
abbrev main_v495 : Ref sig .tc := ⟨.hbm, 733, rfl⟩
abbrev main_v496 : Ref sig .tc := ⟨.hbm, 734, rfl⟩
abbrev main_v497 : Ref sig .tc := ⟨.hbm, 735, rfl⟩
abbrev main_v498 : Ref sig .tc := ⟨.hbm, 736, rfl⟩
abbrev main_c_162 : Ref sig .tc := ⟨.hbm, 737, rfl⟩
abbrev main_call2_v0 : Ref sig .tc := ⟨.hbm, 738, rfl⟩
abbrev main_v499 : Ref sig .tc := ⟨.hbm, 739, rfl⟩
abbrev main_v500 : Ref sig .tc := ⟨.hbm, 740, rfl⟩

abbrev nD : Nat := 1
abbrev τ : Topo := Topo.v7x

variable {F : FTy → Type} [FloatOps F]
-- ==== LossHead.lean ====
abbrev S16384x1024 : Shape := ⟨2, ![16384, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossHeadRefIdeal.lean ====
abbrev S16384x1024 : Shape := ⟨2, ![16384, 1024]⟩
abbrev S_ : Shape := ⟨0, ![]⟩
abbrev S16384 : Shape := ⟨1, ![16384]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1024, .f32⟩
  | .hbm, ⟨24, _⟩ => ⟨S16384x1024, .f32⟩
  | .hbm, ⟨25, _⟩ => ⟨S1x1, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== SumIn.lean ====
abbrev S512x512 : Shape := ⟨2, ![512, 512]⟩
abbrev S7x512x512 : Shape := ⟨3, ![7, 512, 512]⟩
abbrev S1x512x512 : Shape := ⟨3, ![1, 512, 512]⟩

abbrev nBuf : Space → Nat
  | .hbm => 3
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S7x512x512, .bf16⟩
  | .hbm, ⟨2, _⟩ => ⟨S512x512, .f32⟩
  | .local _ .vmem, ⟨0, _⟩ => ⟨S512x512, .f32⟩
  | .local _ .vmem, ⟨1, _⟩ => ⟨S7x512x512, .bf16⟩
  | .local _ .vmem, ⟨2, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumInIdeal.lean ====
abbrev S512x512 : Shape := ⟨2, ![512, 512]⟩
abbrev S7x512x512 : Shape := ⟨3, ![7, 512, 512]⟩
abbrev S1x512x512 : Shape := ⟨3, ![1, 512, 512]⟩

abbrev nBuf : Space → Nat
  | .hbm => 3
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S7x512x512, .bf16⟩
  | .hbm, ⟨2, _⟩ => ⟨S512x512, .f32⟩
  | .local _ .vmem, ⟨0, _⟩ => ⟨S512x512, .f32⟩
  | .local _ .vmem, ⟨1, _⟩ => ⟨S7x512x512, .bf16⟩
  | .local _ .vmem, ⟨2, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumInRefIdeal.lean ====
abbrev S512x512 : Shape := ⟨2, ![512, 512]⟩
abbrev S7x512x512 : Shape := ⟨3, ![7, 512, 512]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S7x512x512, .bf16⟩
  | .hbm, ⟨2, _⟩ => ⟨S7x512x512, .f32⟩
  | .hbm, ⟨3, _⟩ => ⟨S_, .f32⟩
  | .hbm, ⟨4, _⟩ => ⟨S512x512, .f32⟩
  | .hbm, ⟨5, _⟩ => ⟨S512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumGlu.lean ====
abbrev S64x512 : Shape := ⟨2, ![64, 512]⟩
abbrev S7x64x512 : Shape := ⟨3, ![7, 64, 512]⟩
abbrev S1x64x512 : Shape := ⟨3, ![1, 64, 512]⟩

abbrev nBuf : Space → Nat
  | .hbm => 3
  | .vmem => 3
  | .smem => 0
  | _ => 0

abbrev bufTy : (tb : Table) → Fin (tcTables nBuf tb) → BufTy
  | .hbm, ⟨0, _⟩ => ⟨S64x512, .f32⟩
  | .hbm, ⟨1, _⟩ => ⟨S7x64x512, .bf16⟩
  | .hbm, ⟨2, _⟩ => ⟨S64x512, .f32⟩
  | .local _ .vmem, ⟨0, _⟩ => ⟨S64x512, .f32⟩
  | .local _ .vmem, ⟨1, _⟩ => ⟨S7x64x512, .bf16⟩
  | .local _ .vmem, ⟨2, _⟩ => ⟨S64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumGluIdeal.lean ====
abbrev S64x512 : Shape := ⟨2, ![64, 512]⟩
abbrev S7x64x512 : Shape := ⟨3, ![7, 64, 512]⟩
abbrev S1x64x512 : Shape := ⟨3, ![1, 64, 512]⟩

abbrev nBuf : Space → Nat
  | .hbm => 3
  | .vmem => 3
  | .smem => 0
  | _ => 0

abbrev bufTy : (tb : Table) → Fin (tcTables nBuf tb) → BufTy
  | .hbm, ⟨0, _⟩ => ⟨S64x512, .f32⟩
  | .hbm, ⟨1, _⟩ => ⟨S7x64x512, .bf16⟩
  | .hbm, ⟨2, _⟩ => ⟨S64x512, .f32⟩
  | .local _ .vmem, ⟨0, _⟩ => ⟨S64x512, .f32⟩
  | .local _ .vmem, ⟨1, _⟩ => ⟨S7x64x512, .bf16⟩
  | .local _ .vmem, ⟨2, _⟩ => ⟨S64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumGluRefIdeal.lean ====
abbrev S64x512 : Shape := ⟨2, ![64, 512]⟩
abbrev S7x64x512 : Shape := ⟨3, ![7, 64, 512]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S7x64x512, .bf16⟩
  | .hbm, ⟨2, _⟩ => ⟨S7x64x512, .f32⟩
  | .hbm, ⟨3, _⟩ => ⟨S_, .f32⟩
  | .hbm, ⟨4, _⟩ => ⟨S64x512, .f32⟩
  | .hbm, ⟨5, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumOut.lean ====
abbrev S128x1024 : Shape := ⟨2, ![128, 1024]⟩
abbrev S7x128x1024 : Shape := ⟨3, ![7, 128, 1024]⟩
abbrev S1x128x1024 : Shape := ⟨3, ![1, 128, 1024]⟩

abbrev nBuf : Space → Nat
  | .hbm => 3
  | .vmem => 3
  | .smem => 0
  | _ => 0

abbrev bufTy : (tb : Table) → Fin (tcTables nBuf tb) → BufTy
  | .hbm, ⟨0, _⟩ => ⟨S128x1024, .f32⟩
  | .hbm, ⟨1, _⟩ => ⟨S7x128x1024, .bf16⟩
  | .hbm, ⟨2, _⟩ => ⟨S128x1024, .f32⟩
  | .local _ .vmem, ⟨0, _⟩ => ⟨S128x1024, .f32⟩
  | .local _ .vmem, ⟨1, _⟩ => ⟨S7x128x1024, .bf16⟩
  | .local _ .vmem, ⟨2, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumOutIdeal.lean ====
abbrev S128x1024 : Shape := ⟨2, ![128, 1024]⟩
abbrev S7x128x1024 : Shape := ⟨3, ![7, 128, 1024]⟩
abbrev S1x128x1024 : Shape := ⟨3, ![1, 128, 1024]⟩

abbrev nBuf : Space → Nat
  | .hbm => 3
  | .vmem => 3
  | .smem => 0
  | _ => 0

abbrev bufTy : (tb : Table) → Fin (tcTables nBuf tb) → BufTy
  | .hbm, ⟨0, _⟩ => ⟨S128x1024, .f32⟩
  | .hbm, ⟨1, _⟩ => ⟨S7x128x1024, .bf16⟩
  | .hbm, ⟨2, _⟩ => ⟨S128x1024, .f32⟩
  | .local _ .vmem, ⟨0, _⟩ => ⟨S128x1024, .f32⟩
  | .local _ .vmem, ⟨1, _⟩ => ⟨S7x128x1024, .bf16⟩
  | .local _ .vmem, ⟨2, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumOutRefIdeal.lean ====
abbrev S128x1024 : Shape := ⟨2, ![128, 1024]⟩
abbrev S7x128x1024 : Shape := ⟨3, ![7, 128, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S7x128x1024, .bf16⟩
  | .hbm, ⟨2, _⟩ => ⟨S7x128x1024, .f32⟩
  | .hbm, ⟨3, _⟩ => ⟨S_, .f32⟩
  | .hbm, ⟨4, _⟩ => ⟨S128x1024, .f32⟩
  | .hbm, ⟨5, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumUp.lean ====
abbrev S512x1408 : Shape := ⟨2, ![512, 1408]⟩
abbrev S7x512x1408 : Shape := ⟨3, ![7, 512, 1408]⟩
abbrev S1x512x1408 : Shape := ⟨3, ![1, 512, 1408]⟩

abbrev nBuf : Space → Nat
  | .hbm => 3
  | .vmem => 3
  | .smem => 0
  | _ => 0

abbrev bufTy : (tb : Table) → Fin (tcTables nBuf tb) → BufTy
  | .hbm, ⟨0, _⟩ => ⟨S512x1408, .f32⟩
  | .hbm, ⟨1, _⟩ => ⟨S7x512x1408, .bf16⟩
  | .hbm, ⟨2, _⟩ => ⟨S512x1408, .f32⟩
  | .local _ .vmem, ⟨0, _⟩ => ⟨S512x1408, .f32⟩
  | .local _ .vmem, ⟨1, _⟩ => ⟨S7x512x1408, .bf16⟩
  | .local _ .vmem, ⟨2, _⟩ => ⟨S512x1408, .f32⟩
  | _, _ => ⟨S512x1408, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x512x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumUpIdeal.lean ====
abbrev S512x1408 : Shape := ⟨2, ![512, 1408]⟩
abbrev S7x512x1408 : Shape := ⟨3, ![7, 512, 1408]⟩
abbrev S1x512x1408 : Shape := ⟨3, ![1, 512, 1408]⟩

abbrev nBuf : Space → Nat
  | .hbm => 3
  | .vmem => 3
  | .smem => 0
  | _ => 0

abbrev bufTy : (tb : Table) → Fin (tcTables nBuf tb) → BufTy
  | .hbm, ⟨0, _⟩ => ⟨S512x1408, .f32⟩
  | .hbm, ⟨1, _⟩ => ⟨S7x512x1408, .bf16⟩
  | .hbm, ⟨2, _⟩ => ⟨S512x1408, .f32⟩
  | .local _ .vmem, ⟨0, _⟩ => ⟨S512x1408, .f32⟩
  | .local _ .vmem, ⟨1, _⟩ => ⟨S7x512x1408, .bf16⟩
  | .local _ .vmem, ⟨2, _⟩ => ⟨S512x1408, .f32⟩
  | _, _ => ⟨S512x1408, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x512x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumUpRefIdeal.lean ====
abbrev S512x1408 : Shape := ⟨2, ![512, 1408]⟩
abbrev S7x512x1408 : Shape := ⟨3, ![7, 512, 1408]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S512x1408, .f32⟩
  | .hbm, ⟨1, _⟩ => ⟨S7x512x1408, .bf16⟩
  | .hbm, ⟨2, _⟩ => ⟨S7x512x1408, .f32⟩
  | .hbm, ⟨3, _⟩ => ⟨S_, .f32⟩
  | .hbm, ⟨4, _⟩ => ⟨S512x1408, .f32⟩
  | .hbm, ⟨5, _⟩ => ⟨S512x1408, .f32⟩
  | _, _ => ⟨S512x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumDown.lean ====
abbrev S352x1024 : Shape := ⟨2, ![352, 1024]⟩
abbrev S7x352x1024 : Shape := ⟨3, ![7, 352, 1024]⟩
abbrev S32x1024 : Shape := ⟨2, ![32, 1024]⟩
abbrev S7x32x1024 : Shape := ⟨3, ![7, 32, 1024]⟩
abbrev S1x32x1024 : Shape := ⟨3, ![1, 32, 1024]⟩

abbrev nBuf : Space → Nat
  | .hbm => 3
  | .vmem => 6
  | .smem => 0
  | _ => 0

abbrev bufTy : (tb : Table) → Fin (tcTables nBuf tb) → BufTy
  | .hbm, ⟨0, _⟩ => ⟨S352x1024, .f32⟩
  | .hbm, ⟨1, _⟩ => ⟨S7x352x1024, .bf16⟩
  | .hbm, ⟨2, _⟩ => ⟨S352x1024, .f32⟩
  | .local _ .vmem, ⟨0, _⟩ => ⟨S32x1024, .f32⟩
  | .local _ .vmem, ⟨1, _⟩ => ⟨S32x1024, .f32⟩
  | .local _ .vmem, ⟨2, _⟩ => ⟨S7x32x1024, .bf16⟩
  | .local _ .vmem, ⟨3, _⟩ => ⟨S7x32x1024, .bf16⟩
  | .local _ .vmem, ⟨4, _⟩ => ⟨S32x1024, .f32⟩
  | .local _ .vmem, ⟨5, _⟩ => ⟨S32x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumDownIdeal.lean ====
abbrev S352x1024 : Shape := ⟨2, ![352, 1024]⟩
abbrev S7x352x1024 : Shape := ⟨3, ![7, 352, 1024]⟩
abbrev S32x1024 : Shape := ⟨2, ![32, 1024]⟩
abbrev S7x32x1024 : Shape := ⟨3, ![7, 32, 1024]⟩
abbrev S1x32x1024 : Shape := ⟨3, ![1, 32, 1024]⟩

abbrev nBuf : Space → Nat
  | .hbm => 3
  | .vmem => 6
  | .smem => 0
  | _ => 0

abbrev bufTy : (tb : Table) → Fin (tcTables nBuf tb) → BufTy
  | .hbm, ⟨0, _⟩ => ⟨S352x1024, .f32⟩
  | .hbm, ⟨1, _⟩ => ⟨S7x352x1024, .bf16⟩
  | .hbm, ⟨2, _⟩ => ⟨S352x1024, .f32⟩
  | .local _ .vmem, ⟨0, _⟩ => ⟨S32x1024, .f32⟩
  | .local _ .vmem, ⟨1, _⟩ => ⟨S32x1024, .f32⟩
  | .local _ .vmem, ⟨2, _⟩ => ⟨S7x32x1024, .bf16⟩
  | .local _ .vmem, ⟨3, _⟩ => ⟨S7x32x1024, .bf16⟩
  | .local _ .vmem, ⟨4, _⟩ => ⟨S32x1024, .f32⟩
  | .local _ .vmem, ⟨5, _⟩ => ⟨S32x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumDownRefIdeal.lean ====
abbrev S352x1024 : Shape := ⟨2, ![352, 1024]⟩
abbrev S7x352x1024 : Shape := ⟨3, ![7, 352, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S7x352x1024, .bf16⟩
  | .hbm, ⟨2, _⟩ => ⟨S7x352x1024, .f32⟩
  | .hbm, ⟨3, _⟩ => ⟨S_, .f32⟩
  | .hbm, ⟨4, _⟩ => ⟨S352x1024, .f32⟩
  | .hbm, ⟨5, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SumProj.lean ====
abbrev S128x256 : Shape := ⟨2, ![128, 256]⟩
abbrev S7x128x256 : Shape := ⟨3, ![7, 128, 256]⟩
abbrev S1x128x256 : Shape := ⟨3, ![1, 128, 256]⟩

abbrev nBuf : Space → Nat
  | .hbm => 3
  | .vmem => 3
  | .smem => 0
  | _ => 0

abbrev bufTy : (tb : Table) → Fin (tcTables nBuf tb) → BufTy
  | .hbm, ⟨0, _⟩ => ⟨S128x256, .f32⟩
  | .hbm, ⟨1, _⟩ => ⟨S7x128x256, .bf16⟩
  | .hbm, ⟨2, _⟩ => ⟨S128x256, .f32⟩
  | .local _ .vmem, ⟨0, _⟩ => ⟨S128x256, .f32⟩
  | .local _ .vmem, ⟨1, _⟩ => ⟨S7x128x256, .bf16⟩
  | .local _ .vmem, ⟨2, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumProjRefIdeal.lean ====
abbrev S128x256 : Shape := ⟨2, ![128, 256]⟩
abbrev S7x128x256 : Shape := ⟨3, ![7, 128, 256]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S7x128x256, .bf16⟩
  | .hbm, ⟨2, _⟩ => ⟨S7x128x256, .f32⟩
  | .hbm, ⟨3, _⟩ => ⟨S_, .f32⟩
  | .hbm, ⟨4, _⟩ => ⟨S128x256, .f32⟩
  | .hbm, ⟨5, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== PoolFwd.lean ====
abbrev S16384x2048 : Shape := ⟨2, ![16384, 2048]⟩
abbrev S4x128x128 : Shape := ⟨3, ![4, 128, 128]⟩
abbrev S512 : Shape := ⟨1, ![512]⟩
abbrev S1x512 : Shape := ⟨2, ![1, 512]⟩
abbrev S16384x512 : Shape := ⟨2, ![16384, 512]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S4x128x128, .f32⟩
  | .hbm, ⟨2, _⟩ => ⟨S512, .f32⟩
  | .hbm, ⟨3, _⟩ => ⟨S4x128x128, .bf16⟩
  | .hbm, ⟨4, _⟩ => ⟨S1x512, .f32⟩
  | .hbm, ⟨5, _⟩ => ⟨S16384x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S4x128x128, .bf16⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let c0_i32_0 : BitVec 32 := 0#32
  ![v1.toNat, c3_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolFwdRefIdeal.lean ====
abbrev S16384x2048 : Shape := ⟨2, ![16384, 2048]⟩
abbrev S4x128x128 : Shape := ⟨3, ![4, 128, 128]⟩
abbrev S512 : Shape := ⟨1, ![512]⟩
abbrev S16384x512 : Shape := ⟨2, ![16384, 512]⟩
abbrev S16384 : Shape := ⟨1, ![16384]⟩
abbrev S16384x1 : Shape := ⟨2, ![16384, 1]⟩
abbrev S16384x128 : Shape := ⟨2, ![16384, 128]⟩
abbrev S_ : Shape := ⟨0, ![]⟩
abbrev S1x128x128 : Shape := ⟨3, ![1, 128, 128]⟩
abbrev S128x128 : Shape := ⟨2, ![128, 128]⟩
abbrev S1x512 : Shape := ⟨2, ![1, 512]⟩

abbrev nBuf : Space → Nat
  | .hbm => 79
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x128x128, .f32⟩
  | .hbm, ⟨2, _⟩ => ⟨S512, .f32⟩
  | .hbm, ⟨3, _⟩ => ⟨S16384x512, .f32⟩
  | .hbm, ⟨4, _⟩ => ⟨S16384, .i32⟩
  | .hbm, ⟨5, _⟩ => ⟨S16384x1, .i32⟩
  | .hbm, ⟨6, _⟩ => ⟨S16384x128, .f32⟩
  | .hbm, ⟨7, _⟩ => ⟨S_, .f32⟩
  | .hbm, ⟨8, _⟩ => ⟨S_, .f32⟩
  | .hbm, ⟨9, _⟩ => ⟨S16384x128, .f32⟩
  | .hbm, ⟨10, _⟩ => ⟨S_, .i32⟩
  | .hbm, ⟨11, _⟩ => ⟨S16384x1, .i32⟩
  | .hbm, ⟨12, _⟩ => ⟨S16384x1, .i32⟩
  | .hbm, ⟨13, _⟩ => ⟨S_, .i32⟩
  | .hbm, ⟨14, _⟩ => ⟨S16384x1, .i32⟩
  | .hbm, ⟨15, _⟩ => ⟨S16384x1, .i32⟩
  | .hbm, ⟨16, _⟩ => ⟨S16384x1, .f32⟩
  | .hbm, ⟨17, _⟩ => ⟨S16384x128, .f32⟩
  | .hbm, ⟨18, _⟩ => ⟨S16384x128, .f32⟩
  | .hbm, ⟨19, _⟩ => ⟨S16384x128, .f32⟩
  | .hbm, ⟨20, _⟩ => ⟨S1x128x128, .f32⟩
  | .hbm, ⟨21, _⟩ => ⟨S128x128, .f32⟩
  | .hbm, ⟨22, _⟩ => ⟨S16384x128, .f32⟩
  | .hbm, ⟨23, _⟩ => ⟨S16384x128, .f32⟩
  | .hbm, ⟨24, _⟩ => ⟨S_, .f32⟩
  | .hbm, ⟨25, _⟩ => ⟨S_, .f32⟩
  | .hbm, ⟨26, _⟩ => ⟨S16384x128, .f32⟩
  | .hbm, ⟨27, _⟩ => ⟨S_, .i32⟩
  | .hbm, ⟨28, _⟩ => ⟨S16384x1, .i32⟩
  | .hbm, ⟨29, _⟩ => ⟨S16384x1, .i32⟩
  | .hbm, ⟨30, _⟩ => ⟨S_, .i32⟩
  | .hbm, ⟨31, _⟩ => ⟨S16384x1, .i32⟩
  | .hbm, ⟨32, _⟩ => ⟨S16384x1, .i32⟩
  | .hbm, ⟨33, _⟩ => ⟨S16384x1, .f32⟩
  | .hbm, ⟨34, _⟩ => ⟨S16384x128, .f32⟩
  | .hbm, ⟨35, _⟩ => ⟨S16384x128, .f32⟩
  | .hbm, ⟨36, _⟩ => ⟨S16384x128, .f32⟩
  | .hbm, ⟨37, _⟩ => ⟨S1x128x128, .f32⟩
  | .hbm, ⟨38, _⟩ => ⟨S128x128, .f32⟩
  | .hbm, ⟨39, _⟩ => ⟨S16384x128, .f32⟩
  | .hbm, ⟨40, _⟩ => ⟨S16384x128, .f32⟩
  | .hbm, ⟨41, _⟩ => ⟨S_, .f32⟩
  | .hbm, ⟨42, _⟩ => ⟨S_, .f32⟩
  | .hbm, ⟨43, _⟩ => ⟨S16384x128, .f32⟩
  | .hbm, ⟨44, _⟩ => ⟨S_, .i32⟩
  | .hbm, ⟨45, _⟩ => ⟨S16384x1, .i32⟩
  | .hbm, ⟨46, _⟩ => ⟨S16384x1, .i32⟩
  | .hbm, ⟨47, _⟩ => ⟨S_, .i32⟩
  | .hbm, ⟨48, _⟩ => ⟨S16384x1, .i32⟩
  | .hbm, ⟨49, _⟩ => ⟨S16384x1, .i32⟩
  | .hbm, ⟨50, _⟩ => ⟨S16384x1, .f32⟩
  | .hbm, ⟨51, _⟩ => ⟨S16384x128, .f32⟩
  | .hbm, ⟨52, _⟩ => ⟨S16384x128, .f32⟩
  | .hbm, ⟨53, _⟩ => ⟨S16384x128, .f32⟩
  | .hbm, ⟨54, _⟩ => ⟨S1x128x128, .f32⟩
  | .hbm, ⟨55, _⟩ => ⟨S128x128, .f32⟩
  | .hbm, ⟨56, _⟩ => ⟨S16384x128, .f32⟩
  | .hbm, ⟨57, _⟩ => ⟨S16384x128, .f32⟩
  | .hbm, ⟨58, _⟩ => ⟨S_, .f32⟩
  | .hbm, ⟨59, _⟩ => ⟨S_, .f32⟩
  | .hbm, ⟨60, _⟩ => ⟨S16384x128, .f32⟩
  | .hbm, ⟨61, _⟩ => ⟨S_, .i32⟩
  | .hbm, ⟨62, _⟩ => ⟨S16384x1, .i32⟩
  | .hbm, ⟨63, _⟩ => ⟨S16384x1, .i32⟩
  | .hbm, ⟨64, _⟩ => ⟨S_, .i32⟩
  | .hbm, ⟨65, _⟩ => ⟨S16384x1, .i32⟩
  | .hbm, ⟨66, _⟩ => ⟨S16384x1, .i32⟩
  | .hbm, ⟨67, _⟩ => ⟨S16384x1, .f32⟩
  | .hbm, ⟨68, _⟩ => ⟨S16384x128, .f32⟩
  | .hbm, ⟨69, _⟩ => ⟨S16384x128, .f32⟩
  | .hbm, ⟨70, _⟩ => ⟨S16384x128, .f32⟩
  | .hbm, ⟨71, _⟩ => ⟨S1x128x128, .f32⟩
  | .hbm, ⟨72, _⟩ => ⟨S128x128, .f32⟩
  | .hbm, ⟨73, _⟩ => ⟨S16384x128, .f32⟩
  | .hbm, ⟨74, _⟩ => ⟨S16384x512, .f32⟩
  | .hbm, ⟨75, _⟩ => ⟨S1x512, .f32⟩
  | .hbm, ⟨76, _⟩ => ⟨S16384x512, .f32⟩
  | .hbm, ⟨77, _⟩ => ⟨S16384x512, .f32⟩
  | .hbm, ⟨78, _⟩ => ⟨S16384x512, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_c_6 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_7 : Ref sig .tc := ⟨.hbm, 58, rfl⟩
abbrev main_v46 : Ref sig .tc := ⟨.hbm, 59, rfl⟩
abbrev main_v47 : Ref sig .tc := ⟨.hbm, 60, rfl⟩
abbrev main_c_8 : Ref sig .tc := ⟨.hbm, 61, rfl⟩
abbrev main_v48 : Ref sig .tc := ⟨.hbm, 62, rfl⟩
abbrev main_v49 : Ref sig .tc := ⟨.hbm, 63, rfl⟩
abbrev main_c_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]
-- ==== PoolBwd.lean ====
abbrev S16384x1024 : Shape := ⟨2, ![16384, 1024]⟩
abbrev S16384x2048 : Shape := ⟨2, ![16384, 2048]⟩
abbrev S4x128x128 : Shape := ⟨3, ![4, 128, 128]⟩
abbrev S512 : Shape := ⟨1, ![512]⟩
abbrev S1x512 : Shape := ⟨2, ![1, 512]⟩
abbrev S16384x512 : Shape := ⟨2, ![16384, 512]⟩
abbrev S512x512 : Shape := ⟨2, ![512, 512]⟩
abbrev S16x512 : Shape := ⟨2, ![16, 512]⟩
abbrev S528x512 : Shape := ⟨2, ![528, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S16x128 : Shape := ⟨2, ![16, 128]⟩
abbrev S528x128 : Shape := ⟨2, ![528, 128]⟩

abbrev nBuf : Space → Nat
  | .hbm => 9
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S4x128x128, .f32⟩
  | .hbm, ⟨3, _⟩ => ⟨S512, .f32⟩
  | .hbm, ⟨4, _⟩ => ⟨S4x128x128, .bf16⟩
  | .hbm, ⟨5, _⟩ => ⟨S1x512, .f32⟩
  | .hbm, ⟨6, _⟩ => ⟨S16384x512, .f32⟩
  | .hbm, ⟨7, _⟩ => ⟨S4x128x128, .f32⟩
  | .hbm, ⟨8, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S4x128x128, .bf16⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S4x128x128, .f32⟩
  | .local _ .vmem, ⟨13, _⟩ => ⟨S1x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let c0_i32_0 : BitVec 32 := 0#32
  ![v1.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PoolBwdRefIdeal.lean ====
abbrev S16384x1024 : Shape := ⟨2, ![16384, 1024]⟩
abbrev S16384x2048 : Shape := ⟨2, ![16384, 2048]⟩
abbrev S4x128x128 : Shape := ⟨3, ![4, 128, 128]⟩
abbrev S512 : Shape := ⟨1, ![512]⟩
abbrev S16384x512 : Shape := ⟨2, ![16384, 512]⟩
abbrev S16384 : Shape := ⟨1, ![16384]⟩
abbrev S16384x1 : Shape := ⟨2, ![16384, 1]⟩
abbrev S16384x128 : Shape := ⟨2, ![16384, 128]⟩
abbrev S_ : Shape := ⟨0, ![]⟩
abbrev S1x128x128 : Shape := ⟨3, ![1, 128, 128]⟩
abbrev S128x128 : Shape := ⟨2, ![128, 128]⟩
abbrev S1x512 : Shape := ⟨2, ![1, 512]⟩
abbrev S16399x128 : Shape := ⟨2, ![16399, 128]⟩
abbrev S16391x128 : Shape := ⟨2, ![16391, 128]⟩
abbrev S16387x128 : Shape := ⟨2, ![16387, 128]⟩
abbrev S16385x128 : Shape := ⟨2, ![16385, 128]⟩

abbrev nBuf : Space → Nat
  | .hbm => 167
  | .vmem => 0
  | .smem => 0
  | _ => 0

abbrev hbmTy0_0 (i : Nat) : BufTy := match i % 128 with
  | 0 => ⟨S16384x1024, .f32⟩
  | 1 => ⟨S16384x2048, .f32⟩
  | 2 => ⟨S4x128x128, .f32⟩
  | 3 => ⟨S512, .f32⟩
  | 4 => ⟨S16384x512, .f32⟩
  | 5 => ⟨S16384, .i32⟩
  | 6 => ⟨S16384x1, .i32⟩
  | 7 => ⟨S16384x128, .f32⟩
  | 8 => ⟨S_, .f32⟩
  | 9 => ⟨S_, .f32⟩
  | 10 => ⟨S16384x128, .f32⟩
  | 11 => ⟨S_, .i32⟩
  | 12 => ⟨S16384x1, .i32⟩
  | 13 => ⟨S16384x1, .i32⟩
  | 14 => ⟨S_, .i32⟩
  | 15 => ⟨S16384x1, .i32⟩
  | 16 => ⟨S16384x1, .i32⟩
  | 17 => ⟨S16384x1, .f32⟩
  | 18 => ⟨S16384x128, .f32⟩
  | 19 => ⟨S16384x128, .f32⟩
  | 20 => ⟨S16384x128, .f32⟩
  | 21 => ⟨S1x128x128, .f32⟩
  | 22 => ⟨S128x128, .f32⟩
  | 23 => ⟨S16384x128, .f32⟩
  | 24 => ⟨S16384x128, .f32⟩
  | 25 => ⟨S_, .f32⟩
  | 26 => ⟨S_, .f32⟩
  | 27 => ⟨S16384x128, .f32⟩
  | 28 => ⟨S_, .i32⟩
  | 29 => ⟨S16384x1, .i32⟩
  | 30 => ⟨S16384x1, .i32⟩
  | 31 => ⟨S_, .i32⟩
  | 32 => ⟨S16384x1, .i32⟩
  | 33 => ⟨S16384x1, .i32⟩
  | 34 => ⟨S16384x1, .f32⟩
  | 35 => ⟨S16384x128, .f32⟩
  | 36 => ⟨S16384x128, .f32⟩
  | 37 => ⟨S16384x128, .f32⟩
  | 38 => ⟨S1x128x128, .f32⟩
  | 39 => ⟨S128x128, .f32⟩
  | 40 => ⟨S16384x128, .f32⟩
  | 41 => ⟨S16384x128, .f32⟩
  | 42 => ⟨S_, .f32⟩
  | 43 => ⟨S_, .f32⟩
  | 44 => ⟨S16384x128, .f32⟩
  | 45 => ⟨S_, .i32⟩
  | 46 => ⟨S16384x1, .i32⟩
  | 47 => ⟨S16384x1, .i32⟩
  | 48 => ⟨S_, .i32⟩
  | 49 => ⟨S16384x1, .i32⟩
  | 50 => ⟨S16384x1, .i32⟩
  | 51 => ⟨S16384x1, .f32⟩
  | 52 => ⟨S16384x128, .f32⟩
  | 53 => ⟨S16384x128, .f32⟩
  | 54 => ⟨S16384x128, .f32⟩
  | 55 => ⟨S1x128x128, .f32⟩
  | 56 => ⟨S128x128, .f32⟩
  | 57 => ⟨S16384x128, .f32⟩
  | 58 => ⟨S16384x128, .f32⟩
  | 59 => ⟨S_, .f32⟩
  | 60 => ⟨S_, .f32⟩
  | 61 => ⟨S16384x128, .f32⟩
  | 62 => ⟨S_, .i32⟩
  | 63 => ⟨S16384x1, .i32⟩
  | 64 => ⟨S16384x1, .i32⟩
  | 65 => ⟨S_, .i32⟩
  | 66 => ⟨S16384x1, .i32⟩
  | 67 => ⟨S16384x1, .i32⟩
  | 68 => ⟨S16384x1, .f32⟩
  | 69 => ⟨S16384x128, .f32⟩
  | 70 => ⟨S16384x128, .f32⟩
  | 71 => ⟨S16384x128, .f32⟩
  | 72 => ⟨S1x128x128, .f32⟩
  | 73 => ⟨S128x128, .f32⟩
  | 74 => ⟨S16384x128, .f32⟩
  | 75 => ⟨S16384x512, .f32⟩
  | 76 => ⟨S1x512, .f32⟩
  | 77 => ⟨S16384x512, .f32⟩
  | 78 => ⟨S16384x512, .f32⟩
  | 79 => ⟨S16384x512, .f32⟩
  | 80 => ⟨S16384x512, .f32⟩
  | 81 => ⟨S_, .f32⟩
  | 82 => ⟨S512, .f32⟩
  | 83 => ⟨S1x512, .f32⟩
  | 84 => ⟨S16384x512, .f32⟩
  | 85 => ⟨S16384x512, .f32⟩
  | 86 => ⟨S_, .f32⟩
  | 87 => ⟨S512, .f32⟩
  | 88 => ⟨S16384x128, .f32⟩
  | 89 => ⟨S16384x128, .f32⟩
  | 90 => ⟨S16384x128, .f32⟩
  | 91 => ⟨S16384x128, .f32⟩
  | 92 => ⟨S128x128, .f32⟩
  | 93 => ⟨S128x128, .f32⟩
  | 94 => ⟨S16384x128, .f32⟩
  | 95 => ⟨S1x128x128, .f32⟩
  | 96 => ⟨S_, .f32⟩
  | 97 => ⟨S4x128x128, .f32⟩
  | 98 => ⟨S16384x128, .f32⟩
  | 99 => ⟨S16384x128, .f32⟩
  | 100 => ⟨S16384x128, .f32⟩
  | 101 => ⟨S_, .f32⟩
  | 102 => ⟨S16399x128, .f32⟩
  | 103 => ⟨S_, .f32⟩
  | 104 => ⟨S_, .f32⟩
  | 105 => ⟨S16384x128, .f32⟩
  | 106 => ⟨S16384x128, .f32⟩
  | 107 => ⟨S_, .f32⟩
  | 108 => ⟨S16384x512, .f32⟩
  | 109 => ⟨S128x128, .f32⟩
  | 110 => ⟨S128x128, .f32⟩
  | 111 => ⟨S16384x128, .f32⟩
  | 112 => ⟨S1x128x128, .f32⟩
  | 113 => ⟨S_, .f32⟩
  | 114 => ⟨S4x128x128, .f32⟩
  | 115 => ⟨S4x128x128, .f32⟩
  | 116 => ⟨S16384x128, .f32⟩
  | 117 => ⟨S16384x128, .f32⟩
  | 118 => ⟨S16384x128, .f32⟩
  | 119 => ⟨S_, .f32⟩
  | 120 => ⟨S16391x128, .f32⟩
  | 121 => ⟨S_, .f32⟩
  | 122 => ⟨S_, .f32⟩
  | 123 => ⟨S16384x128, .f32⟩
  | 124 => ⟨S16384x128, .f32⟩
  | 125 => ⟨S_, .f32⟩
  | 126 => ⟨S16384x512, .f32⟩
  | 127 => ⟨S16384x512, .f32⟩
  | _ => ⟨S16384x1024, .f32⟩

abbrev hbmTy0_1 (i : Nat) : BufTy := match i % 128 with
  | 0 => ⟨S128x128, .f32⟩
  | 1 => ⟨S128x128, .f32⟩
  | 2 => ⟨S16384x128, .f32⟩
  | 3 => ⟨S1x128x128, .f32⟩
  | 4 => ⟨S_, .f32⟩
  | 5 => ⟨S4x128x128, .f32⟩
  | 6 => ⟨S4x128x128, .f32⟩
  | 7 => ⟨S16384x128, .f32⟩
  | 8 => ⟨S16384x128, .f32⟩
  | 9 => ⟨S16384x128, .f32⟩
  | 10 => ⟨S_, .f32⟩
  | 11 => ⟨S16387x128, .f32⟩
  | 12 => ⟨S_, .f32⟩
  | 13 => ⟨S_, .f32⟩
  | 14 => ⟨S16384x128, .f32⟩
  | 15 => ⟨S16384x128, .f32⟩
  | 16 => ⟨S_, .f32⟩
  | 17 => ⟨S16384x512, .f32⟩
  | 18 => ⟨S16384x512, .f32⟩
  | 19 => ⟨S128x128, .f32⟩
  | 20 => ⟨S128x128, .f32⟩
  | 21 => ⟨S16384x128, .f32⟩
  | 22 => ⟨S1x128x128, .f32⟩
  | 23 => ⟨S_, .f32⟩
  | 24 => ⟨S4x128x128, .f32⟩
  | 25 => ⟨S4x128x128, .f32⟩
  | 26 => ⟨S16384x128, .f32⟩
  | 27 => ⟨S16384x128, .f32⟩
  | 28 => ⟨S16384x128, .f32⟩
  | 29 => ⟨S_, .f32⟩
  | 30 => ⟨S16385x128, .f32⟩
  | 31 => ⟨S_, .f32⟩
  | 32 => ⟨S_, .f32⟩
  | 33 => ⟨S16384x128, .f32⟩
  | 34 => ⟨S16384x128, .f32⟩
  | 35 => ⟨S_, .f32⟩
  | 36 => ⟨S16384x512, .f32⟩
  | 37 => ⟨S16384x512, .f32⟩
  | 38 => ⟨S1x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_c_8 : Ref sig .tc := ⟨.hbm, 62, rfl⟩
abbrev main_v48 : Ref sig .tc := ⟨.hbm, 63, rfl⟩
abbrev main_v49 : Ref sig .tc := ⟨.hbm, 64, rfl⟩
abbrev main_c_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_11 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_12 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_13 : Ref sig .tc := ⟨.hbm, 101, rfl⟩
abbrev main_v82 : Ref sig .tc := ⟨.hbm, 102, rfl⟩
abbrev main_cst_14 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_15 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_16 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_17 : Ref sig .tc := ⟨.hbm, 119, rfl⟩
abbrev main_v96 : Ref sig .tc := ⟨.hbm, 120, rfl⟩
abbrev main_cst_18 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_19 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_20 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_21 : Ref sig .tc := ⟨.hbm, 138, rfl⟩
abbrev main_v111 : Ref sig .tc := ⟨.hbm, 139, rfl⟩
abbrev main_cst_22 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_23 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_cst_24 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_25 : Ref sig .tc := ⟨.hbm, 157, rfl⟩
abbrev main_v126 : Ref sig .tc := ⟨.hbm, 158, rfl⟩
abbrev main_cst_26 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_27 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩

abbrev nD : Nat := 1
abbrev τ : Topo := Topo.v7x

variable {F : FTy → Type} [FloatOps F]
-- ==== Proof.ConvSpec.lean ====
module

public import Idealize.ShloMosaic.Lib.Pointwise

@[expose] public section

noncomputable section

namespace Cert.ConvProof

open Idealize.ShloMosaic

abbrev Arr (a b : ℕ) : Type := (⟨2, ![a, b]⟩ : Shape).Idx → EReal

/-- The gated input `C * x_in` of the short convolution, padded with two rows of zeros in front: row `T` is row
    `T - 2` of the product. -/
def zPad (h : Arr 16384 2048) (T : ℕ) (j : Fin 512) : EReal :=
  if hT : 2 ≤ T ∧ T < 16386 then
    h (ix2 ⟨T - 2, by omega⟩ ⟨1024 + j.val, by omega⟩) * h (ix2 ⟨T - 2, by omega⟩ ⟨1536 + j.val, by omega⟩)
  else 0

/-- The gradient at the convolution's output, `dy * B`, continued by zero past the last row. -/
def dConv (dc : Arr 16384 1024) (h : Arr 16384 2048) (T : ℕ) (j : Fin 512) : EReal :=
  if hT : T < 16384 then dc (ix2 ⟨T, hT⟩ ⟨512 + j.val, by omega⟩) * h (ix2 ⟨T, hT⟩ ⟨512 + j.val, by omega⟩) else 0

/-- The gradient at the gated input: the three taps read forward. -/
def dGate (dc : Arr 16384 1024) (h : Arr 16384 2048) (w : Arr 3 512) (T : ℕ) (j : Fin 512) : EReal :=
  w (ix2 2 j) * dConv dc h T j + w (ix2 1 j) * dConv dc h (T + 1) j + w (ix2 0 j) * dConv dc h (T + 2) j

/-- The convolution's value at row `T`. -/
def convAt (h : Arr 16384 2048) (w : Arr 3 512) (T : ℕ) (j : Fin 512) : EReal :=
  w (ix2 0 j) * zPad h T j + w (ix2 1 j) * zPad h (T + 1) j + w (ix2 2 j) * zPad h (T + 2) j

/-- The gradients of the `B` gate, the `C` gate and the convolved input, side by side, at row `T` and column `q`. -/
def gradGatesAt (dc : Arr 16384 1024) (h : Arr 16384 2048) (w : Arr 3 512) (T : Fin 16384) (q : Fin 1536) : EReal :=
  if h0 : q.val < 512 then dc (ix2 T ⟨512 + q.val, by omega⟩) * convAt h w T.val ⟨q.val, h0⟩
  else if h1 : q.val < 1024 then dGate dc h w T.val ⟨q.val - 512, by omega⟩ * h (ix2 T ⟨1024 + q.val, by omega⟩)
  else dGate dc h w T.val ⟨q.val - 1024, by omega⟩ * h (ix2 T ⟨q.val, by omega⟩)

/-- The whole array of the gates' gradients. -/
def gradGates (dc : Arr 16384 1024) (h : Arr 16384 2048) (w : Arr 3 512) : Arr 16384 1536 :=
  fun y => gradGatesAt dc h w (y 0) (y 1)

section
variable (dc : Arr 16384 1024) (h : Arr 16384 2048) (w : Arr 3 512) (T : Fin 16384) (j : Fin 512)

theorem gradGatesAt_b (q : Fin 1536) (hq : q.val = j.val) :
    gradGatesAt dc h w T q = dc (ix2 T ⟨512 + j.val, by omega⟩) * convAt h w T.val j := by
  obtain ⟨q, hlt⟩ := q
  obtain rfl : q = j.val := hq
  rw [gradGatesAt, dif_pos j.isLt]

theorem gradGatesAt_c (q : Fin 1536) (hq : q.val = 512 + j.val) :
    gradGatesAt dc h w T q = dGate dc h w T.val j * h (ix2 T ⟨1536 + j.val, by omega⟩) := by
  obtain ⟨q, hlt⟩ := q
  obtain rfl : q = 512 + j.val := hq
  rw [gradGatesAt, dif_neg (by show ¬ 512 + j.val < 512; omega), dif_pos (by show 512 + j.val < 1024; omega)]
  have e : (⟨512 + j.val - 512, by omega⟩ : Fin 512) = j := Fin.ext (by show 512 + j.val - 512 = j.val; omega)
  have e' : (⟨1024 + (512 + j.val), by omega⟩ : Fin 2048) = ⟨1536 + j.val, by omega⟩ :=
    Fin.ext (by show 1024 + (512 + j.val) = 1536 + j.val; omega)
  show dGate dc h w T.val ⟨512 + j.val - 512, _⟩ * h (ix2 T ⟨1024 + (512 + j.val), _⟩) = _
  rw [e, e']

theorem gradGatesAt_x (q : Fin 1536) (hq : q.val = 1024 + j.val) :
    gradGatesAt dc h w T q = dGate dc h w T.val j * h (ix2 T ⟨1024 + j.val, by omega⟩) := by
  obtain ⟨q, hlt⟩ := q
  obtain rfl : q = 1024 + j.val := hq
  rw [gradGatesAt, dif_neg (by show ¬ 1024 + j.val < 512; omega), dif_neg (by show ¬ 1024 + j.val < 1024; omega)]
  have e : (⟨1024 + j.val - 1024, by omega⟩ : Fin 512) = j := Fin.ext (by show 1024 + j.val - 1024 = j.val; omega)
  show dGate dc h w T.val ⟨1024 + j.val - 1024, _⟩ * h (ix2 T ⟨1024 + j.val, _⟩) = _
  rw [e]

/-- The gradient of tap `k`: the sum over the rows of the gradient at the output times the input `2 - k` rows back. -/
def tapSum (k : ℕ) (j : Fin 512) : EReal :=
  ∑ T ∈ Finset.range 16384, dConv dc h T j * zPad h (T + k) j

/-- The taps' gradient, three rows followed by five rows of zeros. -/
def gradTapsAt (k : Fin 8) (j : Fin 512) : EReal := if k.val < 3 then tapSum dc h k.val j else 0

def gradTaps : Arr 8 512 := fun y => gradTapsAt dc h (y 0) (y 1)

end

end Cert.ConvProof
end
-- ==== Proof.ConvBlock.lean ====
module

public import proofs.«01_k».proof.Proof.Gen.ConvIdeal.Value
public import proofs.«01_k».proof.Proof.ConvSpec
public import Idealize.ShloMosaic.Lib.Pipeline.ValueKit

@[expose] public section

noncomputable section

namespace Cert.ConvProof

open Idealize.ShloMosaic Idealize.SL.Sem Cert.ConvIdeal Cert.ConvIdeal.Gen

variable (m : (ℓ : Loc nD τ sig) → Buf (Elt Ideal) ℓ) (c : Dev nD) (t : Fin cfg0.N)

/-- The three argument arrays of device `c`. -/
abbrev dcat : Arr 16384 1024 := m ((c.tc : Thread nD τ).loc main_arg0)
abbrev hArr : Arr 16384 2048 := m ((c.tc : Thread nD τ).loc main_arg1)
abbrev taps : Arr 3 512 := m ((c.tc : Thread nD τ).loc main_arg2)

theorem lt32 : t.val < 32 := t.isLt

theorem coord0 : ((grid0.coords t) 0).val = t.val := by
  revert t; decide +kernel

theorem idx0 : ∀ t : Fin cfg0.N, win0_0.index t = ![t.val, 1] := by decide +kernel
theorem idx1 : ∀ t : Fin cfg0.N, win0_1.index t = ![min (t.val + 1) 31, 1] := by decide +kernel
theorem idx2 : ∀ t : Fin cfg0.N, win0_2.index t = ![t.val, 1] := by decide +kernel
theorem idx3 : ∀ t : Fin cfg0.N, win0_3.index t = ![t.val, 2] := by decide +kernel
theorem idx4 : ∀ t : Fin cfg0.N, win0_4.index t = ![t.val, 3] := by decide +kernel
theorem idx5 : ∀ t : Fin cfg0.N, win0_5.index t = ![t.val - 1, 2] := by decide +kernel
theorem idx6 : ∀ t : Fin cfg0.N, win0_6.index t = ![t.val - 1, 3] := by decide +kernel
theorem idx7 : ∀ t : Fin cfg0.N, win0_7.index t = ![min (t.val + 1) 31, 1] := by decide +kernel
theorem idx8 : ∀ t : Fin cfg0.N, win0_8.index t = ![0, 0] := by decide +kernel
theorem idx9 : ∀ t : Fin cfg0.N, win0_9.index t = ![t.val, 0] := by decide +kernel

theorem blk0 (r j : Fin 512) : iblk m c 0 t (ix2 r j) =
    dcat m c (ix2 ⟨t.val * 512 + r.val, by have := lt32 t; omega⟩ ⟨512 + j.val, by omega⟩) := by
  blk_ext [iblk, V, idx0 t]

theorem blk1 (r j : Fin 512) : iblk m c 1 t (ix2 r j) =
    dcat m c (ix2 ⟨min (t.val + 1) 31 * 512 + r.val, by have := lt32 t; omega⟩ ⟨512 + j.val, by omega⟩) := by
  blk_ext [iblk, V, idx1 t]

theorem blk2 (r j : Fin 512) : iblk m c 2 t (ix2 r j) =
    hArr m c (ix2 ⟨t.val * 512 + r.val, by have := lt32 t; omega⟩ ⟨512 + j.val, by omega⟩) := by
  blk_ext [iblk, V, idx2 t]

theorem blk3 (r j : Fin 512) : iblk m c 3 t (ix2 r j) =
    hArr m c (ix2 ⟨t.val * 512 + r.val, by have := lt32 t; omega⟩ ⟨1024 + j.val, by omega⟩) := by
  blk_ext [iblk, V, idx3 t]

theorem blk4 (r j : Fin 512) : iblk m c 4 t (ix2 r j) =
    hArr m c (ix2 ⟨t.val * 512 + r.val, by have := lt32 t; omega⟩ ⟨1536 + j.val, by omega⟩) := by
  blk_ext [iblk, V, idx4 t]

theorem blk5 (r j : Fin 512) : iblk m c 5 t (ix2 r j) =
    hArr m c (ix2 ⟨(t.val - 1) * 512 + r.val, by have := lt32 t; omega⟩ ⟨1024 + j.val, by omega⟩) := by
  blk_ext [iblk, V, idx5 t]

theorem blk6 (r j : Fin 512) : iblk m c 6 t (ix2 r j) =
    hArr m c (ix2 ⟨(t.val - 1) * 512 + r.val, by have := lt32 t; omega⟩ ⟨1536 + j.val, by omega⟩) := by
  blk_ext [iblk, V, idx6 t]

theorem blk7 (r j : Fin 512) : iblk m c 7 t (ix2 r j) =
    hArr m c (ix2 ⟨min (t.val + 1) 31 * 512 + r.val, by have := lt32 t; omega⟩ ⟨512 + j.val, by omega⟩) := by
  blk_ext [iblk, V, idx7 t]

theorem blk8 (r : Fin 3) (j : Fin 512) : iblk m c 8 t (ix2 r j) = taps m c (ix2 r j) := by
  blk_ext [iblk, V, idx8 t]

/-- `select` of a one-bit comparison of a small coordinate, as an `if`. -/
theorem select_eq {α : Type} (n k : ℕ) (hn : n < 32) (hk : k < 32) (a b : α) :
    Scalar.select (Scalar.cmpi CmpIPredicate.eq (BitVec.ofNat 32 n) (BitVec.ofNat 32 k)) a b = if n = k then a else b := by
  interval_cases n <;> interval_cases k <;> rfl

/-- The two halo blocks as the body loads them. -/
abbrev haloC := View.ld (iblk m c 5 t) (Rect.unit ![504, 0] ![8, 512] inb_S512x512_S8x512_504_0)
abbrev haloX := View.ld (iblk m c 6 t) (Rect.unit ![504, 0] ![8, 512] inb_S512x512_S8x512_504_0)
abbrev haloD := View.ld (iblk m c 1 t) (Rect.unit ![0, 0] ![8, 512] inb_S512x512_S8x512_0_0)
abbrev haloB := View.ld (iblk m c 7 t) (Rect.unit ![0, 0] ![8, 512] inb_S512x512_S8x512_0_0)

theorem zcur (r j : Fin 512) :
    k0_pay4 (iblk m c 3 t) (iblk m c 4 t) (ix2 r j) = zPad (hArr m c) (t.val * 512 + r.val + 2) j := by
  unfold_payloads
  have := lt32 t
  pointwise
  rw [blk3, blk4, zPad, dif_pos (by omega)]
  rfl

theorem dcur (r j : Fin 512) :
    k0_pay8 (iblk m c 0 t) (iblk m c 2 t) (ix2 r j) = dConv (dcat m c) (hArr m c) (t.val * 512 + r.val) j := by
  unfold_payloads
  have := lt32 t
  pointwise
  rw [blk0, blk2, dConv, dif_pos (by omega)]

theorem haloC_apply (r : Fin 8) (j : Fin 512) : haloC m c t (ix2 r j) = hArr m c (ix2 ⟨(t.val - 1) * 512 + (504 + r.val), by have := lt32 t; omega⟩ ⟨1024 + j.val, by omega⟩) := by
  pointwise [haloC]
  rw [blk5]

theorem haloX_apply (r : Fin 8) (j : Fin 512) : haloX m c t (ix2 r j) = hArr m c (ix2 ⟨(t.val - 1) * 512 + (504 + r.val), by have := lt32 t; omega⟩ ⟨1536 + j.val, by omega⟩) := by
  pointwise [haloX]
  rw [blk6]

theorem haloD_apply (r : Fin 8) (j : Fin 512) : haloD m c t (ix2 r j) = dcat m c (ix2 ⟨min (t.val + 1) 31 * 512 + r.val, by have := lt32 t; omega⟩ ⟨512 + j.val, by omega⟩) := by
  pointwise [haloD]
  rw [blk1]

theorem haloB_apply (r : Fin 8) (j : Fin 512) : haloB m c t (ix2 r j) = hArr m c (ix2 ⟨min (t.val + 1) 31 * 512 + r.val, by have := lt32 t; omega⟩ ⟨512 + j.val, by omega⟩) := by
  pointwise [haloB]
  rw [blk7]

/-- The product with its halo in front: row `s` of the extended block is row `512 t + s - 8` of the array. -/
theorem zext (j : Fin 512) (s : ℕ) (hs : s < 520) (T : ℕ) (hT : T + 6 = t.val * 512 + s) :
    k0_pay5 (grid0.coords t) (iblk m c 3 t) (iblk m c 4 t) (haloC m c t) (haloX m c t) (ix2 ⟨s, hs⟩ j)
      = zPad (hArr m c) T j := by
  have h32 := lt32 t
  unfold_payloads
  pointwise [coord0]
  by_cases hlt : s < 8
  · refine (dif_pos hlt).trans ?_
    refine (select_eq t.val 0 h32 (by omega) _ _).trans ?_
    by_cases h0 : t.val = 0
    · rw [if_pos h0, zPad, dif_neg (by omega)]
    · rw [if_neg h0, haloC_apply, haloX_apply, zPad, dif_pos (by omega)]
      congr 3 <;> simp only [Fin.mk.injEq] <;> omega
  · refine (dif_neg hlt).trans ?_
    rw [blk3, blk4, zPad, dif_pos (by omega)]
    congr 3 <;> simp only [Fin.mk.injEq] <;> omega

theorem zback1 (r j : Fin 512) :
    k0_pay6 (grid0.coords t) (iblk m c 3 t) (iblk m c 4 t) (haloC m c t) (haloX m c t) (ix2 r j)
      = zPad (hArr m c) (t.val * 512 + r.val + 1) j := by
  unfold k0_pay6
  pointwise
  exact zext m c t j _ _ _ (by omega)

theorem zback2 (r j : Fin 512) :
    k0_pay7 (grid0.coords t) (iblk m c 3 t) (iblk m c 4 t) (haloC m c t) (haloX m c t) (ix2 r j)
      = zPad (hArr m c) (t.val * 512 + r.val) j := by
  unfold k0_pay7
  pointwise
  exact zext m c t j _ _ _ (by omega)

/-- The gradient with its halo behind, at row `s` of the extended block. -/
theorem dext (j : Fin 512) (s : ℕ) (hs : s < 514) :
    (if h : s < 512 then dConv (dcat m c) (hArr m c) (t.val * 512 + s) j
      else Scalar.select (Scalar.cmpi CmpIPredicate.eq (BitVec.ofNat 32 t.val) 31#32) (k0_pay10 (F := Ideal) (ix2 ⟨s - 512, by omega⟩ j))
        (k0_pay9 (haloD m c t) (haloB m c t) (ix2 ⟨s - 512, by omega⟩ j)))
      = dConv (dcat m c) (hArr m c) (t.val * 512 + s) j := by
  have h32 := lt32 t
  by_cases hlt : s < 512
  · rw [dif_pos hlt]
  · rw [dif_neg hlt]
    refine (select_eq t.val 31 h32 (by omega) _ _).trans ?_
    unfold_payloads
    pointwise
    by_cases h0 : t.val = 31
    · rw [if_pos h0, dConv, dif_neg (by omega)]
    · rw [if_neg h0, haloD_apply, haloB_apply, dConv, dif_pos (by omega)]
      congr 3 <;> simp only [Fin.mk.injEq] <;> omega

abbrev tap0 := View.ld (iblk m c 8 t) (Rect.unit ![0, 0] ![1, 512] inb_S3x512_S1x512_0_0)
abbrev tap1 := View.ld (iblk m c 8 t) (Rect.unit ![1, 0] ![1, 512] inb_S3x512_S1x512_1_0)
abbrev tap2 := View.ld (iblk m c 8 t) (Rect.unit ![2, 0] ![1, 512] inb_S3x512_S1x512_2_0)

theorem tap0_apply (r : Fin 1) (j : Fin 512) : tap0 m c t (ix2 r j) = taps m c (ix2 0 j) := by
  pointwise [tap0]
  rw [blk8]
  blk_ext

theorem tap1_apply (r : Fin 1) (j : Fin 512) : tap1 m c t (ix2 r j) = taps m c (ix2 1 j) := by
  pointwise [tap1]
  rw [blk8]
  blk_ext

theorem tap2_apply (r : Fin 1) (j : Fin 512) : tap2 m c t (ix2 r j) = taps m c (ix2 2 j) := by
  pointwise [tap2]
  rw [blk8]
  blk_ext

theorem dgate (r j : Fin 512) :
    k0_pay11 (tap0 m c t) (tap1 m c t) (tap2 m c t) (k0_pay8 (iblk m c 0 t) (iblk m c 2 t))
      (Scalar.cmpi CmpIPredicate.eq (BitVec.ofNat 32 ((grid0.coords t) 0).val) 31#32)
      (k0_pay9 (haloD m c t) (haloB m c t)) (k0_pay10 (F := Ideal)) (ix2 r j)
      = dGate (dcat m c) (hArr m c) (taps m c) (t.val * 512 + r.val) j := by
  unfold k0_pay11
  pointwise [coord0, dcur, tap0_apply, tap1_apply, tap2_apply]
  have e1 := dext m c t j ((r.val + 520 - 519) % 520) (by omega)
  have e2 := dext m c t j ((r.val + 520 - 518) % 520) (by omega)
  unfold dGate
  refine congr (congrArg _ (congr (congrArg _ rfl) (congrArg _ (e1.trans ?_)))) (congrArg _ (e2.trans ?_))
  · congr 1; omega
  · congr 1; omega

theorem conv (r j : Fin 512) :
    k0_pay12 (k0_pay4 (iblk m c 3 t) (iblk m c 4 t))
      (k0_pay6 (grid0.coords t) (iblk m c 3 t) (iblk m c 4 t) (haloC m c t) (haloX m c t))
      (k0_pay7 (grid0.coords t) (iblk m c 3 t) (iblk m c 4 t) (haloC m c t) (haloX m c t))
      (tap0 m c t) (tap1 m c t) (tap2 m c t) (iblk m c 0 t) (ix2 r j)
      = dcat m c (ix2 ⟨t.val * 512 + r.val, by have := lt32 t; omega⟩ ⟨512 + j.val, by omega⟩) * convAt (hArr m c) (taps m c) (t.val * 512 + r.val) j := by
  unfold k0_pay12
  pointwise [zcur, zback1, zback2, blk0, tap0_apply, tap1_apply, tap2_apply]
  rfl

end Cert.ConvProof
end
-- ==== Proof.ConvOut.lean ====
module

public import proofs.«01_k».proof.Proof.ConvBlock
public import Idealize.ShloMosaic.Lib.Pipeline.ReadBack
public import Idealize.ShloMosaic.Lib.WritesUnit

@[expose] public section

noncomputable section

namespace Cert.ConvProof

open Idealize.ShloMosaic Idealize.SL.Sem Cert.ConvIdeal Cert.ConvIdeal.Gen

variable (m : (ℓ : Loc nD τ sig) → Buf (Elt Ideal) ℓ) (c : Dev nD)

/-- The first third of the block: the gradient of the `B` gate. -/
theorem piece_b (t : Fin cfg0.N) (r : Fin 512) (q : Fin 1536) (x : S512x512.Idx) (h0 : r.val = (x 0).val) (h1 : q.val = (x 1).val) :
    k0_pay12 (k0_pay4 (iblk m c 3 t) (iblk m c 4 t))
      (k0_pay6 (grid0.coords t) (iblk m c 3 t) (iblk m c 4 t) (haloC m c t) (haloX m c t))
      (k0_pay7 (grid0.coords t) (iblk m c 3 t) (iblk m c 4 t) (haloC m c t) (haloX m c t))
      (tap0 m c t) (tap1 m c t) (tap2 m c t) (iblk m c 0 t) x
      = gradGatesAt (dcat m c) (hArr m c) (taps m c) ⟨t.val * 512 + r.val, by have := lt32 t; omega⟩ q := by
  obtain ⟨r', j, rfl⟩ : ∃ (r' j : Fin 512), x = ix2 r' j := ⟨x 0, x 1, eq_ix2 x⟩
  have hr : r = r' := Fin.ext h0
  subst hr
  rw [conv, gradGatesAt_b _ _ _ _ j q h1]

theorem dgate_mul (t : Fin cfg0.N) (r j : Fin 512) (z : Vec Ideal S512x512 .f32) :
    k0_pay13 (tap0 m c t) (tap1 m c t) (tap2 m c t) (k0_pay8 (iblk m c 0 t) (iblk m c 2 t))
      (Scalar.cmpi CmpIPredicate.eq (BitVec.ofNat 32 ((grid0.coords t) 0).val) 31#32)
      (k0_pay9 (haloD m c t) (haloB m c t)) (k0_pay10 (F := Ideal)) z (ix2 r j)
      = dGate (dcat m c) (hArr m c) (taps m c) (t.val * 512 + r.val) j * z (ix2 r j) := by
  unfold k0_pay13
  pointwise [dgate]

/-- The second third: the gradient of the `C` gate. -/
theorem piece_c (t : Fin cfg0.N) (r : Fin 512) (q : Fin 1536) (x : S512x512.Idx) (h0 : r.val = (x 0).val) (h1 : q.val = 512 + (x 1).val) :
    k0_pay13 (tap0 m c t) (tap1 m c t) (tap2 m c t) (k0_pay8 (iblk m c 0 t) (iblk m c 2 t))
      (Scalar.cmpi CmpIPredicate.eq (BitVec.ofNat 32 ((grid0.coords t) 0).val) 31#32)
      (k0_pay9 (haloD m c t) (haloB m c t)) (k0_pay10 (F := Ideal)) (iblk m c 4 t) x
      = gradGatesAt (dcat m c) (hArr m c) (taps m c) ⟨t.val * 512 + r.val, by have := lt32 t; omega⟩ q := by
  obtain ⟨r', j, rfl⟩ : ∃ (r' j : Fin 512), x = ix2 r' j := ⟨x 0, x 1, eq_ix2 x⟩
  have hr : r = r' := Fin.ext h0
  subst hr
  rw [dgate_mul, blk4, gradGatesAt_c _ _ _ _ j q h1]

/-- The last third: the gradient of the convolved input. -/
theorem piece_x (t : Fin cfg0.N) (r : Fin 512) (q : Fin 1536) (x : S512x512.Idx) (h0 : r.val = (x 0).val) (h1 : q.val = 1024 + (x 1).val) :
    k0_pay14 (tap0 m c t) (tap1 m c t) (tap2 m c t) (k0_pay8 (iblk m c 0 t) (iblk m c 2 t))
      (Scalar.cmpi CmpIPredicate.eq (BitVec.ofNat 32 ((grid0.coords t) 0).val) 31#32)
      (k0_pay9 (haloD m c t) (haloB m c t)) (k0_pay10 (F := Ideal)) (iblk m c 3 t) x
      = gradGatesAt (dcat m c) (hArr m c) (taps m c) ⟨t.val * 512 + r.val, by have := lt32 t; omega⟩ q := by
  obtain ⟨r', j, rfl⟩ : ∃ (r' j : Fin 512), x = ix2 r' j := ⟨x 0, x 1, eq_ix2 x⟩
  have hr : r = r' := Fin.ext h0
  subst hr
  show k0_pay13 _ _ _ _ _ _ _ _ _ = _
  rw [dgate_mul, blk3, gradGatesAt_x _ _ _ _ j q h1]

theorem block9 (t : Fin cfg0.N) (r : Fin 512) (q : Fin 1536) :
    (outsAt0 m c t.val t.isLt).1 (ix2 r q)
      = gradGatesAt (dcat m c) (hArr m c) (taps m c) ⟨t.val * 512 + r.val, by have := lt32 t; omega⟩ q := by
  by_cases h0 : t.val % 32 = 0
  · rw [outsAt0_A m c t h0]
    frame_out
    canon_tiles x h
    · exact piece_x m c t r q x h0 h1
    · exact piece_c m c t r q x h0 h1
    · exact piece_b m c t r q x h0 h1
  · rw [outsAt0_B m c t h0]
    frame_out
    canon_tiles x h
    · exact piece_x m c t r q x h0 h1
    · exact piece_c m c t r q x h0 h1
    · exact piece_b m c t r q x h0 h1

/-- The first result of the call: the gates' gradients, row for row. -/
theorem out9 : (dats m 0 c).arrAt 9 cfg0.N = gradGates (dcat m c) (hArr m c) (taps m c) := by
  refine (dats m 0 c).arrAt_eq_of_covers 9 _ (by decide +kernel) fun t hf y => ?_
  blk_simp
  rw [after0_9]
  obtain ⟨r, q, rfl⟩ : ∃ (r : Fin 512) (q : Fin 1536), y = ix2 r q := ⟨y 0, y 1, eq_ix2 y⟩
  refine (block9 m c t r q).trans (congrArg (gradGates (dcat m c) (hArr m c) (taps m c)) (?_ : ix2 _ _ = _))
  blk_ext [idx9 t]

/-- What block `b` adds to the gradient of tap `k`. -/
def tapTerm (b : ℕ) (k : ℕ) (j : Fin 512) : EReal :=
  if k < 3 then ∑ r : Fin 512, dConv (dcat m c) (hArr m c) (b * 512 + r.val) j * zPad (hArr m c) (b * 512 + r.val + k) j else 0

theorem tapTerm_of_ge (b k : ℕ) (j : Fin 512) (h : 3 ≤ k) : tapTerm m c b k j = 0 := if_neg (by omega)

theorem row0 (t : Fin cfg0.N) (j : Fin 512) (w : Vec Ideal S1x512 .f32) :
    k0_pay15 (k0_pay7 (grid0.coords t) (iblk m c 3 t) (iblk m c 4 t) (haloC m c t) (haloX m c t)) (k0_pay8 (iblk m c 0 t) (iblk m c 2 t)) w (ix2 0 j)
      = w (ix2 0 j) + tapTerm m c t.val 0 j := by
  unfold k0_pay15
  pointwise [zback2, dcur]
  rfl

theorem row1 (t : Fin cfg0.N) (j : Fin 512) (w : Vec Ideal S1x512 .f32) :
    k0_pay1 (k0_pay6 (grid0.coords t) (iblk m c 3 t) (iblk m c 4 t) (haloC m c t) (haloX m c t)) (k0_pay8 (iblk m c 0 t) (iblk m c 2 t)) w (ix2 0 j)
      = w (ix2 0 j) + tapTerm m c t.val 1 j := by
  unfold k0_pay1
  pointwise [zback1, dcur]
  rfl

theorem row2 (t : Fin cfg0.N) (j : Fin 512) (w : Vec Ideal S1x512 .f32) :
    k0_pay2 (k0_pay4 (iblk m c 3 t) (iblk m c 4 t)) (k0_pay8 (iblk m c 0 t) (iblk m c 2 t)) w (ix2 0 j)
      = w (ix2 0 j) + tapTerm m c t.val 2 j := by
  unfold k0_pay2
  pointwise [zcur, dcur]
  rfl

/-- Reading after a store of one whole row `o`: the stored row at row `o`, what was there before elsewhere. -/
theorem row_hit {o : ℕ} (inb : ∀ a, (![o, 0] : Fin 2 → ℕ) a + (![1, 512] : Fin 2 → ℕ) a ≤ S8x512.size a)
    (w : (Rect.unit (s := S8x512) ![o, 0] ![1, 512] inb).shape.Idx → EReal)
    (L : List (View.Piece (Elt Ideal) S8x512 .f32)) (k : Fin 8) (j : Fin 512) (h : k.val = o) :
    View.canon (Val := Elt Ideal) (s := S8x512) (e := .f32) (⟨Rect.unit ![o, 0] ![1, 512] inb, w⟩ :: L) (ix2 k j) = w (ix2 (0 : Fin 1) j) := by
  have e : (ix2 k j : S8x512.Idx) = (Rect.unit (s := S8x512) ![o, 0] ![1, 512] inb).emb (ix2 (0 : Fin 1) j) := by
    funext a
    apply Fin.ext
    rw [Rect.emb_apply]
    fin_cases a
    · show k.val = o + 1 * 0; omega
    · show j.val = 0 + 1 * j.val; omega
  rw [e, View.canon_cons_emb]

theorem row_miss {o : ℕ} (inb : ∀ a, (![o, 0] : Fin 2 → ℕ) a + (![1, 512] : Fin 2 → ℕ) a ≤ S8x512.size a)
    (w : (Rect.unit (s := S8x512) ![o, 0] ![1, 512] inb).shape.Idx → EReal)
    (L : List (View.Piece (Elt Ideal) S8x512 .f32)) (k : Fin 8) (j : Fin 512) (h : k.val ≠ o) :
    View.canon (Val := Elt Ideal) (s := S8x512) (e := .f32) (⟨Rect.unit ![o, 0] ![1, 512] inb, w⟩ :: L) (ix2 k j) = View.canon L (ix2 k j) := by
  refine View.canon_cons_of_not_mem _ L fun hm => h ?_
  have hb : (![o, 0] : Fin 2 → ℕ) 0 ≤ ((ix2 k j : S8x512.Idx) 0).val ∧ ((ix2 k j : S8x512.Idx) 0).val < (![o, 0] : Fin 2 → ℕ) 0 + (![1, 512] : Fin 2 → ℕ) 0 :=
    (Rect.mem_set_unit (inb := inb)).mp hm 0
  have h1 : o ≤ k.val := hb.1
  have h2 : k.val < o + 1 := hb.2
  omega

theorem step10 (t : Fin cfg0.N) (h0 : ¬ t.val % 32 = 0) (k : Fin 8) (j : Fin 512) :
    (outsAt0 m c t.val t.isLt).2 (ix2 k j)
      = (outsAt0 m c (t.val - 1) (Nat.lt_of_le_of_lt (Nat.sub_le _ _) t.isLt)).2 (ix2 k j) + tapTerm m c t.val k.val j := by
  rw [outsAt0_B m c t h0]
  frame_out
  by_cases h2 : k.val = 2
  · refine (View.read_writes_cons_rows_of_mem _ _ _ _ _ (ix2 k j) (ix2 (0 : Fin 1) j) rfl (o := 2) h2 rfl).trans ?_
    refine (row2 m c t j _).trans ?_
    obtain rfl : k = 2 := Fin.ext h2
    pointwise
  refine (View.read_writes_cons_rows_of_not_mem _ _ _ _ _ (ix2 k j) rfl (o := 2) (W := 1) rfl (by show k.val < 2 ∨ 3 ≤ k.val; omega)).trans ?_
  by_cases h1 : k.val = 1
  · refine (View.read_writes_cons_rows_of_mem _ _ _ _ _ (ix2 k j) (ix2 (0 : Fin 1) j) rfl (o := 1) h1 rfl).trans ?_
    refine (row1 m c t j _).trans ?_
    obtain rfl : k = 1 := Fin.ext h1
    pointwise
  refine (View.read_writes_cons_rows_of_not_mem _ _ _ _ _ (ix2 k j) rfl (o := 1) (W := 1) rfl (by show k.val < 1 ∨ 2 ≤ k.val; omega)).trans ?_
  by_cases hz : k.val = 0
  · refine (View.read_writes_cons_rows_of_mem _ _ _ _ _ (ix2 k j) (ix2 (0 : Fin 1) j) rfl (o := 0) hz rfl).trans ?_
    refine (row0 m c t j _).trans ?_
    obtain rfl : k = 0 := Fin.ext hz
    pointwise
  refine (View.read_writes_cons_rows_of_not_mem _ _ _ _ _ (ix2 k j) rfl (o := 0) (W := 1) rfl (by show k.val < 0 ∨ 1 ≤ k.val; omega)).trans ?_
  rw [tapTerm_of_ge m c _ _ _ (by omega), add_zero, View.writes_nil, Memref.IsWhole.read_unread]

theorem start10 (t : Fin cfg0.N) (h0 : t.val % 32 = 0) (k : Fin 8) (j : Fin 512) :
    (outsAt0 m c t.val t.isLt).2 (ix2 k j) = 0 + tapTerm m c t.val k.val j := by
  rw [outsAt0_A m c t h0]
  frame_open
  simp (disch := decide) only [↓ View.readCov_skip, ↓ View.readCov_cons_toLoadRect, ↓ View.readCov_fill]
  frame_out
  have z : ∀ (r : Fin 8), (k0_pay3 (F := Ideal)) (ix2 r j) = 0 := fun r => by
    unfold k0_pay3
    pointwise
  by_cases h2 : k.val = 2
  · refine (row_hit _ _ _ k j h2).trans ((row2 m c t j _).trans ?_)
    rw [h2]; pointwise [z]
  refine (row_miss _ _ _ k j h2).trans ?_
  by_cases h1 : k.val = 1
  · refine (row_hit _ _ _ k j h1).trans ((row1 m c t j _).trans ?_)
    rw [h1]; pointwise [z]
  refine (row_miss _ _ _ k j h1).trans ?_
  by_cases hz : k.val = 0
  · refine (row_hit _ _ _ k j hz).trans ((row0 m c t j _).trans ?_)
    rw [hz]; pointwise [z]
  refine (row_miss _ _ _ k j hz).trans ?_
  rw [tapTerm_of_ge m c _ _ _ (by omega), View.canon_cons_unit_lit _ _ _ (by decide), z, add_zero]

/-- The grid's last point. -/
def tEnd : Fin cfg0.N := ⟨31, by decide +kernel⟩

theorem sum10 (t : Fin cfg0.N) (k : Fin 8) (j : Fin 512) :
    (outsAt0 m c t.val t.isLt).2 (ix2 k j) = ∑ b ∈ Finset.range (t.val + 1), tapTerm m c b k.val j := by
  have h := Pipeline.eq_sum_of_reset_step_apply_single (M := EReal) (fun n h => ((outsAt0 m c n h).2 : S8x512.Idx → EReal)) 32 0
    (fun b y => tapTerm m c b (y 0).val (y 1))
    (fun t h0 y => by
      obtain ⟨k, j, rfl⟩ : ∃ (k : Fin 8) (j : Fin 512), y = ix2 k j := ⟨y 0, y 1, eq_ix2 y⟩
      exact start10 m c t h0 k j)
    (fun t h0 y => by
      obtain ⟨k, j, rfl⟩ : ∃ (k : Fin 8) (j : Fin 512), y = ix2 k j := ⟨y 0, y 1, eq_ix2 y⟩
      exact step10 m c t h0 k j)
    (by decide +kernel) t (ix2 k j)
  exact h.trans (zero_add _)

/-- The blocks' sums of a tap's gradient add up to the sum over all rows. -/
theorem tapTerm_sum (k : Fin 8) (j : Fin 512) :
    ∑ b ∈ Finset.range 32, tapTerm m c b k.val j = gradTapsAt (dcat m c) (hArr m c) k j := by
  by_cases h : k.val < 3
  · rw [gradTapsAt, if_pos h, tapSum,
      show (16384 : ℕ) = 32 * 512 from rfl, Finset.sum_range_mul_split]
    refine Finset.sum_congr rfl fun b _ => ?_
    rw [tapTerm, if_pos h]
    exact Fin.sum_univ_eq_sum_range (fun r => dConv (dcat m c) (hArr m c) (b * 512 + r) j * zPad (hArr m c) (b * 512 + r + k.val) j) 512
  · rw [gradTapsAt, if_neg h]
    exact Finset.sum_eq_zero fun b _ => tapTerm_of_ge m c _ _ _ (by omega)

/-- The second result of the call: the taps' gradient. -/
theorem out10 : (dats m 0 c).arrAt 10 cfg0.N = gradTaps (dcat m c) (hArr m c) := by
  refine (dats m 0 c).arrAt_eq_of_after_last 10 tEnd (by decide +kernel) _ fun y => ?_
  blk_simp
  rw [after0_10]
  obtain ⟨k, j, rfl⟩ : ∃ (k : Fin 8) (j : Fin 512), y = ix2 k j := ⟨y 0, y 1, eq_ix2 y⟩
  refine (sum10 m c tEnd k j).trans ?_
  exact tapTerm_sum m c k j

end Cert.ConvProof
end
-- ==== Proof.ConvRefValue.lean ====
module

public import proofs.«01_k».proof.Proof.ConvSpec
public import proofs.«01_k».proof.Proof.Gen.ConvRefIdeal.Read
public import Idealize.ShloMosaic.Lib.Pointwise

/-! The reference's two results, read at an index. -/

@[expose] public section

noncomputable section

namespace Cert.ConvProof

open Idealize.ShloMosaic Cert.ConvRefIdeal Cert.ConvRefIdeal.Gen Cert.ConvRefIdeal.Read

/-- A host sum over two axes of extent one reads the one element there is. -/
theorem reduce_unit_axes (x : S1x1x512.Idx → EReal) (z : EReal) (j : Fin 512) :
    Ideal.hostReduceAdd reducesTo_S1x1x512_S512_d0_1 x z (ix1 j) = z + x (ix3 0 0 j) := by
  refine congrArg (z + ·) (Finset.sum_eq_single_of_mem (ix3 0 0 j) ?_ fun i hi hne => ?_)
  · refine Finset.mem_filter.mpr ⟨Finset.mem_univ _, ?_⟩
    funext a
    fin_cases a
    rfl
  · refine absurd ?_ hne
    have e : i = ix3 (i 0) (i 1) (i 2) := eq_ix3 i
    have h := congrArg Fin.val (congrFun (Finset.mem_filter.mp hi).2 0)
    have h2 : (i 2).val = j.val := h
    funext a
    fin_cases a
    · exact Fin.ext (by have : (i 0).val < 1 := (i 0).isLt; show (i 0).val = 0; omega)
    · exact Fin.ext (by have : (i 1).val < 1 := (i 1).isLt; show (i 1).val = 0; omega)
    · exact Fin.ext h2

variable (x0 : Arr 16384 1024) (x1 : Arr 16384 2048) (x2 : Arr 3 512)

theorem ref_zp (T : Fin 16386) (j : Fin 512) :
    val_main_v9 (F := Ideal) x1 (ix3 (0 : Fin 1) T j) = zPad x1 T.val j := by
  unfold val_main_v9 val_main_v8 val_main_v7 val_main_v3 val_main_v4 val_main_v0 val_main_cst
  pointwise
  by_cases h : T.val < 2
  · rw [dif_pos h, zPad, dif_neg (by omega)]
  · rw [dif_neg h, zPad, dif_pos (by omega)]

theorem zPad_comm (n T : ℕ) (j : Fin 512) : zPad x1 (n + T) j = zPad x1 (T + n) j := by rw [Nat.add_comm]

theorem ref_y (T : Fin 16384) (j : Fin 512) :
    val_main_v30 (F := Ideal) x1 x2 (ix3 (0 : Fin 1) T j) = convAt x1 x2 T.val j := by
  unfold val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11
  pointwise [ref_zp]
  rw [convAt, zPad_comm x1 1, zPad_comm x1 2]

theorem ref_d (T : Fin 16384) (j : Fin 512) :
    val_main_v32 (F := Ideal) x0 x1 (ix3 (0 : Fin 1) T j) = dConv x0 x1 T.val j := by
  unfold val_main_v32 val_main_v2 val_main_v6 val_main_v0 val_main_v5
  pointwise
  rw [dConv, dif_pos T.isLt, mul_comm]

theorem ref_p0 (T : Fin 16384) (j : Fin 512) :
    val_main_v35 (F := Ideal) x0 x1 x2 (ix3 (0 : Fin 1) T j) = x2 (ix2 2 j) * dConv x0 x1 T.val j := by
  unfold val_main_v35 val_main_v34 val_main_v27 val_main_v25 val_main_v24
  pointwise [ref_d]

theorem ref_p1 (T : Fin 16384) (j : Fin 512) :
    val_main_v44 (F := Ideal) x0 x1 x2 (ix3 (0 : Fin 1) T j) = x2 (ix2 1 j) * dConv x0 x1 T.val j := by
  unfold val_main_v44 val_main_v43 val_main_v20 val_main_v18 val_main_v17
  pointwise [ref_d]

theorem ref_p2 (T : Fin 16384) (j : Fin 512) :
    val_main_v55 (F := Ideal) x0 x1 x2 (ix3 (0 : Fin 1) T j) = x2 (ix2 0 j) * dConv x0 x1 T.val j := by
  unfold val_main_v55 val_main_v54 val_main_v14 val_main_v12 val_main_v11
  pointwise [ref_d]

/-- A tap of the gradient read past the last row is zero, as the padding says. -/
theorem tap_pad (w : EReal) (n T : ℕ) (j : Fin 512) (P : Prop) [Decidable P] (hT : T = n) (hP : P ↔ n < 16384) :
    (if _h : P then w * dConv x0 x1 T j else 0) = w * dConv x0 x1 n j := by
  subst hT
  by_cases h : P
  · rw [dif_pos h]
  · rw [dif_neg h, dConv, dif_neg (fun h' => h (hP.mpr h')), mul_zero]

/-- The gradient at the gated input. -/
theorem ref_dz (T : Fin 16384) (j : Fin 512) :
    val_main_v66 (F := Ideal) x0 x1 x2 (ix3 (0 : Fin 1) T j) = dGate x0 x1 x2 T.val j := by
  unfold val_main_v66 val_main_v61 val_main_v60 val_main_v50 val_main_v49 val_main_v40 val_main_cst_3 val_main_cst_7 val_main_cst_11
  pointwise [ref_p0, ref_p1, ref_p2]
  rw [tap_pad x0 x1 _ (T.val + 1) (2 + T.val - 1) j _ (by omega) (by omega),
    tap_pad x0 x1 _ (T.val + 2) (2 + T.val) j _ (by omega) (by omega), dGate]

theorem tapSum_eq (k : ℕ) (j : Fin 512) :
    ∑ T : Fin 16384, dConv x0 x1 T.val j * zPad x1 (k + T.val) j = tapSum x0 x1 k j := by
  refine (Fin.sum_univ_eq_sum_range (fun T => dConv x0 x1 T j * zPad x1 (k + T) j) 16384).trans ?_
  exact Finset.sum_congr rfl fun T _ => by rw [zPad_comm]

theorem ref_t2 (j : Fin 512) :
    val_main_v39 (F := Ideal) x0 x1 (ix1 j) = tapSum x0 x1 2 j := by
  unfold val_main_v39 val_main_v38 val_main_v37 val_main_v36 val_main_v26 val_main_cst_1 val_main_cst_2
  pointwise [reduce_unit_axes]
  pointwise [ref_zp, ref_d]
  exact tapSum_eq x0 x1 2 j

theorem ref_t1 (j : Fin 512) :
    val_main_v48 (F := Ideal) x0 x1 (ix1 j) = tapSum x0 x1 1 j := by
  unfold val_main_v48 val_main_v47 val_main_v46 val_main_v45 val_main_v19 val_main_cst_5 val_main_cst_6
  pointwise [reduce_unit_axes]
  pointwise [ref_zp, ref_d]
  exact tapSum_eq x0 x1 1 j

theorem ref_t0 (j : Fin 512) :
    val_main_v59 (F := Ideal) x0 x1 (ix1 j) = tapSum x0 x1 0 j := by
  unfold val_main_v59 val_main_v58 val_main_v57 val_main_v56 val_main_v13 val_main_cst_9 val_main_cst_10
  pointwise [reduce_unit_axes]
  pointwise [ref_zp, ref_d]
  refine Eq.trans ?_ (tapSum_eq x0 x1 0 j)
  exact Finset.sum_congr rfl fun T _ => by rw [Nat.zero_add]

/-- The reference's second result: the taps' gradient. -/
theorem ref_dw (k : Fin 8) (j : Fin 512) :
    val_main_v72 (F := Ideal) x0 x1 (ix2 k j) = gradTapsAt x0 x1 k j := by
  unfold val_main_v72 val_main_v64 val_main_v53 val_main_v42 val_main_v41 val_main_v52 val_main_v51 val_main_v63 val_main_v62 val_main_v71 val_main_cst_4 val_main_cst_8 val_main_cst_12 val_main_cst_13
  pointwise [ref_t0, ref_t1, ref_t2]
  by_cases h : k.val < 3
  · refine (dif_pos h).trans (Eq.trans ?_ (if_pos h).symm)
    by_cases h2 : k.val = 2
    · rw [dif_pos (by omega), dif_neg (by omega), dif_neg (by omega), h2, add_zero, add_zero]
    by_cases h1 : k.val = 1
    · rw [dif_neg (by omega), dif_pos (by omega), dif_neg (by omega), h1, zero_add, add_zero]
    · rw [dif_neg (by omega), dif_neg (by omega), dif_pos (by omega), zero_add, zero_add, show k.val = 0 by omega]
  · exact (dif_neg h).trans (if_neg h).symm

/-- The reference's first result: the gates' gradients. -/
theorem ref_gates (T : Fin 16384) (q : Fin 1536) :
    val_main_v70 (F := Ideal) x0 x1 x2 (ix2 T q) = gradGatesAt x0 x1 x2 T q := by
  unfold val_main_v70 val_main_v69 val_main_v68 val_main_v67 val_main_v33 val_main_v3 val_main_v4 val_main_v0 val_main_v6 val_main_v5
  pointwise [ref_dz, ref_y]
  by_cases h0 : q.val < 512
  · refine (dif_pos h0).trans ?_
    exact (gradGatesAt_b x0 x1 x2 T ⟨q.val, h0⟩ q rfl).symm
  refine (dif_neg h0).trans ?_
  by_cases h1 : q.val - 512 < 512
  · refine (dif_pos h1).trans ?_
    exact (gradGatesAt_c x0 x1 x2 T ⟨q.val - 512, h1⟩ q (by show q.val = 512 + (q.val - 512); omega)).symm
  · refine (dif_neg h1).trans ?_
    have hq := q.isLt
    exact (mul_comm _ _).trans (gradGatesAt_x x0 x1 x2 T ⟨q.val - 512 - 512, by omega⟩ q (by show q.val = 1024 + (q.val - 512 - 512); omega)).symm

end Cert.ConvProof
end
-- ==== Proof.ConvClaim.lean ====
module

public import proofs.«01_k».proof.Defs
public import proofs.«01_k».proof.Proof.ConvOut
public import proofs.«01_k».proof.Proof.ConvRefValue
public import proofs.«01_k».proof.Proof.Gen.ConvIdeal.Value

/-! The convolution's backward call and its reference end with the same arrays. -/

@[expose] public section

noncomputable section

namespace Cert.ConvProof

open Idealize.ShloMosaic Idealize.SL.Sem

theorem conv_algebraic :
    Cert.algebraic_ConvIdeal_ConvRefIdeal (hConvIdeal := Cert.ConvIdeal.Gen.facts) (hConvRefIdeal := Cert.ConvRefIdeal.Gen.facts) := by
  intro m g m' g' _ hargs
  refine ⟨fun c => gradGates (dcat m c) (hArr m c) (taps m c), fun c => gradTaps (dcat m c) (hArr m c), ?_, ?_⟩
  · refine (θ_run _ _ _).mono (fun r hr c => ?_) (Cert.ConvIdeal.Value.run_blocks m g)
    exact ⟨(hr c).1.trans (out9 m c), (hr c).2.1.trans (out10 m c), (hr c).2.2⟩
  · refine (θ_run _ _ _).mono (fun r hr c => ?_) (Cert.ConvRefIdeal.Value.run m' g')
    obtain ⟨e0, e1, e2⟩ := hargs c
    refine ⟨(hr c).1.trans ((Cert.ConvRefIdeal.Read.val_main_v70_eq m' c).trans ?_),
      (hr c).2.1.trans ((Cert.ConvRefIdeal.Read.val_main_v72_eq m' c).trans ?_), (hr c).2.2⟩
    · rw [e0, e1, e2]
      funext y
      obtain ⟨T, q, rfl⟩ : ∃ (T : Fin 16384) (q : Fin 1536), y = ix2 T q := ⟨y 0, y 1, eq_ix2 y⟩
      exact ref_gates _ _ _ T q
    · rw [e0, e1]
      funext y
      obtain ⟨k, j, rfl⟩ : ∃ (k : Fin 8) (j : Fin 512), y = ix2 k j := ⟨y 0, y 1, eq_ix2 y⟩
      exact ref_dw _ _ k j

end Cert.ConvProof
end
-- ==== Proof.StepSums.lean ====
module

public import Idealize.ShloMosaic.Lib.Pointwise
public import Idealize.ShloMosaic.Lib.Pipeline.ValueKit

/-! Arrays of extended reals, and the sum of a matrix product cut into blocks of 1024 rows. -/

@[expose] public section

noncomputable section

namespace Cert.StepProof

open Idealize.ShloMosaic

abbrev Arr (a b : ℕ) : Type := (⟨2, ![a, b]⟩ : Shape).Idx → EReal

/-- The entry at row `T` and column `q`, zero outside the array. -/
def rd {R C : ℕ} (a : Arr R C) (T q : ℕ) : EReal := if h : T < R ∧ q < C then a (ix2 ⟨T, h.1⟩ ⟨q, h.2⟩) else 0

theorem rd_fin {R C : ℕ} (a : Arr R C) (T : Fin R) (q : Fin C) : a (ix2 T q) = rd a T.val q.val :=
  (dif_pos (c := T.val < R ∧ q.val < C) (t := fun h => a (ix2 ⟨T.val, h.1⟩ ⟨q.val, h.2⟩)) (e := fun _ => (0 : EReal)) ⟨T.isLt, q.isLt⟩).symm

/-- The gradient of a product `a w` at the weight `w`, for the gradient `b` at the product: `aᵀ b`. -/
def gradW {R K N : ℕ} (a : Arr R K) (b : Arr R N) : Arr K N := fun y => ∑ T : Fin R, a (ix2 T (y 0)) * b (ix2 T (y 1))

/-- What rows `1024 r` to `1024 r + 1023` add to `aᵀ b`. -/
def part {R K N : ℕ} (a : Arr R K) (b : Arr R N) (r k j : ℕ) : EReal :=
  ∑ i : Fin 1024, rd a (r * 1024 + i.val) k * rd b (r * 1024 + i.val) j

theorem blocks_sum (g : ℕ → EReal) : ∑ T : Fin 16384, g T.val = ∑ r ∈ Finset.range 16, ∑ i : Fin 1024, g (r * 1024 + i.val) := by
  rw [Fin.sum_univ_eq_sum_range g 16384, show (16384 : ℕ) = 16 * 1024 from rfl, Finset.sum_range_mul_split]
  exact Finset.sum_congr rfl fun r _ => (Fin.sum_univ_eq_sum_range (fun i => g (r * 1024 + i)) 1024).symm

theorem part_sum {K N : ℕ} (a : Arr 16384 K) (b : Arr 16384 N) (k : Fin K) (j : Fin N) :
    ∑ r ∈ Finset.range 16, part a b r k.val j.val = gradW a b (ix2 k j) :=
  (blocks_sum fun T => rd a T k.val * rd b T j.val).symm.trans
    (Finset.sum_congr rfl fun T _ => (congrArg₂ (· * ·) (rd_fin a T k) (rd_fin b T j)).symm)

/-- The product `x w`. -/
def mulAB {R K N : ℕ} (x : Arr R K) (w : Arr K N) : Arr R N := fun y => ∑ k : Fin K, x (ix2 (y 0) k) * w (ix2 k (y 1))

/-- The product `x wᵀ`. -/
def mulABt {R K N : ℕ} (x : Arr R K) (w : Arr N K) : Arr R N := fun y => ∑ k : Fin K, x (ix2 (y 0) k) * w (ix2 (y 1) k)

end Cert.StepProof
end
-- ==== Proof.DFfnDownClaim.lean ====
module

public import proofs.«01_k».proof.Defs
public import proofs.«01_k».proof.Proof.StepSums
public import proofs.«01_k».proof.Proof.Gen.DFfnDownIdeal.Value
public import proofs.«01_k».proof.Proof.Gen.DFfnDownRefIdeal.Read
public import Idealize.ShloMosaic.Lib.Pipeline.ValueKit
public import Idealize.ShloMosaic.Lib.Pipeline.ReadBack
public import Idealize.ShloMosaic.Lib.WritesUnit

/-! The gradient of the feed-forward's second weight. The call adds `aᵀ b` up over
    sixteen blocks of rows; its two results are the sum over all rows and that sum in the narrow format. -/

@[expose] public section

noncomputable section

namespace Cert.DFfnDownProof

open Idealize.ShloMosaic Idealize.SL.Sem Cert.StepProof

section kernel
open Cert.DFfnDownIdeal Cert.DFfnDownIdeal.Gen

variable (m : (ℓ : Loc nD τ sig) → Buf (Elt Ideal) ℓ) (c : Dev nD)

/-- The two arguments on device `c`. -/
abbrev argA : Arr 16384 2816 := m ((c.tc : Thread nD τ).loc main_arg0)
abbrev argB : Arr 16384 1024 := m ((c.tc : Thread nD τ).loc main_arg1)

theorem lt_points (t : Fin cfg0.N) : t.val < 32 := t.isLt

theorem idx0 : ∀ t : Fin cfg0.N, win0_0.index t = ![t.val % 16, (t.val / 16)] := by decide +kernel
theorem idx1 : ∀ t : Fin cfg0.N, win0_1.index t = ![t.val % 16, (t.val / 16 % 1)] := by decide +kernel
theorem idx2 : ∀ t : Fin cfg0.N, win0_2.index t = ![(t.val / 16), (t.val / 16 % 1)] := by decide +kernel
theorem idx3 : ∀ t : Fin cfg0.N, win0_3.index t = ![(t.val / 16), (t.val / 16 % 1)] := by decide +kernel

theorem blk0 (t : Fin cfg0.N) (r : Fin 1024) (k : Fin 1408) :
    iblk m c 0 t (ix2 r k) = rd (argA m c) (t.val % 16 * 1024 + r.val) ((t.val / 16) * 1408 + k.val) := by
  refine Eq.trans ?_ (rd_fin (argA m c) ⟨t.val % 16 * 1024 + r.val, by omega⟩ ⟨(t.val / 16) * 1408 + k.val, by have := lt_points t; omega⟩)
  blk_ext [iblk, V, idx0 t]

theorem blk1 (t : Fin cfg0.N) (r : Fin 1024) (j : Fin 1024) :
    iblk m c 1 t (ix2 r j) = rd (argB m c) (t.val % 16 * 1024 + r.val) ((t.val / 16 % 1) * 1024 + j.val) := by
  refine Eq.trans ?_ (rd_fin (argB m c) ⟨t.val % 16 * 1024 + r.val, by omega⟩ ⟨(t.val / 16 % 1) * 1024 + j.val, by have := lt_points t; omega⟩)
  blk_ext [iblk, V, idx1 t]

/-- What grid point `t` adds at row `k` and column `j` of its block. -/
def term (t : ℕ) (y : S1408x1024.Idx) : EReal :=
  part (argA m c) (argB m c) (t % 16) ((t / 16) * 1408 + (y 0).val) ((t / 16 % 1) * 1024 + (y 1).val)

theorem pay (t : Fin cfg0.N) (acc : Vec Ideal S1408x1024 .f32) (k : Fin 1408) (j : Fin 1024) :
    k0_pay2 acc (iblk m c 0 t) (iblk m c 1 t) (ix2 k j) = acc (ix2 k j) + term m c t.val (ix2 k j) := by
  unfold k0_pay2
  pointwise [blk0, blk1, term, part]

theorem fill (k : Fin 1408) (j : Fin 1024) : (k0_pay1 (F := Ideal)) (ix2 k j) = 0 := by
  unfold k0_pay1
  pointwise

theorem start (t : Fin cfg0.N) (h0 : t.val % 16 = 0) (k : Fin 1408) (j : Fin 1024) :
    (outsAt0 m c t.val t.isLt).1 (ix2 k j) = 0 + term m c t.val (ix2 k j) := by
  rw [outsAt0_A m c t h0 (by omega)]
  frame_open
  simp (disch := decide) only [↓ View.readCov_skip, ↓ View.readCov_cons_toLoadRect, ↓ View.readCov_fill]
  frame_out
  refine (pay m c t _ k j).trans ?_
  rw [fill]

theorem step (t : Fin cfg0.N) (h0 : ¬ t.val % 16 = 0) (k : Fin 1408) (j : Fin 1024) :
    (outsAt0 m c t.val t.isLt).1 (ix2 k j)
      = (outsAt0 m c (t.val - 1) (Nat.lt_of_le_of_lt (Nat.sub_le _ _) t.isLt)).1 (ix2 k j) + term m c t.val (ix2 k j) := by
  by_cases h1 : t.val % 16 = 15
  · rw [outsAt0_C m c t h0 h1]
    frame_out
    exact pay m c t _ k j
  · rw [outsAt0_B m c t h0 h1]
    frame_out
    exact pay m c t _ k j

/-- At the last of a block's sixteen points its sum is whole. -/
theorem sum15 (t : Fin cfg0.N) (hr : t.val % 16 = 15) (k : Fin 1408) (j : Fin 1024) :
    (outsAt0 m c t.val t.isLt).1 (ix2 k j)
      = gradW (argA m c) (argB m c) (ix2 ⟨(t.val / 16) * 1408 + k.val, by have := lt_points t; omega⟩ ⟨(t.val / 16 % 1) * 1024 + j.val, by have := lt_points t; omega⟩) := by
  have h := Pipeline.eq_sum_of_reset_step_apply (M := EReal) (fun n h => ((outsAt0 m c n h).1 : S1408x1024.Idx → EReal)) 16 0
    (fun b y => term m c b y)
    (fun t h0 y => by
      obtain ⟨k, j, rfl⟩ : ∃ (k : Fin 1408) (j : Fin 1024), y = ix2 k j := ⟨y 0, y 1, eq_ix2 y⟩
      exact start m c t h0 k j)
    (fun t h0 y => by
      obtain ⟨k, j, rfl⟩ : ∃ (k : Fin 1408) (j : Fin 1024), y = ix2 k j := ⟨y 0, y 1, eq_ix2 y⟩
      exact step m c t h0 k j)
    t (ix2 k j)
  refine (h.trans (zero_add _)).trans ?_
  rw [hr, ← part_sum]
  refine Finset.sum_congr rfl fun r hr => ?_
  have hr16 : r < 16 := Finset.mem_range.mp hr
  have e0 : (16 * (t.val / 16) + r) % 16 = r := by omega
  have e1 : (16 * (t.val / 16) + r) / 16 = t.val / 16 := by omega
  have e2 : (16 * (t.val / 16) + r) / 16 = t.val / 16 := by omega
  unfold term
  simp only [e0, e1, e2]
  rfl

theorem out2 : (dats m 0 c).arrAt 2 cfg0.N = gradW (argA m c) (argB m c) := by
  refine (dats m 0 c).arrAt_eq_of_covers 2 _ (by decide +kernel) fun t hf y => ?_
  blk_simp
  rw [after0_2]
  obtain ⟨k, j, rfl⟩ : ∃ (k : Fin 1408) (j : Fin 1024), y = ix2 k j := ⟨y 0, y 1, eq_ix2 y⟩
  refine (sum15 m c t ((flush0_2 t).mp hf) k j).trans (congrArg (gradW (argA m c) (argB m c)) (?_ : ix2 _ _ = _))
  blk_ext [idx2 t]

theorem copy (t : Fin cfg0.N) (hr : t.val % 16 = 15) (k : Fin 1408) (j : Fin 1024) :
    (outsAt0 m c t.val t.isLt).2 (ix2 k j) = (outsAt0 m c t.val t.isLt).1 (ix2 k j) := by
  rw [outsAt0_C m c t (by omega) hr]
  frame_open
  simp (disch := decide) only [↓ View.readCov_skip, ↓ View.readCov_cons_toLoadRect, ↓ View.readCov_fill]
  frame_out
  unfold k0_pay3
  pointwise

theorem out3 : (dats m 0 c).arrAt 3 cfg0.N = gradW (argA m c) (argB m c) := by
  refine (dats m 0 c).arrAt_eq_of_covers 3 _ (by decide +kernel) fun t hf y => ?_
  blk_simp
  rw [after0_3]
  obtain ⟨k, j, rfl⟩ : ∃ (k : Fin 1408) (j : Fin 1024), y = ix2 k j := ⟨y 0, y 1, eq_ix2 y⟩
  refine ((copy m c t ((flush0_3 t).mp hf) k j).trans (sum15 m c t ((flush0_3 t).mp hf) k j)).trans (congrArg (gradW (argA m c) (argB m c)) (?_ : ix2 _ _ = _))
  blk_ext [idx3 t]

end kernel

section reference
open Cert.DFfnDownRefIdeal Cert.DFfnDownRefIdeal.Gen Cert.DFfnDownRefIdeal.Read

theorem ref_wide (a : Arr 16384 2816) (b : Arr 16384 1024) : val_main_v4 (F := Ideal) a b = gradW a b := by
  funext y
  obtain ⟨k, j, rfl⟩ : ∃ (k : Fin 2816) (j : Fin 1024), y = ix2 k j := ⟨y 0, y 1, eq_ix2 y⟩
  refine Eq.trans ?_ (Finset.sum_congr rfl fun T _ => mul_comm (b (ix2 T j)) (a (ix2 T k)))
  unfold val_main_v4 val_main_v3 val_main_v0
  pointwise

theorem ref_narrow (a : Arr 16384 2816) (b : Arr 16384 1024) : val_main_v5 (F := Ideal) a b = gradW a b := ref_wide a b

/-- The reference runs to its end and leaves its arguments and every counter as they were. -/
theorem ref_frame : Cert.quiescent_DFfnDownRefIdeal (hDFfnDownRefIdeal := Cert.DFfnDownRefIdeal.Gen.facts) := fun m ρ _ =>
  (θ_run _ _ _).mono (fun r h => ⟨fun c => (h c).2.2, sem_eq_zero_of_no_sems (by decide) r.2⟩)
    (Cert.DFfnDownRefIdeal.Value.run m ρ)

end reference

/-- The call and its reference end with the same two arrays. -/
theorem algebraic :
    Cert.algebraic_DFfnDownIdeal_DFfnDownRefIdeal (hDFfnDownIdeal := Cert.DFfnDownIdeal.Gen.facts) (hDFfnDownRefIdeal := Cert.DFfnDownRefIdeal.Gen.facts) := by
  intro m g m' g' _ hargs
  refine ⟨fun c => gradW (argA m c) (argB m c), fun c => gradW (argA m c) (argB m c), ?_, ?_⟩
  · refine (θ_run _ _ _).mono (fun r hr c => ?_) (Cert.DFfnDownIdeal.Value.run_blocks m g)
    exact ⟨(hr c).1.trans (out2 m c), (hr c).2.1.trans (out3 m c), (hr c).2.2⟩
  · refine (θ_run _ _ _).mono (fun r hr c => ?_) (Cert.DFfnDownRefIdeal.Value.run m' g')
    obtain ⟨e0, e1⟩ := hargs c
    refine ⟨(hr c).1.trans ((Cert.DFfnDownRefIdeal.Read.val_main_v4_eq _ _).trans ?_),
      (hr c).2.1.trans ((Cert.DFfnDownRefIdeal.Read.val_main_v5_eq _ _).trans ?_), (hr c).2.2⟩
    · rw [e0, e1]
      exact ref_wide _ _
    · rw [e0, e1]
      exact ref_narrow _ _

end Cert.DFfnDownProof
end
-- ==== Proof.DInAClaim.lean ====
module

public import proofs.«01_k».proof.Defs
public import proofs.«01_k».proof.Proof.StepSums
public import proofs.«01_k».proof.Proof.Gen.DInAIdeal.Value
public import proofs.«01_k».proof.Proof.Gen.DInARefIdeal.Read
public import Idealize.ShloMosaic.Lib.Pipeline.ValueKit
public import Idealize.ShloMosaic.Lib.Pipeline.ReadBack
public import Idealize.ShloMosaic.Lib.WritesUnit

/-! The gradient of the input projection's first 512 columns. The call adds `aᵀ b` up over
    sixteen blocks of rows; its two results are the sum over all rows and that sum in the narrow format. -/

@[expose] public section

noncomputable section

namespace Cert.DInAProof

open Idealize.ShloMosaic Idealize.SL.Sem Cert.StepProof

section kernel
open Cert.DInAIdeal Cert.DInAIdeal.Gen

variable (m : (ℓ : Loc nD τ sig) → Buf (Elt Ideal) ℓ) (c : Dev nD)

/-- The two arguments on device `c`. -/
abbrev argA : Arr 16384 1024 := m ((c.tc : Thread nD τ).loc main_arg0)
abbrev argB : Arr 16384 512 := m ((c.tc : Thread nD τ).loc main_arg1)

theorem lt_points (t : Fin cfg0.N) : t.val < 16 := t.isLt

theorem idx0 : ∀ t : Fin cfg0.N, win0_0.index t = ![t.val % 16, (t.val / 16)] := by decide +kernel
theorem idx1 : ∀ t : Fin cfg0.N, win0_1.index t = ![t.val % 16, (t.val / 16 % 1)] := by decide +kernel
theorem idx2 : ∀ t : Fin cfg0.N, win0_2.index t = ![(t.val / 16), (t.val / 16 % 1)] := by decide +kernel
theorem idx3 : ∀ t : Fin cfg0.N, win0_3.index t = ![(t.val / 16), (t.val / 16 % 1)] := by decide +kernel

theorem blk0 (t : Fin cfg0.N) (r : Fin 1024) (k : Fin 1024) :
    iblk m c 0 t (ix2 r k) = rd (argA m c) (t.val % 16 * 1024 + r.val) ((t.val / 16) * 1024 + k.val) := by
  refine Eq.trans ?_ (rd_fin (argA m c) ⟨t.val % 16 * 1024 + r.val, by omega⟩ ⟨(t.val / 16) * 1024 + k.val, by have := lt_points t; omega⟩)
  blk_ext [iblk, V, idx0 t]

theorem blk1 (t : Fin cfg0.N) (r : Fin 1024) (j : Fin 512) :
    iblk m c 1 t (ix2 r j) = rd (argB m c) (t.val % 16 * 1024 + r.val) ((t.val / 16 % 1) * 512 + j.val) := by
  refine Eq.trans ?_ (rd_fin (argB m c) ⟨t.val % 16 * 1024 + r.val, by omega⟩ ⟨(t.val / 16 % 1) * 512 + j.val, by have := lt_points t; omega⟩)
  blk_ext [iblk, V, idx1 t]

/-- What grid point `t` adds at row `k` and column `j` of its block. -/
def term (t : ℕ) (y : S1024x512.Idx) : EReal :=
  part (argA m c) (argB m c) (t % 16) ((t / 16) * 1024 + (y 0).val) ((t / 16 % 1) * 512 + (y 1).val)

theorem pay (t : Fin cfg0.N) (acc : Vec Ideal S1024x512 .f32) (k : Fin 1024) (j : Fin 512) :
    k0_pay2 acc (iblk m c 0 t) (iblk m c 1 t) (ix2 k j) = acc (ix2 k j) + term m c t.val (ix2 k j) := by
  unfold k0_pay2
  pointwise [blk0, blk1, term, part]

theorem fill (k : Fin 1024) (j : Fin 512) : (k0_pay1 (F := Ideal)) (ix2 k j) = 0 := by
  unfold k0_pay1
  pointwise

theorem start (t : Fin cfg0.N) (h0 : t.val % 16 = 0) (k : Fin 1024) (j : Fin 512) :
    (outsAt0 m c t.val t.isLt).1 (ix2 k j) = 0 + term m c t.val (ix2 k j) := by
  rw [outsAt0_A m c t h0 (by omega)]
  frame_open
  simp (disch := decide) only [↓ View.readCov_skip, ↓ View.readCov_cons_toLoadRect, ↓ View.readCov_fill]
  frame_out
  refine (pay m c t _ k j).trans ?_
  rw [fill]

theorem step (t : Fin cfg0.N) (h0 : ¬ t.val % 16 = 0) (k : Fin 1024) (j : Fin 512) :
    (outsAt0 m c t.val t.isLt).1 (ix2 k j)
      = (outsAt0 m c (t.val - 1) (Nat.lt_of_le_of_lt (Nat.sub_le _ _) t.isLt)).1 (ix2 k j) + term m c t.val (ix2 k j) := by
  by_cases h1 : t.val % 16 = 15
  · rw [outsAt0_C m c t h0 h1]
    frame_out
    exact pay m c t _ k j
  · rw [outsAt0_B m c t h0 h1]
    frame_out
    exact pay m c t _ k j

/-- At the last of a block's sixteen points its sum is whole. -/
theorem sum15 (t : Fin cfg0.N) (hr : t.val % 16 = 15) (k : Fin 1024) (j : Fin 512) :
    (outsAt0 m c t.val t.isLt).1 (ix2 k j)
      = gradW (argA m c) (argB m c) (ix2 ⟨(t.val / 16) * 1024 + k.val, by have := lt_points t; omega⟩ ⟨(t.val / 16 % 1) * 512 + j.val, by have := lt_points t; omega⟩) := by
  have h := Pipeline.eq_sum_of_reset_step_apply (M := EReal) (fun n h => ((outsAt0 m c n h).1 : S1024x512.Idx → EReal)) 16 0
    (fun b y => term m c b y)
    (fun t h0 y => by
      obtain ⟨k, j, rfl⟩ : ∃ (k : Fin 1024) (j : Fin 512), y = ix2 k j := ⟨y 0, y 1, eq_ix2 y⟩
      exact start m c t h0 k j)
    (fun t h0 y => by
      obtain ⟨k, j, rfl⟩ : ∃ (k : Fin 1024) (j : Fin 512), y = ix2 k j := ⟨y 0, y 1, eq_ix2 y⟩
      exact step m c t h0 k j)
    t (ix2 k j)
  refine (h.trans (zero_add _)).trans ?_
  rw [hr, ← part_sum]
  refine Finset.sum_congr rfl fun r hr => ?_
  have hr16 : r < 16 := Finset.mem_range.mp hr
  have e0 : (16 * (t.val / 16) + r) % 16 = r := by omega
  have e1 : (16 * (t.val / 16) + r) / 16 = t.val / 16 := by omega
  have e2 : (16 * (t.val / 16) + r) / 16 = t.val / 16 := by omega
  unfold term
  simp only [e0, e1, e2]
  rfl

theorem out2 : (dats m 0 c).arrAt 2 cfg0.N = gradW (argA m c) (argB m c) := by
  refine (dats m 0 c).arrAt_eq_of_covers 2 _ (by decide +kernel) fun t hf y => ?_
  blk_simp
  rw [after0_2]
  obtain ⟨k, j, rfl⟩ : ∃ (k : Fin 1024) (j : Fin 512), y = ix2 k j := ⟨y 0, y 1, eq_ix2 y⟩
  refine (sum15 m c t ((flush0_2 t).mp hf) k j).trans (congrArg (gradW (argA m c) (argB m c)) (?_ : ix2 _ _ = _))
  blk_ext [idx2 t]

theorem copy (t : Fin cfg0.N) (hr : t.val % 16 = 15) (k : Fin 1024) (j : Fin 512) :
    (outsAt0 m c t.val t.isLt).2 (ix2 k j) = (outsAt0 m c t.val t.isLt).1 (ix2 k j) := by
  rw [outsAt0_C m c t (by omega) hr]
  frame_open
  simp (disch := decide) only [↓ View.readCov_skip, ↓ View.readCov_cons_toLoadRect, ↓ View.readCov_fill]
  frame_out
  unfold k0_pay3
  pointwise

theorem out3 : (dats m 0 c).arrAt 3 cfg0.N = gradW (argA m c) (argB m c) := by
  refine (dats m 0 c).arrAt_eq_of_covers 3 _ (by decide +kernel) fun t hf y => ?_
  blk_simp
  rw [after0_3]
  obtain ⟨k, j, rfl⟩ : ∃ (k : Fin 1024) (j : Fin 512), y = ix2 k j := ⟨y 0, y 1, eq_ix2 y⟩
  refine ((copy m c t ((flush0_3 t).mp hf) k j).trans (sum15 m c t ((flush0_3 t).mp hf) k j)).trans (congrArg (gradW (argA m c) (argB m c)) (?_ : ix2 _ _ = _))
  blk_ext [idx3 t]

end kernel

section reference
open Cert.DInARefIdeal Cert.DInARefIdeal.Gen Cert.DInARefIdeal.Read

theorem ref_wide (a : Arr 16384 1024) (b : Arr 16384 512) : val_main_v3 (F := Ideal) a b = gradW a b := by
  funext y
  obtain ⟨k, j, rfl⟩ : ∃ (k : Fin 1024) (j : Fin 512), y = ix2 k j := ⟨y 0, y 1, eq_ix2 y⟩
  refine Eq.trans ?_ (Finset.sum_congr rfl fun T _ => mul_comm (b (ix2 T j)) (a (ix2 T k)))
  unfold val_main_v3 val_main_v2
  pointwise

theorem ref_narrow (a : Arr 16384 1024) (b : Arr 16384 512) : val_main_v4 (F := Ideal) a b = gradW a b := ref_wide a b

/-- The reference runs to its end and leaves its arguments and every counter as they were. -/
theorem ref_frame : Cert.quiescent_DInARefIdeal (hDInARefIdeal := Cert.DInARefIdeal.Gen.facts) := fun m ρ _ =>
  (θ_run _ _ _).mono (fun r h => ⟨fun c => (h c).2.2, sem_eq_zero_of_no_sems (by decide) r.2⟩)
    (Cert.DInARefIdeal.Value.run m ρ)

end reference

/-- The call and its reference end with the same two arrays. -/
theorem algebraic :
    Cert.algebraic_DInAIdeal_DInARefIdeal (hDInAIdeal := Cert.DInAIdeal.Gen.facts) (hDInARefIdeal := Cert.DInARefIdeal.Gen.facts) := by
  intro m g m' g' _ hargs
  refine ⟨fun c => gradW (argA m c) (argB m c), fun c => gradW (argA m c) (argB m c), ?_, ?_⟩
  · refine (θ_run _ _ _).mono (fun r hr c => ?_) (Cert.DInAIdeal.Value.run_blocks m g)
    exact ⟨(hr c).1.trans (out2 m c), (hr c).2.1.trans (out3 m c), (hr c).2.2⟩
  · refine (θ_run _ _ _).mono (fun r hr c => ?_) (Cert.DInARefIdeal.Value.run m' g')
    obtain ⟨e0, e1⟩ := hargs c
    refine ⟨(hr c).1.trans ((Cert.DInARefIdeal.Read.val_main_v3_eq _ _).trans ?_),
      (hr c).2.1.trans ((Cert.DInARefIdeal.Read.val_main_v4_eq _ _).trans ?_), (hr c).2.2⟩
    · rw [e0, e1]
      exact ref_wide _ _
    · rw [e0, e1]
      exact ref_narrow _ _

end Cert.DInAProof
end
-- ==== Proof.DInBClaim.lean ====
module

public import proofs.«01_k».proof.Defs
public import proofs.«01_k».proof.Proof.StepSums
public import proofs.«01_k».proof.Proof.Gen.DInBIdeal.Value
public import proofs.«01_k».proof.Proof.Gen.DInBRefIdeal.Read
public import Idealize.ShloMosaic.Lib.Pipeline.ValueKit
public import Idealize.ShloMosaic.Lib.Pipeline.ReadBack
public import Idealize.ShloMosaic.Lib.WritesUnit

/-! The gradient of the input projection's last 1536 columns. The call adds `aᵀ b` up over
    sixteen blocks of rows; its two results are the sum over all rows and that sum in the narrow format. -/

@[expose] public section

noncomputable section

namespace Cert.DInBProof

open Idealize.ShloMosaic Idealize.SL.Sem Cert.StepProof

section kernel
open Cert.DInBIdeal Cert.DInBIdeal.Gen

variable (m : (ℓ : Loc nD τ sig) → Buf (Elt Ideal) ℓ) (c : Dev nD)

/-- The two arguments on device `c`. -/
abbrev argA : Arr 16384 1024 := m ((c.tc : Thread nD τ).loc main_arg0)
abbrev argB : Arr 16384 1536 := m ((c.tc : Thread nD τ).loc main_arg1)

theorem lt_points (t : Fin cfg0.N) : t.val < 16 := t.isLt

theorem idx0 : ∀ t : Fin cfg0.N, win0_0.index t = ![t.val % 16, (t.val / 16)] := by decide +kernel
theorem idx1 : ∀ t : Fin cfg0.N, win0_1.index t = ![t.val % 16, (t.val / 16 % 1)] := by decide +kernel
theorem idx2 : ∀ t : Fin cfg0.N, win0_2.index t = ![(t.val / 16), (t.val / 16 % 1)] := by decide +kernel
theorem idx3 : ∀ t : Fin cfg0.N, win0_3.index t = ![(t.val / 16), (t.val / 16 % 1)] := by decide +kernel

theorem blk0 (t : Fin cfg0.N) (r : Fin 1024) (k : Fin 1024) :
    iblk m c 0 t (ix2 r k) = rd (argA m c) (t.val % 16 * 1024 + r.val) ((t.val / 16) * 1024 + k.val) := by
  refine Eq.trans ?_ (rd_fin (argA m c) ⟨t.val % 16 * 1024 + r.val, by omega⟩ ⟨(t.val / 16) * 1024 + k.val, by have := lt_points t; omega⟩)
  blk_ext [iblk, V, idx0 t]

theorem blk1 (t : Fin cfg0.N) (r : Fin 1024) (j : Fin 1536) :
    iblk m c 1 t (ix2 r j) = rd (argB m c) (t.val % 16 * 1024 + r.val) ((t.val / 16 % 1) * 1536 + j.val) := by
  refine Eq.trans ?_ (rd_fin (argB m c) ⟨t.val % 16 * 1024 + r.val, by omega⟩ ⟨(t.val / 16 % 1) * 1536 + j.val, by have := lt_points t; omega⟩)
  blk_ext [iblk, V, idx1 t]

/-- What grid point `t` adds at row `k` and column `j` of its block. -/
def term (t : ℕ) (y : S1024x1536.Idx) : EReal :=
  part (argA m c) (argB m c) (t % 16) ((t / 16) * 1024 + (y 0).val) ((t / 16 % 1) * 1536 + (y 1).val)

theorem pay (t : Fin cfg0.N) (acc : Vec Ideal S1024x1536 .f32) (k : Fin 1024) (j : Fin 1536) :
    k0_pay2 acc (iblk m c 0 t) (iblk m c 1 t) (ix2 k j) = acc (ix2 k j) + term m c t.val (ix2 k j) := by
  unfold k0_pay2
  pointwise [blk0, blk1, term, part]

theorem fill (k : Fin 1024) (j : Fin 1536) : (k0_pay1 (F := Ideal)) (ix2 k j) = 0 := by
  unfold k0_pay1
  pointwise

theorem start (t : Fin cfg0.N) (h0 : t.val % 16 = 0) (k : Fin 1024) (j : Fin 1536) :
    (outsAt0 m c t.val t.isLt).1 (ix2 k j) = 0 + term m c t.val (ix2 k j) := by
  rw [outsAt0_A m c t h0 (by omega)]
  frame_open
  simp (disch := decide) only [↓ View.readCov_skip, ↓ View.readCov_cons_toLoadRect, ↓ View.readCov_fill]
  frame_out
  refine (pay m c t _ k j).trans ?_
  rw [fill]

theorem step (t : Fin cfg0.N) (h0 : ¬ t.val % 16 = 0) (k : Fin 1024) (j : Fin 1536) :
    (outsAt0 m c t.val t.isLt).1 (ix2 k j)
      = (outsAt0 m c (t.val - 1) (Nat.lt_of_le_of_lt (Nat.sub_le _ _) t.isLt)).1 (ix2 k j) + term m c t.val (ix2 k j) := by
  by_cases h1 : t.val % 16 = 15
  · rw [outsAt0_C m c t h0 h1]
    frame_out
    exact pay m c t _ k j
  · rw [outsAt0_B m c t h0 h1]
    frame_out
    exact pay m c t _ k j

/-- At the last of a block's sixteen points its sum is whole. -/
theorem sum15 (t : Fin cfg0.N) (hr : t.val % 16 = 15) (k : Fin 1024) (j : Fin 1536) :
    (outsAt0 m c t.val t.isLt).1 (ix2 k j)
      = gradW (argA m c) (argB m c) (ix2 ⟨(t.val / 16) * 1024 + k.val, by have := lt_points t; omega⟩ ⟨(t.val / 16 % 1) * 1536 + j.val, by have := lt_points t; omega⟩) := by
  have h := Pipeline.eq_sum_of_reset_step_apply (M := EReal) (fun n h => ((outsAt0 m c n h).1 : S1024x1536.Idx → EReal)) 16 0
    (fun b y => term m c b y)
    (fun t h0 y => by
      obtain ⟨k, j, rfl⟩ : ∃ (k : Fin 1024) (j : Fin 1536), y = ix2 k j := ⟨y 0, y 1, eq_ix2 y⟩
      exact start m c t h0 k j)
    (fun t h0 y => by
      obtain ⟨k, j, rfl⟩ : ∃ (k : Fin 1024) (j : Fin 1536), y = ix2 k j := ⟨y 0, y 1, eq_ix2 y⟩
      exact step m c t h0 k j)
    t (ix2 k j)
  refine (h.trans (zero_add _)).trans ?_
  rw [hr, ← part_sum]
  refine Finset.sum_congr rfl fun r hr => ?_
  have hr16 : r < 16 := Finset.mem_range.mp hr
  have e0 : (16 * (t.val / 16) + r) % 16 = r := by omega
  have e1 : (16 * (t.val / 16) + r) / 16 = t.val / 16 := by omega
  have e2 : (16 * (t.val / 16) + r) / 16 = t.val / 16 := by omega
  unfold term
  simp only [e0, e1, e2]
  rfl

theorem out2 : (dats m 0 c).arrAt 2 cfg0.N = gradW (argA m c) (argB m c) := by
  refine (dats m 0 c).arrAt_eq_of_covers 2 _ (by decide +kernel) fun t hf y => ?_
  blk_simp
  rw [after0_2]
  obtain ⟨k, j, rfl⟩ : ∃ (k : Fin 1024) (j : Fin 1536), y = ix2 k j := ⟨y 0, y 1, eq_ix2 y⟩
  refine (sum15 m c t ((flush0_2 t).mp hf) k j).trans (congrArg (gradW (argA m c) (argB m c)) (?_ : ix2 _ _ = _))
  blk_ext [idx2 t]

theorem copy (t : Fin cfg0.N) (hr : t.val % 16 = 15) (k : Fin 1024) (j : Fin 1536) :
    (outsAt0 m c t.val t.isLt).2 (ix2 k j) = (outsAt0 m c t.val t.isLt).1 (ix2 k j) := by
  rw [outsAt0_C m c t (by omega) hr]
  frame_open
  simp (disch := decide) only [↓ View.readCov_skip, ↓ View.readCov_cons_toLoadRect, ↓ View.readCov_fill]
  frame_out
  unfold k0_pay3
  pointwise

theorem out3 : (dats m 0 c).arrAt 3 cfg0.N = gradW (argA m c) (argB m c) := by
  refine (dats m 0 c).arrAt_eq_of_covers 3 _ (by decide +kernel) fun t hf y => ?_
  blk_simp
  rw [after0_3]
  obtain ⟨k, j, rfl⟩ : ∃ (k : Fin 1024) (j : Fin 1536), y = ix2 k j := ⟨y 0, y 1, eq_ix2 y⟩
  refine ((copy m c t ((flush0_3 t).mp hf) k j).trans (sum15 m c t ((flush0_3 t).mp hf) k j)).trans (congrArg (gradW (argA m c) (argB m c)) (?_ : ix2 _ _ = _))
  blk_ext [idx3 t]

end kernel

section reference
open Cert.DInBRefIdeal Cert.DInBRefIdeal.Gen Cert.DInBRefIdeal.Read

theorem ref_wide (a : Arr 16384 1024) (b : Arr 16384 1536) : val_main_v3 (F := Ideal) a b = gradW a b := by
  funext y
  obtain ⟨k, j, rfl⟩ : ∃ (k : Fin 1024) (j : Fin 1536), y = ix2 k j := ⟨y 0, y 1, eq_ix2 y⟩
  refine Eq.trans ?_ (Finset.sum_congr rfl fun T _ => mul_comm (b (ix2 T j)) (a (ix2 T k)))
  unfold val_main_v3 val_main_v2
  pointwise

theorem ref_narrow (a : Arr 16384 1024) (b : Arr 16384 1536) : val_main_v4 (F := Ideal) a b = gradW a b := ref_wide a b

/-- The reference runs to its end and leaves its arguments and every counter as they were. -/
theorem ref_frame : Cert.quiescent_DInBRefIdeal (hDInBRefIdeal := Cert.DInBRefIdeal.Gen.facts) := fun m ρ _ =>
  (θ_run _ _ _).mono (fun r h => ⟨fun c => (h c).2.2, sem_eq_zero_of_no_sems (by decide) r.2⟩)
    (Cert.DInBRefIdeal.Value.run m ρ)

end reference

/-- The call and its reference end with the same two arrays. -/
theorem algebraic :
    Cert.algebraic_DInBIdeal_DInBRefIdeal (hDInBIdeal := Cert.DInBIdeal.Gen.facts) (hDInBRefIdeal := Cert.DInBRefIdeal.Gen.facts) := by
  intro m g m' g' _ hargs
  refine ⟨fun c => gradW (argA m c) (argB m c), fun c => gradW (argA m c) (argB m c), ?_, ?_⟩
  · refine (θ_run _ _ _).mono (fun r hr c => ?_) (Cert.DInBIdeal.Value.run_blocks m g)
    exact ⟨(hr c).1.trans (out2 m c), (hr c).2.1.trans (out3 m c), (hr c).2.2⟩
  · refine (θ_run _ _ _).mono (fun r hr c => ?_) (Cert.DInBRefIdeal.Value.run m' g')
    obtain ⟨e0, e1⟩ := hargs c
    refine ⟨(hr c).1.trans ((Cert.DInBRefIdeal.Read.val_main_v3_eq _ _).trans ?_),
      (hr c).2.1.trans ((Cert.DInBRefIdeal.Read.val_main_v4_eq _ _).trans ?_), (hr c).2.2⟩
    · rw [e0, e1]
      exact ref_wide _ _
    · rw [e0, e1]
      exact ref_narrow _ _

end Cert.DInBProof
end
-- ==== Proof.DOutClaim.lean ====
module

public import proofs.«01_k».proof.Defs
public import proofs.«01_k».proof.Proof.StepSums
public import proofs.«01_k».proof.Proof.Gen.DOutIdeal.Value
public import proofs.«01_k».proof.Proof.Gen.DOutRefIdeal.Read
public import Idealize.ShloMosaic.Lib.Pipeline.ValueKit
public import Idealize.ShloMosaic.Lib.Pipeline.ReadBack
public import Idealize.ShloMosaic.Lib.WritesUnit

/-! The gradient of half of the output projection. The call adds `aᵀ b` up over
    sixteen blocks of rows; its two results are the sum over all rows and that sum in the narrow format. -/

@[expose] public section

noncomputable section

namespace Cert.DOutProof

open Idealize.ShloMosaic Idealize.SL.Sem Cert.StepProof

section kernel
open Cert.DOutIdeal Cert.DOutIdeal.Gen

variable (m : (ℓ : Loc nD τ sig) → Buf (Elt Ideal) ℓ) (c : Dev nD)

/-- The two arguments on device `c`. -/
abbrev argA : Arr 16384 512 := m ((c.tc : Thread nD τ).loc main_arg0)
abbrev argB : Arr 16384 1024 := m ((c.tc : Thread nD τ).loc main_arg1)

theorem lt_points (t : Fin cfg0.N) : t.val < 16 := t.isLt

theorem idx0 : ∀ t : Fin cfg0.N, win0_0.index t = ![t.val % 16, (t.val / 16)] := by decide +kernel
theorem idx1 : ∀ t : Fin cfg0.N, win0_1.index t = ![t.val % 16, (t.val / 16 % 1)] := by decide +kernel
theorem idx2 : ∀ t : Fin cfg0.N, win0_2.index t = ![(t.val / 16), (t.val / 16 % 1)] := by decide +kernel
theorem idx3 : ∀ t : Fin cfg0.N, win0_3.index t = ![(t.val / 16), (t.val / 16 % 1)] := by decide +kernel

theorem blk0 (t : Fin cfg0.N) (r : Fin 1024) (k : Fin 512) :
    iblk m c 0 t (ix2 r k) = rd (argA m c) (t.val % 16 * 1024 + r.val) ((t.val / 16) * 512 + k.val) := by
  refine Eq.trans ?_ (rd_fin (argA m c) ⟨t.val % 16 * 1024 + r.val, by omega⟩ ⟨(t.val / 16) * 512 + k.val, by have := lt_points t; omega⟩)
  blk_ext [iblk, V, idx0 t]

theorem blk1 (t : Fin cfg0.N) (r : Fin 1024) (j : Fin 1024) :
    iblk m c 1 t (ix2 r j) = rd (argB m c) (t.val % 16 * 1024 + r.val) ((t.val / 16 % 1) * 1024 + j.val) := by
  refine Eq.trans ?_ (rd_fin (argB m c) ⟨t.val % 16 * 1024 + r.val, by omega⟩ ⟨(t.val / 16 % 1) * 1024 + j.val, by have := lt_points t; omega⟩)
  blk_ext [iblk, V, idx1 t]

/-- What grid point `t` adds at row `k` and column `j` of its block. -/
def term (t : ℕ) (y : S512x1024.Idx) : EReal :=
  part (argA m c) (argB m c) (t % 16) ((t / 16) * 512 + (y 0).val) ((t / 16 % 1) * 1024 + (y 1).val)

theorem pay (t : Fin cfg0.N) (acc : Vec Ideal S512x1024 .f32) (k : Fin 512) (j : Fin 1024) :
    k0_pay2 acc (iblk m c 0 t) (iblk m c 1 t) (ix2 k j) = acc (ix2 k j) + term m c t.val (ix2 k j) := by
  unfold k0_pay2
  pointwise [blk0, blk1, term, part]

theorem fill (k : Fin 512) (j : Fin 1024) : (k0_pay1 (F := Ideal)) (ix2 k j) = 0 := by
  unfold k0_pay1
  pointwise

theorem start (t : Fin cfg0.N) (h0 : t.val % 16 = 0) (k : Fin 512) (j : Fin 1024) :
    (outsAt0 m c t.val t.isLt).1 (ix2 k j) = 0 + term m c t.val (ix2 k j) := by
  rw [outsAt0_A m c t h0 (by omega)]
  frame_open
  simp (disch := decide) only [↓ View.readCov_skip, ↓ View.readCov_cons_toLoadRect, ↓ View.readCov_fill]
  frame_out
  refine (pay m c t _ k j).trans ?_
  rw [fill]

theorem step (t : Fin cfg0.N) (h0 : ¬ t.val % 16 = 0) (k : Fin 512) (j : Fin 1024) :
    (outsAt0 m c t.val t.isLt).1 (ix2 k j)
      = (outsAt0 m c (t.val - 1) (Nat.lt_of_le_of_lt (Nat.sub_le _ _) t.isLt)).1 (ix2 k j) + term m c t.val (ix2 k j) := by
  by_cases h1 : t.val % 16 = 15
  · rw [outsAt0_C m c t h0 h1]
    frame_out
    exact pay m c t _ k j
  · rw [outsAt0_B m c t h0 h1]
    frame_out
    exact pay m c t _ k j

/-- At the last of a block's sixteen points its sum is whole. -/
theorem sum15 (t : Fin cfg0.N) (hr : t.val % 16 = 15) (k : Fin 512) (j : Fin 1024) :
    (outsAt0 m c t.val t.isLt).1 (ix2 k j)
      = gradW (argA m c) (argB m c) (ix2 ⟨(t.val / 16) * 512 + k.val, by have := lt_points t; omega⟩ ⟨(t.val / 16 % 1) * 1024 + j.val, by have := lt_points t; omega⟩) := by
  have h := Pipeline.eq_sum_of_reset_step_apply (M := EReal) (fun n h => ((outsAt0 m c n h).1 : S512x1024.Idx → EReal)) 16 0
    (fun b y => term m c b y)
    (fun t h0 y => by
      obtain ⟨k, j, rfl⟩ : ∃ (k : Fin 512) (j : Fin 1024), y = ix2 k j := ⟨y 0, y 1, eq_ix2 y⟩
      exact start m c t h0 k j)
    (fun t h0 y => by
      obtain ⟨k, j, rfl⟩ : ∃ (k : Fin 512) (j : Fin 1024), y = ix2 k j := ⟨y 0, y 1, eq_ix2 y⟩
      exact step m c t h0 k j)
    t (ix2 k j)
  refine (h.trans (zero_add _)).trans ?_
  rw [hr, ← part_sum]
  refine Finset.sum_congr rfl fun r hr => ?_
  have hr16 : r < 16 := Finset.mem_range.mp hr
  have e0 : (16 * (t.val / 16) + r) % 16 = r := by omega
  have e1 : (16 * (t.val / 16) + r) / 16 = t.val / 16 := by omega
  have e2 : (16 * (t.val / 16) + r) / 16 = t.val / 16 := by omega
  unfold term
  simp only [e0, e1, e2]
  rfl

theorem out2 : (dats m 0 c).arrAt 2 cfg0.N = gradW (argA m c) (argB m c) := by
  refine (dats m 0 c).arrAt_eq_of_covers 2 _ (by decide +kernel) fun t hf y => ?_
  blk_simp
  rw [after0_2]
  obtain ⟨k, j, rfl⟩ : ∃ (k : Fin 512) (j : Fin 1024), y = ix2 k j := ⟨y 0, y 1, eq_ix2 y⟩
  refine (sum15 m c t ((flush0_2 t).mp hf) k j).trans (congrArg (gradW (argA m c) (argB m c)) (?_ : ix2 _ _ = _))
  blk_ext [idx2 t]

theorem copy (t : Fin cfg0.N) (hr : t.val % 16 = 15) (k : Fin 512) (j : Fin 1024) :
    (outsAt0 m c t.val t.isLt).2 (ix2 k j) = (outsAt0 m c t.val t.isLt).1 (ix2 k j) := by
  rw [outsAt0_C m c t (by omega) hr]
  frame_open
  simp (disch := decide) only [↓ View.readCov_skip, ↓ View.readCov_cons_toLoadRect, ↓ View.readCov_fill]
  frame_out
  unfold k0_pay3
  pointwise

theorem out3 : (dats m 0 c).arrAt 3 cfg0.N = gradW (argA m c) (argB m c) := by
  refine (dats m 0 c).arrAt_eq_of_covers 3 _ (by decide +kernel) fun t hf y => ?_
  blk_simp
  rw [after0_3]
  obtain ⟨k, j, rfl⟩ : ∃ (k : Fin 512) (j : Fin 1024), y = ix2 k j := ⟨y 0, y 1, eq_ix2 y⟩
  refine ((copy m c t ((flush0_3 t).mp hf) k j).trans (sum15 m c t ((flush0_3 t).mp hf) k j)).trans (congrArg (gradW (argA m c) (argB m c)) (?_ : ix2 _ _ = _))
  blk_ext [idx3 t]

end kernel

section reference
open Cert.DOutRefIdeal Cert.DOutRefIdeal.Gen Cert.DOutRefIdeal.Read

theorem ref_wide (a : Arr 16384 512) (b : Arr 16384 1024) : val_main_v4 (F := Ideal) a b = gradW a b := by
  funext y
  obtain ⟨k, j, rfl⟩ : ∃ (k : Fin 512) (j : Fin 1024), y = ix2 k j := ⟨y 0, y 1, eq_ix2 y⟩
  refine Eq.trans ?_ (Finset.sum_congr rfl fun T _ => mul_comm (b (ix2 T j)) (a (ix2 T k)))
  unfold val_main_v4 val_main_v3 val_main_v0
  pointwise

theorem ref_narrow (a : Arr 16384 512) (b : Arr 16384 1024) : val_main_v5 (F := Ideal) a b = gradW a b := ref_wide a b

/-- The reference runs to its end and leaves its arguments and every counter as they were. -/
theorem ref_frame : Cert.quiescent_DOutRefIdeal (hDOutRefIdeal := Cert.DOutRefIdeal.Gen.facts) := fun m ρ _ =>
  (θ_run _ _ _).mono (fun r h => ⟨fun c => (h c).2.2, sem_eq_zero_of_no_sems (by decide) r.2⟩)
    (Cert.DOutRefIdeal.Value.run m ρ)

end reference

/-- The call and its reference end with the same two arrays. -/
theorem algebraic :
    Cert.algebraic_DOutIdeal_DOutRefIdeal (hDOutIdeal := Cert.DOutIdeal.Gen.facts) (hDOutRefIdeal := Cert.DOutRefIdeal.Gen.facts) := by
  intro m g m' g' _ hargs
  refine ⟨fun c => gradW (argA m c) (argB m c), fun c => gradW (argA m c) (argB m c), ?_, ?_⟩
  · refine (θ_run _ _ _).mono (fun r hr c => ?_) (Cert.DOutIdeal.Value.run_blocks m g)
    exact ⟨(hr c).1.trans (out2 m c), (hr c).2.1.trans (out3 m c), (hr c).2.2⟩
  · refine (θ_run _ _ _).mono (fun r hr c => ?_) (Cert.DOutRefIdeal.Value.run m' g')
    obtain ⟨e0, e1⟩ := hargs c
    refine ⟨(hr c).1.trans ((Cert.DOutRefIdeal.Read.val_main_v4_eq _ _).trans ?_),
      (hr c).2.1.trans ((Cert.DOutRefIdeal.Read.val_main_v5_eq _ _).trans ?_), (hr c).2.2⟩
    · rw [e0, e1]
      exact ref_wide _ _
    · rw [e0, e1]
      exact ref_narrow _ _

end Cert.DOutProof
end
-- ==== Proof.DPleGateClaim.lean ====
module

public import proofs.«01_k».proof.Defs
public import proofs.«01_k».proof.Proof.StepSums
public import proofs.«01_k».proof.Proof.Gen.DPleGateIdeal.Value
public import proofs.«01_k».proof.Proof.Gen.DPleGateRefIdeal.Read
public import Idealize.ShloMosaic.Lib.Pipeline.ValueKit
public import Idealize.ShloMosaic.Lib.Pipeline.ReadBack
public import Idealize.ShloMosaic.Lib.WritesUnit

/-! The gradient of the per-layer embedding's gate weight. The call adds `aᵀ b` up over
    sixteen blocks of rows; its two results are the sum over all rows and that sum in the narrow format. -/

@[expose] public section

noncomputable section

namespace Cert.DPleGateProof

open Idealize.ShloMosaic Idealize.SL.Sem Cert.StepProof

section kernel
open Cert.DPleGateIdeal Cert.DPleGateIdeal.Gen

variable (m : (ℓ : Loc nD τ sig) → Buf (Elt Ideal) ℓ) (c : Dev nD)

/-- The two arguments on device `c`. -/
abbrev argA : Arr 16384 1024 := m ((c.tc : Thread nD τ).loc main_arg0)
abbrev argB : Arr 16384 1024 := m ((c.tc : Thread nD τ).loc main_arg1)

theorem lt_points (t : Fin cfg0.N) : t.val < 16 := t.isLt

theorem idx0 : ∀ t : Fin cfg0.N, win0_0.index t = ![t.val % 16, (t.val / 16)] := by decide +kernel
theorem idx1 : ∀ t : Fin cfg0.N, win0_1.index t = ![t.val % 16, (t.val / 16 % 1)] := by decide +kernel
theorem idx2 : ∀ t : Fin cfg0.N, win0_2.index t = ![(t.val / 16), (t.val / 16 % 1)] := by decide +kernel
theorem idx3 : ∀ t : Fin cfg0.N, win0_3.index t = ![(t.val / 16), (t.val / 16 % 1)] := by decide +kernel

theorem blk0 (t : Fin cfg0.N) (r : Fin 1024) (k : Fin 1024) :
    iblk m c 0 t (ix2 r k) = rd (argA m c) (t.val % 16 * 1024 + r.val) ((t.val / 16) * 1024 + k.val) := by
  refine Eq.trans ?_ (rd_fin (argA m c) ⟨t.val % 16 * 1024 + r.val, by omega⟩ ⟨(t.val / 16) * 1024 + k.val, by have := lt_points t; omega⟩)
  blk_ext [iblk, V, idx0 t]

theorem blk1 (t : Fin cfg0.N) (r : Fin 1024) (j : Fin 1024) :
    iblk m c 1 t (ix2 r j) = rd (argB m c) (t.val % 16 * 1024 + r.val) ((t.val / 16 % 1) * 1024 + j.val) := by
  refine Eq.trans ?_ (rd_fin (argB m c) ⟨t.val % 16 * 1024 + r.val, by omega⟩ ⟨(t.val / 16 % 1) * 1024 + j.val, by have := lt_points t; omega⟩)
  blk_ext [iblk, V, idx1 t]

/-- What grid point `t` adds at row `k` and column `j` of its block. -/
def term (t : ℕ) (y : S1024x1024.Idx) : EReal :=
  part (argA m c) (argB m c) (t % 16) ((t / 16) * 1024 + (y 0).val) ((t / 16 % 1) * 1024 + (y 1).val)

theorem pay (t : Fin cfg0.N) (acc : Vec Ideal S1024x1024 .f32) (k : Fin 1024) (j : Fin 1024) :
    k0_pay2 acc (iblk m c 0 t) (iblk m c 1 t) (ix2 k j) = acc (ix2 k j) + term m c t.val (ix2 k j) := by
  unfold k0_pay2
  pointwise [blk0, blk1, term, part]

theorem fill (k : Fin 1024) (j : Fin 1024) : (k0_pay1 (F := Ideal)) (ix2 k j) = 0 := by
  unfold k0_pay1
  pointwise

theorem start (t : Fin cfg0.N) (h0 : t.val % 16 = 0) (k : Fin 1024) (j : Fin 1024) :
    (outsAt0 m c t.val t.isLt).1 (ix2 k j) = 0 + term m c t.val (ix2 k j) := by
  rw [outsAt0_A m c t h0 (by omega)]
  frame_open
  simp (disch := decide) only [↓ View.readCov_skip, ↓ View.readCov_cons_toLoadRect, ↓ View.readCov_fill]
  frame_out
  refine (pay m c t _ k j).trans ?_
  rw [fill]

theorem step (t : Fin cfg0.N) (h0 : ¬ t.val % 16 = 0) (k : Fin 1024) (j : Fin 1024) :
    (outsAt0 m c t.val t.isLt).1 (ix2 k j)
      = (outsAt0 m c (t.val - 1) (Nat.lt_of_le_of_lt (Nat.sub_le _ _) t.isLt)).1 (ix2 k j) + term m c t.val (ix2 k j) := by
  by_cases h1 : t.val % 16 = 15
  · rw [outsAt0_C m c t h0 h1]
    frame_out
    exact pay m c t _ k j
  · rw [outsAt0_B m c t h0 h1]
    frame_out
    exact pay m c t _ k j

/-- At the last of a block's sixteen points its sum is whole. -/
theorem sum15 (t : Fin cfg0.N) (hr : t.val % 16 = 15) (k : Fin 1024) (j : Fin 1024) :
    (outsAt0 m c t.val t.isLt).1 (ix2 k j)
      = gradW (argA m c) (argB m c) (ix2 ⟨(t.val / 16) * 1024 + k.val, by have := lt_points t; omega⟩ ⟨(t.val / 16 % 1) * 1024 + j.val, by have := lt_points t; omega⟩) := by
  have h := Pipeline.eq_sum_of_reset_step_apply (M := EReal) (fun n h => ((outsAt0 m c n h).1 : S1024x1024.Idx → EReal)) 16 0
    (fun b y => term m c b y)
    (fun t h0 y => by
      obtain ⟨k, j, rfl⟩ : ∃ (k : Fin 1024) (j : Fin 1024), y = ix2 k j := ⟨y 0, y 1, eq_ix2 y⟩
      exact start m c t h0 k j)
    (fun t h0 y => by
      obtain ⟨k, j, rfl⟩ : ∃ (k : Fin 1024) (j : Fin 1024), y = ix2 k j := ⟨y 0, y 1, eq_ix2 y⟩
      exact step m c t h0 k j)
    t (ix2 k j)
  refine (h.trans (zero_add _)).trans ?_
  rw [hr, ← part_sum]
  refine Finset.sum_congr rfl fun r hr => ?_
  have hr16 : r < 16 := Finset.mem_range.mp hr
  have e0 : (16 * (t.val / 16) + r) % 16 = r := by omega
  have e1 : (16 * (t.val / 16) + r) / 16 = t.val / 16 := by omega
  have e2 : (16 * (t.val / 16) + r) / 16 = t.val / 16 := by omega
  unfold term
  simp only [e0, e1, e2]
  rfl

theorem out2 : (dats m 0 c).arrAt 2 cfg0.N = gradW (argA m c) (argB m c) := by
  refine (dats m 0 c).arrAt_eq_of_covers 2 _ (by decide +kernel) fun t hf y => ?_
  blk_simp
  rw [after0_2]
  obtain ⟨k, j, rfl⟩ : ∃ (k : Fin 1024) (j : Fin 1024), y = ix2 k j := ⟨y 0, y 1, eq_ix2 y⟩
  refine (sum15 m c t ((flush0_2 t).mp hf) k j).trans (congrArg (gradW (argA m c) (argB m c)) (?_ : ix2 _ _ = _))
  blk_ext [idx2 t]

theorem copy (t : Fin cfg0.N) (hr : t.val % 16 = 15) (k : Fin 1024) (j : Fin 1024) :
    (outsAt0 m c t.val t.isLt).2 (ix2 k j) = (outsAt0 m c t.val t.isLt).1 (ix2 k j) := by
  rw [outsAt0_C m c t (by omega) hr]
  frame_open
  simp (disch := decide) only [↓ View.readCov_skip, ↓ View.readCov_cons_toLoadRect, ↓ View.readCov_fill]
  frame_out
  unfold k0_pay3
  pointwise

theorem out3 : (dats m 0 c).arrAt 3 cfg0.N = gradW (argA m c) (argB m c) := by
  refine (dats m 0 c).arrAt_eq_of_covers 3 _ (by decide +kernel) fun t hf y => ?_
  blk_simp
  rw [after0_3]
  obtain ⟨k, j, rfl⟩ : ∃ (k : Fin 1024) (j : Fin 1024), y = ix2 k j := ⟨y 0, y 1, eq_ix2 y⟩
  refine ((copy m c t ((flush0_3 t).mp hf) k j).trans (sum15 m c t ((flush0_3 t).mp hf) k j)).trans (congrArg (gradW (argA m c) (argB m c)) (?_ : ix2 _ _ = _))
  blk_ext [idx3 t]

end kernel

section reference
open Cert.DPleGateRefIdeal Cert.DPleGateRefIdeal.Gen Cert.DPleGateRefIdeal.Read

theorem ref_wide (a : Arr 16384 1024) (b : Arr 16384 1024) : val_main_v4 (F := Ideal) a b = gradW a b := by
  funext y
  obtain ⟨k, j, rfl⟩ : ∃ (k : Fin 1024) (j : Fin 1024), y = ix2 k j := ⟨y 0, y 1, eq_ix2 y⟩
  refine Eq.trans ?_ (Finset.sum_congr rfl fun T _ => mul_comm (b (ix2 T j)) (a (ix2 T k)))
  unfold val_main_v4 val_main_v3 val_main_v0
  pointwise

theorem ref_narrow (a : Arr 16384 1024) (b : Arr 16384 1024) : val_main_v5 (F := Ideal) a b = gradW a b := ref_wide a b

/-- The reference runs to its end and leaves its arguments and every counter as they were. -/
theorem ref_frame : Cert.quiescent_DPleGateRefIdeal (hDPleGateRefIdeal := Cert.DPleGateRefIdeal.Gen.facts) := fun m ρ _ =>
  (θ_run _ _ _).mono (fun r h => ⟨fun c => (h c).2.2, sem_eq_zero_of_no_sems (by decide) r.2⟩)
    (Cert.DPleGateRefIdeal.Value.run m ρ)

end reference

/-- The call and its reference end with the same two arrays. -/
theorem algebraic :
    Cert.algebraic_DPleGateIdeal_DPleGateRefIdeal (hDPleGateIdeal := Cert.DPleGateIdeal.Gen.facts) (hDPleGateRefIdeal := Cert.DPleGateRefIdeal.Gen.facts) := by
  intro m g m' g' _ hargs
  refine ⟨fun c => gradW (argA m c) (argB m c), fun c => gradW (argA m c) (argB m c), ?_, ?_⟩
  · refine (θ_run _ _ _).mono (fun r hr c => ?_) (Cert.DPleGateIdeal.Value.run_blocks m g)
    exact ⟨(hr c).1.trans (out2 m c), (hr c).2.1.trans (out3 m c), (hr c).2.2⟩
  · refine (θ_run _ _ _).mono (fun r hr c => ?_) (Cert.DPleGateRefIdeal.Value.run m' g')
    obtain ⟨e0, e1⟩ := hargs c
    refine ⟨(hr c).1.trans ((Cert.DPleGateRefIdeal.Read.val_main_v4_eq _ _).trans ?_),
      (hr c).2.1.trans ((Cert.DPleGateRefIdeal.Read.val_main_v5_eq _ _).trans ?_), (hr c).2.2⟩
    · rw [e0, e1]
      exact ref_wide _ _
    · rw [e0, e1]
      exact ref_narrow _ _

end Cert.DPleGateProof
end
-- ==== Proof.DPleProjClaim.lean ====
module

public import proofs.«01_k».proof.Defs
public import proofs.«01_k».proof.Proof.StepSums
public import proofs.«01_k».proof.Proof.Gen.DPleProjIdeal.Value
public import proofs.«01_k».proof.Proof.Gen.DPleProjRefIdeal.Read
public import Idealize.ShloMosaic.Lib.Pipeline.ValueKit
public import Idealize.ShloMosaic.Lib.Pipeline.ReadBack
public import Idealize.ShloMosaic.Lib.WritesUnit

/-! The gradient of the per-layer embedding's projection. The call adds `aᵀ b` up over
    sixteen blocks of rows; its two results are the sum over all rows and that sum in the narrow format. -/

@[expose] public section

noncomputable section

namespace Cert.DPleProjProof

open Idealize.ShloMosaic Idealize.SL.Sem Cert.StepProof

section kernel
open Cert.DPleProjIdeal Cert.DPleProjIdeal.Gen

variable (m : (ℓ : Loc nD τ sig) → Buf (Elt Ideal) ℓ) (c : Dev nD)

/-- The two arguments on device `c`. -/
abbrev argA : Arr 16384 256 := m ((c.tc : Thread nD τ).loc main_arg0)
abbrev argB : Arr 16384 1024 := m ((c.tc : Thread nD τ).loc main_arg1)

theorem lt_points (t : Fin cfg0.N) : t.val < 16 := t.isLt

theorem idx0 : ∀ t : Fin cfg0.N, win0_0.index t = ![t.val % 16, (t.val / 16)] := by decide +kernel
theorem idx1 : ∀ t : Fin cfg0.N, win0_1.index t = ![t.val % 16, (t.val / 16 % 1)] := by decide +kernel
theorem idx2 : ∀ t : Fin cfg0.N, win0_2.index t = ![(t.val / 16), (t.val / 16 % 1)] := by decide +kernel
theorem idx3 : ∀ t : Fin cfg0.N, win0_3.index t = ![(t.val / 16), (t.val / 16 % 1)] := by decide +kernel

theorem blk0 (t : Fin cfg0.N) (r : Fin 1024) (k : Fin 256) :
    iblk m c 0 t (ix2 r k) = rd (argA m c) (t.val % 16 * 1024 + r.val) ((t.val / 16) * 256 + k.val) := by
  refine Eq.trans ?_ (rd_fin (argA m c) ⟨t.val % 16 * 1024 + r.val, by omega⟩ ⟨(t.val / 16) * 256 + k.val, by have := lt_points t; omega⟩)
  blk_ext [iblk, V, idx0 t]

theorem blk1 (t : Fin cfg0.N) (r : Fin 1024) (j : Fin 1024) :
    iblk m c 1 t (ix2 r j) = rd (argB m c) (t.val % 16 * 1024 + r.val) ((t.val / 16 % 1) * 1024 + j.val) := by
  refine Eq.trans ?_ (rd_fin (argB m c) ⟨t.val % 16 * 1024 + r.val, by omega⟩ ⟨(t.val / 16 % 1) * 1024 + j.val, by have := lt_points t; omega⟩)
  blk_ext [iblk, V, idx1 t]

/-- What grid point `t` adds at row `k` and column `j` of its block. -/
def term (t : ℕ) (y : S256x1024.Idx) : EReal :=
  part (argA m c) (argB m c) (t % 16) ((t / 16) * 256 + (y 0).val) ((t / 16 % 1) * 1024 + (y 1).val)

theorem pay (t : Fin cfg0.N) (acc : Vec Ideal S256x1024 .f32) (k : Fin 256) (j : Fin 1024) :
    k0_pay2 acc (iblk m c 0 t) (iblk m c 1 t) (ix2 k j) = acc (ix2 k j) + term m c t.val (ix2 k j) := by
  unfold k0_pay2
  pointwise [blk0, blk1, term, part]

theorem fill (k : Fin 256) (j : Fin 1024) : (k0_pay1 (F := Ideal)) (ix2 k j) = 0 := by
  unfold k0_pay1
  pointwise

theorem start (t : Fin cfg0.N) (h0 : t.val % 16 = 0) (k : Fin 256) (j : Fin 1024) :
    (outsAt0 m c t.val t.isLt).1 (ix2 k j) = 0 + term m c t.val (ix2 k j) := by
  rw [outsAt0_A m c t h0 (by omega)]
  frame_open
  simp (disch := decide) only [↓ View.readCov_skip, ↓ View.readCov_cons_toLoadRect, ↓ View.readCov_fill]
  frame_out
  refine (pay m c t _ k j).trans ?_
  rw [fill]

theorem step (t : Fin cfg0.N) (h0 : ¬ t.val % 16 = 0) (k : Fin 256) (j : Fin 1024) :
    (outsAt0 m c t.val t.isLt).1 (ix2 k j)
      = (outsAt0 m c (t.val - 1) (Nat.lt_of_le_of_lt (Nat.sub_le _ _) t.isLt)).1 (ix2 k j) + term m c t.val (ix2 k j) := by
  by_cases h1 : t.val % 16 = 15
  · rw [outsAt0_C m c t h0 h1]
    frame_out
    exact pay m c t _ k j
  · rw [outsAt0_B m c t h0 h1]
    frame_out
    exact pay m c t _ k j

/-- At the last of a block's sixteen points its sum is whole. -/
theorem sum15 (t : Fin cfg0.N) (hr : t.val % 16 = 15) (k : Fin 256) (j : Fin 1024) :
    (outsAt0 m c t.val t.isLt).1 (ix2 k j)
      = gradW (argA m c) (argB m c) (ix2 ⟨(t.val / 16) * 256 + k.val, by have := lt_points t; omega⟩ ⟨(t.val / 16 % 1) * 1024 + j.val, by have := lt_points t; omega⟩) := by
  have h := Pipeline.eq_sum_of_reset_step_apply (M := EReal) (fun n h => ((outsAt0 m c n h).1 : S256x1024.Idx → EReal)) 16 0
    (fun b y => term m c b y)
    (fun t h0 y => by
      obtain ⟨k, j, rfl⟩ : ∃ (k : Fin 256) (j : Fin 1024), y = ix2 k j := ⟨y 0, y 1, eq_ix2 y⟩
      exact start m c t h0 k j)
    (fun t h0 y => by
      obtain ⟨k, j, rfl⟩ : ∃ (k : Fin 256) (j : Fin 1024), y = ix2 k j := ⟨y 0, y 1, eq_ix2 y⟩
      exact step m c t h0 k j)
    t (ix2 k j)
  refine (h.trans (zero_add _)).trans ?_
  rw [hr, ← part_sum]
  refine Finset.sum_congr rfl fun r hr => ?_
  have hr16 : r < 16 := Finset.mem_range.mp hr
  have e0 : (16 * (t.val / 16) + r) % 16 = r := by omega
  have e1 : (16 * (t.val / 16) + r) / 16 = t.val / 16 := by omega
  have e2 : (16 * (t.val / 16) + r) / 16 = t.val / 16 := by omega
  unfold term
  simp only [e0, e1, e2]
  rfl

theorem out2 : (dats m 0 c).arrAt 2 cfg0.N = gradW (argA m c) (argB m c) := by
  refine (dats m 0 c).arrAt_eq_of_covers 2 _ (by decide +kernel) fun t hf y => ?_
  blk_simp
  rw [after0_2]
  obtain ⟨k, j, rfl⟩ : ∃ (k : Fin 256) (j : Fin 1024), y = ix2 k j := ⟨y 0, y 1, eq_ix2 y⟩
  refine (sum15 m c t ((flush0_2 t).mp hf) k j).trans (congrArg (gradW (argA m c) (argB m c)) (?_ : ix2 _ _ = _))
  blk_ext [idx2 t]

theorem copy (t : Fin cfg0.N) (hr : t.val % 16 = 15) (k : Fin 256) (j : Fin 1024) :
    (outsAt0 m c t.val t.isLt).2 (ix2 k j) = (outsAt0 m c t.val t.isLt).1 (ix2 k j) := by
  rw [outsAt0_C m c t (by omega) hr]
  frame_open
  simp (disch := decide) only [↓ View.readCov_skip, ↓ View.readCov_cons_toLoadRect, ↓ View.readCov_fill]
  frame_out
  unfold k0_pay3
  pointwise

theorem out3 : (dats m 0 c).arrAt 3 cfg0.N = gradW (argA m c) (argB m c) := by
  refine (dats m 0 c).arrAt_eq_of_covers 3 _ (by decide +kernel) fun t hf y => ?_
  blk_simp
  rw [after0_3]
  obtain ⟨k, j, rfl⟩ : ∃ (k : Fin 256) (j : Fin 1024), y = ix2 k j := ⟨y 0, y 1, eq_ix2 y⟩
  refine ((copy m c t ((flush0_3 t).mp hf) k j).trans (sum15 m c t ((flush0_3 t).mp hf) k j)).trans (congrArg (gradW (argA m c) (argB m c)) (?_ : ix2 _ _ = _))
  blk_ext [idx3 t]

end kernel

section reference
open Cert.DPleProjRefIdeal Cert.DPleProjRefIdeal.Gen Cert.DPleProjRefIdeal.Read

theorem ref_wide (a : Arr 16384 256) (b : Arr 16384 1024) : val_main_v4 (F := Ideal) a b = gradW a b := by
  funext y
  obtain ⟨k, j, rfl⟩ : ∃ (k : Fin 256) (j : Fin 1024), y = ix2 k j := ⟨y 0, y 1, eq_ix2 y⟩
  refine Eq.trans ?_ (Finset.sum_congr rfl fun T _ => mul_comm (b (ix2 T j)) (a (ix2 T k)))
  unfold val_main_v4 val_main_v3 val_main_v0
  pointwise

theorem ref_narrow (a : Arr 16384 256) (b : Arr 16384 1024) : val_main_v5 (F := Ideal) a b = gradW a b := ref_wide a b

/-- The reference runs to its end and leaves its arguments and every counter as they were. -/
theorem ref_frame : Cert.quiescent_DPleProjRefIdeal (hDPleProjRefIdeal := Cert.DPleProjRefIdeal.Gen.facts) := fun m ρ _ =>
  (θ_run _ _ _).mono (fun r h => ⟨fun c => (h c).2.2, sem_eq_zero_of_no_sems (by decide) r.2⟩)
    (Cert.DPleProjRefIdeal.Value.run m ρ)

end reference

/-- The call and its reference end with the same two arrays. -/
theorem algebraic :
    Cert.algebraic_DPleProjIdeal_DPleProjRefIdeal (hDPleProjIdeal := Cert.DPleProjIdeal.Gen.facts) (hDPleProjRefIdeal := Cert.DPleProjRefIdeal.Gen.facts) := by
  intro m g m' g' _ hargs
  refine ⟨fun c => gradW (argA m c) (argB m c), fun c => gradW (argA m c) (argB m c), ?_, ?_⟩
  · refine (θ_run _ _ _).mono (fun r hr c => ?_) (Cert.DPleProjIdeal.Value.run_blocks m g)
    exact ⟨(hr c).1.trans (out2 m c), (hr c).2.1.trans (out3 m c), (hr c).2.2⟩
  · refine (θ_run _ _ _).mono (fun r hr c => ?_) (Cert.DPleProjRefIdeal.Value.run m' g')
    obtain ⟨e0, e1⟩ := hargs c
    refine ⟨(hr c).1.trans ((Cert.DPleProjRefIdeal.Read.val_main_v4_eq _ _).trans ?_),
      (hr c).2.1.trans ((Cert.DPleProjRefIdeal.Read.val_main_v5_eq _ _).trans ?_), (hr c).2.2⟩
    · rw [e0, e1]
      exact ref_wide _ _
    · rw [e0, e1]
      exact ref_narrow _ _

end Cert.DPleProjProof
end
-- ==== Proof.DGluClaim.lean ====
module

public import proofs.«01_k».proof.Defs
public import proofs.«01_k».proof.Proof.StepSums
public import proofs.«01_k».proof.Proof.Gen.DGluIdeal.Value
public import proofs.«01_k».proof.Proof.Gen.DGluRefIdeal.Read
public import Idealize.ShloMosaic.Lib.Pipeline.ValueKit
public import Idealize.ShloMosaic.Lib.Pipeline.ReadBack
public import Idealize.ShloMosaic.Lib.WritesUnit

/-! The gradient of the gated unit's weight. The call adds `aᵀ b` up over
    sixteen blocks of rows; its two results are the sum over all rows and that sum in the narrow format. -/

@[expose] public section

noncomputable section

namespace Cert.DGluProof

open Idealize.ShloMosaic Idealize.SL.Sem Cert.StepProof

section kernel
open Cert.DGluIdeal Cert.DGluIdeal.Gen

variable (m : (ℓ : Loc nD τ sig) → Buf (Elt Ideal) ℓ) (c : Dev nD)

/-- The two arguments on device `c`. -/
abbrev argA : Arr 16384 512 := m ((c.tc : Thread nD τ).loc main_arg0)
abbrev argB : Arr 16384 512 := m ((c.tc : Thread nD τ).loc main_arg1)

theorem lt_points (t : Fin cfg0.N) : t.val < 16 := t.isLt

theorem idx0 : ∀ t : Fin cfg0.N, win0_0.index t = ![t.val % 16, (t.val / 16)] := by decide +kernel
theorem idx1 : ∀ t : Fin cfg0.N, win0_1.index t = ![t.val % 16, (t.val / 16 % 1)] := by decide +kernel
theorem idx2 : ∀ t : Fin cfg0.N, win0_2.index t = ![(t.val / 16), (t.val / 16 % 1)] := by decide +kernel
theorem idx3 : ∀ t : Fin cfg0.N, win0_3.index t = ![(t.val / 16), (t.val / 16 % 1)] := by decide +kernel

theorem blk0 (t : Fin cfg0.N) (r : Fin 1024) (k : Fin 512) :
    iblk m c 0 t (ix2 r k) = rd (argA m c) (t.val % 16 * 1024 + r.val) ((t.val / 16) * 512 + k.val) := by
  refine Eq.trans ?_ (rd_fin (argA m c) ⟨t.val % 16 * 1024 + r.val, by omega⟩ ⟨(t.val / 16) * 512 + k.val, by have := lt_points t; omega⟩)
  blk_ext [iblk, V, idx0 t]

theorem blk1 (t : Fin cfg0.N) (r : Fin 1024) (j : Fin 512) :
    iblk m c 1 t (ix2 r j) = rd (argB m c) (t.val % 16 * 1024 + r.val) ((t.val / 16 % 1) * 512 + j.val) := by
  refine Eq.trans ?_ (rd_fin (argB m c) ⟨t.val % 16 * 1024 + r.val, by omega⟩ ⟨(t.val / 16 % 1) * 512 + j.val, by have := lt_points t; omega⟩)
  blk_ext [iblk, V, idx1 t]

/-- What grid point `t` adds at row `k` and column `j` of its block. -/
def term (t : ℕ) (y : S512x512.Idx) : EReal :=
  part (argA m c) (argB m c) (t % 16) ((t / 16) * 512 + (y 0).val) ((t / 16 % 1) * 512 + (y 1).val)

theorem pay (t : Fin cfg0.N) (acc : Vec Ideal S512x512 .f32) (k : Fin 512) (j : Fin 512) :
    k0_pay2 acc (iblk m c 0 t) (iblk m c 1 t) (ix2 k j) = acc (ix2 k j) + term m c t.val (ix2 k j) := by
  unfold k0_pay2
  pointwise [blk0, blk1, term, part]

theorem fill (k : Fin 512) (j : Fin 512) : (k0_pay1 (F := Ideal)) (ix2 k j) = 0 := by
  unfold k0_pay1
  pointwise

theorem start (t : Fin cfg0.N) (h0 : t.val % 16 = 0) (k : Fin 512) (j : Fin 512) :
    (outsAt0 m c t.val t.isLt).1 (ix2 k j) = 0 + term m c t.val (ix2 k j) := by
  rw [outsAt0_A m c t h0 (by omega)]
  frame_open
  simp (disch := decide) only [↓ View.readCov_skip, ↓ View.readCov_cons_toLoadRect, ↓ View.readCov_fill]
  frame_out
  refine (pay m c t _ k j).trans ?_
  rw [fill]

theorem step (t : Fin cfg0.N) (h0 : ¬ t.val % 16 = 0) (k : Fin 512) (j : Fin 512) :
    (outsAt0 m c t.val t.isLt).1 (ix2 k j)
      = (outsAt0 m c (t.val - 1) (Nat.lt_of_le_of_lt (Nat.sub_le _ _) t.isLt)).1 (ix2 k j) + term m c t.val (ix2 k j) := by
  by_cases h1 : t.val % 16 = 15
  · rw [outsAt0_C m c t h0 h1]
    frame_out
    exact pay m c t _ k j
  · rw [outsAt0_B m c t h0 h1]
    frame_out
    exact pay m c t _ k j

/-- At the last of a block's sixteen points its sum is whole. -/
theorem sum15 (t : Fin cfg0.N) (hr : t.val % 16 = 15) (k : Fin 512) (j : Fin 512) :
    (outsAt0 m c t.val t.isLt).1 (ix2 k j)
      = gradW (argA m c) (argB m c) (ix2 ⟨(t.val / 16) * 512 + k.val, by have := lt_points t; omega⟩ ⟨(t.val / 16 % 1) * 512 + j.val, by have := lt_points t; omega⟩) := by
  have h := Pipeline.eq_sum_of_reset_step_apply (M := EReal) (fun n h => ((outsAt0 m c n h).1 : S512x512.Idx → EReal)) 16 0
    (fun b y => term m c b y)
    (fun t h0 y => by
      obtain ⟨k, j, rfl⟩ : ∃ (k : Fin 512) (j : Fin 512), y = ix2 k j := ⟨y 0, y 1, eq_ix2 y⟩
      exact start m c t h0 k j)
    (fun t h0 y => by
      obtain ⟨k, j, rfl⟩ : ∃ (k : Fin 512) (j : Fin 512), y = ix2 k j := ⟨y 0, y 1, eq_ix2 y⟩
      exact step m c t h0 k j)
    t (ix2 k j)
  refine (h.trans (zero_add _)).trans ?_
  rw [hr, ← part_sum]
  refine Finset.sum_congr rfl fun r hr => ?_
  have hr16 : r < 16 := Finset.mem_range.mp hr
  have e0 : (16 * (t.val / 16) + r) % 16 = r := by omega
  have e1 : (16 * (t.val / 16) + r) / 16 = t.val / 16 := by omega
  have e2 : (16 * (t.val / 16) + r) / 16 = t.val / 16 := by omega
  unfold term
  simp only [e0, e1, e2]
  rfl

theorem out2 : (dats m 0 c).arrAt 2 cfg0.N = gradW (argA m c) (argB m c) := by
  refine (dats m 0 c).arrAt_eq_of_covers 2 _ (by decide +kernel) fun t hf y => ?_
  blk_simp
  rw [after0_2]
  obtain ⟨k, j, rfl⟩ : ∃ (k : Fin 512) (j : Fin 512), y = ix2 k j := ⟨y 0, y 1, eq_ix2 y⟩
  refine (sum15 m c t ((flush0_2 t).mp hf) k j).trans (congrArg (gradW (argA m c) (argB m c)) (?_ : ix2 _ _ = _))
  blk_ext [idx2 t]

theorem copy (t : Fin cfg0.N) (hr : t.val % 16 = 15) (k : Fin 512) (j : Fin 512) :
    (outsAt0 m c t.val t.isLt).2 (ix2 k j) = (outsAt0 m c t.val t.isLt).1 (ix2 k j) := by
  rw [outsAt0_C m c t (by omega) hr]
  frame_open
  simp (disch := decide) only [↓ View.readCov_skip, ↓ View.readCov_cons_toLoadRect, ↓ View.readCov_fill]
  frame_out
  unfold k0_pay3
  pointwise

theorem out3 : (dats m 0 c).arrAt 3 cfg0.N = gradW (argA m c) (argB m c) := by
  refine (dats m 0 c).arrAt_eq_of_covers 3 _ (by decide +kernel) fun t hf y => ?_
  blk_simp
  rw [after0_3]
  obtain ⟨k, j, rfl⟩ : ∃ (k : Fin 512) (j : Fin 512), y = ix2 k j := ⟨y 0, y 1, eq_ix2 y⟩
  refine ((copy m c t ((flush0_3 t).mp hf) k j).trans (sum15 m c t ((flush0_3 t).mp hf) k j)).trans (congrArg (gradW (argA m c) (argB m c)) (?_ : ix2 _ _ = _))
  blk_ext [idx3 t]

end kernel

section reference
open Cert.DGluRefIdeal Cert.DGluRefIdeal.Gen Cert.DGluRefIdeal.Read

theorem ref_wide (a : Arr 16384 512) (b : Arr 16384 512) : val_main_v5 (F := Ideal) a b = gradW a b := by
  funext y
  obtain ⟨k, j, rfl⟩ : ∃ (k : Fin 512) (j : Fin 512), y = ix2 k j := ⟨y 0, y 1, eq_ix2 y⟩
  refine Eq.trans ?_ (Finset.sum_congr rfl fun T _ => mul_comm (b (ix2 T j)) (a (ix2 T k)))
  unfold val_main_v5 val_main_v4 val_main_v1 val_main_v0
  pointwise

theorem ref_narrow (a : Arr 16384 512) (b : Arr 16384 512) : val_main_v6 (F := Ideal) a b = gradW a b := ref_wide a b

/-- The reference runs to its end and leaves its arguments and every counter as they were. -/
theorem ref_frame : Cert.quiescent_DGluRefIdeal (hDGluRefIdeal := Cert.DGluRefIdeal.Gen.facts) := fun m ρ _ =>
  (θ_run _ _ _).mono (fun r h => ⟨fun c => (h c).2.2, sem_eq_zero_of_no_sems (by decide) r.2⟩)
    (Cert.DGluRefIdeal.Value.run m ρ)

end reference

/-- The call and its reference end with the same two arrays. -/
theorem algebraic :
    Cert.algebraic_DGluIdeal_DGluRefIdeal (hDGluIdeal := Cert.DGluIdeal.Gen.facts) (hDGluRefIdeal := Cert.DGluRefIdeal.Gen.facts) := by
  intro m g m' g' _ hargs
  refine ⟨fun c => gradW (argA m c) (argB m c), fun c => gradW (argA m c) (argB m c), ?_, ?_⟩
  · refine (θ_run _ _ _).mono (fun r hr c => ?_) (Cert.DGluIdeal.Value.run_blocks m g)
    exact ⟨(hr c).1.trans (out2 m c), (hr c).2.1.trans (out3 m c), (hr c).2.2⟩
  · refine (θ_run _ _ _).mono (fun r hr c => ?_) (Cert.DGluRefIdeal.Value.run m' g')
    obtain ⟨e0, e1⟩ := hargs c
    refine ⟨(hr c).1.trans ((Cert.DGluRefIdeal.Read.val_main_v5_eq _ _).trans ?_),
      (hr c).2.1.trans ((Cert.DGluRefIdeal.Read.val_main_v6_eq _ _).trans ?_), (hr c).2.2⟩
    · rw [e0, e1]
      exact ref_wide _ _
    · rw [e0, e1]
      exact ref_narrow _ _

end Cert.DGluProof
end
-- ==== Proof.DFfnUpClaim.lean ====
module

public import proofs.«01_k».proof.Defs
public import proofs.«01_k».proof.Proof.StepSums
public import proofs.«01_k».proof.Proof.Gen.DFfnUpIdeal.Value
public import proofs.«01_k».proof.Proof.Gen.DFfnUpRefIdeal.Read
public import Idealize.ShloMosaic.Lib.Pipeline.ValueKit
public import Idealize.ShloMosaic.Lib.Pipeline.ReadBack
public import Idealize.ShloMosaic.Lib.WritesUnit

/-! The gradient of the feed-forward's first weight. The call adds `aᵀ b` up over
    sixteen blocks of rows; its two results are the sum over all rows and that sum in the narrow format. -/

@[expose] public section

noncomputable section

namespace Cert.DFfnUpProof

open Idealize.ShloMosaic Idealize.SL.Sem Cert.StepProof

section kernel
open Cert.DFfnUpIdeal Cert.DFfnUpIdeal.Gen

variable (m : (ℓ : Loc nD τ sig) → Buf (Elt Ideal) ℓ) (c : Dev nD)

/-- The two arguments on device `c`. -/
abbrev argA : Arr 16384 1024 := m ((c.tc : Thread nD τ).loc main_arg0)
abbrev argB : Arr 16384 5632 := m ((c.tc : Thread nD τ).loc main_arg1)

theorem lt_points (t : Fin cfg0.N) : t.val < 64 := t.isLt

theorem idx0 : ∀ t : Fin cfg0.N, win0_0.index t = ![t.val % 16, (t.val / 64)] := by decide +kernel
theorem idx1 : ∀ t : Fin cfg0.N, win0_1.index t = ![t.val % 16, (t.val / 16 % 4)] := by decide +kernel
theorem idx2 : ∀ t : Fin cfg0.N, win0_2.index t = ![(t.val / 64), (t.val / 16 % 4)] := by decide +kernel
theorem idx3 : ∀ t : Fin cfg0.N, win0_3.index t = ![(t.val / 64), (t.val / 16 % 4)] := by decide +kernel

theorem blk0 (t : Fin cfg0.N) (r : Fin 1024) (k : Fin 1024) :
    iblk m c 0 t (ix2 r k) = rd (argA m c) (t.val % 16 * 1024 + r.val) ((t.val / 64) * 1024 + k.val) := by
  refine Eq.trans ?_ (rd_fin (argA m c) ⟨t.val % 16 * 1024 + r.val, by omega⟩ ⟨(t.val / 64) * 1024 + k.val, by have := lt_points t; omega⟩)
  blk_ext [iblk, V, idx0 t]

theorem blk1 (t : Fin cfg0.N) (r : Fin 1024) (j : Fin 1408) :
    iblk m c 1 t (ix2 r j) = rd (argB m c) (t.val % 16 * 1024 + r.val) ((t.val / 16 % 4) * 1408 + j.val) := by
  refine Eq.trans ?_ (rd_fin (argB m c) ⟨t.val % 16 * 1024 + r.val, by omega⟩ ⟨(t.val / 16 % 4) * 1408 + j.val, by have := lt_points t; omega⟩)
  blk_ext [iblk, V, idx1 t]

/-- What grid point `t` adds at row `k` and column `j` of its block. -/
def term (t : ℕ) (y : S1024x1408.Idx) : EReal :=
  part (argA m c) (argB m c) (t % 16) ((t / 64) * 1024 + (y 0).val) ((t / 16 % 4) * 1408 + (y 1).val)

theorem pay (t : Fin cfg0.N) (acc : Vec Ideal S1024x1408 .f32) (k : Fin 1024) (j : Fin 1408) :
    k0_pay2 acc (iblk m c 0 t) (iblk m c 1 t) (ix2 k j) = acc (ix2 k j) + term m c t.val (ix2 k j) := by
  unfold k0_pay2
  pointwise [blk0, blk1, term, part]

theorem fill (k : Fin 1024) (j : Fin 1408) : (k0_pay1 (F := Ideal)) (ix2 k j) = 0 := by
  unfold k0_pay1
  pointwise

theorem start (t : Fin cfg0.N) (h0 : t.val % 16 = 0) (k : Fin 1024) (j : Fin 1408) :
    (outsAt0 m c t.val t.isLt).1 (ix2 k j) = 0 + term m c t.val (ix2 k j) := by
  rw [outsAt0_A m c t h0 (by omega)]
  frame_open
  simp (disch := decide) only [↓ View.readCov_skip, ↓ View.readCov_cons_toLoadRect, ↓ View.readCov_fill]
  frame_out
  refine (pay m c t _ k j).trans ?_
  rw [fill]

theorem step (t : Fin cfg0.N) (h0 : ¬ t.val % 16 = 0) (k : Fin 1024) (j : Fin 1408) :
    (outsAt0 m c t.val t.isLt).1 (ix2 k j)
      = (outsAt0 m c (t.val - 1) (Nat.lt_of_le_of_lt (Nat.sub_le _ _) t.isLt)).1 (ix2 k j) + term m c t.val (ix2 k j) := by
  by_cases h1 : t.val % 16 = 15
  · rw [outsAt0_C m c t h0 h1]
    frame_out
    exact pay m c t _ k j
  · rw [outsAt0_B m c t h0 h1]
    frame_out
    exact pay m c t _ k j

/-- At the last of a block's sixteen points its sum is whole. -/
theorem sum15 (t : Fin cfg0.N) (hr : t.val % 16 = 15) (k : Fin 1024) (j : Fin 1408) :
    (outsAt0 m c t.val t.isLt).1 (ix2 k j)
      = gradW (argA m c) (argB m c) (ix2 ⟨(t.val / 64) * 1024 + k.val, by have := lt_points t; omega⟩ ⟨(t.val / 16 % 4) * 1408 + j.val, by have := lt_points t; omega⟩) := by
  have h := Pipeline.eq_sum_of_reset_step_apply (M := EReal) (fun n h => ((outsAt0 m c n h).1 : S1024x1408.Idx → EReal)) 16 0
    (fun b y => term m c b y)
    (fun t h0 y => by
      obtain ⟨k, j, rfl⟩ : ∃ (k : Fin 1024) (j : Fin 1408), y = ix2 k j := ⟨y 0, y 1, eq_ix2 y⟩
      exact start m c t h0 k j)
    (fun t h0 y => by
      obtain ⟨k, j, rfl⟩ : ∃ (k : Fin 1024) (j : Fin 1408), y = ix2 k j := ⟨y 0, y 1, eq_ix2 y⟩
      exact step m c t h0 k j)
    t (ix2 k j)
  refine (h.trans (zero_add _)).trans ?_
  rw [hr, ← part_sum]
  refine Finset.sum_congr rfl fun r hr => ?_
  have hr16 : r < 16 := Finset.mem_range.mp hr
  have e0 : (16 * (t.val / 16) + r) % 16 = r := by omega
  have e1 : (16 * (t.val / 16) + r) / 16 = t.val / 16 := by omega
  have e2 : (16 * (t.val / 16) + r) / 64 = t.val / 64 := by omega
  unfold term
  simp only [e0, e1, e2]
  rfl

theorem out2 : (dats m 0 c).arrAt 2 cfg0.N = gradW (argA m c) (argB m c) := by
  refine (dats m 0 c).arrAt_eq_of_covers 2 _ (by decide +kernel) fun t hf y => ?_
  blk_simp
  rw [after0_2]
  obtain ⟨k, j, rfl⟩ : ∃ (k : Fin 1024) (j : Fin 1408), y = ix2 k j := ⟨y 0, y 1, eq_ix2 y⟩
  refine (sum15 m c t ((flush0_2 t).mp hf) k j).trans (congrArg (gradW (argA m c) (argB m c)) (?_ : ix2 _ _ = _))
  blk_ext [idx2 t]

theorem copy (t : Fin cfg0.N) (hr : t.val % 16 = 15) (k : Fin 1024) (j : Fin 1408) :
    (outsAt0 m c t.val t.isLt).2 (ix2 k j) = (outsAt0 m c t.val t.isLt).1 (ix2 k j) := by
  rw [outsAt0_C m c t (by omega) hr]
  frame_open
  simp (disch := decide) only [↓ View.readCov_skip, ↓ View.readCov_cons_toLoadRect, ↓ View.readCov_fill]
  frame_out
  unfold k0_pay3
  pointwise

theorem out3 : (dats m 0 c).arrAt 3 cfg0.N = gradW (argA m c) (argB m c) := by
  refine (dats m 0 c).arrAt_eq_of_covers 3 _ (by decide +kernel) fun t hf y => ?_
  blk_simp
  rw [after0_3]
  obtain ⟨k, j, rfl⟩ : ∃ (k : Fin 1024) (j : Fin 1408), y = ix2 k j := ⟨y 0, y 1, eq_ix2 y⟩
  refine ((copy m c t ((flush0_3 t).mp hf) k j).trans (sum15 m c t ((flush0_3 t).mp hf) k j)).trans (congrArg (gradW (argA m c) (argB m c)) (?_ : ix2 _ _ = _))
  blk_ext [idx3 t]

end kernel

section reference
open Cert.DFfnUpRefIdeal Cert.DFfnUpRefIdeal.Gen Cert.DFfnUpRefIdeal.Read

theorem ref_wide (a : Arr 16384 1024) (b : Arr 16384 5632) : val_main_v4 (F := Ideal) a b = gradW a b := by
  funext y
  obtain ⟨k, j, rfl⟩ : ∃ (k : Fin 1024) (j : Fin 5632), y = ix2 k j := ⟨y 0, y 1, eq_ix2 y⟩
  refine Eq.trans ?_ (Finset.sum_congr rfl fun T _ => mul_comm (b (ix2 T j)) (a (ix2 T k)))
  unfold val_main_v4 val_main_v3 val_main_v0
  pointwise

theorem ref_narrow (a : Arr 16384 1024) (b : Arr 16384 5632) : val_main_v5 (F := Ideal) a b = gradW a b := ref_wide a b

/-- The reference runs to its end and leaves its arguments and every counter as they were. -/
theorem ref_frame : Cert.quiescent_DFfnUpRefIdeal (hDFfnUpRefIdeal := Cert.DFfnUpRefIdeal.Gen.facts) := fun m ρ _ =>
  (θ_run _ _ _).mono (fun r h => ⟨fun c => (h c).2.2, sem_eq_zero_of_no_sems (by decide) r.2⟩)
    (Cert.DFfnUpRefIdeal.Value.run m ρ)

end reference

/-- The call and its reference end with the same two arrays. -/
theorem algebraic :
    Cert.algebraic_DFfnUpIdeal_DFfnUpRefIdeal (hDFfnUpIdeal := Cert.DFfnUpIdeal.Gen.facts) (hDFfnUpRefIdeal := Cert.DFfnUpRefIdeal.Gen.facts) := by
  intro m g m' g' _ hargs
  refine ⟨fun c => gradW (argA m c) (argB m c), fun c => gradW (argA m c) (argB m c), ?_, ?_⟩
  · refine (θ_run _ _ _).mono (fun r hr c => ?_) (Cert.DFfnUpIdeal.Value.run_blocks m g)
    exact ⟨(hr c).1.trans (out2 m c), (hr c).2.1.trans (out3 m c), (hr c).2.2⟩
  · refine (θ_run _ _ _).mono (fun r hr c => ?_) (Cert.DFfnUpRefIdeal.Value.run m' g')
    obtain ⟨e0, e1⟩ := hargs c
    refine ⟨(hr c).1.trans ((Cert.DFfnUpRefIdeal.Read.val_main_v4_eq _ _).trans ?_),
      (hr c).2.1.trans ((Cert.DFfnUpRefIdeal.Read.val_main_v5_eq _ _).trans ?_), (hr c).2.2⟩
    · rw [e0, e1]
      exact ref_wide _ _
    · rw [e0, e1]
      exact ref_narrow _ _

end Cert.DFfnUpProof
end
-- ==== Proof.InProjClaim.lean ====
module

public import proofs.«01_k».proof.Defs
public import proofs.«01_k».proof.Proof.StepSums
public import proofs.«01_k».proof.Proof.Gen.InProjIdeal.Value
public import proofs.«01_k».proof.Proof.Gen.InProjRefIdeal.Read
public import Idealize.ShloMosaic.Lib.Pipeline.ValueKit
public import Idealize.ShloMosaic.Lib.Pipeline.ReadBack
public import Idealize.ShloMosaic.Lib.WritesUnit

/-! The input projection: one product of the stream with a weight. -/

@[expose] public section

noncomputable section

namespace Cert.InProjProof

open Idealize.ShloMosaic Idealize.SL.Sem Cert.StepProof

section kernel
open Cert.InProjIdeal Cert.InProjIdeal.Gen

variable (m : (ℓ : Loc nD τ sig) → Buf (Elt Ideal) ℓ) (c : Dev nD)

/-- The two arguments on device `c`. -/
abbrev argX : Arr 16384 1024 := m ((c.tc : Thread nD τ).loc main_arg0)
abbrev argW : Arr 1024 2048 := m ((c.tc : Thread nD τ).loc main_arg1)

theorem lt_points (t : Fin cfg0.N) : t.val < 32 := t.isLt

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

/-- The weight as the call finds it: the argument in the narrow format, the same extended reals. -/
theorem weight : (V m c main_v0 : Arr 1024 2048) = argW m c := by
  refine Eq.trans (b := truncf (F := Ideal) .bf16 (m ((c.tc : Thread nD τ).loc main_arg1)) bitsLt_bf16_f32) ?_ rfl
  simp only [V, hostOps0]
  after_results

theorem blk0 (t : Fin cfg0.N) (r : Fin 512) (k : Fin 1024) :
    iblk m c 0 t (ix2 r k) = argX m c (ix2 ⟨t.val * 512 + r.val, by have := lt_points t; omega⟩ k) := by
  refine Eq.trans (b := (V m c main_arg0 : Arr 16384 1024) (ix2 ⟨t.val * 512 + r.val, by have := lt_points t; omega⟩ k)) ?_
    (congrFun (V_main_arg0 m c) _)
  blk_ext [iblk, idx0 t]

theorem blk1 (t : Fin cfg0.N) (k : Fin 1024) (j : Fin 2048) :
    iblk m c 1 t (ix2 k j) = argW m c (ix2 k j) := by
  refine Eq.trans (b := (V m c main_v0 : Arr 1024 2048) (ix2 k j)) ?_ (congrFun (weight m c) _)
  blk_ext [iblk, idx1 t]

theorem block (t : Fin cfg0.N) (r : Fin 512) (j : Fin 2048) :
    out0_2 (iblk m c 0 t) (iblk m c 1 t) (ix2 r j)
      = mulAB (argX m c) (argW m c) (ix2 ⟨t.val * 512 + r.val, by have := lt_points t; omega⟩ j) := by
  frame_out
  unfold k0_pay1
  pointwise [blk0, blk1]
  rfl

theorem out2 : (dats m 0 c).arrAt 2 cfg0.N = mulAB (argX m c) (argW m c) := by
  refine (dats m 0 c).arrAt_eq_of_covers 2 _ (by decide +kernel) fun t hf y => ?_
  blk_simp
  rw [after0_2]
  obtain ⟨r, j, rfl⟩ : ∃ (r : Fin 512) (j : Fin 2048), y = ix2 r j := ⟨y 0, y 1, eq_ix2 y⟩
  refine (block m c t r j).trans (congrArg (mulAB (argX m c) (argW m c)) (?_ : ix2 _ _ = _))
  blk_ext [idx2 t]

end kernel

section reference
open Cert.InProjRefIdeal Cert.InProjRefIdeal.Gen Cert.InProjRefIdeal.Read

theorem ref_value (x : Arr 16384 1024) (w : Arr 1024 2048) : val_main_v0 (F := Ideal) x w = mulAB x w := by
  funext y
  obtain ⟨r, j, rfl⟩ : ∃ (r : Fin 16384) (j : Fin 2048), y = ix2 r j := ⟨y 0, y 1, eq_ix2 y⟩
  unfold val_main_v0
  pointwise
  rfl

/-- The reference runs to its end and leaves its arguments and every counter as they were. -/
theorem ref_frame : Cert.quiescent_InProjRefIdeal (hInProjRefIdeal := Cert.InProjRefIdeal.Gen.facts) := fun m ρ _ =>
  (θ_run _ _ _).mono (fun r h => ⟨fun c => (h c).2, sem_eq_zero_of_no_sems (by decide) r.2⟩)
    (Cert.InProjRefIdeal.Value.run m ρ)

end reference

/-- The call and its reference end with the same array. -/
theorem algebraic :
    Cert.algebraic_InProjIdeal_InProjRefIdeal (hInProjIdeal := Cert.InProjIdeal.Gen.facts) (hInProjRefIdeal := Cert.InProjRefIdeal.Gen.facts) := by
  intro m g m' g' _ hargs
  refine ⟨fun c => mulAB (argX m c) (argW m c), ?_, ?_⟩
  · refine (θ_run _ _ _).mono (fun r hr c => ?_) (Cert.InProjIdeal.Value.run_blocks m g)
    exact ⟨(hr c).1.trans (out2 m c), (hr c).2⟩
  · refine (θ_run _ _ _).mono (fun r hr c => ?_) (Cert.InProjRefIdeal.Value.run m' g')
    obtain ⟨e0, e1⟩ := hargs c
    refine ⟨(hr c).1.trans ((Cert.InProjRefIdeal.Read.val_main_v0_eq _ _).trans ?_), (hr c).2⟩
    rw [e0, e1]
    exact ref_value _ _

end Cert.InProjProof
end
-- ==== Proof.OutBwdClaim.lean ====
module

public import proofs.«01_k».proof.Defs
public import proofs.«01_k».proof.Proof.StepSums
public import proofs.«01_k».proof.Proof.Gen.OutBwdIdeal.Value
public import proofs.«01_k».proof.Proof.Gen.OutBwdRefIdeal.Read
public import Idealize.ShloMosaic.Lib.Pipeline.ValueKit
public import Idealize.ShloMosaic.Lib.Pipeline.ReadBack
public import Idealize.ShloMosaic.Lib.WritesUnit

/-! The output projection's gradient at its input: one product with the transposed weight. -/

@[expose] public section

noncomputable section

namespace Cert.OutBwdProof

open Idealize.ShloMosaic Idealize.SL.Sem Cert.StepProof

section kernel
open Cert.OutBwdIdeal Cert.OutBwdIdeal.Gen

variable (m : (ℓ : Loc nD τ sig) → Buf (Elt Ideal) ℓ) (c : Dev nD)

/-- The two arguments on device `c`. -/
abbrev argX : Arr 16384 1024 := m ((c.tc : Thread nD τ).loc main_arg0)
abbrev argW : Arr 1024 1024 := m ((c.tc : Thread nD τ).loc main_arg1)

theorem lt_points (t : Fin cfg0.N) : t.val < 32 := t.isLt

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel

/-- The weight as the call finds it: the argument in the narrow format, the same extended reals. -/
theorem weight : (V m c main_v0 : Arr 1024 1024) = argW m c := by
  refine Eq.trans (b := truncf (F := Ideal) .bf16 (m ((c.tc : Thread nD τ).loc main_arg1)) bitsLt_bf16_f32) ?_ rfl
  simp only [V, hostOps0]
  after_results

theorem blk0 (t : Fin cfg0.N) (r : Fin 512) (k : Fin 1024) :
    iblk m c 0 t (ix2 r k) = argX m c (ix2 ⟨t.val * 512 + r.val, by have := lt_points t; omega⟩ k) := by
  refine Eq.trans (b := (V m c main_arg0 : Arr 16384 1024) (ix2 ⟨t.val * 512 + r.val, by have := lt_points t; omega⟩ k)) ?_
    (congrFun (V_main_arg0 m c) _)
  blk_ext [iblk, idx0 t]

theorem blk1 (t : Fin cfg0.N) (k : Fin 1024) (j : Fin 1024) :
    iblk m c 1 t (ix2 k j) = argW m c (ix2 k j) := by
  refine Eq.trans (b := (V m c main_v0 : Arr 1024 1024) (ix2 k j)) ?_ (congrFun (weight m c) _)
  blk_ext [iblk, idx1 t]

theorem block (t : Fin cfg0.N) (r : Fin 512) (j : Fin 1024) :
    out0_2 (iblk m c 0 t) (iblk m c 1 t) (ix2 r j)
      = mulABt (argX m c) (argW m c) (ix2 ⟨t.val * 512 + r.val, by have := lt_points t; omega⟩ j) := by
  frame_out
  unfold k0_pay1
  pointwise [blk0, blk1]
  rfl

theorem out2 : (dats m 0 c).arrAt 2 cfg0.N = mulABt (argX m c) (argW m c) := by
  refine (dats m 0 c).arrAt_eq_of_covers 2 _ (by decide +kernel) fun t hf y => ?_
  blk_simp
  rw [after0_2]
  obtain ⟨r, j, rfl⟩ : ∃ (r : Fin 512) (j : Fin 1024), y = ix2 r j := ⟨y 0, y 1, eq_ix2 y⟩
  refine (block m c t r j).trans (congrArg (mulABt (argX m c) (argW m c)) (?_ : ix2 _ _ = _))
  blk_ext [idx2 t]

end kernel

section reference
open Cert.OutBwdRefIdeal Cert.OutBwdRefIdeal.Gen Cert.OutBwdRefIdeal.Read

theorem ref_value (x : Arr 16384 1024) (w : Arr 1024 1024) : val_main_v2 (F := Ideal) x w = mulABt x w := by
  funext y
  obtain ⟨r, j, rfl⟩ : ∃ (r : Fin 16384) (j : Fin 1024), y = ix2 r j := ⟨y 0, y 1, eq_ix2 y⟩
  unfold val_main_v2
  pointwise
  rfl

/-- The reference runs to its end and leaves its arguments and every counter as they were. -/
theorem ref_frame : Cert.quiescent_OutBwdRefIdeal (hOutBwdRefIdeal := Cert.OutBwdRefIdeal.Gen.facts) := fun m ρ _ =>
  (θ_run _ _ _).mono (fun r h => ⟨fun c => (h c).2, sem_eq_zero_of_no_sems (by decide) r.2⟩)
    (Cert.OutBwdRefIdeal.Value.run m ρ)

end reference

/-- The call and its reference end with the same array. -/
theorem algebraic :
    Cert.algebraic_OutBwdIdeal_OutBwdRefIdeal (hOutBwdIdeal := Cert.OutBwdIdeal.Gen.facts) (hOutBwdRefIdeal := Cert.OutBwdRefIdeal.Gen.facts) := by
  intro m g m' g' _ hargs
  refine ⟨fun c => mulABt (argX m c) (argW m c), ?_, ?_⟩
  · refine (θ_run _ _ _).mono (fun r hr c => ?_) (Cert.OutBwdIdeal.Value.run_blocks m g)
    exact ⟨(hr c).1.trans (out2 m c), (hr c).2⟩
  · refine (θ_run _ _ _).mono (fun r hr c => ?_) (Cert.OutBwdRefIdeal.Value.run m' g')
    obtain ⟨e0, e1⟩ := hargs c
    refine ⟨(hr c).1.trans ((Cert.OutBwdRefIdeal.Read.val_main_v2_eq _ _).trans ?_), (hr c).2⟩
    rw [e0, e1]
    exact ref_value _ _

end Cert.OutBwdProof
end
-- ==== Proof.StepMore.lean ====
module

public import proofs.«01_k».proof.Proof.StepSums

/-! The residual's factor, and sums over columns cut into groups. -/

@[expose] public section

noncomputable section

namespace Cert.StepProof

open Idealize.ShloMosaic

/-- The factor on a layer's residual stream, as the programs hold it. -/
def alpha : EReal := FloatOps.ofBits (F := Ideal) .f32 0x3FD744FD#32

theorem sum_four (g : Fin 2048 → EReal) : ∑ x, g x
    = ∑ k : Fin 512, g ⟨k.val, by omega⟩ + ∑ k : Fin 512, g ⟨512 + k.val, by omega⟩
      + ∑ k : Fin 512, g ⟨1024 + k.val, by omega⟩ + ∑ k : Fin 512, g ⟨1536 + k.val, by omega⟩ := by
  refine (Fin.sum_univ_add (a := 1536) (b := 512) g).trans (congrArg₂ (· + ·) ?_ rfl)
  refine (Fin.sum_univ_add (a := 1024) (b := 512) fun k => g (Fin.castAdd 512 k)).trans (congrArg₂ (· + ·) ?_ rfl)
  exact Fin.sum_univ_add (a := 512) (b := 512) fun k => g (Fin.castAdd 512 (Fin.castAdd 512 k))

/-- Four functions on 512 columns side by side, multiplied by a function and summed. -/
theorem sum_side_by_side (p q r s : Fin 512 → EReal) (w : Fin 2048 → EReal) :
    ∑ x : Fin 2048, (if h : x.val < 512 then p ⟨x.val, h⟩ else if h₁ : x.val - 512 < 512 then q ⟨x.val - 512, h₁⟩
        else if h₂ : x.val - 512 - 512 < 512 then r ⟨x.val - 512 - 512, h₂⟩ else s ⟨x.val - 512 - 512 - 512, by omega⟩) * w x
      = ∑ k : Fin 512, p k * w ⟨k.val, by omega⟩ + ∑ k : Fin 512, q k * w ⟨512 + k.val, by omega⟩
        + ∑ k : Fin 512, r k * w ⟨1024 + k.val, by omega⟩ + ∑ k : Fin 512, s k * w ⟨1536 + k.val, by omega⟩ := by
  refine (sum_four _).trans (congrArg₂ (· + ·) (congrArg₂ (· + ·) (congrArg₂ (· + ·) ?_ ?_) ?_) ?_)
  · refine Finset.sum_congr rfl fun k _ => congrArg (· * _) ?_
    exact dif_pos k.isLt
  · refine Finset.sum_congr rfl fun k _ => congrArg (· * _) ?_
    have hk := k.isLt
    refine (dif_neg (by show ¬ 512 + k.val < 512; omega)).trans ((dif_pos (by show 512 + k.val - 512 < 512; omega)).trans ?_)
    exact congrArg q (Fin.ext (by show 512 + k.val - 512 = k.val; omega))
  · refine Finset.sum_congr rfl fun k _ => congrArg (· * _) ?_
    have hk := k.isLt
    refine (dif_neg (by show ¬ 1024 + k.val < 512; omega)).trans ((dif_neg (by show ¬ 1024 + k.val - 512 < 512; omega)).trans
      ((dif_pos (by show 1024 + k.val - 512 - 512 < 512; omega)).trans ?_))
    exact congrArg r (Fin.ext (by show 1024 + k.val - 512 - 512 = k.val; omega))
  · refine Finset.sum_congr rfl fun k _ => congrArg (· * _) ?_
    have hk := k.isLt
    refine (dif_neg (by show ¬ 1536 + k.val < 512; omega)).trans ((dif_neg (by show ¬ 1536 + k.val - 512 < 512; omega)).trans
      ((dif_neg (by show ¬ 1536 + k.val - 512 - 512 < 512; omega)).trans ?_))
    exact congrArg s (Fin.ext (by show 1536 + k.val - 512 - 512 - 512 = k.val; omega))

end Cert.StepProof
end
-- ==== Proof.InBwdEvenClaim.lean ====
module

public import proofs.«01_k».proof.Defs
public import proofs.«01_k».proof.Proof.StepMore
public import proofs.«01_k».proof.Proof.Gen.InBwdEvenIdeal.Value
public import proofs.«01_k».proof.Proof.Gen.InBwdEvenRefIdeal.Read
public import Idealize.ShloMosaic.Lib.Pipeline.ValueKit
public import Idealize.ShloMosaic.Lib.Pipeline.ReadBack
public import Idealize.ShloMosaic.Lib.WritesUnit

/-! The gradient at the stream an even layer reads. -/

@[expose] public section

noncomputable section

namespace Cert.InBwdEvenProof

open Idealize.ShloMosaic Idealize.SL.Sem Cert.StepProof

/-- The gradient at the stream an even layer reads: the residual's, scaled, and the two projections' through the
    weight's first 512 and last 1536 columns. -/
def dStream (du : Arr 16384 512) (d3 : Arr 16384 1536) (dr : Arr 16384 1024) (w : Arr 1024 2048) : Arr 16384 1024 := fun y =>
  alpha * dr (ix2 (y 0) (y 1))
    + (∑ k : Fin 512, du (ix2 (y 0) k) * w (ix2 (y 1) ⟨k.val, by omega⟩)
      + ∑ k : Fin 1536, d3 (ix2 (y 0) k) * w (ix2 (y 1) ⟨512 + k.val, by omega⟩))

section kernel
open Cert.InBwdEvenIdeal Cert.InBwdEvenIdeal.Gen

variable (m : (ℓ : Loc nD τ sig) → Buf (Elt Ideal) ℓ) (c : Dev nD)

/-- The arguments on device `c`: the parts of the gradient at the layer's projections, the gradient at the
    residual stream, the weight. -/
abbrev arg0 : Arr 16384 512 := m ((c.tc : Thread nD τ).loc main_arg0)
abbrev arg1 : Arr 16384 1536 := m ((c.tc : Thread nD τ).loc main_arg1)
abbrev argDr : Arr 16384 1024 := m ((c.tc : Thread nD τ).loc main_arg2)
abbrev argW : Arr 1024 2048 := m ((c.tc : Thread nD τ).loc main_arg3)

theorem lt_points (t : Fin cfg0.N) : t.val < 32 := t.isLt

theorem idx0 : ∀ t : Fin cfg0.N, win0_0.index t = ![t.val, 0] := by decide +kernel
theorem idx1 : ∀ t : Fin cfg0.N, win0_1.index t = ![t.val, 0] := by decide +kernel
theorem idx3 : ∀ t : Fin cfg0.N, win0_3.index t = ![t.val, 0] := by decide +kernel
theorem idx2 : ∀ t : Fin cfg0.N, win0_2.index t = ![0, 0] := by decide +kernel
theorem idx4 : ∀ t : Fin cfg0.N, win0_4.index t = ![t.val, 0] := by decide +kernel

/-- The weight as the call finds it: the argument in the narrow format, the same extended reals. -/
theorem weight : (V m c main_v0 : Arr 1024 2048) = argW m c := by
  refine Eq.trans (b := truncf (F := Ideal) .bf16 (m ((c.tc : Thread nD τ).loc main_arg3)) bitsLt_bf16_f32) ?_ rfl
  simp only [V, hostOps0]
  after_results

theorem blk0 (t : Fin cfg0.N) (r : Fin 512) (k : Fin 512) :
    iblk m c 0 t (ix2 r k) = arg0 m c (ix2 ⟨t.val * 512 + r.val, by have := lt_points t; omega⟩ k) := by
  refine Eq.trans (b := (V m c main_arg0 : Arr 16384 512) (ix2 ⟨t.val * 512 + r.val, by have := lt_points t; omega⟩ k)) ?_
    (congrFun (V_main_arg0 m c) _)
  blk_ext [iblk, idx0 t]

theorem blk1 (t : Fin cfg0.N) (r : Fin 512) (k : Fin 1536) :
    iblk m c 1 t (ix2 r k) = arg1 m c (ix2 ⟨t.val * 512 + r.val, by have := lt_points t; omega⟩ k) := by
  refine Eq.trans (b := (V m c main_arg1 : Arr 16384 1536) (ix2 ⟨t.val * 512 + r.val, by have := lt_points t; omega⟩ k)) ?_
    (congrFun (V_main_arg1 m c) _)
  blk_ext [iblk, idx1 t]

theorem blk3 (t : Fin cfg0.N) (r : Fin 512) (k : Fin 1024) :
    iblk m c 3 t (ix2 r k) = argDr m c (ix2 ⟨t.val * 512 + r.val, by have := lt_points t; omega⟩ k) := by
  refine Eq.trans (b := (V m c main_arg2 : Arr 16384 1024) (ix2 ⟨t.val * 512 + r.val, by have := lt_points t; omega⟩ k)) ?_
    (congrFun (V_main_arg2 m c) _)
  blk_ext [iblk, idx3 t]

theorem blk2 (t : Fin cfg0.N) (k : Fin 1024) (j : Fin 2048) :
    iblk m c 2 t (ix2 k j) = argW m c (ix2 k j) := by
  refine Eq.trans (b := (V m c main_v0 : Arr 1024 2048) (ix2 k j)) ?_ (congrFun (weight m c) _)
  blk_ext [iblk, idx2 t]

theorem block (t : Fin cfg0.N) (r : Fin 512) (j : Fin 1024) :
    out0_4 (iblk m c 0 t) (iblk m c 1 t) (iblk m c 2 t) (iblk m c 3 t) (ix2 r j)
      = dStream (arg0 m c) (arg1 m c) (argDr m c) (argW m c) (ix2 ⟨t.val * 512 + r.val, by have := lt_points t; omega⟩ j) := by
  frame_out
  unfold k0_pay1
  pointwise [blk0, blk1, blk2, blk3]
  rfl

theorem out : (dats m 0 c).arrAt 4 cfg0.N = dStream (arg0 m c) (arg1 m c) (argDr m c) (argW m c) := by
  refine (dats m 0 c).arrAt_eq_of_covers 4 _ (by decide +kernel) fun t hf y => ?_
  blk_simp
  rw [after0_4]
  obtain ⟨r, j, rfl⟩ : ∃ (r : Fin 512) (j : Fin 1024), y = ix2 r j := ⟨y 0, y 1, eq_ix2 y⟩
  refine (block m c t r j).trans (congrArg (dStream (arg0 m c) (arg1 m c) (argDr m c) (argW m c)) (?_ : ix2 _ _ = _))
  blk_ext [idx4 t]

end kernel

section reference
open Cert.InBwdEvenRefIdeal Cert.InBwdEvenRefIdeal.Gen Cert.InBwdEvenRefIdeal.Read

theorem ref_value (du : Arr 16384 512) (d3 : Arr 16384 1536) (dr : Arr 16384 1024) (w : Arr 1024 2048) :
    val_main_v8 (F := Ideal) du d3 dr w = dStream du d3 dr w := by
  funext y
  obtain ⟨r, j, rfl⟩ : ∃ (r : Fin 16384) (j : Fin 1024), y = ix2 r j := ⟨y 0, y 1, eq_ix2 y⟩
  unfold val_main_v8 val_main_v7 val_main_v6 val_main_cst_1 val_main_v5 val_main_v4
  pointwise
  exact add_comm _ _
end reference

/-- The reference runs to its end and leaves its arguments and every counter as they were. -/
theorem ref_frame : Cert.quiescent_InBwdEvenRefIdeal (hInBwdEvenRefIdeal := Cert.InBwdEvenRefIdeal.Gen.facts) := fun m ρ _ =>
  (θ_run _ _ _).mono (fun r h => ⟨fun c => (h c).2, sem_eq_zero_of_no_sems (by decide) r.2⟩)
    (Cert.InBwdEvenRefIdeal.Value.run m ρ)

/-- The call and its reference end with the same array. -/
theorem algebraic :
    Cert.algebraic_InBwdEvenIdeal_InBwdEvenRefIdeal (hInBwdEvenIdeal := Cert.InBwdEvenIdeal.Gen.facts) (hInBwdEvenRefIdeal := Cert.InBwdEvenRefIdeal.Gen.facts) := by
  intro m g m' g' _ hargs
  refine ⟨fun c => dStream (arg0 m c) (arg1 m c) (argDr m c) (argW m c), ?_, ?_⟩
  · refine (θ_run _ _ _).mono (fun r hr c => ?_) (Cert.InBwdEvenIdeal.Value.run_blocks m g)
    exact ⟨(hr c).1.trans (out m c), (hr c).2⟩
  · refine (θ_run _ _ _).mono (fun r hr c => ?_) (Cert.InBwdEvenRefIdeal.Value.run m' g')
    obtain ⟨e0, e1, e2, e3⟩ := hargs c
    refine ⟨(hr c).1.trans ((Cert.InBwdEvenRefIdeal.Read.val_main_v8_eq _ _ _ _ ).trans ?_), (hr c).2⟩
    rw [e0, e1, e2, e3]
    exact ref_value _ _ _ _

end Cert.InBwdEvenProof
end
-- ==== Proof.InBwdOddClaim.lean ====
module

public import proofs.«01_k».proof.Defs
public import proofs.«01_k».proof.Proof.StepMore
public import proofs.«01_k».proof.Proof.Gen.InBwdOddIdeal.Value
public import proofs.«01_k».proof.Proof.Gen.InBwdOddRefIdeal.Read
public import Idealize.ShloMosaic.Lib.Pipeline.ValueKit
public import Idealize.ShloMosaic.Lib.Pipeline.ReadBack
public import Idealize.ShloMosaic.Lib.WritesUnit

/-! The gradient at the stream an odd layer reads. -/

@[expose] public section

noncomputable section

namespace Cert.InBwdOddProof

open Idealize.ShloMosaic Idealize.SL.Sem Cert.StepProof

/-- The gradient at the stream an odd layer reads: the residual's, scaled, and the four projections' through the
    weight's four groups of 512 columns. -/
def dStream (d0 d1 d2 d3 : Arr 16384 512) (dr : Arr 16384 1024) (w : Arr 1024 2048) : Arr 16384 1024 := fun y =>
  alpha * dr (ix2 (y 0) (y 1))
    + (∑ k : Fin 512, d0 (ix2 (y 0) k) * w (ix2 (y 1) ⟨k.val, by omega⟩)
      + ∑ k : Fin 512, d1 (ix2 (y 0) k) * w (ix2 (y 1) ⟨512 + k.val, by omega⟩)
      + ∑ k : Fin 512, d2 (ix2 (y 0) k) * w (ix2 (y 1) ⟨1024 + k.val, by omega⟩)
      + ∑ k : Fin 512, d3 (ix2 (y 0) k) * w (ix2 (y 1) ⟨1536 + k.val, by omega⟩))

section kernel
open Cert.InBwdOddIdeal Cert.InBwdOddIdeal.Gen

variable (m : (ℓ : Loc nD τ sig) → Buf (Elt Ideal) ℓ) (c : Dev nD)

/-- The arguments on device `c`: the parts of the gradient at the layer's projections, the gradient at the
    residual stream, the weight. -/
abbrev arg0 : Arr 16384 512 := m ((c.tc : Thread nD τ).loc main_arg0)
abbrev arg1 : Arr 16384 512 := m ((c.tc : Thread nD τ).loc main_arg1)
abbrev arg2 : Arr 16384 512 := m ((c.tc : Thread nD τ).loc main_arg2)
abbrev arg3 : Arr 16384 512 := m ((c.tc : Thread nD τ).loc main_arg3)
abbrev argDr : Arr 16384 1024 := m ((c.tc : Thread nD τ).loc main_arg4)
abbrev argW : Arr 1024 2048 := m ((c.tc : Thread nD τ).loc main_arg5)

theorem lt_points (t : Fin cfg0.N) : t.val < 32 := t.isLt

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx5 : ∀ t : Fin cfg0.N, win0_5.index t = ![t.val, 0] := by decide +kernel
theorem idx4 : ∀ t : Fin cfg0.N, win0_4.index t = ![0, 0] := by decide +kernel
theorem idx6 : ∀ t : Fin cfg0.N, win0_6.index t = ![t.val, 0] := by decide +kernel

/-- The weight as the call finds it: the argument in the narrow format, the same extended reals. -/
theorem weight : (V m c main_v0 : Arr 1024 2048) = argW m c := by
  refine Eq.trans (b := truncf (F := Ideal) .bf16 (m ((c.tc : Thread nD τ).loc main_arg5)) bitsLt_bf16_f32) ?_ rfl
  simp only [V, hostOps0]
  after_results

theorem blk0 (t : Fin cfg0.N) (r : Fin 512) (k : Fin 512) :
    iblk m c 0 t (ix2 r k) = arg0 m c (ix2 ⟨t.val * 512 + r.val, by have := lt_points t; omega⟩ k) := by
  refine Eq.trans (b := (V m c main_arg0 : Arr 16384 512) (ix2 ⟨t.val * 512 + r.val, by have := lt_points t; omega⟩ k)) ?_
    (congrFun (V_main_arg0 m c) _)
  blk_ext [iblk, idx0 t]

theorem blk1 (t : Fin cfg0.N) (r : Fin 512) (k : Fin 512) :
    iblk m c 1 t (ix2 r k) = arg1 m c (ix2 ⟨t.val * 512 + r.val, by have := lt_points t; omega⟩ k) := by
  refine Eq.trans (b := (V m c main_arg1 : Arr 16384 512) (ix2 ⟨t.val * 512 + r.val, by have := lt_points t; omega⟩ k)) ?_
    (congrFun (V_main_arg1 m c) _)
  blk_ext [iblk, idx1 t]

theorem blk2 (t : Fin cfg0.N) (r : Fin 512) (k : Fin 512) :
    iblk m c 2 t (ix2 r k) = arg2 m c (ix2 ⟨t.val * 512 + r.val, by have := lt_points t; omega⟩ k) := by
  refine Eq.trans (b := (V m c main_arg2 : Arr 16384 512) (ix2 ⟨t.val * 512 + r.val, by have := lt_points t; omega⟩ k)) ?_
    (congrFun (V_main_arg2 m c) _)
  blk_ext [iblk, idx2 t]

theorem blk3 (t : Fin cfg0.N) (r : Fin 512) (k : Fin 512) :
    iblk m c 3 t (ix2 r k) = arg3 m c (ix2 ⟨t.val * 512 + r.val, by have := lt_points t; omega⟩ k) := by
  refine Eq.trans (b := (V m c main_arg3 : Arr 16384 512) (ix2 ⟨t.val * 512 + r.val, by have := lt_points t; omega⟩ k)) ?_
    (congrFun (V_main_arg3 m c) _)
  blk_ext [iblk, idx3 t]

theorem blk5 (t : Fin cfg0.N) (r : Fin 512) (k : Fin 1024) :
    iblk m c 5 t (ix2 r k) = argDr m c (ix2 ⟨t.val * 512 + r.val, by have := lt_points t; omega⟩ k) := by
  refine Eq.trans (b := (V m c main_arg4 : Arr 16384 1024) (ix2 ⟨t.val * 512 + r.val, by have := lt_points t; omega⟩ k)) ?_
    (congrFun (V_main_arg4 m c) _)
  blk_ext [iblk, idx5 t]

theorem blk4 (t : Fin cfg0.N) (k : Fin 1024) (j : Fin 2048) :
    iblk m c 4 t (ix2 k j) = argW m c (ix2 k j) := by
  refine Eq.trans (b := (V m c main_v0 : Arr 1024 2048) (ix2 k j)) ?_ (congrFun (weight m c) _)
  blk_ext [iblk, idx4 t]

theorem block (t : Fin cfg0.N) (r : Fin 512) (j : Fin 1024) :
    out0_6 (iblk m c 0 t) (iblk m c 1 t) (iblk m c 2 t) (iblk m c 3 t) (iblk m c 4 t) (iblk m c 5 t) (ix2 r j)
      = dStream (arg0 m c) (arg1 m c) (arg2 m c) (arg3 m c) (argDr m c) (argW m c) (ix2 ⟨t.val * 512 + r.val, by have := lt_points t; omega⟩ j) := by
  frame_out
  unfold k0_pay1
  pointwise [blk0, blk1, blk2, blk3, blk4, blk5]
  rfl

theorem out : (dats m 0 c).arrAt 6 cfg0.N = dStream (arg0 m c) (arg1 m c) (arg2 m c) (arg3 m c) (argDr m c) (argW m c) := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, eq_ix2 y⟩
  refine (block m c t r j).trans (congrArg (dStream (arg0 m c) (arg1 m c) (arg2 m c) (arg3 m c) (argDr m c) (argW m c)) (?_ : ix2 _ _ = _))
  blk_ext [idx6 t]

end kernel

section reference
open Cert.InBwdOddRefIdeal Cert.InBwdOddRefIdeal.Gen Cert.InBwdOddRefIdeal.Read

theorem ref_value (d0 d1 d2 d3 : Arr 16384 512) (dr : Arr 16384 1024) (w : Arr 1024 2048) :
    val_main_v8 (F := Ideal) d0 d1 d2 d3 dr w = dStream d0 d1 d2 d3 dr w := by
  funext y
  obtain ⟨r, j, rfl⟩ : ∃ (r : Fin 16384) (j : Fin 1024), y = ix2 r j := ⟨y 0, y 1, eq_ix2 y⟩
  unfold val_main_v8 val_main_v7 val_main_v6 val_main_cst_1 val_main_v5 val_main_v4
  pointwise
  refine (add_comm _ _).trans (congrArg₂ (· + ·) rfl ?_)
  exact sum_side_by_side (fun k => d0 (ix2 r k)) (fun k => d1 (ix2 r k)) (fun k => d2 (ix2 r k)) (fun k => d3 (ix2 r k)) fun x => w (ix2 j x)
end reference

/-- The reference runs to its end and leaves its arguments and every counter as they were. -/
theorem ref_frame : Cert.quiescent_InBwdOddRefIdeal (hInBwdOddRefIdeal := Cert.InBwdOddRefIdeal.Gen.facts) := fun m ρ _ =>
  (θ_run _ _ _).mono (fun r h => ⟨fun c => (h c).2, sem_eq_zero_of_no_sems (by decide) r.2⟩)
    (Cert.InBwdOddRefIdeal.Value.run m ρ)

/-- The call and its reference end with the same array. -/
theorem algebraic :
    Cert.algebraic_InBwdOddIdeal_InBwdOddRefIdeal (hInBwdOddIdeal := Cert.InBwdOddIdeal.Gen.facts) (hInBwdOddRefIdeal := Cert.InBwdOddRefIdeal.Gen.facts) := by
  intro m g m' g' _ hargs
  refine ⟨fun c => dStream (arg0 m c) (arg1 m c) (arg2 m c) (arg3 m c) (argDr m c) (argW m c), ?_, ?_⟩
  · refine (θ_run _ _ _).mono (fun r hr c => ?_) (Cert.InBwdOddIdeal.Value.run_blocks m g)
    exact ⟨(hr c).1.trans (out m c), (hr c).2⟩
  · refine (θ_run _ _ _).mono (fun r hr c => ?_) (Cert.InBwdOddRefIdeal.Value.run m' g')
    obtain ⟨e0, e1, e2, e3, e4, e5⟩ := hargs c
    refine ⟨(hr c).1.trans ((Cert.InBwdOddRefIdeal.Read.val_main_v8_eq _ _ _ _ _ _ ).trans ?_), (hr c).2⟩
    rw [e0, e1, e2, e3, e4, e5]
    exact ref_value _ _ _ _ _ _

end Cert.InBwdOddProof
end
-- ==== Proof.NetSpec.lean ====
module

public import proofs.«01_k».proof.Proof.StepMore

/-! The step's elementwise mathematics on extended reals: layer norm of a row, the gate, the optimiser. -/

@[expose] public section

noncomputable section

namespace Cert.StepProof

open Idealize.ShloMosaic

abbrev Vec1 (n : ℕ) : Type := (⟨1, ![n]⟩ : Shape).Idx → EReal

/-- The mean of a row of 1024. -/
def mean (f : Fin 1024 → EReal) : EReal := Ideal.div (∑ k : Fin 1024, f k) (Ideal.ofBits .f32 0x44800000#32)

/-- A row's distance from its mean. -/
def dev (f : Fin 1024 → EReal) (j : Fin 1024) : EReal := f j - mean f

/-- One over the root of a row's variance, which is raised by the layer norm's constant. -/
def rstd (f : Fin 1024 → EReal) : EReal := Ideal.rsqrt (mean (fun k => dev f k * dev f k) + Ideal.ofBits .f32 0x3727C5AC#32)

/-- A row of the layer norm. -/
def lnRow (f g b : Fin 1024 → EReal) (j : Fin 1024) : EReal := dev f j * rstd f * g j + b j

/-- The layer norm of every row. -/
def layerNorm (x : Arr 16384 1024) (g b : Vec1 1024) : Arr 16384 1024 := fun y =>
  lnRow (fun j => x (ix2 (y 0) j)) (fun j => g (ix1 j)) (fun j => b (ix1 j)) (y 1)

theorem lnRow_congr {f f' g g' b b' : Fin 1024 → EReal} (hf : ∀ k, f k = f' k) (hg : ∀ k, g k = g' k) (hb : ∀ k, b k = b' k)
    (j : Fin 1024) : lnRow f g b j = lnRow f' g' b' j := by
  rw [show f = f' from funext hf, show g = g' from funext hg, show b = b' from funext hb]

end Cert.StepProof
end
-- ==== Proof.OutLnClaim.lean ====
module

public import proofs.«01_k».proof.Defs
public import proofs.«01_k».proof.Proof.StepMore
public import proofs.«01_k».proof.Proof.NetSpec
public import proofs.«01_k».proof.Proof.Gen.OutLnIdeal.Value
public import proofs.«01_k».proof.Proof.Gen.OutLnRefIdeal.Read
public import Idealize.ShloMosaic.Lib.Pipeline.ValueKit
public import Idealize.ShloMosaic.Lib.Pipeline.ReadBack
public import Idealize.ShloMosaic.Lib.WritesUnit

/-! The layer's output product added to its residual stream, and the layer norm of the sum. -/

@[expose] public section

noncomputable section

namespace Cert.OutLnProof

open Idealize.ShloMosaic Idealize.SL.Sem Cert.StepProof

/-- The residual stream after a mixing layer: the stream, scaled, and the two halves of the layer's output through
    the weight's first and last 512 rows. -/
def mixed (ya yb : Arr 16384 512) (x : Arr 16384 1024) (w : Arr 1024 1024) : Arr 16384 1024 := fun y =>
  alpha * x (ix2 (y 0) (y 1))
    + (∑ k : Fin 512, ya (ix2 (y 0) k) * w (ix2 ⟨k.val, by omega⟩ (y 1))
      + ∑ k : Fin 512, yb (ix2 (y 0) k) * w (ix2 ⟨512 + k.val, by omega⟩ (y 1)))

section kernel
open Cert.OutLnIdeal Cert.OutLnIdeal.Gen

theorem pay (x : Vec Ideal S512x1024 .f32) (g b : Vec Ideal S1x1024 .f32) (ya yb : Vec Ideal S512x512 .bf16)
    (w1 w2 : Vec Ideal S512x1024 .bf16) (r : Fin 512) (j : Fin 1024) :
    k0_pay2 (F := Ideal) x g b ya w1 yb w2 (ix2 r j)
      = lnRow (fun q => k0_pay1 (F := Ideal) x ya w1 yb w2 (ix2 r q)) (fun q => g (ix2 0 q)) (fun q => b (ix2 0 q)) j := by
  unfold k0_pay2
  generalize k0_pay1 (F := Ideal) x ya w1 yb w2 = R
  pointwise [lnRow, rstd, dev, mean]

variable (m : (ℓ : Loc nD τ sig) → Buf (Elt Ideal) ℓ) (c : Dev nD)

/-- The arguments on device `c`. -/
abbrev argYa : Arr 16384 512 := m ((c.tc : Thread nD τ).loc main_arg0)
abbrev argYb : Arr 16384 512 := m ((c.tc : Thread nD τ).loc main_arg1)
abbrev argX : Arr 16384 1024 := m ((c.tc : Thread nD τ).loc main_arg2)
abbrev argW : Arr 1024 1024 := m ((c.tc : Thread nD τ).loc main_arg3)
abbrev argG : Vec1 1024 := m ((c.tc : Thread nD τ).loc main_arg4)
abbrev argB : Vec1 1024 := m ((c.tc : Thread nD τ).loc main_arg5)

theorem lt_points (t : Fin cfg0.N) : t.val < 32 := t.isLt

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![t.val, 0] := by decide +kernel
theorem idx7 : ∀ t : Fin cfg0.N, win0_7.index t = ![t.val, 0] := by decide +kernel

theorem blk0 (t : Fin cfg0.N) (r : Fin 512) (k : Fin 512) :
    iblk m c 0 t (ix2 r k) = argYa m c (ix2 ⟨t.val * 512 + r.val, by have := lt_points t; omega⟩ k) := by
  refine Eq.trans (b := (V m c main_arg0 : Arr 16384 512) (ix2 ⟨t.val * 512 + r.val, by have := lt_points t; omega⟩ k)) ?_
    (congrFun (V_main_arg0 m c) _)
  blk_ext [iblk, idx0 t]

theorem blk1 (t : Fin cfg0.N) (r : Fin 512) (k : Fin 512) :
    iblk m c 1 t (ix2 r k) = argYb m c (ix2 ⟨t.val * 512 + r.val, by have := lt_points t; omega⟩ k) := by
  refine Eq.trans (b := (V m c main_arg1 : Arr 16384 512) (ix2 ⟨t.val * 512 + r.val, by have := lt_points t; omega⟩ k)) ?_
    (congrFun (V_main_arg1 m c) _)
  blk_ext [iblk, idx1 t]

/-- The weight as the call finds it: the argument in the narrow format, the same extended reals. -/
theorem src_main_v0 : (V m c main_v0 : Arr 1024 1024) = argW m c := by
  refine Eq.trans (b := truncf (F := Ideal) .bf16 (m ((c.tc : Thread nD τ).loc main_arg3)) bitsLt_bf16_f32) ?_ rfl
  simp only [V, hostOps0]
  after_results

theorem blk2 (t : Fin cfg0.N) (k : Fin 1024) (j : Fin 1024) : iblk m c 2 t (ix2 k j) = argW m c (ix2 k j) := by
  refine Eq.trans (b := (V m c main_v0 : Arr 1024 1024) (ix2 k j)) ?_ (congrFun (src_main_v0 m c) _)
  blk_ext [iblk, idx2 t]

theorem blk3 (t : Fin cfg0.N) (r : Fin 512) (k : Fin 1024) :
    iblk m c 3 t (ix2 r k) = argX m c (ix2 ⟨t.val * 512 + r.val, by have := lt_points t; omega⟩ k) := by
  refine Eq.trans (b := (V m c main_arg2 : Arr 16384 1024) (ix2 ⟨t.val * 512 + r.val, by have := lt_points t; omega⟩ k)) ?_
    (congrFun (V_main_arg2 m c) _)
  blk_ext [iblk, idx3 t]

/-- A vector as the call finds it: its entries in one row. -/
theorem src_main_v1 : (V m c main_v1 : Arr 1 1024) = fun y => argG m c (ix1 (y 1)) := by
  refine Eq.trans (b := (shapeCast S1x1024 (m ((c.tc : Thread nD τ).loc main_arg4)) shapeCasts_S1024_S1x1024 : Vec Ideal S1x1024 .f32)) ?_ ?_
  · simp only [V, hostOps0]
    after_results
    rfl
  · funext y
    obtain ⟨i, j, rfl⟩ : ∃ (i : Fin 1) (j : Fin 1024), y = ix2 i j := ⟨y 0, y 1, eq_ix2 y⟩
    pointwise

theorem blk4 (t : Fin cfg0.N) (i : Fin 1) (j : Fin 1024) : iblk m c 4 t (ix2 i j) = argG m c (ix1 j) := by
  refine Eq.trans (b := (V m c main_v1 : Arr 1 1024) (ix2 i j)) ?_ (congrFun (src_main_v1 m c) _)
  blk_ext [iblk, idx4 t]

/-- A vector as the call finds it: its entries in one row. -/
theorem src_main_v2 : (V m c main_v2 : Arr 1 1024) = fun y => argB m c (ix1 (y 1)) := by
  refine Eq.trans (b := (shapeCast S1x1024 (m ((c.tc : Thread nD τ).loc main_arg5)) shapeCasts_S1024_S1x1024 : Vec Ideal S1x1024 .f32)) ?_ ?_
  · simp only [V, hostOps0]
    after_results
    rfl
  · funext y
    obtain ⟨i, j, rfl⟩ : ∃ (i : Fin 1) (j : Fin 1024), y = ix2 i j := ⟨y 0, y 1, eq_ix2 y⟩
    pointwise

theorem blk5 (t : Fin cfg0.N) (i : Fin 1) (j : Fin 1024) : iblk m c 5 t (ix2 i j) = argB m c (ix1 j) := by
  refine Eq.trans (b := (V m c main_v2 : Arr 1 1024) (ix2 i j)) ?_ (congrFun (src_main_v2 m c) _)
  blk_ext [iblk, idx5 t]

theorem block6 (t : Fin cfg0.N) (r : Fin 512) (j : Fin 1024) :
    out0_6 (iblk m c 0 t) (iblk m c 1 t) (iblk m c 2 t) (iblk m c 3 t) (iblk m c 4 t) (iblk m c 5 t) (ix2 r j)
      = (mixed (argYa m c) (argYb m c) (argX m c) (argW m c)) (ix2 ⟨t.val * 512 + r.val, by have := lt_points t; omega⟩ j) := by
  frame_out
  unfold k0_pay1
  pointwise [blk0, blk1, blk2, blk3, mixed, alpha]

theorem out6 : (dats m 0 c).arrAt 6 cfg0.N = mixed (argYa m c) (argYb m c) (argX m c) (argW m c) := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, eq_ix2 y⟩
  refine (block6 m c t r j).trans (congrArg (mixed (argYa m c) (argYb m c) (argX m c) (argW m c)) (?_ : ix2 _ _ = _))
  blk_ext [idx6 t]

theorem block7 (t : Fin cfg0.N) (r : Fin 512) (j : Fin 1024) :
    out0_7 (iblk m c 0 t) (iblk m c 1 t) (iblk m c 2 t) (iblk m c 3 t) (iblk m c 4 t) (iblk m c 5 t) (ix2 r j)
      = (layerNorm (mixed (argYa m c) (argYb m c) (argX m c) (argW m c)) (argG m c) (argB m c)) (ix2 ⟨t.val * 512 + r.val, by have := lt_points t; omega⟩ j) := by
  frame_out
  refine (pay _ _ _ _ _ _ _ r j).trans ?_
  refine lnRow_congr (fun q => ?_) (fun q => blk4 m c t 0 q) (fun q => blk5 m c t 0 q) j
  refine Eq.trans ?_ (block6 m c t r q)
  frame_out

theorem out7 : (dats m 0 c).arrAt 7 cfg0.N = layerNorm (mixed (argYa m c) (argYb m c) (argX m c) (argW m c)) (argG m c) (argB m c) := by
  refine (dats m 0 c).arrAt_eq_of_covers 7 _ (by decide +kernel) fun t hf y => ?_
  blk_simp
  rw [after0_7]
  obtain ⟨r, j, rfl⟩ : ∃ (r : Fin 512) (j : Fin 1024), y = ix2 r j := ⟨y 0, y 1, eq_ix2 y⟩
  refine (block7 m c t r j).trans (congrArg (layerNorm (mixed (argYa m c) (argYb m c) (argX m c) (argW m c)) (argG m c) (argB m c)) (?_ : ix2 _ _ = _))
  blk_ext [idx7 t]

end kernel

section reference
open Cert.OutLnRefIdeal Cert.OutLnRefIdeal.Gen Cert.OutLnRefIdeal.Read

theorem ref_mixed (ya yb : Arr 16384 512) (x : Arr 16384 1024) (w : Arr 1024 1024) :
    val_main_v6 (F := Ideal) ya yb x w = mixed ya yb x w := by
  funext y
  obtain ⟨r, j, rfl⟩ : ∃ (r : Fin 16384) (j : Fin 1024), y = ix2 r j := ⟨y 0, y 1, eq_ix2 y⟩
  unfold val_main_v6 val_main_v5 val_main_v4 val_main_v3 val_main_v2 val_main_v1 val_main_v0 val_main_cst
  pointwise [mixed, alpha]

theorem ref_norm (ya yb : Arr 16384 512) (x : Arr 16384 1024) (w : Arr 1024 1024) (g b : Vec1 1024) :
    val_main_v30 (F := Ideal) ya yb x w g b = layerNorm (mixed ya yb x w) g b := by
  rw [← ref_mixed]
  funext y
  obtain ⟨r, j, rfl⟩ : ∃ (r : Fin 16384) (j : Fin 1024), y = ix2 r j := ⟨y 0, y 1, eq_ix2 y⟩
  unfold val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_cst_0 val_main_cst_1 val_main_cst_2 val_main_cst_3 val_main_cst_4
  generalize val_main_v6 (F := Ideal) ya yb x w = R
  pointwise [layerNorm, lnRow, rstd, dev, mean]

end reference

/-- The reference runs to its end and leaves its arguments and every counter as they were. -/
theorem ref_frame : Cert.quiescent_OutLnRefIdeal (hOutLnRefIdeal := Cert.OutLnRefIdeal.Gen.facts) := fun m ρ _ =>
  (θ_run _ _ _).mono (fun r h => ⟨fun c => (h c).2.2, sem_eq_zero_of_no_sems (by decide) r.2⟩)
    (Cert.OutLnRefIdeal.Value.run m ρ)

/-- The call and its reference end with the same arrays. -/
theorem algebraic :
    Cert.algebraic_OutLnIdeal_OutLnRefIdeal (hOutLnIdeal := Cert.OutLnIdeal.Gen.facts) (hOutLnRefIdeal := Cert.OutLnRefIdeal.Gen.facts) := by
  intro m g m' g' _ hargs
  refine ⟨fun c => mixed (argYa m c) (argYb m c) (argX m c) (argW m c), fun c => layerNorm (mixed (argYa m c) (argYb m c) (argX m c) (argW m c)) (argG m c) (argB m c), ?_, ?_⟩
  · refine (θ_run _ _ _).mono (fun r hr c => ?_) (Cert.OutLnIdeal.Value.run_blocks m g)
    exact ⟨(hr c).1.trans (out6 m c), (hr c).2.1.trans (out7 m c), (hr c).2.2⟩
  · refine (θ_run _ _ _).mono (fun r hr c => ?_) (Cert.OutLnRefIdeal.Value.run m' g')
    obtain ⟨e0, e1, e2, e3, e4, e5⟩ := hargs c
    refine ⟨(hr c).1.trans ((Cert.OutLnRefIdeal.Read.val_main_v6_eq _ _ _ _).trans ?_), (hr c).2.1.trans ((Cert.OutLnRefIdeal.Read.val_main_v30_eq _ _).trans ?_), (hr c).2.2⟩
    · rw [e0, e1, e2, e3]
      exact ref_mixed _ _ _ _
    · rw [e0, e1, e2, e3, e4, e5]
      exact ref_norm _ _ _ _ _ _

end Cert.OutLnProof
end
-- ==== Proof.DownLnClaim.lean ====
module

public import proofs.«01_k».proof.Defs
public import proofs.«01_k».proof.Proof.StepMore
public import proofs.«01_k».proof.Proof.NetSpec
public import proofs.«01_k».proof.Proof.Gen.DownLnIdeal.Value
public import proofs.«01_k».proof.Proof.Gen.DownLnRefIdeal.Read
public import Idealize.ShloMosaic.Lib.Pipeline.ValueKit
public import Idealize.ShloMosaic.Lib.Pipeline.ReadBack
public import Idealize.ShloMosaic.Lib.WritesUnit

/-! The feed-forward layer's second product added to its residual stream, and the layer norm of the sum. -/

@[expose] public section

noncomputable section

namespace Cert.DownLnProof

open Idealize.ShloMosaic Idealize.SL.Sem Cert.StepProof

/-- The residual stream after a feed-forward layer: the stream, scaled, and the layer's hidden activation through
    the second weight. -/
def fed (h : Arr 16384 2816) (x : Arr 16384 1024) (w : Arr 2816 1024) : Arr 16384 1024 := fun y =>
  alpha * x (ix2 (y 0) (y 1)) + ∑ k : Fin 2816, h (ix2 (y 0) k) * w (ix2 k (y 1))

section kernel
open Cert.DownLnIdeal Cert.DownLnIdeal.Gen

theorem pay (x : Vec Ideal S512x1024 .f32) (g b : Vec Ideal S1x1024 .f32) (h : Vec Ideal S512x2816 .bf16)
    (w : Vec Ideal S2816x1024 .bf16) (r : Fin 512) (j : Fin 1024) :
    k0_pay2 (F := Ideal) x g b h w (ix2 r j)
      = lnRow (fun q => k0_pay1 (F := Ideal) x h w (ix2 r q)) (fun q => g (ix2 0 q)) (fun q => b (ix2 0 q)) j := by
  unfold k0_pay2
  generalize k0_pay1 (F := Ideal) x h w = R
  pointwise [lnRow, rstd, dev, mean]

variable (m : (ℓ : Loc nD τ sig) → Buf (Elt Ideal) ℓ) (c : Dev nD)

/-- The arguments on device `c`. -/
abbrev argH : Arr 16384 2816 := m ((c.tc : Thread nD τ).loc main_arg0)
abbrev argX : Arr 16384 1024 := m ((c.tc : Thread nD τ).loc main_arg1)
abbrev argW : Arr 2816 1024 := m ((c.tc : Thread nD τ).loc main_arg2)
abbrev argG : Vec1 1024 := m ((c.tc : Thread nD τ).loc main_arg3)
abbrev argB : Vec1 1024 := m ((c.tc : Thread nD τ).loc main_arg4)

theorem lt_points (t : Fin cfg0.N) : t.val < 32 := t.isLt

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val, 0] := by decide +kernel
theorem idx6 : ∀ t : Fin cfg0.N, win0_6.index t = ![t.val, 0] := by decide +kernel

theorem blk0 (t : Fin cfg0.N) (r : Fin 512) (k : Fin 2816) :
    iblk m c 0 t (ix2 r k) = argH m c (ix2 ⟨t.val * 512 + r.val, by have := lt_points t; omega⟩ k) := by
  refine Eq.trans (b := (V m c main_arg0 : Arr 16384 2816) (ix2 ⟨t.val * 512 + r.val, by have := lt_points t; omega⟩ k)) ?_
    (congrFun (V_main_arg0 m c) _)
  blk_ext [iblk, idx0 t]

/-- The weight as the call finds it: the argument in the narrow format, the same extended reals. -/
theorem src_main_v0 : (V m c main_v0 : Arr 2816 1024) = argW m c := by
  refine Eq.trans (b := truncf (F := Ideal) .bf16 (m ((c.tc : Thread nD τ).loc main_arg2)) bitsLt_bf16_f32) ?_ rfl
  simp only [V, hostOps0]
  after_results

theorem blk1 (t : Fin cfg0.N) (k : Fin 2816) (j : Fin 1024) : iblk m c 1 t (ix2 k j) = argW m c (ix2 k j) := by
  refine Eq.trans (b := (V m c main_v0 : Arr 2816 1024) (ix2 k j)) ?_ (congrFun (src_main_v0 m c) _)
  blk_ext [iblk, idx1 t]

theorem blk2 (t : Fin cfg0.N) (r : Fin 512) (k : Fin 1024) :
    iblk m c 2 t (ix2 r k) = argX m c (ix2 ⟨t.val * 512 + r.val, by have := lt_points t; omega⟩ k) := by
  refine Eq.trans (b := (V m c main_arg1 : Arr 16384 1024) (ix2 ⟨t.val * 512 + r.val, by have := lt_points t; omega⟩ k)) ?_
    (congrFun (V_main_arg1 m c) _)
  blk_ext [iblk, idx2 t]

/-- A vector as the call finds it: its entries in one row. -/
theorem src_main_v1 : (V m c main_v1 : Arr 1 1024) = fun y => argG m c (ix1 (y 1)) := by
  refine Eq.trans (b := (shapeCast S1x1024 (m ((c.tc : Thread nD τ).loc main_arg3)) shapeCasts_S1024_S1x1024 : Vec Ideal S1x1024 .f32)) ?_ ?_
  · simp only [V, hostOps0]
    after_results
    rfl
  · funext y
    obtain ⟨i, j, rfl⟩ : ∃ (i : Fin 1) (j : Fin 1024), y = ix2 i j := ⟨y 0, y 1, eq_ix2 y⟩
    pointwise

theorem blk3 (t : Fin cfg0.N) (i : Fin 1) (j : Fin 1024) : iblk m c 3 t (ix2 i j) = argG m c (ix1 j) := by
  refine Eq.trans (b := (V m c main_v1 : Arr 1 1024) (ix2 i j)) ?_ (congrFun (src_main_v1 m c) _)
  blk_ext [iblk, idx3 t]

/-- A vector as the call finds it: its entries in one row. -/
theorem src_main_v2 : (V m c main_v2 : Arr 1 1024) = fun y => argB m c (ix1 (y 1)) := by
  refine Eq.trans (b := (shapeCast S1x1024 (m ((c.tc : Thread nD τ).loc main_arg4)) shapeCasts_S1024_S1x1024 : Vec Ideal S1x1024 .f32)) ?_ ?_
  · simp only [V, hostOps0]
    after_results
    rfl
  · funext y
    obtain ⟨i, j, rfl⟩ : ∃ (i : Fin 1) (j : Fin 1024), y = ix2 i j := ⟨y 0, y 1, eq_ix2 y⟩
    pointwise

theorem blk4 (t : Fin cfg0.N) (i : Fin 1) (j : Fin 1024) : iblk m c 4 t (ix2 i j) = argB m c (ix1 j) := by
  refine Eq.trans (b := (V m c main_v2 : Arr 1 1024) (ix2 i j)) ?_ (congrFun (src_main_v2 m c) _)
  blk_ext [iblk, idx4 t]

theorem block5 (t : Fin cfg0.N) (r : Fin 512) (j : Fin 1024) :
    out0_5 (iblk m c 0 t) (iblk m c 1 t) (iblk m c 2 t) (iblk m c 3 t) (iblk m c 4 t) (ix2 r j)
      = (fed (argH m c) (argX m c) (argW m c)) (ix2 ⟨t.val * 512 + r.val, by have := lt_points t; omega⟩ j) := by
  frame_out
  unfold k0_pay1
  pointwise [blk0, blk1, blk2, fed, alpha]

theorem out5 : (dats m 0 c).arrAt 5 cfg0.N = fed (argH m c) (argX m c) (argW m c) := by
  refine (dats m 0 c).arrAt_eq_of_covers 5 _ (by decide +kernel) fun t hf y => ?_
  blk_simp
  rw [after0_5]
  obtain ⟨r, j, rfl⟩ : ∃ (r : Fin 512) (j : Fin 1024), y = ix2 r j := ⟨y 0, y 1, eq_ix2 y⟩
  refine (block5 m c t r j).trans (congrArg (fed (argH m c) (argX m c) (argW m c)) (?_ : ix2 _ _ = _))
  blk_ext [idx5 t]

theorem block6 (t : Fin cfg0.N) (r : Fin 512) (j : Fin 1024) :
    out0_6 (iblk m c 0 t) (iblk m c 1 t) (iblk m c 2 t) (iblk m c 3 t) (iblk m c 4 t) (ix2 r j)
      = (layerNorm (fed (argH m c) (argX m c) (argW m c)) (argG m c) (argB m c)) (ix2 ⟨t.val * 512 + r.val, by have := lt_points t; omega⟩ j) := by
  frame_out
  refine (pay _ _ _ _ _ r j).trans ?_
  refine lnRow_congr (fun q => ?_) (fun q => blk3 m c t 0 q) (fun q => blk4 m c t 0 q) j
  refine Eq.trans ?_ (block5 m c t r q)
  frame_out

theorem out6 : (dats m 0 c).arrAt 6 cfg0.N = layerNorm (fed (argH m c) (argX m c) (argW m c)) (argG m c) (argB m c) := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, eq_ix2 y⟩
  refine (block6 m c t r j).trans (congrArg (layerNorm (fed (argH m c) (argX m c) (argW m c)) (argG m c) (argB m c)) (?_ : ix2 _ _ = _))
  blk_ext [idx6 t]

end kernel

section reference
open Cert.DownLnRefIdeal Cert.DownLnRefIdeal.Gen Cert.DownLnRefIdeal.Read

theorem ref_fed (h : Arr 16384 2816) (x : Arr 16384 1024) (w : Arr 2816 1024) :
    val_main_v4 (F := Ideal) h x w = fed h x w := by
  funext y
  obtain ⟨r, j, rfl⟩ : ∃ (r : Fin 16384) (j : Fin 1024), y = ix2 r j := ⟨y 0, y 1, eq_ix2 y⟩
  unfold val_main_v4 val_main_v3 val_main_v2 val_main_v1 val_main_v0 val_main_cst
  pointwise [fed, alpha]

theorem ref_norm (h : Arr 16384 2816) (x : Arr 16384 1024) (w : Arr 2816 1024) (g b : Vec1 1024) :
    val_main_v28 (F := Ideal) h x w g b = layerNorm (fed h x w) g b := by
  rw [← ref_fed]
  funext y
  obtain ⟨r, j, rfl⟩ : ∃ (r : Fin 16384) (j : Fin 1024), y = ix2 r j := ⟨y 0, y 1, eq_ix2 y⟩
  unfold val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_cst_0 val_main_cst_1 val_main_cst_2 val_main_cst_3 val_main_cst_4
  generalize val_main_v4 (F := Ideal) h x w = R
  pointwise [layerNorm, lnRow, rstd, dev, mean]

end reference

/-- The reference runs to its end and leaves its arguments and every counter as they were. -/
theorem ref_frame : Cert.quiescent_DownLnRefIdeal (hDownLnRefIdeal := Cert.DownLnRefIdeal.Gen.facts) := fun m ρ _ =>
  (θ_run _ _ _).mono (fun r h => ⟨fun c => (h c).2.2, sem_eq_zero_of_no_sems (by decide) r.2⟩)
    (Cert.DownLnRefIdeal.Value.run m ρ)

/-- The call and its reference end with the same arrays. -/
theorem algebraic :
    Cert.algebraic_DownLnIdeal_DownLnRefIdeal (hDownLnIdeal := Cert.DownLnIdeal.Gen.facts) (hDownLnRefIdeal := Cert.DownLnRefIdeal.Gen.facts) := by
  intro m g m' g' _ hargs
  refine ⟨fun c => fed (argH m c) (argX m c) (argW m c), fun c => layerNorm (fed (argH m c) (argX m c) (argW m c)) (argG m c) (argB m c), ?_, ?_⟩
  · refine (θ_run _ _ _).mono (fun r hr c => ?_) (Cert.DownLnIdeal.Value.run_blocks m g)
    exact ⟨(hr c).1.trans (out5 m c), (hr c).2.1.trans (out6 m c), (hr c).2.2⟩
  · refine (θ_run _ _ _).mono (fun r hr c => ?_) (Cert.DownLnRefIdeal.Value.run m' g')
    obtain ⟨e0, e1, e2, e3, e4⟩ := hargs c
    refine ⟨(hr c).1.trans ((Cert.DownLnRefIdeal.Read.val_main_v4_eq _ _ _).trans ?_), (hr c).2.1.trans ((Cert.DownLnRefIdeal.Read.val_main_v28_eq _ _ _ _ _).trans ?_), (hr c).2.2⟩
    · rw [e0, e1, e2]
      exact ref_fed _ _ _
    · rw [e0, e1, e2, e3, e4]
      exact ref_norm _ _ _ _ _

end Cert.DownLnProof
end
-- ==== Proof.Sigmoid.lean ====
module

public import proofs.«01_k».proof.Proof.NetSpec

/-! The logistic function, written with the hyperbolic tangent and written with the exponential. -/

@[expose] public section

noncomputable section

namespace Cert.StepProof

open Idealize.ShloMosaic

theorem half_bits : Ideal.ofBits .f32 0x3F000000#32 = ((1 / 2 : ℝ) : EReal) := by
  simp [Ideal.ofBits, Ideal.ieee, -EReal.coe_mul]
  norm_num

theorem tanh_half (r : ℝ) : 1 / 2 + 1 / 2 * Real.tanh (1 / 2 * r) = (1 + Real.exp (-r))⁻¹ := by
  rw [Real.tanh_eq_sinh_div_cosh, Real.sinh_eq, Real.cosh_eq]
  have h : Real.exp (-r) = Real.exp (-(1 / 2 * r)) * Real.exp (-(1 / 2 * r)) := by rw [← Real.exp_add]; ring_nf
  have h1 : Real.exp (1 / 2 * r) * Real.exp (-(1 / 2 * r)) = 1 := by rw [← Real.exp_add]; simp
  have h2 := Real.exp_pos (1 / 2 * r)
  have h3 := Real.exp_pos (-(1 / 2 * r))
  rw [h]
  generalize Real.exp (1 / 2 * r) = a at *
  generalize Real.exp (-(1 / 2 * r)) = b at *
  have h4 : a + b ≠ 0 := by positivity
  have h5 : 1 + b * b ≠ 0 := by positivity
  field_simp
  linear_combination (2 * b) * h1

/-- The logistic function at every extended real. -/
theorem tanh_sigmoid (x : EReal) :
    Ideal.ofBits .f32 0x3F000000#32 + Ideal.ofBits .f32 0x3F000000#32 * Ideal.tanh (Ideal.ofBits .f32 0x3F000000#32 * x)
      = Ideal.div 1 (1 + Ideal.exp (-x)) := by
  rw [half_bits]
  show _ = Ideal.logistic x
  induction x with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add, tanh_half]

end Cert.StepProof
end
-- ==== Proof.PleClaim.lean ====
module

public import proofs.«01_k».proof.Defs
public import proofs.«01_k».proof.Proof.Sigmoid
public import proofs.«01_k».proof.Proof.Gen.PleIdeal.Value
public import proofs.«01_k».proof.Proof.Gen.PleRefIdeal.Read
public import Idealize.ShloMosaic.Lib.Pipeline.ValueKit
public import Idealize.ShloMosaic.Lib.Pipeline.ReadBack
public import Idealize.ShloMosaic.Lib.WritesUnit

/-! The per-layer input's gated embedding: the gate, the projected input, and their product added to the stream. -/

@[expose] public section

noncomputable section

namespace Cert.PleProof

open Idealize.ShloMosaic Idealize.SL.Sem Cert.StepProof

/-- The gate: the logistic function of the stream's product with the gate's weight, raised by its bias. -/
def gateOf (x : Arr 16384 1024) (w : Arr 1024 1024) (b : Vec1 1024) : Arr 16384 1024 := fun y =>
  Ideal.div 1 (1 + Ideal.exp (-(∑ k : Fin 1024, x (ix2 (y 0) k) * w (ix2 k (y 1)) + b (ix1 (y 1)))))

/-- The layer's own input through its projection. -/
def projected (p : Arr 16384 256) (v : Arr 256 1024) : Arr 16384 1024 := fun y =>
  ∑ k : Fin 256, p (ix2 (y 0) k) * v (ix2 k (y 1))

/-- The stream with the gated input added. -/
def gated (x : Arr 16384 1024) (p : Arr 16384 256) (w : Arr 1024 1024) (v : Arr 256 1024) (b : Vec1 1024) : Arr 16384 1024 := fun y =>
  x (ix2 (y 0) (y 1)) + gateOf x w b (ix2 (y 0) (y 1)) * projected p v (ix2 (y 0) (y 1))

section kernel
open Cert.PleIdeal Cert.PleIdeal.Gen

variable (m : (ℓ : Loc nD τ sig) → Buf (Elt Ideal) ℓ) (c : Dev nD)

/-- The arguments on device `c`. -/
abbrev argX : Arr 16384 1024 := m ((c.tc : Thread nD τ).loc main_arg0)
abbrev argP : Arr 16384 256 := m ((c.tc : Thread nD τ).loc main_arg1)
abbrev argW : Arr 1024 1024 := m ((c.tc : Thread nD τ).loc main_arg2)
abbrev argV : Arr 256 1024 := m ((c.tc : Thread nD τ).loc main_arg3)
abbrev argB : Vec1 1024 := m ((c.tc : Thread nD τ).loc main_arg4)

theorem lt_points (t : Fin cfg0.N) : t.val < 32 := t.isLt

theorem idx0 : ∀ t : Fin cfg0.N, win0_0.index t = ![0, 0] := by decide +kernel
theorem idx1 : ∀ t : Fin cfg0.N, win0_1.index t = ![t.val, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![0, 0] := by decide +kernel
theorem idx6 : ∀ t : Fin cfg0.N, win0_6.index t = ![t.val, 0] := by decide +kernel
theorem idx7 : ∀ t : Fin cfg0.N, win0_7.index t = ![t.val, 0] := by decide +kernel
theorem idx5 : ∀ t : Fin cfg0.N, win0_5.index t = ![t.val, 0] := by decide +kernel

/-- The weight as the call finds it: the argument in the narrow format, the same extended reals. -/
theorem src_main_v0 : (V m c main_v0 : Arr 1024 1024) = argW m c := by
  refine Eq.trans (b := truncf (F := Ideal) .bf16 (m ((c.tc : Thread nD τ).loc main_arg2)) bitsLt_bf16_f32) ?_ rfl
  simp only [V, hostOps0]
  after_results

theorem blk0 (t : Fin cfg0.N) (k : Fin 1024) (j : Fin 1024) : iblk m c 0 t (ix2 k j) = argW m c (ix2 k j) := by
  refine Eq.trans (b := (V m c main_v0 : Arr 1024 1024) (ix2 k j)) ?_ (congrFun (src_main_v0 m c) _)
  blk_ext [iblk, idx0 t]

theorem blk1 (t : Fin cfg0.N) (r : Fin 512) (k : Fin 256) :
    iblk m c 1 t (ix2 r k) = argP m c (ix2 ⟨t.val * 512 + r.val, by have := lt_points t; omega⟩ k) := by
  refine Eq.trans (b := (V m c main_arg1 : Arr 16384 256) (ix2 ⟨t.val * 512 + r.val, by have := lt_points t; omega⟩ k)) ?_
    (congrFun (V_main_arg1 m c) _)
  blk_ext [iblk, idx1 t]

/-- The weight as the call finds it: the argument in the narrow format, the same extended reals. -/
theorem src_main_v1 : (V m c main_v1 : Arr 256 1024) = argV m c := by
  refine Eq.trans (b := truncf (F := Ideal) .bf16 (m ((c.tc : Thread nD τ).loc main_arg3)) bitsLt_bf16_f32) ?_ rfl
  simp only [V, hostOps0]
  after_results

theorem blk2 (t : Fin cfg0.N) (k : Fin 256) (j : Fin 1024) : iblk m c 2 t (ix2 k j) = argV m c (ix2 k j) := by
  refine Eq.trans (b := (V m c main_v1 : Arr 256 1024) (ix2 k j)) ?_ (congrFun (src_main_v1 m c) _)
  blk_ext [iblk, idx2 t]

theorem blk3 (t : Fin cfg0.N) (r : Fin 512) (k : Fin 1024) :
    iblk m c 3 t (ix2 r k) = argX m c (ix2 ⟨t.val * 512 + r.val, by have := lt_points t; omega⟩ k) := by
  refine Eq.trans (b := (V m c main_arg0 : Arr 16384 1024) (ix2 ⟨t.val * 512 + r.val, by have := lt_points t; omega⟩ k)) ?_
    (congrFun (V_main_arg0 m c) _)
  blk_ext [iblk, idx3 t]

/-- A vector as the call finds it: its entries in one row. -/
theorem src_main_v2 : (V m c main_v2 : Arr 1 1024) = fun y => argB m c (ix1 (y 1)) := by
  refine Eq.trans (b := (shapeCast S1x1024 (m ((c.tc : Thread nD τ).loc main_arg4)) shapeCasts_S1024_S1x1024 : Vec Ideal S1x1024 .f32)) ?_ ?_
  · simp only [V, hostOps0]
    after_results
    rfl
  · funext y
    obtain ⟨i, j, rfl⟩ : ∃ (i : Fin 1) (j : Fin 1024), y = ix2 i j := ⟨y 0, y 1, eq_ix2 y⟩
    pointwise

theorem blk4 (t : Fin cfg0.N) (i : Fin 1) (j : Fin 1024) : iblk m c 4 t (ix2 i j) = argB m c (ix1 j) := by
  refine Eq.trans (b := (V m c main_v2 : Arr 1 1024) (ix2 i j)) ?_ (congrFun (src_main_v2 m c) _)
  blk_ext [iblk, idx4 t]

theorem block6 (t : Fin cfg0.N) (r : Fin 512) (j : Fin 1024) :
    out0_6 (iblk m c 0 t) (iblk m c 1 t) (iblk m c 2 t) (iblk m c 3 t) (iblk m c 4 t) (ix2 r j)
      = (gateOf (argX m c) (argW m c) (argB m c)) (ix2 ⟨t.val * 512 + r.val, by have := lt_points t; omega⟩ j) := by
  frame_out
  unfold k0_pay4 k0_pay2
  pointwise [blk0, blk3, blk4, gateOf]
  exact tanh_sigmoid _

theorem out6 : (dats m 0 c).arrAt 6 cfg0.N = gateOf (argX m c) (argW m c) (argB m c) := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, eq_ix2 y⟩
  refine (block6 m c t r j).trans (congrArg (gateOf (argX m c) (argW m c) (argB m c)) (?_ : ix2 _ _ = _))
  blk_ext [idx6 t]

theorem block7 (t : Fin cfg0.N) (r : Fin 512) (j : Fin 1024) :
    out0_7 (iblk m c 0 t) (iblk m c 1 t) (iblk m c 2 t) (iblk m c 3 t) (iblk m c 4 t) (ix2 r j)
      = (projected (argP m c) (argV m c)) (ix2 ⟨t.val * 512 + r.val, by have := lt_points t; omega⟩ j) := by
  frame_out
  unfold k0_pay5 k0_pay1
  pointwise [blk1, blk2, projected]

theorem out7 : (dats m 0 c).arrAt 7 cfg0.N = projected (argP m c) (argV m c) := by
  refine (dats m 0 c).arrAt_eq_of_covers 7 _ (by decide +kernel) fun t hf y => ?_
  blk_simp
  rw [after0_7]
  obtain ⟨r, j, rfl⟩ : ∃ (r : Fin 512) (j : Fin 1024), y = ix2 r j := ⟨y 0, y 1, eq_ix2 y⟩
  refine (block7 m c t r j).trans (congrArg (projected (argP m c) (argV m c)) (?_ : ix2 _ _ = _))
  blk_ext [idx7 t]

theorem block5 (t : Fin cfg0.N) (r : Fin 512) (j : Fin 1024) :
    out0_5 (iblk m c 0 t) (iblk m c 1 t) (iblk m c 2 t) (iblk m c 3 t) (iblk m c 4 t) (ix2 r j)
      = (gated (argX m c) (argP m c) (argW m c) (argV m c) (argB m c)) (ix2 ⟨t.val * 512 + r.val, by have := lt_points t; omega⟩ j) := by
  frame_out
  unfold k0_pay3 k0_pay2 k0_pay1
  pointwise [blk0, blk1, blk2, blk3, blk4, gated, gateOf, projected]
  rw [tanh_sigmoid]

theorem out5 : (dats m 0 c).arrAt 5 cfg0.N = gated (argX m c) (argP m c) (argW m c) (argV m c) (argB m c) := by
  refine (dats m 0 c).arrAt_eq_of_covers 5 _ (by decide +kernel) fun t hf y => ?_
  blk_simp
  rw [after0_5]
  obtain ⟨r, j, rfl⟩ : ∃ (r : Fin 512) (j : Fin 1024), y = ix2 r j := ⟨y 0, y 1, eq_ix2 y⟩
  refine (block5 m c t r j).trans (congrArg (gated (argX m c) (argP m c) (argW m c) (argV m c) (argB m c)) (?_ : ix2 _ _ = _))
  blk_ext [idx5 t]

end kernel

section reference
open Cert.PleRefIdeal Cert.PleRefIdeal.Gen Cert.PleRefIdeal.Read

theorem ref_gate (x : Arr 16384 1024) (w : Arr 1024 1024) (b : Vec1 1024) : val_main_v9 (F := Ideal) x w b = gateOf x w b := by
  funext y
  obtain ⟨r, j, rfl⟩ : ∃ (r : Fin 16384) (j : Fin 1024), y = ix2 r j := ⟨y 0, y 1, eq_ix2 y⟩
  unfold val_main_v9 val_main_v8 val_main_v7 val_main_v6 val_main_v5 val_main_v4 val_main_v3 val_main_v2 val_main_v1 val_main_v0 val_main_cst val_main_cst_0
  pointwise [gateOf]

theorem ref_projected (p : Arr 16384 256) (v : Arr 256 1024) : val_main_v10 (F := Ideal) p v = projected p v := by
  funext y
  obtain ⟨r, j, rfl⟩ : ∃ (r : Fin 16384) (j : Fin 1024), y = ix2 r j := ⟨y 0, y 1, eq_ix2 y⟩
  unfold val_main_v10
  pointwise [projected]

theorem ref_gate_out (x : Arr 16384 1024) (w : Arr 1024 1024) (b : Vec1 1024) : val_main_v13 (F := Ideal) x w b = gateOf x w b := ref_gate x w b

theorem ref_projected_out (p : Arr 16384 256) (v : Arr 256 1024) : val_main_v14 (F := Ideal) p v = projected p v := ref_projected p v

theorem ref_gated (x : Arr 16384 1024) (p : Arr 16384 256) (w : Arr 1024 1024) (v : Arr 256 1024) (b : Vec1 1024) :
    val_main_v12 (F := Ideal) x p w v b = gated x p w v b := by
  funext y
  obtain ⟨r, j, rfl⟩ : ∃ (r : Fin 16384) (j : Fin 1024), y = ix2 r j := ⟨y 0, y 1, eq_ix2 y⟩
  unfold val_main_v12 val_main_v11
  rw [ref_gate, ref_projected]
  pointwise [gated]

end reference

/-- The reference runs to its end and leaves its arguments and every counter as they were. -/
theorem ref_frame : Cert.quiescent_PleRefIdeal (hPleRefIdeal := Cert.PleRefIdeal.Gen.facts) := fun m ρ _ =>
  (θ_run _ _ _).mono (fun r h => ⟨fun c => (h c).2.2.2, sem_eq_zero_of_no_sems (by decide) r.2⟩)
    (Cert.PleRefIdeal.Value.run m ρ)

/-- The call and its reference end with the same arrays. -/
theorem algebraic :
    Cert.algebraic_PleIdeal_PleRefIdeal (hPleIdeal := Cert.PleIdeal.Gen.facts) (hPleRefIdeal := Cert.PleRefIdeal.Gen.facts) := by
  intro m g m' g' _ hargs
  refine ⟨fun c => gated (argX m c) (argP m c) (argW m c) (argV m c) (argB m c), fun c => gateOf (argX m c) (argW m c) (argB m c), fun c => projected (argP m c) (argV m c), ?_, ?_⟩
  · refine (θ_run _ _ _).mono (fun r hr c => ?_) (Cert.PleIdeal.Value.run_blocks m g)
    exact ⟨(hr c).1.trans (out5 m c), (hr c).2.1.trans (out6 m c), (hr c).2.2.1.trans (out7 m c), (hr c).2.2.2⟩
  · refine (θ_run _ _ _).mono (fun r hr c => ?_) (Cert.PleRefIdeal.Value.run m' g')
    obtain ⟨e0, e1, e2, e3, e4⟩ := hargs c
    refine ⟨(hr c).1.trans ((Cert.PleRefIdeal.Read.val_main_v12_eq _ _ _ _ _).trans ?_), (hr c).2.1.trans ((Cert.PleRefIdeal.Read.val_main_v13_eq _ _ _).trans ?_), (hr c).2.2.1.trans ((Cert.PleRefIdeal.Read.val_main_v14_eq _ _).trans ?_), (hr c).2.2.2⟩
    · rw [e0, e1, e2, e3, e4]
      exact ref_gated _ _ _ _ _
    · rw [e0, e2, e4]
      exact ref_gate_out _ _ _
    · rw [e1, e3]
      exact ref_projected_out _ _

end Cert.PleProof
end
-- ==== Proof.FfnUpClaim.lean ====
module

public import proofs.«01_k».proof.Defs
public import proofs.«01_k».proof.Proof.Sigmoid
public import proofs.«01_k».proof.Proof.Gen.FfnUpIdeal.Value
public import proofs.«01_k».proof.Proof.Gen.FfnUpRefIdeal.Read
public import Idealize.ShloMosaic.Lib.Pipeline.ValueKit
public import Idealize.ShloMosaic.Lib.Pipeline.ReadBack
public import Idealize.ShloMosaic.Lib.WritesUnit

/-! The feed-forward layer's first product and its gate: the activation and its two partial derivatives. -/

@[expose] public section

noncomputable section

namespace Cert.FfnUpProof

open Idealize.ShloMosaic Idealize.SL.Sem Cert.StepProof

/-- The gate's argument and the value it gates: the stream through the weight's first and last 2816 columns. -/
def gatePre (x : Arr 16384 1024) (w : Arr 1024 5632) (i : Fin 16384) (j : Fin 2816) : EReal :=
  ∑ k : Fin 1024, x (ix2 i k) * w (ix2 k ⟨j.val, by omega⟩)
def upPre (x : Arr 16384 1024) (w : Arr 1024 5632) (i : Fin 16384) (j : Fin 2816) : EReal :=
  ∑ k : Fin 1024, x (ix2 i k) * w (ix2 k ⟨2816 + j.val, by omega⟩)

/-- The logistic function. -/
def sigm (x : EReal) : EReal := Ideal.div 1 (1 + Ideal.exp (-x))

/-- The gated activation, its derivative at the gate's argument, its derivative at the gated value. -/
def act (x : Arr 16384 1024) (w : Arr 1024 5632) : Arr 16384 2816 := fun y =>
  gatePre x w (y 0) (y 1) * sigm (gatePre x w (y 0) (y 1)) * upPre x w (y 0) (y 1)
def slopeGate (x : Arr 16384 1024) (w : Arr 1024 5632) : Arr 16384 2816 := fun y =>
  upPre x w (y 0) (y 1) * (sigm (gatePre x w (y 0) (y 1))
    + gatePre x w (y 0) (y 1) * sigm (gatePre x w (y 0) (y 1)) * (1 - sigm (gatePre x w (y 0) (y 1))))
def slopeUp (x : Arr 16384 1024) (w : Arr 1024 5632) : Arr 16384 2816 := fun y =>
  gatePre x w (y 0) (y 1) * sigm (gatePre x w (y 0) (y 1))

section kernel
open Cert.FfnUpIdeal Cert.FfnUpIdeal.Gen

variable (m : (ℓ : Loc nD τ sig) → Buf (Elt Ideal) ℓ) (c : Dev nD)

/-- The arguments on device `c`. -/
abbrev argX : Arr 16384 1024 := m ((c.tc : Thread nD τ).loc main_arg0)
abbrev argW : Arr 1024 5632 := m ((c.tc : Thread nD τ).loc main_arg1)

theorem lt_points (t : Fin cfg0.N) : t.val < 64 := t.isLt

theorem idx0 : ∀ t : Fin cfg0.N, win0_0.index t = ![t.val % 32, 0] := by decide +kernel
theorem idx1 : ∀ t : Fin cfg0.N, win0_1.index t = ![0, t.val / 32] := by decide +kernel
theorem idx2 : ∀ t : Fin cfg0.N, win0_2.index t = ![0, t.val / 32 + 2] := by decide +kernel
theorem idx3 : ∀ t : Fin cfg0.N, win0_3.index t = ![t.val % 32, t.val / 32] := by decide +kernel
theorem idx4 : ∀ t : Fin cfg0.N, win0_4.index t = ![t.val % 32, t.val / 32] := by decide +kernel
theorem idx5 : ∀ t : Fin cfg0.N, win0_5.index t = ![t.val % 32, t.val / 32] := by decide +kernel

/-- The weight as the call finds it: the argument in the narrow format, the same extended reals. -/
theorem weight : (V m c main_v0 : Arr 1024 5632) = argW m c := by
  refine Eq.trans (b := truncf (F := Ideal) .bf16 (m ((c.tc : Thread nD τ).loc main_arg1)) bitsLt_bf16_f32) ?_ rfl
  simp only [V, hostOps0]
  after_results

/-- The row and the column of the whole array that a point's block holds at its row `r` and column `j`. -/
def rowOf (t : Fin cfg0.N) (r : Fin 512) : Fin 16384 := ⟨t.val % 32 * 512 + r.val, by omega⟩
def colOf (t : Fin cfg0.N) (j : Fin 1408) : Fin 2816 := ⟨t.val / 32 * 1408 + j.val, by have := lt_points t; omega⟩

theorem blk0 (t : Fin cfg0.N) (r : Fin 512) (k : Fin 1024) :
    iblk m c 0 t (ix2 r k) = argX m c (ix2 (rowOf t r) k) := by
  refine Eq.trans (b := (V m c main_arg0 : Arr 16384 1024) (ix2 (rowOf t r) k)) ?_ (congrFun (V_main_arg0 m c) _)
  blk_ext [iblk, idx0 t, rowOf]

theorem blk1 (t : Fin cfg0.N) (k : Fin 1024) (j : Fin 1408) :
    iblk m c 1 t (ix2 k j) = argW m c (ix2 k ⟨(colOf t j).val, by omega⟩) := by
  refine Eq.trans (b := (V m c main_v0 : Arr 1024 5632) (ix2 k ⟨(colOf t j).val, by omega⟩)) ?_ (congrFun (weight m c) _)
  blk_ext [iblk, idx1 t, colOf]

theorem blk2 (t : Fin cfg0.N) (k : Fin 1024) (j : Fin 1408) :
    iblk m c 2 t (ix2 k j) = argW m c (ix2 k ⟨2816 + (colOf t j).val, by omega⟩) := by
  refine Eq.trans (b := (V m c main_v0 : Arr 1024 5632) (ix2 k ⟨2816 + (colOf t j).val, by omega⟩)) ?_ (congrFun (weight m c) _)
  blk_ext [iblk, idx2 t, colOf]

theorem pay_gate (t : Fin cfg0.N) (r : Fin 512) (j : Fin 1408) :
    k0_pay2 (F := Ideal) (iblk m c 0 t) (iblk m c 1 t) (ix2 r j) = gatePre (argX m c) (argW m c) (rowOf t r) (colOf t j) := by
  unfold k0_pay2 k0_pay1
  pointwise [blk0, blk1, gatePre]

theorem pay_up (t : Fin cfg0.N) (r : Fin 512) (j : Fin 1408) :
    k0_pay3 (F := Ideal) (iblk m c 0 t) (iblk m c 2 t) (ix2 r j) = upPre (argX m c) (argW m c) (rowOf t r) (colOf t j) := by
  unfold k0_pay3 k0_pay1
  pointwise [blk0, blk2, upPre]

theorem pay_sigm (x : Vec Ideal S512x1024 .f32) (w : Vec Ideal S1024x1408 .bf16) (r : Fin 512) (j : Fin 1408) :
    k0_pay4 (F := Ideal) x w (ix2 r j) = sigm (k0_pay2 (F := Ideal) x w (ix2 r j)) := by
  unfold k0_pay4
  generalize k0_pay2 (F := Ideal) x w = G
  pointwise [sigm]
  exact tanh_sigmoid _

theorem pay_silu (x : Vec Ideal S512x1024 .f32) (w : Vec Ideal S1024x1408 .bf16) (r : Fin 512) (j : Fin 1408) :
    k0_pay5 (F := Ideal) x w (ix2 r j) = k0_pay2 (F := Ideal) x w (ix2 r j) * sigm (k0_pay2 (F := Ideal) x w (ix2 r j)) := by
  unfold k0_pay5
  exact congrArg (_ * ·) (pay_sigm x w r j)

theorem block3 (t : Fin cfg0.N) (r : Fin 512) (j : Fin 1408) :
    out0_3 (iblk m c 0 t) (iblk m c 1 t) (iblk m c 2 t) (ix2 r j) = act (argX m c) (argW m c) (ix2 (rowOf t r) (colOf t j)) := by
  frame_out
  unfold k0_pay6
  pointwise [pay_silu, pay_gate, pay_up, act]

theorem block4 (t : Fin cfg0.N) (r : Fin 512) (j : Fin 1408) :
    out0_4 (iblk m c 0 t) (iblk m c 1 t) (iblk m c 2 t) (ix2 r j) = slopeGate (argX m c) (argW m c) (ix2 (rowOf t r) (colOf t j)) := by
  frame_out
  unfold k0_pay7
  pointwise [pay_silu, pay_sigm, pay_gate, pay_up, slopeGate]

theorem block5 (t : Fin cfg0.N) (r : Fin 512) (j : Fin 1408) :
    out0_5 (iblk m c 0 t) (iblk m c 1 t) (iblk m c 2 t) (ix2 r j) = slopeUp (argX m c) (argW m c) (ix2 (rowOf t r) (colOf t j)) := by
  frame_out
  unfold k0_pay8
  pointwise [pay_silu, pay_gate, slopeUp]

theorem out3 : (dats m 0 c).arrAt 3 cfg0.N = act (argX m c) (argW m c) := by
  refine (dats m 0 c).arrAt_eq_of_covers 3 _ (by decide +kernel) fun t hf y => ?_
  blk_simp
  rw [after0_3]
  obtain ⟨r, j, rfl⟩ : ∃ (r : Fin 512) (j : Fin 1408), y = ix2 r j := ⟨y 0, y 1, eq_ix2 y⟩
  refine (block3 m c t r j).trans (congrArg (act (argX m c) (argW m c)) (?_ : ix2 _ _ = _))
  blk_ext [idx3 t, rowOf, colOf]

theorem out4 : (dats m 0 c).arrAt 4 cfg0.N = slopeGate (argX m c) (argW m c) := by
  refine (dats m 0 c).arrAt_eq_of_covers 4 _ (by decide +kernel) fun t hf y => ?_
  blk_simp
  rw [after0_4]
  obtain ⟨r, j, rfl⟩ : ∃ (r : Fin 512) (j : Fin 1408), y = ix2 r j := ⟨y 0, y 1, eq_ix2 y⟩
  refine (block4 m c t r j).trans (congrArg (slopeGate (argX m c) (argW m c)) (?_ : ix2 _ _ = _))
  blk_ext [idx4 t, rowOf, colOf]

theorem out5 : (dats m 0 c).arrAt 5 cfg0.N = slopeUp (argX m c) (argW m c) := by
  refine (dats m 0 c).arrAt_eq_of_covers 5 _ (by decide +kernel) fun t hf y => ?_
  blk_simp
  rw [after0_5]
  obtain ⟨r, j, rfl⟩ : ∃ (r : Fin 512) (j : Fin 1408), y = ix2 r j := ⟨y 0, y 1, eq_ix2 y⟩
  refine (block5 m c t r j).trans (congrArg (slopeUp (argX m c) (argW m c)) (?_ : ix2 _ _ = _))
  blk_ext [idx5 t, rowOf, colOf]

end kernel

section reference
open Cert.FfnUpRefIdeal Cert.FfnUpRefIdeal.Gen Cert.FfnUpRefIdeal.Read

theorem ref_gatePre (x : Arr 16384 1024) (w : Arr 1024 5632) (i : Fin 16384) (j : Fin 2816) :
    val_main_v1 (F := Ideal) x w (ix2 i j) = gatePre x w i j := by
  unfold val_main_v1 val_main_v0
  pointwise [gatePre]

theorem ref_upPre (x : Arr 16384 1024) (w : Arr 1024 5632) (i : Fin 16384) (j : Fin 2816) :
    val_main_v2 (F := Ideal) x w (ix2 i j) = upPre x w i j := by
  unfold val_main_v2 val_main_v0
  pointwise [upPre]

theorem ref_sigm (x : Arr 16384 1024) (w : Arr 1024 5632) (i : Fin 16384) (j : Fin 2816) :
    val_main_v3_2 (F := Ideal) x w (ix2 i j) = sigm (gatePre x w i j) := by
  rw [← ref_gatePre]
  unfold val_main_v3_2 val_main_call0_v4 val_main_call0_v3 val_main_call0_v2 val_main_call0_v1 val_main_call0_v0 val_main_call0_cst val_main_call0_cst_0
  generalize val_main_v1 (F := Ideal) x w = G
  pointwise [sigm]

theorem ref_act (x : Arr 16384 1024) (w : Arr 1024 5632) : val_main_v7 (F := Ideal) x w = act x w := by
  funext y
  obtain ⟨i, j, rfl⟩ : ∃ (i : Fin 16384) (j : Fin 2816), y = ix2 i j := ⟨y 0, y 1, eq_ix2 y⟩
  unfold val_main_v7 val_main_v6 val_main_v3_0
  pointwise [ref_gatePre, ref_upPre, ref_sigm, act]

theorem ref_slopeUp (x : Arr 16384 1024) (w : Arr 1024 5632) : val_main_v10 (F := Ideal) x w = slopeUp x w := by
  funext y
  obtain ⟨i, j, rfl⟩ : ∃ (i : Fin 16384) (j : Fin 2816), y = ix2 i j := ⟨y 0, y 1, eq_ix2 y⟩
  unfold val_main_v10 val_main_v3_0
  pointwise [ref_gatePre, ref_sigm, slopeUp]

theorem ref_slopeGate (x : Arr 16384 1024) (w : Arr 1024 5632) : val_main_v9 (F := Ideal) x w = slopeGate x w := by
  funext y
  obtain ⟨i, j, rfl⟩ : ∃ (i : Fin 16384) (j : Fin 2816), y = ix2 i j := ⟨y 0, y 1, eq_ix2 y⟩
  unfold val_main_v9 val_main_v8 val_main_v5 val_main_call1_v2 val_main_call1_v1 val_main_call1_v0 val_main_v4 val_main_cst val_main_v3_1 val_main_call0_v7 val_main_call0_v6 val_main_call0_cst_1
  pointwise [ref_gatePre, ref_upPre, ref_sigm, slopeGate]
  simp only [mul_assoc]

end reference

/-- The reference runs to its end and leaves its arguments and every counter as they were. -/
theorem ref_frame : Cert.quiescent_FfnUpRefIdeal (hFfnUpRefIdeal := Cert.FfnUpRefIdeal.Gen.facts) := fun m ρ _ =>
  (θ_run _ _ _).mono (fun r h => ⟨fun c => (h c).2.2.2, sem_eq_zero_of_no_sems (by decide) r.2⟩)
    (Cert.FfnUpRefIdeal.Value.run m ρ)

/-- The call and its reference end with the same arrays. -/
theorem algebraic :
    Cert.algebraic_FfnUpIdeal_FfnUpRefIdeal (hFfnUpIdeal := Cert.FfnUpIdeal.Gen.facts) (hFfnUpRefIdeal := Cert.FfnUpRefIdeal.Gen.facts) := by
  intro m g m' g' _ hargs
  refine ⟨fun c => act (argX m c) (argW m c), fun c => slopeGate (argX m c) (argW m c), fun c => slopeUp (argX m c) (argW m c), ?_, ?_⟩
  · refine (θ_run _ _ _).mono (fun r hr c => ?_) (Cert.FfnUpIdeal.Value.run_blocks m g)
    exact ⟨(hr c).1.trans (out3 m c), (hr c).2.1.trans (out4 m c), (hr c).2.2.1.trans (out5 m c), (hr c).2.2.2⟩
  · refine (θ_run _ _ _).mono (fun r hr c => ?_) (Cert.FfnUpRefIdeal.Value.run m' g')
    obtain ⟨e0, e1⟩ := hargs c
    refine ⟨(hr c).1.trans ((Cert.FfnUpRefIdeal.Read.val_main_v7_eq _ _).trans ?_), (hr c).2.1.trans ((Cert.FfnUpRefIdeal.Read.val_main_v9_eq _ _).trans ?_),
      (hr c).2.2.1.trans ((Cert.FfnUpRefIdeal.Read.val_main_v10_eq _ _).trans ?_), (hr c).2.2.2⟩
    · rw [e0, e1]
      exact ref_act _ _
    · rw [e0, e1]
      exact ref_slopeGate _ _
    · rw [e0, e1]
      exact ref_slopeUp _ _

end Cert.FfnUpProof
end
-- ==== Proof.AdamSpec.lean ====
module

public import proofs.«01_k».proof.Proof.StepSums

/-! One step of the optimiser at one weight, on extended reals. -/

@[expose] public section

noncomputable section

namespace Cert.StepProof

open Idealize.ShloMosaic

/-- The first moment after the step. -/
def momOf (g m : EReal) : EReal := Ideal.ofBits .f32 0x3F666666#32 * m + Ideal.ofBits .f32 0x3DCCCCCD#32 * g

/-- The second moment after the step. -/
def velOf (g v : EReal) : EReal := Ideal.ofBits .f32 0x3F7FBE77#32 * v + Ideal.ofBits .f32 0x3A83126F#32 * (g * g)

/-- The change of the weight: the two moments corrected for their start at zero, and the weight's decay. -/
def deltaOf (w g m v : EReal) : EReal :=
  Ideal.ofBits .f32 0xBA83126F#32
    * (Ideal.div (Ideal.div (momOf g m) (Ideal.ofBits .f32 0x3F26BD02#32))
        (Ideal.sqrt (Ideal.div (velOf g v) (Ideal.ofBits .f32 0x3C231ACC#32)) + Ideal.ofBits .f32 0x322BCC77#32)
      + Ideal.ofBits .f32 0x3C23D70A#32 * w)

variable {a b : ℕ}

/-- The step at every weight of a matrix. -/
def newM (g m : Arr a b) : Arr a b := fun y => momOf (g y) (m y)
def newV (g v : Arr a b) : Arr a b := fun y => velOf (g y) (v y)
def newDelta (w g m v : Arr a b) : Arr a b := fun y => deltaOf (w y) (g y) (m y) (v y)

end Cert.StepProof
end
-- ==== Proof.AdamEvInClaim.lean ====
module

public import proofs.«01_k».proof.Defs
public import proofs.«01_k».proof.Proof.AdamSpec
public import proofs.«01_k».proof.Proof.Gen.AdamEvInIdeal.Value
public import proofs.«01_k».proof.Proof.Gen.AdamEvInRefIdeal.Read
public import Idealize.ShloMosaic.Lib.Pipeline.ValueKit
public import Idealize.ShloMosaic.Lib.Pipeline.ReadBack
public import Idealize.ShloMosaic.Lib.WritesUnit

/-! The optimiser on one device's part of `ev_w_in`. -/

@[expose] public section

noncomputable section

namespace Cert.AdamEvInProof

open Idealize.ShloMosaic Idealize.SL.Sem Cert.StepProof

section kernel
open Cert.AdamEvInIdeal Cert.AdamEvInIdeal.Gen

variable (m : (ℓ : Loc nD τ sig) → Buf (Elt Ideal) ℓ) (c : Dev nD)

/-- The arguments on device `c`, their layers one below another: the weight, its gradient, its two moments. -/
def flatW : Arr 2048 512 := (shapeCast S2048x512 (m ((c.tc : Thread nD τ).loc main_arg0)) shapeCasts_S2x1024x512_S2048x512 : Vec Ideal S2048x512 .f32)
def flatG : Arr 2048 512 := (shapeCast S2048x512 (m ((c.tc : Thread nD τ).loc main_arg1)) shapeCasts_S2x1024x512_S2048x512 : Vec Ideal S2048x512 .f32)
def flatM : Arr 2048 512 := (shapeCast S2048x512 (m ((c.tc : Thread nD τ).loc main_arg2)) shapeCasts_S2x1024x512_S2048x512 : Vec Ideal S2048x512 .f32)
def flatV : Arr 2048 512 := (shapeCast S2048x512 (m ((c.tc : Thread nD τ).loc main_arg3)) shapeCasts_S2x1024x512_S2048x512 : Vec Ideal S2048x512 .f32)

theorem lt_points (t : Fin cfg0.N) : t.val < 4 := t.isLt

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel

theorem src0 : (V m c main_v0 : Arr 2048 512) = flatW m c := by
  unfold flatW
  simp only [V, hostOps0]
  after_results
  rfl

theorem blk0 (t : Fin cfg0.N) (r : Fin 512) (k : Fin 512) :
    iblk m c 0 t (ix2 r k) = flatW m c (ix2 ⟨t.val * 512 + r.val, by have := lt_points t; omega⟩ k) := by
  refine Eq.trans (b := (V m c main_v0 : Arr 2048 512) (ix2 ⟨t.val * 512 + r.val, by have := lt_points t; omega⟩ k)) ?_
    (congrFun (src0 m c) _)
  blk_ext [iblk, idx0 t]

theorem src1 : (V m c main_v1 : Arr 2048 512) = flatG m c := by
  unfold flatG
  simp only [V, hostOps0]
  after_results
  rfl

theorem blk1 (t : Fin cfg0.N) (r : Fin 512) (k : Fin 512) :
    iblk m c 1 t (ix2 r k) = flatG m c (ix2 ⟨t.val * 512 + r.val, by have := lt_points t; omega⟩ k) := by
  refine Eq.trans (b := (V m c main_v1 : Arr 2048 512) (ix2 ⟨t.val * 512 + r.val, by have := lt_points t; omega⟩ k)) ?_
    (congrFun (src1 m c) _)
  blk_ext [iblk, idx1 t]

theorem src2 : (V m c main_v2 : Arr 2048 512) = flatM m c := by
  unfold flatM
  simp only [V, hostOps0]
  after_results
  rfl

theorem blk2 (t : Fin cfg0.N) (r : Fin 512) (k : Fin 512) :
    iblk m c 2 t (ix2 r k) = flatM m c (ix2 ⟨t.val * 512 + r.val, by have := lt_points t; omega⟩ k) := by
  refine Eq.trans (b := (V m c main_v2 : Arr 2048 512) (ix2 ⟨t.val * 512 + r.val, by have := lt_points t; omega⟩ k)) ?_
    (congrFun (src2 m c) _)
  blk_ext [iblk, idx2 t]

theorem src3 : (V m c main_v3 : Arr 2048 512) = flatV m c := by
  unfold flatV
  simp only [V, hostOps0]
  after_results
  rfl

theorem blk3 (t : Fin cfg0.N) (r : Fin 512) (k : Fin 512) :
    iblk m c 3 t (ix2 r k) = flatV m c (ix2 ⟨t.val * 512 + r.val, by have := lt_points t; omega⟩ k) := by
  refine Eq.trans (b := (V m c main_v3 : Arr 2048 512) (ix2 ⟨t.val * 512 + r.val, by have := lt_points t; omega⟩ k)) ?_
    (congrFun (src3 m c) _)
  blk_ext [iblk, idx3 t]

theorem block4 (t : Fin cfg0.N) (r : Fin 512) (j : Fin 512) :
    out0_4 (iblk m c 0 t) (iblk m c 1 t) (iblk m c 2 t) (iblk m c 3 t) (ix2 r j)
      = newDelta (flatW m c) (flatG m c) (flatM m c) (flatV m c) (ix2 ⟨t.val * 512 + r.val, by have := lt_points t; omega⟩ j) := by
  frame_out
  unfold k0_pay4 k0_pay3 k0_pay2 k0_pay1
  pointwise [blk0, blk1, blk2, blk3, newDelta, newM, newV, deltaOf, momOf, velOf]

theorem out4 : (dats m 0 c).arrAt 4 cfg0.N = newDelta (flatW m c) (flatG m c) (flatM m c) (flatV m c) := by
  refine (dats m 0 c).arrAt_eq_of_covers 4 _ (by decide +kernel) fun t hf y => ?_
  blk_simp
  rw [after0_4]
  obtain ⟨r, j, rfl⟩ : ∃ (r : Fin 512) (j : Fin 512), y = ix2 r j := ⟨y 0, y 1, eq_ix2 y⟩
  refine (block4 m c t r j).trans (congrArg (newDelta (flatW m c) (flatG m c) (flatM m c) (flatV m c)) (?_ : ix2 _ _ = _))
  blk_ext [idx4 t]

theorem block5 (t : Fin cfg0.N) (r : Fin 512) (j : Fin 512) :
    out0_5 (iblk m c 0 t) (iblk m c 1 t) (iblk m c 2 t) (iblk m c 3 t) (ix2 r j)
      = newM (flatG m c) (flatM m c) (ix2 ⟨t.val * 512 + r.val, by have := lt_points t; omega⟩ j) := by
  frame_out
  unfold k0_pay2 k0_pay1
  pointwise [blk0, blk1, blk2, blk3, newDelta, newM, newV, deltaOf, momOf, velOf]

theorem out5 : (dats m 0 c).arrAt 5 cfg0.N = newM (flatG m c) (flatM m c) := by
  refine (dats m 0 c).arrAt_eq_of_covers 5 _ (by decide +kernel) fun t hf y => ?_
  blk_simp
  rw [after0_5]
  obtain ⟨r, j, rfl⟩ : ∃ (r : Fin 512) (j : Fin 512), y = ix2 r j := ⟨y 0, y 1, eq_ix2 y⟩
  refine (block5 m c t r j).trans (congrArg (newM (flatG m c) (flatM m c)) (?_ : ix2 _ _ = _))
  blk_ext [idx5 t]

theorem block6 (t : Fin cfg0.N) (r : Fin 512) (j : Fin 512) :
    out0_6 (iblk m c 0 t) (iblk m c 1 t) (iblk m c 2 t) (iblk m c 3 t) (ix2 r j)
      = newV (flatG m c) (flatV m c) (ix2 ⟨t.val * 512 + r.val, by have := lt_points t; omega⟩ j) := by
  frame_out
  unfold k0_pay3 k0_pay1
  pointwise [blk0, blk1, blk2, blk3, newDelta, newM, newV, deltaOf, momOf, velOf]

theorem out6 : (dats m 0 c).arrAt 6 cfg0.N = newV (flatG m c) (flatV m c) := by
  refine (dats m 0 c).arrAt_eq_of_covers 6 _ (by decide +kernel) fun t hf y => ?_
  blk_simp
  rw [after0_6]
  obtain ⟨r, j, rfl⟩ : ∃ (r : Fin 512) (j : Fin 512), y = ix2 r j := ⟨y 0, y 1, eq_ix2 y⟩
  refine (block6 m c t r j).trans (congrArg (newV (flatG m c) (flatV m c)) (?_ : ix2 _ _ = _))
  blk_ext [idx6 t]

end kernel

section reference
open Cert.AdamEvInRefIdeal Cert.AdamEvInRefIdeal.Gen Cert.AdamEvInRefIdeal.Read

theorem ref_delta (w g m v : Vec Ideal S2x1024x512 .f32) :
    (val_main_v24 (F := Ideal) w g m v : Arr 2048 512) = newDelta (shapeCast S2048x512 w shapeCasts_S2x1024x512_S2048x512 : Vec Ideal S2048x512 .f32) (shapeCast S2048x512 g shapeCasts_S2x1024x512_S2048x512 : Vec Ideal S2048x512 .f32) (shapeCast S2048x512 m shapeCasts_S2x1024x512_S2048x512 : Vec Ideal S2048x512 .f32) (shapeCast S2048x512 v shapeCasts_S2x1024x512_S2048x512 : Vec Ideal S2048x512 .f32) := rfl

theorem ref_mom (g m : Vec Ideal S2x1024x512 .f32) : (val_main_v25 (F := Ideal) g m : Arr 2048 512) = newM (shapeCast S2048x512 g shapeCasts_S2x1024x512_S2048x512 : Vec Ideal S2048x512 .f32) (shapeCast S2048x512 m shapeCasts_S2x1024x512_S2048x512 : Vec Ideal S2048x512 .f32) := rfl

theorem ref_vel (g v : Vec Ideal S2x1024x512 .f32) : (val_main_v26 (F := Ideal) g v : Arr 2048 512) = newV (shapeCast S2048x512 g shapeCasts_S2x1024x512_S2048x512 : Vec Ideal S2048x512 .f32) (shapeCast S2048x512 v shapeCasts_S2x1024x512_S2048x512 : Vec Ideal S2048x512 .f32) := rfl

end reference

/-- The reference runs to its end and leaves its arguments and every counter as they were. -/
theorem ref_frame : Cert.quiescent_AdamEvInRefIdeal (hAdamEvInRefIdeal := Cert.AdamEvInRefIdeal.Gen.facts) := fun m ρ _ =>
  (θ_run _ _ _).mono (fun r h => ⟨fun c => (h c).2.2.2, sem_eq_zero_of_no_sems (by decide) r.2⟩)
    (Cert.AdamEvInRefIdeal.Value.run m ρ)

/-- The call and its reference end with the same arrays. -/
theorem algebraic :
    Cert.algebraic_AdamEvInIdeal_AdamEvInRefIdeal (hAdamEvInIdeal := Cert.AdamEvInIdeal.Gen.facts) (hAdamEvInRefIdeal := Cert.AdamEvInRefIdeal.Gen.facts) := by
  intro m g m' g' _ hargs
  refine ⟨fun c => newDelta (flatW m c) (flatG m c) (flatM m c) (flatV m c), fun c => newM (flatG m c) (flatM m c),
    fun c => newV (flatG m c) (flatV m c), ?_, ?_⟩
  · refine (θ_run _ _ _).mono (fun r hr c => ?_) (Cert.AdamEvInIdeal.Value.run_blocks m g)
    exact ⟨(hr c).1.trans (out4 m c), (hr c).2.1.trans (out5 m c), (hr c).2.2.1.trans (out6 m c), (hr c).2.2.2⟩
  · refine (θ_run _ _ _).mono (fun r hr c => ?_) (Cert.AdamEvInRefIdeal.Value.run m' g')
    obtain ⟨e0, e1, e2, e3⟩ := hargs c
    refine ⟨(hr c).1.trans ((Cert.AdamEvInRefIdeal.Read.val_main_v24_eq _ _ _ _).trans ?_), (hr c).2.1.trans ((Cert.AdamEvInRefIdeal.Read.val_main_v25_eq _ _).trans ?_),
      (hr c).2.2.1.trans ((Cert.AdamEvInRefIdeal.Read.val_main_v26_eq _ _).trans ?_), (hr c).2.2.2⟩
    · rw [e0, e1, e2, e3]
      exact ref_delta _ _ _ _
    · rw [e1, e2]
      exact ref_mom _ _
    · rw [e1, e3]
      exact ref_vel _ _

end Cert.AdamEvInProof
end
-- ==== Proof.AdamEvGluClaim.lean ====
module

public import proofs.«01_k».proof.Defs
public import proofs.«01_k».proof.Proof.AdamSpec
public import proofs.«01_k».proof.Proof.Gen.AdamEvGluIdeal.Value
public import proofs.«01_k».proof.Proof.Gen.AdamEvGluRefIdeal.Read
public import Idealize.ShloMosaic.Lib.Pipeline.ValueKit
public import Idealize.ShloMosaic.Lib.Pipeline.ReadBack
public import Idealize.ShloMosaic.Lib.WritesUnit

/-! The optimiser on one device's part of `ev_w_glu`. -/

@[expose] public section

noncomputable section

namespace Cert.AdamEvGluProof

open Idealize.ShloMosaic Idealize.SL.Sem Cert.StepProof

section kernel
open Cert.AdamEvGluIdeal Cert.AdamEvGluIdeal.Gen

variable (m : (ℓ : Loc nD τ sig) → Buf (Elt Ideal) ℓ) (c : Dev nD)

/-- The arguments on device `c`, their layers one below another: the weight, its gradient, its two moments. -/
def flatW : Arr 256 512 := (shapeCast S256x512 (m ((c.tc : Thread nD τ).loc main_arg0)) shapeCasts_S2x128x512_S256x512 : Vec Ideal S256x512 .f32)
def flatG : Arr 256 512 := (shapeCast S256x512 (m ((c.tc : Thread nD τ).loc main_arg1)) shapeCasts_S2x128x512_S256x512 : Vec Ideal S256x512 .f32)
def flatM : Arr 256 512 := (shapeCast S256x512 (m ((c.tc : Thread nD τ).loc main_arg2)) shapeCasts_S2x128x512_S256x512 : Vec Ideal S256x512 .f32)
def flatV : Arr 256 512 := (shapeCast S256x512 (m ((c.tc : Thread nD τ).loc main_arg3)) shapeCasts_S2x128x512_S256x512 : Vec Ideal S256x512 .f32)

theorem lt_points (t : Fin cfg0.N) : t.val < 1 := t.isLt

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel

theorem src0 : (V m c main_v0 : Arr 256 512) = flatW m c := by
  unfold flatW
  simp only [V, hostOps0]
  after_results
  rfl

theorem blk0 (t : Fin cfg0.N) (r : Fin 256) (k : Fin 512) :
    iblk m c 0 t (ix2 r k) = flatW m c (ix2 ⟨t.val * 256 + r.val, by have := lt_points t; omega⟩ k) := by
  refine Eq.trans (b := (V m c main_v0 : Arr 256 512) (ix2 ⟨t.val * 256 + r.val, by have := lt_points t; omega⟩ k)) ?_
    (congrFun (src0 m c) _)
  blk_ext [iblk, idx0 t]

theorem src1 : (V m c main_v1 : Arr 256 512) = flatG m c := by
  unfold flatG
  simp only [V, hostOps0]
  after_results
  rfl

theorem blk1 (t : Fin cfg0.N) (r : Fin 256) (k : Fin 512) :
    iblk m c 1 t (ix2 r k) = flatG m c (ix2 ⟨t.val * 256 + r.val, by have := lt_points t; omega⟩ k) := by
  refine Eq.trans (b := (V m c main_v1 : Arr 256 512) (ix2 ⟨t.val * 256 + r.val, by have := lt_points t; omega⟩ k)) ?_
    (congrFun (src1 m c) _)
  blk_ext [iblk, idx1 t]

theorem src2 : (V m c main_v2 : Arr 256 512) = flatM m c := by
  unfold flatM
  simp only [V, hostOps0]
  after_results
  rfl

theorem blk2 (t : Fin cfg0.N) (r : Fin 256) (k : Fin 512) :
    iblk m c 2 t (ix2 r k) = flatM m c (ix2 ⟨t.val * 256 + r.val, by have := lt_points t; omega⟩ k) := by
  refine Eq.trans (b := (V m c main_v2 : Arr 256 512) (ix2 ⟨t.val * 256 + r.val, by have := lt_points t; omega⟩ k)) ?_
    (congrFun (src2 m c) _)
  blk_ext [iblk, idx2 t]

theorem src3 : (V m c main_v3 : Arr 256 512) = flatV m c := by
  unfold flatV
  simp only [V, hostOps0]
  after_results
  rfl

theorem blk3 (t : Fin cfg0.N) (r : Fin 256) (k : Fin 512) :
    iblk m c 3 t (ix2 r k) = flatV m c (ix2 ⟨t.val * 256 + r.val, by have := lt_points t; omega⟩ k) := by
  refine Eq.trans (b := (V m c main_v3 : Arr 256 512) (ix2 ⟨t.val * 256 + r.val, by have := lt_points t; omega⟩ k)) ?_
    (congrFun (src3 m c) _)
  blk_ext [iblk, idx3 t]

theorem block4 (t : Fin cfg0.N) (r : Fin 256) (j : Fin 512) :
    out0_4 (iblk m c 0 t) (iblk m c 1 t) (iblk m c 2 t) (iblk m c 3 t) (ix2 r j)
      = newDelta (flatW m c) (flatG m c) (flatM m c) (flatV m c) (ix2 ⟨t.val * 256 + r.val, by have := lt_points t; omega⟩ j) := by
  frame_out
  unfold k0_pay4 k0_pay3 k0_pay2 k0_pay1
  pointwise [blk0, blk1, blk2, blk3, newDelta, newM, newV, deltaOf, momOf, velOf]

theorem out4 : (dats m 0 c).arrAt 4 cfg0.N = newDelta (flatW m c) (flatG m c) (flatM m c) (flatV m c) := by
  refine (dats m 0 c).arrAt_eq_of_covers 4 _ (by decide +kernel) fun t hf y => ?_
  blk_simp
  rw [after0_4]
  obtain ⟨r, j, rfl⟩ : ∃ (r : Fin 256) (j : Fin 512), y = ix2 r j := ⟨y 0, y 1, eq_ix2 y⟩
  refine (block4 m c t r j).trans (congrArg (newDelta (flatW m c) (flatG m c) (flatM m c) (flatV m c)) (?_ : ix2 _ _ = _))
  blk_ext [idx4 t]

theorem block5 (t : Fin cfg0.N) (r : Fin 256) (j : Fin 512) :
    out0_5 (iblk m c 0 t) (iblk m c 1 t) (iblk m c 2 t) (iblk m c 3 t) (ix2 r j)
      = newM (flatG m c) (flatM m c) (ix2 ⟨t.val * 256 + r.val, by have := lt_points t; omega⟩ j) := by
  frame_out
  unfold k0_pay2 k0_pay1
  pointwise [blk0, blk1, blk2, blk3, newDelta, newM, newV, deltaOf, momOf, velOf]

theorem out5 : (dats m 0 c).arrAt 5 cfg0.N = newM (flatG m c) (flatM m c) := by
  refine (dats m 0 c).arrAt_eq_of_covers 5 _ (by decide +kernel) fun t hf y => ?_
  blk_simp
  rw [after0_5]
  obtain ⟨r, j, rfl⟩ : ∃ (r : Fin 256) (j : Fin 512), y = ix2 r j := ⟨y 0, y 1, eq_ix2 y⟩
  refine (block5 m c t r j).trans (congrArg (newM (flatG m c) (flatM m c)) (?_ : ix2 _ _ = _))
  blk_ext [idx5 t]

theorem block6 (t : Fin cfg0.N) (r : Fin 256) (j : Fin 512) :
    out0_6 (iblk m c 0 t) (iblk m c 1 t) (iblk m c 2 t) (iblk m c 3 t) (ix2 r j)
      = newV (flatG m c) (flatV m c) (ix2 ⟨t.val * 256 + r.val, by have := lt_points t; omega⟩ j) := by
  frame_out
  unfold k0_pay3 k0_pay1
  pointwise [blk0, blk1, blk2, blk3, newDelta, newM, newV, deltaOf, momOf, velOf]

theorem out6 : (dats m 0 c).arrAt 6 cfg0.N = newV (flatG m c) (flatV m c) := by
  refine (dats m 0 c).arrAt_eq_of_covers 6 _ (by decide +kernel) fun t hf y => ?_
  blk_simp
  rw [after0_6]
  obtain ⟨r, j, rfl⟩ : ∃ (r : Fin 256) (j : Fin 512), y = ix2 r j := ⟨y 0, y 1, eq_ix2 y⟩
  refine (block6 m c t r j).trans (congrArg (newV (flatG m c) (flatV m c)) (?_ : ix2 _ _ = _))
  blk_ext [idx6 t]

end kernel

section reference
open Cert.AdamEvGluRefIdeal Cert.AdamEvGluRefIdeal.Gen Cert.AdamEvGluRefIdeal.Read

theorem ref_delta (w g m v : Vec Ideal S2x128x512 .f32) :
    (val_main_v24 (F := Ideal) w g m v : Arr 256 512) = newDelta (shapeCast S256x512 w shapeCasts_S2x128x512_S256x512 : Vec Ideal S256x512 .f32) (shapeCast S256x512 g shapeCasts_S2x128x512_S256x512 : Vec Ideal S256x512 .f32) (shapeCast S256x512 m shapeCasts_S2x128x512_S256x512 : Vec Ideal S256x512 .f32) (shapeCast S256x512 v shapeCasts_S2x128x512_S256x512 : Vec Ideal S256x512 .f32) := rfl

theorem ref_mom (g m : Vec Ideal S2x128x512 .f32) : (val_main_v25 (F := Ideal) g m : Arr 256 512) = newM (shapeCast S256x512 g shapeCasts_S2x128x512_S256x512 : Vec Ideal S256x512 .f32) (shapeCast S256x512 m shapeCasts_S2x128x512_S256x512 : Vec Ideal S256x512 .f32) := rfl

theorem ref_vel (g v : Vec Ideal S2x128x512 .f32) : (val_main_v26 (F := Ideal) g v : Arr 256 512) = newV (shapeCast S256x512 g shapeCasts_S2x128x512_S256x512 : Vec Ideal S256x512 .f32) (shapeCast S256x512 v shapeCasts_S2x128x512_S256x512 : Vec Ideal S256x512 .f32) := rfl

end reference

/-- The reference runs to its end and leaves its arguments and every counter as they were. -/
theorem ref_frame : Cert.quiescent_AdamEvGluRefIdeal (hAdamEvGluRefIdeal := Cert.AdamEvGluRefIdeal.Gen.facts) := fun m ρ _ =>
  (θ_run _ _ _).mono (fun r h => ⟨fun c => (h c).2.2.2, sem_eq_zero_of_no_sems (by decide) r.2⟩)
    (Cert.AdamEvGluRefIdeal.Value.run m ρ)

/-- The call and its reference end with the same arrays. -/
theorem algebraic :
    Cert.algebraic_AdamEvGluIdeal_AdamEvGluRefIdeal (hAdamEvGluIdeal := Cert.AdamEvGluIdeal.Gen.facts) (hAdamEvGluRefIdeal := Cert.AdamEvGluRefIdeal.Gen.facts) := by
  intro m g m' g' _ hargs
  refine ⟨fun c => newDelta (flatW m c) (flatG m c) (flatM m c) (flatV m c), fun c => newM (flatG m c) (flatM m c),
    fun c => newV (flatG m c) (flatV m c), ?_, ?_⟩
  · refine (θ_run _ _ _).mono (fun r hr c => ?_) (Cert.AdamEvGluIdeal.Value.run_blocks m g)
    exact ⟨(hr c).1.trans (out4 m c), (hr c).2.1.trans (out5 m c), (hr c).2.2.1.trans (out6 m c), (hr c).2.2.2⟩
  · refine (θ_run _ _ _).mono (fun r hr c => ?_) (Cert.AdamEvGluRefIdeal.Value.run m' g')
    obtain ⟨e0, e1, e2, e3⟩ := hargs c
    refine ⟨(hr c).1.trans ((Cert.AdamEvGluRefIdeal.Read.val_main_v24_eq _ _ _ _).trans ?_), (hr c).2.1.trans ((Cert.AdamEvGluRefIdeal.Read.val_main_v25_eq _ _).trans ?_),
      (hr c).2.2.1.trans ((Cert.AdamEvGluRefIdeal.Read.val_main_v26_eq _ _).trans ?_), (hr c).2.2.2⟩
    · rw [e0, e1, e2, e3]
      exact ref_delta _ _ _ _
    · rw [e1, e2]
      exact ref_mom _ _
    · rw [e1, e3]
      exact ref_vel _ _

end Cert.AdamEvGluProof
end
-- ==== Proof.AdamEvOutClaim.lean ====
module

public import proofs.«01_k».proof.Defs
public import proofs.«01_k».proof.Proof.AdamSpec
public import proofs.«01_k».proof.Proof.Gen.AdamEvOutIdeal.Value
public import proofs.«01_k».proof.Proof.Gen.AdamEvOutRefIdeal.Read
public import Idealize.ShloMosaic.Lib.Pipeline.ValueKit
public import Idealize.ShloMosaic.Lib.Pipeline.ReadBack
public import Idealize.ShloMosaic.Lib.WritesUnit

/-! The optimiser on one device's part of `ev_w_out`. -/

@[expose] public section

noncomputable section

namespace Cert.AdamEvOutProof

open Idealize.ShloMosaic Idealize.SL.Sem Cert.StepProof

section kernel
open Cert.AdamEvOutIdeal Cert.AdamEvOutIdeal.Gen

variable (m : (ℓ : Loc nD τ sig) → Buf (Elt Ideal) ℓ) (c : Dev nD)

/-- The arguments on device `c`, their layers one below another: the weight, its gradient, its two moments. -/
def flatW : Arr 512 1024 := (shapeCast S512x1024 (m ((c.tc : Thread nD τ).loc main_arg0)) shapeCasts_S2x256x1024_S512x1024 : Vec Ideal S512x1024 .f32)
def flatG : Arr 512 1024 := (shapeCast S512x1024 (m ((c.tc : Thread nD τ).loc main_arg1)) shapeCasts_S2x256x1024_S512x1024 : Vec Ideal S512x1024 .f32)
def flatM : Arr 512 1024 := (shapeCast S512x1024 (m ((c.tc : Thread nD τ).loc main_arg2)) shapeCasts_S2x256x1024_S512x1024 : Vec Ideal S512x1024 .f32)
def flatV : Arr 512 1024 := (shapeCast S512x1024 (m ((c.tc : Thread nD τ).loc main_arg3)) shapeCasts_S2x256x1024_S512x1024 : Vec Ideal S512x1024 .f32)

theorem lt_points (t : Fin cfg0.N) : t.val < 1 := t.isLt

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel

theorem src0 : (V m c main_v0 : Arr 512 1024) = flatW m c := by
  unfold flatW
  simp only [V, hostOps0]
  after_results
  rfl

theorem blk0 (t : Fin cfg0.N) (r : Fin 512) (k : Fin 1024) :
    iblk m c 0 t (ix2 r k) = flatW m c (ix2 ⟨t.val * 512 + r.val, by have := lt_points t; omega⟩ k) := by
  refine Eq.trans (b := (V m c main_v0 : Arr 512 1024) (ix2 ⟨t.val * 512 + r.val, by have := lt_points t; omega⟩ k)) ?_
    (congrFun (src0 m c) _)
  blk_ext [iblk, idx0 t]

theorem src1 : (V m c main_v1 : Arr 512 1024) = flatG m c := by
  unfold flatG
  simp only [V, hostOps0]
  after_results
  rfl

theorem blk1 (t : Fin cfg0.N) (r : Fin 512) (k : Fin 1024) :
    iblk m c 1 t (ix2 r k) = flatG m c (ix2 ⟨t.val * 512 + r.val, by have := lt_points t; omega⟩ k) := by
  refine Eq.trans (b := (V m c main_v1 : Arr 512 1024) (ix2 ⟨t.val * 512 + r.val, by have := lt_points t; omega⟩ k)) ?_
    (congrFun (src1 m c) _)
  blk_ext [iblk, idx1 t]

theorem src2 : (V m c main_v2 : Arr 512 1024) = flatM m c := by
  unfold flatM
  simp only [V, hostOps0]
  after_results
  rfl

theorem blk2 (t : Fin cfg0.N) (r : Fin 512) (k : Fin 1024) :
    iblk m c 2 t (ix2 r k) = flatM m c (ix2 ⟨t.val * 512 + r.val, by have := lt_points t; omega⟩ k) := by
  refine Eq.trans (b := (V m c main_v2 : Arr 512 1024) (ix2 ⟨t.val * 512 + r.val, by have := lt_points t; omega⟩ k)) ?_
    (congrFun (src2 m c) _)
  blk_ext [iblk, idx2 t]

theorem src3 : (V m c main_v3 : Arr 512 1024) = flatV m c := by
  unfold flatV
  simp only [V, hostOps0]
  after_results
  rfl

theorem blk3 (t : Fin cfg0.N) (r : Fin 512) (k : Fin 1024) :
    iblk m c 3 t (ix2 r k) = flatV m c (ix2 ⟨t.val * 512 + r.val, by have := lt_points t; omega⟩ k) := by
  refine Eq.trans (b := (V m c main_v3 : Arr 512 1024) (ix2 ⟨t.val * 512 + r.val, by have := lt_points t; omega⟩ k)) ?_
    (congrFun (src3 m c) _)
  blk_ext [iblk, idx3 t]

theorem block4 (t : Fin cfg0.N) (r : Fin 512) (j : Fin 1024) :
    out0_4 (iblk m c 0 t) (iblk m c 1 t) (iblk m c 2 t) (iblk m c 3 t) (ix2 r j)
      = newDelta (flatW m c) (flatG m c) (flatM m c) (flatV m c) (ix2 ⟨t.val * 512 + r.val, by have := lt_points t; omega⟩ j) := by
  frame_out
  unfold k0_pay4 k0_pay3 k0_pay2 k0_pay1
  pointwise [blk0, blk1, blk2, blk3, newDelta, newM, newV, deltaOf, momOf, velOf]

theorem out4 : (dats m 0 c).arrAt 4 cfg0.N = newDelta (flatW m c) (flatG m c) (flatM m c) (flatV m c) := by
  refine (dats m 0 c).arrAt_eq_of_covers 4 _ (by decide +kernel) fun t hf y => ?_
  blk_simp
  rw [after0_4]
  obtain ⟨r, j, rfl⟩ : ∃ (r : Fin 512) (j : Fin 1024), y = ix2 r j := ⟨y 0, y 1, eq_ix2 y⟩
  refine (block4 m c t r j).trans (congrArg (newDelta (flatW m c) (flatG m c) (flatM m c) (flatV m c)) (?_ : ix2 _ _ = _))
  blk_ext [idx4 t]

theorem block5 (t : Fin cfg0.N) (r : Fin 512) (j : Fin 1024) :
    out0_5 (iblk m c 0 t) (iblk m c 1 t) (iblk m c 2 t) (iblk m c 3 t) (ix2 r j)
      = newM (flatG m c) (flatM m c) (ix2 ⟨t.val * 512 + r.val, by have := lt_points t; omega⟩ j) := by
  frame_out
  unfold k0_pay2 k0_pay1
  pointwise [blk0, blk1, blk2, blk3, newDelta, newM, newV, deltaOf, momOf, velOf]

theorem out5 : (dats m 0 c).arrAt 5 cfg0.N = newM (flatG m c) (flatM m c) := by
  refine (dats m 0 c).arrAt_eq_of_covers 5 _ (by decide +kernel) fun t hf y => ?_
  blk_simp
  rw [after0_5]
  obtain ⟨r, j, rfl⟩ : ∃ (r : Fin 512) (j : Fin 1024), y = ix2 r j := ⟨y 0, y 1, eq_ix2 y⟩
  refine (block5 m c t r j).trans (congrArg (newM (flatG m c) (flatM m c)) (?_ : ix2 _ _ = _))
  blk_ext [idx5 t]

theorem block6 (t : Fin cfg0.N) (r : Fin 512) (j : Fin 1024) :
    out0_6 (iblk m c 0 t) (iblk m c 1 t) (iblk m c 2 t) (iblk m c 3 t) (ix2 r j)
      = newV (flatG m c) (flatV m c) (ix2 ⟨t.val * 512 + r.val, by have := lt_points t; omega⟩ j) := by
  frame_out
  unfold k0_pay3 k0_pay1
  pointwise [blk0, blk1, blk2, blk3, newDelta, newM, newV, deltaOf, momOf, velOf]

theorem out6 : (dats m 0 c).arrAt 6 cfg0.N = newV (flatG m c) (flatV m c) := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, eq_ix2 y⟩
  refine (block6 m c t r j).trans (congrArg (newV (flatG m c) (flatV m c)) (?_ : ix2 _ _ = _))
  blk_ext [idx6 t]

end kernel

section reference
open Cert.AdamEvOutRefIdeal Cert.AdamEvOutRefIdeal.Gen Cert.AdamEvOutRefIdeal.Read

theorem ref_delta (w g m v : Vec Ideal S2x256x1024 .f32) :
    (val_main_v24 (F := Ideal) w g m v : Arr 512 1024) = newDelta (shapeCast S512x1024 w shapeCasts_S2x256x1024_S512x1024 : Vec Ideal S512x1024 .f32) (shapeCast S512x1024 g shapeCasts_S2x256x1024_S512x1024 : Vec Ideal S512x1024 .f32) (shapeCast S512x1024 m shapeCasts_S2x256x1024_S512x1024 : Vec Ideal S512x1024 .f32) (shapeCast S512x1024 v shapeCasts_S2x256x1024_S512x1024 : Vec Ideal S512x1024 .f32) := rfl

theorem ref_mom (g m : Vec Ideal S2x256x1024 .f32) : (val_main_v25 (F := Ideal) g m : Arr 512 1024) = newM (shapeCast S512x1024 g shapeCasts_S2x256x1024_S512x1024 : Vec Ideal S512x1024 .f32) (shapeCast S512x1024 m shapeCasts_S2x256x1024_S512x1024 : Vec Ideal S512x1024 .f32) := rfl

theorem ref_vel (g v : Vec Ideal S2x256x1024 .f32) : (val_main_v26 (F := Ideal) g v : Arr 512 1024) = newV (shapeCast S512x1024 g shapeCasts_S2x256x1024_S512x1024 : Vec Ideal S512x1024 .f32) (shapeCast S512x1024 v shapeCasts_S2x256x1024_S512x1024 : Vec Ideal S512x1024 .f32) := rfl

end reference

/-- The reference runs to its end and leaves its arguments and every counter as they were. -/
theorem ref_frame : Cert.quiescent_AdamEvOutRefIdeal (hAdamEvOutRefIdeal := Cert.AdamEvOutRefIdeal.Gen.facts) := fun m ρ _ =>
  (θ_run _ _ _).mono (fun r h => ⟨fun c => (h c).2.2.2, sem_eq_zero_of_no_sems (by decide) r.2⟩)
    (Cert.AdamEvOutRefIdeal.Value.run m ρ)

/-- The call and its reference end with the same arrays. -/
theorem algebraic :
    Cert.algebraic_AdamEvOutIdeal_AdamEvOutRefIdeal (hAdamEvOutIdeal := Cert.AdamEvOutIdeal.Gen.facts) (hAdamEvOutRefIdeal := Cert.AdamEvOutRefIdeal.Gen.facts) := by
  intro m g m' g' _ hargs
  refine ⟨fun c => newDelta (flatW m c) (flatG m c) (flatM m c) (flatV m c), fun c => newM (flatG m c) (flatM m c),
    fun c => newV (flatG m c) (flatV m c), ?_, ?_⟩
  · refine (θ_run _ _ _).mono (fun r hr c => ?_) (Cert.AdamEvOutIdeal.Value.run_blocks m g)
    exact ⟨(hr c).1.trans (out4 m c), (hr c).2.1.trans (out5 m c), (hr c).2.2.1.trans (out6 m c), (hr c).2.2.2⟩
  · refine (θ_run _ _ _).mono (fun r hr c => ?_) (Cert.AdamEvOutRefIdeal.Value.run m' g')
    obtain ⟨e0, e1, e2, e3⟩ := hargs c
    refine ⟨(hr c).1.trans ((Cert.AdamEvOutRefIdeal.Read.val_main_v24_eq _ _ _ _).trans ?_), (hr c).2.1.trans ((Cert.AdamEvOutRefIdeal.Read.val_main_v25_eq _ _).trans ?_),
      (hr c).2.2.1.trans ((Cert.AdamEvOutRefIdeal.Read.val_main_v26_eq _ _).trans ?_), (hr c).2.2.2⟩
    · rw [e0, e1, e2, e3]
      exact ref_delta _ _ _ _
    · rw [e1, e2]
      exact ref_mom _ _
    · rw [e1, e3]
      exact ref_vel _ _

end Cert.AdamEvOutProof
end
-- ==== Proof.AdamOdInClaim.lean ====
module

public import proofs.«01_k».proof.Defs
public import proofs.«01_k».proof.Proof.AdamSpec
public import proofs.«01_k».proof.Proof.Gen.AdamOdInIdeal.Value
public import proofs.«01_k».proof.Proof.Gen.AdamOdInRefIdeal.Read
public import Idealize.ShloMosaic.Lib.Pipeline.ValueKit
public import Idealize.ShloMosaic.Lib.Pipeline.ReadBack
public import Idealize.ShloMosaic.Lib.WritesUnit

/-! The optimiser on one device's part of `od_w_in`. -/

@[expose] public section

noncomputable section

namespace Cert.AdamOdInProof

open Idealize.ShloMosaic Idealize.SL.Sem Cert.StepProof

section kernel
open Cert.AdamOdInIdeal Cert.AdamOdInIdeal.Gen

variable (m : (ℓ : Loc nD τ sig) → Buf (Elt Ideal) ℓ) (c : Dev nD)

/-- The arguments on device `c`, their layers one below another: the weight, its gradient, its two moments. -/
def flatW : Arr 2048 512 := (shapeCast S2048x512 (m ((c.tc : Thread nD τ).loc main_arg0)) shapeCasts_S2x1024x512_S2048x512 : Vec Ideal S2048x512 .f32)
def flatG : Arr 2048 512 := (shapeCast S2048x512 (m ((c.tc : Thread nD τ).loc main_arg1)) shapeCasts_S2x1024x512_S2048x512 : Vec Ideal S2048x512 .f32)
def flatM : Arr 2048 512 := (shapeCast S2048x512 (m ((c.tc : Thread nD τ).loc main_arg2)) shapeCasts_S2x1024x512_S2048x512 : Vec Ideal S2048x512 .f32)
def flatV : Arr 2048 512 := (shapeCast S2048x512 (m ((c.tc : Thread nD τ).loc main_arg3)) shapeCasts_S2x1024x512_S2048x512 : Vec Ideal S2048x512 .f32)

theorem lt_points (t : Fin cfg0.N) : t.val < 4 := t.isLt

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel

theorem src0 : (V m c main_v0 : Arr 2048 512) = flatW m c := by
  unfold flatW
  simp only [V, hostOps0]
  after_results
  rfl

theorem blk0 (t : Fin cfg0.N) (r : Fin 512) (k : Fin 512) :
    iblk m c 0 t (ix2 r k) = flatW m c (ix2 ⟨t.val * 512 + r.val, by have := lt_points t; omega⟩ k) := by
  refine Eq.trans (b := (V m c main_v0 : Arr 2048 512) (ix2 ⟨t.val * 512 + r.val, by have := lt_points t; omega⟩ k)) ?_
    (congrFun (src0 m c) _)
  blk_ext [iblk, idx0 t]

theorem src1 : (V m c main_v1 : Arr 2048 512) = flatG m c := by
  unfold flatG
  simp only [V, hostOps0]
  after_results
  rfl

theorem blk1 (t : Fin cfg0.N) (r : Fin 512) (k : Fin 512) :
    iblk m c 1 t (ix2 r k) = flatG m c (ix2 ⟨t.val * 512 + r.val, by have := lt_points t; omega⟩ k) := by
  refine Eq.trans (b := (V m c main_v1 : Arr 2048 512) (ix2 ⟨t.val * 512 + r.val, by have := lt_points t; omega⟩ k)) ?_
    (congrFun (src1 m c) _)
  blk_ext [iblk, idx1 t]

theorem src2 : (V m c main_v2 : Arr 2048 512) = flatM m c := by
  unfold flatM
  simp only [V, hostOps0]
  after_results
  rfl

theorem blk2 (t : Fin cfg0.N) (r : Fin 512) (k : Fin 512) :
    iblk m c 2 t (ix2 r k) = flatM m c (ix2 ⟨t.val * 512 + r.val, by have := lt_points t; omega⟩ k) := by
  refine Eq.trans (b := (V m c main_v2 : Arr 2048 512) (ix2 ⟨t.val * 512 + r.val, by have := lt_points t; omega⟩ k)) ?_
    (congrFun (src2 m c) _)
  blk_ext [iblk, idx2 t]

theorem src3 : (V m c main_v3 : Arr 2048 512) = flatV m c := by
  unfold flatV
  simp only [V, hostOps0]
  after_results
  rfl

theorem blk3 (t : Fin cfg0.N) (r : Fin 512) (k : Fin 512) :
    iblk m c 3 t (ix2 r k) = flatV m c (ix2 ⟨t.val * 512 + r.val, by have := lt_points t; omega⟩ k) := by
  refine Eq.trans (b := (V m c main_v3 : Arr 2048 512) (ix2 ⟨t.val * 512 + r.val, by have := lt_points t; omega⟩ k)) ?_
    (congrFun (src3 m c) _)
  blk_ext [iblk, idx3 t]

theorem block4 (t : Fin cfg0.N) (r : Fin 512) (j : Fin 512) :
    out0_4 (iblk m c 0 t) (iblk m c 1 t) (iblk m c 2 t) (iblk m c 3 t) (ix2 r j)
      = newDelta (flatW m c) (flatG m c) (flatM m c) (flatV m c) (ix2 ⟨t.val * 512 + r.val, by have := lt_points t; omega⟩ j) := by
  frame_out
  unfold k0_pay4 k0_pay3 k0_pay2 k0_pay1
  pointwise [blk0, blk1, blk2, blk3, newDelta, newM, newV, deltaOf, momOf, velOf]

theorem out4 : (dats m 0 c).arrAt 4 cfg0.N = newDelta (flatW m c) (flatG m c) (flatM m c) (flatV m c) := by
  refine (dats m 0 c).arrAt_eq_of_covers 4 _ (by decide +kernel) fun t hf y => ?_
  blk_simp
  rw [after0_4]
  obtain ⟨r, j, rfl⟩ : ∃ (r : Fin 512) (j : Fin 512), y = ix2 r j := ⟨y 0, y 1, eq_ix2 y⟩
  refine (block4 m c t r j).trans (congrArg (newDelta (flatW m c) (flatG m c) (flatM m c) (flatV m c)) (?_ : ix2 _ _ = _))
  blk_ext [idx4 t]

theorem block5 (t : Fin cfg0.N) (r : Fin 512) (j : Fin 512) :
    out0_5 (iblk m c 0 t) (iblk m c 1 t) (iblk m c 2 t) (iblk m c 3 t) (ix2 r j)
      = newM (flatG m c) (flatM m c) (ix2 ⟨t.val * 512 + r.val, by have := lt_points t; omega⟩ j) := by
  frame_out
  unfold k0_pay2 k0_pay1
  pointwise [blk0, blk1, blk2, blk3, newDelta, newM, newV, deltaOf, momOf, velOf]

theorem out5 : (dats m 0 c).arrAt 5 cfg0.N = newM (flatG m c) (flatM m c) := by
  refine (dats m 0 c).arrAt_eq_of_covers 5 _ (by decide +kernel) fun t hf y => ?_
  blk_simp
  rw [after0_5]
  obtain ⟨r, j, rfl⟩ : ∃ (r : Fin 512) (j : Fin 512), y = ix2 r j := ⟨y 0, y 1, eq_ix2 y⟩
  refine (block5 m c t r j).trans (congrArg (newM (flatG m c) (flatM m c)) (?_ : ix2 _ _ = _))
  blk_ext [idx5 t]

theorem block6 (t : Fin cfg0.N) (r : Fin 512) (j : Fin 512) :
    out0_6 (iblk m c 0 t) (iblk m c 1 t) (iblk m c 2 t) (iblk m c 3 t) (ix2 r j)
      = newV (flatG m c) (flatV m c) (ix2 ⟨t.val * 512 + r.val, by have := lt_points t; omega⟩ j) := by
  frame_out
  unfold k0_pay3 k0_pay1
  pointwise [blk0, blk1, blk2, blk3, newDelta, newM, newV, deltaOf, momOf, velOf]

theorem out6 : (dats m 0 c).arrAt 6 cfg0.N = newV (flatG m c) (flatV m c) := by
  refine (dats m 0 c).arrAt_eq_of_covers 6 _ (by decide +kernel) fun t hf y => ?_
  blk_simp
  rw [after0_6]
  obtain ⟨r, j, rfl⟩ : ∃ (r : Fin 512) (j : Fin 512), y = ix2 r j := ⟨y 0, y 1, eq_ix2 y⟩
  refine (block6 m c t r j).trans (congrArg (newV (flatG m c) (flatV m c)) (?_ : ix2 _ _ = _))
  blk_ext [idx6 t]

end kernel

section reference
open Cert.AdamOdInRefIdeal Cert.AdamOdInRefIdeal.Gen Cert.AdamOdInRefIdeal.Read

theorem ref_delta (w g m v : Vec Ideal S2x1024x512 .f32) :
    (val_main_v24 (F := Ideal) w g m v : Arr 2048 512) = newDelta (shapeCast S2048x512 w shapeCasts_S2x1024x512_S2048x512 : Vec Ideal S2048x512 .f32) (shapeCast S2048x512 g shapeCasts_S2x1024x512_S2048x512 : Vec Ideal S2048x512 .f32) (shapeCast S2048x512 m shapeCasts_S2x1024x512_S2048x512 : Vec Ideal S2048x512 .f32) (shapeCast S2048x512 v shapeCasts_S2x1024x512_S2048x512 : Vec Ideal S2048x512 .f32) := rfl

theorem ref_mom (g m : Vec Ideal S2x1024x512 .f32) : (val_main_v25 (F := Ideal) g m : Arr 2048 512) = newM (shapeCast S2048x512 g shapeCasts_S2x1024x512_S2048x512 : Vec Ideal S2048x512 .f32) (shapeCast S2048x512 m shapeCasts_S2x1024x512_S2048x512 : Vec Ideal S2048x512 .f32) := rfl

theorem ref_vel (g v : Vec Ideal S2x1024x512 .f32) : (val_main_v26 (F := Ideal) g v : Arr 2048 512) = newV (shapeCast S2048x512 g shapeCasts_S2x1024x512_S2048x512 : Vec Ideal S2048x512 .f32) (shapeCast S2048x512 v shapeCasts_S2x1024x512_S2048x512 : Vec Ideal S2048x512 .f32) := rfl

end reference

/-- The reference runs to its end and leaves its arguments and every counter as they were. -/
theorem ref_frame : Cert.quiescent_AdamOdInRefIdeal (hAdamOdInRefIdeal := Cert.AdamOdInRefIdeal.Gen.facts) := fun m ρ _ =>
  (θ_run _ _ _).mono (fun r h => ⟨fun c => (h c).2.2.2, sem_eq_zero_of_no_sems (by decide) r.2⟩)
    (Cert.AdamOdInRefIdeal.Value.run m ρ)

/-- The call and its reference end with the same arrays. -/
theorem algebraic :
    Cert.algebraic_AdamOdInIdeal_AdamOdInRefIdeal (hAdamOdInIdeal := Cert.AdamOdInIdeal.Gen.facts) (hAdamOdInRefIdeal := Cert.AdamOdInRefIdeal.Gen.facts) := by
  intro m g m' g' _ hargs
  refine ⟨fun c => newDelta (flatW m c) (flatG m c) (flatM m c) (flatV m c), fun c => newM (flatG m c) (flatM m c),
    fun c => newV (flatG m c) (flatV m c), ?_, ?_⟩
  · refine (θ_run _ _ _).mono (fun r hr c => ?_) (Cert.AdamOdInIdeal.Value.run_blocks m g)
    exact ⟨(hr c).1.trans (out4 m c), (hr c).2.1.trans (out5 m c), (hr c).2.2.1.trans (out6 m c), (hr c).2.2.2⟩
  · refine (θ_run _ _ _).mono (fun r hr c => ?_) (Cert.AdamOdInRefIdeal.Value.run m' g')
    obtain ⟨e0, e1, e2, e3⟩ := hargs c
    refine ⟨(hr c).1.trans ((Cert.AdamOdInRefIdeal.Read.val_main_v24_eq _ _ _ _).trans ?_), (hr c).2.1.trans ((Cert.AdamOdInRefIdeal.Read.val_main_v25_eq _ _).trans ?_),
      (hr c).2.2.1.trans ((Cert.AdamOdInRefIdeal.Read.val_main_v26_eq _ _).trans ?_), (hr c).2.2.2⟩
    · rw [e0, e1, e2, e3]
      exact ref_delta _ _ _ _
    · rw [e1, e2]
      exact ref_mom _ _
    · rw [e1, e3]
      exact ref_vel _ _

end Cert.AdamOdInProof
end
-- ==== Proof.AdamOdOutClaim.lean ====
module

public import proofs.«01_k».proof.Defs
public import proofs.«01_k».proof.Proof.AdamSpec
public import proofs.«01_k».proof.Proof.Gen.AdamOdOutIdeal.Value
public import proofs.«01_k».proof.Proof.Gen.AdamOdOutRefIdeal.Read
public import Idealize.ShloMosaic.Lib.Pipeline.ValueKit
public import Idealize.ShloMosaic.Lib.Pipeline.ReadBack
public import Idealize.ShloMosaic.Lib.WritesUnit

/-! The optimiser on one device's part of `od_w_out`. -/

@[expose] public section

noncomputable section

namespace Cert.AdamOdOutProof

open Idealize.ShloMosaic Idealize.SL.Sem Cert.StepProof

section kernel
open Cert.AdamOdOutIdeal Cert.AdamOdOutIdeal.Gen

variable (m : (ℓ : Loc nD τ sig) → Buf (Elt Ideal) ℓ) (c : Dev nD)

/-- The arguments on device `c`, their layers one below another: the weight, its gradient, its two moments. -/
def flatW : Arr 512 1024 := (shapeCast S512x1024 (m ((c.tc : Thread nD τ).loc main_arg0)) shapeCasts_S2x256x1024_S512x1024 : Vec Ideal S512x1024 .f32)
def flatG : Arr 512 1024 := (shapeCast S512x1024 (m ((c.tc : Thread nD τ).loc main_arg1)) shapeCasts_S2x256x1024_S512x1024 : Vec Ideal S512x1024 .f32)
def flatM : Arr 512 1024 := (shapeCast S512x1024 (m ((c.tc : Thread nD τ).loc main_arg2)) shapeCasts_S2x256x1024_S512x1024 : Vec Ideal S512x1024 .f32)
def flatV : Arr 512 1024 := (shapeCast S512x1024 (m ((c.tc : Thread nD τ).loc main_arg3)) shapeCasts_S2x256x1024_S512x1024 : Vec Ideal S512x1024 .f32)

theorem lt_points (t : Fin cfg0.N) : t.val < 1 := t.isLt

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel

theorem src0 : (V m c main_v0 : Arr 512 1024) = flatW m c := by
  unfold flatW
  simp only [V, hostOps0]
  after_results
  rfl

theorem blk0 (t : Fin cfg0.N) (r : Fin 512) (k : Fin 1024) :
    iblk m c 0 t (ix2 r k) = flatW m c (ix2 ⟨t.val * 512 + r.val, by have := lt_points t; omega⟩ k) := by
  refine Eq.trans (b := (V m c main_v0 : Arr 512 1024) (ix2 ⟨t.val * 512 + r.val, by have := lt_points t; omega⟩ k)) ?_
    (congrFun (src0 m c) _)
  blk_ext [iblk, idx0 t]

theorem src1 : (V m c main_v1 : Arr 512 1024) = flatG m c := by
  unfold flatG
  simp only [V, hostOps0]
  after_results
  rfl

theorem blk1 (t : Fin cfg0.N) (r : Fin 512) (k : Fin 1024) :
    iblk m c 1 t (ix2 r k) = flatG m c (ix2 ⟨t.val * 512 + r.val, by have := lt_points t; omega⟩ k) := by
  refine Eq.trans (b := (V m c main_v1 : Arr 512 1024) (ix2 ⟨t.val * 512 + r.val, by have := lt_points t; omega⟩ k)) ?_
    (congrFun (src1 m c) _)
  blk_ext [iblk, idx1 t]

theorem src2 : (V m c main_v2 : Arr 512 1024) = flatM m c := by
  unfold flatM
  simp only [V, hostOps0]
  after_results
  rfl

theorem blk2 (t : Fin cfg0.N) (r : Fin 512) (k : Fin 1024) :
    iblk m c 2 t (ix2 r k) = flatM m c (ix2 ⟨t.val * 512 + r.val, by have := lt_points t; omega⟩ k) := by
  refine Eq.trans (b := (V m c main_v2 : Arr 512 1024) (ix2 ⟨t.val * 512 + r.val, by have := lt_points t; omega⟩ k)) ?_
    (congrFun (src2 m c) _)
  blk_ext [iblk, idx2 t]

theorem src3 : (V m c main_v3 : Arr 512 1024) = flatV m c := by
  unfold flatV
  simp only [V, hostOps0]
  after_results
  rfl

theorem blk3 (t : Fin cfg0.N) (r : Fin 512) (k : Fin 1024) :
    iblk m c 3 t (ix2 r k) = flatV m c (ix2 ⟨t.val * 512 + r.val, by have := lt_points t; omega⟩ k) := by
  refine Eq.trans (b := (V m c main_v3 : Arr 512 1024) (ix2 ⟨t.val * 512 + r.val, by have := lt_points t; omega⟩ k)) ?_
    (congrFun (src3 m c) _)
  blk_ext [iblk, idx3 t]

theorem block4 (t : Fin cfg0.N) (r : Fin 512) (j : Fin 1024) :
    out0_4 (iblk m c 0 t) (iblk m c 1 t) (iblk m c 2 t) (iblk m c 3 t) (ix2 r j)
      = newDelta (flatW m c) (flatG m c) (flatM m c) (flatV m c) (ix2 ⟨t.val * 512 + r.val, by have := lt_points t; omega⟩ j) := by
  frame_out
  unfold k0_pay4 k0_pay3 k0_pay2 k0_pay1
  pointwise [blk0, blk1, blk2, blk3, newDelta, newM, newV, deltaOf, momOf, velOf]

theorem out4 : (dats m 0 c).arrAt 4 cfg0.N = newDelta (flatW m c) (flatG m c) (flatM m c) (flatV m c) := by
  refine (dats m 0 c).arrAt_eq_of_covers 4 _ (by decide +kernel) fun t hf y => ?_
  blk_simp
  rw [after0_4]
  obtain ⟨r, j, rfl⟩ : ∃ (r : Fin 512) (j : Fin 1024), y = ix2 r j := ⟨y 0, y 1, eq_ix2 y⟩
  refine (block4 m c t r j).trans (congrArg (newDelta (flatW m c) (flatG m c) (flatM m c) (flatV m c)) (?_ : ix2 _ _ = _))
  blk_ext [idx4 t]

theorem block5 (t : Fin cfg0.N) (r : Fin 512) (j : Fin 1024) :
    out0_5 (iblk m c 0 t) (iblk m c 1 t) (iblk m c 2 t) (iblk m c 3 t) (ix2 r j)
      = newM (flatG m c) (flatM m c) (ix2 ⟨t.val * 512 + r.val, by have := lt_points t; omega⟩ j) := by
  frame_out
  unfold k0_pay2 k0_pay1
  pointwise [blk0, blk1, blk2, blk3, newDelta, newM, newV, deltaOf, momOf, velOf]

theorem out5 : (dats m 0 c).arrAt 5 cfg0.N = newM (flatG m c) (flatM m c) := by
  refine (dats m 0 c).arrAt_eq_of_covers 5 _ (by decide +kernel) fun t hf y => ?_
  blk_simp
  rw [after0_5]
  obtain ⟨r, j, rfl⟩ : ∃ (r : Fin 512) (j : Fin 1024), y = ix2 r j := ⟨y 0, y 1, eq_ix2 y⟩
  refine (block5 m c t r j).trans (congrArg (newM (flatG m c) (flatM m c)) (?_ : ix2 _ _ = _))
  blk_ext [idx5 t]

theorem block6 (t : Fin cfg0.N) (r : Fin 512) (j : Fin 1024) :
    out0_6 (iblk m c 0 t) (iblk m c 1 t) (iblk m c 2 t) (iblk m c 3 t) (ix2 r j)
      = newV (flatG m c) (flatV m c) (ix2 ⟨t.val * 512 + r.val, by have := lt_points t; omega⟩ j) := by
  frame_out
  unfold k0_pay3 k0_pay1
  pointwise [blk0, blk1, blk2, blk3, newDelta, newM, newV, deltaOf, momOf, velOf]

theorem out6 : (dats m 0 c).arrAt 6 cfg0.N = newV (flatG m c) (flatV m c) := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, eq_ix2 y⟩
  refine (block6 m c t r j).trans (congrArg (newV (flatG m c) (flatV m c)) (?_ : ix2 _ _ = _))
  blk_ext [idx6 t]

end kernel

section reference
open Cert.AdamOdOutRefIdeal Cert.AdamOdOutRefIdeal.Gen Cert.AdamOdOutRefIdeal.Read

theorem ref_delta (w g m v : Vec Ideal S2x256x1024 .f32) :
    (val_main_v24 (F := Ideal) w g m v : Arr 512 1024) = newDelta (shapeCast S512x1024 w shapeCasts_S2x256x1024_S512x1024 : Vec Ideal S512x1024 .f32) (shapeCast S512x1024 g shapeCasts_S2x256x1024_S512x1024 : Vec Ideal S512x1024 .f32) (shapeCast S512x1024 m shapeCasts_S2x256x1024_S512x1024 : Vec Ideal S512x1024 .f32) (shapeCast S512x1024 v shapeCasts_S2x256x1024_S512x1024 : Vec Ideal S512x1024 .f32) := rfl

theorem ref_mom (g m : Vec Ideal S2x256x1024 .f32) : (val_main_v25 (F := Ideal) g m : Arr 512 1024) = newM (shapeCast S512x1024 g shapeCasts_S2x256x1024_S512x1024 : Vec Ideal S512x1024 .f32) (shapeCast S512x1024 m shapeCasts_S2x256x1024_S512x1024 : Vec Ideal S512x1024 .f32) := rfl

theorem ref_vel (g v : Vec Ideal S2x256x1024 .f32) : (val_main_v26 (F := Ideal) g v : Arr 512 1024) = newV (shapeCast S512x1024 g shapeCasts_S2x256x1024_S512x1024 : Vec Ideal S512x1024 .f32) (shapeCast S512x1024 v shapeCasts_S2x256x1024_S512x1024 : Vec Ideal S512x1024 .f32) := rfl

end reference

/-- The reference runs to its end and leaves its arguments and every counter as they were. -/
theorem ref_frame : Cert.quiescent_AdamOdOutRefIdeal (hAdamOdOutRefIdeal := Cert.AdamOdOutRefIdeal.Gen.facts) := fun m ρ _ =>
  (θ_run _ _ _).mono (fun r h => ⟨fun c => (h c).2.2.2, sem_eq_zero_of_no_sems (by decide) r.2⟩)
    (Cert.AdamOdOutRefIdeal.Value.run m ρ)

/-- The call and its reference end with the same arrays. -/
theorem algebraic :
    Cert.algebraic_AdamOdOutIdeal_AdamOdOutRefIdeal (hAdamOdOutIdeal := Cert.AdamOdOutIdeal.Gen.facts) (hAdamOdOutRefIdeal := Cert.AdamOdOutRefIdeal.Gen.facts) := by
  intro m g m' g' _ hargs
  refine ⟨fun c => newDelta (flatW m c) (flatG m c) (flatM m c) (flatV m c), fun c => newM (flatG m c) (flatM m c),
    fun c => newV (flatG m c) (flatV m c), ?_, ?_⟩
  · refine (θ_run _ _ _).mono (fun r hr c => ?_) (Cert.AdamOdOutIdeal.Value.run_blocks m g)
    exact ⟨(hr c).1.trans (out4 m c), (hr c).2.1.trans (out5 m c), (hr c).2.2.1.trans (out6 m c), (hr c).2.2.2⟩
  · refine (θ_run _ _ _).mono (fun r hr c => ?_) (Cert.AdamOdOutRefIdeal.Value.run m' g')
    obtain ⟨e0, e1, e2, e3⟩ := hargs c
    refine ⟨(hr c).1.trans ((Cert.AdamOdOutRefIdeal.Read.val_main_v24_eq _ _ _ _).trans ?_), (hr c).2.1.trans ((Cert.AdamOdOutRefIdeal.Read.val_main_v25_eq _ _).trans ?_),
      (hr c).2.2.1.trans ((Cert.AdamOdOutRefIdeal.Read.val_main_v26_eq _ _).trans ?_), (hr c).2.2.2⟩
    · rw [e0, e1, e2, e3]
      exact ref_delta _ _ _ _
    · rw [e1, e2]
      exact ref_mom _ _
    · rw [e1, e3]
      exact ref_vel _ _

end Cert.AdamOdOutProof
end
-- ==== Proof.AdamFfnUpClaim.lean ====
module

public import proofs.«01_k».proof.Defs
public import proofs.«01_k».proof.Proof.AdamSpec
public import proofs.«01_k».proof.Proof.Gen.AdamFfnUpIdeal.Value
public import proofs.«01_k».proof.Proof.Gen.AdamFfnUpRefIdeal.Read
public import Idealize.ShloMosaic.Lib.Pipeline.ValueKit
public import Idealize.ShloMosaic.Lib.Pipeline.ReadBack
public import Idealize.ShloMosaic.Lib.WritesUnit

/-! The optimiser on one device's part of `ffn_w_up`. -/

@[expose] public section

noncomputable section

namespace Cert.AdamFfnUpProof

open Idealize.ShloMosaic Idealize.SL.Sem Cert.StepProof

section kernel
open Cert.AdamFfnUpIdeal Cert.AdamFfnUpIdeal.Gen

variable (m : (ℓ : Loc nD τ sig) → Buf (Elt Ideal) ℓ) (c : Dev nD)

/-- The arguments on device `c`, their layers one below another: the weight, its gradient, its two moments. -/
def flatW : Arr 4096 1408 := (shapeCast S4096x1408 (m ((c.tc : Thread nD τ).loc main_arg0)) shapeCasts_S4x1024x1408_S4096x1408 : Vec Ideal S4096x1408 .f32)
def flatG : Arr 4096 1408 := (shapeCast S4096x1408 (m ((c.tc : Thread nD τ).loc main_arg1)) shapeCasts_S4x1024x1408_S4096x1408 : Vec Ideal S4096x1408 .f32)
def flatM : Arr 4096 1408 := (shapeCast S4096x1408 (m ((c.tc : Thread nD τ).loc main_arg2)) shapeCasts_S4x1024x1408_S4096x1408 : Vec Ideal S4096x1408 .f32)
def flatV : Arr 4096 1408 := (shapeCast S4096x1408 (m ((c.tc : Thread nD τ).loc main_arg3)) shapeCasts_S4x1024x1408_S4096x1408 : Vec Ideal S4096x1408 .f32)

theorem lt_points (t : Fin cfg0.N) : t.val < 8 := t.isLt

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel

theorem src0 : (V m c main_v0 : Arr 4096 1408) = flatW m c := by
  unfold flatW
  simp only [V, hostOps0]
  after_results
  rfl

theorem blk0 (t : Fin cfg0.N) (r : Fin 512) (k : Fin 1408) :
    iblk m c 0 t (ix2 r k) = flatW m c (ix2 ⟨t.val * 512 + r.val, by have := lt_points t; omega⟩ k) := by
  refine Eq.trans (b := (V m c main_v0 : Arr 4096 1408) (ix2 ⟨t.val * 512 + r.val, by have := lt_points t; omega⟩ k)) ?_
    (congrFun (src0 m c) _)
  blk_ext [iblk, idx0 t]

theorem src1 : (V m c main_v1 : Arr 4096 1408) = flatG m c := by
  unfold flatG
  simp only [V, hostOps0]
  after_results
  rfl

theorem blk1 (t : Fin cfg0.N) (r : Fin 512) (k : Fin 1408) :
    iblk m c 1 t (ix2 r k) = flatG m c (ix2 ⟨t.val * 512 + r.val, by have := lt_points t; omega⟩ k) := by
  refine Eq.trans (b := (V m c main_v1 : Arr 4096 1408) (ix2 ⟨t.val * 512 + r.val, by have := lt_points t; omega⟩ k)) ?_
    (congrFun (src1 m c) _)
  blk_ext [iblk, idx1 t]

theorem src2 : (V m c main_v2 : Arr 4096 1408) = flatM m c := by
  unfold flatM
  simp only [V, hostOps0]
  after_results
  rfl

theorem blk2 (t : Fin cfg0.N) (r : Fin 512) (k : Fin 1408) :
    iblk m c 2 t (ix2 r k) = flatM m c (ix2 ⟨t.val * 512 + r.val, by have := lt_points t; omega⟩ k) := by
  refine Eq.trans (b := (V m c main_v2 : Arr 4096 1408) (ix2 ⟨t.val * 512 + r.val, by have := lt_points t; omega⟩ k)) ?_
    (congrFun (src2 m c) _)
  blk_ext [iblk, idx2 t]

theorem src3 : (V m c main_v3 : Arr 4096 1408) = flatV m c := by
  unfold flatV
  simp only [V, hostOps0]
  after_results
  rfl

theorem blk3 (t : Fin cfg0.N) (r : Fin 512) (k : Fin 1408) :
    iblk m c 3 t (ix2 r k) = flatV m c (ix2 ⟨t.val * 512 + r.val, by have := lt_points t; omega⟩ k) := by
  refine Eq.trans (b := (V m c main_v3 : Arr 4096 1408) (ix2 ⟨t.val * 512 + r.val, by have := lt_points t; omega⟩ k)) ?_
    (congrFun (src3 m c) _)
  blk_ext [iblk, idx3 t]

theorem block4 (t : Fin cfg0.N) (r : Fin 512) (j : Fin 1408) :
    out0_4 (iblk m c 0 t) (iblk m c 1 t) (iblk m c 2 t) (iblk m c 3 t) (ix2 r j)
      = newDelta (flatW m c) (flatG m c) (flatM m c) (flatV m c) (ix2 ⟨t.val * 512 + r.val, by have := lt_points t; omega⟩ j) := by
  frame_out
  unfold k0_pay4 k0_pay3 k0_pay2 k0_pay1
  pointwise [blk0, blk1, blk2, blk3, newDelta, newM, newV, deltaOf, momOf, velOf]

theorem out4 : (dats m 0 c).arrAt 4 cfg0.N = newDelta (flatW m c) (flatG m c) (flatM m c) (flatV m c) := by
  refine (dats m 0 c).arrAt_eq_of_covers 4 _ (by decide +kernel) fun t hf y => ?_
  blk_simp
  rw [after0_4]
  obtain ⟨r, j, rfl⟩ : ∃ (r : Fin 512) (j : Fin 1408), y = ix2 r j := ⟨y 0, y 1, eq_ix2 y⟩
  refine (block4 m c t r j).trans (congrArg (newDelta (flatW m c) (flatG m c) (flatM m c) (flatV m c)) (?_ : ix2 _ _ = _))
  blk_ext [idx4 t]

theorem block5 (t : Fin cfg0.N) (r : Fin 512) (j : Fin 1408) :
    out0_5 (iblk m c 0 t) (iblk m c 1 t) (iblk m c 2 t) (iblk m c 3 t) (ix2 r j)
      = newM (flatG m c) (flatM m c) (ix2 ⟨t.val * 512 + r.val, by have := lt_points t; omega⟩ j) := by
  frame_out
  unfold k0_pay2 k0_pay1
  pointwise [blk0, blk1, blk2, blk3, newDelta, newM, newV, deltaOf, momOf, velOf]

theorem out5 : (dats m 0 c).arrAt 5 cfg0.N = newM (flatG m c) (flatM m c) := by
  refine (dats m 0 c).arrAt_eq_of_covers 5 _ (by decide +kernel) fun t hf y => ?_
  blk_simp
  rw [after0_5]
  obtain ⟨r, j, rfl⟩ : ∃ (r : Fin 512) (j : Fin 1408), y = ix2 r j := ⟨y 0, y 1, eq_ix2 y⟩
  refine (block5 m c t r j).trans (congrArg (newM (flatG m c) (flatM m c)) (?_ : ix2 _ _ = _))
  blk_ext [idx5 t]

theorem block6 (t : Fin cfg0.N) (r : Fin 512) (j : Fin 1408) :
    out0_6 (iblk m c 0 t) (iblk m c 1 t) (iblk m c 2 t) (iblk m c 3 t) (ix2 r j)
      = newV (flatG m c) (flatV m c) (ix2 ⟨t.val * 512 + r.val, by have := lt_points t; omega⟩ j) := by
  frame_out
  unfold k0_pay3 k0_pay1
  pointwise [blk0, blk1, blk2, blk3, newDelta, newM, newV, deltaOf, momOf, velOf]

theorem out6 : (dats m 0 c).arrAt 6 cfg0.N = newV (flatG m c) (flatV m c) := by
  refine (dats m 0 c).arrAt_eq_of_covers 6 _ (by decide +kernel) fun t hf y => ?_
  blk_simp
  rw [after0_6]
  obtain ⟨r, j, rfl⟩ : ∃ (r : Fin 512) (j : Fin 1408), y = ix2 r j := ⟨y 0, y 1, eq_ix2 y⟩
  refine (block6 m c t r j).trans (congrArg (newV (flatG m c) (flatV m c)) (?_ : ix2 _ _ = _))
  blk_ext [idx6 t]

end kernel

section reference
open Cert.AdamFfnUpRefIdeal Cert.AdamFfnUpRefIdeal.Gen Cert.AdamFfnUpRefIdeal.Read

theorem ref_delta (w g m v : Vec Ideal S4x1024x1408 .f32) :
    (val_main_v24 (F := Ideal) w g m v : Arr 4096 1408) = newDelta (shapeCast S4096x1408 w shapeCasts_S4x1024x1408_S4096x1408 : Vec Ideal S4096x1408 .f32) (shapeCast S4096x1408 g shapeCasts_S4x1024x1408_S4096x1408 : Vec Ideal S4096x1408 .f32) (shapeCast S4096x1408 m shapeCasts_S4x1024x1408_S4096x1408 : Vec Ideal S4096x1408 .f32) (shapeCast S4096x1408 v shapeCasts_S4x1024x1408_S4096x1408 : Vec Ideal S4096x1408 .f32) := rfl

theorem ref_mom (g m : Vec Ideal S4x1024x1408 .f32) : (val_main_v25 (F := Ideal) g m : Arr 4096 1408) = newM (shapeCast S4096x1408 g shapeCasts_S4x1024x1408_S4096x1408 : Vec Ideal S4096x1408 .f32) (shapeCast S4096x1408 m shapeCasts_S4x1024x1408_S4096x1408 : Vec Ideal S4096x1408 .f32) := rfl

theorem ref_vel (g v : Vec Ideal S4x1024x1408 .f32) : (val_main_v26 (F := Ideal) g v : Arr 4096 1408) = newV (shapeCast S4096x1408 g shapeCasts_S4x1024x1408_S4096x1408 : Vec Ideal S4096x1408 .f32) (shapeCast S4096x1408 v shapeCasts_S4x1024x1408_S4096x1408 : Vec Ideal S4096x1408 .f32) := rfl

end reference

/-- The reference runs to its end and leaves its arguments and every counter as they were. -/
theorem ref_frame : Cert.quiescent_AdamFfnUpRefIdeal (hAdamFfnUpRefIdeal := Cert.AdamFfnUpRefIdeal.Gen.facts) := fun m ρ _ =>
  (θ_run _ _ _).mono (fun r h => ⟨fun c => (h c).2.2.2, sem_eq_zero_of_no_sems (by decide) r.2⟩)
    (Cert.AdamFfnUpRefIdeal.Value.run m ρ)

/-- The call and its reference end with the same arrays. -/
theorem algebraic :
    Cert.algebraic_AdamFfnUpIdeal_AdamFfnUpRefIdeal (hAdamFfnUpIdeal := Cert.AdamFfnUpIdeal.Gen.facts) (hAdamFfnUpRefIdeal := Cert.AdamFfnUpRefIdeal.Gen.facts) := by
  intro m g m' g' _ hargs
  refine ⟨fun c => newDelta (flatW m c) (flatG m c) (flatM m c) (flatV m c), fun c => newM (flatG m c) (flatM m c),
    fun c => newV (flatG m c) (flatV m c), ?_, ?_⟩
  · refine (θ_run _ _ _).mono (fun r hr c => ?_) (Cert.AdamFfnUpIdeal.Value.run_blocks m g)
    exact ⟨(hr c).1.trans (out4 m c), (hr c).2.1.trans (out5 m c), (hr c).2.2.1.trans (out6 m c), (hr c).2.2.2⟩
  · refine (θ_run _ _ _).mono (fun r hr c => ?_) (Cert.AdamFfnUpRefIdeal.Value.run m' g')
    obtain ⟨e0, e1, e2, e3⟩ := hargs c
    refine ⟨(hr c).1.trans ((Cert.AdamFfnUpRefIdeal.Read.val_main_v24_eq _ _ _ _).trans ?_), (hr c).2.1.trans ((Cert.AdamFfnUpRefIdeal.Read.val_main_v25_eq _ _).trans ?_),
      (hr c).2.2.1.trans ((Cert.AdamFfnUpRefIdeal.Read.val_main_v26_eq _ _).trans ?_), (hr c).2.2.2⟩
    · rw [e0, e1, e2, e3]
      exact ref_delta _ _ _ _
    · rw [e1, e2]
      exact ref_mom _ _
    · rw [e1, e3]
      exact ref_vel _ _

end Cert.AdamFfnUpProof
end
-- ==== Proof.AdamFfnDownClaim.lean ====
module

public import proofs.«01_k».proof.Defs
public import proofs.«01_k».proof.Proof.AdamSpec
public import proofs.«01_k».proof.Proof.Gen.AdamFfnDownIdeal.Value
public import proofs.«01_k».proof.Proof.Gen.AdamFfnDownRefIdeal.Read
public import Idealize.ShloMosaic.Lib.Pipeline.ValueKit
public import Idealize.ShloMosaic.Lib.Pipeline.ReadBack
public import Idealize.ShloMosaic.Lib.WritesUnit

/-! The optimiser on one device's part of `ffn_w_down`. -/

@[expose] public section

noncomputable section

namespace Cert.AdamFfnDownProof

open Idealize.ShloMosaic Idealize.SL.Sem Cert.StepProof

section kernel
open Cert.AdamFfnDownIdeal Cert.AdamFfnDownIdeal.Gen

variable (m : (ℓ : Loc nD τ sig) → Buf (Elt Ideal) ℓ) (c : Dev nD)

/-- The arguments on device `c`, their layers one below another: the weight, its gradient, its two moments. -/
def flatW : Arr 2816 1024 := (shapeCast S2816x1024 (m ((c.tc : Thread nD τ).loc main_arg0)) shapeCasts_S4x704x1024_S2816x1024 : Vec Ideal S2816x1024 .f32)
def flatG : Arr 2816 1024 := (shapeCast S2816x1024 (m ((c.tc : Thread nD τ).loc main_arg1)) shapeCasts_S4x704x1024_S2816x1024 : Vec Ideal S2816x1024 .f32)
def flatM : Arr 2816 1024 := (shapeCast S2816x1024 (m ((c.tc : Thread nD τ).loc main_arg2)) shapeCasts_S4x704x1024_S2816x1024 : Vec Ideal S2816x1024 .f32)
def flatV : Arr 2816 1024 := (shapeCast S2816x1024 (m ((c.tc : Thread nD τ).loc main_arg3)) shapeCasts_S4x704x1024_S2816x1024 : Vec Ideal S2816x1024 .f32)

theorem lt_points (t : Fin cfg0.N) : t.val < 11 := t.isLt

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel

theorem src0 : (V m c main_v0 : Arr 2816 1024) = flatW m c := by
  unfold flatW
  simp only [V, hostOps0]
  after_results
  rfl

theorem blk0 (t : Fin cfg0.N) (r : Fin 256) (k : Fin 1024) :
    iblk m c 0 t (ix2 r k) = flatW m c (ix2 ⟨t.val * 256 + r.val, by have := lt_points t; omega⟩ k) := by
  refine Eq.trans (b := (V m c main_v0 : Arr 2816 1024) (ix2 ⟨t.val * 256 + r.val, by have := lt_points t; omega⟩ k)) ?_
    (congrFun (src0 m c) _)
  blk_ext [iblk, idx0 t]

theorem src1 : (V m c main_v1 : Arr 2816 1024) = flatG m c := by
  unfold flatG
  simp only [V, hostOps0]
  after_results
  rfl

theorem blk1 (t : Fin cfg0.N) (r : Fin 256) (k : Fin 1024) :
    iblk m c 1 t (ix2 r k) = flatG m c (ix2 ⟨t.val * 256 + r.val, by have := lt_points t; omega⟩ k) := by
  refine Eq.trans (b := (V m c main_v1 : Arr 2816 1024) (ix2 ⟨t.val * 256 + r.val, by have := lt_points t; omega⟩ k)) ?_
    (congrFun (src1 m c) _)
  blk_ext [iblk, idx1 t]

theorem src2 : (V m c main_v2 : Arr 2816 1024) = flatM m c := by
  unfold flatM
  simp only [V, hostOps0]
  after_results
  rfl

theorem blk2 (t : Fin cfg0.N) (r : Fin 256) (k : Fin 1024) :
    iblk m c 2 t (ix2 r k) = flatM m c (ix2 ⟨t.val * 256 + r.val, by have := lt_points t; omega⟩ k) := by
  refine Eq.trans (b := (V m c main_v2 : Arr 2816 1024) (ix2 ⟨t.val * 256 + r.val, by have := lt_points t; omega⟩ k)) ?_
    (congrFun (src2 m c) _)
  blk_ext [iblk, idx2 t]

theorem src3 : (V m c main_v3 : Arr 2816 1024) = flatV m c := by
  unfold flatV
  simp only [V, hostOps0]
  after_results
  rfl

theorem blk3 (t : Fin cfg0.N) (r : Fin 256) (k : Fin 1024) :
    iblk m c 3 t (ix2 r k) = flatV m c (ix2 ⟨t.val * 256 + r.val, by have := lt_points t; omega⟩ k) := by
  refine Eq.trans (b := (V m c main_v3 : Arr 2816 1024) (ix2 ⟨t.val * 256 + r.val, by have := lt_points t; omega⟩ k)) ?_
    (congrFun (src3 m c) _)
  blk_ext [iblk, idx3 t]

theorem block4 (t : Fin cfg0.N) (r : Fin 256) (j : Fin 1024) :
    out0_4 (iblk m c 0 t) (iblk m c 1 t) (iblk m c 2 t) (iblk m c 3 t) (ix2 r j)
      = newDelta (flatW m c) (flatG m c) (flatM m c) (flatV m c) (ix2 ⟨t.val * 256 + r.val, by have := lt_points t; omega⟩ j) := by
  frame_out
  unfold k0_pay4 k0_pay3 k0_pay2 k0_pay1
  pointwise [blk0, blk1, blk2, blk3, newDelta, newM, newV, deltaOf, momOf, velOf]

theorem out4 : (dats m 0 c).arrAt 4 cfg0.N = newDelta (flatW m c) (flatG m c) (flatM m c) (flatV m c) := by
  refine (dats m 0 c).arrAt_eq_of_covers 4 _ (by decide +kernel) fun t hf y => ?_
  blk_simp
  rw [after0_4]
  obtain ⟨r, j, rfl⟩ : ∃ (r : Fin 256) (j : Fin 1024), y = ix2 r j := ⟨y 0, y 1, eq_ix2 y⟩
  refine (block4 m c t r j).trans (congrArg (newDelta (flatW m c) (flatG m c) (flatM m c) (flatV m c)) (?_ : ix2 _ _ = _))
  blk_ext [idx4 t]

theorem block5 (t : Fin cfg0.N) (r : Fin 256) (j : Fin 1024) :
    out0_5 (iblk m c 0 t) (iblk m c 1 t) (iblk m c 2 t) (iblk m c 3 t) (ix2 r j)
      = newM (flatG m c) (flatM m c) (ix2 ⟨t.val * 256 + r.val, by have := lt_points t; omega⟩ j) := by
  frame_out
  unfold k0_pay2 k0_pay1
  pointwise [blk0, blk1, blk2, blk3, newDelta, newM, newV, deltaOf, momOf, velOf]

theorem out5 : (dats m 0 c).arrAt 5 cfg0.N = newM (flatG m c) (flatM m c) := by
  refine (dats m 0 c).arrAt_eq_of_covers 5 _ (by decide +kernel) fun t hf y => ?_
  blk_simp
  rw [after0_5]
  obtain ⟨r, j, rfl⟩ : ∃ (r : Fin 256) (j : Fin 1024), y = ix2 r j := ⟨y 0, y 1, eq_ix2 y⟩
  refine (block5 m c t r j).trans (congrArg (newM (flatG m c) (flatM m c)) (?_ : ix2 _ _ = _))
  blk_ext [idx5 t]

theorem block6 (t : Fin cfg0.N) (r : Fin 256) (j : Fin 1024) :
    out0_6 (iblk m c 0 t) (iblk m c 1 t) (iblk m c 2 t) (iblk m c 3 t) (ix2 r j)
      = newV (flatG m c) (flatV m c) (ix2 ⟨t.val * 256 + r.val, by have := lt_points t; omega⟩ j) := by
  frame_out
  unfold k0_pay3 k0_pay1
  pointwise [blk0, blk1, blk2, blk3, newDelta, newM, newV, deltaOf, momOf, velOf]

theorem out6 : (dats m 0 c).arrAt 6 cfg0.N = newV (flatG m c) (flatV m c) := by
  refine (dats m 0 c).arrAt_eq_of_covers 6 _ (by decide +kernel) fun t hf y => ?_
  blk_simp
  rw [after0_6]
  obtain ⟨r, j, rfl⟩ : ∃ (r : Fin 256) (j : Fin 1024), y = ix2 r j := ⟨y 0, y 1, eq_ix2 y⟩
  refine (block6 m c t r j).trans (congrArg (newV (flatG m c) (flatV m c)) (?_ : ix2 _ _ = _))
  blk_ext [idx6 t]

end kernel

section reference
open Cert.AdamFfnDownRefIdeal Cert.AdamFfnDownRefIdeal.Gen Cert.AdamFfnDownRefIdeal.Read

theorem ref_delta (w g m v : Vec Ideal S4x704x1024 .f32) :
    (val_main_v24 (F := Ideal) w g m v : Arr 2816 1024) = newDelta (shapeCast S2816x1024 w shapeCasts_S4x704x1024_S2816x1024 : Vec Ideal S2816x1024 .f32) (shapeCast S2816x1024 g shapeCasts_S4x704x1024_S2816x1024 : Vec Ideal S2816x1024 .f32) (shapeCast S2816x1024 m shapeCasts_S4x704x1024_S2816x1024 : Vec Ideal S2816x1024 .f32) (shapeCast S2816x1024 v shapeCasts_S4x704x1024_S2816x1024 : Vec Ideal S2816x1024 .f32) := rfl

theorem ref_mom (g m : Vec Ideal S4x704x1024 .f32) : (val_main_v25 (F := Ideal) g m : Arr 2816 1024) = newM (shapeCast S2816x1024 g shapeCasts_S4x704x1024_S2816x1024 : Vec Ideal S2816x1024 .f32) (shapeCast S2816x1024 m shapeCasts_S4x704x1024_S2816x1024 : Vec Ideal S2816x1024 .f32) := rfl

theorem ref_vel (g v : Vec Ideal S4x704x1024 .f32) : (val_main_v26 (F := Ideal) g v : Arr 2816 1024) = newV (shapeCast S2816x1024 g shapeCasts_S4x704x1024_S2816x1024 : Vec Ideal S2816x1024 .f32) (shapeCast S2816x1024 v shapeCasts_S4x704x1024_S2816x1024 : Vec Ideal S2816x1024 .f32) := rfl

end reference

/-- The reference runs to its end and leaves its arguments and every counter as they were. -/
theorem ref_frame : Cert.quiescent_AdamFfnDownRefIdeal (hAdamFfnDownRefIdeal := Cert.AdamFfnDownRefIdeal.Gen.facts) := fun m ρ _ =>
  (θ_run _ _ _).mono (fun r h => ⟨fun c => (h c).2.2.2, sem_eq_zero_of_no_sems (by decide) r.2⟩)
    (Cert.AdamFfnDownRefIdeal.Value.run m ρ)

/-- The call and its reference end with the same arrays. -/
theorem algebraic :
    Cert.algebraic_AdamFfnDownIdeal_AdamFfnDownRefIdeal (hAdamFfnDownIdeal := Cert.AdamFfnDownIdeal.Gen.facts) (hAdamFfnDownRefIdeal := Cert.AdamFfnDownRefIdeal.Gen.facts) := by
  intro m g m' g' _ hargs
  refine ⟨fun c => newDelta (flatW m c) (flatG m c) (flatM m c) (flatV m c), fun c => newM (flatG m c) (flatM m c),
    fun c => newV (flatG m c) (flatV m c), ?_, ?_⟩
  · refine (θ_run _ _ _).mono (fun r hr c => ?_) (Cert.AdamFfnDownIdeal.Value.run_blocks m g)
    exact ⟨(hr c).1.trans (out4 m c), (hr c).2.1.trans (out5 m c), (hr c).2.2.1.trans (out6 m c), (hr c).2.2.2⟩
  · refine (θ_run _ _ _).mono (fun r hr c => ?_) (Cert.AdamFfnDownRefIdeal.Value.run m' g')
    obtain ⟨e0, e1, e2, e3⟩ := hargs c
    refine ⟨(hr c).1.trans ((Cert.AdamFfnDownRefIdeal.Read.val_main_v24_eq _ _ _ _).trans ?_), (hr c).2.1.trans ((Cert.AdamFfnDownRefIdeal.Read.val_main_v25_eq _ _).trans ?_),
      (hr c).2.2.1.trans ((Cert.AdamFfnDownRefIdeal.Read.val_main_v26_eq _ _).trans ?_), (hr c).2.2.2⟩
    · rw [e0, e1, e2, e3]
      exact ref_delta _ _ _ _
    · rw [e1, e2]
      exact ref_mom _ _
    · rw [e1, e3]
      exact ref_vel _ _

end Cert.AdamFfnDownProof
end
-- ==== Proof.AdamPleProjClaim.lean ====
module

public import proofs.«01_k».proof.Defs
public import proofs.«01_k».proof.Proof.AdamSpec
public import proofs.«01_k».proof.Proof.Gen.AdamPleProjIdeal.Value
public import proofs.«01_k».proof.Proof.Gen.AdamPleProjRefIdeal.Read
public import Idealize.ShloMosaic.Lib.Pipeline.ValueKit
public import Idealize.ShloMosaic.Lib.Pipeline.ReadBack
public import Idealize.ShloMosaic.Lib.WritesUnit

/-! The optimiser on one device's part of `ple_w_proj`. -/

@[expose] public section

noncomputable section

namespace Cert.AdamPleProjProof

open Idealize.ShloMosaic Idealize.SL.Sem Cert.StepProof

section kernel
open Cert.AdamPleProjIdeal Cert.AdamPleProjIdeal.Gen

variable (m : (ℓ : Loc nD τ sig) → Buf (Elt Ideal) ℓ) (c : Dev nD)

/-- The arguments on device `c`, their layers one below another: the weight, its gradient, its two moments. -/
def flatW : Arr 1024 256 := (shapeCast S1024x256 (m ((c.tc : Thread nD τ).loc main_arg0)) shapeCasts_S4x256x256_S1024x256 : Vec Ideal S1024x256 .f32)
def flatG : Arr 1024 256 := (shapeCast S1024x256 (m ((c.tc : Thread nD τ).loc main_arg1)) shapeCasts_S4x256x256_S1024x256 : Vec Ideal S1024x256 .f32)
def flatM : Arr 1024 256 := (shapeCast S1024x256 (m ((c.tc : Thread nD τ).loc main_arg2)) shapeCasts_S4x256x256_S1024x256 : Vec Ideal S1024x256 .f32)
def flatV : Arr 1024 256 := (shapeCast S1024x256 (m ((c.tc : Thread nD τ).loc main_arg3)) shapeCasts_S4x256x256_S1024x256 : Vec Ideal S1024x256 .f32)

theorem lt_points (t : Fin cfg0.N) : t.val < 2 := t.isLt

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel

theorem src0 : (V m c main_v0 : Arr 1024 256) = flatW m c := by
  unfold flatW
  simp only [V, hostOps0]
  after_results
  rfl

theorem blk0 (t : Fin cfg0.N) (r : Fin 512) (k : Fin 256) :
    iblk m c 0 t (ix2 r k) = flatW m c (ix2 ⟨t.val * 512 + r.val, by have := lt_points t; omega⟩ k) := by
  refine Eq.trans (b := (V m c main_v0 : Arr 1024 256) (ix2 ⟨t.val * 512 + r.val, by have := lt_points t; omega⟩ k)) ?_
    (congrFun (src0 m c) _)
  blk_ext [iblk, idx0 t]

theorem src1 : (V m c main_v1 : Arr 1024 256) = flatG m c := by
  unfold flatG
  simp only [V, hostOps0]
  after_results
  rfl

theorem blk1 (t : Fin cfg0.N) (r : Fin 512) (k : Fin 256) :
    iblk m c 1 t (ix2 r k) = flatG m c (ix2 ⟨t.val * 512 + r.val, by have := lt_points t; omega⟩ k) := by
  refine Eq.trans (b := (V m c main_v1 : Arr 1024 256) (ix2 ⟨t.val * 512 + r.val, by have := lt_points t; omega⟩ k)) ?_
    (congrFun (src1 m c) _)
  blk_ext [iblk, idx1 t]

theorem src2 : (V m c main_v2 : Arr 1024 256) = flatM m c := by
  unfold flatM
  simp only [V, hostOps0]
  after_results
  rfl

theorem blk2 (t : Fin cfg0.N) (r : Fin 512) (k : Fin 256) :
    iblk m c 2 t (ix2 r k) = flatM m c (ix2 ⟨t.val * 512 + r.val, by have := lt_points t; omega⟩ k) := by
  refine Eq.trans (b := (V m c main_v2 : Arr 1024 256) (ix2 ⟨t.val * 512 + r.val, by have := lt_points t; omega⟩ k)) ?_
    (congrFun (src2 m c) _)
  blk_ext [iblk, idx2 t]

theorem src3 : (V m c main_v3 : Arr 1024 256) = flatV m c := by
  unfold flatV
  simp only [V, hostOps0]
  after_results
  rfl

theorem blk3 (t : Fin cfg0.N) (r : Fin 512) (k : Fin 256) :
    iblk m c 3 t (ix2 r k) = flatV m c (ix2 ⟨t.val * 512 + r.val, by have := lt_points t; omega⟩ k) := by
  refine Eq.trans (b := (V m c main_v3 : Arr 1024 256) (ix2 ⟨t.val * 512 + r.val, by have := lt_points t; omega⟩ k)) ?_
    (congrFun (src3 m c) _)
  blk_ext [iblk, idx3 t]

theorem block4 (t : Fin cfg0.N) (r : Fin 512) (j : Fin 256) :
    out0_4 (iblk m c 0 t) (iblk m c 1 t) (iblk m c 2 t) (iblk m c 3 t) (ix2 r j)
      = newDelta (flatW m c) (flatG m c) (flatM m c) (flatV m c) (ix2 ⟨t.val * 512 + r.val, by have := lt_points t; omega⟩ j) := by
  frame_out
  unfold k0_pay4 k0_pay3 k0_pay2 k0_pay1
  pointwise [blk0, blk1, blk2, blk3, newDelta, newM, newV, deltaOf, momOf, velOf]

theorem out4 : (dats m 0 c).arrAt 4 cfg0.N = newDelta (flatW m c) (flatG m c) (flatM m c) (flatV m c) := by
  refine (dats m 0 c).arrAt_eq_of_covers 4 _ (by decide +kernel) fun t hf y => ?_
  blk_simp
  rw [after0_4]
  obtain ⟨r, j, rfl⟩ : ∃ (r : Fin 512) (j : Fin 256), y = ix2 r j := ⟨y 0, y 1, eq_ix2 y⟩
  refine (block4 m c t r j).trans (congrArg (newDelta (flatW m c) (flatG m c) (flatM m c) (flatV m c)) (?_ : ix2 _ _ = _))
  blk_ext [idx4 t]

theorem block5 (t : Fin cfg0.N) (r : Fin 512) (j : Fin 256) :
    out0_5 (iblk m c 0 t) (iblk m c 1 t) (iblk m c 2 t) (iblk m c 3 t) (ix2 r j)
      = newM (flatG m c) (flatM m c) (ix2 ⟨t.val * 512 + r.val, by have := lt_points t; omega⟩ j) := by
  frame_out
  unfold k0_pay2 k0_pay1
  pointwise [blk0, blk1, blk2, blk3, newDelta, newM, newV, deltaOf, momOf, velOf]

theorem out5 : (dats m 0 c).arrAt 5 cfg0.N = newM (flatG m c) (flatM m c) := by
  refine (dats m 0 c).arrAt_eq_of_covers 5 _ (by decide +kernel) fun t hf y => ?_
  blk_simp
  rw [after0_5]
  obtain ⟨r, j, rfl⟩ : ∃ (r : Fin 512) (j : Fin 256), y = ix2 r j := ⟨y 0, y 1, eq_ix2 y⟩
  refine (block5 m c t r j).trans (congrArg (newM (flatG m c) (flatM m c)) (?_ : ix2 _ _ = _))
  blk_ext [idx5 t]

theorem block6 (t : Fin cfg0.N) (r : Fin 512) (j : Fin 256) :
    out0_6 (iblk m c 0 t) (iblk m c 1 t) (iblk m c 2 t) (iblk m c 3 t) (ix2 r j)
      = newV (flatG m c) (flatV m c) (ix2 ⟨t.val * 512 + r.val, by have := lt_points t; omega⟩ j) := by
  frame_out
  unfold k0_pay3 k0_pay1
  pointwise [blk0, blk1, blk2, blk3, newDelta, newM, newV, deltaOf, momOf, velOf]

theorem out6 : (dats m 0 c).arrAt 6 cfg0.N = newV (flatG m c) (flatV m c) := by
  refine (dats m 0 c).arrAt_eq_of_covers 6 _ (by decide +kernel) fun t hf y => ?_
  blk_simp
  rw [after0_6]
  obtain ⟨r, j, rfl⟩ : ∃ (r : Fin 512) (j : Fin 256), y = ix2 r j := ⟨y 0, y 1, eq_ix2 y⟩
  refine (block6 m c t r j).trans (congrArg (newV (flatG m c) (flatV m c)) (?_ : ix2 _ _ = _))
  blk_ext [idx6 t]

end kernel

section reference
open Cert.AdamPleProjRefIdeal Cert.AdamPleProjRefIdeal.Gen Cert.AdamPleProjRefIdeal.Read

theorem ref_delta (w g m v : Vec Ideal S4x256x256 .f32) :
    (val_main_v24 (F := Ideal) w g m v : Arr 1024 256) = newDelta (shapeCast S1024x256 w shapeCasts_S4x256x256_S1024x256 : Vec Ideal S1024x256 .f32) (shapeCast S1024x256 g shapeCasts_S4x256x256_S1024x256 : Vec Ideal S1024x256 .f32) (shapeCast S1024x256 m shapeCasts_S4x256x256_S1024x256 : Vec Ideal S1024x256 .f32) (shapeCast S1024x256 v shapeCasts_S4x256x256_S1024x256 : Vec Ideal S1024x256 .f32) := rfl

theorem ref_mom (g m : Vec Ideal S4x256x256 .f32) : (val_main_v25 (F := Ideal) g m : Arr 1024 256) = newM (shapeCast S1024x256 g shapeCasts_S4x256x256_S1024x256 : Vec Ideal S1024x256 .f32) (shapeCast S1024x256 m shapeCasts_S4x256x256_S1024x256 : Vec Ideal S1024x256 .f32) := rfl

theorem ref_vel (g v : Vec Ideal S4x256x256 .f32) : (val_main_v26 (F := Ideal) g v : Arr 1024 256) = newV (shapeCast S1024x256 g shapeCasts_S4x256x256_S1024x256 : Vec Ideal S1024x256 .f32) (shapeCast S1024x256 v shapeCasts_S4x256x256_S1024x256 : Vec Ideal S1024x256 .f32) := rfl

end reference

/-- The reference runs to its end and leaves its arguments and every counter as they were. -/
theorem ref_frame : Cert.quiescent_AdamPleProjRefIdeal (hAdamPleProjRefIdeal := Cert.AdamPleProjRefIdeal.Gen.facts) := fun m ρ _ =>
  (θ_run _ _ _).mono (fun r h => ⟨fun c => (h c).2.2.2, sem_eq_zero_of_no_sems (by decide) r.2⟩)
    (Cert.AdamPleProjRefIdeal.Value.run m ρ)

/-- The call and its reference end with the same arrays. -/
theorem algebraic :
    Cert.algebraic_AdamPleProjIdeal_AdamPleProjRefIdeal (hAdamPleProjIdeal := Cert.AdamPleProjIdeal.Gen.facts) (hAdamPleProjRefIdeal := Cert.AdamPleProjRefIdeal.Gen.facts) := by
  intro m g m' g' _ hargs
  refine ⟨fun c => newDelta (flatW m c) (flatG m c) (flatM m c) (flatV m c), fun c => newM (flatG m c) (flatM m c),
    fun c => newV (flatG m c) (flatV m c), ?_, ?_⟩
  · refine (θ_run _ _ _).mono (fun r hr c => ?_) (Cert.AdamPleProjIdeal.Value.run_blocks m g)
    exact ⟨(hr c).1.trans (out4 m c), (hr c).2.1.trans (out5 m c), (hr c).2.2.1.trans (out6 m c), (hr c).2.2.2⟩
  · refine (θ_run _ _ _).mono (fun r hr c => ?_) (Cert.AdamPleProjRefIdeal.Value.run m' g')
    obtain ⟨e0, e1, e2, e3⟩ := hargs c
    refine ⟨(hr c).1.trans ((Cert.AdamPleProjRefIdeal.Read.val_main_v24_eq _ _ _ _).trans ?_), (hr c).2.1.trans ((Cert.AdamPleProjRefIdeal.Read.val_main_v25_eq _ _).trans ?_),
      (hr c).2.2.1.trans ((Cert.AdamPleProjRefIdeal.Read.val_main_v26_eq _ _).trans ?_), (hr c).2.2.2⟩
    · rw [e0, e1, e2, e3]
      exact ref_delta _ _ _ _
    · rw [e1, e2]
      exact ref_mom _ _
    · rw [e1, e3]
      exact ref_vel _ _

end Cert.AdamPleProjProof
end
-- ==== Proof.AdamPleGateClaim.lean ====
module

public import proofs.«01_k».proof.Defs
public import proofs.«01_k».proof.Proof.AdamSpec
public import proofs.«01_k».proof.Proof.Gen.AdamPleGateIdeal.Value
public import proofs.«01_k».proof.Proof.Gen.AdamPleGateRefIdeal.Read
public import Idealize.ShloMosaic.Lib.Pipeline.ValueKit
public import Idealize.ShloMosaic.Lib.Pipeline.ReadBack
public import Idealize.ShloMosaic.Lib.WritesUnit

/-! The optimiser on one device's part of `ple_w_gate`. -/

@[expose] public section

noncomputable section

namespace Cert.AdamPleGateProof

open Idealize.ShloMosaic Idealize.SL.Sem Cert.StepProof

section kernel
open Cert.AdamPleGateIdeal Cert.AdamPleGateIdeal.Gen

variable (m : (ℓ : Loc nD τ sig) → Buf (Elt Ideal) ℓ) (c : Dev nD)

/-- The arguments on device `c`, their layers one below another: the weight, its gradient, its two moments. -/
def flatW : Arr 1024 1024 := (shapeCast S1024x1024 (m ((c.tc : Thread nD τ).loc main_arg0)) shapeCasts_S4x256x1024_S1024x1024 : Vec Ideal S1024x1024 .f32)
def flatG : Arr 1024 1024 := (shapeCast S1024x1024 (m ((c.tc : Thread nD τ).loc main_arg1)) shapeCasts_S4x256x1024_S1024x1024 : Vec Ideal S1024x1024 .f32)
def flatM : Arr 1024 1024 := (shapeCast S1024x1024 (m ((c.tc : Thread nD τ).loc main_arg2)) shapeCasts_S4x256x1024_S1024x1024 : Vec Ideal S1024x1024 .f32)
def flatV : Arr 1024 1024 := (shapeCast S1024x1024 (m ((c.tc : Thread nD τ).loc main_arg3)) shapeCasts_S4x256x1024_S1024x1024 : Vec Ideal S1024x1024 .f32)

theorem lt_points (t : Fin cfg0.N) : t.val < 2 := t.isLt

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel

theorem src0 : (V m c main_v0 : Arr 1024 1024) = flatW m c := by
  unfold flatW
  simp only [V, hostOps0]
  after_results
  rfl

theorem blk0 (t : Fin cfg0.N) (r : Fin 512) (k : Fin 1024) :
    iblk m c 0 t (ix2 r k) = flatW m c (ix2 ⟨t.val * 512 + r.val, by have := lt_points t; omega⟩ k) := by
  refine Eq.trans (b := (V m c main_v0 : Arr 1024 1024) (ix2 ⟨t.val * 512 + r.val, by have := lt_points t; omega⟩ k)) ?_
    (congrFun (src0 m c) _)
  blk_ext [iblk, idx0 t]

theorem src1 : (V m c main_v1 : Arr 1024 1024) = flatG m c := by
  unfold flatG
  simp only [V, hostOps0]
  after_results
  rfl

theorem blk1 (t : Fin cfg0.N) (r : Fin 512) (k : Fin 1024) :
    iblk m c 1 t (ix2 r k) = flatG m c (ix2 ⟨t.val * 512 + r.val, by have := lt_points t; omega⟩ k) := by
  refine Eq.trans (b := (V m c main_v1 : Arr 1024 1024) (ix2 ⟨t.val * 512 + r.val, by have := lt_points t; omega⟩ k)) ?_
    (congrFun (src1 m c) _)
  blk_ext [iblk, idx1 t]

theorem src2 : (V m c main_v2 : Arr 1024 1024) = flatM m c := by
  unfold flatM
  simp only [V, hostOps0]
  after_results
  rfl

theorem blk2 (t : Fin cfg0.N) (r : Fin 512) (k : Fin 1024) :
    iblk m c 2 t (ix2 r k) = flatM m c (ix2 ⟨t.val * 512 + r.val, by have := lt_points t; omega⟩ k) := by
  refine Eq.trans (b := (V m c main_v2 : Arr 1024 1024) (ix2 ⟨t.val * 512 + r.val, by have := lt_points t; omega⟩ k)) ?_
    (congrFun (src2 m c) _)
  blk_ext [iblk, idx2 t]

theorem src3 : (V m c main_v3 : Arr 1024 1024) = flatV m c := by
  unfold flatV
  simp only [V, hostOps0]
  after_results
  rfl

theorem blk3 (t : Fin cfg0.N) (r : Fin 512) (k : Fin 1024) :
    iblk m c 3 t (ix2 r k) = flatV m c (ix2 ⟨t.val * 512 + r.val, by have := lt_points t; omega⟩ k) := by
  refine Eq.trans (b := (V m c main_v3 : Arr 1024 1024) (ix2 ⟨t.val * 512 + r.val, by have := lt_points t; omega⟩ k)) ?_
    (congrFun (src3 m c) _)
  blk_ext [iblk, idx3 t]

theorem block4 (t : Fin cfg0.N) (r : Fin 512) (j : Fin 1024) :
    out0_4 (iblk m c 0 t) (iblk m c 1 t) (iblk m c 2 t) (iblk m c 3 t) (ix2 r j)
      = newDelta (flatW m c) (flatG m c) (flatM m c) (flatV m c) (ix2 ⟨t.val * 512 + r.val, by have := lt_points t; omega⟩ j) := by
  frame_out
  unfold k0_pay4 k0_pay3 k0_pay2 k0_pay1
  pointwise [blk0, blk1, blk2, blk3, newDelta, newM, newV, deltaOf, momOf, velOf]

theorem out4 : (dats m 0 c).arrAt 4 cfg0.N = newDelta (flatW m c) (flatG m c) (flatM m c) (flatV m c) := by
  refine (dats m 0 c).arrAt_eq_of_covers 4 _ (by decide +kernel) fun t hf y => ?_
  blk_simp
  rw [after0_4]
  obtain ⟨r, j, rfl⟩ : ∃ (r : Fin 512) (j : Fin 1024), y = ix2 r j := ⟨y 0, y 1, eq_ix2 y⟩
  refine (block4 m c t r j).trans (congrArg (newDelta (flatW m c) (flatG m c) (flatM m c) (flatV m c)) (?_ : ix2 _ _ = _))
  blk_ext [idx4 t]

theorem block5 (t : Fin cfg0.N) (r : Fin 512) (j : Fin 1024) :
    out0_5 (iblk m c 0 t) (iblk m c 1 t) (iblk m c 2 t) (iblk m c 3 t) (ix2 r j)
      = newM (flatG m c) (flatM m c) (ix2 ⟨t.val * 512 + r.val, by have := lt_points t; omega⟩ j) := by
  frame_out
  unfold k0_pay2 k0_pay1
  pointwise [blk0, blk1, blk2, blk3, newDelta, newM, newV, deltaOf, momOf, velOf]

theorem out5 : (dats m 0 c).arrAt 5 cfg0.N = newM (flatG m c) (flatM m c) := by
  refine (dats m 0 c).arrAt_eq_of_covers 5 _ (by decide +kernel) fun t hf y => ?_
  blk_simp
  rw [after0_5]
  obtain ⟨r, j, rfl⟩ : ∃ (r : Fin 512) (j : Fin 1024), y = ix2 r j := ⟨y 0, y 1, eq_ix2 y⟩
  refine (block5 m c t r j).trans (congrArg (newM (flatG m c) (flatM m c)) (?_ : ix2 _ _ = _))
  blk_ext [idx5 t]

theorem block6 (t : Fin cfg0.N) (r : Fin 512) (j : Fin 1024) :
    out0_6 (iblk m c 0 t) (iblk m c 1 t) (iblk m c 2 t) (iblk m c 3 t) (ix2 r j)
      = newV (flatG m c) (flatV m c) (ix2 ⟨t.val * 512 + r.val, by have := lt_points t; omega⟩ j) := by
  frame_out
  unfold k0_pay3 k0_pay1
  pointwise [blk0, blk1, blk2, blk3, newDelta, newM, newV, deltaOf, momOf, velOf]

theorem out6 : (dats m 0 c).arrAt 6 cfg0.N = newV (flatG m c) (flatV m c) := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, eq_ix2 y⟩
  refine (block6 m c t r j).trans (congrArg (newV (flatG m c) (flatV m c)) (?_ : ix2 _ _ = _))
  blk_ext [idx6 t]

end kernel

section reference
open Cert.AdamPleGateRefIdeal Cert.AdamPleGateRefIdeal.Gen Cert.AdamPleGateRefIdeal.Read

theorem ref_delta (w g m v : Vec Ideal S4x256x1024 .f32) :
    (val_main_v24 (F := Ideal) w g m v : Arr 1024 1024) = newDelta (shapeCast S1024x1024 w shapeCasts_S4x256x1024_S1024x1024 : Vec Ideal S1024x1024 .f32) (shapeCast S1024x1024 g shapeCasts_S4x256x1024_S1024x1024 : Vec Ideal S1024x1024 .f32) (shapeCast S1024x1024 m shapeCasts_S4x256x1024_S1024x1024 : Vec Ideal S1024x1024 .f32) (shapeCast S1024x1024 v shapeCasts_S4x256x1024_S1024x1024 : Vec Ideal S1024x1024 .f32) := rfl

theorem ref_mom (g m : Vec Ideal S4x256x1024 .f32) : (val_main_v25 (F := Ideal) g m : Arr 1024 1024) = newM (shapeCast S1024x1024 g shapeCasts_S4x256x1024_S1024x1024 : Vec Ideal S1024x1024 .f32) (shapeCast S1024x1024 m shapeCasts_S4x256x1024_S1024x1024 : Vec Ideal S1024x1024 .f32) := rfl

theorem ref_vel (g v : Vec Ideal S4x256x1024 .f32) : (val_main_v26 (F := Ideal) g v : Arr 1024 1024) = newV (shapeCast S1024x1024 g shapeCasts_S4x256x1024_S1024x1024 : Vec Ideal S1024x1024 .f32) (shapeCast S1024x1024 v shapeCasts_S4x256x1024_S1024x1024 : Vec Ideal S1024x1024 .f32) := rfl

end reference

/-- The reference runs to its end and leaves its arguments and every counter as they were. -/
theorem ref_frame : Cert.quiescent_AdamPleGateRefIdeal (hAdamPleGateRefIdeal := Cert.AdamPleGateRefIdeal.Gen.facts) := fun m ρ _ =>
  (θ_run _ _ _).mono (fun r h => ⟨fun c => (h c).2.2.2, sem_eq_zero_of_no_sems (by decide) r.2⟩)
    (Cert.AdamPleGateRefIdeal.Value.run m ρ)

/-- The call and its reference end with the same arrays. -/
theorem algebraic :
    Cert.algebraic_AdamPleGateIdeal_AdamPleGateRefIdeal (hAdamPleGateIdeal := Cert.AdamPleGateIdeal.Gen.facts) (hAdamPleGateRefIdeal := Cert.AdamPleGateRefIdeal.Gen.facts) := by
  intro m g m' g' _ hargs
  refine ⟨fun c => newDelta (flatW m c) (flatG m c) (flatM m c) (flatV m c), fun c => newM (flatG m c) (flatM m c),
    fun c => newV (flatG m c) (flatV m c), ?_, ?_⟩
  · refine (θ_run _ _ _).mono (fun r hr c => ?_) (Cert.AdamPleGateIdeal.Value.run_blocks m g)
    exact ⟨(hr c).1.trans (out4 m c), (hr c).2.1.trans (out5 m c), (hr c).2.2.1.trans (out6 m c), (hr c).2.2.2⟩
  · refine (θ_run _ _ _).mono (fun r hr c => ?_) (Cert.AdamPleGateRefIdeal.Value.run m' g')
    obtain ⟨e0, e1, e2, e3⟩ := hargs c
    refine ⟨(hr c).1.trans ((Cert.AdamPleGateRefIdeal.Read.val_main_v24_eq _ _ _ _).trans ?_), (hr c).2.1.trans ((Cert.AdamPleGateRefIdeal.Read.val_main_v25_eq _ _).trans ?_),
      (hr c).2.2.1.trans ((Cert.AdamPleGateRefIdeal.Read.val_main_v26_eq _ _).trans ?_), (hr c).2.2.2⟩
    · rw [e0, e1, e2, e3]
      exact ref_delta _ _ _ _
    · rw [e1, e2]
      exact ref_mom _ _
    · rw [e1, e3]
      exact ref_vel _ _

end Cert.AdamPleGateProof
end
-- ==== Proof.Finite.lean ====
module

public import proofs.«01_k».proof.Proof.Sigmoid
public import Idealize.ShloMosaic.Lib.ReduceAll

/-! Finite extended reals: what the preconditions say, and what stays finite. -/

@[expose] public section

noncomputable section

namespace Cert.StepProof

open Idealize.ShloMosaic

/-- Neither infinity. -/
def IsFin (x : EReal) : Prop := x ≠ ⊤ ∧ x ≠ ⊥

theorem IsFin.coe (r : ℝ) : IsFin (r : EReal) := ⟨EReal.coe_ne_top r, EReal.coe_ne_bot r⟩

theorem IsFin.real {x : EReal} (h : IsFin x) : ∃ r : ℝ, x = r := ⟨x.toReal, (EReal.coe_toReal h.1 h.2).symm⟩

theorem IsFin.mul {x y : EReal} (hx : IsFin x) (hy : IsFin y) : IsFin (x * y) := by
  obtain ⟨a, rfl⟩ := hx.real
  obtain ⟨b, rfl⟩ := hy.real
  rw [← EReal.coe_mul]
  exact .coe _

theorem IsFin.add {x y : EReal} (hx : IsFin x) (hy : IsFin y) : IsFin (x + y) := by
  obtain ⟨a, rfl⟩ := hx.real
  obtain ⟨b, rfl⟩ := hy.real
  rw [← EReal.coe_add]
  exact .coe _

theorem IsFin.sum {n : ℕ} {f : Fin n → EReal} (h : ∀ k, IsFin (f k)) : IsFin (∑ k, f k) := by
  induction n with
  | zero => simpa using IsFin.coe 0
  | succ n ih => rw [Fin.sum_univ_succ]; exact (h 0).add (ih fun k => h _)

/-- An extended real whose absolute value is below infinity. -/
theorem finite_of_abs {x : EReal} (h : Ideal.cmp .olt (max x (-x)) ⊤ = 1#1) : IsFin x := by
  constructor <;> rintro rfl <;> revert h <;> simp [Ideal.cmp]

/-- The bit patterns of the two formats' infinities. -/
theorem inf_bits : Ideal.ofBits .f32 0x7F800000#32 = ⊤ := by simp [Ideal.ofBits, Ideal.ieee]
theorem inf_bits16 : Ideal.ofBits .bf16 0x7F80#16 = ⊤ := by simp [Ideal.ofBits, Ideal.ieee]

/-- A precondition's test of one array, read back. -/
theorem finite_of_all {s u t : Shape} {axes : List (Fin s.rank)} [Subsingleton t.Idx] (x : FVec Ideal s .f32) (dims : Fin u.rank → Fin s.rank)
    (hb : u.BroadcastsInDim s dims) (one : t.Idx → BitVec 1) (h : s.ReducesTo axes t) (hu : 0 < t.numel) (j : t.Idx)
    (e : Host.reduce IntOp.andi (cmpf .olt (Host.absf x) (broadcastInDim s dims hb (constant u .f32 0x7F800000#32))) one h hu j = 1#1)
    (i : s.Idx) : IsFin (x i) := by
  have := Host.reduce_andi_all _ _ _ _ _ e i
  refine finite_of_abs (Eq.trans ?_ this)
  exact congrArg (Ideal.cmp .olt (max (x i) (-(x i)))) inf_bits.symm

theorem finite_of_all16 {s u t : Shape} {axes : List (Fin s.rank)} [Subsingleton t.Idx] (x : FVec Ideal s .bf16)
    (dims : Fin u.rank → Fin s.rank) (hb : u.BroadcastsInDim s dims) (one : t.Idx → BitVec 1) (h : s.ReducesTo axes t) (hu : 0 < t.numel)
    (j : t.Idx)
    (e : Host.reduce IntOp.andi (cmpf .olt (Host.absf x) (broadcastInDim s dims hb (constant u .bf16 0x7F80#16))) one h hu j = 1#1)
    (i : s.Idx) : IsFin (x i) := by
  have := Host.reduce_andi_all _ _ _ _ _ e i
  refine finite_of_abs (Eq.trans ?_ this)
  exact congrArg (Ideal.cmp .olt (max (x i) (-(x i)))) inf_bits16.symm

/-- The logistic function, as the step's programs compute it. -/
def sigm (x : EReal) : EReal := Ideal.div 1 (1 + Ideal.exp (-x))

theorem sigm_bot : sigm ⊥ = 0 := Ideal.logistic_bot
theorem sigm_top : sigm ⊤ = 1 := Ideal.logistic_top

/-- The logistic function is finite everywhere. -/
theorem sigm_finite (x : EReal) : IsFin (sigm x) := by
  induction x with
  | bot => rw [sigm_bot]; exact .coe 0
  | top => rw [sigm_top]; exact .coe 1
  | coe r => rw [show sigm (r : EReal) = _ from Ideal.logistic_coe r]; exact .coe _

/-- The slope of `g * sigm g` times a finite factor: the two ways of adding its parts. -/
theorem slope_mul {d u : EReal} (g : EReal) (hd : IsFin d) (hu : IsFin u) :
    d * (u * (1 * sigm g + g * 1 * (sigm g * (1 - sigm g)))) = d * u * sigm g + g * (d * u) * (sigm g * (1 - sigm g)) := by
  obtain ⟨a, rfl⟩ := hd.real
  obtain ⟨b, rfl⟩ := hu.real
  induction g with
  | bot => simp [sigm_bot]
  | top =>
    have h : (1 : EReal) - 1 = 0 := by
      rw [← EReal.coe_one, ← EReal.coe_sub]; simp
    simp [sigm_top, h]
  | coe r =>
    obtain ⟨s, hs⟩ := (sigm_finite (r : EReal)).real
    rw [hs, ← EReal.coe_one, ← EReal.coe_sub]
    simp only [← EReal.coe_mul, ← EReal.coe_add]
    congr 1
    ring

end Cert.StepProof
end
-- ==== Proof.FfnDownBwdClaim.lean ====
module

public import proofs.«01_k».proof.Proof.StepMore
public import proofs.«01_k».proof.Proof.Finite
public import proofs.«01_k».proof.Proof.Gen.FfnDownBwdIdeal.Value
public import proofs.«01_k».proof.Proof.Gen.FfnDownBwdRefIdeal.Read
public import proofs.«01_k».proof.Defs
public import Idealize.ShloMosaic.Lib.Pipeline.ValueKit
public import Idealize.ShloMosaic.Lib.Pipeline.ReadBack
public import Idealize.ShloMosaic.Lib.WritesUnit

/-! The gradient of the gated activation and its product with the second weight, at the gate's two halves. -/

@[expose] public section

noncomputable section

namespace Cert.FfnDownBwdProof

open Idealize.ShloMosaic Idealize.SL.Sem Cert.StepProof

/-- What comes back through the second weight to the gated activation. -/
def backAct (d : Arr 16384 1024) (w : Arr 2816 1024) (i : Fin 16384) (j : Fin 2816) : EReal :=
  ∑ k : Fin 1024, d (ix2 i k) * w (ix2 j k)

/-- The gate's argument and the value it gates. -/
def gateOf (h : Arr 16384 5632) (i : Fin 16384) (j : Fin 2816) : EReal := h (ix2 i ⟨j.val, by omega⟩)
def upOf (h : Arr 16384 5632) (i : Fin 16384) (j : Fin 2816) : EReal := h (ix2 i ⟨2816 + j.val, by omega⟩)

/-- The gated activation's derivatives at the gate's argument and at the gated value, as the forward pass keeps them. -/
def slopeGate (h : Arr 16384 5632) (i : Fin 16384) (j : Fin 2816) : EReal :=
  upOf h i j * (1 * sigm (gateOf h i j) + gateOf h i j * 1 * (sigm (gateOf h i j) * (1 - sigm (gateOf h i j))))
def slopeUp (h : Arr 16384 5632) (i : Fin 16384) (j : Fin 2816) : EReal := gateOf h i j * sigm (gateOf h i j)

/-- The gradient, from the kept derivatives. -/
def grad (d : Arr 16384 1024) (w : Arr 2816 1024) (h : Arr 16384 5632) : Arr 16384 5632 := fun y =>
  if hj : (y 1).val < 2816 then backAct d w (y 0) ⟨(y 1).val, hj⟩ * slopeGate h (y 0) ⟨(y 1).val, hj⟩
  else backAct d w (y 0) ⟨(y 1).val - 2816, by have := (y 1).isLt; have : (y 1).val < 5632 := this; omega⟩
    * slopeUp h (y 0) ⟨(y 1).val - 2816, by have := (y 1).isLt; have : (y 1).val < 5632 := this; omega⟩

section kernel
open Cert.FfnDownBwdIdeal Cert.FfnDownBwdIdeal.Gen

variable (m : (ℓ : Loc nD τ sig) → Buf (Elt Ideal) ℓ) (c : Dev nD)

/-- The arguments on device `c`. -/
abbrev argD : Arr 16384 1024 := m ((c.tc : Thread nD τ).loc main_arg0)
abbrev argW : Arr 2816 1024 := m ((c.tc : Thread nD τ).loc main_arg1)
abbrev argH : Arr 16384 5632 := m ((c.tc : Thread nD τ).loc main_arg2)

theorem lt_points (t : Fin cfg0.N) : t.val < 32 := t.isLt

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel

def rowOf (t : Fin cfg0.N) (r : Fin 512) : Fin 16384 := ⟨t.val * 512 + r.val, by have := lt_points t; omega⟩

theorem blk0 (t : Fin cfg0.N) (r : Fin 512) (k : Fin 1024) : iblk m c 0 t (ix2 r k) = argD m c (ix2 (rowOf t r) k) := by
  refine Eq.trans (b := (V m c main_arg0 : Arr 16384 1024) (ix2 (rowOf t r) k)) ?_ (congrFun (V_main_arg0 m c) _)
  blk_ext [iblk, idx0 t, rowOf]

/-- The weight as the call finds it: the argument in the narrow format, the same extended reals. -/
theorem src_weight : (V m c main_v5 : Arr 2816 1024) = argW m c := by
  refine Eq.trans (b := truncf (F := Ideal) .bf16 (m ((c.tc : Thread nD τ).loc main_arg1)) bitsLt_bf16_f32) ?_ rfl
  unfold_abbrev_sides
  simp only [List.flatten_cons, List.flatten_nil, List.append_nil, List.cons_append, List.nil_append]
  after_results

theorem blk1 (t : Fin cfg0.N) (j : Fin 2816) (k : Fin 1024) : iblk m c 1 t (ix2 j k) = argW m c (ix2 j k) := by
  refine Eq.trans (b := (V m c main_v5 : Arr 2816 1024) (ix2 j k)) ?_ (congrFun (src_weight m c) _)
  blk_ext [iblk, idx1 t]

/-- The gate's argument and the gated value as arrays, the array of ones, and the gate's logistic function, as the host computes them. -/
abbrev gateArr : FVec Ideal S16384x2816 .f32 := extractStridedSlice S16384x2816 ![0, 0] (argH m c) slices_S16384x5632_S16384x2816_0_0
abbrev upArr : FVec Ideal S16384x2816 .f32 := extractStridedSlice S16384x2816 ![0, 2816] (argH m c) slices_S16384x5632_S16384x2816_0_2816
abbrev oneArr : FVec Ideal S16384x2816 .f32 := broadcastInDim S16384x2816 ![] bcast_S_S16384x2816 (constant (F := Ideal) S_ .f32 0x3F800000#32)
abbrev sigmArr : FVec Ideal S16384x2816 .f32 := Host.divf oneArr (addf oneArr (Host.exp (Host.negf (gateArr m c))))

/-- What the call finds in the window of the gated value's slope. -/
theorem src_up : (V m c main_v8 : Arr 16384 2816) = fun y => slopeUp (argH m c) (y 0) (y 1) := by
  have h : (V m c main_v8 : Arr 16384 2816) = truncf (F := Ideal) .bf16 (mulf (gateArr m c) (sigmArr m c)) bitsLt_bf16_f32 := by
    unfold_abbrev_sides
    simp only [List.flatten_cons, List.flatten_nil, List.append_nil, List.cons_append, List.nil_append]
    after_results
    rfl
  rw [h]
  funext y
  pointwise
  rfl

theorem src_gate : (V m c main_v7 : Arr 16384 2816) = fun y => slopeGate (argH m c) (y 0) (y 1) := by
  have h : (V m c main_v7 : Arr 16384 2816) = truncf (F := Ideal) .bf16 (mulf (upArr m c) (addf (mulf oneArr (sigmArr m c))
      (mulf (mulf (gateArr m c) oneArr) (mulf (sigmArr m c) (subf oneArr (sigmArr m c)))))) bitsLt_bf16_f32 := by
    unfold_abbrev_sides
    simp only [List.flatten_cons, List.flatten_nil, List.append_nil, List.cons_append, List.nil_append]
    after_results
    rfl
  rw [h]
  funext y
  pointwise [slopeGate, upOf, gateOf]
  rfl

theorem blk2 (t : Fin cfg0.N) (r : Fin 512) (j : Fin 2816) :
    iblk m c 2 t (ix2 r j) = slopeGate (argH m c) (rowOf t r) j := by
  refine Eq.trans (b := (V m c main_v7 : Arr 16384 2816) (ix2 (rowOf t r) j)) ?_ (congrFun (src_gate m c) _)
  blk_ext [iblk, idx2 t, rowOf]

theorem blk3 (t : Fin cfg0.N) (r : Fin 512) (j : Fin 2816) :
    iblk m c 3 t (ix2 r j) = slopeUp (argH m c) (rowOf t r) j := by
  refine Eq.trans (b := (V m c main_v8 : Arr 16384 2816) (ix2 (rowOf t r) j)) ?_ (congrFun (src_up m c) _)
  blk_ext [iblk, idx3 t, rowOf]

/-- The gradient at a column of the left half, and at one of the right. -/
theorem grad_gate (d : Arr 16384 1024) (w : Arr 2816 1024) (h : Arr 16384 5632) (i : Fin 16384) (z : Fin 2816) (q : Fin 5632) (hq : q.val = z.val) :
    (∑ k : Fin 1024, d (ix2 i k) * w (ix2 z k)) * slopeGate h i z = grad d w h (ix2 i q) := by
  obtain ⟨q, hlt⟩ := q
  obtain rfl : q = z.val := hq
  show _ = (if hj : z.val < 2816 then backAct d w i ⟨z.val, hj⟩ * slopeGate h i ⟨z.val, hj⟩ else _)
  rw [dif_pos z.isLt]
  rfl

theorem grad_up (d : Arr 16384 1024) (w : Arr 2816 1024) (h : Arr 16384 5632) (i : Fin 16384) (z : Fin 2816) (q : Fin 5632) (hq : q.val = 2816 + z.val) :
    (∑ k : Fin 1024, d (ix2 i k) * w (ix2 z k)) * slopeUp h i z = grad d w h (ix2 i q) := by
  obtain ⟨q, hlt⟩ := q
  obtain rfl : q = 2816 + z.val := hq
  have hz : (⟨2816 + z.val - 2816, by have := z.isLt; omega⟩ : Fin 2816) = z := Fin.ext (by show 2816 + z.val - 2816 = z.val; omega)
  show _ = (if hj : 2816 + z.val < 2816 then _ else backAct d w i ⟨2816 + z.val - 2816, _⟩ * slopeUp h i ⟨2816 + z.val - 2816, _⟩)
  rw [dif_neg (by omega), hz]
  rfl

theorem block4 (t : Fin cfg0.N) (r : Fin 512) (q : Fin 5632) :
    out0_4 (iblk m c 0 t) (iblk m c 1 t) (iblk m c 2 t) (iblk m c 3 t) (ix2 r q)
      = grad (argD m c) (argW m c) (argH m c) (ix2 (rowOf t r) q) := by
  frame_out
  canon_tiles x h
  all_goals
    obtain ⟨r', j, rfl⟩ : ∃ (r' : Fin 512) (j : Fin 256), x = ix2 r' j := ⟨x 0, x 1, eq_ix2 x⟩
    have hr : r = r' := Fin.ext h0
    subst hr
    simp only [k0_pay36, k0_pay37, k0_pay38, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]
    pointwise [blk0, blk1, blk2, blk3]
    first
      | exact grad_gate _ _ _ _ _ _ h1
      | exact grad_up _ _ _ _ _ _ (by show q.val = 2816 + _; rw [show q.val = _ from h1]; rfl)
      | exact grad_up _ _ _ _ _ _ (by have h2 : q.val = _ + j.val := h1; show q.val = 2816 + (_ + j.val); omega)

/-- The call's result, over its four windows. -/
theorem out4 : (dats m 0 c).arrAt 4 cfg0.N = grad (argD m c) (argW m c) (argH m c) := by
  refine (dats m 0 c).arrAt_eq_of_covers 4 _ (by decide +kernel) fun t hf y => ?_
  blk_simp
  rw [after0_4]
  obtain ⟨r, q, rfl⟩ : ∃ (r : Fin 512) (q : Fin 5632), y = ix2 r q := ⟨y 0, y 1, eq_ix2 y⟩
  refine (block4 m c t r q).trans (congrArg (grad (argD m c) (argW m c) (argH m c)) (?_ : ix2 _ _ = _))
  blk_ext [idx4 t, rowOf]

end kernel

section reference
open Cert.FfnDownBwdRefIdeal Cert.FfnDownBwdRefIdeal.Gen Cert.FfnDownBwdRefIdeal.Read

theorem ref_gate (h : Arr 16384 5632) (i : Fin 16384) (j : Fin 2816) : val_main_v0 (F := Ideal) h (ix2 i j) = gateOf h i j := by
  unfold val_main_v0
  pointwise [gateOf]

theorem ref_up (h : Arr 16384 5632) (i : Fin 16384) (j : Fin 2816) : val_main_v1 (F := Ideal) h (ix2 i j) = upOf h i j := by
  unfold val_main_v1
  pointwise [upOf]

theorem ref_sigm (h : Arr 16384 5632) (i : Fin 16384) (j : Fin 2816) : val_main_v2_2 (F := Ideal) h (ix2 i j) = sigm (gateOf h i j) := by
  rw [← ref_gate]
  unfold val_main_v2_2 val_main_call0_v4 val_main_call0_v3 val_main_call0_v2 val_main_call0_v1 val_main_call0_v0 val_main_call0_cst val_main_call0_cst_0
  generalize val_main_v0 (F := Ideal) h = G
  pointwise [sigm]

theorem ref_back (d : Arr 16384 1024) (w : Arr 2816 1024) (i : Fin 16384) (j : Fin 2816) :
    val_main_v5 (F := Ideal) d w (ix2 i j) = backAct d w i j := by
  unfold val_main_v5
  pointwise [backAct]

/-- The reference's two halves before they are laid side by side. -/
theorem ref_left (d : Arr 16384 1024) (w : Arr 2816 1024) (h : Arr 16384 5632) (i : Fin 16384) (j : Fin 2816)
    (hd : IsFin (backAct d w i j)) (hu : IsFin (upOf h i j)) :
    val_main_v8 (F := Ideal) d w h (ix2 i j) = backAct d w i j * slopeGate h i j := by
  unfold val_main_v8 val_main_call1_v2 val_main_call1_v1 val_main_call1_v0 val_main_v7 val_main_v2_1 val_main_call0_v7 val_main_call0_v6 val_main_call0_cst_1
  pointwise [ref_gate, ref_up, ref_sigm, ref_back]
  exact (slope_mul _ hd hu).symm

theorem ref_right (d : Arr 16384 1024) (w : Arr 2816 1024) (h : Arr 16384 5632) (i : Fin 16384) (j : Fin 2816) :
    val_main_v6 (F := Ideal) d w h (ix2 i j) = backAct d w i j * slopeUp h i j := by
  unfold val_main_v6 val_main_v2_0
  pointwise [ref_gate, ref_sigm, ref_back, slopeUp]
  exact mul_comm _ _

theorem ref_grad (d : Arr 16384 1024) (w : Arr 2816 1024) (h : Arr 16384 5632)
    (hd : ∀ i j, IsFin (backAct d w i j)) (hu : ∀ i j, IsFin (upOf h i j)) : val_main_v10 (F := Ideal) d w h = grad d w h := by
  funext y
  obtain ⟨i, q, rfl⟩ : ∃ (i : Fin 16384) (q : Fin 5632), y = ix2 i q := ⟨y 0, y 1, eq_ix2 y⟩
  unfold val_main_v10 val_main_v9
  have hl := fun j => ref_left d w h i j (hd i j) (hu i j)
  have hr := fun j => ref_right d w h i j
  generalize val_main_v8 (F := Ideal) d w h = L at hl ⊢
  generalize val_main_v6 (F := Ideal) d w h = R at hr ⊢
  pointwise
  split
  · rename_i hq
    exact (hl ⟨q.val, by omega⟩).trans (grad_gate d w h i ⟨q.val, by omega⟩ q rfl)
  · rename_i hq
    refine (hr ⟨q.val - 2816, by omega⟩).trans (grad_up d w h i ⟨q.val - 2816, by omega⟩ q ?_)
    show q.val = 2816 + (q.val - 2816)
    omega

end reference

/-- The facts the precondition's function takes. -/
theorem pre_facts : Cert.Pre_finite_down.Facts where
  slices_S16384x5632_S16384x2816_0_2816 := by decide
  bcast_S_S16384x1024 := by decide
  reducesTo_S16384x1024_S_d0_1 := by decide
  h_S_ := by decide
  bcast_S_S2816x1024 := by decide
  reducesTo_S2816x1024_S_d0_1 := by decide
  bcast_S_S16384x2816 := by decide
  reducesTo_S16384x2816_S_d0_1 := by decide

/-- What the precondition says: the cotangent, the weight and the gated values are finite. -/
theorem pre_read (d : Arr 16384 1024) (w : Arr 2816 1024) (h : Arr 16384 5632)
    (e : @Cert.Pre_finite_down.fn pre_facts Ideal _ d w h = fun _ => 1#1) :
    (∀ i j, IsFin (backAct d w i j)) ∧ ∀ i j, IsFin (upOf h i j) := by
  have e0 := congrFun e ix0
  obtain ⟨e1, eh⟩ := IntOp.andi_eq_one.1 e0
  obtain ⟨e2, ew⟩ := IntOp.andi_eq_one.1 e1
  obtain ⟨_, ed⟩ := IntOp.andi_eq_one.1 e2
  refine ⟨fun i j => IsFin.sum fun k => IsFin.mul ?_ ?_, fun i j => ?_⟩
  · exact finite_of_all _ _ _ _ _ _ _ ed (ix2 i k)
  · exact finite_of_all _ _ _ _ _ _ _ ew (ix2 j k)
  · have := finite_of_all _ _ _ _ _ _ _ eh (ix2 i j)
    revert this
    pointwise [upOf]
    exact id

/-- The reference runs to its end and leaves its arguments and every counter as they were, with the precondition or without. -/
theorem ref_frame : Cert.quiescent_FfnDownBwdRefIdeal (hFfnDownBwdRefIdeal := Cert.FfnDownBwdRefIdeal.Gen.facts) := fun m ρ _ =>
  (θ_run _ _ _).mono (fun r h => ⟨fun c => (h c).2, sem_eq_zero_of_no_sems (by decide) r.2⟩)
    (Cert.FfnDownBwdRefIdeal.Value.run m ρ)

theorem ref_frame_pre : Cert.quiescent_FfnDownBwdRefIdeal_pre_finite_down (hFfnDownBwdRefIdeal := Cert.FfnDownBwdRefIdeal.Gen.facts)
    (hPre_finite_down := pre_facts) := fun m ρ _ => ref_frame m ρ trivial

/-- The call and its reference end with the same array. -/
theorem algebraic :
    Cert.algebraic_FfnDownBwdIdeal_FfnDownBwdRefIdeal (hFfnDownBwdIdeal := Cert.FfnDownBwdIdeal.Gen.facts)
      (hFfnDownBwdRefIdeal := Cert.FfnDownBwdRefIdeal.Gen.facts) (hPre_finite_down := pre_facts) := by
  intro m g m' g' hpre hargs
  refine ⟨fun c => grad (argD m c) (argW m c) (argH m c), ?_, ?_⟩
  · refine (θ_run _ _ _).mono (fun r hr c => ?_) (Cert.FfnDownBwdIdeal.Value.run_blocks m g)
    exact ⟨(hr c).1.trans (out4 m c), (hr c).2⟩
  · refine (θ_run _ _ _).mono (fun r hr c => ?_) (Cert.FfnDownBwdRefIdeal.Value.run m' g')
    obtain ⟨e0, e1, e2⟩ := hargs c
    refine ⟨(hr c).1.trans ((Cert.FfnDownBwdRefIdeal.Read.val_main_v10_eq _ _ _).trans ?_), (hr c).2⟩
    rw [e0, e1, e2]
    obtain ⟨hd, hu⟩ := pre_read _ _ _ (hpre c)
    exact ref_grad _ _ _ hd hu

end Cert.FfnDownBwdProof
end
-- ==== Proof.LnGrad.lean ====
module

public import proofs.«01_k».proof.Proof.NetSpec

/-! The gradient of a row's layer norm: the chain rule through mean, variance and root, and its closed form. -/

@[expose] public section

noncomputable section

namespace Cert.StepProof

open Idealize.ShloMosaic

/-- The mean's divisor. -/
theorem width_bits : Ideal.ofBits .f32 0x44800000#32 = ((1024 : ℝ) : EReal) := by
  simp [Ideal.ofBits, Ideal.ieee, -EReal.coe_mul]
  norm_num

theorem two_bits : Ideal.ofBits .f32 0x40000000#32 = ((2 : ℝ) : EReal) := by
  simp [Ideal.ofBits, Ideal.ieee, -EReal.coe_mul]
  try norm_num

theorem minus_half_bits : Ideal.ofBits .f32 0xBF000000#32 = ((-(1 / 2) : ℝ) : EReal) := by
  simp [Ideal.ofBits, Ideal.ieee, -EReal.coe_mul, -EReal.coe_neg]
  try norm_num

/-- The layer norm's constant is positive. -/
theorem eps_bits : ∃ e : ℝ, 0 < e ∧ Ideal.ofBits .f32 0x3727C5AC#32 = (e : EReal) := by
  simp only [Ideal.ofBits, Ideal.ieee]
  refine ⟨_, ?_, by simp [-EReal.coe_mul]; rfl⟩
  norm_num

/-- A row's variance, raised by the layer norm's constant. -/
def spread (x : Fin 1024 → EReal) : EReal := mean (fun k => dev x k * dev x k) + Ideal.ofBits .f32 0x3727C5AC#32

/-- The closed form: what comes back to the normalised row is `w`, less its mean and its part along the row. -/
def lnGradRow (x w : Fin 1024 → EReal) (j : Fin 1024) : EReal :=
  rstd x * (w j - mean w - dev x j * rstd x * mean (fun k => w k * (dev x k * rstd x)))

/-- What comes back through the variance to one entry's square. -/
def varGrad (x w : Fin 1024 → EReal) : EReal :=
  Ideal.div ((∑ k : Fin 1024, dev x k * w k) * (Ideal.ofBits .f32 0xBF000000#32 * Ideal.div (rstd x) (spread x)))
    (Ideal.ofBits .f32 0x44800000#32)

/-- The chain rule: through the scaled row, through the variance, and through the mean. -/
def lnChainRow (x w : Fin 1024 → EReal) (j : Fin 1024) : EReal :=
  w j * rstd x + varGrad x w * (Ideal.ofBits .f32 0x40000000#32 * dev x j)
    + Ideal.div ((∑ k : Fin 1024, -(w k * rstd x)) + ∑ k : Fin 1024, -(varGrad x w * (Ideal.ofBits .f32 0x40000000#32 * dev x k)))
      (Ideal.ofBits .f32 0x44800000#32)

theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

theorem mean_coe (f : Fin 1024 → ℝ) : mean (fun k => (f k : EReal)) = (((∑ k, f k) / 1024 : ℝ) : EReal) := by
  rw [mean, coe_sum, width_bits, Ideal.div_coe (by norm_num), ← EReal.coe_mul]
  congr 1
  ring

/-- A sum that is finite has finite terms. -/
theorem finite_of_sum {n : ℕ} {f : Fin n → EReal} {s : ℝ} (h : ∑ k, f k = s) (k : Fin n) : f k ≠ ⊤ ∧ f k ≠ ⊥ := by
  rw [← Finset.add_sum_erase _ _ (Finset.mem_univ k)] at h
  generalize ∑ x ∈ Finset.univ.erase k, f x = r at h
  constructor <;> intro hk <;> rw [hk] at h
  · induction r <;> simp at h
  · simp at h

/-- The entries of a row with an infinite one are infinitely far from its mean. -/
theorem dev_infinite {x : Fin 1024 → EReal} (h : ¬ ∀ k, x k ≠ ⊤ ∧ x k ≠ ⊥) (j : Fin 1024) : dev x j = ⊤ ∨ dev x j = ⊥ := by
  have hm : mean x = ⊤ ∨ mean x = ⊥ := by
    rw [mean, width_bits, Ideal.div_coe (by norm_num)]
    generalize hs : ∑ k, x k = s
    induction s with
    | bot => exact .inr (EReal.bot_mul_coe_of_pos (by norm_num))
    | top => exact .inl (EReal.top_mul_coe_of_pos (by norm_num))
    | coe s => exact absurd (finite_of_sum hs) h
  unfold dev
  rcases hm with hm | hm <;> rw [hm]
  · exact .inr (EReal.sub_top _)
  · generalize x j = a
    induction a with
    | bot => exact .inr rfl
    | top => exact .inl rfl
    | coe r => exact .inl (EReal.coe_sub_bot r)

theorem spread_infinite {x : Fin 1024 → EReal} (h : ¬ ∀ k, x k ≠ ⊤ ∧ x k ≠ ⊥) : spread x = ⊤ := by
  have hd : (fun k => dev x k * dev x k) = fun _ => ⊤ := by
    funext k
    rcases dev_infinite h k with hk | hk <;> rw [hk] <;> rfl
  obtain ⟨e, -, he⟩ := eps_bits
  have hs : ∑ _k : Fin 1024, (⊤ : EReal) = ⊤ := by
    rw [← Finset.add_sum_erase _ _ (Finset.mem_univ (0 : Fin 1024))]
    exact EReal.top_add_of_ne_bot (ne_bot_of_le_ne_bot (by simp) (Finset.sum_nonneg fun _ _ => le_top))
  rw [spread, hd, mean, hs, width_bits, Ideal.div_coe (by norm_num), EReal.top_mul_coe_of_pos (by norm_num), he]
  rfl

/-- The two agree on reals. -/
theorem ln_grad_real (x w : Fin 1024 → ℝ) (m r v : ℝ) (hm : m = (∑ k, x k) / 1024) (hr : r * r * v = 1) (j : Fin 1024) :
    w j * r + (∑ k, (x k - m) * w k) * (-(1 / 2) * (r * (1 / v))) * (1 / 1024) * (2 * (x j - m))
        + (∑ k, -(w k * r) + ∑ k, -((∑ k, (x k - m) * w k) * (-(1 / 2) * (r * (1 / v))) * (1 / 1024) * (2 * (x k - m)))) * (1 / 1024)
      = r * (w j - (∑ k, w k) / 1024 - (x j - m) * r * ((∑ k, w k * ((x k - m) * r)) / 1024)) := by
  have hv : v ≠ 0 := by rintro rfl; simp at hr
  have h0 : ∑ k, (x k - m) = 0 := by
    rw [Finset.sum_sub_distrib, hm]; simp; ring
  have h1 : ∑ k, w k * ((x k - m) * r) = (∑ k, (x k - m) * w k) * r := by
    rw [Finset.sum_mul]; exact Finset.sum_congr rfl fun k _ => by ring
  have h2 : ∀ c : ℝ, ∑ k, -(c * (2 * (x k - m))) = 0 := fun c => by
    have : ∑ k, -(c * (2 * (x k - m))) = -(c * 2) * ∑ k, (x k - m) := by
      rw [Finset.mul_sum]; exact Finset.sum_congr rfl fun k _ => by ring
    rw [this, h0, mul_zero]
  have h3 : ∑ k, -(w k * r) = -((∑ k, w k) * r) := by
    rw [Finset.sum_mul, ← Finset.sum_neg_distrib]
  rw [h1, h2, h3]
  have h4 : 1 / v = r * r := by field_simp; linarith
  rw [h4]
  ring

theorem lnChain_eq (x w : Fin 1024 → EReal) (hw : ∀ k, w k ≠ ⊤ ∧ w k ≠ ⊥) (j : Fin 1024) : lnChainRow x w j = lnGradRow x w j := by
  by_cases hx : ∀ k, x k ≠ ⊤ ∧ x k ≠ ⊥
  · obtain ⟨x, rfl⟩ : ∃ x' : Fin 1024 → ℝ, x = fun k => (x' k : EReal) :=
      ⟨fun k => (x k).toReal, funext fun k => (EReal.coe_toReal (hx k).1 (hx k).2).symm⟩
    obtain ⟨w, rfl⟩ : ∃ w' : Fin 1024 → ℝ, w = fun k => (w' k : EReal) :=
      ⟨fun k => (w k).toReal, funext fun k => (EReal.coe_toReal (hw k).1 (hw k).2).symm⟩
    obtain ⟨e, he, heb⟩ := eps_bits
    generalize hm : (∑ k, x k) / 1024 = m
    have hd : dev (fun k => (x k : EReal)) = fun k => ((x k - m : ℝ) : EReal) := by
      funext k
      rw [dev, mean_coe, hm, EReal.coe_sub]
    generalize hv : (∑ k, (x k - m) * (x k - m)) / 1024 + e = v
    have hs : spread (fun k => (x k : EReal)) = (v : EReal) := by
      rw [spread, hd, heb, ← hv, EReal.coe_add, ← mean_coe]
      simp only [EReal.coe_mul]
    have hv0 : 0 < v := by
      rw [← hv]
      have : 0 ≤ ∑ k, (x k - m) * (x k - m) := Finset.sum_nonneg fun k _ => mul_self_nonneg _
      positivity
    have hr : rstd (fun k => (x k : EReal)) = (((Real.sqrt v)⁻¹ : ℝ) : EReal) := by
      show Ideal.rsqrt (spread _) = _
      rw [hs, Ideal.rsqrt_coe, if_neg (by linarith), if_neg (by linarith)]
    have hrv : (Real.sqrt v)⁻¹ * (Real.sqrt v)⁻¹ * v = 1 := by
      rw [← mul_inv, Real.mul_self_sqrt hv0.le, inv_mul_cancel₀ hv0.ne']
    generalize (Real.sqrt v)⁻¹ = r at hr hrv
    have key := ln_grad_real x w m r v hm.symm hrv j
    rw [lnChainRow, lnGradRow, varGrad, hr, hs, hd, width_bits, two_bits, minus_half_bits]
    simp only [Ideal.div_coe (show v ≠ 0 from hv0.ne'), Ideal.div_coe (show (1024 : ℝ) ≠ 0 by norm_num), ← EReal.coe_mul,
      ← EReal.coe_neg, coe_sum, mean_coe, ← EReal.coe_add, ← EReal.coe_sub]
    rw [key]
  · have hr : rstd x = 0 := by
      show Ideal.rsqrt (spread x) = 0
      rw [spread_infinite hx, Ideal.rsqrt_top]
    have hv : varGrad x w = 0 := by
      rw [varGrad, hr, spread_infinite hx]
      simp [Ideal.div, width_bits]
    rw [lnChainRow, lnGradRow, hv, hr]
    simp [Ideal.div, width_bits]

end Cert.StepProof
end
-- ==== Proof.LnBack.lean ====
module

public import proofs.«01_k».proof.Proof.LnGrad
public import proofs.«01_k».proof.Proof.Finite

/-! The layer norm's backward pass on whole arrays, and sums over rows taken in blocks of 512. -/

@[expose] public section

noncomputable section

namespace Cert.StepProof

open Idealize.ShloMosaic

abbrev rowOf {R C : ℕ} (x : Arr R C) (i : Fin R) : Fin C → EReal := fun k => x (ix2 i k)

/-- What comes back to the normalised rows `x` when `dy` comes back to the layer norm with gain `g`. -/
def lnBack (x dy : Arr 16384 1024) (g : Vec1 1024) : Arr 16384 1024 := fun y =>
  lnGradRow (rowOf x (y 0)) (fun k => dy (ix2 (y 0) k) * g (ix1 k)) (y 1)

/-- What comes back to the gain. -/
def gainBack (x dy : Arr 16384 1024) : Arr 1 1024 := fun y =>
  ∑ i : Fin 16384, dy (ix2 i (y 1)) * (dev (rowOf x i) (y 1) * rstd (rowOf x i))

/-- What comes back to the shift. -/
def biasBack {C : ℕ} (dy : Arr 16384 C) : Arr 1 C := fun y => ∑ i : Fin 16384, dy (ix2 i (y 1))

/-- A function on the rows, zero past the last. -/
def onRows (f : Fin 16384 → EReal) (T : ℕ) : EReal := if h : T < 16384 then f ⟨T, h⟩ else 0

theorem onRows_fin (f : Fin 16384 → EReal) (T : Fin 16384) : f T = onRows f T.val :=
  (dif_pos (c := T.val < 16384) (t := fun h => f ⟨T.val, h⟩) (e := fun _ => (0 : EReal)) T.isLt).symm

/-- A block's part of a sum over the rows. -/
def blockPart (f : Fin 16384 → EReal) (b : ℕ) : EReal := ∑ r : Fin 512, onRows f (b * 512 + r.val)

theorem blockPart_at (f : Fin 16384 → EReal) (b : ℕ) (hb : b < 32) :
    blockPart f b = ∑ r : Fin 512, f ⟨b * 512 + r.val, by omega⟩ :=
  Finset.sum_congr rfl fun r _ => (onRows_fin f ⟨b * 512 + r.val, by omega⟩).symm

theorem blockPart_sum (f : Fin 16384 → EReal) : ∑ b ∈ Finset.range 32, blockPart f b = ∑ T, f T := by
  rw [Finset.sum_congr rfl fun T _ => onRows_fin f T, Fin.sum_univ_eq_sum_range (onRows f) 16384,
    show (16384 : ℕ) = 32 * 512 from rfl, Finset.sum_range_mul_split]
  exact Finset.sum_congr rfl fun b _ => Fin.sum_univ_eq_sum_range (fun r => onRows f (b * 512 + r)) 512

end Cert.StepProof
end
-- ==== Proof.UpLnBwdClaim.lean ====
module

public import proofs.«01_k».proof.Proof.LnBack
public import proofs.«01_k».proof.Proof.StepMore
public import proofs.«01_k».proof.Proof.Gen.UpLnBwdIdeal.Value
public import proofs.«01_k».proof.Proof.Gen.UpLnBwdRefIdeal.Read
public import Idealize.ShloMosaic.Lib.Pipeline.ValueKit
public import Idealize.ShloMosaic.Lib.Pipeline.ReadBack
public import Idealize.ShloMosaic.Lib.WritesUnit
public import proofs.«01_k».proof.Defs

/-! The gradient of the feed-forward layer's first product, of its residual branch and of the layer norm before them. -/

@[expose] public section

noncomputable section

namespace Cert.UpLnBwdProof

open Idealize.ShloMosaic Idealize.SL.Sem Cert.StepProof

/-- What comes back to the layer norm's result: through the residual branch and through the product. -/
def dy (h : Arr 16384 5632) (w : Arr 1024 5632) (d : Arr 16384 1024) : Arr 16384 1024 := fun y =>
  alpha * d y + ∑ k : Fin 5632, h (ix2 (y 0) k) * w (ix2 (y 1) k)

section kernel
open Cert.UpLnBwdIdeal Cert.UpLnBwdIdeal.Gen

variable (m : (ℓ : Loc nD τ sig) → Buf (Elt Ideal) ℓ) (c : Dev nD)

/-- The arguments on device `c`. -/
abbrev argH : Arr 16384 5632 := m ((c.tc : Thread nD τ).loc main_arg0)
abbrev argW : Arr 1024 5632 := m ((c.tc : Thread nD τ).loc main_arg1)
abbrev argX : Arr 16384 1024 := m ((c.tc : Thread nD τ).loc main_arg2)
abbrev argD : Arr 16384 1024 := m ((c.tc : Thread nD τ).loc main_arg3)
abbrev argG : Vec1 1024 := m ((c.tc : Thread nD τ).loc main_arg4)
abbrev dyArr : Arr 16384 1024 := dy (argH m c) (argW m c) (argD m c)

theorem lt_points (t : Fin cfg0.N) : t.val < 32 := t.isLt

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![0, 0] := by decide +kernel
theorem idx5 : ∀ t : Fin cfg0.N, win0_5.index t = ![t.val, 0] := by decide +kernel

def row (t : Fin cfg0.N) (r : Fin 512) : Fin 16384 := ⟨t.val * 512 + r.val, by have := lt_points t; omega⟩

theorem blk0 (t : Fin cfg0.N) (r : Fin 512) (k : Fin 5632) : iblk m c 0 t (ix2 r k) = argH m c (ix2 (row t r) k) := by
  refine Eq.trans (b := (V m c main_arg0 : Arr 16384 5632) (ix2 (row t r) k)) ?_ (congrFun (V_main_arg0 m c) _)
  blk_ext [iblk, idx0 t, row]

/-- The weight as the call finds it: the argument in the narrow format, the same extended reals. -/
theorem src_weight : (V m c main_v0 : Arr 1024 5632) = argW m c := by
  refine Eq.trans (b := truncf (F := Ideal) .bf16 (m ((c.tc : Thread nD τ).loc main_arg1)) bitsLt_bf16_f32) ?_ rfl
  simp only [V, hostOps0]
  after_results

theorem blk1 (t : Fin cfg0.N) (j : Fin 1024) (k : Fin 5632) : iblk m c 1 t (ix2 j k) = argW m c (ix2 j k) := by
  refine Eq.trans (b := (V m c main_v0 : Arr 1024 5632) (ix2 j k)) ?_ (congrFun (src_weight m c) _)
  blk_ext [iblk, idx1 t]

theorem blk2 (t : Fin cfg0.N) (r : Fin 512) (k : Fin 1024) : iblk m c 2 t (ix2 r k) = argX m c (ix2 (row t r) k) := by
  refine Eq.trans (b := (V m c main_arg2 : Arr 16384 1024) (ix2 (row t r) k)) ?_ (congrFun (V_main_arg2 m c) _)
  blk_ext [iblk, idx2 t, row]

theorem blk3 (t : Fin cfg0.N) (r : Fin 512) (k : Fin 1024) : iblk m c 3 t (ix2 r k) = argD m c (ix2 (row t r) k) := by
  refine Eq.trans (b := (V m c main_arg3 : Arr 16384 1024) (ix2 (row t r) k)) ?_ (congrFun (V_main_arg3 m c) _)
  blk_ext [iblk, idx3 t, row]

/-- The gain as the call finds it: its entries in one row. -/
theorem src_gain : (V m c main_v1 : Arr 1 1024) = fun y => argG m c (ix1 (y 1)) := by
  refine Eq.trans (b := (shapeCast S1x1024 (m ((c.tc : Thread nD τ).loc main_arg4)) shapeCasts_S1024_S1x1024 : Vec Ideal S1x1024 .f32)) ?_ ?_
  · simp only [V, hostOps0]
    after_results
    rfl
  · funext y
    obtain ⟨i, j, rfl⟩ : ∃ (i : Fin 1) (j : Fin 1024), y = ix2 i j := ⟨y 0, y 1, eq_ix2 y⟩
    pointwise

theorem blk4 (t : Fin cfg0.N) (i : Fin 1) (j : Fin 1024) : iblk m c 4 t (ix2 i j) = argG m c (ix1 j) := by
  refine Eq.trans (b := (V m c main_v1 : Arr 1 1024) (ix2 i j)) ?_ (congrFun (src_gain m c) _)
  blk_ext [iblk, idx4 t]

/-! The body's values at a block. -/

theorem pay_dev (x : Vec Ideal S512x1024 .f32) (r : Fin 512) (j : Fin 1024) : k0_pay7 x (ix2 r j) = dev (fun k => x (ix2 r k)) j := by
  unfold k0_pay7
  pointwise [dev, mean]

theorem pay_rstd (x : Vec Ideal S512x1024 .f32) (r : Fin 512) (i : Fin 1) : k0_pay8 x (ix2 r i) = rstd (fun k => x (ix2 r k)) := by
  unfold k0_pay8
  pointwise [pay_dev, rstd, mean]

theorem pay_hat (x : Vec Ideal S512x1024 .f32) (r : Fin 512) (j : Fin 1024) :
    k0_pay9 x (ix2 r j) = dev (fun k => x (ix2 r k)) j * rstd (fun k => x (ix2 r k)) := by
  unfold k0_pay9
  pointwise [pay_dev, pay_rstd]

theorem pay_dy (t : Fin cfg0.N) (r : Fin 512) (j : Fin 1024) :
    k0_pay6 (iblk m c 3 t) (iblk m c 0 t) (iblk m c 1 t) (ix2 r j) = dyArr m c (ix2 (row t r) j) := by
  unfold k0_pay6
  pointwise [blk0, blk1, blk3, dy, alpha]

theorem pay_scaled (t : Fin cfg0.N) (r : Fin 512) (j : Fin 1024) :
    k0_pay10 (iblk m c 3 t) (iblk m c 4 t) (iblk m c 0 t) (iblk m c 1 t) (ix2 r j)
      = dyArr m c (ix2 (row t r) j) * argG m c (ix1 j) := by
  unfold k0_pay10
  pointwise [pay_dy, blk4]

theorem pay_mean (t : Fin cfg0.N) (r : Fin 512) (i : Fin 1) :
    k0_pay11 (iblk m c 3 t) (iblk m c 4 t) (iblk m c 0 t) (iblk m c 1 t) (ix2 r i)
      = mean fun k => dyArr m c (ix2 (row t r) k) * argG m c (ix1 k) := by
  unfold k0_pay11
  pointwise [pay_scaled, mean]

theorem pay_along (t : Fin cfg0.N) (r : Fin 512) (i : Fin 1) :
    k0_pay12 (iblk m c 2 t) (iblk m c 3 t) (iblk m c 4 t) (iblk m c 0 t) (iblk m c 1 t) (ix2 r i)
      = mean fun k => dyArr m c (ix2 (row t r) k) * argG m c (ix1 k)
          * (dev (rowOf (argX m c) (row t r)) k * rstd (rowOf (argX m c) (row t r))) := by
  unfold k0_pay12
  pointwise [pay_scaled, pay_hat, mean, blk2, rowOf]

/-- The three results' blocks. -/
theorem pay_dr (t : Fin cfg0.N) (r : Fin 512) (j : Fin 1024) :
    k0_pay1 (k0_pay8 (iblk m c 2 t)) (k0_pay9 (iblk m c 2 t)) (k0_pay10 (iblk m c 3 t) (iblk m c 4 t) (iblk m c 0 t) (iblk m c 1 t))
        (k0_pay11 (iblk m c 3 t) (iblk m c 4 t) (iblk m c 0 t) (iblk m c 1 t))
        (k0_pay12 (iblk m c 2 t) (iblk m c 3 t) (iblk m c 4 t) (iblk m c 0 t) (iblk m c 1 t)) (ix2 r j)
      = lnBack (argX m c) (dyArr m c) (argG m c) (ix2 (row t r) j) := by
  unfold k0_pay1
  pointwise [pay_scaled, pay_hat, pay_rstd, pay_mean, pay_along, blk2, rowOf, lnBack, lnGradRow]

def termG (b : ℕ) (j : Fin 1024) : EReal :=
  blockPart (fun T => dyArr m c (ix2 T j) * (dev (rowOf (argX m c) T) j * rstd (rowOf (argX m c) T))) b
def termB (b : ℕ) (j : Fin 1024) : EReal := blockPart (fun T => dyArr m c (ix2 T j)) b

theorem pay_dg (t : Fin cfg0.N) (w : Vec Ideal S1x1024 .f32) (i : Fin 1) (j : Fin 1024) :
    k0_pay4 (k0_pay6 (iblk m c 3 t) (iblk m c 0 t) (iblk m c 1 t)) (k0_pay9 (iblk m c 2 t)) w (ix2 i j) = w (ix2 i j) + termG m c t.val j := by
  rw [termG, blockPart_at _ _ (lt_points t)]
  unfold k0_pay4
  pointwise [pay_dy, pay_hat, blk2, rowOf]
  rfl

theorem pay_db (t : Fin cfg0.N) (w : Vec Ideal S1x1024 .f32) (i : Fin 1) (j : Fin 1024) :
    k0_pay5 (k0_pay6 (iblk m c 3 t) (iblk m c 0 t) (iblk m c 1 t)) w (ix2 i j) = w (ix2 i j) + termB m c t.val j := by
  rw [termB, blockPart_at _ _ (lt_points t)]
  unfold k0_pay5
  pointwise [pay_dy]
  rfl

theorem fillG (i : Fin 1) (j : Fin 1024) : k0_pay2 (F := Ideal) (ix2 i j) = 0 := by
  unfold k0_pay2
  pointwise

theorem fillB (i : Fin 1) (j : Fin 1024) : k0_pay3 (F := Ideal) (ix2 i j) = 0 := by
  unfold k0_pay3
  pointwise

theorem block5 (t : Fin cfg0.N) (r : Fin 512) (j : Fin 1024) :
    (outsAt0 m c t.val t.isLt).1 (ix2 r j) = lnBack (argX m c) (dyArr m c) (argG m c) (ix2 (row t r) j) := by
  by_cases h0 : t.val % 32 = 0
  · rw [outsAt0_A m c t h0]
    frame_out
    exact pay_dr m c t r j
  · rw [outsAt0_B m c t h0]
    frame_out
    exact pay_dr m c t r j

theorem out5 : (dats m 0 c).arrAt 5 cfg0.N = lnBack (argX m c) (dyArr m c) (argG m c) := by
  refine (dats m 0 c).arrAt_eq_of_covers 5 _ (by decide +kernel) fun t hf y => ?_
  blk_simp
  rw [after0_5]
  obtain ⟨r, j, rfl⟩ : ∃ (r : Fin 512) (j : Fin 1024), y = ix2 r j := ⟨y 0, y 1, eq_ix2 y⟩
  refine (block5 m c t r j).trans (congrArg (lnBack (argX m c) (dyArr m c) (argG m c)) (?_ : ix2 _ _ = _))
  blk_ext [idx5 t, row]

theorem start6 (t : Fin cfg0.N) (h0 : t.val % 32 = 0) (i : Fin 1) (j : Fin 1024) :
    (outsAt0 m c t.val t.isLt).2.1 (ix2 i j) = 0 + termG m c t.val j := by
  rw [outsAt0_A m c t h0]
  frame_open
  simp (disch := decide) only [↓ View.readCov_skip, ↓ View.readCov_cons_toLoadRect, ↓ View.readCov_fill]
  frame_out
  refine (pay_dg m c t _ i j).trans ?_
  rw [fillG]

theorem step6 (t : Fin cfg0.N) (h0 : ¬ t.val % 32 = 0) (i : Fin 1) (j : Fin 1024) :
    (outsAt0 m c t.val t.isLt).2.1 (ix2 i j)
      = (outsAt0 m c (t.val - 1) (Nat.lt_of_le_of_lt (Nat.sub_le _ _) t.isLt)).2.1 (ix2 i j) + termG m c t.val j := by
  rw [outsAt0_B m c t h0]
  frame_out
  exact pay_dg m c t _ i j

theorem start7 (t : Fin cfg0.N) (h0 : t.val % 32 = 0) (i : Fin 1) (j : Fin 1024) :
    (outsAt0 m c t.val t.isLt).2.2 (ix2 i j) = 0 + termB m c t.val j := by
  rw [outsAt0_A m c t h0]
  frame_open
  simp (disch := decide) only [↓ View.readCov_skip, ↓ View.readCov_cons_toLoadRect, ↓ View.readCov_fill]
  frame_out
  refine (pay_db m c t _ i j).trans ?_
  rw [fillB]

theorem step7 (t : Fin cfg0.N) (h0 : ¬ t.val % 32 = 0) (i : Fin 1) (j : Fin 1024) :
    (outsAt0 m c t.val t.isLt).2.2 (ix2 i j)
      = (outsAt0 m c (t.val - 1) (Nat.lt_of_le_of_lt (Nat.sub_le _ _) t.isLt)).2.2 (ix2 i j) + termB m c t.val j := by
  rw [outsAt0_B m c t h0]
  frame_out
  exact pay_db m c t _ i j

/-- The grid's last point. -/
def tEnd : Fin cfg0.N := ⟨31, by decide +kernel⟩

theorem sum6 (i : Fin 1) (j : Fin 1024) :
    (outsAt0 m c tEnd.val tEnd.isLt).2.1 (ix2 i j) = gainBack (argX m c) (dyArr m c) (ix2 i j) := by
  have h := Pipeline.eq_sum_of_reset_step_apply_single (M := EReal) (fun n h => ((outsAt0 m c n h).2.1 : S1x1024.Idx → EReal)) 32 0
    (fun b y => termG m c b (y 1))
    (fun t h0 y => by
      obtain ⟨i, j, rfl⟩ : ∃ (i : Fin 1) (j : Fin 1024), y = ix2 i j := ⟨y 0, y 1, eq_ix2 y⟩
      exact start6 m c t h0 i j)
    (fun t h0 y => by
      obtain ⟨i, j, rfl⟩ : ∃ (i : Fin 1) (j : Fin 1024), y = ix2 i j := ⟨y 0, y 1, eq_ix2 y⟩
      exact step6 m c t h0 i j)
    (by decide +kernel) tEnd (ix2 i j)
  exact (h.trans (zero_add _)).trans (blockPart_sum _)

theorem sum7 (i : Fin 1) (j : Fin 1024) :
    (outsAt0 m c tEnd.val tEnd.isLt).2.2 (ix2 i j) = biasBack (dyArr m c) (ix2 i j) := by
  have h := Pipeline.eq_sum_of_reset_step_apply_single (M := EReal) (fun n h => ((outsAt0 m c n h).2.2 : S1x1024.Idx → EReal)) 32 0
    (fun b y => termB m c b (y 1))
    (fun t h0 y => by
      obtain ⟨i, j, rfl⟩ : ∃ (i : Fin 1) (j : Fin 1024), y = ix2 i j := ⟨y 0, y 1, eq_ix2 y⟩
      exact start7 m c t h0 i j)
    (fun t h0 y => by
      obtain ⟨i, j, rfl⟩ : ∃ (i : Fin 1) (j : Fin 1024), y = ix2 i j := ⟨y 0, y 1, eq_ix2 y⟩
      exact step7 m c t h0 i j)
    (by decide +kernel) tEnd (ix2 i j)
  exact (h.trans (zero_add _)).trans (blockPart_sum _)

theorem out6 : (dats m 0 c).arrAt 6 cfg0.N = gainBack (argX m c) (dyArr m c) := by
  refine (dats m 0 c).arrAt_eq_of_after_last 6 tEnd (by decide +kernel) _ fun y => ?_
  blk_simp
  rw [after0_6]
  obtain ⟨i, j, rfl⟩ : ∃ (i : Fin 1) (j : Fin 1024), y = ix2 i j := ⟨y 0, y 1, eq_ix2 y⟩
  exact sum6 m c i j

theorem out7 : (dats m 0 c).arrAt 7 cfg0.N = biasBack (dyArr m c) := by
  refine (dats m 0 c).arrAt_eq_of_after_last 7 tEnd (by decide +kernel) _ fun y => ?_
  blk_simp
  rw [after0_7]
  obtain ⟨i, j, rfl⟩ : ∃ (i : Fin 1) (j : Fin 1024), y = ix2 i j := ⟨y 0, y 1, eq_ix2 y⟩
  exact sum7 m c i j

end kernel

section reference
open Cert.UpLnBwdRefIdeal Cert.UpLnBwdRefIdeal.Gen Cert.UpLnBwdRefIdeal.Read

variable (h : Arr 16384 5632) (w : Arr 1024 5632) (x d : Arr 16384 1024) (g : Vec1 1024) (i : Fin 16384) (j : Fin 1024) (z : Fin 1)

theorem ref_mean : val_main_v4 (F := Ideal) x (ix2 i z) = mean (rowOf x i) := by
  unfold val_main_v4 val_main_v3 val_main_v2 val_main_v1 val_main_cst_1 val_main_cst_0
  pointwise [mean, rowOf]

theorem ref_dev : val_main_v6 (F := Ideal) x (ix2 i j) = dev (rowOf x i) j := by
  unfold val_main_v6 val_main_v5
  pointwise [ref_mean, dev]

theorem ref_dev' : val_main_v15 (F := Ideal) x (ix2 i j) = dev (rowOf x i) j := by
  unfold val_main_v15 val_main_v14
  pointwise [ref_mean, dev]

theorem ref_spread : val_main_v17 (F := Ideal) x (ix2 i z) = spread (rowOf x i) := by
  unfold val_main_v17 val_main_v16 val_main_v13 val_main_v12 val_main_v11 val_main_v10 val_main_v7 val_main_cst_5 val_main_cst_4 val_main_cst_3
  pointwise [ref_dev, spread, mean]

theorem ref_rstd : val_main_v18 (F := Ideal) x (ix2 i z) = rstd (rowOf x i) := by
  unfold val_main_v18
  pointwise [ref_spread]
  rfl

theorem ref_hat : val_main_v23 (F := Ideal) x (ix2 i j) = dev (rowOf x i) j * rstd (rowOf x i) := by
  unfold val_main_v23 val_main_v22
  pointwise [ref_dev', ref_rstd]

theorem ref_dy : val_main_v37 (F := Ideal) h w d (ix2 i j) = dy h w d (ix2 i j) := by
  refine Eq.trans ?_ (add_comm _ _)
  unfold val_main_v37 val_main_v36 val_main_v35 val_main_v34 val_main_v33 val_main_cst_8
  pointwise [alpha]

theorem ref_scaled : val_main_v45 (F := Ideal) h w d g (ix2 i j) = dy h w d (ix2 i j) * g (ix1 j) := by
  unfold val_main_v45 val_main_v44 val_main_v24
  pointwise [ref_dy]

theorem ref_varGrad : val_main_v58 (F := Ideal) h w x d g (ix1 i) = varGrad (rowOf x i) (fun k => dy h w d (ix2 i k) * g (ix1 k)) := by
  unfold val_main_v58 val_main_v57 val_main_v56 val_main_v52 val_main_v49 val_main_v48 val_main_v47 val_main_v21 val_main_v20 val_main_v19 val_main_cst_16 val_main_cst_15 val_main_cst_13 val_main_cst_6
  pointwise [ref_dev', ref_scaled, ref_rstd, ref_spread, varGrad]
  exact Fin.sum_univ_one _

theorem ref_dr : val_main_v70 (F := Ideal) h w x d g (ix2 i j) = lnChainRow (rowOf x i) (fun k => dy h w d (ix2 i k) * g (ix1 k)) j := by
  unfold val_main_v70 val_main_v69 val_main_v68 val_main_v67 val_main_v66 val_main_v65 val_main_v64 val_main_v63 val_main_v62 val_main_v61 val_main_v60 val_main_v59 val_main_v55 val_main_v54 val_main_v53 val_main_v51 val_main_v50 val_main_v9 val_main_v8 val_main_cst_19 val_main_cst_18 val_main_cst_17 val_main_cst_14 val_main_cst_2
  pointwise [ref_dev, ref_scaled, ref_rstd, ref_varGrad, lnChainRow]
  exact congrArg (_ + ·) (Fin.sum_univ_one _)

theorem ref_dg : val_main_v71 (F := Ideal) h w x d (ix2 z j) = gainBack x (dy h w d) (ix2 z j) := by
  refine Eq.trans ?_ (Finset.sum_congr rfl fun i _ => mul_comm _ _)
  unfold val_main_v71 val_main_v46 val_main_v43 val_main_v42 val_main_v41 val_main_cst_11 val_main_cst_12
  pointwise [ref_hat, ref_dy]
  exact Fin.sum_univ_one _

theorem ref_db : val_main_v72 (F := Ideal) h w d (ix2 z j) = biasBack (dy h w d) (ix2 z j) := by
  unfold val_main_v72 val_main_v40 val_main_v39 val_main_v38 val_main_cst_9 val_main_cst_10
  pointwise [ref_dy, biasBack]
  exact Fin.sum_univ_one _

end reference

/-- The facts the precondition's function takes. -/
theorem pre_facts : Cert.Pre_finite_up.Facts where
  bcast_S_S16384x5632 := by decide
  reducesTo_S16384x5632_S_d0_1 := by decide
  h_S_ := by decide
  bcast_S_S1024x5632 := by decide
  reducesTo_S1024x5632_S_d0_1 := by decide
  bcast_S_S16384x1024 := by decide
  reducesTo_S16384x1024_S_d0_1 := by decide
  bcast_S_S1024 := by decide
  reducesTo_S1024_S_d0 := by decide

theorem alpha_finite : IsFin alpha := by
  constructor <;> simp [alpha, FloatOps.ofBits, Ideal.ofBits, Ideal.ieee]
  · exact (IsFin.mul (.coe _) (.coe _)).1
  · exact (IsFin.mul (.coe _) (.coe _)).2

/-- What the precondition says: what comes back to each normalised row is finite. -/
theorem pre_read (h : Arr 16384 5632) (w : Arr 1024 5632) (x d : Arr 16384 1024) (g : Vec1 1024)
    (e : @Cert.Pre_finite_up.fn pre_facts Ideal _ h w x d g = fun _ => 1#1) :
    ∀ i j, IsFin (dy h w d (ix2 i j) * g (ix1 j)) := by
  have e0 := congrFun e ix0
  obtain ⟨e1, eg⟩ := IntOp.andi_eq_one.1 e0
  obtain ⟨e2, ed⟩ := IntOp.andi_eq_one.1 e1
  obtain ⟨e3, ew⟩ := IntOp.andi_eq_one.1 e2
  obtain ⟨_, eh⟩ := IntOp.andi_eq_one.1 e3
  refine fun i j => IsFin.mul (IsFin.add (IsFin.mul ?_ ?_) (IsFin.sum fun k => IsFin.mul ?_ ?_)) ?_
  · exact alpha_finite
  · exact finite_of_all _ _ _ _ _ _ _ ed (ix2 i j)
  · exact finite_of_all16 _ _ _ _ _ _ _ eh (ix2 i _)
  · exact finite_of_all _ _ _ _ _ _ _ ew (ix2 j _)
  · exact finite_of_all _ _ _ _ _ _ _ eg (ix1 j)

/-- The reference runs to its end and leaves its arguments and every counter as they were, with the precondition or without. -/
theorem ref_frame : Cert.quiescent_UpLnBwdRefIdeal (hUpLnBwdRefIdeal := Cert.UpLnBwdRefIdeal.Gen.facts) := fun m ρ _ =>
  (θ_run _ _ _).mono (fun r h => ⟨fun c => (h c).2.2.2, sem_eq_zero_of_no_sems (by decide) r.2⟩)
    (Cert.UpLnBwdRefIdeal.Value.run m ρ)

theorem ref_frame_pre : Cert.quiescent_UpLnBwdRefIdeal_pre_finite_up (hUpLnBwdRefIdeal := Cert.UpLnBwdRefIdeal.Gen.facts)
    (hPre_finite_up := pre_facts) := fun m ρ _ => ref_frame m ρ trivial

/-- The call and its reference end with the same three arrays. -/
theorem algebraic :
    Cert.algebraic_UpLnBwdIdeal_UpLnBwdRefIdeal (hUpLnBwdIdeal := Cert.UpLnBwdIdeal.Gen.facts)
      (hUpLnBwdRefIdeal := Cert.UpLnBwdRefIdeal.Gen.facts) (hPre_finite_up := pre_facts) := by
  intro m g m' g' hpre hargs
  refine ⟨fun c => lnBack (argX m c) (dyArr m c) (argG m c), fun c => gainBack (argX m c) (dyArr m c), fun c => biasBack (dyArr m c), ?_, ?_⟩
  · refine (θ_run _ _ _).mono (fun r hr c => ?_) (Cert.UpLnBwdIdeal.Value.run_blocks m g)
    exact ⟨(hr c).1.trans (out5 m c), (hr c).2.1.trans (out6 m c), (hr c).2.2.1.trans (out7 m c), (hr c).2.2.2⟩
  · refine (θ_run _ _ _).mono (fun r hr c => ?_) (Cert.UpLnBwdRefIdeal.Value.run m' g')
    obtain ⟨e0, e1, e2, e3, e4⟩ := hargs c
    refine ⟨(hr c).1.trans ((Cert.UpLnBwdRefIdeal.Read.val_main_v70_eq m' c).trans ?_),
      (hr c).2.1.trans ((Cert.UpLnBwdRefIdeal.Read.val_main_v71_eq _ _ _ _).trans ?_),
      (hr c).2.2.1.trans ((Cert.UpLnBwdRefIdeal.Read.val_main_v72_eq _ _ _).trans ?_), (hr c).2.2.2⟩
    · rw [e0, e1, e2, e3, e4]
      funext y
      obtain ⟨i, j, rfl⟩ : ∃ (i : Fin 16384) (j : Fin 1024), y = ix2 i j := ⟨y 0, y 1, eq_ix2 y⟩
      exact (ref_dr _ _ _ _ _ i j).trans (lnChain_eq _ _ (fun k => pre_read _ _ _ _ _ (hpre c) i k) j)
    · rw [e0, e1, e2, e3]
      funext y
      obtain ⟨i, j, rfl⟩ : ∃ (i : Fin 1) (j : Fin 1024), y = ix2 i j := ⟨y 0, y 1, eq_ix2 y⟩
      exact ref_dg _ _ _ _ _ _
    · rw [e0, e1, e3]
      funext y
      obtain ⟨i, j, rfl⟩ : ∃ (i : Fin 1) (j : Fin 1024), y = ix2 i j := ⟨y 0, y 1, eq_ix2 y⟩
      exact ref_db _ _ _ _ _

end Cert.UpLnBwdProof
end
-- ==== Proof.PleLnBwdClaim.lean ====
module

public import proofs.«01_k».proof.Proof.LnBack
public import proofs.«01_k».proof.Proof.StepMore
public import proofs.«01_k».proof.Proof.Gen.PleLnBwdIdeal.Value
public import proofs.«01_k».proof.Proof.Gen.PleLnBwdRefIdeal.Read
public import Idealize.ShloMosaic.Lib.Pipeline.ValueKit
public import Idealize.ShloMosaic.Lib.Pipeline.ReadBack
public import Idealize.ShloMosaic.Lib.WritesUnit
public import proofs.«01_k».proof.Defs

/-! The gradient of the gated embedding, of the gate's residual branch and of the layer norm the gate reads. -/

@[expose] public section

noncomputable section

namespace Cert.PleLnBwdProof

open Idealize.ShloMosaic Idealize.SL.Sem Cert.StepProof

/-- The gate: the logistic function of a product of the normalised rows, with a bias. -/
def gateArr (x : Arr 16384 1024) (g b : Vec1 1024) (w : Arr 1024 1024) (s : Vec1 1024) : Arr 16384 1024 := fun y =>
  sigm ((∑ k : Fin 1024, layerNorm x g b (ix2 (y 0) k) * w (ix2 k (y 1))) + s (ix1 (y 1)))

/-- The embedding's product. -/
def embed (p : Arr 16384 256) (q : Arr 256 1024) : Arr 16384 1024 := fun y => ∑ k : Fin 256, p (ix2 (y 0) k) * q (ix2 k (y 1))

/-- The gradient of the gate before its logistic function. -/
def dz (d e s : Arr 16384 1024) : Arr 16384 1024 := fun y => d y * e y * s y * (1 - s y)

/-- The gradient of the embedding. -/
def dpp (d s : Arr 16384 1024) : Arr 16384 1024 := fun y => d y * s y

/-- What comes back to the layer norm's result: through the residual branch and through the gate's product. -/
def dy (d a : Arr 16384 1024) (w : Arr 1024 1024) : Arr 16384 1024 := fun y =>
  d y + ∑ k : Fin 1024, a (ix2 (y 0) k) * w (ix2 (y 1) k)

section reference
open Cert.PleLnBwdRefIdeal Cert.PleLnBwdRefIdeal.Gen Cert.PleLnBwdRefIdeal.Read

variable (d : Arr 16384 1024) (p : Arr 16384 256) (q : Arr 256 1024) (x : Arr 16384 1024) (g b : Vec1 1024) (w : Arr 1024 1024)
  (s : Vec1 1024) (i : Fin 16384) (j : Fin 1024) (z : Fin 1)

theorem ref_mean : val_main_v3 (F := Ideal) x (ix2 i z) = mean (rowOf x i) := by
  unfold val_main_v3 val_main_v2 val_main_v1 val_main_v0 val_main_cst val_main_cst_0
  pointwise [mean, rowOf]

theorem ref_dev : val_main_v5 (F := Ideal) x (ix2 i j) = dev (rowOf x i) j := by
  unfold val_main_v5 val_main_v4
  pointwise [ref_mean, dev]

theorem ref_dev' : val_main_v14 (F := Ideal) x (ix2 i j) = dev (rowOf x i) j := by
  unfold val_main_v14 val_main_v13
  pointwise [ref_mean, dev]

theorem ref_spread : val_main_v16 (F := Ideal) x (ix2 i z) = spread (rowOf x i) := by
  unfold val_main_v16 val_main_v15 val_main_v12 val_main_v11 val_main_v10 val_main_v9 val_main_v6 val_main_cst_4 val_main_cst_3 val_main_cst_2
  pointwise [ref_dev, spread, mean]

theorem ref_rstd : val_main_v17 (F := Ideal) x (ix2 i z) = rstd (rowOf x i) := by
  unfold val_main_v17
  pointwise [ref_spread]
  rfl

theorem ref_hat : val_main_v22 (F := Ideal) x (ix2 i j) = dev (rowOf x i) j * rstd (rowOf x i) := by
  unfold val_main_v22 val_main_v21
  pointwise [ref_dev', ref_rstd]

theorem ref_norm : val_main_v28 (F := Ideal) x g b (ix2 i j) = layerNorm x g b (ix2 i j) := by
  unfold val_main_v28 val_main_v27 val_main_v26 val_main_v25 val_main_v24 val_main_v23
  pointwise [ref_hat]
  rfl

theorem ref_gate : val_main_v39 (F := Ideal) x g b w s (ix2 i j) = gateArr x g b w s (ix2 i j) := by
  unfold val_main_v39 val_main_v38 val_main_v37 val_main_v36 val_main_v35 val_main_v34 val_main_v32 val_main_v31 val_main_v30 val_main_v29 val_main_cst_6 val_main_cst_7
  pointwise [ref_norm, gateArr, sigm]

theorem ref_embed : val_main_v33 (F := Ideal) p q (ix2 i j) = embed p q (ix2 i j) := by
  unfold val_main_v33
  pointwise [embed]

theorem ref_dz : val_main_v49 (F := Ideal) d p q x g b w s (ix2 i j) = dz d (embed p q) (gateArr x g b w s) (ix2 i j) := by
  refine Eq.trans ?_ (mul_assoc _ _ _).symm
  unfold val_main_v49 val_main_v48 val_main_v46 val_main_v42 val_main_v41 val_main_v40 val_main_cst_8
  pointwise [ref_gate, ref_embed]

theorem ref_dpp : val_main_v89 (F := Ideal) d x g b w s (ix2 i j) = dpp d (gateArr x g b w s) (ix2 i j) := by
  refine Eq.trans ?_ (mul_comm _ _)
  unfold val_main_v89 val_main_v47 val_main_v46
  pointwise [ref_gate]

theorem ref_dz16 : val_main_v88 (F := Ideal) d p q x g b w s (ix2 i j) = dz d (embed p q) (gateArr x g b w s) (ix2 i j) := by
  unfold val_main_v88
  pointwise [ref_dz]

theorem ref_dy : val_main_v54 (F := Ideal) d p q x g b w s (ix2 i j) = dy d (dz d (embed p q) (gateArr x g b w s)) w (ix2 i j) := by
  unfold val_main_v54 val_main_v53 val_main_v45
  pointwise [ref_dz, dy]

theorem ref_scaled : val_main_v62 (F := Ideal) d p q x g b w s (ix2 i j)
    = dy d (dz d (embed p q) (gateArr x g b w s)) w (ix2 i j) * g (ix1 j) := by
  unfold val_main_v62 val_main_v61 val_main_v23
  pointwise [ref_dy]

theorem ref_varGrad : val_main_v75 (F := Ideal) d p q x g b w s (ix1 i)
    = varGrad (rowOf x i) (fun k => dy d (dz d (embed p q) (gateArr x g b w s)) w (ix2 i k) * g (ix1 k)) := by
  unfold val_main_v75 val_main_v74 val_main_v73 val_main_v69 val_main_v66 val_main_v65 val_main_v64 val_main_v20 val_main_v19 val_main_v18 val_main_cst_18 val_main_cst_17 val_main_cst_15 val_main_cst_5
  pointwise [ref_dev', ref_scaled, ref_rstd, ref_spread, varGrad]
  exact Fin.sum_univ_one _

theorem ref_dr : val_main_v87 (F := Ideal) d p q x g b w s (ix2 i j)
    = lnChainRow (rowOf x i) (fun k => dy d (dz d (embed p q) (gateArr x g b w s)) w (ix2 i k) * g (ix1 k)) j := by
  unfold val_main_v87 val_main_v86 val_main_v85 val_main_v84 val_main_v83 val_main_v82 val_main_v81 val_main_v80 val_main_v79 val_main_v78 val_main_v77 val_main_v76 val_main_v72 val_main_v71 val_main_v70 val_main_v68 val_main_v67 val_main_v8 val_main_v7 val_main_cst_21 val_main_cst_20 val_main_cst_19 val_main_cst_16 val_main_cst_1
  pointwise [ref_dev, ref_scaled, ref_rstd, ref_varGrad, lnChainRow]
  exact congrArg (_ + ·) (Fin.sum_univ_one _)

theorem ref_dbg : val_main_v90 (F := Ideal) d p q x g b w s (ix2 z j) = biasBack (dz d (embed p q) (gateArr x g b w s)) (ix2 z j) := by
  unfold val_main_v90 val_main_v52 val_main_v51 val_main_v50 val_main_cst_9 val_main_cst_10
  pointwise [ref_dz, biasBack]
  exact Fin.sum_univ_one _

theorem ref_dg : val_main_v91 (F := Ideal) d p q x g b w s (ix2 z j)
    = gainBack x (dy d (dz d (embed p q) (gateArr x g b w s)) w) (ix2 z j) := by
  refine Eq.trans ?_ (Finset.sum_congr rfl fun i _ => mul_comm _ _)
  unfold val_main_v91 val_main_v63 val_main_v60 val_main_v59 val_main_v58 val_main_cst_13 val_main_cst_14
  pointwise [ref_hat, ref_dy]
  exact Fin.sum_univ_one _

theorem ref_db : val_main_v92 (F := Ideal) d p q x g b w s (ix2 z j) = biasBack (dy d (dz d (embed p q) (gateArr x g b w s)) w) (ix2 z j) := by
  unfold val_main_v92 val_main_v57 val_main_v56 val_main_v55 val_main_cst_11 val_main_cst_12
  pointwise [ref_dy, biasBack]
  exact Fin.sum_univ_one _

end reference

section kernel
open Cert.PleLnBwdIdeal Cert.PleLnBwdIdeal.Gen

variable (m : (ℓ : Loc nD τ sig) → Buf (Elt Ideal) ℓ) (c : Dev nD)

/-- The arguments on device `c`. -/
abbrev argD : Arr 16384 1024 := m ((c.tc : Thread nD τ).loc main_arg0)
abbrev argP : Arr 16384 256 := m ((c.tc : Thread nD τ).loc main_arg1)
abbrev argQ : Arr 256 1024 := m ((c.tc : Thread nD τ).loc main_arg2)
abbrev argX : Arr 16384 1024 := m ((c.tc : Thread nD τ).loc main_arg3)
abbrev argG : Vec1 1024 := m ((c.tc : Thread nD τ).loc main_arg4)
abbrev argB : Vec1 1024 := m ((c.tc : Thread nD τ).loc main_arg5)
abbrev argW : Arr 1024 1024 := m ((c.tc : Thread nD τ).loc main_arg6)
abbrev argS : Vec1 1024 := m ((c.tc : Thread nD τ).loc main_arg7)
def gateOf : Arr 16384 1024 := gateArr (argX m c) (argG m c) (argB m c) (argW m c) (argS m c)
def embedOf : Arr 16384 1024 := embed (argP m c) (argQ m c)
def dzOf : Arr 16384 1024 := dz (argD m c) (embedOf m c) (gateOf m c)
def dyOf : Arr 16384 1024 := dy (argD m c) (dzOf m c) (argW m c)

theorem lt_points (t : Fin cfg0.N) : t.val < 32 := t.isLt

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel

def row (t : Fin cfg0.N) (r : Fin 512) : Fin 16384 := ⟨t.val * 512 + r.val, by have := lt_points t; omega⟩

/-- The gate as the call finds it: the reference's gate in the narrow format. -/
theorem src_gate : (V m c main_v34 : Arr 16384 1024) = gateOf m c := by
  refine Eq.trans (b := (truncf (F := Ideal) .bf16 (Cert.PleLnBwdRefIdeal.Read.val_main_v39 (F := Ideal)
    (argX m c) (argG m c) (argB m c) (argW m c) (argS m c)) bitsLt_bf16_f32 : Arr 16384 1024)) ?_ ?_
  · simp only [V, hostOps0]
    after_results
    rfl
  · funext y
    obtain ⟨i, j, rfl⟩ : ∃ (i : Fin 16384) (j : Fin 1024), y = ix2 i j := ⟨y 0, y 1, eq_ix2 y⟩
    exact ref_gate _ _ _ _ _ i j

/-- The embedding as the call finds it. -/
theorem src_embed : (V m c main_v36 : Arr 16384 1024) = embedOf m c := by
  refine Eq.trans (b := (truncf (F := Ideal) .bf16 (Cert.PleLnBwdRefIdeal.Read.val_main_v33 (F := Ideal)
    (argP m c) (argQ m c)) bitsLt_bf16_f32 : Arr 16384 1024)) ?_ ?_
  · simp only [V, hostOps0]
    after_results
    rfl
  · funext y
    obtain ⟨i, j, rfl⟩ : ∃ (i : Fin 16384) (j : Fin 1024), y = ix2 i j := ⟨y 0, y 1, eq_ix2 y⟩
    exact ref_embed _ _ i j

/-- The weight as the call finds it: the argument in the narrow format, the same extended reals. -/
theorem src_weight : (V m c main_v37 : Arr 1024 1024) = argW m c := by
  refine Eq.trans (b := truncf (F := Ideal) .bf16 (m ((c.tc : Thread nD τ).loc main_arg6)) bitsLt_bf16_f32) ?_ rfl
  simp only [V, hostOps0]
  after_results

/-- The gain as the call finds it: its entries in one row. -/
theorem src_gain : (V m c main_v38 : Arr 1 1024) = fun y => argG m c (ix1 (y 1)) := by
  refine Eq.trans (b := (shapeCast S1x1024 (m ((c.tc : Thread nD τ).loc main_arg4)) shapeCasts_S1024_S1x1024 : Vec Ideal S1x1024 .f32)) ?_ ?_
  · simp only [V, hostOps0]
    after_results
    rfl
  · funext y
    obtain ⟨i, j, rfl⟩ : ∃ (i : Fin 1) (j : Fin 1024), y = ix2 i j := ⟨y 0, y 1, eq_ix2 y⟩
    pointwise

theorem blk0 (t : Fin cfg0.N) (r : Fin 512) (k : Fin 1024) : iblk m c 0 t (ix2 r k) = argD m c (ix2 (row t r) k) := by
  refine Eq.trans (b := (V m c main_arg0 : Arr 16384 1024) (ix2 (row t r) k)) ?_ (congrFun (V_main_arg0 m c) _)
  blk_ext [iblk, idx0 t, row]

theorem blk1 (t : Fin cfg0.N) (r : Fin 512) (k : Fin 1024) : iblk m c 1 t (ix2 r k) = gateOf m c (ix2 (row t r) k) := by
  refine Eq.trans (b := (V m c main_v34 : Arr 16384 1024) (ix2 (row t r) k)) ?_ (congrFun (src_gate m c) _)
  blk_ext [iblk, idx1 t, row]

theorem blk2 (t : Fin cfg0.N) (r : Fin 512) (k : Fin 1024) : iblk m c 2 t (ix2 r k) = embedOf m c (ix2 (row t r) k) := by
  refine Eq.trans (b := (V m c main_v36 : Arr 16384 1024) (ix2 (row t r) k)) ?_ (congrFun (src_embed m c) _)
  blk_ext [iblk, idx2 t, row]

theorem blk3 (t : Fin cfg0.N) (r : Fin 512) (k : Fin 1024) : iblk m c 3 t (ix2 r k) = argX m c (ix2 (row t r) k) := by
  refine Eq.trans (b := (V m c main_arg3 : Arr 16384 1024) (ix2 (row t r) k)) ?_ (congrFun (V_main_arg3 m c) _)
  blk_ext [iblk, idx3 t, row]

theorem blk4 (t : Fin cfg0.N) (j k : Fin 1024) : iblk m c 4 t (ix2 j k) = argW m c (ix2 j k) := by
  refine Eq.trans (b := (V m c main_v37 : Arr 1024 1024) (ix2 j k)) ?_ (congrFun (src_weight m c) _)
  blk_ext [iblk, idx4 t]

theorem blk5 (t : Fin cfg0.N) (i : Fin 1) (j : Fin 1024) : iblk m c 5 t (ix2 i j) = argG m c (ix1 j) := by
  refine Eq.trans (b := (V m c main_v38 : Arr 1 1024) (ix2 i j)) ?_ (congrFun (src_gain m c) _)
  blk_ext [iblk, idx5 t]

/-! The body's values at a block. -/

theorem pay_dev (x : Vec Ideal S512x1024 .f32) (r : Fin 512) (j : Fin 1024) : k0_pay12 x (ix2 r j) = dev (fun k => x (ix2 r k)) j := by
  unfold k0_pay12
  pointwise [dev, mean]

theorem pay_rstd (x : Vec Ideal S512x1024 .f32) (r : Fin 512) (i : Fin 1) : k0_pay13 x (ix2 r i) = rstd (fun k => x (ix2 r k)) := by
  unfold k0_pay13
  pointwise [pay_dev, rstd, mean]

theorem pay_hat (x : Vec Ideal S512x1024 .f32) (r : Fin 512) (j : Fin 1024) :
    k0_pay14 x (ix2 r j) = dev (fun k => x (ix2 r k)) j * rstd (fun k => x (ix2 r k)) := by
  unfold k0_pay14
  pointwise [pay_dev, pay_rstd]

theorem pay_slope (t : Fin cfg0.N) (r : Fin 512) (j : Fin 1024) :
    k0_pay7 (iblk m c 0 t) (iblk m c 1 t) (iblk m c 2 t) (ix2 r j) = dzOf m c (ix2 (row t r) j) := by
  unfold k0_pay7 k0_pay6
  pointwise [blk0, blk1, blk2, dzOf, dz]

theorem pay_dz (t : Fin cfg0.N) (r : Fin 512) (j : Fin 1024) :
    k0_pay8 (iblk m c 0 t) (iblk m c 1 t) (iblk m c 2 t) (ix2 r j) = dzOf m c (ix2 (row t r) j) := by
  unfold k0_pay8
  pointwise [pay_slope]

theorem pay_dpp (t : Fin cfg0.N) (r : Fin 512) (j : Fin 1024) :
    k0_pay9 (iblk m c 0 t) (iblk m c 1 t) (ix2 r j) = dpp (argD m c) (gateOf m c) (ix2 (row t r) j) := by
  unfold k0_pay9 k0_pay6
  pointwise [blk0, blk1, dpp]

theorem pay_dy (t : Fin cfg0.N) (r : Fin 512) (j : Fin 1024) :
    k0_pay11 (iblk m c 0 t) (iblk m c 1 t) (iblk m c 2 t) (iblk m c 4 t) (ix2 r j) = dyOf m c (ix2 (row t r) j) := by
  unfold k0_pay11
  pointwise [blk0, pay_dz, blk4, dyOf, dy]

theorem pay_dr (t : Fin cfg0.N) (r : Fin 512) (j : Fin 1024) :
    k0_pay15 (k0_pay11 (iblk m c 0 t) (iblk m c 1 t) (iblk m c 2 t) (iblk m c 4 t)) (iblk m c 3 t) (iblk m c 5 t) (ix2 r j)
      = lnBack (argX m c) (dyOf m c) (argG m c) (ix2 (row t r) j) := by
  unfold k0_pay15
  pointwise [pay_dy, pay_hat, pay_rstd, blk3, blk5, rowOf, lnBack, lnGradRow, mean]

def termS (b : ℕ) (j : Fin 1024) : EReal := blockPart (fun T => dzOf m c (ix2 T j)) b
def termG (b : ℕ) (j : Fin 1024) : EReal :=
  blockPart (fun T => dyOf m c (ix2 T j) * (dev (rowOf (argX m c) T) j * rstd (rowOf (argX m c) T))) b
def termB (b : ℕ) (j : Fin 1024) : EReal := blockPart (fun T => dyOf m c (ix2 T j)) b

theorem pay_ds (t : Fin cfg0.N) (w : Vec Ideal S1x1024 .f32) (i : Fin 1) (j : Fin 1024) :
    k0_pay10 (iblk m c 0 t) (iblk m c 1 t) (iblk m c 2 t) w (ix2 i j) = w (ix2 i j) + termS m c t.val j := by
  rw [termS, blockPart_at _ _ (lt_points t)]
  unfold k0_pay10
  pointwise [pay_slope]
  rfl

theorem pay_dg (t : Fin cfg0.N) (w : Vec Ideal S1x1024 .f32) (i : Fin 1) (j : Fin 1024) :
    k0_pay1 (k0_pay16 (k0_pay11 (iblk m c 0 t) (iblk m c 1 t) (iblk m c 2 t) (iblk m c 4 t)) (iblk m c 3 t)) w (ix2 i j)
      = w (ix2 i j) + termG m c t.val j := by
  rw [termG, blockPart_at _ _ (lt_points t)]
  unfold k0_pay1 k0_pay16
  pointwise [pay_dy, pay_hat, blk3, rowOf]
  rfl

theorem pay_db (t : Fin cfg0.N) (w : Vec Ideal S1x1024 .f32) (i : Fin 1) (j : Fin 1024) :
    k0_pay2 (k0_pay17 (k0_pay11 (iblk m c 0 t) (iblk m c 1 t) (iblk m c 2 t) (iblk m c 4 t))) w (ix2 i j)
      = w (ix2 i j) + termB m c t.val j := by
  rw [termB, blockPart_at _ _ (lt_points t)]
  unfold k0_pay2 k0_pay17
  pointwise [pay_dy]
  rfl

theorem fillS (i : Fin 1) (j : Fin 1024) : k0_pay3 (F := Ideal) (ix2 i j) = 0 := by
  unfold k0_pay3
  pointwise

theorem fillG (i : Fin 1) (j : Fin 1024) : k0_pay4 (F := Ideal) (ix2 i j) = 0 := by
  unfold k0_pay4
  pointwise

theorem fillB (i : Fin 1) (j : Fin 1024) : k0_pay5 (F := Ideal) (ix2 i j) = 0 := by
  unfold k0_pay5
  pointwise

theorem block6 (t : Fin cfg0.N) (r : Fin 512) (j : Fin 1024) :
    (outsAt0 m c t.val t.isLt).1 (ix2 r j) = dzOf m c (ix2 (row t r) j) := by
  by_cases h0 : t.val % 32 = 0
  · rw [outsAt0_A m c t h0]
    frame_out
    exact pay_dz m c t r j
  · rw [outsAt0_B m c t h0]
    frame_out
    exact pay_dz m c t r j

theorem block7 (t : Fin cfg0.N) (r : Fin 512) (j : Fin 1024) :
    (outsAt0 m c t.val t.isLt).2.1 (ix2 r j) = dpp (argD m c) (gateOf m c) (ix2 (row t r) j) := by
  by_cases h0 : t.val % 32 = 0
  · rw [outsAt0_A m c t h0]
    frame_out
    exact pay_dpp m c t r j
  · rw [outsAt0_B m c t h0]
    frame_out
    exact pay_dpp m c t r j

theorem block8 (t : Fin cfg0.N) (r : Fin 512) (j : Fin 1024) :
    (outsAt0 m c t.val t.isLt).2.2.1 (ix2 r j) = lnBack (argX m c) (dyOf m c) (argG m c) (ix2 (row t r) j) := by
  by_cases h0 : t.val % 32 = 0
  · rw [outsAt0_A m c t h0]
    frame_out
    exact pay_dr m c t r j
  · rw [outsAt0_B m c t h0]
    frame_out
    exact pay_dr m c t r j

theorem out6 : (dats m 0 c).arrAt 6 cfg0.N = dzOf m c := by
  refine (dats m 0 c).arrAt_eq_of_covers 6 _ (by decide +kernel) fun t hf y => ?_
  blk_simp
  rw [after0_6]
  obtain ⟨r, j, rfl⟩ : ∃ (r : Fin 512) (j : Fin 1024), y = ix2 r j := ⟨y 0, y 1, eq_ix2 y⟩
  refine (block6 m c t r j).trans (congrArg (dzOf m c) (?_ : ix2 _ _ = _))
  blk_ext [idx6 t, row]

theorem out7 : (dats m 0 c).arrAt 7 cfg0.N = dpp (argD m c) (gateOf m c) := by
  refine (dats m 0 c).arrAt_eq_of_covers 7 _ (by decide +kernel) fun t hf y => ?_
  blk_simp
  rw [after0_7]
  obtain ⟨r, j, rfl⟩ : ∃ (r : Fin 512) (j : Fin 1024), y = ix2 r j := ⟨y 0, y 1, eq_ix2 y⟩
  refine (block7 m c t r j).trans (congrArg (dpp (argD m c) (gateOf m c)) (?_ : ix2 _ _ = _))
  blk_ext [idx7 t, row]

theorem out8 : (dats m 0 c).arrAt 8 cfg0.N = lnBack (argX m c) (dyOf m c) (argG m c) := by
  refine (dats m 0 c).arrAt_eq_of_covers 8 _ (by decide +kernel) fun t hf y => ?_
  blk_simp
  rw [after0_8]
  obtain ⟨r, j, rfl⟩ : ∃ (r : Fin 512) (j : Fin 1024), y = ix2 r j := ⟨y 0, y 1, eq_ix2 y⟩
  refine (block8 m c t r j).trans (congrArg (lnBack (argX m c) (dyOf m c) (argG m c)) (?_ : ix2 _ _ = _))
  blk_ext [idx8 t, row]

/-- The grid's last point. -/
def tEnd : Fin cfg0.N := ⟨31, by decide +kernel⟩

theorem start9 (t : Fin cfg0.N) (h0 : t.val % 32 = 0) (i : Fin 1) (j : Fin 1024) :
    (outsAt0 m c t.val t.isLt).2.2.2.1 (ix2 i j) = 0 + termS m c t.val j := by
  rw [outsAt0_A m c t h0]
  frame_open
  simp (disch := decide) only [↓ View.readCov_skip, ↓ View.readCov_cons_toLoadRect, ↓ View.readCov_fill]
  frame_out
  refine (pay_ds m c t _ i j).trans ?_
  rw [fillS]

theorem step9 (t : Fin cfg0.N) (h0 : ¬ t.val % 32 = 0) (i : Fin 1) (j : Fin 1024) :
    (outsAt0 m c t.val t.isLt).2.2.2.1 (ix2 i j)
      = (outsAt0 m c (t.val - 1) (Nat.lt_of_le_of_lt (Nat.sub_le _ _) t.isLt)).2.2.2.1 (ix2 i j) + termS m c t.val j := by
  rw [outsAt0_B m c t h0]
  frame_out
  exact pay_ds m c t _ i j

theorem sum9 (i : Fin 1) (j : Fin 1024) : (outsAt0 m c tEnd.val tEnd.isLt).2.2.2.1 (ix2 i j) = biasBack (dzOf m c) (ix2 i j) := by
  have h := Pipeline.eq_sum_of_reset_step_apply_single (M := EReal) (fun n h => ((outsAt0 m c n h).2.2.2.1 : S1x1024.Idx → EReal)) 32 0
    (fun b y => termS m c b (y 1))
    (fun t h0 y => by
      obtain ⟨i, j, rfl⟩ : ∃ (i : Fin 1) (j : Fin 1024), y = ix2 i j := ⟨y 0, y 1, eq_ix2 y⟩
      exact start9 m c t h0 i j)
    (fun t h0 y => by
      obtain ⟨i, j, rfl⟩ : ∃ (i : Fin 1) (j : Fin 1024), y = ix2 i j := ⟨y 0, y 1, eq_ix2 y⟩
      exact step9 m c t h0 i j)
    (by decide +kernel) tEnd (ix2 i j)
  exact (h.trans (zero_add _)).trans (blockPart_sum _)

theorem out9 : (dats m 0 c).arrAt 9 cfg0.N = biasBack (dzOf m c) := by
  refine (dats m 0 c).arrAt_eq_of_after_last 9 tEnd (by decide +kernel) _ fun y => ?_
  blk_simp
  rw [after0_9]
  obtain ⟨i, j, rfl⟩ : ∃ (i : Fin 1) (j : Fin 1024), y = ix2 i j := ⟨y 0, y 1, eq_ix2 y⟩
  exact sum9 m c i j

theorem start10 (t : Fin cfg0.N) (h0 : t.val % 32 = 0) (i : Fin 1) (j : Fin 1024) :
    (outsAt0 m c t.val t.isLt).2.2.2.2.1 (ix2 i j) = 0 + termG m c t.val j := by
  rw [outsAt0_A m c t h0]
  frame_open
  simp (disch := decide) only [↓ View.readCov_skip, ↓ View.readCov_cons_toLoadRect, ↓ View.readCov_fill]
  frame_out
  refine (pay_dg m c t _ i j).trans ?_
  rw [fillG]

theorem step10 (t : Fin cfg0.N) (h0 : ¬ t.val % 32 = 0) (i : Fin 1) (j : Fin 1024) :
    (outsAt0 m c t.val t.isLt).2.2.2.2.1 (ix2 i j)
      = (outsAt0 m c (t.val - 1) (Nat.lt_of_le_of_lt (Nat.sub_le _ _) t.isLt)).2.2.2.2.1 (ix2 i j) + termG m c t.val j := by
  rw [outsAt0_B m c t h0]
  frame_out
  exact pay_dg m c t _ i j

theorem sum10 (i : Fin 1) (j : Fin 1024) : (outsAt0 m c tEnd.val tEnd.isLt).2.2.2.2.1 (ix2 i j) = gainBack (argX m c) (dyOf m c) (ix2 i j) := by
  have h := Pipeline.eq_sum_of_reset_step_apply_single (M := EReal) (fun n h => ((outsAt0 m c n h).2.2.2.2.1 : S1x1024.Idx → EReal)) 32 0
    (fun b y => termG m c b (y 1))
    (fun t h0 y => by
      obtain ⟨i, j, rfl⟩ : ∃ (i : Fin 1) (j : Fin 1024), y = ix2 i j := ⟨y 0, y 1, eq_ix2 y⟩
      exact start10 m c t h0 i j)
    (fun t h0 y => by
      obtain ⟨i, j, rfl⟩ : ∃ (i : Fin 1) (j : Fin 1024), y = ix2 i j := ⟨y 0, y 1, eq_ix2 y⟩
      exact step10 m c t h0 i j)
    (by decide +kernel) tEnd (ix2 i j)
  exact (h.trans (zero_add _)).trans (blockPart_sum _)

theorem out10 : (dats m 0 c).arrAt 10 cfg0.N = gainBack (argX m c) (dyOf m c) := by
  refine (dats m 0 c).arrAt_eq_of_after_last 10 tEnd (by decide +kernel) _ fun y => ?_
  blk_simp
  rw [after0_10]
  obtain ⟨i, j, rfl⟩ : ∃ (i : Fin 1) (j : Fin 1024), y = ix2 i j := ⟨y 0, y 1, eq_ix2 y⟩
  exact sum10 m c i j

theorem start11 (t : Fin cfg0.N) (h0 : t.val % 32 = 0) (i : Fin 1) (j : Fin 1024) :
    (outsAt0 m c t.val t.isLt).2.2.2.2.2 (ix2 i j) = 0 + termB m c t.val j := by
  rw [outsAt0_A m c t h0]
  frame_open
  simp (disch := decide) only [↓ View.readCov_skip, ↓ View.readCov_cons_toLoadRect, ↓ View.readCov_fill]
  frame_out
  refine (pay_db m c t _ i j).trans ?_
  rw [fillB]

theorem step11 (t : Fin cfg0.N) (h0 : ¬ t.val % 32 = 0) (i : Fin 1) (j : Fin 1024) :
    (outsAt0 m c t.val t.isLt).2.2.2.2.2 (ix2 i j)
      = (outsAt0 m c (t.val - 1) (Nat.lt_of_le_of_lt (Nat.sub_le _ _) t.isLt)).2.2.2.2.2 (ix2 i j) + termB m c t.val j := by
  rw [outsAt0_B m c t h0]
  frame_out
  exact pay_db m c t _ i j

theorem sum11 (i : Fin 1) (j : Fin 1024) : (outsAt0 m c tEnd.val tEnd.isLt).2.2.2.2.2 (ix2 i j) = biasBack (dyOf m c) (ix2 i j) := by
  have h := Pipeline.eq_sum_of_reset_step_apply_single (M := EReal) (fun n h => ((outsAt0 m c n h).2.2.2.2.2 : S1x1024.Idx → EReal)) 32 0
    (fun b y => termB m c b (y 1))
    (fun t h0 y => by
      obtain ⟨i, j, rfl⟩ : ∃ (i : Fin 1) (j : Fin 1024), y = ix2 i j := ⟨y 0, y 1, eq_ix2 y⟩
      exact start11 m c t h0 i j)
    (fun t h0 y => by
      obtain ⟨i, j, rfl⟩ : ∃ (i : Fin 1) (j : Fin 1024), y = ix2 i j := ⟨y 0, y 1, eq_ix2 y⟩
      exact step11 m c t h0 i j)
    (by decide +kernel) tEnd (ix2 i j)
  exact (h.trans (zero_add _)).trans (blockPart_sum _)

theorem out11 : (dats m 0 c).arrAt 11 cfg0.N = biasBack (dyOf m c) := by
  refine (dats m 0 c).arrAt_eq_of_after_last 11 tEnd (by decide +kernel) _ fun y => ?_
  blk_simp
  rw [after0_11]
  obtain ⟨i, j, rfl⟩ : ∃ (i : Fin 1) (j : Fin 1024), y = ix2 i j := ⟨y 0, y 1, eq_ix2 y⟩
  exact sum11 m c i j

end kernel

/-- The facts the precondition's function takes. -/
theorem pre_facts : Cert.Pre_finite_ple.Facts where
  bcast_S_S16384x1024 := by decide
  reducesTo_S16384x1024_S_d0_1 := by decide
  h_S_ := by decide
  bcast_S_S16384x256 := by decide
  reducesTo_S16384x256_S_d0_1 := by decide
  bcast_S_S256x1024 := by decide
  reducesTo_S256x1024_S_d0_1 := by decide
  bcast_S_S1024 := by decide
  reducesTo_S1024_S_d0 := by decide
  bcast_S_S1024x1024 := by decide
  reducesTo_S1024x1024_S_d0_1 := by decide

theorem one_sub_finite {y : EReal} (h : IsFin y) : IsFin (1 - y) := by
  obtain ⟨r, rfl⟩ := h.real
  exact .coe (1 - r)

/-- What the precondition says: what comes back to each normalised row is finite; the gate always is. -/
theorem pre_read (d : Arr 16384 1024) (p : Arr 16384 256) (q : Arr 256 1024) (x : Arr 16384 1024) (g b : Vec1 1024) (w : Arr 1024 1024)
    (s : Vec1 1024) (e : @Cert.Pre_finite_ple.fn pre_facts Ideal _ d p q x g b w s = fun _ => 1#1) :
    ∀ i j, IsFin (dy d (dz d (embed p q) (gateArr x g b w s)) w (ix2 i j) * g (ix1 j)) := by
  have e0 := congrFun e ix0
  obtain ⟨e1, ew⟩ := IntOp.andi_eq_one.1 e0
  obtain ⟨e2, eg⟩ := IntOp.andi_eq_one.1 e1
  obtain ⟨e3, eq⟩ := IntOp.andi_eq_one.1 e2
  obtain ⟨e4, ep⟩ := IntOp.andi_eq_one.1 e3
  obtain ⟨_, ed⟩ := IntOp.andi_eq_one.1 e4
  have hd : ∀ i j, IsFin (d (ix2 i j)) := fun i j => finite_of_all _ _ _ _ _ _ _ ed (ix2 i j)
  have hz : ∀ i j, IsFin (dz d (embed p q) (gateArr x g b w s) (ix2 i j)) := fun i j => by
    refine IsFin.mul (IsFin.mul (IsFin.mul (hd i j) (IsFin.sum fun k => IsFin.mul ?_ ?_)) (sigm_finite _)) (one_sub_finite (sigm_finite _))
    · exact finite_of_all _ _ _ _ _ _ _ ep (ix2 i _)
    · exact finite_of_all _ _ _ _ _ _ _ eq (ix2 _ j)
  refine fun i j => IsFin.mul (IsFin.add (hd i j) (IsFin.sum fun k => IsFin.mul (hz i _) ?_)) ?_
  · exact finite_of_all _ _ _ _ _ _ _ ew (ix2 j _)
  · exact finite_of_all _ _ _ _ _ _ _ eg (ix1 j)

/-- The reference runs to its end and leaves its arguments and every counter as they were, with the precondition or without. -/
theorem ref_frame : Cert.quiescent_PleLnBwdRefIdeal (hPleLnBwdRefIdeal := Cert.PleLnBwdRefIdeal.Gen.facts) := fun m ρ _ =>
  (θ_run _ _ _).mono (fun r h => ⟨fun c => (h c).2.2.2.2.2.2, sem_eq_zero_of_no_sems (by decide) r.2⟩)
    (Cert.PleLnBwdRefIdeal.Value.run m ρ)

theorem ref_frame_pre : Cert.quiescent_PleLnBwdRefIdeal_pre_finite_ple (hPleLnBwdRefIdeal := Cert.PleLnBwdRefIdeal.Gen.facts)
    (hPre_finite_ple := pre_facts) := fun m ρ _ => ref_frame m ρ trivial

section reference
open Cert.PleLnBwdRefIdeal Cert.PleLnBwdRefIdeal.Gen Cert.PleLnBwdRefIdeal.Read

variable (m : (ℓ : Loc nD τ sig) → Buf (Elt Ideal) ℓ) (c : Dev nD)

/-- The reference's arguments on device `c`. -/
abbrev refD : Arr 16384 1024 := m ((c.tc : Thread nD τ).loc main_arg0)
abbrev refP : Arr 16384 256 := m ((c.tc : Thread nD τ).loc main_arg1)
abbrev refQ : Arr 256 1024 := m ((c.tc : Thread nD τ).loc main_arg2)
abbrev refX : Arr 16384 1024 := m ((c.tc : Thread nD τ).loc main_arg3)
abbrev refG : Vec1 1024 := m ((c.tc : Thread nD τ).loc main_arg4)
abbrev refB : Vec1 1024 := m ((c.tc : Thread nD τ).loc main_arg5)
abbrev refW : Arr 1024 1024 := m ((c.tc : Thread nD τ).loc main_arg6)
abbrev refS : Vec1 1024 := m ((c.tc : Thread nD τ).loc main_arg7)
def refGate : Arr 16384 1024 := gateArr (refX m c) (refG m c) (refB m c) (refW m c) (refS m c)
def refDz : Arr 16384 1024 := dz (refD m c) (embed (refP m c) (refQ m c)) (refGate m c)
def refDy : Arr 16384 1024 := dy (refD m c) (refDz m c) (refW m c)

theorem ref_out0 : Value.res_main_v88 m c = refDz m c := by
  refine (val_main_v88_eq m c).trans (funext fun y => ?_)
  obtain ⟨i, j, rfl⟩ : ∃ (i : Fin 16384) (j : Fin 1024), y = ix2 i j := ⟨y 0, y 1, eq_ix2 y⟩
  exact ref_dz16 _ _ _ _ _ _ _ _ i j

theorem ref_out1 : val_main_v89 (F := Ideal) (refD m c) (refX m c) (refG m c) (refB m c) (refW m c) (refS m c) = dpp (refD m c) (refGate m c) := by
  funext y
  obtain ⟨i, j, rfl⟩ : ∃ (i : Fin 16384) (j : Fin 1024), y = ix2 i j := ⟨y 0, y 1, eq_ix2 y⟩
  exact ref_dpp _ _ _ _ _ _ i j

theorem ref_out2 (h : @Cert.Pre_finite_ple.fn pre_facts Ideal _ (refD m c) (refP m c) (refQ m c) (refX m c) (refG m c) (refB m c) (refW m c)
      (refS m c) = fun _ => 1#1) : Value.res_main_v87 m c = lnBack (refX m c) (refDy m c) (refG m c) := by
  refine (val_main_v87_eq m c).trans (funext fun y => ?_)
  obtain ⟨i, j, rfl⟩ : ∃ (i : Fin 16384) (j : Fin 1024), y = ix2 i j := ⟨y 0, y 1, eq_ix2 y⟩
  exact (ref_dr _ _ _ _ _ _ _ _ i j).trans (lnChain_eq _ _ (fun k => pre_read _ _ _ _ _ _ _ _ h i k) j)

theorem ref_out3 : Value.res_main_v90 m c = biasBack (refDz m c) := by
  refine (val_main_v90_eq m c).trans (funext fun y => ?_)
  obtain ⟨i, j, rfl⟩ : ∃ (i : Fin 1) (j : Fin 1024), y = ix2 i j := ⟨y 0, y 1, eq_ix2 y⟩
  exact ref_dbg _ _ _ _ _ _ _ _ _ _

theorem ref_out4 : Value.res_main_v91 m c = gainBack (refX m c) (refDy m c) := by
  refine (val_main_v91_eq m c).trans (funext fun y => ?_)
  obtain ⟨i, j, rfl⟩ : ∃ (i : Fin 1) (j : Fin 1024), y = ix2 i j := ⟨y 0, y 1, eq_ix2 y⟩
  exact ref_dg _ _ _ _ _ _ _ _ _ _

theorem ref_out5 : Value.res_main_v92 m c = biasBack (refDy m c) := by
  refine (val_main_v92_eq m c).trans (funext fun y => ?_)
  obtain ⟨i, j, rfl⟩ : ∃ (i : Fin 1) (j : Fin 1024), y = ix2 i j := ⟨y 0, y 1, eq_ix2 y⟩
  exact ref_db _ _ _ _ _ _ _ _ _ _

end reference

/-- The call and its reference end with the same six arrays. -/
theorem algebraic :
    Cert.algebraic_PleLnBwdIdeal_PleLnBwdRefIdeal (hPleLnBwdIdeal := Cert.PleLnBwdIdeal.Gen.facts)
      (hPleLnBwdRefIdeal := Cert.PleLnBwdRefIdeal.Gen.facts) (hPre_finite_ple := pre_facts) := by
  intro m g m' g' hpre hargs
  refine ⟨fun c => dzOf m c, fun c => dpp (argD m c) (gateOf m c), fun c => lnBack (argX m c) (dyOf m c) (argG m c),
    fun c => biasBack (dzOf m c), fun c => gainBack (argX m c) (dyOf m c), fun c => biasBack (dyOf m c), ?_, ?_⟩
  · refine (θ_run _ _ _).mono (fun r hr c => ?_) (Cert.PleLnBwdIdeal.Value.run_blocks m g)
    exact ⟨(hr c).1.trans (out6 m c), (hr c).2.1.trans (out7 m c), (hr c).2.2.1.trans (out8 m c), (hr c).2.2.2.1.trans (out9 m c),
      (hr c).2.2.2.2.1.trans (out10 m c), (hr c).2.2.2.2.2.1.trans (out11 m c), (hr c).2.2.2.2.2.2⟩
  · refine (θ_run _ _ _).mono (fun r hr c => ?_) (Cert.PleLnBwdRefIdeal.Value.run m' g')
    obtain ⟨e0, e1, e2, e3, e4, e5, e6, e7⟩ := hargs c
    have hg : refGate m' c = gateOf m c := by
      unfold refGate gateOf refX refG refB refW refS
      rw [e3, e4, e5, e6, e7]
    have hz : refDz m' c = dzOf m c := by
      unfold refDz dzOf embedOf refD refP refQ
      rw [hg, e0, e1, e2]
    have hy : refDy m' c = dyOf m c := by
      unfold refDy dyOf refD refW
      rw [hz, e0, e6]
    have hp : @Cert.Pre_finite_ple.fn pre_facts Ideal _ (refD m' c) (refP m' c) (refQ m' c) (refX m' c) (refG m' c) (refB m' c) (refW m' c)
        (refS m' c) = fun _ => 1#1 := by
      unfold refD refP refQ refX refG refB refW refS
      rw [e0, e1, e2, e3, e4, e5, e6, e7]
      exact hpre c
    have hx : refX m' c = argX m c := e3
    have hd : refD m' c = argD m c := e0
    have hn : refG m' c = argG m c := e4
    refine ⟨(hr c).1.trans ((ref_out0 m' c).trans hz),
      (hr c).2.1.trans ((Cert.PleLnBwdRefIdeal.Read.val_main_v89_eq _ _ _ _ _ _).trans ((ref_out1 m' c).trans ?_)),
      (hr c).2.2.1.trans ((ref_out2 m' c hp).trans ?_),
      (hr c).2.2.2.1.trans ((ref_out3 m' c).trans ?_),
      (hr c).2.2.2.2.1.trans ((ref_out4 m' c).trans ?_),
      (hr c).2.2.2.2.2.1.trans ((ref_out5 m' c).trans ?_), (hr c).2.2.2.2.2.2⟩
    · rw [hd, hg]
    · rw [hx, hy, hn]
    · rw [hz]
    · rw [hx, hy]
    · rw [hy]

end Cert.PleLnBwdProof
end
-- ==== Proof.SlabSpec.lean ====
module

public import proofs.«01_k».proof.Proof.StepSums

/-! The gradients of four products that stand side by side: `aᵀ b` slab by slab. -/

@[expose] public section

noncomputable section

namespace Cert.StepProof

open Idealize.ShloMosaic

/-- Slab `s` is `aᵀ b` of the `s`-th `K` columns of `a` and the `s`-th `N` columns of `b`. -/
def slabs (K N : ℕ) {A B : ℕ} (a : Arr 16384 A) (b : Arr 16384 B) : (⟨3, ![4, K, N]⟩ : Shape).Idx → EReal :=
  fun y => ∑ T : Fin 16384, rd a T.val ((y 0).val * K + (y 1).val) * rd b T.val ((y 0).val * N + (y 2).val)

theorem part_slab (K N : ℕ) {A B : ℕ} (a : Arr 16384 A) (b : Arr 16384 B) (s : Fin 4) (k : Fin K) (j : Fin N) :
    ∑ r ∈ Finset.range 16, part a b r (s.val * K + k.val) (s.val * N + j.val) = slabs K N a b (ix3 s k j) :=
  (blocks_sum fun T => rd a T (s.val * K + k.val) * rd b T (s.val * N + j.val)).symm

end Cert.StepProof
end
-- ==== Proof.DS5BClaim.lean ====
module

public import proofs.«01_k».proof.Defs
public import proofs.«01_k».proof.Proof.SlabSpec
public import proofs.«01_k».proof.Proof.Gen.DS5BIdeal.Value
public import proofs.«01_k».proof.Proof.Gen.DS5BRefIdeal.Read
public import Idealize.ShloMosaic.Lib.Pipeline.ValueKit
public import Idealize.ShloMosaic.Lib.Pipeline.ReadBack
public import Idealize.ShloMosaic.Lib.WritesUnit

/-! The gradient of the state space model's input matrices. The call adds `aᵀ b` up over
    sixteen blocks of rows for each of four slabs; its result is the sum over all rows. -/

@[expose] public section

noncomputable section

namespace Cert.DS5BProof

open Idealize.ShloMosaic Idealize.SL.Sem Cert.StepProof

section kernel
open Cert.DS5BIdeal Cert.DS5BIdeal.Gen

variable (m : (ℓ : Loc nD τ sig) → Buf (Elt Ideal) ℓ) (c : Dev nD)

/-- The two arguments on device `c`. -/
abbrev argA : Arr 16384 2048 := m ((c.tc : Thread nD τ).loc main_arg0)
abbrev argB : Arr 16384 4096 := m ((c.tc : Thread nD τ).loc main_arg1)

theorem lt_points (t : Fin cfg0.N) : t.val < 64 := t.isLt

theorem idx0 : ∀ t : Fin cfg0.N, win0_0.index t = ![t.val % 16, t.val / 16] := by decide +kernel
theorem idx1 : ∀ t : Fin cfg0.N, win0_1.index t = ![t.val % 16, t.val / 16] := by decide +kernel
theorem idx2 : ∀ t : Fin cfg0.N, win0_2.index t = ![t.val / 16, 0, 0] := by decide +kernel

theorem blk0 (t : Fin cfg0.N) (r : Fin 1024) (k : Fin 128) :
    iblk m c 0 t (ix2 r k) = rd (argA m c) (t.val % 16 * 1024 + r.val) (t.val / 16 * 128 + k.val) := by
  refine Eq.trans ?_ (rd_fin (argA m c) ⟨t.val % 16 * 1024 + r.val, by omega⟩ ⟨t.val / 16 * 128 + k.val, by have := lt_points t; omega⟩)
  blk_ext [iblk, V, idx0 t]

theorem blk1 (t : Fin cfg0.N) (r : Fin 1024) (j : Fin 1024) :
    iblk m c 1 t (ix2 r j) = rd (argB m c) (t.val % 16 * 1024 + r.val) (t.val / 16 * 1024 + j.val) := by
  refine Eq.trans ?_ (rd_fin (argB m c) ⟨t.val % 16 * 1024 + r.val, by omega⟩ ⟨t.val / 16 * 1024 + j.val, by have := lt_points t; omega⟩)
  blk_ext [iblk, V, idx1 t]

/-- What grid point `t` adds to its slab. -/
def term (t : ℕ) (y : S1x128x1024.Idx) : EReal :=
  part (argA m c) (argB m c) (t % 16) (t / 16 * 128 + (y 1).val) (t / 16 * 1024 + (y 2).val)

theorem pay (t : Fin cfg0.N) (acc : Vec Ideal S1x128x1024 .f32) (z : Fin 1) (k : Fin 128) (j : Fin 1024) :
    k0_pay2 acc (iblk m c 0 t) (iblk m c 1 t) (ix3 z k j) = acc (ix3 z k j) + term m c t.val (ix3 z k j) := by
  obtain rfl : z = 0 := Subsingleton.elim _ _
  unfold k0_pay2
  pointwise [blk0, blk1, term, part]

theorem fill (z : Fin 1) (k : Fin 128) (j : Fin 1024) : (k0_pay1 (F := Ideal)) (ix3 z k j) = 0 := by
  unfold k0_pay1
  pointwise

theorem start (t : Fin cfg0.N) (h0 : t.val % 16 = 0) (z : Fin 1) (k : Fin 128) (j : Fin 1024) :
    outsAt0 m c t.val t.isLt (ix3 z k j) = 0 + term m c t.val (ix3 z k j) := by
  rw [outsAt0_A m c t h0]
  frame_open
  simp (disch := decide) only [↓ View.readCov_skip, ↓ View.readCov_cons_toLoadRect, ↓ View.readCov_fill]
  frame_out
  refine (pay m c t _ z k j).trans ?_
  rw [fill]

theorem step (t : Fin cfg0.N) (h0 : ¬ t.val % 16 = 0) (z : Fin 1) (k : Fin 128) (j : Fin 1024) :
    outsAt0 m c t.val t.isLt (ix3 z k j)
      = outsAt0 m c (t.val - 1) (Nat.lt_of_le_of_lt (Nat.sub_le _ _) t.isLt) (ix3 z k j) + term m c t.val (ix3 z k j) := by
  rw [outsAt0_B m c t h0]
  frame_out
  exact pay m c t _ z k j

/-- At the last of a slab's sixteen points its sum is whole. -/
theorem sum15 (t : Fin cfg0.N) (hr : t.val % 16 = 15) (z : Fin 1) (k : Fin 128) (j : Fin 1024) :
    outsAt0 m c t.val t.isLt (ix3 z k j)
      = slabs 128 1024 (argA m c) (argB m c) (ix3 ⟨t.val / 16, by have := lt_points t; omega⟩ k j) := by
  have h := Pipeline.eq_sum_of_reset_step_apply (M := EReal) (fun n h => (outsAt0 m c n h : S1x128x1024.Idx → EReal)) 16 0
    (fun b y => term m c b y)
    (fun t h0 y => by
      obtain ⟨z, k, j, rfl⟩ : ∃ (z : Fin 1) (k : Fin 128) (j : Fin 1024), y = ix3 z k j := ⟨y 0, y 1, y 2, eq_ix3 y⟩
      exact start m c t h0 z k j)
    (fun t h0 y => by
      obtain ⟨z, k, j, rfl⟩ : ∃ (z : Fin 1) (k : Fin 128) (j : Fin 1024), y = ix3 z k j := ⟨y 0, y 1, y 2, eq_ix3 y⟩
      exact step m c t h0 z k j)
    t (ix3 z k j)
  refine (h.trans (zero_add _)).trans ?_
  rw [hr, ← part_slab]
  refine Finset.sum_congr rfl fun r hr => ?_
  have hr16 : r < 16 := Finset.mem_range.mp hr
  have e0 : (16 * (t.val / 16) + r) % 16 = r := by omega
  have e1 : (16 * (t.val / 16) + r) / 16 = t.val / 16 := by omega
  unfold term
  simp only [e0, e1]
  rfl

theorem out2 : (dats m 0 c).arrAt 2 cfg0.N = slabs 128 1024 (argA m c) (argB m c) := by
  refine (dats m 0 c).arrAt_eq_of_covers 2 _ (by decide +kernel) fun t hf y => ?_
  blk_simp
  rw [after0_2]
  obtain ⟨z, k, j, rfl⟩ : ∃ (z : Fin 1) (k : Fin 128) (j : Fin 1024), y = ix3 z k j := ⟨y 0, y 1, y 2, eq_ix3 y⟩
  obtain rfl : z = 0 := Subsingleton.elim _ _
  refine (sum15 m c t ((flush0_2 t).mp hf) 0 k j).trans (congrArg (slabs 128 1024 (argA m c) (argB m c)) (?_ : ix3 _ _ _ = _))
  blk_ext [idx2 t]

end kernel

section reference
open Cert.DS5BRefIdeal Cert.DS5BRefIdeal.Gen Cert.DS5BRefIdeal.Read

theorem ref_slab0 (a : Arr 16384 2048) (b : Arr 16384 4096) (z : Fin 1) (k : Fin 128) (j : Fin 1024) :
    val_main_v26 (F := Ideal) a b (ix3 z k j) = slabs 128 1024 a b (ix3 0 k j) := by
  unfold val_main_v26 val_main_v13 val_main_v12 val_main_v6 val_main_v5 val_main_v1 val_main_v0
  refine Eq.trans ?_ (Finset.sum_congr rfl fun T _ => (mul_comm _ _).trans (congrArg₂ (· * ·)
    (rd_fin a T ⟨0 * 128 + k.val, by omega⟩) (rd_fin b T ⟨0 * 1024 + j.val, by omega⟩)))
  pointwise

theorem ref_slab1 (a : Arr 16384 2048) (b : Arr 16384 4096) (z : Fin 1) (k : Fin 128) (j : Fin 1024) :
    val_main_v27 (F := Ideal) a b (ix3 z k j) = slabs 128 1024 a b (ix3 1 k j) := by
  unfold val_main_v27 val_main_v17 val_main_v16 val_main_v7 val_main_v5 val_main_v2 val_main_v0
  refine Eq.trans ?_ (Finset.sum_congr rfl fun T _ => (mul_comm _ _).trans (congrArg₂ (· * ·)
    (rd_fin a T ⟨1 * 128 + k.val, by omega⟩) (rd_fin b T ⟨1 * 1024 + j.val, by omega⟩)))
  pointwise

theorem ref_slab2 (a : Arr 16384 2048) (b : Arr 16384 4096) (z : Fin 1) (k : Fin 128) (j : Fin 1024) :
    val_main_v28 (F := Ideal) a b (ix3 z k j) = slabs 128 1024 a b (ix3 2 k j) := by
  unfold val_main_v28 val_main_v21 val_main_v20 val_main_v8 val_main_v5 val_main_v3 val_main_v0
  refine Eq.trans ?_ (Finset.sum_congr rfl fun T _ => (mul_comm _ _).trans (congrArg₂ (· * ·)
    (rd_fin a T ⟨2 * 128 + k.val, by omega⟩) (rd_fin b T ⟨2 * 1024 + j.val, by omega⟩)))
  pointwise

theorem ref_slab3 (a : Arr 16384 2048) (b : Arr 16384 4096) (z : Fin 1) (k : Fin 128) (j : Fin 1024) :
    val_main_v29 (F := Ideal) a b (ix3 z k j) = slabs 128 1024 a b (ix3 3 k j) := by
  unfold val_main_v29 val_main_v25 val_main_v24 val_main_v9 val_main_v5 val_main_v4 val_main_v0
  refine Eq.trans ?_ (Finset.sum_congr rfl fun T _ => (mul_comm _ _).trans (congrArg₂ (· * ·)
    (rd_fin a T ⟨3 * 128 + k.val, by omega⟩) (rd_fin b T ⟨3 * 1024 + j.val, by omega⟩)))
  pointwise

theorem ref_out (a : Arr 16384 2048) (b : Arr 16384 4096) : val_main_v30 (F := Ideal) a b = slabs 128 1024 a b := by
  funext y
  obtain ⟨s, k, j, rfl⟩ : ∃ (s : Fin 4) (k : Fin 128) (j : Fin 1024), y = ix3 s k j := ⟨y 0, y 1, y 2, eq_ix3 y⟩
  unfold val_main_v30
  match s with
  | 0 => pointwise [ref_slab0]
  | 1 => pointwise [ref_slab1]
  | 2 => pointwise [ref_slab2]
  | 3 => pointwise [ref_slab3]

/-- The reference runs to its end and leaves its arguments and every counter as they were. -/
theorem ref_frame : Cert.quiescent_DS5BRefIdeal (hDS5BRefIdeal := Cert.DS5BRefIdeal.Gen.facts) := fun m ρ _ =>
  (θ_run _ _ _).mono (fun r h => ⟨fun c => (h c).2, sem_eq_zero_of_no_sems (by decide) r.2⟩)
    (Cert.DS5BRefIdeal.Value.run m ρ)

end reference

/-- The call and its reference end with the same array. -/
theorem algebraic :
    Cert.algebraic_DS5BIdeal_DS5BRefIdeal (hDS5BIdeal := Cert.DS5BIdeal.Gen.facts) (hDS5BRefIdeal := Cert.DS5BRefIdeal.Gen.facts) := by
  intro m g m' g' _ hargs
  refine ⟨fun c => slabs 128 1024 (argA m c) (argB m c), ?_, ?_⟩
  · refine (θ_run _ _ _).mono (fun r hr c => ?_) (Cert.DS5BIdeal.Value.run_blocks m g)
    exact ⟨(hr c).1.trans (out2 m c), (hr c).2⟩
  · refine (θ_run _ _ _).mono (fun r hr c => ?_) (Cert.DS5BRefIdeal.Value.run m' g')
    obtain ⟨e0, e1⟩ := hargs c
    refine ⟨(hr c).1.trans ((Cert.DS5BRefIdeal.Read.val_main_v30_eq _ _).trans ?_), (hr c).2⟩
    rw [e0, e1]
    exact ref_out _ _

end Cert.DS5BProof
end
-- ==== Proof.DS5CClaim.lean ====
module

public import proofs.«01_k».proof.Defs
public import proofs.«01_k».proof.Proof.SlabSpec
public import proofs.«01_k».proof.Proof.Gen.DS5CIdeal.Value
public import proofs.«01_k».proof.Proof.Gen.DS5CRefIdeal.Read
public import Idealize.ShloMosaic.Lib.Pipeline.ValueKit
public import Idealize.ShloMosaic.Lib.Pipeline.ReadBack
public import Idealize.ShloMosaic.Lib.WritesUnit

/-! The gradient of the state space model's output matrices. The call adds `aᵀ b` up over
    sixteen blocks of rows for each of four slabs; its result is the sum over all rows. -/

@[expose] public section

noncomputable section

namespace Cert.DS5CProof

open Idealize.ShloMosaic Idealize.SL.Sem Cert.StepProof

section kernel
open Cert.DS5CIdeal Cert.DS5CIdeal.Gen

variable (m : (ℓ : Loc nD τ sig) → Buf (Elt Ideal) ℓ) (c : Dev nD)

/-- The two arguments on device `c`. -/
abbrev argA : Arr 16384 4096 := m ((c.tc : Thread nD τ).loc main_arg0)
abbrev argB : Arr 16384 512 := m ((c.tc : Thread nD τ).loc main_arg1)

theorem lt_points (t : Fin cfg0.N) : t.val < 64 := t.isLt

theorem idx0 : ∀ t : Fin cfg0.N, win0_0.index t = ![t.val % 16, t.val / 16] := by decide +kernel
theorem idx1 : ∀ t : Fin cfg0.N, win0_1.index t = ![t.val % 16, t.val / 16] := by decide +kernel
theorem idx2 : ∀ t : Fin cfg0.N, win0_2.index t = ![t.val / 16, 0, 0] := by decide +kernel

theorem blk0 (t : Fin cfg0.N) (r : Fin 1024) (k : Fin 1024) :
    iblk m c 0 t (ix2 r k) = rd (argA m c) (t.val % 16 * 1024 + r.val) (t.val / 16 * 1024 + k.val) := by
  refine Eq.trans ?_ (rd_fin (argA m c) ⟨t.val % 16 * 1024 + r.val, by omega⟩ ⟨t.val / 16 * 1024 + k.val, by have := lt_points t; omega⟩)
  blk_ext [iblk, V, idx0 t]

theorem blk1 (t : Fin cfg0.N) (r : Fin 1024) (j : Fin 128) :
    iblk m c 1 t (ix2 r j) = rd (argB m c) (t.val % 16 * 1024 + r.val) (t.val / 16 * 128 + j.val) := by
  refine Eq.trans ?_ (rd_fin (argB m c) ⟨t.val % 16 * 1024 + r.val, by omega⟩ ⟨t.val / 16 * 128 + j.val, by have := lt_points t; omega⟩)
  blk_ext [iblk, V, idx1 t]

/-- What grid point `t` adds to its slab. -/
def term (t : ℕ) (y : S1x1024x128.Idx) : EReal :=
  part (argA m c) (argB m c) (t % 16) (t / 16 * 1024 + (y 1).val) (t / 16 * 128 + (y 2).val)

theorem pay (t : Fin cfg0.N) (acc : Vec Ideal S1x1024x128 .f32) (z : Fin 1) (k : Fin 1024) (j : Fin 128) :
    k0_pay2 acc (iblk m c 0 t) (iblk m c 1 t) (ix3 z k j) = acc (ix3 z k j) + term m c t.val (ix3 z k j) := by
  obtain rfl : z = 0 := Subsingleton.elim _ _
  unfold k0_pay2
  pointwise [blk0, blk1, term, part]

theorem fill (z : Fin 1) (k : Fin 1024) (j : Fin 128) : (k0_pay1 (F := Ideal)) (ix3 z k j) = 0 := by
  unfold k0_pay1
  pointwise

theorem start (t : Fin cfg0.N) (h0 : t.val % 16 = 0) (z : Fin 1) (k : Fin 1024) (j : Fin 128) :
    outsAt0 m c t.val t.isLt (ix3 z k j) = 0 + term m c t.val (ix3 z k j) := by
  rw [outsAt0_A m c t h0]
  frame_open
  simp (disch := decide) only [↓ View.readCov_skip, ↓ View.readCov_cons_toLoadRect, ↓ View.readCov_fill]
  frame_out
  refine (pay m c t _ z k j).trans ?_
  rw [fill]

theorem step (t : Fin cfg0.N) (h0 : ¬ t.val % 16 = 0) (z : Fin 1) (k : Fin 1024) (j : Fin 128) :
    outsAt0 m c t.val t.isLt (ix3 z k j)
      = outsAt0 m c (t.val - 1) (Nat.lt_of_le_of_lt (Nat.sub_le _ _) t.isLt) (ix3 z k j) + term m c t.val (ix3 z k j) := by
  rw [outsAt0_B m c t h0]
  frame_out
  exact pay m c t _ z k j

/-- At the last of a slab's sixteen points its sum is whole. -/
theorem sum15 (t : Fin cfg0.N) (hr : t.val % 16 = 15) (z : Fin 1) (k : Fin 1024) (j : Fin 128) :
    outsAt0 m c t.val t.isLt (ix3 z k j)
      = slabs 1024 128 (argA m c) (argB m c) (ix3 ⟨t.val / 16, by have := lt_points t; omega⟩ k j) := by
  have h := Pipeline.eq_sum_of_reset_step_apply (M := EReal) (fun n h => (outsAt0 m c n h : S1x1024x128.Idx → EReal)) 16 0
    (fun b y => term m c b y)
    (fun t h0 y => by
      obtain ⟨z, k, j, rfl⟩ : ∃ (z : Fin 1) (k : Fin 1024) (j : Fin 128), y = ix3 z k j := ⟨y 0, y 1, y 2, eq_ix3 y⟩
      exact start m c t h0 z k j)
    (fun t h0 y => by
      obtain ⟨z, k, j, rfl⟩ : ∃ (z : Fin 1) (k : Fin 1024) (j : Fin 128), y = ix3 z k j := ⟨y 0, y 1, y 2, eq_ix3 y⟩
      exact step m c t h0 z k j)
    t (ix3 z k j)
  refine (h.trans (zero_add _)).trans ?_
  rw [hr, ← part_slab]
  refine Finset.sum_congr rfl fun r hr => ?_
  have hr16 : r < 16 := Finset.mem_range.mp hr
  have e0 : (16 * (t.val / 16) + r) % 16 = r := by omega
  have e1 : (16 * (t.val / 16) + r) / 16 = t.val / 16 := by omega
  unfold term
  simp only [e0, e1]
  rfl

theorem out2 : (dats m 0 c).arrAt 2 cfg0.N = slabs 1024 128 (argA m c) (argB m c) := by
  refine (dats m 0 c).arrAt_eq_of_covers 2 _ (by decide +kernel) fun t hf y => ?_
  blk_simp
  rw [after0_2]
  obtain ⟨z, k, j, rfl⟩ : ∃ (z : Fin 1) (k : Fin 1024) (j : Fin 128), y = ix3 z k j := ⟨y 0, y 1, y 2, eq_ix3 y⟩
  obtain rfl : z = 0 := Subsingleton.elim _ _
  refine (sum15 m c t ((flush0_2 t).mp hf) 0 k j).trans (congrArg (slabs 1024 128 (argA m c) (argB m c)) (?_ : ix3 _ _ _ = _))
  blk_ext [idx2 t]

end kernel

section reference
open Cert.DS5CRefIdeal Cert.DS5CRefIdeal.Gen Cert.DS5CRefIdeal.Read

theorem ref_slab0 (a : Arr 16384 4096) (b : Arr 16384 512) (z : Fin 1) (k : Fin 1024) (j : Fin 128) :
    val_main_v26 (F := Ideal) a b (ix3 z k j) = slabs 1024 128 a b (ix3 0 k j) := by
  unfold val_main_v26 val_main_v13 val_main_v12 val_main_v6 val_main_v5 val_main_v1 val_main_v0
  refine Eq.trans ?_ (Finset.sum_congr rfl fun T _ => (mul_comm _ _).trans (congrArg₂ (· * ·)
    (rd_fin a T ⟨0 * 1024 + k.val, by omega⟩) (rd_fin b T ⟨0 * 128 + j.val, by omega⟩)))
  pointwise

theorem ref_slab1 (a : Arr 16384 4096) (b : Arr 16384 512) (z : Fin 1) (k : Fin 1024) (j : Fin 128) :
    val_main_v27 (F := Ideal) a b (ix3 z k j) = slabs 1024 128 a b (ix3 1 k j) := by
  unfold val_main_v27 val_main_v17 val_main_v16 val_main_v7 val_main_v5 val_main_v2 val_main_v0
  refine Eq.trans ?_ (Finset.sum_congr rfl fun T _ => (mul_comm _ _).trans (congrArg₂ (· * ·)
    (rd_fin a T ⟨1 * 1024 + k.val, by omega⟩) (rd_fin b T ⟨1 * 128 + j.val, by omega⟩)))
  pointwise

theorem ref_slab2 (a : Arr 16384 4096) (b : Arr 16384 512) (z : Fin 1) (k : Fin 1024) (j : Fin 128) :
    val_main_v28 (F := Ideal) a b (ix3 z k j) = slabs 1024 128 a b (ix3 2 k j) := by
  unfold val_main_v28 val_main_v21 val_main_v20 val_main_v8 val_main_v5 val_main_v3 val_main_v0
  refine Eq.trans ?_ (Finset.sum_congr rfl fun T _ => (mul_comm _ _).trans (congrArg₂ (· * ·)
    (rd_fin a T ⟨2 * 1024 + k.val, by omega⟩) (rd_fin b T ⟨2 * 128 + j.val, by omega⟩)))
  pointwise

theorem ref_slab3 (a : Arr 16384 4096) (b : Arr 16384 512) (z : Fin 1) (k : Fin 1024) (j : Fin 128) :
    val_main_v29 (F := Ideal) a b (ix3 z k j) = slabs 1024 128 a b (ix3 3 k j) := by
  unfold val_main_v29 val_main_v25 val_main_v24 val_main_v9 val_main_v5 val_main_v4 val_main_v0
  refine Eq.trans ?_ (Finset.sum_congr rfl fun T _ => (mul_comm _ _).trans (congrArg₂ (· * ·)
    (rd_fin a T ⟨3 * 1024 + k.val, by omega⟩) (rd_fin b T ⟨3 * 128 + j.val, by omega⟩)))
  pointwise

theorem ref_out (a : Arr 16384 4096) (b : Arr 16384 512) : val_main_v30 (F := Ideal) a b = slabs 1024 128 a b := by
  funext y
  obtain ⟨s, k, j, rfl⟩ : ∃ (s : Fin 4) (k : Fin 1024) (j : Fin 128), y = ix3 s k j := ⟨y 0, y 1, y 2, eq_ix3 y⟩
  unfold val_main_v30
  match s with
  | 0 => pointwise [ref_slab0]
  | 1 => pointwise [ref_slab1]
  | 2 => pointwise [ref_slab2]
  | 3 => pointwise [ref_slab3]

/-- The reference runs to its end and leaves its arguments and every counter as they were. -/
theorem ref_frame : Cert.quiescent_DS5CRefIdeal (hDS5CRefIdeal := Cert.DS5CRefIdeal.Gen.facts) := fun m ρ _ =>
  (θ_run _ _ _).mono (fun r h => ⟨fun c => (h c).2, sem_eq_zero_of_no_sems (by decide) r.2⟩)
    (Cert.DS5CRefIdeal.Value.run m ρ)

end reference

/-- The call and its reference end with the same array. -/
theorem algebraic :
    Cert.algebraic_DS5CIdeal_DS5CRefIdeal (hDS5CIdeal := Cert.DS5CIdeal.Gen.facts) (hDS5CRefIdeal := Cert.DS5CRefIdeal.Gen.facts) := by
  intro m g m' g' _ hargs
  refine ⟨fun c => slabs 1024 128 (argA m c) (argB m c), ?_, ?_⟩
  · refine (θ_run _ _ _).mono (fun r hr c => ?_) (Cert.DS5CIdeal.Value.run_blocks m g)
    exact ⟨(hr c).1.trans (out2 m c), (hr c).2⟩
  · refine (θ_run _ _ _).mono (fun r hr c => ?_) (Cert.DS5CRefIdeal.Value.run m' g')
    obtain ⟨e0, e1⟩ := hargs c
    refine ⟨(hr c).1.trans ((Cert.DS5CRefIdeal.Read.val_main_v30_eq _ _).trans ?_), (hr c).2⟩
    rw [e0, e1]
    exact ref_out _ _

end Cert.DS5CProof
end
-- ==== Proof.PackSpec.lean ====
module

public import proofs.«01_k».proof.Proof.StepSums
public import Idealize.ShloMosaic.Lib.StableHlo.Run

/-! Eighteen arrays laid one after another in rows of 128, for entries of any type. A function of each entry can be
    applied before or after. -/

@[expose] public section

noncomputable section

namespace Cert.StepProof

open Idealize.ShloMosaic

variable {α β : Type}

theorem concatenateAt_map (g : α → β) (t : Shape) (a : Fin t.rank) (j : t.Idx) :
    ∀ (xs : List ((s : Shape) × (s.Idx → α))) (ys : List ((s : Shape) × (s.Idx → β)))
      (_ : ys = xs.map fun p => ⟨p.1, g ∘ p.2⟩) (hx hy) (c : ℕ) (hcx hcy),
      concatenateAt t a j ys hy c hcy = g (concatenateAt t a j xs hx c hcx)
  | [], _, rfl, _, _, _, hcx, _ => absurd hcx (Nat.not_lt_zero _)
  | [⟨s, x⟩], _, rfl, hx, hy, c, hcx, hcy => by
    simp only [List.map_cons, List.map_nil]
    rw [concatenateAt_singleton, concatenateAt_singleton]
    rfl
  | ⟨s, x⟩ :: q :: xs, _, rfl, hx, hy, c, hcx, hcy => by
    simp only [List.map_cons]
    rw [concatenateAt_cons, concatenateAt_cons]
    split
    · rfl
    · exact concatenateAt_map g t a j (q :: xs) _ rfl _ _ _ _ _

theorem concatenate_map (g : α → β) (t : Shape) (a : Fin t.rank) (xs : List ((s : Shape) × (s.Idx → α)))
    (ys : List ((s : Shape) × (s.Idx → β))) (e : ys = xs.map fun p => ⟨p.1, g ∘ p.2⟩) (hx hy) :
    concatenate t a ys hy = g ∘ concatenate t a xs hx := by
  funext j
  rw [Function.comp_apply, concatenate_apply, concatenate_apply]
  exact concatenateAt_map g t a j xs ys e _ _ _ _ _

theorem pad_map (g : α → β) (s t u : Shape) (lo hi interior : Fin s.rank → ℕ) (x : s.Idx → α) (v : u.Idx → α) (h hu) :
    pad t lo hi interior (g ∘ x) (g ∘ v) h hu = g ∘ pad t lo hi interior x v h hu := by
  funext j
  unfold pad
  simp only [Function.comp_apply]
  split <;> rfl

theorem head_fits : Shape.Concatenates [(⟨1, ![4096]⟩ : Shape), (⟨1, ![4096]⟩ : Shape), (⟨1, ![64]⟩ : Shape), (⟨1, ![65536]⟩ : Shape), (⟨1, ![65536]⟩ : Shape), (⟨1, ![65536]⟩ : Shape), (⟨1, ![65536]⟩ : Shape), (⟨1, ![1024]⟩ : Shape), (⟨1, ![1024]⟩ : Shape), (⟨1, ![4112]⟩ : Shape), (⟨1, ![131072]⟩ : Shape), (⟨1, ![4096]⟩ : Shape), (⟨1, ![4096]⟩ : Shape), (⟨1, ![4096]⟩ : Shape), (⟨1, ![4096]⟩ : Shape), (⟨1, ![4096]⟩ : Shape)] (⟨1, ![428112]⟩ : Shape) 0 := by decide
theorem tail_fits : Shape.Concatenates [(⟨1, ![768]⟩ : Shape), (⟨1, ![256]⟩ : Shape)] (⟨1, ![1024]⟩ : Shape) 0 := by decide
theorem both_fit : Shape.Concatenates [(⟨1, ![428112]⟩ : Shape), (⟨1, ![1024]⟩ : Shape)] (⟨1, ![429136]⟩ : Shape) 0 := by decide
theorem zeros_fit : (⟨1, ![429136]⟩ : Shape).Pads (![0] : Fin 1 → ℕ) ![944] ![0] (⟨1, ![430080]⟩ : Shape) := by decide
theorem zero_fits : 0 < (⟨0, ![]⟩ : Shape).numel := by decide
theorem rows_fit : (⟨1, ![430080]⟩ : Shape).ShapeCasts (⟨2, ![3360, 128]⟩ : Shape) := by decide
theorem flat_fits0 : (⟨3, ![2, 32, 64]⟩ : Shape).ShapeCasts (⟨1, ![4096]⟩ : Shape) := by decide
theorem flat_fits1 : (⟨2, ![2, 32]⟩ : Shape).ShapeCasts (⟨1, ![64]⟩ : Shape) := by decide
theorem flat_fits2 : (⟨4, ![2, 32, 64, 16]⟩ : Shape).ShapeCasts (⟨1, ![65536]⟩ : Shape) := by decide
theorem flat_fits3 : (⟨4, ![2, 32, 16, 64]⟩ : Shape).ShapeCasts (⟨1, ![65536]⟩ : Shape) := by decide
theorem flat_fits4 : (⟨2, ![2, 512]⟩ : Shape).ShapeCasts (⟨1, ![1024]⟩ : Shape) := by decide
theorem flat_fits5 : (⟨3, ![2, 8, 257]⟩ : Shape).ShapeCasts (⟨1, ![4112]⟩ : Shape) := by decide
theorem flat_fits6 : (⟨4, ![2, 4, 128, 128]⟩ : Shape).ShapeCasts (⟨1, ![131072]⟩ : Shape) := by decide
theorem flat_fits7 : (⟨2, ![4, 1024]⟩ : Shape).ShapeCasts (⟨1, ![4096]⟩ : Shape) := by decide
theorem flat_fits8 : (⟨3, ![2, 3, 128]⟩ : Shape).ShapeCasts (⟨1, ![768]⟩ : Shape) := by decide
theorem flat_fits9 : (⟨2, ![2, 128]⟩ : Shape).ShapeCasts (⟨1, ![256]⟩ : Shape) := by decide

/-- The first sixteen arrays in a row. -/
def packHead (x0 : (⟨3, ![2, 32, 64]⟩ : Shape).Idx → α) (x1 : (⟨3, ![2, 32, 64]⟩ : Shape).Idx → α) (x2 : (⟨2, ![2, 32]⟩ : Shape).Idx → α) (x3 : (⟨4, ![2, 32, 64, 16]⟩ : Shape).Idx → α) (x4 : (⟨4, ![2, 32, 64, 16]⟩ : Shape).Idx → α) (x5 : (⟨4, ![2, 32, 16, 64]⟩ : Shape).Idx → α) (x6 : (⟨4, ![2, 32, 16, 64]⟩ : Shape).Idx → α) (x7 : (⟨2, ![2, 512]⟩ : Shape).Idx → α) (x8 : (⟨2, ![2, 512]⟩ : Shape).Idx → α) (x9 : (⟨3, ![2, 8, 257]⟩ : Shape).Idx → α) (x10 : (⟨4, ![2, 4, 128, 128]⟩ : Shape).Idx → α) (x11 : (⟨2, ![4, 1024]⟩ : Shape).Idx → α) (x12 : (⟨2, ![4, 1024]⟩ : Shape).Idx → α) (x13 : (⟨2, ![4, 1024]⟩ : Shape).Idx → α) (x14 : (⟨2, ![4, 1024]⟩ : Shape).Idx → α) (x15 : (⟨2, ![4, 1024]⟩ : Shape).Idx → α) : (⟨1, ![428112]⟩ : Shape).Idx → α :=
  concatenate (⟨1, ![428112]⟩ : Shape) 0 [⟨(⟨1, ![4096]⟩ : Shape), shapeCast (⟨1, ![4096]⟩ : Shape) x0 flat_fits0⟩, ⟨(⟨1, ![4096]⟩ : Shape), shapeCast (⟨1, ![4096]⟩ : Shape) x1 flat_fits0⟩, ⟨(⟨1, ![64]⟩ : Shape), shapeCast (⟨1, ![64]⟩ : Shape) x2 flat_fits1⟩, ⟨(⟨1, ![65536]⟩ : Shape), shapeCast (⟨1, ![65536]⟩ : Shape) x3 flat_fits2⟩, ⟨(⟨1, ![65536]⟩ : Shape), shapeCast (⟨1, ![65536]⟩ : Shape) x4 flat_fits2⟩, ⟨(⟨1, ![65536]⟩ : Shape), shapeCast (⟨1, ![65536]⟩ : Shape) x5 flat_fits3⟩, ⟨(⟨1, ![65536]⟩ : Shape), shapeCast (⟨1, ![65536]⟩ : Shape) x6 flat_fits3⟩, ⟨(⟨1, ![1024]⟩ : Shape), shapeCast (⟨1, ![1024]⟩ : Shape) x7 flat_fits4⟩, ⟨(⟨1, ![1024]⟩ : Shape), shapeCast (⟨1, ![1024]⟩ : Shape) x8 flat_fits4⟩, ⟨(⟨1, ![4112]⟩ : Shape), shapeCast (⟨1, ![4112]⟩ : Shape) x9 flat_fits5⟩, ⟨(⟨1, ![131072]⟩ : Shape), shapeCast (⟨1, ![131072]⟩ : Shape) x10 flat_fits6⟩, ⟨(⟨1, ![4096]⟩ : Shape), shapeCast (⟨1, ![4096]⟩ : Shape) x11 flat_fits7⟩, ⟨(⟨1, ![4096]⟩ : Shape), shapeCast (⟨1, ![4096]⟩ : Shape) x12 flat_fits7⟩, ⟨(⟨1, ![4096]⟩ : Shape), shapeCast (⟨1, ![4096]⟩ : Shape) x13 flat_fits7⟩, ⟨(⟨1, ![4096]⟩ : Shape), shapeCast (⟨1, ![4096]⟩ : Shape) x14 flat_fits7⟩, ⟨(⟨1, ![4096]⟩ : Shape), shapeCast (⟨1, ![4096]⟩ : Shape) x15 flat_fits7⟩] head_fits

/-- The last two. -/
def packTail (x16 : (⟨3, ![2, 3, 128]⟩ : Shape).Idx → α) (x17 : (⟨2, ![2, 128]⟩ : Shape).Idx → α) : (⟨1, ![1024]⟩ : Shape).Idx → α :=
  concatenate (⟨1, ![1024]⟩ : Shape) 0 [⟨(⟨1, ![768]⟩ : Shape), shapeCast (⟨1, ![768]⟩ : Shape) x16 flat_fits8⟩, ⟨(⟨1, ![256]⟩ : Shape), shapeCast (⟨1, ![256]⟩ : Shape) x17 flat_fits9⟩] tail_fits

/-- A long and a short array in a row. -/
def packBoth (x : (⟨1, ![428112]⟩ : Shape).Idx → α) (y : (⟨1, ![1024]⟩ : Shape).Idx → α) : (⟨1, ![429136]⟩ : Shape).Idx → α :=
  concatenate (⟨1, ![429136]⟩ : Shape) 0 [⟨(⟨1, ![428112]⟩ : Shape), x⟩, ⟨(⟨1, ![1024]⟩ : Shape), y⟩] both_fit

theorem packBoth_map (g : α → β) (x : (⟨1, ![428112]⟩ : Shape).Idx → α) (y : (⟨1, ![1024]⟩ : Shape).Idx → α) :
    packBoth (g ∘ x) (g ∘ y) = g ∘ packBoth x y :=
  concatenate_map g _ _ [⟨(⟨1, ![428112]⟩ : Shape), x⟩, ⟨(⟨1, ![1024]⟩ : Shape), y⟩]
    [⟨(⟨1, ![428112]⟩ : Shape), g ∘ x⟩, ⟨(⟨1, ![1024]⟩ : Shape), g ∘ y⟩] rfl _ _

/-- All eighteen, with `z` after the last, in rows of 128. -/
def pack (z : (⟨0, ![]⟩ : Shape).Idx → α) (x0 : (⟨3, ![2, 32, 64]⟩ : Shape).Idx → α) (x1 : (⟨3, ![2, 32, 64]⟩ : Shape).Idx → α) (x2 : (⟨2, ![2, 32]⟩ : Shape).Idx → α) (x3 : (⟨4, ![2, 32, 64, 16]⟩ : Shape).Idx → α) (x4 : (⟨4, ![2, 32, 64, 16]⟩ : Shape).Idx → α) (x5 : (⟨4, ![2, 32, 16, 64]⟩ : Shape).Idx → α) (x6 : (⟨4, ![2, 32, 16, 64]⟩ : Shape).Idx → α) (x7 : (⟨2, ![2, 512]⟩ : Shape).Idx → α) (x8 : (⟨2, ![2, 512]⟩ : Shape).Idx → α) (x9 : (⟨3, ![2, 8, 257]⟩ : Shape).Idx → α) (x10 : (⟨4, ![2, 4, 128, 128]⟩ : Shape).Idx → α) (x11 : (⟨2, ![4, 1024]⟩ : Shape).Idx → α) (x12 : (⟨2, ![4, 1024]⟩ : Shape).Idx → α) (x13 : (⟨2, ![4, 1024]⟩ : Shape).Idx → α) (x14 : (⟨2, ![4, 1024]⟩ : Shape).Idx → α) (x15 : (⟨2, ![4, 1024]⟩ : Shape).Idx → α) (x16 : (⟨3, ![2, 3, 128]⟩ : Shape).Idx → α) (x17 : (⟨2, ![2, 128]⟩ : Shape).Idx → α) : (⟨2, ![3360, 128]⟩ : Shape).Idx → α :=
  shapeCast ⟨2, ![3360, 128]⟩ (pad (⟨1, ![430080]⟩ : Shape) ![0] ![944] ![0]
    (packBoth (packHead x0 x1 x2 x3 x4 x5 x6 x7 x8 x9 x10 x11 x12 x13 x14 x15) (packTail x16 x17))
    z zeros_fit zero_fits) rows_fit

theorem packHead_map (g : α → β) (x0 : (⟨3, ![2, 32, 64]⟩ : Shape).Idx → α) (x1 : (⟨3, ![2, 32, 64]⟩ : Shape).Idx → α) (x2 : (⟨2, ![2, 32]⟩ : Shape).Idx → α) (x3 : (⟨4, ![2, 32, 64, 16]⟩ : Shape).Idx → α) (x4 : (⟨4, ![2, 32, 64, 16]⟩ : Shape).Idx → α) (x5 : (⟨4, ![2, 32, 16, 64]⟩ : Shape).Idx → α) (x6 : (⟨4, ![2, 32, 16, 64]⟩ : Shape).Idx → α) (x7 : (⟨2, ![2, 512]⟩ : Shape).Idx → α) (x8 : (⟨2, ![2, 512]⟩ : Shape).Idx → α) (x9 : (⟨3, ![2, 8, 257]⟩ : Shape).Idx → α) (x10 : (⟨4, ![2, 4, 128, 128]⟩ : Shape).Idx → α) (x11 : (⟨2, ![4, 1024]⟩ : Shape).Idx → α) (x12 : (⟨2, ![4, 1024]⟩ : Shape).Idx → α) (x13 : (⟨2, ![4, 1024]⟩ : Shape).Idx → α) (x14 : (⟨2, ![4, 1024]⟩ : Shape).Idx → α) (x15 : (⟨2, ![4, 1024]⟩ : Shape).Idx → α) :
    packHead (g ∘ x0) (g ∘ x1) (g ∘ x2) (g ∘ x3) (g ∘ x4) (g ∘ x5) (g ∘ x6) (g ∘ x7) (g ∘ x8) (g ∘ x9) (g ∘ x10) (g ∘ x11) (g ∘ x12) (g ∘ x13) (g ∘ x14) (g ∘ x15) = g ∘ packHead x0 x1 x2 x3 x4 x5 x6 x7 x8 x9 x10 x11 x12 x13 x14 x15 :=
  concatenate_map g _ _ [⟨(⟨1, ![4096]⟩ : Shape), shapeCast (⟨1, ![4096]⟩ : Shape) x0 flat_fits0⟩, ⟨(⟨1, ![4096]⟩ : Shape), shapeCast (⟨1, ![4096]⟩ : Shape) x1 flat_fits0⟩, ⟨(⟨1, ![64]⟩ : Shape), shapeCast (⟨1, ![64]⟩ : Shape) x2 flat_fits1⟩, ⟨(⟨1, ![65536]⟩ : Shape), shapeCast (⟨1, ![65536]⟩ : Shape) x3 flat_fits2⟩, ⟨(⟨1, ![65536]⟩ : Shape), shapeCast (⟨1, ![65536]⟩ : Shape) x4 flat_fits2⟩, ⟨(⟨1, ![65536]⟩ : Shape), shapeCast (⟨1, ![65536]⟩ : Shape) x5 flat_fits3⟩, ⟨(⟨1, ![65536]⟩ : Shape), shapeCast (⟨1, ![65536]⟩ : Shape) x6 flat_fits3⟩, ⟨(⟨1, ![1024]⟩ : Shape), shapeCast (⟨1, ![1024]⟩ : Shape) x7 flat_fits4⟩, ⟨(⟨1, ![1024]⟩ : Shape), shapeCast (⟨1, ![1024]⟩ : Shape) x8 flat_fits4⟩, ⟨(⟨1, ![4112]⟩ : Shape), shapeCast (⟨1, ![4112]⟩ : Shape) x9 flat_fits5⟩, ⟨(⟨1, ![131072]⟩ : Shape), shapeCast (⟨1, ![131072]⟩ : Shape) x10 flat_fits6⟩, ⟨(⟨1, ![4096]⟩ : Shape), shapeCast (⟨1, ![4096]⟩ : Shape) x11 flat_fits7⟩, ⟨(⟨1, ![4096]⟩ : Shape), shapeCast (⟨1, ![4096]⟩ : Shape) x12 flat_fits7⟩, ⟨(⟨1, ![4096]⟩ : Shape), shapeCast (⟨1, ![4096]⟩ : Shape) x13 flat_fits7⟩, ⟨(⟨1, ![4096]⟩ : Shape), shapeCast (⟨1, ![4096]⟩ : Shape) x14 flat_fits7⟩, ⟨(⟨1, ![4096]⟩ : Shape), shapeCast (⟨1, ![4096]⟩ : Shape) x15 flat_fits7⟩]
    [⟨(⟨1, ![4096]⟩ : Shape), shapeCast (⟨1, ![4096]⟩ : Shape) (g ∘ x0) flat_fits0⟩, ⟨(⟨1, ![4096]⟩ : Shape), shapeCast (⟨1, ![4096]⟩ : Shape) (g ∘ x1) flat_fits0⟩, ⟨(⟨1, ![64]⟩ : Shape), shapeCast (⟨1, ![64]⟩ : Shape) (g ∘ x2) flat_fits1⟩, ⟨(⟨1, ![65536]⟩ : Shape), shapeCast (⟨1, ![65536]⟩ : Shape) (g ∘ x3) flat_fits2⟩, ⟨(⟨1, ![65536]⟩ : Shape), shapeCast (⟨1, ![65536]⟩ : Shape) (g ∘ x4) flat_fits2⟩, ⟨(⟨1, ![65536]⟩ : Shape), shapeCast (⟨1, ![65536]⟩ : Shape) (g ∘ x5) flat_fits3⟩, ⟨(⟨1, ![65536]⟩ : Shape), shapeCast (⟨1, ![65536]⟩ : Shape) (g ∘ x6) flat_fits3⟩, ⟨(⟨1, ![1024]⟩ : Shape), shapeCast (⟨1, ![1024]⟩ : Shape) (g ∘ x7) flat_fits4⟩, ⟨(⟨1, ![1024]⟩ : Shape), shapeCast (⟨1, ![1024]⟩ : Shape) (g ∘ x8) flat_fits4⟩, ⟨(⟨1, ![4112]⟩ : Shape), shapeCast (⟨1, ![4112]⟩ : Shape) (g ∘ x9) flat_fits5⟩, ⟨(⟨1, ![131072]⟩ : Shape), shapeCast (⟨1, ![131072]⟩ : Shape) (g ∘ x10) flat_fits6⟩, ⟨(⟨1, ![4096]⟩ : Shape), shapeCast (⟨1, ![4096]⟩ : Shape) (g ∘ x11) flat_fits7⟩, ⟨(⟨1, ![4096]⟩ : Shape), shapeCast (⟨1, ![4096]⟩ : Shape) (g ∘ x12) flat_fits7⟩, ⟨(⟨1, ![4096]⟩ : Shape), shapeCast (⟨1, ![4096]⟩ : Shape) (g ∘ x13) flat_fits7⟩, ⟨(⟨1, ![4096]⟩ : Shape), shapeCast (⟨1, ![4096]⟩ : Shape) (g ∘ x14) flat_fits7⟩, ⟨(⟨1, ![4096]⟩ : Shape), shapeCast (⟨1, ![4096]⟩ : Shape) (g ∘ x15) flat_fits7⟩] rfl _ _

theorem packTail_map (g : α → β) (x16 : (⟨3, ![2, 3, 128]⟩ : Shape).Idx → α) (x17 : (⟨2, ![2, 128]⟩ : Shape).Idx → α) :
    packTail (g ∘ x16) (g ∘ x17) = g ∘ packTail x16 x17 :=
  concatenate_map g _ _ [⟨(⟨1, ![768]⟩ : Shape), shapeCast (⟨1, ![768]⟩ : Shape) x16 flat_fits8⟩, ⟨(⟨1, ![256]⟩ : Shape), shapeCast (⟨1, ![256]⟩ : Shape) x17 flat_fits9⟩]
    [⟨(⟨1, ![768]⟩ : Shape), shapeCast (⟨1, ![768]⟩ : Shape) (g ∘ x16) flat_fits8⟩, ⟨(⟨1, ![256]⟩ : Shape), shapeCast (⟨1, ![256]⟩ : Shape) (g ∘ x17) flat_fits9⟩] rfl _ _

theorem pack_map (g : α → β) (z : (⟨0, ![]⟩ : Shape).Idx → α) (x0 : (⟨3, ![2, 32, 64]⟩ : Shape).Idx → α) (x1 : (⟨3, ![2, 32, 64]⟩ : Shape).Idx → α) (x2 : (⟨2, ![2, 32]⟩ : Shape).Idx → α) (x3 : (⟨4, ![2, 32, 64, 16]⟩ : Shape).Idx → α) (x4 : (⟨4, ![2, 32, 64, 16]⟩ : Shape).Idx → α) (x5 : (⟨4, ![2, 32, 16, 64]⟩ : Shape).Idx → α) (x6 : (⟨4, ![2, 32, 16, 64]⟩ : Shape).Idx → α) (x7 : (⟨2, ![2, 512]⟩ : Shape).Idx → α) (x8 : (⟨2, ![2, 512]⟩ : Shape).Idx → α) (x9 : (⟨3, ![2, 8, 257]⟩ : Shape).Idx → α) (x10 : (⟨4, ![2, 4, 128, 128]⟩ : Shape).Idx → α) (x11 : (⟨2, ![4, 1024]⟩ : Shape).Idx → α) (x12 : (⟨2, ![4, 1024]⟩ : Shape).Idx → α) (x13 : (⟨2, ![4, 1024]⟩ : Shape).Idx → α) (x14 : (⟨2, ![4, 1024]⟩ : Shape).Idx → α) (x15 : (⟨2, ![4, 1024]⟩ : Shape).Idx → α) (x16 : (⟨3, ![2, 3, 128]⟩ : Shape).Idx → α) (x17 : (⟨2, ![2, 128]⟩ : Shape).Idx → α) :
    pack (g ∘ z) (g ∘ x0) (g ∘ x1) (g ∘ x2) (g ∘ x3) (g ∘ x4) (g ∘ x5) (g ∘ x6) (g ∘ x7) (g ∘ x8) (g ∘ x9) (g ∘ x10) (g ∘ x11) (g ∘ x12) (g ∘ x13) (g ∘ x14) (g ∘ x15) (g ∘ x16) (g ∘ x17) = g ∘ pack z x0 x1 x2 x3 x4 x5 x6 x7 x8 x9 x10 x11 x12 x13 x14 x15 x16 x17 := by
  unfold pack
  rw [packHead_map, packTail_map, packBoth_map, pad_map]
  rfl

end Cert.StepProof
end
-- ==== Proof.AdamSmallKernel.lean ====
module

public import proofs.«01_k».proof.Proof.AdamSpec
public import proofs.«01_k».proof.Proof.PackSpec
public import proofs.«01_k».proof.Proof.Gen.AdamSmallIdeal.Value
public import Idealize.ShloMosaic.Lib.Pipeline.ValueKit
public import Idealize.ShloMosaic.Lib.Pipeline.ReadBack
public import Idealize.ShloMosaic.Lib.WritesUnit

/-! The optimiser on the small weights, laid one after another in one array: what the call leaves, entry by entry. -/

@[expose] public section

noncomputable section

namespace Cert.AdamSmallProof

open Idealize.ShloMosaic Idealize.SL.Sem Cert.StepProof
open Cert.AdamSmallIdeal Cert.AdamSmallIdeal.Gen

variable (m : (ℓ : Loc nD τ sig) → Buf (Elt Ideal) ℓ) (c : Dev nD)

/-- The four arrays the call reads: the weights, their gradients, their two moments. -/
def rowsW : Arr 3360 128 := V m c main_v22
def rowsG : Arr 3360 128 := V m c main_v45
def rowsM : Arr 3360 128 := V m c main_v68
def rowsV : Arr 3360 128 := V m c main_v91

theorem lt_points (t : Fin cfg0.N) : t.val < 105 := t.isLt

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel

theorem blk0 (t : Fin cfg0.N) (r : Fin 32) (k : Fin 128) :
    iblk m c 0 t (ix2 r k) = rowsW m c (ix2 ⟨t.val * 32 + r.val, by have := lt_points t; omega⟩ k) := by
  unfold rowsW
  blk_ext [iblk, idx0 t]

theorem blk1 (t : Fin cfg0.N) (r : Fin 32) (k : Fin 128) :
    iblk m c 1 t (ix2 r k) = rowsG m c (ix2 ⟨t.val * 32 + r.val, by have := lt_points t; omega⟩ k) := by
  unfold rowsG
  blk_ext [iblk, idx1 t]

theorem blk2 (t : Fin cfg0.N) (r : Fin 32) (k : Fin 128) :
    iblk m c 2 t (ix2 r k) = rowsM m c (ix2 ⟨t.val * 32 + r.val, by have := lt_points t; omega⟩ k) := by
  unfold rowsM
  blk_ext [iblk, idx2 t]

theorem blk3 (t : Fin cfg0.N) (r : Fin 32) (k : Fin 128) :
    iblk m c 3 t (ix2 r k) = rowsV m c (ix2 ⟨t.val * 32 + r.val, by have := lt_points t; omega⟩ k) := by
  unfold rowsV
  blk_ext [iblk, idx3 t]

theorem block4 (t : Fin cfg0.N) (r : Fin 32) (j : Fin 128) :
    out0_4 (iblk m c 0 t) (iblk m c 1 t) (iblk m c 2 t) (iblk m c 3 t) (ix2 r j)
      = newDelta (rowsW m c) (rowsG m c) (rowsM m c) (rowsV m c) (ix2 ⟨t.val * 32 + r.val, by have := lt_points t; omega⟩ j) := by
  frame_out
  unfold k0_pay4 k0_pay3 k0_pay2 k0_pay1
  pointwise [blk0, blk1, blk2, blk3, newDelta, newM, newV, deltaOf, momOf, velOf]

theorem out4 : (dats m 0 c).arrAt 4 cfg0.N = newDelta (rowsW m c) (rowsG m c) (rowsM m c) (rowsV m c) := by
  refine (dats m 0 c).arrAt_eq_of_covers 4 _ (by decide +kernel) fun t hf y => ?_
  blk_simp
  rw [after0_4]
  obtain ⟨r, j, rfl⟩ : ∃ (r : Fin 32) (j : Fin 128), y = ix2 r j := ⟨y 0, y 1, eq_ix2 y⟩
  refine (block4 m c t r j).trans (congrArg (newDelta (rowsW m c) (rowsG m c) (rowsM m c) (rowsV m c)) (?_ : ix2 _ _ = _))
  blk_ext [idx4 t]

theorem block5 (t : Fin cfg0.N) (r : Fin 32) (j : Fin 128) :
    out0_5 (iblk m c 0 t) (iblk m c 1 t) (iblk m c 2 t) (iblk m c 3 t) (ix2 r j)
      = newM (rowsG m c) (rowsM m c) (ix2 ⟨t.val * 32 + r.val, by have := lt_points t; omega⟩ j) := by
  frame_out
  unfold k0_pay2 k0_pay1
  pointwise [blk0, blk1, blk2, blk3, newDelta, newM, newV, deltaOf, momOf, velOf]

theorem out5 : (dats m 0 c).arrAt 5 cfg0.N = newM (rowsG m c) (rowsM m c) := by
  refine (dats m 0 c).arrAt_eq_of_covers 5 _ (by decide +kernel) fun t hf y => ?_
  blk_simp
  rw [after0_5]
  obtain ⟨r, j, rfl⟩ : ∃ (r : Fin 32) (j : Fin 128), y = ix2 r j := ⟨y 0, y 1, eq_ix2 y⟩
  refine (block5 m c t r j).trans (congrArg (newM (rowsG m c) (rowsM m c)) (?_ : ix2 _ _ = _))
  blk_ext [idx5 t]

theorem block6 (t : Fin cfg0.N) (r : Fin 32) (j : Fin 128) :
    out0_6 (iblk m c 0 t) (iblk m c 1 t) (iblk m c 2 t) (iblk m c 3 t) (ix2 r j)
      = newV (rowsG m c) (rowsV m c) (ix2 ⟨t.val * 32 + r.val, by have := lt_points t; omega⟩ j) := by
  frame_out
  unfold k0_pay3 k0_pay1
  pointwise [blk0, blk1, blk2, blk3, newDelta, newM, newV, deltaOf, momOf, velOf]

theorem out6 : (dats m 0 c).arrAt 6 cfg0.N = newV (rowsG m c) (rowsV m c) := by
  refine (dats m 0 c).arrAt_eq_of_covers 6 _ (by decide +kernel) fun t hf y => ?_
  blk_simp
  rw [after0_6]
  obtain ⟨r, j, rfl⟩ : ∃ (r : Fin 32) (j : Fin 128), y = ix2 r j := ⟨y 0, y 1, eq_ix2 y⟩
  refine (block6 m c t r j).trans (congrArg (newV (rowsG m c) (rowsV m c)) (?_ : ix2 _ _ = _))
  blk_ext [idx6 t]

end Cert.AdamSmallProof
end
-- ==== Proof.PackStep.lean ====
module

public import proofs.«01_k».proof.Proof.AdamSpec
public import proofs.«01_k».proof.Proof.PackSpec

/-! One step of the optimiser at eighteen arrays laid one after another: the same as the step at each array, and the
    eighteen results laid one after another. The entries after the last are zero before and after. -/

@[expose] public section

noncomputable section

namespace Cert.StepProof

open Idealize.ShloMosaic

/-- The zero after the last weight. -/
def zeroAt : (⟨0, ![]⟩ : Shape).Idx → EReal := sitofp (F := Ideal) .f32 (fun _ => 0#32)

theorem zeroAt_apply (y : (⟨0, ![]⟩ : Shape).Idx) : zeroAt y = 0 := by
  show (((0#32 : BitVec 32).toInt : ℝ) : EReal) = 0
  simp

theorem first_bits : Ideal.ofBits .f32 0x3F26BD02#32 ≠ 0 := by
  have h : ∃ e : ℝ, 0 < e ∧ Ideal.ofBits .f32 0x3F26BD02#32 = (e : EReal) := by
    simp only [Ideal.ofBits, Ideal.ieee]
    refine ⟨_, ?_, by simp [-EReal.coe_mul]; rfl⟩
    norm_num
  obtain ⟨e, he, h⟩ := h
  rw [h]
  exact EReal.coe_ne_zero.2 he.ne'

theorem second_bits : Ideal.ofBits .f32 0x3C231ACC#32 ≠ 0 := by
  have h : ∃ e : ℝ, 0 < e ∧ Ideal.ofBits .f32 0x3C231ACC#32 = (e : EReal) := by
    simp only [Ideal.ofBits, Ideal.ieee]
    refine ⟨_, ?_, by simp [-EReal.coe_mul]; rfl⟩
    norm_num
  obtain ⟨e, he, h⟩ := h
  rw [h]
  exact EReal.coe_ne_zero.2 he.ne'

theorem small_bits : Ideal.ofBits .f32 0x322BCC77#32 ≠ 0 := by
  have h : ∃ e : ℝ, 0 < e ∧ Ideal.ofBits .f32 0x322BCC77#32 = (e : EReal) := by
    simp only [Ideal.ofBits, Ideal.ieee]
    refine ⟨_, ?_, by simp [-EReal.coe_mul]; rfl⟩
    norm_num
  obtain ⟨e, he, h⟩ := h
  rw [h]
  exact EReal.coe_ne_zero.2 he.ne'

theorem momOf_zero : momOf 0 0 = 0 := by simp [momOf]

theorem velOf_zero : velOf 0 0 = 0 := by simp [velOf]

theorem div_zero_left (x : EReal) (h : x ≠ 0) : Ideal.div 0 x = 0 := by
  rw [Ideal.div, if_neg h, zero_mul]

theorem sqrt_zero : Ideal.sqrt 0 = 0 := by
  show (if (0 : ℝ) < 0 then (⊥ : EReal) else ((Real.sqrt 0 : ℝ) : EReal)) = 0
  simp

theorem deltaOf_zero : deltaOf 0 0 0 0 = 0 := by
  unfold deltaOf
  rw [momOf_zero, velOf_zero, div_zero_left _ first_bits, div_zero_left _ second_bits, sqrt_zero, zero_add,
    div_zero_left _ small_bits, mul_zero, add_zero, mul_zero]

/-- The zero, four times. -/
abbrev zeros4 : (⟨0, ![]⟩ : Shape).Idx → EReal × EReal × EReal × EReal := fun y => (zeroAt y, zeroAt y, zeroAt y, zeroAt y)

theorem pack_delta (w0 : (⟨3, ![2, 32, 64]⟩ : Shape).Idx → EReal) (w1 : (⟨3, ![2, 32, 64]⟩ : Shape).Idx → EReal) (w2 : (⟨2, ![2, 32]⟩ : Shape).Idx → EReal) (w3 : (⟨4, ![2, 32, 64, 16]⟩ : Shape).Idx → EReal) (w4 : (⟨4, ![2, 32, 64, 16]⟩ : Shape).Idx → EReal) (w5 : (⟨4, ![2, 32, 16, 64]⟩ : Shape).Idx → EReal) (w6 : (⟨4, ![2, 32, 16, 64]⟩ : Shape).Idx → EReal) (w7 : (⟨2, ![2, 512]⟩ : Shape).Idx → EReal) (w8 : (⟨2, ![2, 512]⟩ : Shape).Idx → EReal) (w9 : (⟨3, ![2, 8, 257]⟩ : Shape).Idx → EReal) (w10 : (⟨4, ![2, 4, 128, 128]⟩ : Shape).Idx → EReal) (w11 : (⟨2, ![4, 1024]⟩ : Shape).Idx → EReal) (w12 : (⟨2, ![4, 1024]⟩ : Shape).Idx → EReal) (w13 : (⟨2, ![4, 1024]⟩ : Shape).Idx → EReal) (w14 : (⟨2, ![4, 1024]⟩ : Shape).Idx → EReal) (w15 : (⟨2, ![4, 1024]⟩ : Shape).Idx → EReal) (w16 : (⟨3, ![2, 3, 128]⟩ : Shape).Idx → EReal) (w17 : (⟨2, ![2, 128]⟩ : Shape).Idx → EReal)
    (g0 : (⟨3, ![2, 32, 64]⟩ : Shape).Idx → EReal) (g1 : (⟨3, ![2, 32, 64]⟩ : Shape).Idx → EReal) (g2 : (⟨2, ![2, 32]⟩ : Shape).Idx → EReal) (g3 : (⟨4, ![2, 32, 64, 16]⟩ : Shape).Idx → EReal) (g4 : (⟨4, ![2, 32, 64, 16]⟩ : Shape).Idx → EReal) (g5 : (⟨4, ![2, 32, 16, 64]⟩ : Shape).Idx → EReal) (g6 : (⟨4, ![2, 32, 16, 64]⟩ : Shape).Idx → EReal) (g7 : (⟨2, ![2, 512]⟩ : Shape).Idx → EReal) (g8 : (⟨2, ![2, 512]⟩ : Shape).Idx → EReal) (g9 : (⟨3, ![2, 8, 257]⟩ : Shape).Idx → EReal) (g10 : (⟨4, ![2, 4, 128, 128]⟩ : Shape).Idx → EReal) (g11 : (⟨2, ![4, 1024]⟩ : Shape).Idx → EReal) (g12 : (⟨2, ![4, 1024]⟩ : Shape).Idx → EReal) (g13 : (⟨2, ![4, 1024]⟩ : Shape).Idx → EReal) (g14 : (⟨2, ![4, 1024]⟩ : Shape).Idx → EReal) (g15 : (⟨2, ![4, 1024]⟩ : Shape).Idx → EReal) (g16 : (⟨3, ![2, 3, 128]⟩ : Shape).Idx → EReal) (g17 : (⟨2, ![2, 128]⟩ : Shape).Idx → EReal)
    (m0 : (⟨3, ![2, 32, 64]⟩ : Shape).Idx → EReal) (m1 : (⟨3, ![2, 32, 64]⟩ : Shape).Idx → EReal) (m2 : (⟨2, ![2, 32]⟩ : Shape).Idx → EReal) (m3 : (⟨4, ![2, 32, 64, 16]⟩ : Shape).Idx → EReal) (m4 : (⟨4, ![2, 32, 64, 16]⟩ : Shape).Idx → EReal) (m5 : (⟨4, ![2, 32, 16, 64]⟩ : Shape).Idx → EReal) (m6 : (⟨4, ![2, 32, 16, 64]⟩ : Shape).Idx → EReal) (m7 : (⟨2, ![2, 512]⟩ : Shape).Idx → EReal) (m8 : (⟨2, ![2, 512]⟩ : Shape).Idx → EReal) (m9 : (⟨3, ![2, 8, 257]⟩ : Shape).Idx → EReal) (m10 : (⟨4, ![2, 4, 128, 128]⟩ : Shape).Idx → EReal) (m11 : (⟨2, ![4, 1024]⟩ : Shape).Idx → EReal) (m12 : (⟨2, ![4, 1024]⟩ : Shape).Idx → EReal) (m13 : (⟨2, ![4, 1024]⟩ : Shape).Idx → EReal) (m14 : (⟨2, ![4, 1024]⟩ : Shape).Idx → EReal) (m15 : (⟨2, ![4, 1024]⟩ : Shape).Idx → EReal) (m16 : (⟨3, ![2, 3, 128]⟩ : Shape).Idx → EReal) (m17 : (⟨2, ![2, 128]⟩ : Shape).Idx → EReal)
    (v0 : (⟨3, ![2, 32, 64]⟩ : Shape).Idx → EReal) (v1 : (⟨3, ![2, 32, 64]⟩ : Shape).Idx → EReal) (v2 : (⟨2, ![2, 32]⟩ : Shape).Idx → EReal) (v3 : (⟨4, ![2, 32, 64, 16]⟩ : Shape).Idx → EReal) (v4 : (⟨4, ![2, 32, 64, 16]⟩ : Shape).Idx → EReal) (v5 : (⟨4, ![2, 32, 16, 64]⟩ : Shape).Idx → EReal) (v6 : (⟨4, ![2, 32, 16, 64]⟩ : Shape).Idx → EReal) (v7 : (⟨2, ![2, 512]⟩ : Shape).Idx → EReal) (v8 : (⟨2, ![2, 512]⟩ : Shape).Idx → EReal) (v9 : (⟨3, ![2, 8, 257]⟩ : Shape).Idx → EReal) (v10 : (⟨4, ![2, 4, 128, 128]⟩ : Shape).Idx → EReal) (v11 : (⟨2, ![4, 1024]⟩ : Shape).Idx → EReal) (v12 : (⟨2, ![4, 1024]⟩ : Shape).Idx → EReal) (v13 : (⟨2, ![4, 1024]⟩ : Shape).Idx → EReal) (v14 : (⟨2, ![4, 1024]⟩ : Shape).Idx → EReal) (v15 : (⟨2, ![4, 1024]⟩ : Shape).Idx → EReal) (v16 : (⟨3, ![2, 3, 128]⟩ : Shape).Idx → EReal) (v17 : (⟨2, ![2, 128]⟩ : Shape).Idx → EReal) :
    newDelta (pack zeroAt w0 w1 w2 w3 w4 w5 w6 w7 w8 w9 w10 w11 w12 w13 w14 w15 w16 w17) (pack zeroAt g0 g1 g2 g3 g4 g5 g6 g7 g8 g9 g10 g11 g12 g13 g14 g15 g16 g17)
        (pack zeroAt m0 m1 m2 m3 m4 m5 m6 m7 m8 m9 m10 m11 m12 m13 m14 m15 m16 m17) (pack zeroAt v0 v1 v2 v3 v4 v5 v6 v7 v8 v9 v10 v11 v12 v13 v14 v15 v16 v17)
      = pack zeroAt (fun y => deltaOf (w0 y) (g0 y) (m0 y) (v0 y)) (fun y => deltaOf (w1 y) (g1 y) (m1 y) (v1 y)) (fun y => deltaOf (w2 y) (g2 y) (m2 y) (v2 y)) (fun y => deltaOf (w3 y) (g3 y) (m3 y) (v3 y)) (fun y => deltaOf (w4 y) (g4 y) (m4 y) (v4 y)) (fun y => deltaOf (w5 y) (g5 y) (m5 y) (v5 y)) (fun y => deltaOf (w6 y) (g6 y) (m6 y) (v6 y)) (fun y => deltaOf (w7 y) (g7 y) (m7 y) (v7 y)) (fun y => deltaOf (w8 y) (g8 y) (m8 y) (v8 y)) (fun y => deltaOf (w9 y) (g9 y) (m9 y) (v9 y)) (fun y => deltaOf (w10 y) (g10 y) (m10 y) (v10 y)) (fun y => deltaOf (w11 y) (g11 y) (m11 y) (v11 y)) (fun y => deltaOf (w12 y) (g12 y) (m12 y) (v12 y)) (fun y => deltaOf (w13 y) (g13 y) (m13 y) (v13 y)) (fun y => deltaOf (w14 y) (g14 y) (m14 y) (v14 y)) (fun y => deltaOf (w15 y) (g15 y) (m15 y) (v15 y)) (fun y => deltaOf (w16 y) (g16 y) (m16 y) (v16 y)) (fun y => deltaOf (w17 y) (g17 y) (m17 y) (v17 y)) := by
  have h := pack_map (fun p : EReal × EReal × EReal × EReal => deltaOf p.1 p.2.1 p.2.2.1 p.2.2.2) zeros4
    (fun y => (w0 y, g0 y, m0 y, v0 y)) (fun y => (w1 y, g1 y, m1 y, v1 y)) (fun y => (w2 y, g2 y, m2 y, v2 y)) (fun y => (w3 y, g3 y, m3 y, v3 y)) (fun y => (w4 y, g4 y, m4 y, v4 y)) (fun y => (w5 y, g5 y, m5 y, v5 y)) (fun y => (w6 y, g6 y, m6 y, v6 y)) (fun y => (w7 y, g7 y, m7 y, v7 y)) (fun y => (w8 y, g8 y, m8 y, v8 y)) (fun y => (w9 y, g9 y, m9 y, v9 y)) (fun y => (w10 y, g10 y, m10 y, v10 y)) (fun y => (w11 y, g11 y, m11 y, v11 y)) (fun y => (w12 y, g12 y, m12 y, v12 y)) (fun y => (w13 y, g13 y, m13 y, v13 y)) (fun y => (w14 y, g14 y, m14 y, v14 y)) (fun y => (w15 y, g15 y, m15 y, v15 y)) (fun y => (w16 y, g16 y, m16 y, v16 y)) (fun y => (w17 y, g17 y, m17 y, v17 y))
  have z : (fun p : EReal × EReal × EReal × EReal => deltaOf p.1 p.2.1 p.2.2.1 p.2.2.2) ∘ zeros4 = zeroAt := by
    funext y
    simp only [Function.comp_apply, zeros4, zeroAt_apply, deltaOf_zero]
  rw [z] at h
  have ew : pack zeroAt w0 w1 w2 w3 w4 w5 w6 w7 w8 w9 w10 w11 w12 w13 w14 w15 w16 w17 = fun y => (pack zeros4 (fun y => (w0 y, g0 y, m0 y, v0 y)) (fun y => (w1 y, g1 y, m1 y, v1 y)) (fun y => (w2 y, g2 y, m2 y, v2 y)) (fun y => (w3 y, g3 y, m3 y, v3 y)) (fun y => (w4 y, g4 y, m4 y, v4 y)) (fun y => (w5 y, g5 y, m5 y, v5 y)) (fun y => (w6 y, g6 y, m6 y, v6 y)) (fun y => (w7 y, g7 y, m7 y, v7 y)) (fun y => (w8 y, g8 y, m8 y, v8 y)) (fun y => (w9 y, g9 y, m9 y, v9 y)) (fun y => (w10 y, g10 y, m10 y, v10 y)) (fun y => (w11 y, g11 y, m11 y, v11 y)) (fun y => (w12 y, g12 y, m12 y, v12 y)) (fun y => (w13 y, g13 y, m13 y, v13 y)) (fun y => (w14 y, g14 y, m14 y, v14 y)) (fun y => (w15 y, g15 y, m15 y, v15 y)) (fun y => (w16 y, g16 y, m16 y, v16 y)) (fun y => (w17 y, g17 y, m17 y, v17 y)) y).1 :=
    pack_map (fun p : EReal × EReal × EReal × EReal => p.1) zeros4 (fun y => (w0 y, g0 y, m0 y, v0 y)) (fun y => (w1 y, g1 y, m1 y, v1 y)) (fun y => (w2 y, g2 y, m2 y, v2 y)) (fun y => (w3 y, g3 y, m3 y, v3 y)) (fun y => (w4 y, g4 y, m4 y, v4 y)) (fun y => (w5 y, g5 y, m5 y, v5 y)) (fun y => (w6 y, g6 y, m6 y, v6 y)) (fun y => (w7 y, g7 y, m7 y, v7 y)) (fun y => (w8 y, g8 y, m8 y, v8 y)) (fun y => (w9 y, g9 y, m9 y, v9 y)) (fun y => (w10 y, g10 y, m10 y, v10 y)) (fun y => (w11 y, g11 y, m11 y, v11 y)) (fun y => (w12 y, g12 y, m12 y, v12 y)) (fun y => (w13 y, g13 y, m13 y, v13 y)) (fun y => (w14 y, g14 y, m14 y, v14 y)) (fun y => (w15 y, g15 y, m15 y, v15 y)) (fun y => (w16 y, g16 y, m16 y, v16 y)) (fun y => (w17 y, g17 y, m17 y, v17 y))
  have eg : pack zeroAt g0 g1 g2 g3 g4 g5 g6 g7 g8 g9 g10 g11 g12 g13 g14 g15 g16 g17 = fun y => (pack zeros4 (fun y => (w0 y, g0 y, m0 y, v0 y)) (fun y => (w1 y, g1 y, m1 y, v1 y)) (fun y => (w2 y, g2 y, m2 y, v2 y)) (fun y => (w3 y, g3 y, m3 y, v3 y)) (fun y => (w4 y, g4 y, m4 y, v4 y)) (fun y => (w5 y, g5 y, m5 y, v5 y)) (fun y => (w6 y, g6 y, m6 y, v6 y)) (fun y => (w7 y, g7 y, m7 y, v7 y)) (fun y => (w8 y, g8 y, m8 y, v8 y)) (fun y => (w9 y, g9 y, m9 y, v9 y)) (fun y => (w10 y, g10 y, m10 y, v10 y)) (fun y => (w11 y, g11 y, m11 y, v11 y)) (fun y => (w12 y, g12 y, m12 y, v12 y)) (fun y => (w13 y, g13 y, m13 y, v13 y)) (fun y => (w14 y, g14 y, m14 y, v14 y)) (fun y => (w15 y, g15 y, m15 y, v15 y)) (fun y => (w16 y, g16 y, m16 y, v16 y)) (fun y => (w17 y, g17 y, m17 y, v17 y)) y).2.1 :=
    pack_map (fun p : EReal × EReal × EReal × EReal => p.2.1) zeros4 (fun y => (w0 y, g0 y, m0 y, v0 y)) (fun y => (w1 y, g1 y, m1 y, v1 y)) (fun y => (w2 y, g2 y, m2 y, v2 y)) (fun y => (w3 y, g3 y, m3 y, v3 y)) (fun y => (w4 y, g4 y, m4 y, v4 y)) (fun y => (w5 y, g5 y, m5 y, v5 y)) (fun y => (w6 y, g6 y, m6 y, v6 y)) (fun y => (w7 y, g7 y, m7 y, v7 y)) (fun y => (w8 y, g8 y, m8 y, v8 y)) (fun y => (w9 y, g9 y, m9 y, v9 y)) (fun y => (w10 y, g10 y, m10 y, v10 y)) (fun y => (w11 y, g11 y, m11 y, v11 y)) (fun y => (w12 y, g12 y, m12 y, v12 y)) (fun y => (w13 y, g13 y, m13 y, v13 y)) (fun y => (w14 y, g14 y, m14 y, v14 y)) (fun y => (w15 y, g15 y, m15 y, v15 y)) (fun y => (w16 y, g16 y, m16 y, v16 y)) (fun y => (w17 y, g17 y, m17 y, v17 y))
  have em : pack zeroAt m0 m1 m2 m3 m4 m5 m6 m7 m8 m9 m10 m11 m12 m13 m14 m15 m16 m17 = fun y => (pack zeros4 (fun y => (w0 y, g0 y, m0 y, v0 y)) (fun y => (w1 y, g1 y, m1 y, v1 y)) (fun y => (w2 y, g2 y, m2 y, v2 y)) (fun y => (w3 y, g3 y, m3 y, v3 y)) (fun y => (w4 y, g4 y, m4 y, v4 y)) (fun y => (w5 y, g5 y, m5 y, v5 y)) (fun y => (w6 y, g6 y, m6 y, v6 y)) (fun y => (w7 y, g7 y, m7 y, v7 y)) (fun y => (w8 y, g8 y, m8 y, v8 y)) (fun y => (w9 y, g9 y, m9 y, v9 y)) (fun y => (w10 y, g10 y, m10 y, v10 y)) (fun y => (w11 y, g11 y, m11 y, v11 y)) (fun y => (w12 y, g12 y, m12 y, v12 y)) (fun y => (w13 y, g13 y, m13 y, v13 y)) (fun y => (w14 y, g14 y, m14 y, v14 y)) (fun y => (w15 y, g15 y, m15 y, v15 y)) (fun y => (w16 y, g16 y, m16 y, v16 y)) (fun y => (w17 y, g17 y, m17 y, v17 y)) y).2.2.1 :=
    pack_map (fun p : EReal × EReal × EReal × EReal => p.2.2.1) zeros4 (fun y => (w0 y, g0 y, m0 y, v0 y)) (fun y => (w1 y, g1 y, m1 y, v1 y)) (fun y => (w2 y, g2 y, m2 y, v2 y)) (fun y => (w3 y, g3 y, m3 y, v3 y)) (fun y => (w4 y, g4 y, m4 y, v4 y)) (fun y => (w5 y, g5 y, m5 y, v5 y)) (fun y => (w6 y, g6 y, m6 y, v6 y)) (fun y => (w7 y, g7 y, m7 y, v7 y)) (fun y => (w8 y, g8 y, m8 y, v8 y)) (fun y => (w9 y, g9 y, m9 y, v9 y)) (fun y => (w10 y, g10 y, m10 y, v10 y)) (fun y => (w11 y, g11 y, m11 y, v11 y)) (fun y => (w12 y, g12 y, m12 y, v12 y)) (fun y => (w13 y, g13 y, m13 y, v13 y)) (fun y => (w14 y, g14 y, m14 y, v14 y)) (fun y => (w15 y, g15 y, m15 y, v15 y)) (fun y => (w16 y, g16 y, m16 y, v16 y)) (fun y => (w17 y, g17 y, m17 y, v17 y))
  have ev : pack zeroAt v0 v1 v2 v3 v4 v5 v6 v7 v8 v9 v10 v11 v12 v13 v14 v15 v16 v17 = fun y => (pack zeros4 (fun y => (w0 y, g0 y, m0 y, v0 y)) (fun y => (w1 y, g1 y, m1 y, v1 y)) (fun y => (w2 y, g2 y, m2 y, v2 y)) (fun y => (w3 y, g3 y, m3 y, v3 y)) (fun y => (w4 y, g4 y, m4 y, v4 y)) (fun y => (w5 y, g5 y, m5 y, v5 y)) (fun y => (w6 y, g6 y, m6 y, v6 y)) (fun y => (w7 y, g7 y, m7 y, v7 y)) (fun y => (w8 y, g8 y, m8 y, v8 y)) (fun y => (w9 y, g9 y, m9 y, v9 y)) (fun y => (w10 y, g10 y, m10 y, v10 y)) (fun y => (w11 y, g11 y, m11 y, v11 y)) (fun y => (w12 y, g12 y, m12 y, v12 y)) (fun y => (w13 y, g13 y, m13 y, v13 y)) (fun y => (w14 y, g14 y, m14 y, v14 y)) (fun y => (w15 y, g15 y, m15 y, v15 y)) (fun y => (w16 y, g16 y, m16 y, v16 y)) (fun y => (w17 y, g17 y, m17 y, v17 y)) y).2.2.2 :=
    pack_map (fun p : EReal × EReal × EReal × EReal => p.2.2.2) zeros4 (fun y => (w0 y, g0 y, m0 y, v0 y)) (fun y => (w1 y, g1 y, m1 y, v1 y)) (fun y => (w2 y, g2 y, m2 y, v2 y)) (fun y => (w3 y, g3 y, m3 y, v3 y)) (fun y => (w4 y, g4 y, m4 y, v4 y)) (fun y => (w5 y, g5 y, m5 y, v5 y)) (fun y => (w6 y, g6 y, m6 y, v6 y)) (fun y => (w7 y, g7 y, m7 y, v7 y)) (fun y => (w8 y, g8 y, m8 y, v8 y)) (fun y => (w9 y, g9 y, m9 y, v9 y)) (fun y => (w10 y, g10 y, m10 y, v10 y)) (fun y => (w11 y, g11 y, m11 y, v11 y)) (fun y => (w12 y, g12 y, m12 y, v12 y)) (fun y => (w13 y, g13 y, m13 y, v13 y)) (fun y => (w14 y, g14 y, m14 y, v14 y)) (fun y => (w15 y, g15 y, m15 y, v15 y)) (fun y => (w16 y, g16 y, m16 y, v16 y)) (fun y => (w17 y, g17 y, m17 y, v17 y))
  rw [ew, eg, em, ev]
  exact h.symm

/-- The zero, twice. -/
abbrev zeros2 : (⟨0, ![]⟩ : Shape).Idx → EReal × EReal := fun y => (zeroAt y, zeroAt y)

theorem pack_mom (g0 : (⟨3, ![2, 32, 64]⟩ : Shape).Idx → EReal) (g1 : (⟨3, ![2, 32, 64]⟩ : Shape).Idx → EReal) (g2 : (⟨2, ![2, 32]⟩ : Shape).Idx → EReal) (g3 : (⟨4, ![2, 32, 64, 16]⟩ : Shape).Idx → EReal) (g4 : (⟨4, ![2, 32, 64, 16]⟩ : Shape).Idx → EReal) (g5 : (⟨4, ![2, 32, 16, 64]⟩ : Shape).Idx → EReal) (g6 : (⟨4, ![2, 32, 16, 64]⟩ : Shape).Idx → EReal) (g7 : (⟨2, ![2, 512]⟩ : Shape).Idx → EReal) (g8 : (⟨2, ![2, 512]⟩ : Shape).Idx → EReal) (g9 : (⟨3, ![2, 8, 257]⟩ : Shape).Idx → EReal) (g10 : (⟨4, ![2, 4, 128, 128]⟩ : Shape).Idx → EReal) (g11 : (⟨2, ![4, 1024]⟩ : Shape).Idx → EReal) (g12 : (⟨2, ![4, 1024]⟩ : Shape).Idx → EReal) (g13 : (⟨2, ![4, 1024]⟩ : Shape).Idx → EReal) (g14 : (⟨2, ![4, 1024]⟩ : Shape).Idx → EReal) (g15 : (⟨2, ![4, 1024]⟩ : Shape).Idx → EReal) (g16 : (⟨3, ![2, 3, 128]⟩ : Shape).Idx → EReal) (g17 : (⟨2, ![2, 128]⟩ : Shape).Idx → EReal)
    (m0 : (⟨3, ![2, 32, 64]⟩ : Shape).Idx → EReal) (m1 : (⟨3, ![2, 32, 64]⟩ : Shape).Idx → EReal) (m2 : (⟨2, ![2, 32]⟩ : Shape).Idx → EReal) (m3 : (⟨4, ![2, 32, 64, 16]⟩ : Shape).Idx → EReal) (m4 : (⟨4, ![2, 32, 64, 16]⟩ : Shape).Idx → EReal) (m5 : (⟨4, ![2, 32, 16, 64]⟩ : Shape).Idx → EReal) (m6 : (⟨4, ![2, 32, 16, 64]⟩ : Shape).Idx → EReal) (m7 : (⟨2, ![2, 512]⟩ : Shape).Idx → EReal) (m8 : (⟨2, ![2, 512]⟩ : Shape).Idx → EReal) (m9 : (⟨3, ![2, 8, 257]⟩ : Shape).Idx → EReal) (m10 : (⟨4, ![2, 4, 128, 128]⟩ : Shape).Idx → EReal) (m11 : (⟨2, ![4, 1024]⟩ : Shape).Idx → EReal) (m12 : (⟨2, ![4, 1024]⟩ : Shape).Idx → EReal) (m13 : (⟨2, ![4, 1024]⟩ : Shape).Idx → EReal) (m14 : (⟨2, ![4, 1024]⟩ : Shape).Idx → EReal) (m15 : (⟨2, ![4, 1024]⟩ : Shape).Idx → EReal) (m16 : (⟨3, ![2, 3, 128]⟩ : Shape).Idx → EReal) (m17 : (⟨2, ![2, 128]⟩ : Shape).Idx → EReal) :
    newM (pack zeroAt g0 g1 g2 g3 g4 g5 g6 g7 g8 g9 g10 g11 g12 g13 g14 g15 g16 g17) (pack zeroAt m0 m1 m2 m3 m4 m5 m6 m7 m8 m9 m10 m11 m12 m13 m14 m15 m16 m17)
      = pack zeroAt (fun y => momOf (g0 y) (m0 y)) (fun y => momOf (g1 y) (m1 y)) (fun y => momOf (g2 y) (m2 y)) (fun y => momOf (g3 y) (m3 y)) (fun y => momOf (g4 y) (m4 y)) (fun y => momOf (g5 y) (m5 y)) (fun y => momOf (g6 y) (m6 y)) (fun y => momOf (g7 y) (m7 y)) (fun y => momOf (g8 y) (m8 y)) (fun y => momOf (g9 y) (m9 y)) (fun y => momOf (g10 y) (m10 y)) (fun y => momOf (g11 y) (m11 y)) (fun y => momOf (g12 y) (m12 y)) (fun y => momOf (g13 y) (m13 y)) (fun y => momOf (g14 y) (m14 y)) (fun y => momOf (g15 y) (m15 y)) (fun y => momOf (g16 y) (m16 y)) (fun y => momOf (g17 y) (m17 y)) := by
  have h := pack_map (fun p : EReal × EReal => momOf p.1 p.2) zeros2
    (fun y => (g0 y, m0 y)) (fun y => (g1 y, m1 y)) (fun y => (g2 y, m2 y)) (fun y => (g3 y, m3 y)) (fun y => (g4 y, m4 y)) (fun y => (g5 y, m5 y)) (fun y => (g6 y, m6 y)) (fun y => (g7 y, m7 y)) (fun y => (g8 y, m8 y)) (fun y => (g9 y, m9 y)) (fun y => (g10 y, m10 y)) (fun y => (g11 y, m11 y)) (fun y => (g12 y, m12 y)) (fun y => (g13 y, m13 y)) (fun y => (g14 y, m14 y)) (fun y => (g15 y, m15 y)) (fun y => (g16 y, m16 y)) (fun y => (g17 y, m17 y))
  have z : (fun p : EReal × EReal => momOf p.1 p.2) ∘ zeros2 = zeroAt := by
    funext y
    simp only [Function.comp_apply, zeros2, zeroAt_apply, momOf_zero]
  rw [z] at h
  have eg : pack zeroAt g0 g1 g2 g3 g4 g5 g6 g7 g8 g9 g10 g11 g12 g13 g14 g15 g16 g17 = fun y => (pack zeros2 (fun y => (g0 y, m0 y)) (fun y => (g1 y, m1 y)) (fun y => (g2 y, m2 y)) (fun y => (g3 y, m3 y)) (fun y => (g4 y, m4 y)) (fun y => (g5 y, m5 y)) (fun y => (g6 y, m6 y)) (fun y => (g7 y, m7 y)) (fun y => (g8 y, m8 y)) (fun y => (g9 y, m9 y)) (fun y => (g10 y, m10 y)) (fun y => (g11 y, m11 y)) (fun y => (g12 y, m12 y)) (fun y => (g13 y, m13 y)) (fun y => (g14 y, m14 y)) (fun y => (g15 y, m15 y)) (fun y => (g16 y, m16 y)) (fun y => (g17 y, m17 y)) y).1 :=
    pack_map (fun p : EReal × EReal => p.1) zeros2 (fun y => (g0 y, m0 y)) (fun y => (g1 y, m1 y)) (fun y => (g2 y, m2 y)) (fun y => (g3 y, m3 y)) (fun y => (g4 y, m4 y)) (fun y => (g5 y, m5 y)) (fun y => (g6 y, m6 y)) (fun y => (g7 y, m7 y)) (fun y => (g8 y, m8 y)) (fun y => (g9 y, m9 y)) (fun y => (g10 y, m10 y)) (fun y => (g11 y, m11 y)) (fun y => (g12 y, m12 y)) (fun y => (g13 y, m13 y)) (fun y => (g14 y, m14 y)) (fun y => (g15 y, m15 y)) (fun y => (g16 y, m16 y)) (fun y => (g17 y, m17 y))
  have em : pack zeroAt m0 m1 m2 m3 m4 m5 m6 m7 m8 m9 m10 m11 m12 m13 m14 m15 m16 m17 = fun y => (pack zeros2 (fun y => (g0 y, m0 y)) (fun y => (g1 y, m1 y)) (fun y => (g2 y, m2 y)) (fun y => (g3 y, m3 y)) (fun y => (g4 y, m4 y)) (fun y => (g5 y, m5 y)) (fun y => (g6 y, m6 y)) (fun y => (g7 y, m7 y)) (fun y => (g8 y, m8 y)) (fun y => (g9 y, m9 y)) (fun y => (g10 y, m10 y)) (fun y => (g11 y, m11 y)) (fun y => (g12 y, m12 y)) (fun y => (g13 y, m13 y)) (fun y => (g14 y, m14 y)) (fun y => (g15 y, m15 y)) (fun y => (g16 y, m16 y)) (fun y => (g17 y, m17 y)) y).2 :=
    pack_map (fun p : EReal × EReal => p.2) zeros2 (fun y => (g0 y, m0 y)) (fun y => (g1 y, m1 y)) (fun y => (g2 y, m2 y)) (fun y => (g3 y, m3 y)) (fun y => (g4 y, m4 y)) (fun y => (g5 y, m5 y)) (fun y => (g6 y, m6 y)) (fun y => (g7 y, m7 y)) (fun y => (g8 y, m8 y)) (fun y => (g9 y, m9 y)) (fun y => (g10 y, m10 y)) (fun y => (g11 y, m11 y)) (fun y => (g12 y, m12 y)) (fun y => (g13 y, m13 y)) (fun y => (g14 y, m14 y)) (fun y => (g15 y, m15 y)) (fun y => (g16 y, m16 y)) (fun y => (g17 y, m17 y))
  rw [eg, em]
  exact h.symm

theorem pack_vel (g0 : (⟨3, ![2, 32, 64]⟩ : Shape).Idx → EReal) (g1 : (⟨3, ![2, 32, 64]⟩ : Shape).Idx → EReal) (g2 : (⟨2, ![2, 32]⟩ : Shape).Idx → EReal) (g3 : (⟨4, ![2, 32, 64, 16]⟩ : Shape).Idx → EReal) (g4 : (⟨4, ![2, 32, 64, 16]⟩ : Shape).Idx → EReal) (g5 : (⟨4, ![2, 32, 16, 64]⟩ : Shape).Idx → EReal) (g6 : (⟨4, ![2, 32, 16, 64]⟩ : Shape).Idx → EReal) (g7 : (⟨2, ![2, 512]⟩ : Shape).Idx → EReal) (g8 : (⟨2, ![2, 512]⟩ : Shape).Idx → EReal) (g9 : (⟨3, ![2, 8, 257]⟩ : Shape).Idx → EReal) (g10 : (⟨4, ![2, 4, 128, 128]⟩ : Shape).Idx → EReal) (g11 : (⟨2, ![4, 1024]⟩ : Shape).Idx → EReal) (g12 : (⟨2, ![4, 1024]⟩ : Shape).Idx → EReal) (g13 : (⟨2, ![4, 1024]⟩ : Shape).Idx → EReal) (g14 : (⟨2, ![4, 1024]⟩ : Shape).Idx → EReal) (g15 : (⟨2, ![4, 1024]⟩ : Shape).Idx → EReal) (g16 : (⟨3, ![2, 3, 128]⟩ : Shape).Idx → EReal) (g17 : (⟨2, ![2, 128]⟩ : Shape).Idx → EReal)
    (v0 : (⟨3, ![2, 32, 64]⟩ : Shape).Idx → EReal) (v1 : (⟨3, ![2, 32, 64]⟩ : Shape).Idx → EReal) (v2 : (⟨2, ![2, 32]⟩ : Shape).Idx → EReal) (v3 : (⟨4, ![2, 32, 64, 16]⟩ : Shape).Idx → EReal) (v4 : (⟨4, ![2, 32, 64, 16]⟩ : Shape).Idx → EReal) (v5 : (⟨4, ![2, 32, 16, 64]⟩ : Shape).Idx → EReal) (v6 : (⟨4, ![2, 32, 16, 64]⟩ : Shape).Idx → EReal) (v7 : (⟨2, ![2, 512]⟩ : Shape).Idx → EReal) (v8 : (⟨2, ![2, 512]⟩ : Shape).Idx → EReal) (v9 : (⟨3, ![2, 8, 257]⟩ : Shape).Idx → EReal) (v10 : (⟨4, ![2, 4, 128, 128]⟩ : Shape).Idx → EReal) (v11 : (⟨2, ![4, 1024]⟩ : Shape).Idx → EReal) (v12 : (⟨2, ![4, 1024]⟩ : Shape).Idx → EReal) (v13 : (⟨2, ![4, 1024]⟩ : Shape).Idx → EReal) (v14 : (⟨2, ![4, 1024]⟩ : Shape).Idx → EReal) (v15 : (⟨2, ![4, 1024]⟩ : Shape).Idx → EReal) (v16 : (⟨3, ![2, 3, 128]⟩ : Shape).Idx → EReal) (v17 : (⟨2, ![2, 128]⟩ : Shape).Idx → EReal) :
    newV (pack zeroAt g0 g1 g2 g3 g4 g5 g6 g7 g8 g9 g10 g11 g12 g13 g14 g15 g16 g17) (pack zeroAt v0 v1 v2 v3 v4 v5 v6 v7 v8 v9 v10 v11 v12 v13 v14 v15 v16 v17)
      = pack zeroAt (fun y => velOf (g0 y) (v0 y)) (fun y => velOf (g1 y) (v1 y)) (fun y => velOf (g2 y) (v2 y)) (fun y => velOf (g3 y) (v3 y)) (fun y => velOf (g4 y) (v4 y)) (fun y => velOf (g5 y) (v5 y)) (fun y => velOf (g6 y) (v6 y)) (fun y => velOf (g7 y) (v7 y)) (fun y => velOf (g8 y) (v8 y)) (fun y => velOf (g9 y) (v9 y)) (fun y => velOf (g10 y) (v10 y)) (fun y => velOf (g11 y) (v11 y)) (fun y => velOf (g12 y) (v12 y)) (fun y => velOf (g13 y) (v13 y)) (fun y => velOf (g14 y) (v14 y)) (fun y => velOf (g15 y) (v15 y)) (fun y => velOf (g16 y) (v16 y)) (fun y => velOf (g17 y) (v17 y)) := by
  have h := pack_map (fun p : EReal × EReal => velOf p.1 p.2) zeros2
    (fun y => (g0 y, v0 y)) (fun y => (g1 y, v1 y)) (fun y => (g2 y, v2 y)) (fun y => (g3 y, v3 y)) (fun y => (g4 y, v4 y)) (fun y => (g5 y, v5 y)) (fun y => (g6 y, v6 y)) (fun y => (g7 y, v7 y)) (fun y => (g8 y, v8 y)) (fun y => (g9 y, v9 y)) (fun y => (g10 y, v10 y)) (fun y => (g11 y, v11 y)) (fun y => (g12 y, v12 y)) (fun y => (g13 y, v13 y)) (fun y => (g14 y, v14 y)) (fun y => (g15 y, v15 y)) (fun y => (g16 y, v16 y)) (fun y => (g17 y, v17 y))
  have z : (fun p : EReal × EReal => velOf p.1 p.2) ∘ zeros2 = zeroAt := by
    funext y
    simp only [Function.comp_apply, zeros2, zeroAt_apply, velOf_zero]
  rw [z] at h
  have eg : pack zeroAt g0 g1 g2 g3 g4 g5 g6 g7 g8 g9 g10 g11 g12 g13 g14 g15 g16 g17 = fun y => (pack zeros2 (fun y => (g0 y, v0 y)) (fun y => (g1 y, v1 y)) (fun y => (g2 y, v2 y)) (fun y => (g3 y, v3 y)) (fun y => (g4 y, v4 y)) (fun y => (g5 y, v5 y)) (fun y => (g6 y, v6 y)) (fun y => (g7 y, v7 y)) (fun y => (g8 y, v8 y)) (fun y => (g9 y, v9 y)) (fun y => (g10 y, v10 y)) (fun y => (g11 y, v11 y)) (fun y => (g12 y, v12 y)) (fun y => (g13 y, v13 y)) (fun y => (g14 y, v14 y)) (fun y => (g15 y, v15 y)) (fun y => (g16 y, v16 y)) (fun y => (g17 y, v17 y)) y).1 :=
    pack_map (fun p : EReal × EReal => p.1) zeros2 (fun y => (g0 y, v0 y)) (fun y => (g1 y, v1 y)) (fun y => (g2 y, v2 y)) (fun y => (g3 y, v3 y)) (fun y => (g4 y, v4 y)) (fun y => (g5 y, v5 y)) (fun y => (g6 y, v6 y)) (fun y => (g7 y, v7 y)) (fun y => (g8 y, v8 y)) (fun y => (g9 y, v9 y)) (fun y => (g10 y, v10 y)) (fun y => (g11 y, v11 y)) (fun y => (g12 y, v12 y)) (fun y => (g13 y, v13 y)) (fun y => (g14 y, v14 y)) (fun y => (g15 y, v15 y)) (fun y => (g16 y, v16 y)) (fun y => (g17 y, v17 y))
  have ev : pack zeroAt v0 v1 v2 v3 v4 v5 v6 v7 v8 v9 v10 v11 v12 v13 v14 v15 v16 v17 = fun y => (pack zeros2 (fun y => (g0 y, v0 y)) (fun y => (g1 y, v1 y)) (fun y => (g2 y, v2 y)) (fun y => (g3 y, v3 y)) (fun y => (g4 y, v4 y)) (fun y => (g5 y, v5 y)) (fun y => (g6 y, v6 y)) (fun y => (g7 y, v7 y)) (fun y => (g8 y, v8 y)) (fun y => (g9 y, v9 y)) (fun y => (g10 y, v10 y)) (fun y => (g11 y, v11 y)) (fun y => (g12 y, v12 y)) (fun y => (g13 y, v13 y)) (fun y => (g14 y, v14 y)) (fun y => (g15 y, v15 y)) (fun y => (g16 y, v16 y)) (fun y => (g17 y, v17 y)) y).2 :=
    pack_map (fun p : EReal × EReal => p.2) zeros2 (fun y => (g0 y, v0 y)) (fun y => (g1 y, v1 y)) (fun y => (g2 y, v2 y)) (fun y => (g3 y, v3 y)) (fun y => (g4 y, v4 y)) (fun y => (g5 y, v5 y)) (fun y => (g6 y, v6 y)) (fun y => (g7 y, v7 y)) (fun y => (g8 y, v8 y)) (fun y => (g9 y, v9 y)) (fun y => (g10 y, v10 y)) (fun y => (g11 y, v11 y)) (fun y => (g12 y, v12 y)) (fun y => (g13 y, v13 y)) (fun y => (g14 y, v14 y)) (fun y => (g15 y, v15 y)) (fun y => (g16 y, v16 y)) (fun y => (g17 y, v17 y))
  rw [eg, ev]
  exact h.symm

end Cert.StepProof
end
-- ==== Proof.AdamSmallSrc.lean ====
module

public import proofs.«01_k».proof.Proof.AdamSmallKernel
public import proofs.«01_k».proof.Proof.PackStep

/-! What the host puts into the four arrays of the small weights' optimiser. -/

@[expose] public section

noncomputable section

namespace Cert.AdamSmallProof

open Idealize.ShloMosaic Idealize.SL.Sem Cert.StepProof
open Cert.AdamSmallIdeal Cert.AdamSmallIdeal.Gen

variable (m : (ℓ : Loc nD τ sig) → Buf (Elt Ideal) ℓ) (c : Dev nD)

theorem srcW : rowsW m c = pack zeroAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  unfold rowsW pack packBoth packHead packTail zeroAt
  unfold_abbrev_sides
  simp only [List.flatten_cons, List.flatten_nil, List.append_nil, List.cons_append, List.nil_append]
  after_results
  rfl

theorem srcG : rowsG m c = pack zeroAt (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30)) (m ((c.tc : Thread nD τ).loc main_arg31)) (m ((c.tc : Thread nD τ).loc main_arg32)) (m ((c.tc : Thread nD τ).loc main_arg33)) (m ((c.tc : Thread nD τ).loc main_arg34)) (m ((c.tc : Thread nD τ).loc main_arg35)) := by
  unfold rowsG pack packBoth packHead packTail zeroAt
  unfold_abbrev_sides
  simp only [List.flatten_cons, List.flatten_nil, List.append_nil, List.cons_append, List.nil_append]
  after_results
  rfl

theorem srcM : rowsM m c = pack zeroAt (m ((c.tc : Thread nD τ).loc main_arg36)) (m ((c.tc : Thread nD τ).loc main_arg37)) (m ((c.tc : Thread nD τ).loc main_arg38)) (m ((c.tc : Thread nD τ).loc main_arg39)) (m ((c.tc : Thread nD τ).loc main_arg40)) (m ((c.tc : Thread nD τ).loc main_arg41)) (m ((c.tc : Thread nD τ).loc main_arg42)) (m ((c.tc : Thread nD τ).loc main_arg43)) (m ((c.tc : Thread nD τ).loc main_arg44)) (m ((c.tc : Thread nD τ).loc main_arg45)) (m ((c.tc : Thread nD τ).loc main_arg46)) (m ((c.tc : Thread nD τ).loc main_arg47)) (m ((c.tc : Thread nD τ).loc main_arg48)) (m ((c.tc : Thread nD τ).loc main_arg49)) (m ((c.tc : Thread nD τ).loc main_arg50)) (m ((c.tc : Thread nD τ).loc main_arg51)) (m ((c.tc : Thread nD τ).loc main_arg52)) (m ((c.tc : Thread nD τ).loc main_arg53)) := by
  unfold rowsM pack packBoth packHead packTail zeroAt
  unfold_abbrev_sides
  simp only [List.flatten_cons, List.flatten_nil, List.append_nil, List.cons_append, List.nil_append]
  after_results
  rfl

theorem srcV : rowsV m c = pack zeroAt (m ((c.tc : Thread nD τ).loc main_arg54)) (m ((c.tc : Thread nD τ).loc main_arg55)) (m ((c.tc : Thread nD τ).loc main_arg56)) (m ((c.tc : Thread nD τ).loc main_arg57)) (m ((c.tc : Thread nD τ).loc main_arg58)) (m ((c.tc : Thread nD τ).loc main_arg59)) (m ((c.tc : Thread nD τ).loc main_arg60)) (m ((c.tc : Thread nD τ).loc main_arg61)) (m ((c.tc : Thread nD τ).loc main_arg62)) (m ((c.tc : Thread nD τ).loc main_arg63)) (m ((c.tc : Thread nD τ).loc main_arg64)) (m ((c.tc : Thread nD τ).loc main_arg65)) (m ((c.tc : Thread nD τ).loc main_arg66)) (m ((c.tc : Thread nD τ).loc main_arg67)) (m ((c.tc : Thread nD τ).loc main_arg68)) (m ((c.tc : Thread nD τ).loc main_arg69)) (m ((c.tc : Thread nD τ).loc main_arg70)) (m ((c.tc : Thread nD τ).loc main_arg71)) := by
  unfold rowsV pack packBoth packHead packTail zeroAt
  unfold_abbrev_sides
  simp only [List.flatten_cons, List.flatten_nil, List.append_nil, List.cons_append, List.nil_append]
  after_results
  rfl

end Cert.AdamSmallProof
end
-- ==== Proof.AdamSmallRows.lean ====
module

public import proofs.«01_k».proof.Proof.AdamSmallSrc
public import proofs.«01_k».proof.Proof.PackStep

/-! What the optimiser of the small weights leaves: the step at each weight, laid one after another. -/

@[expose] public section

noncomputable section

namespace Cert.AdamSmallProof

open Idealize.ShloMosaic Idealize.SL.Sem Cert.StepProof

section kernel
open Cert.AdamSmallIdeal Cert.AdamSmallIdeal.Gen

variable (m : (ℓ : Loc nD τ sig) → Buf (Elt Ideal) ℓ) (c : Dev nD)

/-- What the call leaves in its result 0. -/
def deltaRows : Arr 3360 128 := pack zeroAt (fun y => deltaOf ((m ((c.tc : Thread nD τ).loc main_arg0) : S2x32x64.Idx → EReal) y) ((m ((c.tc : Thread nD τ).loc main_arg18) : S2x32x64.Idx → EReal) y) ((m ((c.tc : Thread nD τ).loc main_arg36) : S2x32x64.Idx → EReal) y) ((m ((c.tc : Thread nD τ).loc main_arg54) : S2x32x64.Idx → EReal) y)) (fun y => deltaOf ((m ((c.tc : Thread nD τ).loc main_arg1) : S2x32x64.Idx → EReal) y) ((m ((c.tc : Thread nD τ).loc main_arg19) : S2x32x64.Idx → EReal) y) ((m ((c.tc : Thread nD τ).loc main_arg37) : S2x32x64.Idx → EReal) y) ((m ((c.tc : Thread nD τ).loc main_arg55) : S2x32x64.Idx → EReal) y)) (fun y => deltaOf ((m ((c.tc : Thread nD τ).loc main_arg2) : S2x32.Idx → EReal) y) ((m ((c.tc : Thread nD τ).loc main_arg20) : S2x32.Idx → EReal) y) ((m ((c.tc : Thread nD τ).loc main_arg38) : S2x32.Idx → EReal) y) ((m ((c.tc : Thread nD τ).loc main_arg56) : S2x32.Idx → EReal) y)) (fun y => deltaOf ((m ((c.tc : Thread nD τ).loc main_arg3) : S2x32x64x16.Idx → EReal) y) ((m ((c.tc : Thread nD τ).loc main_arg21) : S2x32x64x16.Idx → EReal) y) ((m ((c.tc : Thread nD τ).loc main_arg39) : S2x32x64x16.Idx → EReal) y) ((m ((c.tc : Thread nD τ).loc main_arg57) : S2x32x64x16.Idx → EReal) y)) (fun y => deltaOf ((m ((c.tc : Thread nD τ).loc main_arg4) : S2x32x64x16.Idx → EReal) y) ((m ((c.tc : Thread nD τ).loc main_arg22) : S2x32x64x16.Idx → EReal) y) ((m ((c.tc : Thread nD τ).loc main_arg40) : S2x32x64x16.Idx → EReal) y) ((m ((c.tc : Thread nD τ).loc main_arg58) : S2x32x64x16.Idx → EReal) y)) (fun y => deltaOf ((m ((c.tc : Thread nD τ).loc main_arg5) : S2x32x16x64.Idx → EReal) y) ((m ((c.tc : Thread nD τ).loc main_arg23) : S2x32x16x64.Idx → EReal) y) ((m ((c.tc : Thread nD τ).loc main_arg41) : S2x32x16x64.Idx → EReal) y) ((m ((c.tc : Thread nD τ).loc main_arg59) : S2x32x16x64.Idx → EReal) y)) (fun y => deltaOf ((m ((c.tc : Thread nD τ).loc main_arg6) : S2x32x16x64.Idx → EReal) y) ((m ((c.tc : Thread nD τ).loc main_arg24) : S2x32x16x64.Idx → EReal) y) ((m ((c.tc : Thread nD τ).loc main_arg42) : S2x32x16x64.Idx → EReal) y) ((m ((c.tc : Thread nD τ).loc main_arg60) : S2x32x16x64.Idx → EReal) y)) (fun y => deltaOf ((m ((c.tc : Thread nD τ).loc main_arg7) : S2x512.Idx → EReal) y) ((m ((c.tc : Thread nD τ).loc main_arg25) : S2x512.Idx → EReal) y) ((m ((c.tc : Thread nD τ).loc main_arg43) : S2x512.Idx → EReal) y) ((m ((c.tc : Thread nD τ).loc main_arg61) : S2x512.Idx → EReal) y)) (fun y => deltaOf ((m ((c.tc : Thread nD τ).loc main_arg8) : S2x512.Idx → EReal) y) ((m ((c.tc : Thread nD τ).loc main_arg26) : S2x512.Idx → EReal) y) ((m ((c.tc : Thread nD τ).loc main_arg44) : S2x512.Idx → EReal) y) ((m ((c.tc : Thread nD τ).loc main_arg62) : S2x512.Idx → EReal) y)) (fun y => deltaOf ((m ((c.tc : Thread nD τ).loc main_arg9) : S2x8x257.Idx → EReal) y) ((m ((c.tc : Thread nD τ).loc main_arg27) : S2x8x257.Idx → EReal) y) ((m ((c.tc : Thread nD τ).loc main_arg45) : S2x8x257.Idx → EReal) y) ((m ((c.tc : Thread nD τ).loc main_arg63) : S2x8x257.Idx → EReal) y)) (fun y => deltaOf ((m ((c.tc : Thread nD τ).loc main_arg10) : S2x4x128x128.Idx → EReal) y) ((m ((c.tc : Thread nD τ).loc main_arg28) : S2x4x128x128.Idx → EReal) y) ((m ((c.tc : Thread nD τ).loc main_arg46) : S2x4x128x128.Idx → EReal) y) ((m ((c.tc : Thread nD τ).loc main_arg64) : S2x4x128x128.Idx → EReal) y)) (fun y => deltaOf ((m ((c.tc : Thread nD τ).loc main_arg11) : S4x1024.Idx → EReal) y) ((m ((c.tc : Thread nD τ).loc main_arg29) : S4x1024.Idx → EReal) y) ((m ((c.tc : Thread nD τ).loc main_arg47) : S4x1024.Idx → EReal) y) ((m ((c.tc : Thread nD τ).loc main_arg65) : S4x1024.Idx → EReal) y)) (fun y => deltaOf ((m ((c.tc : Thread nD τ).loc main_arg12) : S4x1024.Idx → EReal) y) ((m ((c.tc : Thread nD τ).loc main_arg30) : S4x1024.Idx → EReal) y) ((m ((c.tc : Thread nD τ).loc main_arg48) : S4x1024.Idx → EReal) y) ((m ((c.tc : Thread nD τ).loc main_arg66) : S4x1024.Idx → EReal) y)) (fun y => deltaOf ((m ((c.tc : Thread nD τ).loc main_arg13) : S4x1024.Idx → EReal) y) ((m ((c.tc : Thread nD τ).loc main_arg31) : S4x1024.Idx → EReal) y) ((m ((c.tc : Thread nD τ).loc main_arg49) : S4x1024.Idx → EReal) y) ((m ((c.tc : Thread nD τ).loc main_arg67) : S4x1024.Idx → EReal) y)) (fun y => deltaOf ((m ((c.tc : Thread nD τ).loc main_arg14) : S4x1024.Idx → EReal) y) ((m ((c.tc : Thread nD τ).loc main_arg32) : S4x1024.Idx → EReal) y) ((m ((c.tc : Thread nD τ).loc main_arg50) : S4x1024.Idx → EReal) y) ((m ((c.tc : Thread nD τ).loc main_arg68) : S4x1024.Idx → EReal) y)) (fun y => deltaOf ((m ((c.tc : Thread nD τ).loc main_arg15) : S4x1024.Idx → EReal) y) ((m ((c.tc : Thread nD τ).loc main_arg33) : S4x1024.Idx → EReal) y) ((m ((c.tc : Thread nD τ).loc main_arg51) : S4x1024.Idx → EReal) y) ((m ((c.tc : Thread nD τ).loc main_arg69) : S4x1024.Idx → EReal) y)) (fun y => deltaOf ((m ((c.tc : Thread nD τ).loc main_arg16) : S2x3x128.Idx → EReal) y) ((m ((c.tc : Thread nD τ).loc main_arg34) : S2x3x128.Idx → EReal) y) ((m ((c.tc : Thread nD τ).loc main_arg52) : S2x3x128.Idx → EReal) y) ((m ((c.tc : Thread nD τ).loc main_arg70) : S2x3x128.Idx → EReal) y)) (fun y => deltaOf ((m ((c.tc : Thread nD τ).loc main_arg17) : S2x128.Idx → EReal) y) ((m ((c.tc : Thread nD τ).loc main_arg35) : S2x128.Idx → EReal) y) ((m ((c.tc : Thread nD τ).loc main_arg53) : S2x128.Idx → EReal) y) ((m ((c.tc : Thread nD τ).loc main_arg71) : S2x128.Idx → EReal) y))

theorem deltaRows_eq : (dats m 0 c).arrAt 4 cfg0.N = deltaRows m c := by
  rw [out4, srcW, srcG, srcM, srcV]
  exact pack_delta _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- What the call leaves in its result 1. -/
def momRows : Arr 3360 128 := pack zeroAt (fun y => momOf ((m ((c.tc : Thread nD τ).loc main_arg18) : S2x32x64.Idx → EReal) y) ((m ((c.tc : Thread nD τ).loc main_arg36) : S2x32x64.Idx → EReal) y)) (fun y => momOf ((m ((c.tc : Thread nD τ).loc main_arg19) : S2x32x64.Idx → EReal) y) ((m ((c.tc : Thread nD τ).loc main_arg37) : S2x32x64.Idx → EReal) y)) (fun y => momOf ((m ((c.tc : Thread nD τ).loc main_arg20) : S2x32.Idx → EReal) y) ((m ((c.tc : Thread nD τ).loc main_arg38) : S2x32.Idx → EReal) y)) (fun y => momOf ((m ((c.tc : Thread nD τ).loc main_arg21) : S2x32x64x16.Idx → EReal) y) ((m ((c.tc : Thread nD τ).loc main_arg39) : S2x32x64x16.Idx → EReal) y)) (fun y => momOf ((m ((c.tc : Thread nD τ).loc main_arg22) : S2x32x64x16.Idx → EReal) y) ((m ((c.tc : Thread nD τ).loc main_arg40) : S2x32x64x16.Idx → EReal) y)) (fun y => momOf ((m ((c.tc : Thread nD τ).loc main_arg23) : S2x32x16x64.Idx → EReal) y) ((m ((c.tc : Thread nD τ).loc main_arg41) : S2x32x16x64.Idx → EReal) y)) (fun y => momOf ((m ((c.tc : Thread nD τ).loc main_arg24) : S2x32x16x64.Idx → EReal) y) ((m ((c.tc : Thread nD τ).loc main_arg42) : S2x32x16x64.Idx → EReal) y)) (fun y => momOf ((m ((c.tc : Thread nD τ).loc main_arg25) : S2x512.Idx → EReal) y) ((m ((c.tc : Thread nD τ).loc main_arg43) : S2x512.Idx → EReal) y)) (fun y => momOf ((m ((c.tc : Thread nD τ).loc main_arg26) : S2x512.Idx → EReal) y) ((m ((c.tc : Thread nD τ).loc main_arg44) : S2x512.Idx → EReal) y)) (fun y => momOf ((m ((c.tc : Thread nD τ).loc main_arg27) : S2x8x257.Idx → EReal) y) ((m ((c.tc : Thread nD τ).loc main_arg45) : S2x8x257.Idx → EReal) y)) (fun y => momOf ((m ((c.tc : Thread nD τ).loc main_arg28) : S2x4x128x128.Idx → EReal) y) ((m ((c.tc : Thread nD τ).loc main_arg46) : S2x4x128x128.Idx → EReal) y)) (fun y => momOf ((m ((c.tc : Thread nD τ).loc main_arg29) : S4x1024.Idx → EReal) y) ((m ((c.tc : Thread nD τ).loc main_arg47) : S4x1024.Idx → EReal) y)) (fun y => momOf ((m ((c.tc : Thread nD τ).loc main_arg30) : S4x1024.Idx → EReal) y) ((m ((c.tc : Thread nD τ).loc main_arg48) : S4x1024.Idx → EReal) y)) (fun y => momOf ((m ((c.tc : Thread nD τ).loc main_arg31) : S4x1024.Idx → EReal) y) ((m ((c.tc : Thread nD τ).loc main_arg49) : S4x1024.Idx → EReal) y)) (fun y => momOf ((m ((c.tc : Thread nD τ).loc main_arg32) : S4x1024.Idx → EReal) y) ((m ((c.tc : Thread nD τ).loc main_arg50) : S4x1024.Idx → EReal) y)) (fun y => momOf ((m ((c.tc : Thread nD τ).loc main_arg33) : S4x1024.Idx → EReal) y) ((m ((c.tc : Thread nD τ).loc main_arg51) : S4x1024.Idx → EReal) y)) (fun y => momOf ((m ((c.tc : Thread nD τ).loc main_arg34) : S2x3x128.Idx → EReal) y) ((m ((c.tc : Thread nD τ).loc main_arg52) : S2x3x128.Idx → EReal) y)) (fun y => momOf ((m ((c.tc : Thread nD τ).loc main_arg35) : S2x128.Idx → EReal) y) ((m ((c.tc : Thread nD τ).loc main_arg53) : S2x128.Idx → EReal) y))

theorem momRows_eq : (dats m 0 c).arrAt 5 cfg0.N = momRows m c := by
  rw [out5, srcG, srcM]
  exact pack_mom _ _ _ _ _ _ _ _ _ _ _ _ _ _ _ _ _ _ _ _ _ _ _ _ _ _ _ _ _ _ _ _ _ _ _ _

/-- What the call leaves in its result 2. -/
def velRows : Arr 3360 128 := pack zeroAt (fun y => velOf ((m ((c.tc : Thread nD τ).loc main_arg18) : S2x32x64.Idx → EReal) y) ((m ((c.tc : Thread nD τ).loc main_arg54) : S2x32x64.Idx → EReal) y)) (fun y => velOf ((m ((c.tc : Thread nD τ).loc main_arg19) : S2x32x64.Idx → EReal) y) ((m ((c.tc : Thread nD τ).loc main_arg55) : S2x32x64.Idx → EReal) y)) (fun y => velOf ((m ((c.tc : Thread nD τ).loc main_arg20) : S2x32.Idx → EReal) y) ((m ((c.tc : Thread nD τ).loc main_arg56) : S2x32.Idx → EReal) y)) (fun y => velOf ((m ((c.tc : Thread nD τ).loc main_arg21) : S2x32x64x16.Idx → EReal) y) ((m ((c.tc : Thread nD τ).loc main_arg57) : S2x32x64x16.Idx → EReal) y)) (fun y => velOf ((m ((c.tc : Thread nD τ).loc main_arg22) : S2x32x64x16.Idx → EReal) y) ((m ((c.tc : Thread nD τ).loc main_arg58) : S2x32x64x16.Idx → EReal) y)) (fun y => velOf ((m ((c.tc : Thread nD τ).loc main_arg23) : S2x32x16x64.Idx → EReal) y) ((m ((c.tc : Thread nD τ).loc main_arg59) : S2x32x16x64.Idx → EReal) y)) (fun y => velOf ((m ((c.tc : Thread nD τ).loc main_arg24) : S2x32x16x64.Idx → EReal) y) ((m ((c.tc : Thread nD τ).loc main_arg60) : S2x32x16x64.Idx → EReal) y)) (fun y => velOf ((m ((c.tc : Thread nD τ).loc main_arg25) : S2x512.Idx → EReal) y) ((m ((c.tc : Thread nD τ).loc main_arg61) : S2x512.Idx → EReal) y)) (fun y => velOf ((m ((c.tc : Thread nD τ).loc main_arg26) : S2x512.Idx → EReal) y) ((m ((c.tc : Thread nD τ).loc main_arg62) : S2x512.Idx → EReal) y)) (fun y => velOf ((m ((c.tc : Thread nD τ).loc main_arg27) : S2x8x257.Idx → EReal) y) ((m ((c.tc : Thread nD τ).loc main_arg63) : S2x8x257.Idx → EReal) y)) (fun y => velOf ((m ((c.tc : Thread nD τ).loc main_arg28) : S2x4x128x128.Idx → EReal) y) ((m ((c.tc : Thread nD τ).loc main_arg64) : S2x4x128x128.Idx → EReal) y)) (fun y => velOf ((m ((c.tc : Thread nD τ).loc main_arg29) : S4x1024.Idx → EReal) y) ((m ((c.tc : Thread nD τ).loc main_arg65) : S4x1024.Idx → EReal) y)) (fun y => velOf ((m ((c.tc : Thread nD τ).loc main_arg30) : S4x1024.Idx → EReal) y) ((m ((c.tc : Thread nD τ).loc main_arg66) : S4x1024.Idx → EReal) y)) (fun y => velOf ((m ((c.tc : Thread nD τ).loc main_arg31) : S4x1024.Idx → EReal) y) ((m ((c.tc : Thread nD τ).loc main_arg67) : S4x1024.Idx → EReal) y)) (fun y => velOf ((m ((c.tc : Thread nD τ).loc main_arg32) : S4x1024.Idx → EReal) y) ((m ((c.tc : Thread nD τ).loc main_arg68) : S4x1024.Idx → EReal) y)) (fun y => velOf ((m ((c.tc : Thread nD τ).loc main_arg33) : S4x1024.Idx → EReal) y) ((m ((c.tc : Thread nD τ).loc main_arg69) : S4x1024.Idx → EReal) y)) (fun y => velOf ((m ((c.tc : Thread nD τ).loc main_arg34) : S2x3x128.Idx → EReal) y) ((m ((c.tc : Thread nD τ).loc main_arg70) : S2x3x128.Idx → EReal) y)) (fun y => velOf ((m ((c.tc : Thread nD τ).loc main_arg35) : S2x128.Idx → EReal) y) ((m ((c.tc : Thread nD τ).loc main_arg71) : S2x128.Idx → EReal) y))

theorem velRows_eq : (dats m 0 c).arrAt 6 cfg0.N = velRows m c := by
  rw [out6, srcG, srcV]
  exact pack_vel _ _ _ _ _ _ _ _ _ _ _ _ _ _ _ _ _ _ _ _ _ _ _ _ _ _ _ _ _ _ _ _ _ _ _ _

end kernel

end Cert.AdamSmallProof
end
-- ==== Proof.AdamSmallValue.lean ====
module

public import proofs.«01_k».proof.Defs
public import proofs.«01_k».proof.Proof.PackStep
public import proofs.«01_k».proof.Proof.Gen.AdamSmallRefIdeal.Read

/-! The optimiser on the eighteen small weights: the call works on one array of all of them, the reference on each. -/

@[expose] public section

noncomputable section

namespace Cert.AdamSmallProof

open Idealize.ShloMosaic Idealize.SL.Sem Cert.StepProof

section reference
open Cert.AdamSmallRefIdeal Cert.AdamSmallRefIdeal.Gen Cert.AdamSmallRefIdeal.Read

theorem ref_delta (x0 : Vec Ideal S2x32x64 .f32) (x1 : Vec Ideal S2x32x64 .f32) (x2 : Vec Ideal S2x32 .f32) (x3 : Vec Ideal S2x32x64x16 .f32) (x4 : Vec Ideal S2x32x64x16 .f32) (x5 : Vec Ideal S2x32x16x64 .f32) (x6 : Vec Ideal S2x32x16x64 .f32) (x7 : Vec Ideal S2x512 .f32) (x8 : Vec Ideal S2x512 .f32) (x9 : Vec Ideal S2x8x257 .f32) (x10 : Vec Ideal S2x4x128x128 .f32) (x11 : Vec Ideal S4x1024 .f32) (x12 : Vec Ideal S4x1024 .f32) (x13 : Vec Ideal S4x1024 .f32) (x14 : Vec Ideal S4x1024 .f32) (x15 : Vec Ideal S4x1024 .f32) (x16 : Vec Ideal S2x3x128 .f32) (x17 : Vec Ideal S2x128 .f32)
    (x18 : Vec Ideal S2x32x64 .f32) (x19 : Vec Ideal S2x32x64 .f32) (x20 : Vec Ideal S2x32 .f32) (x21 : Vec Ideal S2x32x64x16 .f32) (x22 : Vec Ideal S2x32x64x16 .f32) (x23 : Vec Ideal S2x32x16x64 .f32) (x24 : Vec Ideal S2x32x16x64 .f32) (x25 : Vec Ideal S2x512 .f32) (x26 : Vec Ideal S2x512 .f32) (x27 : Vec Ideal S2x8x257 .f32) (x28 : Vec Ideal S2x4x128x128 .f32) (x29 : Vec Ideal S4x1024 .f32) (x30 : Vec Ideal S4x1024 .f32) (x31 : Vec Ideal S4x1024 .f32) (x32 : Vec Ideal S4x1024 .f32) (x33 : Vec Ideal S4x1024 .f32) (x34 : Vec Ideal S2x3x128 .f32) (x35 : Vec Ideal S2x128 .f32)
    (x36 : Vec Ideal S2x32x64 .f32) (x37 : Vec Ideal S2x32x64 .f32) (x38 : Vec Ideal S2x32 .f32) (x39 : Vec Ideal S2x32x64x16 .f32) (x40 : Vec Ideal S2x32x64x16 .f32) (x41 : Vec Ideal S2x32x16x64 .f32) (x42 : Vec Ideal S2x32x16x64 .f32) (x43 : Vec Ideal S2x512 .f32) (x44 : Vec Ideal S2x512 .f32) (x45 : Vec Ideal S2x8x257 .f32) (x46 : Vec Ideal S2x4x128x128 .f32) (x47 : Vec Ideal S4x1024 .f32) (x48 : Vec Ideal S4x1024 .f32) (x49 : Vec Ideal S4x1024 .f32) (x50 : Vec Ideal S4x1024 .f32) (x51 : Vec Ideal S4x1024 .f32) (x52 : Vec Ideal S2x3x128 .f32) (x53 : Vec Ideal S2x128 .f32)
    (x54 : Vec Ideal S2x32x64 .f32) (x55 : Vec Ideal S2x32x64 .f32) (x56 : Vec Ideal S2x32 .f32) (x57 : Vec Ideal S2x32x64x16 .f32) (x58 : Vec Ideal S2x32x64x16 .f32) (x59 : Vec Ideal S2x32x16x64 .f32) (x60 : Vec Ideal S2x32x16x64 .f32) (x61 : Vec Ideal S2x512 .f32) (x62 : Vec Ideal S2x512 .f32) (x63 : Vec Ideal S2x8x257 .f32) (x64 : Vec Ideal S2x4x128x128 .f32) (x65 : Vec Ideal S4x1024 .f32) (x66 : Vec Ideal S4x1024 .f32) (x67 : Vec Ideal S4x1024 .f32) (x68 : Vec Ideal S4x1024 .f32) (x69 : Vec Ideal S4x1024 .f32) (x70 : Vec Ideal S2x3x128 .f32) (x71 : Vec Ideal S2x128 .f32) :
    val_main_v454 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 x55 x56 x57 x58 x59 x60 x61 x62 x63 x64 x65 x66 x67 x68 x69 x70 x71
      = pack zeroAt (fun y => deltaOf (x0 y) (x18 y) (x36 y) (x54 y)) (fun y => deltaOf (x1 y) (x19 y) (x37 y) (x55 y)) (fun y => deltaOf (x2 y) (x20 y) (x38 y) (x56 y)) (fun y => deltaOf (x3 y) (x21 y) (x39 y) (x57 y)) (fun y => deltaOf (x4 y) (x22 y) (x40 y) (x58 y)) (fun y => deltaOf (x5 y) (x23 y) (x41 y) (x59 y)) (fun y => deltaOf (x6 y) (x24 y) (x42 y) (x60 y)) (fun y => deltaOf (x7 y) (x25 y) (x43 y) (x61 y)) (fun y => deltaOf (x8 y) (x26 y) (x44 y) (x62 y)) (fun y => deltaOf (x9 y) (x27 y) (x45 y) (x63 y)) (fun y => deltaOf (x10 y) (x28 y) (x46 y) (x64 y)) (fun y => deltaOf (x11 y) (x29 y) (x47 y) (x65 y)) (fun y => deltaOf (x12 y) (x30 y) (x48 y) (x66 y)) (fun y => deltaOf (x13 y) (x31 y) (x49 y) (x67 y)) (fun y => deltaOf (x14 y) (x32 y) (x50 y) (x68 y)) (fun y => deltaOf (x15 y) (x33 y) (x51 y) (x69 y)) (fun y => deltaOf (x16 y) (x34 y) (x52 y) (x70 y)) (fun y => deltaOf (x17 y) (x35 y) (x53 y) (x71 y)) := by
  unfold pack packBoth packHead packTail
  rfl

theorem ref_mom (x18 : Vec Ideal S2x32x64 .f32) (x19 : Vec Ideal S2x32x64 .f32) (x20 : Vec Ideal S2x32 .f32) (x21 : Vec Ideal S2x32x64x16 .f32) (x22 : Vec Ideal S2x32x64x16 .f32) (x23 : Vec Ideal S2x32x16x64 .f32) (x24 : Vec Ideal S2x32x16x64 .f32) (x25 : Vec Ideal S2x512 .f32) (x26 : Vec Ideal S2x512 .f32) (x27 : Vec Ideal S2x8x257 .f32) (x28 : Vec Ideal S2x4x128x128 .f32) (x29 : Vec Ideal S4x1024 .f32) (x30 : Vec Ideal S4x1024 .f32) (x31 : Vec Ideal S4x1024 .f32) (x32 : Vec Ideal S4x1024 .f32) (x33 : Vec Ideal S4x1024 .f32) (x34 : Vec Ideal S2x3x128 .f32) (x35 : Vec Ideal S2x128 .f32)
    (x36 : Vec Ideal S2x32x64 .f32) (x37 : Vec Ideal S2x32x64 .f32) (x38 : Vec Ideal S2x32 .f32) (x39 : Vec Ideal S2x32x64x16 .f32) (x40 : Vec Ideal S2x32x64x16 .f32) (x41 : Vec Ideal S2x32x16x64 .f32) (x42 : Vec Ideal S2x32x16x64 .f32) (x43 : Vec Ideal S2x512 .f32) (x44 : Vec Ideal S2x512 .f32) (x45 : Vec Ideal S2x8x257 .f32) (x46 : Vec Ideal S2x4x128x128 .f32) (x47 : Vec Ideal S4x1024 .f32) (x48 : Vec Ideal S4x1024 .f32) (x49 : Vec Ideal S4x1024 .f32) (x50 : Vec Ideal S4x1024 .f32) (x51 : Vec Ideal S4x1024 .f32) (x52 : Vec Ideal S2x3x128 .f32) (x53 : Vec Ideal S2x128 .f32) :
    val_main_v477 (F := Ideal) x18 x19 x20 x21 x22 x23 x24 x25 x26 x27 x28 x29 x30 x31 x32 x33 x34 x35 x36 x37 x38 x39 x40 x41 x42 x43 x44 x45 x46 x47 x48 x49 x50 x51 x52 x53
      = pack zeroAt (fun y => momOf (x18 y) (x36 y)) (fun y => momOf (x19 y) (x37 y)) (fun y => momOf (x20 y) (x38 y)) (fun y => momOf (x21 y) (x39 y)) (fun y => momOf (x22 y) (x40 y)) (fun y => momOf (x23 y) (x41 y)) (fun y => momOf (x24 y) (x42 y)) (fun y => momOf (x25 y) (x43 y)) (fun y => momOf (x26 y) (x44 y)) (fun y => momOf (x27 y) (x45 y)) (fun y => momOf (x28 y) (x46 y)) (fun y => momOf (x29 y) (x47 y)) (fun y => momOf (x30 y) (x48 y)) (fun y => momOf (x31 y) (x49 y)) (fun y => momOf (x32 y) (x50 y)) (fun y => momOf (x33 y) (x51 y)) (fun y => momOf (x34 y) (x52 y)) (fun y => momOf (x35 y) (x53 y)) := by
  unfold pack packBoth packHead packTail
  rfl

theorem ref_vel (x18 : Vec Ideal S2x32x64 .f32) (x19 : Vec Ideal S2x32x64 .f32) (x20 : Vec Ideal S2x32 .f32) (x21 : Vec Ideal S2x32x64x16 .f32) (x22 : Vec Ideal S2x32x64x16 .f32) (x23 : Vec Ideal S2x32x16x64 .f32) (x24 : Vec Ideal S2x32x16x64 .f32) (x25 : Vec Ideal S2x512 .f32) (x26 : Vec Ideal S2x512 .f32) (x27 : Vec Ideal S2x8x257 .f32) (x28 : Vec Ideal S2x4x128x128 .f32) (x29 : Vec Ideal S4x1024 .f32) (x30 : Vec Ideal S4x1024 .f32) (x31 : Vec Ideal S4x1024 .f32) (x32 : Vec Ideal S4x1024 .f32) (x33 : Vec Ideal S4x1024 .f32) (x34 : Vec Ideal S2x3x128 .f32) (x35 : Vec Ideal S2x128 .f32)
    (x54 : Vec Ideal S2x32x64 .f32) (x55 : Vec Ideal S2x32x64 .f32) (x56 : Vec Ideal S2x32 .f32) (x57 : Vec Ideal S2x32x64x16 .f32) (x58 : Vec Ideal S2x32x64x16 .f32) (x59 : Vec Ideal S2x32x16x64 .f32) (x60 : Vec Ideal S2x32x16x64 .f32) (x61 : Vec Ideal S2x512 .f32) (x62 : Vec Ideal S2x512 .f32) (x63 : Vec Ideal S2x8x257 .f32) (x64 : Vec Ideal S2x4x128x128 .f32) (x65 : Vec Ideal S4x1024 .f32) (x66 : Vec Ideal S4x1024 .f32) (x67 : Vec Ideal S4x1024 .f32) (x68 : Vec Ideal S4x1024 .f32) (x69 : Vec Ideal S4x1024 .f32) (x70 : Vec Ideal S2x3x128 .f32) (x71 : Vec Ideal S2x128 .f32) :
    val_main_v500 (F := Ideal) x18 x19 x20 x21 x22 x23 x24 x25 x26 x27 x28 x29 x30 x31 x32 x33 x34 x35 x54 x55 x56 x57 x58 x59 x60 x61 x62 x63 x64 x65 x66 x67 x68 x69 x70 x71
      = pack zeroAt (fun y => velOf (x18 y) (x54 y)) (fun y => velOf (x19 y) (x55 y)) (fun y => velOf (x20 y) (x56 y)) (fun y => velOf (x21 y) (x57 y)) (fun y => velOf (x22 y) (x58 y)) (fun y => velOf (x23 y) (x59 y)) (fun y => velOf (x24 y) (x60 y)) (fun y => velOf (x25 y) (x61 y)) (fun y => velOf (x26 y) (x62 y)) (fun y => velOf (x27 y) (x63 y)) (fun y => velOf (x28 y) (x64 y)) (fun y => velOf (x29 y) (x65 y)) (fun y => velOf (x30 y) (x66 y)) (fun y => velOf (x31 y) (x67 y)) (fun y => velOf (x32 y) (x68 y)) (fun y => velOf (x33 y) (x69 y)) (fun y => velOf (x34 y) (x70 y)) (fun y => velOf (x35 y) (x71 y)) := by
  unfold pack packBoth packHead packTail
  rfl

end reference

/-- The reference runs to its end and leaves its arguments and every counter as they were. -/
theorem ref_frame : Cert.quiescent_AdamSmallRefIdeal (hAdamSmallRefIdeal := Cert.AdamSmallRefIdeal.Gen.facts) := fun m ρ _ =>
  (θ_run _ _ _).mono (fun r h => ⟨fun c => (h c).2.2.2, sem_eq_zero_of_no_sems (by decide) r.2⟩)
    (Cert.AdamSmallRefIdeal.Value.run m ρ)

end Cert.AdamSmallProof
end
-- ==== Proof.AdamSmallClaim.lean ====
module

public import proofs.«01_k».proof.Defs
public import proofs.«01_k».proof.Proof.AdamSmallRows
public import proofs.«01_k».proof.Proof.AdamSmallValue

/-! The optimiser on the eighteen small weights: the call and its reference agree. -/

@[expose] public section

noncomputable section

namespace Cert.AdamSmallProof

open Idealize.ShloMosaic Idealize.SL.Sem Cert.StepProof

/-- The call and its reference end with the same arrays. -/
theorem algebraic :
    Cert.algebraic_AdamSmallIdeal_AdamSmallRefIdeal (hAdamSmallIdeal := Cert.AdamSmallIdeal.Gen.facts) (hAdamSmallRefIdeal := Cert.AdamSmallRefIdeal.Gen.facts) := by
  intro m g m' g' _ hargs
  refine ⟨fun c => deltaRows m c, fun c => momRows m c, fun c => velRows m c, ?_, ?_⟩
  · refine (θ_run _ _ _).mono (fun r hr c => ?_) (Cert.AdamSmallIdeal.Value.run_blocks m g)
    exact ⟨(hr c).1.trans (deltaRows_eq m c), (hr c).2.1.trans (momRows_eq m c), (hr c).2.2.1.trans (velRows_eq m c), (hr c).2.2.2⟩
  · refine (θ_run _ _ _).mono (fun r hr c => ?_) (Cert.AdamSmallRefIdeal.Value.run m' g')
    obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63, e64, e65, e66, e67, e68, e69, e70, e71⟩ := hargs c
    replace e0 : StableHlo.launchContents m' c (Proc.tc.devRef AdamSmallRefIdeal.main_arg0) = _ := e0
    replace e1 : StableHlo.launchContents m' c (Proc.tc.devRef AdamSmallRefIdeal.main_arg1) = _ := e1
    replace e2 : StableHlo.launchContents m' c (Proc.tc.devRef AdamSmallRefIdeal.main_arg2) = _ := e2
    replace e3 : StableHlo.launchContents m' c (Proc.tc.devRef AdamSmallRefIdeal.main_arg3) = _ := e3
    replace e4 : StableHlo.launchContents m' c (Proc.tc.devRef AdamSmallRefIdeal.main_arg4) = _ := e4
    replace e5 : StableHlo.launchContents m' c (Proc.tc.devRef AdamSmallRefIdeal.main_arg5) = _ := e5
    replace e6 : StableHlo.launchContents m' c (Proc.tc.devRef AdamSmallRefIdeal.main_arg6) = _ := e6
    replace e7 : StableHlo.launchContents m' c (Proc.tc.devRef AdamSmallRefIdeal.main_arg7) = _ := e7
    replace e8 : StableHlo.launchContents m' c (Proc.tc.devRef AdamSmallRefIdeal.main_arg8) = _ := e8
    replace e9 : StableHlo.launchContents m' c (Proc.tc.devRef AdamSmallRefIdeal.main_arg9) = _ := e9
    replace e10 : StableHlo.launchContents m' c (Proc.tc.devRef AdamSmallRefIdeal.main_arg10) = _ := e10
    replace e11 : StableHlo.launchContents m' c (Proc.tc.devRef AdamSmallRefIdeal.main_arg11) = _ := e11
    replace e12 : StableHlo.launchContents m' c (Proc.tc.devRef AdamSmallRefIdeal.main_arg12) = _ := e12
    replace e13 : StableHlo.launchContents m' c (Proc.tc.devRef AdamSmallRefIdeal.main_arg13) = _ := e13
    replace e14 : StableHlo.launchContents m' c (Proc.tc.devRef AdamSmallRefIdeal.main_arg14) = _ := e14
    replace e15 : StableHlo.launchContents m' c (Proc.tc.devRef AdamSmallRefIdeal.main_arg15) = _ := e15
    replace e16 : StableHlo.launchContents m' c (Proc.tc.devRef AdamSmallRefIdeal.main_arg16) = _ := e16
    replace e17 : StableHlo.launchContents m' c (Proc.tc.devRef AdamSmallRefIdeal.main_arg17) = _ := e17
    replace e18 : StableHlo.launchContents m' c (Proc.tc.devRef AdamSmallRefIdeal.main_arg18) = _ := e18
    replace e19 : StableHlo.launchContents m' c (Proc.tc.devRef AdamSmallRefIdeal.main_arg19) = _ := e19
    replace e20 : StableHlo.launchContents m' c (Proc.tc.devRef AdamSmallRefIdeal.main_arg20) = _ := e20
    replace e21 : StableHlo.launchContents m' c (Proc.tc.devRef AdamSmallRefIdeal.main_arg21) = _ := e21
    replace e22 : StableHlo.launchContents m' c (Proc.tc.devRef AdamSmallRefIdeal.main_arg22) = _ := e22
    replace e23 : StableHlo.launchContents m' c (Proc.tc.devRef AdamSmallRefIdeal.main_arg23) = _ := e23
    replace e24 : StableHlo.launchContents m' c (Proc.tc.devRef AdamSmallRefIdeal.main_arg24) = _ := e24
    replace e25 : StableHlo.launchContents m' c (Proc.tc.devRef AdamSmallRefIdeal.main_arg25) = _ := e25
    replace e26 : StableHlo.launchContents m' c (Proc.tc.devRef AdamSmallRefIdeal.main_arg26) = _ := e26
    replace e27 : StableHlo.launchContents m' c (Proc.tc.devRef AdamSmallRefIdeal.main_arg27) = _ := e27
    replace e28 : StableHlo.launchContents m' c (Proc.tc.devRef AdamSmallRefIdeal.main_arg28) = _ := e28
    replace e29 : StableHlo.launchContents m' c (Proc.tc.devRef AdamSmallRefIdeal.main_arg29) = _ := e29
    replace e30 : StableHlo.launchContents m' c (Proc.tc.devRef AdamSmallRefIdeal.main_arg30) = _ := e30
    replace e31 : StableHlo.launchContents m' c (Proc.tc.devRef AdamSmallRefIdeal.main_arg31) = _ := e31
    replace e32 : StableHlo.launchContents m' c (Proc.tc.devRef AdamSmallRefIdeal.main_arg32) = _ := e32
    replace e33 : StableHlo.launchContents m' c (Proc.tc.devRef AdamSmallRefIdeal.main_arg33) = _ := e33
    replace e34 : StableHlo.launchContents m' c (Proc.tc.devRef AdamSmallRefIdeal.main_arg34) = _ := e34
    replace e35 : StableHlo.launchContents m' c (Proc.tc.devRef AdamSmallRefIdeal.main_arg35) = _ := e35
    replace e36 : StableHlo.launchContents m' c (Proc.tc.devRef AdamSmallRefIdeal.main_arg36) = _ := e36
    replace e37 : StableHlo.launchContents m' c (Proc.tc.devRef AdamSmallRefIdeal.main_arg37) = _ := e37
    replace e38 : StableHlo.launchContents m' c (Proc.tc.devRef AdamSmallRefIdeal.main_arg38) = _ := e38
    replace e39 : StableHlo.launchContents m' c (Proc.tc.devRef AdamSmallRefIdeal.main_arg39) = _ := e39
    replace e40 : StableHlo.launchContents m' c (Proc.tc.devRef AdamSmallRefIdeal.main_arg40) = _ := e40
    replace e41 : StableHlo.launchContents m' c (Proc.tc.devRef AdamSmallRefIdeal.main_arg41) = _ := e41
    replace e42 : StableHlo.launchContents m' c (Proc.tc.devRef AdamSmallRefIdeal.main_arg42) = _ := e42
    replace e43 : StableHlo.launchContents m' c (Proc.tc.devRef AdamSmallRefIdeal.main_arg43) = _ := e43
    replace e44 : StableHlo.launchContents m' c (Proc.tc.devRef AdamSmallRefIdeal.main_arg44) = _ := e44
    replace e45 : StableHlo.launchContents m' c (Proc.tc.devRef AdamSmallRefIdeal.main_arg45) = _ := e45
    replace e46 : StableHlo.launchContents m' c (Proc.tc.devRef AdamSmallRefIdeal.main_arg46) = _ := e46
    replace e47 : StableHlo.launchContents m' c (Proc.tc.devRef AdamSmallRefIdeal.main_arg47) = _ := e47
    replace e48 : StableHlo.launchContents m' c (Proc.tc.devRef AdamSmallRefIdeal.main_arg48) = _ := e48
    replace e49 : StableHlo.launchContents m' c (Proc.tc.devRef AdamSmallRefIdeal.main_arg49) = _ := e49
    replace e50 : StableHlo.launchContents m' c (Proc.tc.devRef AdamSmallRefIdeal.main_arg50) = _ := e50
    replace e51 : StableHlo.launchContents m' c (Proc.tc.devRef AdamSmallRefIdeal.main_arg51) = _ := e51
    replace e52 : StableHlo.launchContents m' c (Proc.tc.devRef AdamSmallRefIdeal.main_arg52) = _ := e52
    replace e53 : StableHlo.launchContents m' c (Proc.tc.devRef AdamSmallRefIdeal.main_arg53) = _ := e53
    replace e54 : StableHlo.launchContents m' c (Proc.tc.devRef AdamSmallRefIdeal.main_arg54) = _ := e54
    replace e55 : StableHlo.launchContents m' c (Proc.tc.devRef AdamSmallRefIdeal.main_arg55) = _ := e55
    replace e56 : StableHlo.launchContents m' c (Proc.tc.devRef AdamSmallRefIdeal.main_arg56) = _ := e56
    replace e57 : StableHlo.launchContents m' c (Proc.tc.devRef AdamSmallRefIdeal.main_arg57) = _ := e57
    replace e58 : StableHlo.launchContents m' c (Proc.tc.devRef AdamSmallRefIdeal.main_arg58) = _ := e58
    replace e59 : StableHlo.launchContents m' c (Proc.tc.devRef AdamSmallRefIdeal.main_arg59) = _ := e59
    replace e60 : StableHlo.launchContents m' c (Proc.tc.devRef AdamSmallRefIdeal.main_arg60) = _ := e60
    replace e61 : StableHlo.launchContents m' c (Proc.tc.devRef AdamSmallRefIdeal.main_arg61) = _ := e61
    replace e62 : StableHlo.launchContents m' c (Proc.tc.devRef AdamSmallRefIdeal.main_arg62) = _ := e62
    replace e63 : StableHlo.launchContents m' c (Proc.tc.devRef AdamSmallRefIdeal.main_arg63) = _ := e63
    replace e64 : StableHlo.launchContents m' c (Proc.tc.devRef AdamSmallRefIdeal.main_arg64) = _ := e64
    replace e65 : StableHlo.launchContents m' c (Proc.tc.devRef AdamSmallRefIdeal.main_arg65) = _ := e65
    replace e66 : StableHlo.launchContents m' c (Proc.tc.devRef AdamSmallRefIdeal.main_arg66) = _ := e66
    replace e67 : StableHlo.launchContents m' c (Proc.tc.devRef AdamSmallRefIdeal.main_arg67) = _ := e67
    replace e68 : StableHlo.launchContents m' c (Proc.tc.devRef AdamSmallRefIdeal.main_arg68) = _ := e68
    replace e69 : StableHlo.launchContents m' c (Proc.tc.devRef AdamSmallRefIdeal.main_arg69) = _ := e69
    replace e70 : StableHlo.launchContents m' c (Proc.tc.devRef AdamSmallRefIdeal.main_arg70) = _ := e70
    replace e71 : StableHlo.launchContents m' c (Proc.tc.devRef AdamSmallRefIdeal.main_arg71) = _ := e71
    refine ⟨(hr c).1.trans ((Cert.AdamSmallRefIdeal.Read.val_main_v454_eq _).trans ?_), (hr c).2.1.trans ((Cert.AdamSmallRefIdeal.Read.val_main_v477_eq _).trans ?_),
      (hr c).2.2.1.trans ((Cert.AdamSmallRefIdeal.Read.val_main_v500_eq _).trans ?_), (hr c).2.2.2⟩
    · refine (ref_delta _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _).trans ?_
      unfold deltaRows
      simp only [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63, e64, e65, e66, e67, e68, e69, e70, e71]
    · refine (ref_mom _ _ _ _ _ _ _ _ _ _ _ _ _ _ _ _ _ _ _ _ _ _ _ _ _ _ _ _ _ _ _ _ _ _ _ _).trans ?_
      unfold momRows
      simp only [e18, e19, e20, e21, e22, e23, e24, e25, e26, e27, e28, e29, e30, e31, e32, e33, e34, e35, e36, e37, e38, e39, e40, e41, e42, e43, e44, e45, e46, e47, e48, e49, e50, e51, e52, e53]
    · refine (ref_vel _ _ _ _ _ _ _ _ _ _ _ _ _ _ _ _ _ _ _ _ _ _ _ _ _ _ _ _ _ _ _ _ _ _ _ _).trans ?_
      unfold velRows
      simp only [e18, e19, e20, e21, e22, e23, e24, e25, e26, e27, e28, e29, e30, e31, e32, e33, e34, e35, e54, e55, e56, e57, e58, e59, e60, e61, e62, e63, e64, e65, e66, e67, e68, e69, e70, e71]

end Cert.AdamSmallProof
end
-- ==== Proof.LossHeadClaim.lean ====
module

public import proofs.«01_k».proof.Defs
public import proofs.«01_k».proof.Proof.StepSums
public import proofs.«01_k».proof.Proof.Gen.LossHeadIdeal.Value
public import proofs.«01_k».proof.Proof.Gen.LossHeadRefIdeal.Read
public import Idealize.ShloMosaic.Lib.Pipeline.ValueKit
public import Idealize.ShloMosaic.Lib.Pipeline.ReadBack
public import Idealize.ShloMosaic.Lib.WritesUnit

/-! The loss of one device's tokens, and its gradient at the last layer's output. The call adds the loss up over
    thirty-two blocks of rows. -/

@[expose] public section

noncomputable section

namespace Cert.LossHeadProof

open Idealize.ShloMosaic Idealize.SL.Sem Cert.StepProof

/-! ## The loss and its gradient -/

/-- The four literals. -/
theorem lit_half : Ideal.ofBits .f32 0x3F000000#32 = ((1 / 2 : ℝ) : EReal) := by
  simp only [Ideal.ofBits, Ideal.ieee]
  simp [-EReal.coe_mul]
  norm_num
theorem lit_one : Ideal.ofBits .f32 0x3F800000#32 = ((1 : ℝ) : EReal) := by
  simp only [Ideal.ofBits, Ideal.ieee]
  simp [-EReal.coe_mul]
  norm_num
theorem lit_two : Ideal.ofBits .f32 0x40000000#32 = ((2 : ℝ) : EReal) := by
  simp only [Ideal.ofBits, Ideal.ieee]
  simp [-EReal.coe_mul]
  norm_num
theorem lit_n : Ideal.ofBits .f32 0x44800000#32 = ((1024 : ℝ) : EReal) := by
  simp only [Ideal.ofBits, Ideal.ieee]
  simp [-EReal.coe_mul]
  norm_num
theorem lit_inv : Ideal.ofBits .f32 0x3A800000#32 = ((1 / 1024 : ℝ) : EReal) := by
  simp only [Ideal.ofBits, Ideal.ieee]
  simp [-EReal.coe_mul]
  norm_num

/-- A token's mean squared error, zero outside the array. -/
def tok (y t : Arr 16384 1024) (T : ℕ) : EReal :=
  Ideal.div (∑ k : Fin 1024, (rd y T k.val - rd t T k.val) * (rd y T k.val - rd t T k.val)) (Ideal.ofBits .f32 0x44800000#32)

/-- Half the sum of the tokens' errors. -/
def loss (y t : Arr 16384 1024) : Arr 1 1 := fun _ => Ideal.ofBits .f32 0x3F000000#32 * ∑ T : Fin 16384, tok y t T.val

/-- The gradient of the loss at `y`. -/
def lossBack (y t : Arr 16384 1024) : Arr 16384 1024 := fun i => (y i - t i) * Ideal.ofBits .f32 0x3A800000#32

theorem half_sum {ι : Type} (s : Finset ι) (f : ι → EReal) :
    ∑ r ∈ s, Ideal.ofBits .f32 0x3F000000#32 * f r = Ideal.ofBits .f32 0x3F000000#32 * ∑ r ∈ s, f r := by
  classical
  rw [lit_half]
  induction s using Finset.induction_on with
  | empty => simp
  | insert a s ha ih =>
    rw [Finset.sum_insert ha, Finset.sum_insert ha, ih]
    exact (EReal.left_distrib_of_nonneg_of_ne_top (EReal.coe_nonneg.mpr (by norm_num)) (EReal.coe_ne_top _) _ _).symm

/-- What block `r` of 512 tokens adds to the loss. -/
def term (y t : Arr 16384 1024) (r : ℕ) : EReal := Ideal.ofBits .f32 0x3F000000#32 * ∑ i : Fin 512, tok y t (r * 512 + i.val)

theorem term_sum (y t : Arr 16384 1024) (i j : Fin 1) : ∑ r ∈ Finset.range 32, term y t r = loss y t (ix2 i j) := by
  unfold term loss
  rw [half_sum]
  refine congrArg (_ * ·) (Eq.symm ?_)
  rw [Fin.sum_univ_eq_sum_range (tok y t) 16384, show (16384 : ℕ) = 32 * 512 from rfl, Finset.sum_range_mul_split]
  exact Finset.sum_congr rfl fun r _ => (Fin.sum_univ_eq_sum_range (fun i => tok y t (r * 512 + i)) 512).symm

theorem back_eq (e : EReal) :
    Ideal.div (Ideal.ofBits .f32 0x3F000000#32 * Ideal.ofBits .f32 0x3F800000#32) (Ideal.ofBits .f32 0x44800000#32)
        * (Ideal.ofBits .f32 0x40000000#32 * e)
      = e * Ideal.ofBits .f32 0x3A800000#32 := by
  have h : Ideal.div (Ideal.ofBits .f32 0x3F000000#32 * Ideal.ofBits .f32 0x3F800000#32) (Ideal.ofBits .f32 0x44800000#32)
      = ((1 / 2048 : ℝ) : EReal) := by
    rw [lit_half, lit_one, lit_n, ← EReal.coe_mul]
    unfold Ideal.div
    rw [if_neg (by simp), ← EReal.coe_inv, ← EReal.coe_mul]
    norm_num
  rw [h, lit_two, lit_inv, ← mul_assoc, ← EReal.coe_mul, mul_comm]
  norm_num

section kernel
open Cert.LossHeadIdeal Cert.LossHeadIdeal.Gen

variable (m : (ℓ : Loc nD τ sig) → Buf (Elt Ideal) ℓ) (c : Dev nD)

/-- The two arguments on device `c`: the output and the target. -/
abbrev argY : Arr 16384 1024 := m ((c.tc : Thread nD τ).loc main_arg0)
abbrev argT : Arr 16384 1024 := m ((c.tc : Thread nD τ).loc main_arg1)

theorem lt_points (t : Fin cfg0.N) : t.val < 32 := t.isLt

theorem idx0 : ∀ t : Fin cfg0.N, win0_0.index t = ![t.val, 0] := by decide +kernel
theorem idx1 : ∀ t : Fin cfg0.N, win0_1.index t = ![t.val, 0] := by decide +kernel
theorem idx3 : ∀ t : Fin cfg0.N, win0_3.index t = ![t.val, 0] := by decide +kernel

/-- Row `r` of block `t`. -/
def row (t : Fin cfg0.N) (r : Fin 512) : Fin 16384 := ⟨t.val * 512 + r.val, by have := lt_points t; omega⟩

theorem blk0 (t : Fin cfg0.N) (r : Fin 512) (j : Fin 1024) : iblk m c 0 t (ix2 r j) = rd (argY m c) (t.val * 512 + r.val) j.val := by
  refine Eq.trans ?_ (rd_fin (argY m c) (row t r) j)
  blk_ext [iblk, V, idx0 t, row]

theorem blk1 (t : Fin cfg0.N) (r : Fin 512) (j : Fin 1024) : iblk m c 1 t (ix2 r j) = rd (argT m c) (t.val * 512 + r.val) j.val := by
  refine Eq.trans ?_ (rd_fin (argT m c) (row t r) j)
  blk_ext [iblk, V, idx1 t, row]

theorem pay_back (t : Fin cfg0.N) (r : Fin 512) (j : Fin 1024) :
    k0_pay3 (iblk m c 0 t) (iblk m c 1 t) (ix2 r j) = lossBack (argY m c) (argT m c) (ix2 (row t r) j) := by
  unfold k0_pay3 k0_pay2 lossBack
  refine Eq.trans ?_ (congrArg₂ (fun a b => (a - b) * Ideal.ofBits .f32 0x3A800000#32) (rd_fin (argY m c) (row t r) j) (rd_fin (argT m c) (row t r) j)).symm
  pointwise [blk0, blk1, row]

theorem pay_loss (t : Fin cfg0.N) (acc : Vec Ideal S1x1 .f32) (i j : Fin 1) :
    k0_pay4 (iblk m c 0 t) (iblk m c 1 t) acc (ix2 i j) = acc (ix2 i j) + term (argY m c) (argT m c) t.val := by
  obtain rfl : i = 0 := Subsingleton.elim _ _
  obtain rfl : j = 0 := Subsingleton.elim _ _
  unfold k0_pay4 k0_pay2
  pointwise [blk0, blk1, term, tok]

theorem fill (i j : Fin 1) : (k0_pay1 (F := Ideal)) (ix2 i j) = 0 := by
  unfold k0_pay1
  pointwise

theorem block3 (t : Fin cfg0.N) (r : Fin 512) (j : Fin 1024) :
    (outsAt0 m c t.val t.isLt).2 (ix2 r j) = lossBack (argY m c) (argT m c) (ix2 (row t r) j) := by
  by_cases h0 : t.val % 32 = 0
  · rw [outsAt0_A m c t h0]
    frame_out
    exact pay_back m c t r j
  · rw [outsAt0_B m c t h0]
    frame_out
    exact pay_back m c t r j

theorem out3 : (dats m 0 c).arrAt 3 cfg0.N = lossBack (argY m c) (argT m c) := by
  refine (dats m 0 c).arrAt_eq_of_covers 3 _ (by decide +kernel) fun t hf y => ?_
  blk_simp
  rw [after0_3]
  obtain ⟨r, j, rfl⟩ : ∃ (r : Fin 512) (j : Fin 1024), y = ix2 r j := ⟨y 0, y 1, eq_ix2 y⟩
  refine (block3 m c t r j).trans (congrArg (lossBack (argY m c) (argT m c)) (?_ : ix2 _ _ = _))
  blk_ext [idx3 t, row]

def tEnd : Fin cfg0.N := ⟨31, by decide +kernel⟩

theorem start (t : Fin cfg0.N) (h0 : t.val % 32 = 0) (i j : Fin 1) :
    (outsAt0 m c t.val t.isLt).1 (ix2 i j) = 0 + term (argY m c) (argT m c) t.val := by
  rw [outsAt0_A m c t h0]
  frame_open
  simp (disch := decide) only [↓ View.readCov_skip, ↓ View.readCov_cons_toLoadRect, ↓ View.readCov_fill]
  frame_out
  refine (pay_loss m c t _ i j).trans ?_
  rw [fill]

theorem step (t : Fin cfg0.N) (h0 : ¬ t.val % 32 = 0) (i j : Fin 1) :
    (outsAt0 m c t.val t.isLt).1 (ix2 i j)
      = (outsAt0 m c (t.val - 1) (Nat.lt_of_le_of_lt (Nat.sub_le _ _) t.isLt)).1 (ix2 i j) + term (argY m c) (argT m c) t.val := by
  rw [outsAt0_B m c t h0]
  frame_out
  exact pay_loss m c t _ i j

theorem sum31 (i j : Fin 1) : (outsAt0 m c tEnd.val tEnd.isLt).1 (ix2 i j) = loss (argY m c) (argT m c) (ix2 i j) := by
  have h := Pipeline.eq_sum_of_reset_step_apply_single (M := EReal) (fun n h => ((outsAt0 m c n h).1 : S1x1.Idx → EReal)) 32 0
    (fun b _ => term (argY m c) (argT m c) b)
    (fun t h0 y => by
      obtain ⟨i, j, rfl⟩ : ∃ (i : Fin 1) (j : Fin 1), y = ix2 i j := ⟨y 0, y 1, eq_ix2 y⟩
      exact start m c t h0 i j)
    (fun t h0 y => by
      obtain ⟨i, j, rfl⟩ : ∃ (i : Fin 1) (j : Fin 1), y = ix2 i j := ⟨y 0, y 1, eq_ix2 y⟩
      exact step m c t h0 i j)
    (by decide +kernel) tEnd (ix2 i j)
  exact (h.trans (zero_add _)).trans (term_sum _ _ i j)

theorem out2 : (dats m 0 c).arrAt 2 cfg0.N = loss (argY m c) (argT m c) := by
  refine (dats m 0 c).arrAt_eq_of_after_last 2 tEnd (by decide +kernel) _ fun y => ?_
  blk_simp
  rw [after0_2]
  obtain ⟨i, j, rfl⟩ : ∃ (i : Fin 1) (j : Fin 1), y = ix2 i j := ⟨y 0, y 1, eq_ix2 y⟩
  exact sum31 m c i j

end kernel

section reference
open Cert.LossHeadRefIdeal Cert.LossHeadRefIdeal.Gen Cert.LossHeadRefIdeal.Read

theorem ref_tok (y t : Arr 16384 1024) (T : Fin 16384) : val_main_v6 (F := Ideal) y t (ix1 T) = tok y t T.val := by
  unfold val_main_v6 val_main_v5 val_main_v4 val_main_v1 val_main_v0 val_main_cst_0 val_main_cst_1 tok
  refine Eq.trans ?_ (congrArg (Ideal.div · _) (Finset.sum_congr rfl fun k _ =>
    congrArg₂ (fun a b => (a - b) * (a - b)) (rd_fin y T k) (rd_fin t T k)))
  pointwise

theorem ref_total (y t : Arr 16384 1024) : val_main_v7 (F := Ideal) y t ix0 = ∑ T : Fin 16384, tok y t T.val := by
  have h (v : S16384.Idx → EReal) (hv : v = val_main_v6 (F := Ideal) y t) :
      val_main_v7 (F := Ideal) y t ix0 = ∑ T : Fin 16384, v (ix1 T) := by
    unfold val_main_v7 val_main_cst_2
    rw [← hv]
    pointwise
  exact (h _ rfl).trans (Finset.sum_congr rfl fun T _ => ref_tok y t T)

theorem ref_loss (y t : Arr 16384 1024) : val_main_v15 (F := Ideal) y t = loss y t := by
  funext z
  unfold val_main_v15 val_main_v8
  refine Eq.trans (b := Ideal.ofBits .f32 0x3F000000#32 * val_main_v7 (F := Ideal) y t ix0) ?_ ?_
  · unfold val_main_cst_3
    pointwise
  refine congrArg (Ideal.ofBits .f32 0x3F000000#32 * ·) ?_
  exact ref_total y t

theorem ref_back (y t : Arr 16384 1024) : val_main_v14 (F := Ideal) y t = lossBack y t := by
  funext i
  unfold lossBack
  rw [← back_eq]
  rfl

/-- The reference runs to its end and leaves its arguments and every counter as they were. -/
theorem ref_frame : Cert.quiescent_LossHeadRefIdeal (hLossHeadRefIdeal := Cert.LossHeadRefIdeal.Gen.facts) := fun m ρ _ =>
  (θ_run _ _ _).mono (fun r h => ⟨fun c => (h c).2.2, sem_eq_zero_of_no_sems (by decide) r.2⟩)
    (Cert.LossHeadRefIdeal.Value.run m ρ)

end reference

/-- The call and its reference end with the same arrays. -/
theorem algebraic :
    Cert.algebraic_LossHeadIdeal_LossHeadRefIdeal (hLossHeadIdeal := Cert.LossHeadIdeal.Gen.facts) (hLossHeadRefIdeal := Cert.LossHeadRefIdeal.Gen.facts) := by
  intro m g m' g' _ hargs
  refine ⟨fun c => loss (argY m c) (argT m c), fun c => lossBack (argY m c) (argT m c), ?_, ?_⟩
  · refine (θ_run _ _ _).mono (fun r hr c => ?_) (Cert.LossHeadIdeal.Value.run_blocks m g)
    exact ⟨(hr c).1.trans (out2 m c), (hr c).2.1.trans (out3 m c), (hr c).2.2⟩
  · refine (θ_run _ _ _).mono (fun r hr c => ?_) (Cert.LossHeadRefIdeal.Value.run m' g')
    obtain ⟨e0, e1⟩ := hargs c
    refine ⟨(hr c).1.trans ((Cert.LossHeadRefIdeal.Read.val_main_v15_eq _ _).trans ?_),
      (hr c).2.1.trans ((Cert.LossHeadRefIdeal.Read.val_main_v14_eq _ _).trans ?_), (hr c).2.2⟩
    · rw [e0, e1]
      exact ref_loss _ _
    · rw [e0, e1]
      exact ref_back _ _

end Cert.LossHeadProof
end
-- ==== Proof.SumSpec.lean ====
module

public import proofs.«01_k».proof.Proof.StepSums

/-! A device's own part of a gradient and the seven parts that the other devices sent, added up. -/

@[expose] public section

noncomputable section

namespace Cert.StepProof

open Idealize.ShloMosaic

/-- Seven matrices of one shape, in one array. -/
abbrev Arr7 (a b : ℕ) : Type := (⟨3, ![7, a, b]⟩ : Shape).Idx → EReal

/-- The own part plus the sum of the seven others. -/
def addAll {R C : ℕ} (own : Arr R C) (others : Arr7 R C) : Arr R C := fun y => own y + ∑ k : Fin 7, others (ix3 k (y 0) (y 1))

end Cert.StepProof
end
-- ==== Proof.SumInClaim.lean ====
module

public import proofs.«01_k».proof.Defs
public import proofs.«01_k».proof.Proof.SumSpec
public import proofs.«01_k».proof.Proof.Gen.SumInIdeal.Value
public import proofs.«01_k».proof.Proof.Gen.SumInRefIdeal.Read
public import Idealize.ShloMosaic.Lib.Pipeline.ValueKit
public import Idealize.ShloMosaic.Lib.Pipeline.ReadBack
public import Idealize.ShloMosaic.Lib.WritesUnit

/-! The sum over the devices of one device's half of its part of the gradient at `ev_w_in`. -/

@[expose] public section

noncomputable section

namespace Cert.SumInProof

open Idealize.ShloMosaic Idealize.SL.Sem Cert.StepProof

section kernel
open Cert.SumInIdeal Cert.SumInIdeal.Gen

variable (m : (ℓ : Loc nD τ sig) → Buf (Elt Ideal) ℓ) (c : Dev nD)

/-- The two arguments on device `c`. -/
abbrev argA : Arr 512 512 := m ((c.tc : Thread nD τ).loc main_arg0)
abbrev argB : Arr7 512 512 := m ((c.tc : Thread nD τ).loc main_arg1)

theorem lt_points (t : Fin cfg0.N) : t.val < 1 := t.isLt

theorem idx0 : ∀ t : Fin cfg0.N, win0_0.index t = ![t.val, 0] := by decide +kernel
theorem idx1 : ∀ t : Fin cfg0.N, win0_1.index t = ![0, t.val, 0] := by decide +kernel
theorem idx2 : ∀ t : Fin cfg0.N, win0_2.index t = ![t.val, 0] := by decide +kernel

/-- Row `r` of block `t`. -/
def row (t : Fin cfg0.N) (r : Fin 512) : Fin 512 := ⟨t.val * 512 + r.val, by have := lt_points t; omega⟩

theorem blk0 (t : Fin cfg0.N) (r : Fin 512) (j : Fin 512) : iblk m c 0 t (ix2 r j) = argA m c (ix2 (row t r) j) := by
  blk_ext [iblk, V, idx0 t, row]

theorem blk1 (t : Fin cfg0.N) (k : Fin 7) (r : Fin 512) (j : Fin 512) : iblk m c 1 t (ix3 k r j) = argB m c (ix3 k (row t r) j) := by
  blk_ext [iblk, V, idx1 t, row]

theorem block (t : Fin cfg0.N) (r : Fin 512) (j : Fin 512) :
    out0_2 (iblk m c 0 t) (iblk m c 1 t) (ix2 r j) = addAll (argA m c) (argB m c) (ix2 (row t r) j) := by
  frame_out
  unfold k0_pay1
  refine Eq.trans (b := argA m c (ix2 (row t r) j) + argB m c (ix3 0 (row t r) j) + argB m c (ix3 1 (row t r) j)
    + argB m c (ix3 2 (row t r) j) + argB m c (ix3 3 (row t r) j) + argB m c (ix3 4 (row t r) j)
    + argB m c (ix3 5 (row t r) j) + argB m c (ix3 6 (row t r) j)) ?_ ?_
  · pointwise [blk0, blk1]
  · unfold addAll
    rw [Fin.sum_univ_seven]
    simp only [add_assoc]
    rfl

theorem out2 : (dats m 0 c).arrAt 2 cfg0.N = addAll (argA m c) (argB m c) := by
  refine (dats m 0 c).arrAt_eq_of_covers 2 _ (by decide +kernel) fun t hf y => ?_
  blk_simp
  rw [after0_2]
  obtain ⟨r, j, rfl⟩ : ∃ (r : Fin 512) (j : Fin 512), y = ix2 r j := ⟨y 0, y 1, eq_ix2 y⟩
  refine (block m c t r j).trans (congrArg (addAll (argA m c) (argB m c)) (?_ : ix2 _ _ = _))
  blk_ext [idx2 t, row]

end kernel

section reference
open Cert.SumInRefIdeal Cert.SumInRefIdeal.Gen Cert.SumInRefIdeal.Read

theorem ref_out (a : Arr 512 512) (b : Arr7 512 512) : val_main_v2 (F := Ideal) a b = addAll a b := by
  funext y
  obtain ⟨r, j, rfl⟩ : ∃ (r : Fin 512) (j : Fin 512), y = ix2 r j := ⟨y 0, y 1, eq_ix2 y⟩
  unfold val_main_v2 val_main_v1 val_main_v0 val_main_cst
  pointwise [addAll]

/-- The reference runs to its end and leaves its arguments and every counter as they were. -/
theorem ref_frame : Cert.quiescent_SumInRefIdeal (hSumInRefIdeal := Cert.SumInRefIdeal.Gen.facts) := fun m ρ _ =>
  (θ_run _ _ _).mono (fun r h => ⟨fun c => (h c).2, sem_eq_zero_of_no_sems (by decide) r.2⟩)
    (Cert.SumInRefIdeal.Value.run m ρ)

end reference

/-- The call and its reference end with the same array. -/
theorem algebraic :
    Cert.algebraic_SumInIdeal_SumInRefIdeal (hSumInIdeal := Cert.SumInIdeal.Gen.facts) (hSumInRefIdeal := Cert.SumInRefIdeal.Gen.facts) := by
  intro m g m' g' _ hargs
  refine ⟨fun c => addAll (argA m c) (argB m c), ?_, ?_⟩
  · refine (θ_run _ _ _).mono (fun r hr c => ?_) (Cert.SumInIdeal.Value.run_blocks m g)
    exact ⟨(hr c).1.trans (out2 m c), (hr c).2⟩
  · refine (θ_run _ _ _).mono (fun r hr c => ?_) (Cert.SumInRefIdeal.Value.run m' g')
    obtain ⟨e0, e1⟩ := hargs c
    refine ⟨(hr c).1.trans ((Cert.SumInRefIdeal.Read.val_main_v2_eq _ _).trans ?_), (hr c).2⟩
    rw [e0, e1]
    exact ref_out _ _

end Cert.SumInProof
end
-- ==== Proof.SumGluClaim.lean ====
module

public import proofs.«01_k».proof.Defs
public import proofs.«01_k».proof.Proof.SumSpec
public import proofs.«01_k».proof.Proof.Gen.SumGluIdeal.Value
public import proofs.«01_k».proof.Proof.Gen.SumGluRefIdeal.Read
public import Idealize.ShloMosaic.Lib.Pipeline.ValueKit
public import Idealize.ShloMosaic.Lib.Pipeline.ReadBack
public import Idealize.ShloMosaic.Lib.WritesUnit

/-! The sum over the devices of one device's half of its part of the gradient at `ev_w_glu`. -/

@[expose] public section

noncomputable section

namespace Cert.SumGluProof

open Idealize.ShloMosaic Idealize.SL.Sem Cert.StepProof

section kernel
open Cert.SumGluIdeal Cert.SumGluIdeal.Gen

variable (m : (ℓ : Loc nD τ sig) → Buf (Elt Ideal) ℓ) (c : Dev nD)

/-- The two arguments on device `c`. -/
abbrev argA : Arr 64 512 := m ((c.tc : Thread nD τ).loc main_arg0)
abbrev argB : Arr7 64 512 := m ((c.tc : Thread nD τ).loc main_arg1)

theorem lt_points (t : Fin cfg0.N) : t.val < 1 := t.isLt

theorem idx0 : ∀ t : Fin cfg0.N, win0_0.index t = ![t.val, 0] := by decide +kernel
theorem idx1 : ∀ t : Fin cfg0.N, win0_1.index t = ![0, t.val, 0] := by decide +kernel
theorem idx2 : ∀ t : Fin cfg0.N, win0_2.index t = ![t.val, 0] := by decide +kernel

/-- Row `r` of block `t`. -/
def row (t : Fin cfg0.N) (r : Fin 64) : Fin 64 := ⟨t.val * 64 + r.val, by have := lt_points t; omega⟩

theorem blk0 (t : Fin cfg0.N) (r : Fin 64) (j : Fin 512) : iblk m c 0 t (ix2 r j) = argA m c (ix2 (row t r) j) := by
  blk_ext [iblk, V, idx0 t, row]

theorem blk1 (t : Fin cfg0.N) (k : Fin 7) (r : Fin 64) (j : Fin 512) : iblk m c 1 t (ix3 k r j) = argB m c (ix3 k (row t r) j) := by
  blk_ext [iblk, V, idx1 t, row]

theorem block (t : Fin cfg0.N) (r : Fin 64) (j : Fin 512) :
    out0_2 (iblk m c 0 t) (iblk m c 1 t) (ix2 r j) = addAll (argA m c) (argB m c) (ix2 (row t r) j) := by
  frame_out
  unfold k0_pay1
  refine Eq.trans (b := argA m c (ix2 (row t r) j) + argB m c (ix3 0 (row t r) j) + argB m c (ix3 1 (row t r) j)
    + argB m c (ix3 2 (row t r) j) + argB m c (ix3 3 (row t r) j) + argB m c (ix3 4 (row t r) j)
    + argB m c (ix3 5 (row t r) j) + argB m c (ix3 6 (row t r) j)) ?_ ?_
  · pointwise [blk0, blk1]
  · unfold addAll
    rw [Fin.sum_univ_seven]
    simp only [add_assoc]
    rfl

theorem out2 : (dats m 0 c).arrAt 2 cfg0.N = addAll (argA m c) (argB m c) := by
  refine (dats m 0 c).arrAt_eq_of_covers 2 _ (by decide +kernel) fun t hf y => ?_
  blk_simp
  rw [after0_2]
  obtain ⟨r, j, rfl⟩ : ∃ (r : Fin 64) (j : Fin 512), y = ix2 r j := ⟨y 0, y 1, eq_ix2 y⟩
  refine (block m c t r j).trans (congrArg (addAll (argA m c) (argB m c)) (?_ : ix2 _ _ = _))
  blk_ext [idx2 t, row]

end kernel

section reference
open Cert.SumGluRefIdeal Cert.SumGluRefIdeal.Gen Cert.SumGluRefIdeal.Read

theorem ref_out (a : Arr 64 512) (b : Arr7 64 512) : val_main_v2 (F := Ideal) a b = addAll a b := by
  funext y
  obtain ⟨r, j, rfl⟩ : ∃ (r : Fin 64) (j : Fin 512), y = ix2 r j := ⟨y 0, y 1, eq_ix2 y⟩
  unfold val_main_v2 val_main_v1 val_main_v0 val_main_cst
  pointwise [addAll]

/-- The reference runs to its end and leaves its arguments and every counter as they were. -/
theorem ref_frame : Cert.quiescent_SumGluRefIdeal (hSumGluRefIdeal := Cert.SumGluRefIdeal.Gen.facts) := fun m ρ _ =>
  (θ_run _ _ _).mono (fun r h => ⟨fun c => (h c).2, sem_eq_zero_of_no_sems (by decide) r.2⟩)
    (Cert.SumGluRefIdeal.Value.run m ρ)

end reference

/-- The call and its reference end with the same array. -/
theorem algebraic :
    Cert.algebraic_SumGluIdeal_SumGluRefIdeal (hSumGluIdeal := Cert.SumGluIdeal.Gen.facts) (hSumGluRefIdeal := Cert.SumGluRefIdeal.Gen.facts) := by
  intro m g m' g' _ hargs
  refine ⟨fun c => addAll (argA m c) (argB m c), ?_, ?_⟩
  · refine (θ_run _ _ _).mono (fun r hr c => ?_) (Cert.SumGluIdeal.Value.run_blocks m g)
    exact ⟨(hr c).1.trans (out2 m c), (hr c).2⟩
  · refine (θ_run _ _ _).mono (fun r hr c => ?_) (Cert.SumGluRefIdeal.Value.run m' g')
    obtain ⟨e0, e1⟩ := hargs c
    refine ⟨(hr c).1.trans ((Cert.SumGluRefIdeal.Read.val_main_v2_eq _ _).trans ?_), (hr c).2⟩
    rw [e0, e1]
    exact ref_out _ _

end Cert.SumGluProof
end
-- ==== Proof.SumOutClaim.lean ====
module

public import proofs.«01_k».proof.Defs
public import proofs.«01_k».proof.Proof.SumSpec
public import proofs.«01_k».proof.Proof.Gen.SumOutIdeal.Value
public import proofs.«01_k».proof.Proof.Gen.SumOutRefIdeal.Read
public import Idealize.ShloMosaic.Lib.Pipeline.ValueKit
public import Idealize.ShloMosaic.Lib.Pipeline.ReadBack
public import Idealize.ShloMosaic.Lib.WritesUnit

/-! The sum over the devices of one device's half of its part of the gradient at `ev_w_out`. -/

@[expose] public section

noncomputable section

namespace Cert.SumOutProof

open Idealize.ShloMosaic Idealize.SL.Sem Cert.StepProof

section kernel
open Cert.SumOutIdeal Cert.SumOutIdeal.Gen

variable (m : (ℓ : Loc nD τ sig) → Buf (Elt Ideal) ℓ) (c : Dev nD)

/-- The two arguments on device `c`. -/
abbrev argA : Arr 128 1024 := m ((c.tc : Thread nD τ).loc main_arg0)
abbrev argB : Arr7 128 1024 := m ((c.tc : Thread nD τ).loc main_arg1)

theorem lt_points (t : Fin cfg0.N) : t.val < 1 := t.isLt

theorem idx0 : ∀ t : Fin cfg0.N, win0_0.index t = ![t.val, 0] := by decide +kernel
theorem idx1 : ∀ t : Fin cfg0.N, win0_1.index t = ![0, t.val, 0] := by decide +kernel
theorem idx2 : ∀ t : Fin cfg0.N, win0_2.index t = ![t.val, 0] := by decide +kernel

/-- Row `r` of block `t`. -/
def row (t : Fin cfg0.N) (r : Fin 128) : Fin 128 := ⟨t.val * 128 + r.val, by have := lt_points t; omega⟩

theorem blk0 (t : Fin cfg0.N) (r : Fin 128) (j : Fin 1024) : iblk m c 0 t (ix2 r j) = argA m c (ix2 (row t r) j) := by
  blk_ext [iblk, V, idx0 t, row]

theorem blk1 (t : Fin cfg0.N) (k : Fin 7) (r : Fin 128) (j : Fin 1024) : iblk m c 1 t (ix3 k r j) = argB m c (ix3 k (row t r) j) := by
  blk_ext [iblk, V, idx1 t, row]

theorem block (t : Fin cfg0.N) (r : Fin 128) (j : Fin 1024) :
    out0_2 (iblk m c 0 t) (iblk m c 1 t) (ix2 r j) = addAll (argA m c) (argB m c) (ix2 (row t r) j) := by
  frame_out
  unfold k0_pay1
  refine Eq.trans (b := argA m c (ix2 (row t r) j) + argB m c (ix3 0 (row t r) j) + argB m c (ix3 1 (row t r) j)
    + argB m c (ix3 2 (row t r) j) + argB m c (ix3 3 (row t r) j) + argB m c (ix3 4 (row t r) j)
    + argB m c (ix3 5 (row t r) j) + argB m c (ix3 6 (row t r) j)) ?_ ?_
  · pointwise [blk0, blk1]
  · unfold addAll
    rw [Fin.sum_univ_seven]
    simp only [add_assoc]
    rfl

theorem out2 : (dats m 0 c).arrAt 2 cfg0.N = addAll (argA m c) (argB m c) := by
  refine (dats m 0 c).arrAt_eq_of_covers 2 _ (by decide +kernel) fun t hf y => ?_
  blk_simp
  rw [after0_2]
  obtain ⟨r, j, rfl⟩ : ∃ (r : Fin 128) (j : Fin 1024), y = ix2 r j := ⟨y 0, y 1, eq_ix2 y⟩
  refine (block m c t r j).trans (congrArg (addAll (argA m c) (argB m c)) (?_ : ix2 _ _ = _))
  blk_ext [idx2 t, row]

end kernel

section reference
open Cert.SumOutRefIdeal Cert.SumOutRefIdeal.Gen Cert.SumOutRefIdeal.Read

theorem ref_out (a : Arr 128 1024) (b : Arr7 128 1024) : val_main_v2 (F := Ideal) a b = addAll a b := by
  funext y
  obtain ⟨r, j, rfl⟩ : ∃ (r : Fin 128) (j : Fin 1024), y = ix2 r j := ⟨y 0, y 1, eq_ix2 y⟩
  unfold val_main_v2 val_main_v1 val_main_v0 val_main_cst
  pointwise [addAll]

/-- The reference runs to its end and leaves its arguments and every counter as they were. -/
theorem ref_frame : Cert.quiescent_SumOutRefIdeal (hSumOutRefIdeal := Cert.SumOutRefIdeal.Gen.facts) := fun m ρ _ =>
  (θ_run _ _ _).mono (fun r h => ⟨fun c => (h c).2, sem_eq_zero_of_no_sems (by decide) r.2⟩)
    (Cert.SumOutRefIdeal.Value.run m ρ)

end reference

/-- The call and its reference end with the same array. -/
theorem algebraic :
    Cert.algebraic_SumOutIdeal_SumOutRefIdeal (hSumOutIdeal := Cert.SumOutIdeal.Gen.facts) (hSumOutRefIdeal := Cert.SumOutRefIdeal.Gen.facts) := by
  intro m g m' g' _ hargs
  refine ⟨fun c => addAll (argA m c) (argB m c), ?_, ?_⟩
  · refine (θ_run _ _ _).mono (fun r hr c => ?_) (Cert.SumOutIdeal.Value.run_blocks m g)
    exact ⟨(hr c).1.trans (out2 m c), (hr c).2⟩
  · refine (θ_run _ _ _).mono (fun r hr c => ?_) (Cert.SumOutRefIdeal.Value.run m' g')
    obtain ⟨e0, e1⟩ := hargs c
    refine ⟨(hr c).1.trans ((Cert.SumOutRefIdeal.Read.val_main_v2_eq _ _).trans ?_), (hr c).2⟩
    rw [e0, e1]
    exact ref_out _ _

end Cert.SumOutProof
end
-- ==== Proof.SumUpClaim.lean ====
module

public import proofs.«01_k».proof.Defs
public import proofs.«01_k».proof.Proof.SumSpec
public import proofs.«01_k».proof.Proof.Gen.SumUpIdeal.Value
public import proofs.«01_k».proof.Proof.Gen.SumUpRefIdeal.Read
public import Idealize.ShloMosaic.Lib.Pipeline.ValueKit
public import Idealize.ShloMosaic.Lib.Pipeline.ReadBack
public import Idealize.ShloMosaic.Lib.WritesUnit

/-! The sum over the devices of one device's half of its part of the gradient at `ffn_w_up`. -/

@[expose] public section

noncomputable section

namespace Cert.SumUpProof

open Idealize.ShloMosaic Idealize.SL.Sem Cert.StepProof

section kernel
open Cert.SumUpIdeal Cert.SumUpIdeal.Gen

variable (m : (ℓ : Loc nD τ sig) → Buf (Elt Ideal) ℓ) (c : Dev nD)

/-- The two arguments on device `c`. -/
abbrev argA : Arr 512 1408 := m ((c.tc : Thread nD τ).loc main_arg0)
abbrev argB : Arr7 512 1408 := m ((c.tc : Thread nD τ).loc main_arg1)

theorem lt_points (t : Fin cfg0.N) : t.val < 1 := t.isLt

theorem idx0 : ∀ t : Fin cfg0.N, win0_0.index t = ![t.val, 0] := by decide +kernel
theorem idx1 : ∀ t : Fin cfg0.N, win0_1.index t = ![0, t.val, 0] := by decide +kernel
theorem idx2 : ∀ t : Fin cfg0.N, win0_2.index t = ![t.val, 0] := by decide +kernel

/-- Row `r` of block `t`. -/
def row (t : Fin cfg0.N) (r : Fin 512) : Fin 512 := ⟨t.val * 512 + r.val, by have := lt_points t; omega⟩

theorem blk0 (t : Fin cfg0.N) (r : Fin 512) (j : Fin 1408) : iblk m c 0 t (ix2 r j) = argA m c (ix2 (row t r) j) := by
  blk_ext [iblk, V, idx0 t, row]

theorem blk1 (t : Fin cfg0.N) (k : Fin 7) (r : Fin 512) (j : Fin 1408) : iblk m c 1 t (ix3 k r j) = argB m c (ix3 k (row t r) j) := by
  blk_ext [iblk, V, idx1 t, row]

theorem block (t : Fin cfg0.N) (r : Fin 512) (j : Fin 1408) :
    out0_2 (iblk m c 0 t) (iblk m c 1 t) (ix2 r j) = addAll (argA m c) (argB m c) (ix2 (row t r) j) := by
  frame_out
  unfold k0_pay1
  refine Eq.trans (b := argA m c (ix2 (row t r) j) + argB m c (ix3 0 (row t r) j) + argB m c (ix3 1 (row t r) j)
    + argB m c (ix3 2 (row t r) j) + argB m c (ix3 3 (row t r) j) + argB m c (ix3 4 (row t r) j)
    + argB m c (ix3 5 (row t r) j) + argB m c (ix3 6 (row t r) j)) ?_ ?_
  · pointwise [blk0, blk1]
  · unfold addAll
    rw [Fin.sum_univ_seven]
    simp only [add_assoc]
    rfl

theorem out2 : (dats m 0 c).arrAt 2 cfg0.N = addAll (argA m c) (argB m c) := by
  refine (dats m 0 c).arrAt_eq_of_covers 2 _ (by decide +kernel) fun t hf y => ?_
  blk_simp
  rw [after0_2]
  obtain ⟨r, j, rfl⟩ : ∃ (r : Fin 512) (j : Fin 1408), y = ix2 r j := ⟨y 0, y 1, eq_ix2 y⟩
  refine (block m c t r j).trans (congrArg (addAll (argA m c) (argB m c)) (?_ : ix2 _ _ = _))
  blk_ext [idx2 t, row]

end kernel

section reference
open Cert.SumUpRefIdeal Cert.SumUpRefIdeal.Gen Cert.SumUpRefIdeal.Read

theorem ref_out (a : Arr 512 1408) (b : Arr7 512 1408) : val_main_v2 (F := Ideal) a b = addAll a b := by
  funext y
  obtain ⟨r, j, rfl⟩ : ∃ (r : Fin 512) (j : Fin 1408), y = ix2 r j := ⟨y 0, y 1, eq_ix2 y⟩
  unfold val_main_v2 val_main_v1 val_main_v0 val_main_cst
  pointwise [addAll]

/-- The reference runs to its end and leaves its arguments and every counter as they were. -/
theorem ref_frame : Cert.quiescent_SumUpRefIdeal (hSumUpRefIdeal := Cert.SumUpRefIdeal.Gen.facts) := fun m ρ _ =>
  (θ_run _ _ _).mono (fun r h => ⟨fun c => (h c).2, sem_eq_zero_of_no_sems (by decide) r.2⟩)
    (Cert.SumUpRefIdeal.Value.run m ρ)

end reference

/-- The call and its reference end with the same array. -/
theorem algebraic :
    Cert.algebraic_SumUpIdeal_SumUpRefIdeal (hSumUpIdeal := Cert.SumUpIdeal.Gen.facts) (hSumUpRefIdeal := Cert.SumUpRefIdeal.Gen.facts) := by
  intro m g m' g' _ hargs
  refine ⟨fun c => addAll (argA m c) (argB m c), ?_, ?_⟩
  · refine (θ_run _ _ _).mono (fun r hr c => ?_) (Cert.SumUpIdeal.Value.run_blocks m g)
    exact ⟨(hr c).1.trans (out2 m c), (hr c).2⟩
  · refine (θ_run _ _ _).mono (fun r hr c => ?_) (Cert.SumUpRefIdeal.Value.run m' g')
    obtain ⟨e0, e1⟩ := hargs c
    refine ⟨(hr c).1.trans ((Cert.SumUpRefIdeal.Read.val_main_v2_eq _ _).trans ?_), (hr c).2⟩
    rw [e0, e1]
    exact ref_out _ _

end Cert.SumUpProof
end
-- ==== Proof.SumDownClaim.lean ====
module

public import proofs.«01_k».proof.Defs
public import proofs.«01_k».proof.Proof.SumSpec
public import proofs.«01_k».proof.Proof.Gen.SumDownIdeal.Value
public import proofs.«01_k».proof.Proof.Gen.SumDownRefIdeal.Read
public import Idealize.ShloMosaic.Lib.Pipeline.ValueKit
public import Idealize.ShloMosaic.Lib.Pipeline.ReadBack
public import Idealize.ShloMosaic.Lib.WritesUnit

/-! The sum over the devices of one device's half of its part of the gradient at `ffn_w_down`. -/

@[expose] public section

noncomputable section

namespace Cert.SumDownProof

open Idealize.ShloMosaic Idealize.SL.Sem Cert.StepProof

section kernel
open Cert.SumDownIdeal Cert.SumDownIdeal.Gen

variable (m : (ℓ : Loc nD τ sig) → Buf (Elt Ideal) ℓ) (c : Dev nD)

/-- The two arguments on device `c`. -/
abbrev argA : Arr 352 1024 := m ((c.tc : Thread nD τ).loc main_arg0)
abbrev argB : Arr7 352 1024 := m ((c.tc : Thread nD τ).loc main_arg1)

theorem lt_points (t : Fin cfg0.N) : t.val < 11 := t.isLt

theorem idx0 : ∀ t : Fin cfg0.N, win0_0.index t = ![t.val, 0] := by decide +kernel
theorem idx1 : ∀ t : Fin cfg0.N, win0_1.index t = ![0, t.val, 0] := by decide +kernel
theorem idx2 : ∀ t : Fin cfg0.N, win0_2.index t = ![t.val, 0] := by decide +kernel

/-- Row `r` of block `t`. -/
def row (t : Fin cfg0.N) (r : Fin 32) : Fin 352 := ⟨t.val * 32 + r.val, by have := lt_points t; omega⟩

theorem blk0 (t : Fin cfg0.N) (r : Fin 32) (j : Fin 1024) : iblk m c 0 t (ix2 r j) = argA m c (ix2 (row t r) j) := by
  blk_ext [iblk, V, idx0 t, row]

theorem blk1 (t : Fin cfg0.N) (k : Fin 7) (r : Fin 32) (j : Fin 1024) : iblk m c 1 t (ix3 k r j) = argB m c (ix3 k (row t r) j) := by
  blk_ext [iblk, V, idx1 t, row]

theorem block (t : Fin cfg0.N) (r : Fin 32) (j : Fin 1024) :
    out0_2 (iblk m c 0 t) (iblk m c 1 t) (ix2 r j) = addAll (argA m c) (argB m c) (ix2 (row t r) j) := by
  frame_out
  unfold k0_pay1
  refine Eq.trans (b := argA m c (ix2 (row t r) j) + argB m c (ix3 0 (row t r) j) + argB m c (ix3 1 (row t r) j)
    + argB m c (ix3 2 (row t r) j) + argB m c (ix3 3 (row t r) j) + argB m c (ix3 4 (row t r) j)
    + argB m c (ix3 5 (row t r) j) + argB m c (ix3 6 (row t r) j)) ?_ ?_
  · pointwise [blk0, blk1]
  · unfold addAll
    rw [Fin.sum_univ_seven]
    simp only [add_assoc]
    rfl

theorem out2 : (dats m 0 c).arrAt 2 cfg0.N = addAll (argA m c) (argB m c) := by
  refine (dats m 0 c).arrAt_eq_of_covers 2 _ (by decide +kernel) fun t hf y => ?_
  blk_simp
  rw [after0_2]
  obtain ⟨r, j, rfl⟩ : ∃ (r : Fin 32) (j : Fin 1024), y = ix2 r j := ⟨y 0, y 1, eq_ix2 y⟩
  refine (block m c t r j).trans (congrArg (addAll (argA m c) (argB m c)) (?_ : ix2 _ _ = _))
  blk_ext [idx2 t, row]

end kernel

section reference
open Cert.SumDownRefIdeal Cert.SumDownRefIdeal.Gen Cert.SumDownRefIdeal.Read

theorem ref_out (a : Arr 352 1024) (b : Arr7 352 1024) : val_main_v2 (F := Ideal) a b = addAll a b := by
  funext y
  obtain ⟨r, j, rfl⟩ : ∃ (r : Fin 352) (j : Fin 1024), y = ix2 r j := ⟨y 0, y 1, eq_ix2 y⟩
  unfold val_main_v2 val_main_v1 val_main_v0 val_main_cst
  pointwise [addAll]

/-- The reference runs to its end and leaves its arguments and every counter as they were. -/
theorem ref_frame : Cert.quiescent_SumDownRefIdeal (hSumDownRefIdeal := Cert.SumDownRefIdeal.Gen.facts) := fun m ρ _ =>
  (θ_run _ _ _).mono (fun r h => ⟨fun c => (h c).2, sem_eq_zero_of_no_sems (by decide) r.2⟩)
    (Cert.SumDownRefIdeal.Value.run m ρ)

end reference

/-- The call and its reference end with the same array. -/
theorem algebraic :
    Cert.algebraic_SumDownIdeal_SumDownRefIdeal (hSumDownIdeal := Cert.SumDownIdeal.Gen.facts) (hSumDownRefIdeal := Cert.SumDownRefIdeal.Gen.facts) := by
  intro m g m' g' _ hargs
  refine ⟨fun c => addAll (argA m c) (argB m c), ?_, ?_⟩
  · refine (θ_run _ _ _).mono (fun r hr c => ?_) (Cert.SumDownIdeal.Value.run_blocks m g)
    exact ⟨(hr c).1.trans (out2 m c), (hr c).2⟩
  · refine (θ_run _ _ _).mono (fun r hr c => ?_) (Cert.SumDownRefIdeal.Value.run m' g')
    obtain ⟨e0, e1⟩ := hargs c
    refine ⟨(hr c).1.trans ((Cert.SumDownRefIdeal.Read.val_main_v2_eq _ _).trans ?_), (hr c).2⟩
    rw [e0, e1]
    exact ref_out _ _

end Cert.SumDownProof
end
-- ==== Proof.SumProjClaim.lean ====
module

public import proofs.«01_k».proof.Defs
public import proofs.«01_k».proof.Proof.SumSpec
public import proofs.«01_k».proof.Proof.Gen.SumProjIdeal.Value
public import proofs.«01_k».proof.Proof.Gen.SumProjRefIdeal.Read
public import Idealize.ShloMosaic.Lib.Pipeline.ValueKit
public import Idealize.ShloMosaic.Lib.Pipeline.ReadBack
public import Idealize.ShloMosaic.Lib.WritesUnit

/-! The sum over the devices of one device's half of its part of the gradient at `ple_w_proj`. -/

@[expose] public section

noncomputable section

namespace Cert.SumProjProof

open Idealize.ShloMosaic Idealize.SL.Sem Cert.StepProof

section kernel
open Cert.SumProjIdeal Cert.SumProjIdeal.Gen

variable (m : (ℓ : Loc nD τ sig) → Buf (Elt Ideal) ℓ) (c : Dev nD)

/-- The two arguments on device `c`. -/
abbrev argA : Arr 128 256 := m ((c.tc : Thread nD τ).loc main_arg0)
abbrev argB : Arr7 128 256 := m ((c.tc : Thread nD τ).loc main_arg1)

theorem lt_points (t : Fin cfg0.N) : t.val < 1 := t.isLt

theorem idx0 : ∀ t : Fin cfg0.N, win0_0.index t = ![t.val, 0] := by decide +kernel
theorem idx1 : ∀ t : Fin cfg0.N, win0_1.index t = ![0, t.val, 0] := by decide +kernel
theorem idx2 : ∀ t : Fin cfg0.N, win0_2.index t = ![t.val, 0] := by decide +kernel

/-- Row `r` of block `t`. -/
def row (t : Fin cfg0.N) (r : Fin 128) : Fin 128 := ⟨t.val * 128 + r.val, by have := lt_points t; omega⟩

theorem blk0 (t : Fin cfg0.N) (r : Fin 128) (j : Fin 256) : iblk m c 0 t (ix2 r j) = argA m c (ix2 (row t r) j) := by
  blk_ext [iblk, V, idx0 t, row]

theorem blk1 (t : Fin cfg0.N) (k : Fin 7) (r : Fin 128) (j : Fin 256) : iblk m c 1 t (ix3 k r j) = argB m c (ix3 k (row t r) j) := by
  blk_ext [iblk, V, idx1 t, row]

theorem block (t : Fin cfg0.N) (r : Fin 128) (j : Fin 256) :
    out0_2 (iblk m c 0 t) (iblk m c 1 t) (ix2 r j) = addAll (argA m c) (argB m c) (ix2 (row t r) j) := by
  frame_out
  unfold k0_pay1
  refine Eq.trans (b := argA m c (ix2 (row t r) j) + argB m c (ix3 0 (row t r) j) + argB m c (ix3 1 (row t r) j)
    + argB m c (ix3 2 (row t r) j) + argB m c (ix3 3 (row t r) j) + argB m c (ix3 4 (row t r) j)
    + argB m c (ix3 5 (row t r) j) + argB m c (ix3 6 (row t r) j)) ?_ ?_
  · pointwise [blk0, blk1]
  · unfold addAll
    rw [Fin.sum_univ_seven]
    simp only [add_assoc]
    rfl

theorem out2 : (dats m 0 c).arrAt 2 cfg0.N = addAll (argA m c) (argB m c) := by
  refine (dats m 0 c).arrAt_eq_of_covers 2 _ (by decide +kernel) fun t hf y => ?_
  blk_simp
  rw [after0_2]
  obtain ⟨r, j, rfl⟩ : ∃ (r : Fin 128) (j : Fin 256), y = ix2 r j := ⟨y 0, y 1, eq_ix2 y⟩
  refine (block m c t r j).trans (congrArg (addAll (argA m c) (argB m c)) (?_ : ix2 _ _ = _))
  blk_ext [idx2 t, row]

end kernel

section reference
open Cert.SumProjRefIdeal Cert.SumProjRefIdeal.Gen Cert.SumProjRefIdeal.Read

theorem ref_out (a : Arr 128 256) (b : Arr7 128 256) : val_main_v2 (F := Ideal) a b = addAll a b := by
  funext y
  obtain ⟨r, j, rfl⟩ : ∃ (r : Fin 128) (j : Fin 256), y = ix2 r j := ⟨y 0, y 1, eq_ix2 y⟩
  unfold val_main_v2 val_main_v1 val_main_v0 val_main_cst
  pointwise [addAll]

/-- The reference runs to its end and leaves its arguments and every counter as they were. -/
theorem ref_frame : Cert.quiescent_SumProjRefIdeal (hSumProjRefIdeal := Cert.SumProjRefIdeal.Gen.facts) := fun m ρ _ =>
  (θ_run _ _ _).mono (fun r h => ⟨fun c => (h c).2, sem_eq_zero_of_no_sems (by decide) r.2⟩)
    (Cert.SumProjRefIdeal.Value.run m ρ)

end reference

/-- The call and its reference end with the same array. -/
theorem algebraic :
    Cert.algebraic_SumProjIdeal_SumProjRefIdeal (hSumProjIdeal := Cert.SumProjIdeal.Gen.facts) (hSumProjRefIdeal := Cert.SumProjRefIdeal.Gen.facts) := by
  intro m g m' g' _ hargs
  refine ⟨fun c => addAll (argA m c) (argB m c), ?_, ?_⟩
  · refine (θ_run _ _ _).mono (fun r hr c => ?_) (Cert.SumProjIdeal.Value.run_blocks m g)
    exact ⟨(hr c).1.trans (out2 m c), (hr c).2⟩
  · refine (θ_run _ _ _).mono (fun r hr c => ?_) (Cert.SumProjRefIdeal.Value.run m' g')
    obtain ⟨e0, e1⟩ := hargs c
    refine ⟨(hr c).1.trans ((Cert.SumProjRefIdeal.Read.val_main_v2_eq _ _).trans ?_), (hr c).2⟩
    rw [e0, e1]
    exact ref_out _ _

end Cert.SumProjProof
end
-- ==== Proof.PoolSpec.lean ====
module

public import Idealize.ShloMosaic.Lib.Pointwise

/-! The pooling mixer as a function of its arguments: trailing sums over a window, the counts, the products. -/

@[expose] public section

noncomputable section

namespace Cert.PoolSpec

open Idealize.ShloMosaic

abbrev Arr (a b : ℕ) : Type := (⟨2, ![a, b]⟩ : Shape).Idx → EReal
abbrev Arr3 (a b c : ℕ) : Type := (⟨3, ![a, b, c]⟩ : Shape).Idx → EReal

/-- The mixer's input with sixteen rows of zeros in front: row `S` is row `S - 16` of the array's last 512 columns. -/
def zPad (h : Arr 16384 2048) (j : Fin 512) (S : ℕ) : EReal :=
  if hS : 16 ≤ S ∧ S < 16400 then h (ix2 ⟨S - 16, by omega⟩ ⟨1536 + j.val, by omega⟩) else 0

/-- The sum of the `w` entries of a sequence that end at `S`. -/
def back (f : ℕ → EReal) (w S : ℕ) : EReal := ∑ k ∈ Finset.range w, f (S - k)

theorem back_double (f : ℕ → EReal) (w v S : ℕ) (hv : v = w + w) : back f v S = back f w S + back f w (S - w) := by
  subst hv
  rw [back, Finset.sum_range_add]
  refine congrArg (back f w S + ·) (Finset.sum_congr rfl fun k _ => ?_)
  rw [Nat.sub_sub]

theorem back_one (f : ℕ → EReal) (S : ℕ) : back f 1 S = f S := by simp [back]

/-- How many frames the window of width `w` holds at row `T`. -/
def count (w : BitVec 32) (T : ℕ) : EReal :=
  FloatOps.sitofp (F := Ideal) .f32 (IntOp.minsi (IntOp.addi (BitVec.ofNat 32 T) 1#32) w)

/-- The width of group `g`'s window. -/
def width (g : Fin 4) : ℕ := ![2, 4, 8, 16] g

/-- The trailing mean minus the frame, in group `g` at row `T` and column `j` of the group. -/
def pooled (h : Arr 16384 2048) (g : Fin 4) (T : ℕ) (j : Fin 128) : EReal :=
  Ideal.div (back (zPad h ⟨128 * g.val + j.val, by omega⟩) (width g) (T + 16)) (count (BitVec.ofNat 32 (width g)) T)
    - zPad h ⟨128 * g.val + j.val, by omega⟩ (T + 16)

theorem pooled_of (h : Arr 16384 2048) (g : Fin 4) (T : ℕ) (j : Fin 128) (q q' : Fin 512) (S : ℕ) (hq : q.val = 128 * g.val + j.val)
    (hq' : q'.val = 128 * g.val + j.val) (hS : S = T + 16) :
    Ideal.div (back (zPad h q) (width g) S) (count (BitVec.ofNat 32 (width g)) T) - zPad h q' (T + 16) = pooled h g T j := by
  have hlt : 128 * g.val + j.val < 512 := by omega
  have e : q = ⟨128 * g.val + j.val, hlt⟩ := Fin.ext hq
  have e' : q' = ⟨128 * g.val + j.val, hlt⟩ := Fin.ext hq'
  rw [hS, pooled, e, e']

/-- The product of a group's pooled frame with the group's weight. -/
def mixed (h : Arr 16384 2048) (W : Arr3 4 128 128) (g : Fin 4) (T : ℕ) (d : Fin 128) : EReal :=
  ∑ c : Fin 128, pooled h g T c * W (ix3 g c d)

/-- The mixer's output at row `T` and column `q`. -/
def outAt (h : Arr 16384 2048) (W : Arr3 4 128 128) (s : (⟨1, ![512]⟩ : Shape).Idx → EReal) (T : Fin 16384) (q : Fin 512) : EReal :=
  mixed h W ⟨q.val / 128, by omega⟩ T.val ⟨q.val % 128, by omega⟩ * s (ix1 q)

theorem outAt_group (h : Arr 16384 2048) (W : Arr3 4 128 128) (s : (⟨1, ![512]⟩ : Shape).Idx → EReal) (T : Fin 16384)
    (q : Fin 512) (g : Fin 4) (d : Fin 128) (hq : q.val = 128 * g.val + d.val) :
    outAt h W s T q = mixed h W g T.val d * s (ix1 q) := by
  rw [outAt]
  congr 2 <;> (apply Fin.ext; show _ = _; simp only []; omega)

/-- The whole output. -/
def out (h : Arr 16384 2048) (W : Arr3 4 128 128) (s : (⟨1, ![512]⟩ : Shape).Idx → EReal) : Arr 16384 512 :=
  fun y => outAt h W s (y 0) (y 1)

end Cert.PoolSpec
end
-- ==== Proof.PoolWindow.lean ====
module

public import Idealize.ShloMosaic.Lib.Pointwise
public import Idealize.ShloMosaic.Lib.Routing.OpsOne
public import proofs.«01_k».proof.Proof.PoolSpec

/-! A windowed sum down the rows of a matrix, position by position. -/

@[expose] public section

noncomputable section

namespace Cert.PoolWindow

open Idealize.ShloMosaic Idealize.ShloMosaic.Routing

theorem foldl_add {n : ℕ} (g : Fin n → EReal) (l : List (Fin n)) (v : EReal) :
    l.foldl (fun r k => r + g k) v = v + (l.map g).sum := by
  induction l generalizing v with
  | nil => simp
  | cons k l ih => rw [List.foldl_cons, ih, List.map_cons, List.sum_cons, add_assoc]

theorem sum_positions (F : ℕ → EReal) (M w : ℕ) (e : M = w) : ((List.finRange M).map fun n => F n.val).sum = ∑ n ∈ Finset.range w, F n := by
  subst e
  rw [map_finRange_val]
  rfl

/-- Row `T` of the windowed sum: the `w` rows of the padded matrix from `T` on, `lo` rows of zeros standing in front. -/
theorem window_rows {A B N w lo hi : ℕ} (x : (⟨2, ![A, N]⟩ : Shape).Idx → EReal) (init : (⟨0, ![]⟩ : Shape).Idx → EReal) (hinit : init ix0 = 0)
    (h : (⟨2, ![A, N]⟩ : Shape).ReduceWindows (![w, 1] : Fin 2 → Nat) ![1, 1] ![lo, 0] ![hi, 0] ⟨2, ![B, N]⟩) (hu : 0 < (⟨0, ![]⟩ : Shape).numel)
    (T : Fin B) (c : Fin N) :
    Host.reduceWindowAdd (F := Ideal) (φ := .f32) (![w, 1] : Fin 2 → Nat) ![1, 1] ![lo, 0] ![hi, 0] x init h hu (ix2 T c)
      = ∑ n ∈ Finset.range w, if hn : lo ≤ T.val + n ∧ T.val + n - lo < A then x (ix2 ⟨T.val + n - lo, hn.2⟩ c) else 0 := by
  have hv : init (Shape.Idx.first hu) = 0 := (congrArg init (funext fun a => a.elim0)).trans hinit
  unfold Host.reduceWindowAdd
  rw [hv]
  show Ideal.hostReduceWindowAdd _ _ _ _ _ _ _ _ = _
  unfold Ideal.hostReduceWindowAdd
  unfold Host.reduceWindow
  refine (List.foldl_ext _ (fun r n => r + (fun k : ℕ => if hn : lo ≤ T.val + k ∧ T.val + k - lo < A then x (ix2 ⟨T.val + k - lo, hn.2⟩ c) else 0) n.val)
    _ fun r n _ => congrArg (r + ·) ?_).trans ?_
  · have hw0 : ((shape2 w 1).rowMajor.symm n 0).val = n.val := by rw [symm_col]; rfl
    have hw1 : ((shape2 w 1).rowMajor.symm n 1).val = 0 := by rw [symm_col]; rfl
    dsimp only
    split
    · next hin =>
      have h0 := hin 0
      change lo ≤ T.val * 1 + ((shape2 w 1).rowMajor.symm n 0).val
        ∧ T.val * 1 + ((shape2 w 1).rowMajor.symm n 0).val - lo < A at h0
      rw [hw0, Nat.mul_one] at h0
      rw [dif_pos h0]
      refine congrArg x (funext fun a => Fin.ext ?_)
      match a with
      | ⟨0, _⟩ =>
        show T.val * 1 + ((shape2 w 1).rowMajor.symm n 0).val - lo = T.val + n.val - lo
        rw [hw0, Nat.mul_one]
      | ⟨1, _⟩ =>
        show c.val * 1 + ((shape2 w 1).rowMajor.symm n 1).val - 0 = c.val
        rw [hw1]
        omega
    · next hin =>
      rw [dif_neg fun hle => hin fun a => by
        match a with
        | ⟨0, _⟩ =>
          show lo ≤ T.val * 1 + ((shape2 w 1).rowMajor.symm n 0).val
            ∧ T.val * 1 + ((shape2 w 1).rowMajor.symm n 0).val - lo < A
          rw [hw0, Nat.mul_one]
          exact hle
        | ⟨1, _⟩ =>
          show 0 ≤ c.val * 1 + ((shape2 w 1).rowMajor.symm n 1).val ∧ c.val * 1 + ((shape2 w 1).rowMajor.symm n 1).val - 0 < N
          rw [hw1]
          have := c.isLt
          omega]
  · refine (foldl_add _ _ _).trans ?_
    rw [zero_add]
    exact sum_positions (fun k : ℕ => if hn : lo ≤ T.val + k ∧ T.val + k - lo < A then x (ix2 ⟨T.val + k - lo, hn.2⟩ c) else 0) _ _ (numel_col w)

open Cert.PoolSpec in
/-- The windowed sum of a group's frames is the trailing sum of the mixer's padded input. -/
theorem window_back (h : Arr 16384 2048) (q : Fin 512) (w lo : ℕ) (hlo : w = lo + 1) (hw : w ≤ 16) (T : Fin 16384) (c : Fin 128)
    (x : (⟨2, ![16384, 128]⟩ : Shape).Idx → EReal) (hx : ∀ S : Fin 16384, x (ix2 S c) = h (ix2 S ⟨1536 + q.val, by omega⟩)) :
    (∑ n ∈ Finset.range w, if hn : lo ≤ T.val + n ∧ T.val + n - lo < 16384 then x (ix2 ⟨T.val + n - lo, hn.2⟩ c) else 0)
      = back (zPad h q) w (T.val + 16) := by
  rw [back, ← Finset.sum_range_reflect]
  refine Finset.sum_congr rfl fun n hn => ?_
  have hn' := Finset.mem_range.mp hn
  have hT := T.isLt
  by_cases hc : lo ≤ T.val + (w - 1 - n)
  · rw [dif_pos ⟨hc, by omega⟩, zPad, dif_pos (by omega), hx]
    congr 2
    exact Fin.ext (by dsimp only; omega)
  · rw [dif_neg (fun hh => hc hh.1), zPad, dif_neg (by omega)]

open Cert.PoolSpec in
theorem pooled_frame (h : Arr 16384 2048) (g : Fin 4) (T : Fin 16384) (j : Fin 128) (q : Fin 512) (f : Fin 2048) (hq : q.val = 128 * g.val + j.val)
    (hf : f.val = 1536 + (128 * g.val + j.val)) :
    Ideal.div (back (zPad h q) (width g) (T.val + 16)) (count (BitVec.ofNat 32 (width g)) T.val) - h (ix2 T f) = pooled h g T.val j := by
  have hT := T.isLt
  refine Eq.trans ?_ (pooled_of h g T.val j q q _ hq hq rfl)
  congr 1
  rw [zPad, dif_pos (by omega)]
  congr 2
  exact Fin.ext (by dsimp only; omega)

end Cert.PoolWindow
end
-- ==== Proof.PoolFwdBlock.lean ====
module

public import proofs.«01_k».proof.Proof.PoolSpec
public import proofs.«01_k».proof.Proof.Gen.PoolFwdIdeal.Value
public import Idealize.ShloMosaic.Lib.Pipeline.ValueKit
public import Idealize.ShloMosaic.Lib.Pipeline.ReadBack
public import Idealize.ShloMosaic.Lib.WritesUnit

/-! The pooling mixer's call: a block of 512 rows, with the sixteen rows before it. -/

@[expose] public section

noncomputable section

namespace Cert.PoolFwdProof

open Idealize.ShloMosaic Idealize.SL.Sem Cert.PoolSpec Cert.PoolFwdIdeal Cert.PoolFwdIdeal.Gen

variable (m : (ℓ : Loc nD τ sig) → Buf (Elt Ideal) ℓ) (c : Dev nD) (t : Fin cfg0.N)

/-- The three arguments on device `c`. -/
abbrev argH : Arr 16384 2048 := m ((c.tc : Thread nD τ).loc main_arg0)
abbrev argW : Arr3 4 128 128 := m ((c.tc : Thread nD τ).loc main_arg1)
abbrev argS : (⟨1, ![512]⟩ : Shape).Idx → EReal := m ((c.tc : Thread nD τ).loc main_arg2)

theorem lt32 : t.val < 32 := t.isLt

theorem coord0 : ((grid0.coords t) 0).val = t.val := by
  revert t; decide +kernel

theorem idx0 : ∀ t : Fin cfg0.N, win0_0.index t = ![t.val, 3] := by decide +kernel
theorem idx1 : ∀ t : Fin cfg0.N, win0_1.index t = ![t.val - 1, 3] := by decide +kernel
theorem idx2 : ∀ t : Fin cfg0.N, win0_2.index t = ![0, 0, 0] := by decide +kernel
theorem idx3 : ∀ t : Fin cfg0.N, win0_3.index t = ![0, 0] := by decide +kernel
theorem idx4 : ∀ t : Fin cfg0.N, win0_4.index t = ![t.val, 0] := by decide +kernel

theorem weight : (V m c main_v0 : Arr3 4 128 128) = argW m c := by
  refine Eq.trans (b := truncf (F := Ideal) .bf16 (m ((c.tc : Thread nD τ).loc main_arg1)) bitsLt_bf16_f32) ?_ rfl
  simp only [V, hostOps0]
  after_results

theorem scale : (V m c main_v1 : Arr 1 512) = fun y => argS m c (ix1 (y 1)) := by
  refine Eq.trans (b := (shapeCast S1x512 (m ((c.tc : Thread nD τ).loc main_arg2)) shapeCasts_S512_S1x512 : Vec Ideal S1x512 .f32)) ?_ ?_
  · simp only [V, hostOps0]
    after_results
    rfl
  · funext y
    obtain ⟨i, j, rfl⟩ : ∃ (i : Fin 1) (j : Fin 512), y = ix2 i j := ⟨y 0, y 1, eq_ix2 y⟩
    pointwise

theorem blk0 (r j : Fin 512) : iblk m c 0 t (ix2 r j) =
    argH m c (ix2 ⟨t.val * 512 + r.val, by have := lt32 t; omega⟩ ⟨1536 + j.val, by omega⟩) := by
  refine Eq.trans (b := (V m c main_arg0 : Arr 16384 2048) (ix2 ⟨t.val * 512 + r.val, by have := lt32 t; omega⟩ ⟨1536 + j.val, by omega⟩)) ?_
    (congrFun (V_main_arg0 m c) _)
  blk_ext [iblk, idx0 t]

theorem blk1 (r j : Fin 512) : iblk m c 1 t (ix2 r j) =
    argH m c (ix2 ⟨(t.val - 1) * 512 + r.val, by have := lt32 t; omega⟩ ⟨1536 + j.val, by omega⟩) := by
  refine Eq.trans (b := (V m c main_arg0 : Arr 16384 2048) (ix2 ⟨(t.val - 1) * 512 + r.val, by have := lt32 t; omega⟩ ⟨1536 + j.val, by omega⟩)) ?_
    (congrFun (V_main_arg0 m c) _)
  blk_ext [iblk, idx1 t]

theorem blk2 (g : Fin 4) (k d : Fin 128) : iblk m c 2 t (ix3 g k d) = argW m c (ix3 g k d) := by
  refine Eq.trans (b := (V m c main_v0 : Arr3 4 128 128) (ix3 g k d)) ?_ (congrFun (weight m c) _)
  blk_ext [iblk, idx2 t]

theorem blk3 (i : Fin 1) (j : Fin 512) : iblk m c 3 t (ix2 i j) = argS m c (ix1 j) := by
  refine Eq.trans (b := (V m c main_v1 : Arr 1 512) (ix2 i j)) ?_ (congrFun (scale m c) _)
  blk_ext [iblk, idx3 t]

/-- `select` of a comparison with the first grid point, as an `if`. -/
theorem select_first {α : Type} (n : ℕ) (hn : n < 32) (a b : α) :
    Scalar.select (Scalar.cmpi CmpIPredicate.eq (BitVec.ofNat 32 n) 0#32) a b = if n = 0 then a else b := by
  interval_cases n <;> rfl

abbrev zcur := View.ld (iblk m c 0 t) r0_0
abbrev halo := View.ld (iblk m c 1 t) r0_1

theorem zcur_apply (r j : Fin 512) : zcur m c t (ix2 r j) = zPad (argH m c) j (t.val * 512 + r.val + 16) := by
  have := lt32 t
  pointwise [zcur]
  rw [blk0, zPad, dif_pos (by omega)]
  congr 3

theorem halo_apply (r : Fin 16) (j : Fin 512) : halo m c t (ix2 r j) =
    argH m c (ix2 ⟨(t.val - 1) * 512 + (496 + r.val), by have := lt32 t; omega⟩ ⟨1536 + j.val, by omega⟩) := by
  pointwise [halo]
  rw [blk1]

/-- The extended block: its row `s` is row `512 t + s` of the padded input. -/
theorem ext (j : Fin 512) (s : ℕ) (hs : s < 528) :
    (if h : s < 16 then Scalar.select (Scalar.cmpi CmpIPredicate.eq (BitVec.ofNat 32 t.val) 0#32) (0 : EReal) (halo m c t (ix2 ⟨s, h⟩ j))
      else zcur m c t (ix2 ⟨s - 16, by omega⟩ j)) = zPad (argH m c) j (t.val * 512 + s) := by
  have h32 := lt32 t
  by_cases hlt : s < 16
  · rw [dif_pos hlt]
    refine (select_first t.val h32 _ _).trans ?_
    by_cases h0 : t.val = 0
    · rw [if_pos h0, zPad, dif_neg (by omega)]
    · rw [if_neg h0, halo_apply, zPad, dif_pos (by omega)]
      congr 3; simp only [Fin.mk.injEq]; omega
  · rw [dif_neg hlt, zcur_apply]
    congr 1; simp only []; omega

theorem sum2 (j : Fin 512) (s : ℕ) (hs : s < 528) (h1 : 1 ≤ s) :
    k0_pay3 (grid0.coords t) (zcur m c t) (halo m c t) (ix2 ⟨s, hs⟩ j) = back (zPad (argH m c) j) 2 (t.val * 512 + s) := by
  unfold k0_pay3
  pointwise [coord0]
  rw [ext m c t j s hs, ext m c t j _ (by omega), back_double _ 1 2 _ rfl, back_one, back_one]
  congr 2; omega

theorem sum4 (j : Fin 512) (s : ℕ) (hs : s < 528) (h1 : 3 ≤ s) :
    k0_pay4 (grid0.coords t) (zcur m c t) (halo m c t) (ix2 ⟨s, hs⟩ j) = back (zPad (argH m c) j) 4 (t.val * 512 + s) := by
  unfold k0_pay4
  pointwise
  rw [sum2 m c t j s hs (by omega), sum2 m c t j _ _ (by omega), back_double _ 2 4 _ rfl]
  congr 2; omega

theorem sum8 (j : Fin 512) (s : ℕ) (hs : s < 528) (h1 : 7 ≤ s) :
    k0_pay5 (grid0.coords t) (zcur m c t) (halo m c t) (ix2 ⟨s, hs⟩ j) = back (zPad (argH m c) j) 8 (t.val * 512 + s) := by
  unfold k0_pay5
  pointwise
  rw [sum4 m c t j s hs (by omega), sum4 m c t j _ _ (by omega), back_double _ 4 8 _ rfl]
  congr 2; omega

theorem slice8 (r j : Fin 512) :
    k0_pay6 (grid0.coords t) (zcur m c t) (halo m c t) (ix2 r j) = back (zPad (argH m c) j) 8 (t.val * 512 + r.val + 16) := by
  unfold k0_pay6
  pointwise
  rw [sum8 m c t j _ _ (by omega)]
  congr 1; omega

theorem slice16 (r j : Fin 512) :
    k0_pay7 (grid0.coords t) (zcur m c t) (halo m c t) (ix2 r j) = back (zPad (argH m c) j) 16 (t.val * 512 + r.val + 16) := by
  unfold k0_pay7
  pointwise
  rw [sum8 m c t j _ _ (by omega), sum8 m c t j _ _ (by omega), back_double _ 8 16 _ rfl]
  congr 2 <;> omega

/-- The row's number, as the body counts it. -/
theorem row_number (r : Fin 512) (i : Fin 1) : k0_pay8 (grid0.coords t) (ix2 r i) = BitVec.ofNat 32 (t.val * 512 + r.val) := by
  unfold k0_pay8
  pointwise [coord0]
  show BitVec.ofNat 32 t.val * BitVec.ofNat 32 512 + BitVec.ofNat 32 r.val = _
  rw [← BitVec.ofNat_mul, ← BitVec.ofNat_add]

theorem pool0 (r : Fin 512) (j : Fin 128) :
    k0_pay9 (grid0.coords t) (zcur m c t) (halo m c t) (ix2 r j) = pooled (argH m c) 0 (t.val * 512 + r.val) j := by
  unfold k0_pay9
  pointwise [row_number]
  rw [sum2 m c t _ _ _ (by omega), zcur_apply]
  exact pooled_of _ 0 _ j _ _ _ (by show j.val = 128 * 0 + j.val; omega) (by show j.val = 128 * 0 + j.val; omega) (by omega)

theorem pool1 (r : Fin 512) (j : Fin 128) :
    k0_pay10 (grid0.coords t) (zcur m c t) (halo m c t) (ix2 r j) = pooled (argH m c) 1 (t.val * 512 + r.val) j := by
  unfold k0_pay10
  pointwise [row_number]
  rw [sum4 m c t _ _ _ (by omega), zcur_apply]
  exact pooled_of _ 1 _ j _ _ _ (by show 128 + j.val = 128 * 1 + j.val; omega) (by show 128 + j.val = 128 * 1 + j.val; omega) (by omega)

theorem pool2 (r : Fin 512) (j : Fin 128) :
    k0_pay12 (zcur m c t) (k0_pay6 (grid0.coords t) (zcur m c t) (halo m c t)) (k0_pay8 (grid0.coords t)) k0_pay11 (ix2 r j)
      = pooled (argH m c) 2 (t.val * 512 + r.val) j := by
  unfold k0_pay12 k0_pay11
  pointwise [row_number, slice8]
  rw [zcur_apply]
  exact pooled_of _ 2 _ j _ _ _ (by show 256 + j.val = 128 * 2 + j.val; omega) (by show 256 + j.val = 128 * 2 + j.val; omega) (by omega)

theorem pool3 (r : Fin 512) (j : Fin 128) :
    k0_pay13 (zcur m c t) (k0_pay7 (grid0.coords t) (zcur m c t) (halo m c t)) (k0_pay8 (grid0.coords t)) (ix2 r j)
      = pooled (argH m c) 3 (t.val * 512 + r.val) j := by
  unfold k0_pay13
  pointwise [row_number, slice16]
  rw [zcur_apply]
  exact pooled_of _ 3 _ j _ _ _ (by show 384 + j.val = 128 * 3 + j.val; omega) (by show 384 + j.val = 128 * 3 + j.val; omega) (by omega)

/-- One group's columns of the block: the group's product, scaled. -/
theorem group0 (x : Vec Ideal S512x128 .f32) (r : Fin 512) (d : Fin 128) :
    k0_pay14 x (View.ld (iblk m c 2 t) r0_2) (View.ld (iblk m c 3 t) r0_3) (ix2 r d)
      = (∑ k : Fin 128, x (ix2 r k) * argW m c (ix3 0 k d)) * argS m c (ix1 ⟨0 + d.val, by omega⟩) := by
  unfold k0_pay14
  pointwise [blk2, blk3]

theorem group1 (x : Vec Ideal S512x128 .f32) (r : Fin 512) (d : Fin 128) :
    k0_pay15 x (View.ld (iblk m c 2 t) r0_5) (View.ld (iblk m c 3 t) r0_6) (ix2 r d)
      = (∑ k : Fin 128, x (ix2 r k) * argW m c (ix3 1 k d)) * argS m c (ix1 ⟨128 + d.val, by omega⟩) := by
  unfold k0_pay15
  pointwise [blk2, blk3]

theorem group2 (x : Vec Ideal S512x128 .f32) (r : Fin 512) (d : Fin 128) :
    k0_pay1 x (View.ld (iblk m c 2 t) r0_8) (View.ld (iblk m c 3 t) r0_9) (ix2 r d)
      = (∑ k : Fin 128, x (ix2 r k) * argW m c (ix3 2 k d)) * argS m c (ix1 ⟨256 + d.val, by omega⟩) := by
  unfold k0_pay1
  pointwise [blk2, blk3]

theorem group3 (x : Vec Ideal S512x128 .f32) (r : Fin 512) (d : Fin 128) :
    k0_pay2 x (View.ld (iblk m c 2 t) r0_11) (View.ld (iblk m c 3 t) r0_12) (ix2 r d)
      = (∑ k : Fin 128, x (ix2 r k) * argW m c (ix3 3 k d)) * argS m c (ix1 ⟨384 + d.val, by omega⟩) := by
  unfold k0_pay2
  pointwise [blk2, blk3]

theorem block (r q : Fin 512) :
    out0_4 (grid0.coords t) (iblk m c 0 t) (iblk m c 1 t) (iblk m c 2 t) (iblk m c 3 t) (ix2 r q)
      = outAt (argH m c) (argW m c) (argS m c) ⟨t.val * 512 + r.val, by have := lt32 t; omega⟩ q := by
  unfold_out out0_4
  canon_tiles x h
  · obtain ⟨r', d, rfl⟩ : ∃ (r' : Fin 512) (d : Fin 128), x = ix2 r' d := ⟨x 0, x 1, eq_ix2 x⟩
    obtain rfl : r = r' := Fin.ext h0
    refine (group3 m c t _ r d).trans ?_
    rw [outAt_group _ _ _ _ q 3 d (show q.val = 128 * 3 + d.val from h1)]
    refine congr (congrArg _ (Finset.sum_congr rfl fun k _ => congrArg (· * _) (pool3 m c t r k))) (congrArg (fun v => argS m c (ix1 v)) (Fin.ext ?_))
    exact h1.symm
  · obtain ⟨r', d, rfl⟩ : ∃ (r' : Fin 512) (d : Fin 128), x = ix2 r' d := ⟨x 0, x 1, eq_ix2 x⟩
    obtain rfl : r = r' := Fin.ext h0
    refine (group2 m c t _ r d).trans ?_
    rw [outAt_group _ _ _ _ q 2 d (show q.val = 128 * 2 + d.val from h1)]
    refine congr (congrArg _ (Finset.sum_congr rfl fun k _ => congrArg (· * _) (pool2 m c t r k))) (congrArg (fun v => argS m c (ix1 v)) (Fin.ext ?_))
    exact h1.symm
  · obtain ⟨r', d, rfl⟩ : ∃ (r' : Fin 512) (d : Fin 128), x = ix2 r' d := ⟨x 0, x 1, eq_ix2 x⟩
    obtain rfl : r = r' := Fin.ext h0
    refine (group1 m c t _ r d).trans ?_
    rw [outAt_group _ _ _ _ q 1 d (show q.val = 128 * 1 + d.val from h1)]
    refine congr (congrArg _ (Finset.sum_congr rfl fun k _ => congrArg (· * _) (pool1 m c t r k))) (congrArg (fun v => argS m c (ix1 v)) (Fin.ext ?_))
    exact h1.symm
  · obtain ⟨r', d, rfl⟩ : ∃ (r' : Fin 512) (d : Fin 128), x = ix2 r' d := ⟨x 0, x 1, eq_ix2 x⟩
    obtain rfl : r = r' := Fin.ext h0
    refine (group0 m c t _ r d).trans ?_
    rw [outAt_group _ _ _ _ q 0 d (by show q.val = 128 * 0 + d.val; rw [Nat.mul_zero, Nat.zero_add]; exact h1)]
    refine congr (congrArg _ (Finset.sum_congr rfl fun k _ => congrArg (· * _) (pool0 m c t r k))) (congrArg (fun v => argS m c (ix1 v)) (Fin.ext ?_))
    show 0 + d.val = q.val
    exact (Nat.zero_add _).trans h1.symm

theorem block' (r q : Fin 512) :
    out0_4 (grid0.coords t) (iblk m c 0 t) (iblk m c 1 t) (iblk m c 2 t) (iblk m c 3 t) (ix2 r q)
      = out (argH m c) (argW m c) (argS m c) (ix2 ⟨t.val * 512 + r.val, by have := lt32 t; omega⟩ q) := block m c t r q

/-- The call's result, whole. -/
theorem out4 : (dats m 0 c).arrAt 4 cfg0.N = out (argH m c) (argW m c) (argS m c) := by
  refine (dats m 0 c).arrAt_eq_of_covers 4 _ (by decide +kernel) fun t hf y => ?_
  blk_simp
  rw [after0_4]
  obtain ⟨r, q, rfl⟩ : ∃ (r q : Fin 512), y = ix2 r q := ⟨y 0, y 1, eq_ix2 y⟩
  refine (block' m c t r q).trans (congrArg (out (argH m c) (argW m c) (argS m c)) (?_ : ix2 _ _ = _))
  blk_ext [idx4 t]

end Cert.PoolFwdProof
end
-- ==== Proof.PoolFwdClaim.lean ====
module

public import proofs.«01_k».proof.Defs
public import proofs.«01_k».proof.Proof.PoolWindow
public import proofs.«01_k».proof.Proof.PoolFwdBlock
public import proofs.«01_k».proof.Proof.Gen.PoolFwdRefIdeal.Read

/-! The pooling mixer's forward call: the reference's value, and the claim. -/

@[expose] public section

noncomputable section

namespace Cert.PoolFwdProof

open Idealize.ShloMosaic Idealize.SL.Sem Cert.PoolSpec Cert.PoolWindow

section reference
open Cert.PoolFwdRefIdeal Cert.PoolFwdRefIdeal.Gen Cert.PoolFwdRefIdeal.Read

variable (h : Arr 16384 2048) (W : Arr3 4 128 128) (s : (⟨1, ![512]⟩ : Shape).Idx → EReal)

theorem ref_frames0 (T : Fin 16384) (j : Fin 128) :
    val_main_v3 (F := Ideal) h (ix2 T j) = h (ix2 T ⟨1536 + (⟨128 * 0 + j.val, by omega⟩ : Fin 512).val, by dsimp only; omega⟩) := by
  unfold val_main_v3 val_main_v0
  pointwise

theorem ref_total0 (T : Fin 16384) (j : Fin 128) :
    val_main_v5 (F := Ideal) h (ix2 T j) = back (zPad h ⟨128 * 0 + j.val, by omega⟩) 2 (T.val + 16) := by
  unfold val_main_v5
  refine (window_rows _ _ ?_ _ _ T j).trans (window_back h _ 2 1 rfl (by omega) T j _ fun S => ref_frames0 h S j)
  unfold val_main_v4 val_main_cst
  pointwise

theorem ref_pooled0 (T : Fin 16384) (j : Fin 128) :
    val_main_v13 (F := Ideal) h (ix2 T j) = pooled h 0 T.val j := by
  unfold val_main_v13 val_main_v12 val_main_v11 val_main_v10 val_main_v9 val_main_v8 val_main_v7 val_main_v6 val_main_c val_main_c_0 val_main_v2 val_main_v1
  pointwise [ref_total0, ref_frames0]
  exact pooled_frame h 0 T j _ _ (by show _ = 128 * 0 + j.val; dsimp only; omega) (by show _ = 1536 + (128 * 0 + j.val); dsimp only; omega)

theorem ref_mixed0 (T : Fin 16384) (d : Fin 128) :
    val_main_v16 (F := Ideal) h W (ix2 T d) = mixed h W 0 T.val d := by
  unfold val_main_v16 val_main_v15 val_main_v14
  pointwise [ref_pooled0]
  rfl

theorem ref_frames1 (T : Fin 16384) (j : Fin 128) :
    val_main_v17 (F := Ideal) h (ix2 T j) = h (ix2 T ⟨1536 + (⟨128 * 1 + j.val, by omega⟩ : Fin 512).val, by dsimp only; omega⟩) := by
  unfold val_main_v17 val_main_v0
  pointwise

theorem ref_total1 (T : Fin 16384) (j : Fin 128) :
    val_main_v19 (F := Ideal) h (ix2 T j) = back (zPad h ⟨128 * 1 + j.val, by omega⟩) 4 (T.val + 16) := by
  unfold val_main_v19
  refine (window_rows _ _ ?_ _ _ T j).trans (window_back h _ 4 3 rfl (by omega) T j _ fun S => ref_frames1 h S j)
  unfold val_main_v18 val_main_cst_1
  pointwise

theorem ref_pooled1 (T : Fin 16384) (j : Fin 128) :
    val_main_v27 (F := Ideal) h (ix2 T j) = pooled h 1 T.val j := by
  unfold val_main_v27 val_main_v26 val_main_v25 val_main_v24 val_main_v23 val_main_v22 val_main_v21 val_main_v20 val_main_c_2 val_main_c_3 val_main_v2 val_main_v1
  pointwise [ref_total1, ref_frames1]
  exact pooled_frame h 1 T j _ _ rfl rfl

theorem ref_mixed1 (T : Fin 16384) (d : Fin 128) :
    val_main_v30 (F := Ideal) h W (ix2 T d) = mixed h W 1 T.val d := by
  unfold val_main_v30 val_main_v29 val_main_v28
  pointwise [ref_pooled1]
  rfl

theorem ref_frames2 (T : Fin 16384) (j : Fin 128) :
    val_main_v31 (F := Ideal) h (ix2 T j) = h (ix2 T ⟨1536 + (⟨128 * 2 + j.val, by omega⟩ : Fin 512).val, by dsimp only; omega⟩) := by
  unfold val_main_v31 val_main_v0
  pointwise

theorem ref_total2 (T : Fin 16384) (j : Fin 128) :
    val_main_v33 (F := Ideal) h (ix2 T j) = back (zPad h ⟨128 * 2 + j.val, by omega⟩) 8 (T.val + 16) := by
  unfold val_main_v33
  refine (window_rows _ _ ?_ _ _ T j).trans (window_back h _ 8 7 rfl (by omega) T j _ fun S => ref_frames2 h S j)
  unfold val_main_v32 val_main_cst_4
  pointwise

theorem ref_pooled2 (T : Fin 16384) (j : Fin 128) :
    val_main_v41 (F := Ideal) h (ix2 T j) = pooled h 2 T.val j := by
  unfold val_main_v41 val_main_v40 val_main_v39 val_main_v38 val_main_v37 val_main_v36 val_main_v35 val_main_v34 val_main_c_5 val_main_c_6 val_main_v2 val_main_v1
  pointwise [ref_total2, ref_frames2]
  exact pooled_frame h 2 T j _ _ rfl rfl

theorem ref_mixed2 (T : Fin 16384) (d : Fin 128) :
    val_main_v44 (F := Ideal) h W (ix2 T d) = mixed h W 2 T.val d := by
  unfold val_main_v44 val_main_v43 val_main_v42
  pointwise [ref_pooled2]
  rfl

theorem ref_frames3 (T : Fin 16384) (j : Fin 128) :
    val_main_v45 (F := Ideal) h (ix2 T j) = h (ix2 T ⟨1536 + (⟨128 * 3 + j.val, by omega⟩ : Fin 512).val, by dsimp only; omega⟩) := by
  unfold val_main_v45 val_main_v0
  pointwise

theorem ref_total3 (T : Fin 16384) (j : Fin 128) :
    val_main_v47 (F := Ideal) h (ix2 T j) = back (zPad h ⟨128 * 3 + j.val, by omega⟩) 16 (T.val + 16) := by
  unfold val_main_v47
  refine (window_rows _ _ ?_ _ _ T j).trans (window_back h _ 16 15 rfl (by omega) T j _ fun S => ref_frames3 h S j)
  unfold val_main_v46 val_main_cst_7
  pointwise

theorem ref_pooled3 (T : Fin 16384) (j : Fin 128) :
    val_main_v55 (F := Ideal) h (ix2 T j) = pooled h 3 T.val j := by
  unfold val_main_v55 val_main_v54 val_main_v53 val_main_v52 val_main_v51 val_main_v50 val_main_v49 val_main_v48 val_main_c_8 val_main_c_9 val_main_v2 val_main_v1
  pointwise [ref_total3, ref_frames3]
  exact pooled_frame h 3 T j _ _ rfl rfl

theorem ref_mixed3 (T : Fin 16384) (d : Fin 128) :
    val_main_v58 (F := Ideal) h W (ix2 T d) = mixed h W 3 T.val d := by
  unfold val_main_v58 val_main_v57 val_main_v56
  pointwise [ref_pooled3]
  rfl

theorem ref_value : val_main_v63 (F := Ideal) h W s = out h W s := by
  funext y
  obtain ⟨T, q, rfl⟩ : ∃ (T : Fin 16384) (q : Fin 512), y = ix2 T q := ⟨y 0, y 1, eq_ix2 y⟩
  show _ = outAt h W s T q
  unfold val_main_v63 val_main_v62 val_main_v61 val_main_v60 val_main_v59
  pointwise [ref_mixed0, ref_mixed1, ref_mixed2, ref_mixed3]
  have hq := q.isLt
  by_cases h1 : q.val < 128
  · rw [dif_pos h1]
    exact (outAt_group h W s T q 0 _ (by show q.val = 128 * 0 + q.val; omega)).symm
  rw [dif_neg h1]
  by_cases h2 : q.val - 128 < 128
  · rw [dif_pos h2]
    exact (outAt_group h W s T q 1 _ (by show q.val = 128 * 1 + (q.val - 128); omega)).symm
  rw [dif_neg h2]
  by_cases h3 : q.val - 128 - 128 < 128
  · rw [dif_pos h3]
    exact (outAt_group h W s T q 2 _ (by show q.val = 128 * 2 + (q.val - 128 - 128); omega)).symm
  rw [dif_neg h3]
  exact (outAt_group h W s T q 3 _ (by show q.val = 128 * 3 + (q.val - 128 - 128 - 128); omega)).symm

end reference

/-- The reference runs to its end and leaves its arguments and every counter as they were. -/
theorem ref_frame : Cert.quiescent_PoolFwdRefIdeal (hPoolFwdRefIdeal := Cert.PoolFwdRefIdeal.Gen.facts) := fun m ρ _ =>
  (θ_run _ _ _).mono (fun r h => ⟨fun c => (h c).2, sem_eq_zero_of_no_sems (by decide) r.2⟩)
    (Cert.PoolFwdRefIdeal.Value.run m ρ)

/-- The call and its reference end with the same array. -/
theorem algebraic :
    Cert.algebraic_PoolFwdIdeal_PoolFwdRefIdeal (hPoolFwdIdeal := Cert.PoolFwdIdeal.Gen.facts) (hPoolFwdRefIdeal := Cert.PoolFwdRefIdeal.Gen.facts) := by
  intro m g m' g' _ hargs
  refine ⟨fun c => out (argH m c) (argW m c) (argS m c), ?_, ?_⟩
  · refine (θ_run _ _ _).mono (fun r hr c => ?_) (Cert.PoolFwdIdeal.Value.run_blocks m g)
    exact ⟨(hr c).1.trans (out4 m c), (hr c).2⟩
  · refine (θ_run _ _ _).mono (fun r hr c => ?_) (Cert.PoolFwdRefIdeal.Value.run m' g')
    obtain ⟨e0, e1, e2⟩ := hargs c
    refine ⟨(hr c).1.trans ((Cert.PoolFwdRefIdeal.Read.val_main_v63_eq _ _).trans ?_), (hr c).2⟩
    rw [e0, e1, e2]
    exact ref_value _ _ _

end Cert.PoolFwdProof
end
-- ==== Proof.PoolBwdSpec.lean ====
module

public import proofs.«01_k».proof.Proof.PoolSpec

/-! The pooling mixer's gradients as functions of its arguments. -/

@[expose] public section

noncomputable section

namespace Cert.PoolBwdSpec

open Idealize.ShloMosaic Cert.PoolSpec

abbrev Row (a : ℕ) : Type := (⟨1, ![a]⟩ : Shape).Idx → EReal

variable (D : Arr 16384 1024) (h : Arr 16384 2048) (W : Arr3 4 128 128) (s : Row 512)

/-- The gradient that comes in, at row `T` and column `q` of the mixer's half. -/
def gy (T : ℕ) (q : Fin 512) : EReal := if hT : T < 16384 then D (ix2 ⟨T, hT⟩ ⟨512 + q.val, by omega⟩) else 0

theorem gy_of (T : ℕ) (hT : T < 16384) (q : Fin 512) (f : Fin 1024) (hf : f.val = 512 + q.val) : D (ix2 ⟨T, hT⟩ f) = gy D T q := by
  rw [gy, dif_pos hT]
  exact congrArg (fun v => D (ix2 ⟨T, hT⟩ v)) (Fin.ext hf)

/-- The gradient at the group's product, before the scale. -/
def dmix (T : ℕ) (q : Fin 512) : EReal := gy D T q * s (ix1 q)

/-- The gradient at a group's pooled frame. -/
def dpool (g : Fin 4) (T : ℕ) (k : Fin 128) : EReal := ∑ d : Fin 128, dmix D s T ⟨128 * g.val + d.val, by omega⟩ * W (ix3 g k d)

/-- The gradient at a group's trailing sum: nothing past the last row. -/
def spread (g : Fin 4) (k : Fin 128) (T : ℕ) : EReal :=
  if T < 16384 then Ideal.div (dpool D W s g T k) (count (BitVec.ofNat 32 (width g)) T) else 0

/-- The sum of the `w` entries of a sequence that start at `S`. -/
def lead (f : ℕ → EReal) (w S : ℕ) : EReal := ∑ n ∈ Finset.range w, f (S + n)

theorem lead_double (f : ℕ → EReal) (w v S : ℕ) (hv : v = w + w) : lead f v S = lead f w S + lead f w (S + w) := by
  subst hv
  rw [lead, Finset.sum_range_add]
  refine congrArg (lead f w S + ·) (Finset.sum_congr rfl fun k _ => ?_)
  rw [Nat.add_assoc]

theorem lead_one (f : ℕ → EReal) (S : ℕ) : lead f 1 S = f S := by simp [lead]

/-- The gradient at the mixer's input. -/
def dzIn (g : Fin 4) (T : ℕ) (k : Fin 128) : EReal := lead (spread D W s g k) (width g) T - dpool D W s g T k

def dzAt (T : Fin 16384) (q : Fin 512) : EReal := dzIn D W s ⟨q.val / 128, by omega⟩ T.val ⟨q.val % 128, by omega⟩

theorem dzAt_group (T : Fin 16384) (q : Fin 512) (g : Fin 4) (k : Fin 128) (hq : q.val = 128 * g.val + k.val) :
    dzAt D W s T q = dzIn D W s g T.val k := by
  rw [dzAt]
  congr 1 <;> (apply Fin.ext; show _ = _; simp only []; omega)

def dz : Arr 16384 512 := fun y => dzAt D W s (y 0) (y 1)

/-- What row `T` adds to the gradient of a group's weight. -/
def wTerm (g : Fin 4) (k d : Fin 128) (T : ℕ) : EReal := pooled h g T k * dmix D s T ⟨128 * g.val + d.val, by omega⟩

theorem wTerm_of (g : Fin 4) (k d : Fin 128) (T : ℕ) (q : Fin 512) (hq : q.val = 128 * g.val + d.val) :
    pooled h g T k * dmix D s T q = wTerm D h s g k d T :=
  congrArg (fun v => pooled h g T k * dmix D s T v) (Fin.ext hq)

/-- The gradient of the weights. -/
def dw : Arr3 4 128 128 := fun y => ∑ T ∈ Finset.range 16384, wTerm D h s (y 0) (y 1) (y 2) T

/-- What row `T` adds to the gradient of the scale. -/
def sTerm (q : Fin 512) (T : ℕ) : EReal := gy D T q * mixed h W ⟨q.val / 128, by omega⟩ T ⟨q.val % 128, by omega⟩

theorem sTerm_group (T : ℕ) (q : Fin 512) (g : Fin 4) (d : Fin 128) (hq : q.val = 128 * g.val + d.val) :
    sTerm D h W q T = gy D T q * mixed h W g T d := by
  rw [sTerm]
  congr 2 <;> (apply Fin.ext; show _ = _; simp only []; omega)

/-- The gradient of the scale. -/
def ds : Arr 1 512 := fun y => ∑ T ∈ Finset.range 16384, sTerm D h W (y 1) T

/-- From the sixteenth row on the window is full. -/
theorem count_full (g : Fin 4) (T : ℕ) (h0 : 16 ≤ T) (h1 : T < 16384) :
    PoolSpec.count (BitVec.ofNat 32 (width g)) T = ((width g : ℝ) : EReal) := by
  have hw : (BitVec.ofNat 32 (width g)).toInt = width g := by fin_cases g <;> decide
  have hw' : width g ≤ 16 := by fin_cases g <;> decide
  have e : IntOp.minsi (IntOp.addi (BitVec.ofNat 32 T) 1#32) (BitVec.ofNat 32 (width g)) = BitVec.ofNat 32 (width g) := by
    have hx : IntOp.addi (BitVec.ofNat 32 T) 1#32 = BitVec.ofNat 32 (T + 1) := (BitVec.ofNat_add T 1).symm
    have hn : (BitVec.ofNat 32 (T + 1)).toNat = T + 1 := by rw [BitVec.toNat_ofNat]; omega
    have hi : (BitVec.ofNat 32 (T + 1)).toInt = (T + 1 : ℕ) := by
      rw [BitVec.toInt_eq_toNat_of_lt (by rw [hn]; omega), hn]
    rw [hx, IntOp.minsi, if_neg]
    rw [BitVec.slt, hi, hw]
    simp
    omega
  rw [PoolSpec.count, e]
  show (((BitVec.ofNat 32 (width g)).toInt : ℝ) : EReal) = _
  rw [hw]
  norm_cast

end Cert.PoolBwdSpec
end
-- ==== Proof.PoolBwdRef.lean ====
module

public import proofs.«01_k».proof.Defs
public import proofs.«01_k».proof.Proof.PoolWindow
public import proofs.«01_k».proof.Proof.PoolBwdSpec
public import proofs.«01_k».proof.Proof.Gen.PoolBwdRefIdeal.Read
public import Idealize.ShloMosaic.Lib.KernelVsHost

/-! The pooling mixer's backward call: the reference's values. -/

@[expose] public section

noncomputable section

namespace Cert.PoolBwdRefProof

open Idealize.ShloMosaic Idealize.SL.Sem Cert.PoolSpec Cert.PoolBwdSpec Cert.PoolWindow

/-- A padded matrix: the matrix inside, the filling elsewhere. -/
theorem pad_rows {A N B M l0 l1 h0 h1 : ℕ} (x : (⟨2, ![A, N]⟩ : Shape).Idx → EReal) {u : Shape} (v : u.Idx → EReal)
    (h : (⟨2, ![A, N]⟩ : Shape).Pads ![l0, l1] ![h0, h1] ![0, 0] ⟨2, ![B, M]⟩) (hu : 0 < u.numel) (T : Fin B) (q : Fin M) :
    pad ⟨2, ![B, M]⟩ ![l0, l1] ![h0, h1] ![0, 0] x v h hu (ix2 T q)
      = if hc : (l0 ≤ T.val ∧ T.val - l0 < A) ∧ (l1 ≤ q.val ∧ q.val - l1 < N) then x (ix2 ⟨T.val - l0, hc.1.2⟩ ⟨q.val - l1, hc.2.2⟩)
        else v (Shape.Idx.first hu) := by
  by_cases hc : (l0 ≤ T.val ∧ T.val - l0 < A) ∧ (l1 ≤ q.val ∧ q.val - l1 < N)
  · rw [dif_pos hc]
    unfold pad
    rw [dif_pos (by
      intro a
      match a with
      | ⟨0, _⟩ => exact ⟨hc.1.1, Nat.mod_one _, by show (T.val - l0) / 1 < A; rw [Nat.div_one]; exact hc.1.2⟩
      | ⟨1, _⟩ => exact ⟨hc.2.1, Nat.mod_one _, by show (q.val - l1) / 1 < N; rw [Nat.div_one]; exact hc.2.2⟩)]
    refine congrArg x (funext fun a => Fin.ext ?_)
    match a with
    | ⟨0, _⟩ => exact Nat.div_one _
    | ⟨1, _⟩ => exact Nat.div_one _
  · rw [dif_neg hc]
    unfold pad
    rw [dif_neg fun hin => hc ⟨⟨(hin 0).1, by have e : (T.val - l0) / 1 < A := (hin 0).2.2; rwa [Nat.div_one] at e⟩,
      ⟨(hin 1).1, by have e : (q.val - l1) / 1 < N := (hin 1).2.2; rwa [Nat.div_one] at e⟩⟩]

/-- One page among zeros. -/
theorem pad_page {l h : ℕ} (x : (⟨3, ![1, 128, 128]⟩ : Shape).Idx → EReal) {u : Shape} (v : u.Idx → EReal)
    (hp : (⟨3, ![1, 128, 128]⟩ : Shape).Pads ![l, 0, 0] ![h, 0, 0] ![0, 0, 0] ⟨3, ![4, 128, 128]⟩) (hu : 0 < u.numel) (g : Fin 4) (k d : Fin 128) :
    pad ⟨3, ![4, 128, 128]⟩ ![l, 0, 0] ![h, 0, 0] ![0, 0, 0] x v hp hu (ix3 g k d)
      = if g.val = l then x (ix3 (0 : Fin 1) k d) else v (Shape.Idx.first hu) := by
  by_cases hc : g.val = l
  · rw [if_pos hc]
    unfold pad
    rw [dif_pos (by
      intro a
      match a with
      | ⟨0, _⟩ => exact ⟨hc.ge, Nat.mod_one _, by show (g.val - l) / 1 < 1; rw [Nat.div_one]; omega⟩
      | ⟨1, _⟩ => exact ⟨Nat.zero_le _, Nat.mod_one _, by show (k.val - 0) / 1 < 128; rw [Nat.div_one]; omega⟩
      | ⟨2, _⟩ => exact ⟨Nat.zero_le _, Nat.mod_one _, by show (d.val - 0) / 1 < 128; rw [Nat.div_one]; omega⟩)]
    refine congrArg x (funext fun a => Fin.ext ?_)
    match a with
    | ⟨0, _⟩ => show (g.val - l) / 1 = 0; rw [Nat.div_one]; omega
    | ⟨1, _⟩ => exact Nat.div_one _
    | ⟨2, _⟩ => exact Nat.div_one _
  · rw [if_neg hc]
    unfold pad
    rw [dif_neg fun hin => hc (by
      have e : l ≤ g.val := (hin 0).1
      have e' : (g.val - l) / 1 < 1 := (hin 0).2.2
      rw [Nat.div_one] at e'
      omega)]

/-- Row `T` of the leading windowed sum of a matrix that ends in rows of zeros. -/
theorem window_lead {A w : ℕ} (f : ℕ → EReal) (x : (⟨2, ![A, 128]⟩ : Shape).Idx → EReal) (k : Fin 128) (hx : ∀ S : Fin A, x (ix2 S k) = f S.val)
    (T : Fin 16384) (hA : 16384 + w ≤ A + 1) :
    (∑ n ∈ Finset.range w, if hn : 0 ≤ T.val + n ∧ T.val + n - 0 < A then x (ix2 ⟨T.val + n - 0, hn.2⟩ k) else 0) = lead f w T.val := by
  refine Finset.sum_congr rfl fun n hn => ?_
  have := Finset.mem_range.mp hn
  have hT := T.isLt
  rw [dif_pos ⟨Nat.zero_le _, by omega⟩, hx]
  rfl

theorem mixed_group (h : Arr 16384 2048) (W : Arr3 4 128 128) (T : ℕ) (q : Fin 512) (g : Fin 4) (d : Fin 128) (hq : q.val = 128 * g.val + d.val) :
    mixed h W g T d = mixed h W ⟨q.val / 128, by omega⟩ T ⟨q.val % 128, by omega⟩ := by
  congr 1 <;> (apply Fin.ext; show _ = _; simp only []; omega)

open Cert.PoolBwdRefIdeal Cert.PoolBwdRefIdeal.Gen Cert.PoolBwdRefIdeal.Read

variable (D : Arr 16384 1024) (h : Arr 16384 2048) (W : Arr3 4 128 128) (s : Row 512)

theorem ref_frames0 (T : Fin 16384) (j : Fin 128) :
    val_main_v3 (F := Ideal) h (ix2 T j) = h (ix2 T ⟨1536 + (⟨128 * 0 + j.val, by omega⟩ : Fin 512).val, by dsimp only; omega⟩) := by
  unfold val_main_v3 val_main_v0
  pointwise

theorem ref_total0 (T : Fin 16384) (j : Fin 128) :
    val_main_v5 (F := Ideal) h (ix2 T j) = back (zPad h ⟨128 * 0 + j.val, by omega⟩) 2 (T.val + 16) := by
  unfold val_main_v5
  refine (window_rows _ _ ?_ _ _ T j).trans (window_back h _ 2 1 rfl (by omega) T j _ fun S => ref_frames0 h S j)
  unfold val_main_v4 val_main_cst
  pointwise

theorem ref_pooled0 (T : Fin 16384) (j : Fin 128) :
    val_main_v13 (F := Ideal) h (ix2 T j) = pooled h 0 T.val j := by
  unfold val_main_v13 val_main_v12 val_main_v11 val_main_v10 val_main_v9 val_main_v8 val_main_v7 val_main_v6 val_main_c val_main_c_0 val_main_v2 val_main_v1
  pointwise [ref_total0, ref_frames0]
  exact pooled_frame h 0 T j _ _ (by show _ = 128 * 0 + j.val; dsimp only; omega) (by show _ = 1536 + (128 * 0 + j.val); dsimp only; omega)

theorem ref_mixed0 (T : Fin 16384) (d : Fin 128) :
    val_main_v16 (F := Ideal) h W (ix2 T d) = mixed h W 0 T.val d := by
  unfold val_main_v16 val_main_v15 val_main_v14
  pointwise [ref_pooled0]
  rfl

theorem ref_frames1 (T : Fin 16384) (j : Fin 128) :
    val_main_v17 (F := Ideal) h (ix2 T j) = h (ix2 T ⟨1536 + (⟨128 * 1 + j.val, by omega⟩ : Fin 512).val, by dsimp only; omega⟩) := by
  unfold val_main_v17 val_main_v0
  pointwise

theorem ref_total1 (T : Fin 16384) (j : Fin 128) :
    val_main_v19 (F := Ideal) h (ix2 T j) = back (zPad h ⟨128 * 1 + j.val, by omega⟩) 4 (T.val + 16) := by
  unfold val_main_v19
  refine (window_rows _ _ ?_ _ _ T j).trans (window_back h _ 4 3 rfl (by omega) T j _ fun S => ref_frames1 h S j)
  unfold val_main_v18 val_main_cst_1
  pointwise

theorem ref_pooled1 (T : Fin 16384) (j : Fin 128) :
    val_main_v27 (F := Ideal) h (ix2 T j) = pooled h 1 T.val j := by
  unfold val_main_v27 val_main_v26 val_main_v25 val_main_v24 val_main_v23 val_main_v22 val_main_v21 val_main_v20 val_main_c_2 val_main_c_3 val_main_v2 val_main_v1
  pointwise [ref_total1, ref_frames1]
  exact pooled_frame h 1 T j _ _ rfl rfl

theorem ref_mixed1 (T : Fin 16384) (d : Fin 128) :
    val_main_v30 (F := Ideal) h W (ix2 T d) = mixed h W 1 T.val d := by
  unfold val_main_v30 val_main_v29 val_main_v28
  pointwise [ref_pooled1]
  rfl

theorem ref_frames2 (T : Fin 16384) (j : Fin 128) :
    val_main_v31 (F := Ideal) h (ix2 T j) = h (ix2 T ⟨1536 + (⟨128 * 2 + j.val, by omega⟩ : Fin 512).val, by dsimp only; omega⟩) := by
  unfold val_main_v31 val_main_v0
  pointwise

theorem ref_total2 (T : Fin 16384) (j : Fin 128) :
    val_main_v33 (F := Ideal) h (ix2 T j) = back (zPad h ⟨128 * 2 + j.val, by omega⟩) 8 (T.val + 16) := by
  unfold val_main_v33
  refine (window_rows _ _ ?_ _ _ T j).trans (window_back h _ 8 7 rfl (by omega) T j _ fun S => ref_frames2 h S j)
  unfold val_main_v32 val_main_cst_4
  pointwise

theorem ref_pooled2 (T : Fin 16384) (j : Fin 128) :
    val_main_v41 (F := Ideal) h (ix2 T j) = pooled h 2 T.val j := by
  unfold val_main_v41 val_main_v40 val_main_v39 val_main_v38 val_main_v37 val_main_v36 val_main_v35 val_main_v34 val_main_c_5 val_main_c_6 val_main_v2 val_main_v1
  pointwise [ref_total2, ref_frames2]
  exact pooled_frame h 2 T j _ _ rfl rfl

theorem ref_mixed2 (T : Fin 16384) (d : Fin 128) :
    val_main_v44 (F := Ideal) h W (ix2 T d) = mixed h W 2 T.val d := by
  unfold val_main_v44 val_main_v43 val_main_v42
  pointwise [ref_pooled2]
  rfl

theorem ref_frames3 (T : Fin 16384) (j : Fin 128) :
    val_main_v45 (F := Ideal) h (ix2 T j) = h (ix2 T ⟨1536 + (⟨128 * 3 + j.val, by omega⟩ : Fin 512).val, by dsimp only; omega⟩) := by
  unfold val_main_v45 val_main_v0
  pointwise

theorem ref_total3 (T : Fin 16384) (j : Fin 128) :
    val_main_v47 (F := Ideal) h (ix2 T j) = back (zPad h ⟨128 * 3 + j.val, by omega⟩) 16 (T.val + 16) := by
  unfold val_main_v47
  refine (window_rows _ _ ?_ _ _ T j).trans (window_back h _ 16 15 rfl (by omega) T j _ fun S => ref_frames3 h S j)
  unfold val_main_v46 val_main_cst_7
  pointwise

theorem ref_pooled3 (T : Fin 16384) (j : Fin 128) :
    val_main_v55 (F := Ideal) h (ix2 T j) = pooled h 3 T.val j := by
  unfold val_main_v55 val_main_v54 val_main_v53 val_main_v52 val_main_v51 val_main_v50 val_main_v49 val_main_v48 val_main_c_8 val_main_c_9 val_main_v2 val_main_v1
  pointwise [ref_total3, ref_frames3]
  exact pooled_frame h 3 T j _ _ rfl rfl

theorem ref_mixed3 (T : Fin 16384) (d : Fin 128) :
    val_main_v58 (F := Ideal) h W (ix2 T d) = mixed h W 3 T.val d := by
  unfold val_main_v58 val_main_v57 val_main_v56
  pointwise [ref_pooled3]
  rfl

theorem ref_dmix (T : Fin 16384) (q : Fin 512) : val_main_v68 (F := Ideal) D s (ix2 T q) = dmix D s T.val q := by
  unfold val_main_v68 val_main_v67 val_main_v63 val_main_v60
  pointwise
  exact congrArg (· * s (ix1 q)) (gy_of D T.val T.isLt q _ rfl)

/-- A group's gradients over the counts, followed by rows of zeros. -/
theorem padded (g : Fin 4) (k : Fin 128) {B n : ℕ} (x : Arr 16384 128) (hx : ∀ T : Fin 16384, x (ix2 T k) = spread D W s g k T.val)
    {u : Shape} (v : u.Idx → EReal) {hu : 0 < u.numel} (hv : v (Shape.Idx.first hu) = 0)
    (hp : (⟨2, ![16384, 128]⟩ : Shape).Pads ![0, 0] ![n, 0] ![0, 0] ⟨2, ![B, 128]⟩) (T : Fin B) :
    pad ⟨2, ![B, 128]⟩ ![0, 0] ![n, 0] ![0, 0] x v hp hu (ix2 T k) = spread D W s g k T.val := by
  refine (pad_rows _ _ _ _ T k).trans ?_
  by_cases hT : T.val < 16384
  · rw [dif_pos ⟨⟨Nat.zero_le _, by omega⟩, ⟨Nat.zero_le _, by omega⟩⟩]
    exact hx ⟨T.val, hT⟩
  · rw [dif_neg (by omega), spread, if_neg hT]
    exact hv

/-- A group's columns among zeros. -/
theorem padcols {l n : ℕ} (x : Arr 16384 128) (f : ℕ → Fin 128 → EReal) (hx : ∀ (T : Fin 16384) (k : Fin 128), x (ix2 T k) = f T.val k)
    {u : Shape} (v : u.Idx → EReal) {hu : 0 < u.numel} (hv : v (Shape.Idx.first hu) = 0)
    (hp : (⟨2, ![16384, 128]⟩ : Shape).Pads ![0, l] ![0, n] ![0, 0] ⟨2, ![16384, 512]⟩) (T : Fin 16384) (q : Fin 512) :
    pad ⟨2, ![16384, 512]⟩ ![0, l] ![0, n] ![0, 0] x v hp hu (ix2 T q)
      = if hc : l ≤ q.val ∧ q.val - l < 128 then f T.val ⟨q.val - l, hc.2⟩ else 0 := by
  refine (pad_rows _ _ _ _ T q).trans ?_
  have hT := T.isLt
  by_cases hc : l ≤ q.val ∧ q.val - l < 128
  · rw [dif_pos hc, dif_pos ⟨⟨Nat.zero_le _, by omega⟩, hc⟩]
    exact hx T ⟨q.val - l, hc.2⟩
  · rw [dif_neg hc, dif_neg fun e => hc e.2]
    exact hv

theorem ref_cols0 (T : Fin 16384) (d : Fin 128) :
    val_main_v70 (F := Ideal) D s (ix2 T d) = dmix D s T.val ⟨128 * 0 + d.val, by omega⟩ := by
  unfold val_main_v70
  pointwise [ref_dmix]

theorem ref_dpool0 (T : Fin 16384) (k : Fin 128) :
    val_main_v119 (F := Ideal) D W s (ix2 T k) = dpool D W s 0 T.val k := by
  unfold val_main_v119 val_main_v15 val_main_v14
  pointwise [ref_cols0]
  rfl

theorem ref_spread0 (T : Fin 16384) (k : Fin 128) :
    val_main_v125 (F := Ideal) D W s (ix2 T k) = spread D W s 0 k T.val := by
  unfold val_main_v125 val_main_v124 val_main_v10 val_main_v9 val_main_v8 val_main_v7 val_main_v6 val_main_c val_main_c_0 val_main_v2 val_main_v1
  pointwise [ref_dpool0]
  rw [spread, if_pos T.isLt]
  rfl

theorem ref_padded0 (T : Fin 16385) (k : Fin 128) :
    val_main_v126 (F := Ideal) D W s (ix2 T k) = spread D W s 0 k T.val := by
  unfold val_main_v126
  exact padded D W s 0 k _ (ref_spread0 D W s · k) _ (by unfold val_main_cst_25; exact Ideal.ofBits_zero_f32) _ T

theorem ref_dz0 (T : Fin 16384) (k : Fin 128) :
    val_main_v129 (F := Ideal) D W s (ix2 T k) = dzIn D W s 0 T.val k := by
  have e : val_main_v128 (F := Ideal) D W s (ix2 T k) = lead (spread D W s 0 k) 2 T.val := by
    unfold val_main_v128
    refine (window_rows _ _ ?_ _ _ T k).trans (window_lead _ _ k (fun S => ref_padded0 D W s S k) T (by omega))
    unfold val_main_v127 val_main_cst_26
    pointwise
  unfold val_main_v129 val_main_v123
  pointwise [e, ref_dpool0]
  rw [dzIn, add_comm, ← sub_eq_add_neg]
  rfl

theorem ref_page0 (k d : Fin 128) :
    val_main_v120 (F := Ideal) D h s (ix3 (0 : Fin 1) k d) = ∑ T ∈ Finset.range 16384, wTerm D h s 0 k d T := by
  unfold val_main_v120 val_main_v118 val_main_v117
  pointwise [ref_cols0, ref_pooled0]
  refine Eq.trans (Finset.sum_congr rfl fun T _ => ?_) (Fin.sum_univ_eq_sum_range (fun T => wTerm D h s 0 k d T) 16384)
  rw [mul_comm]
  exact wTerm_of D h s 0 k d T.val _ (by first | rfl | omega | (dsimp only; omega))

theorem ref_padpage0 (p : Fin 4) (k d : Fin 128) :
    val_main_v121 (F := Ideal) D h s (ix3 p k d) = if p.val = 0 then ∑ T ∈ Finset.range 16384, wTerm D h s 0 k d T else 0 := by
  unfold val_main_v121
  refine (pad_page _ _ _ _ p k d).trans ?_
  rw [ref_page0]
  unfold val_main_cst_24
  exact congrArg (fun a : EReal => if p.val = 0 then _ else a) Ideal.ofBits_zero_f32

theorem ref_padcols0 (T : Fin 16384) (q : Fin 512) :
    val_main_v130 (F := Ideal) D W s (ix2 T q) = if hc : 0 ≤ q.val ∧ q.val - 0 < 128 then dzIn D W s 0 T.val ⟨q.val - 0, hc.2⟩ else 0 := by
  unfold val_main_v130
  exact padcols _ _ (ref_dz0 D W s) _ (by unfold val_main_cst_27; exact Ideal.ofBits_zero_f32) _ T q

theorem ref_cols1 (T : Fin 16384) (d : Fin 128) :
    val_main_v71 (F := Ideal) D s (ix2 T d) = dmix D s T.val ⟨128 * 1 + d.val, by omega⟩ := by
  unfold val_main_v71
  pointwise [ref_dmix]

theorem ref_dpool1 (T : Fin 16384) (k : Fin 128) :
    val_main_v104 (F := Ideal) D W s (ix2 T k) = dpool D W s 1 T.val k := by
  unfold val_main_v104 val_main_v29 val_main_v28
  pointwise [ref_cols1]
  rfl

theorem ref_spread1 (T : Fin 16384) (k : Fin 128) :
    val_main_v110 (F := Ideal) D W s (ix2 T k) = spread D W s 1 k T.val := by
  unfold val_main_v110 val_main_v109 val_main_v24 val_main_v23 val_main_v22 val_main_v21 val_main_v20 val_main_c_2 val_main_c_3 val_main_v2 val_main_v1
  pointwise [ref_dpool1]
  rw [spread, if_pos T.isLt]
  rfl

theorem ref_padded1 (T : Fin 16387) (k : Fin 128) :
    val_main_v111 (F := Ideal) D W s (ix2 T k) = spread D W s 1 k T.val := by
  unfold val_main_v111
  exact padded D W s 1 k _ (ref_spread1 D W s · k) _ (by unfold val_main_cst_21; exact Ideal.ofBits_zero_f32) _ T

theorem ref_dz1 (T : Fin 16384) (k : Fin 128) :
    val_main_v114 (F := Ideal) D W s (ix2 T k) = dzIn D W s 1 T.val k := by
  have e : val_main_v113 (F := Ideal) D W s (ix2 T k) = lead (spread D W s 1 k) 4 T.val := by
    unfold val_main_v113
    refine (window_rows _ _ ?_ _ _ T k).trans (window_lead _ _ k (fun S => ref_padded1 D W s S k) T (by omega))
    unfold val_main_v112 val_main_cst_22
    pointwise
  unfold val_main_v114 val_main_v108
  pointwise [e, ref_dpool1]
  rw [dzIn, add_comm, ← sub_eq_add_neg]
  rfl

theorem ref_page1 (k d : Fin 128) :
    val_main_v105 (F := Ideal) D h s (ix3 (0 : Fin 1) k d) = ∑ T ∈ Finset.range 16384, wTerm D h s 1 k d T := by
  unfold val_main_v105 val_main_v103 val_main_v102
  pointwise [ref_cols1, ref_pooled1]
  refine Eq.trans (Finset.sum_congr rfl fun T _ => ?_) (Fin.sum_univ_eq_sum_range (fun T => wTerm D h s 1 k d T) 16384)
  rw [mul_comm]
  exact wTerm_of D h s 1 k d T.val _ (by first | rfl | omega | (dsimp only; omega))

theorem ref_padpage1 (p : Fin 4) (k d : Fin 128) :
    val_main_v106 (F := Ideal) D h s (ix3 p k d) = if p.val = 1 then ∑ T ∈ Finset.range 16384, wTerm D h s 1 k d T else 0 := by
  unfold val_main_v106
  refine (pad_page _ _ _ _ p k d).trans ?_
  rw [ref_page1]
  unfold val_main_cst_20
  exact congrArg (fun a : EReal => if p.val = 1 then _ else a) Ideal.ofBits_zero_f32

theorem ref_padcols1 (T : Fin 16384) (q : Fin 512) :
    val_main_v115 (F := Ideal) D W s (ix2 T q) = if hc : 128 ≤ q.val ∧ q.val - 128 < 128 then dzIn D W s 1 T.val ⟨q.val - 128, hc.2⟩ else 0 := by
  unfold val_main_v115
  exact padcols _ _ (ref_dz1 D W s) _ (by unfold val_main_cst_23; exact Ideal.ofBits_zero_f32) _ T q

theorem ref_cols2 (T : Fin 16384) (d : Fin 128) :
    val_main_v72 (F := Ideal) D s (ix2 T d) = dmix D s T.val ⟨128 * 2 + d.val, by omega⟩ := by
  unfold val_main_v72
  pointwise [ref_dmix]

theorem ref_dpool2 (T : Fin 16384) (k : Fin 128) :
    val_main_v89 (F := Ideal) D W s (ix2 T k) = dpool D W s 2 T.val k := by
  unfold val_main_v89 val_main_v43 val_main_v42
  pointwise [ref_cols2]
  rfl

theorem ref_spread2 (T : Fin 16384) (k : Fin 128) :
    val_main_v95 (F := Ideal) D W s (ix2 T k) = spread D W s 2 k T.val := by
  unfold val_main_v95 val_main_v94 val_main_v38 val_main_v37 val_main_v36 val_main_v35 val_main_v34 val_main_c_5 val_main_c_6 val_main_v2 val_main_v1
  pointwise [ref_dpool2]
  rw [spread, if_pos T.isLt]
  rfl

theorem ref_padded2 (T : Fin 16391) (k : Fin 128) :
    val_main_v96 (F := Ideal) D W s (ix2 T k) = spread D W s 2 k T.val := by
  unfold val_main_v96
  exact padded D W s 2 k _ (ref_spread2 D W s · k) _ (by unfold val_main_cst_17; exact Ideal.ofBits_zero_f32) _ T

theorem ref_dz2 (T : Fin 16384) (k : Fin 128) :
    val_main_v99 (F := Ideal) D W s (ix2 T k) = dzIn D W s 2 T.val k := by
  have e : val_main_v98 (F := Ideal) D W s (ix2 T k) = lead (spread D W s 2 k) 8 T.val := by
    unfold val_main_v98
    refine (window_rows _ _ ?_ _ _ T k).trans (window_lead _ _ k (fun S => ref_padded2 D W s S k) T (by omega))
    unfold val_main_v97 val_main_cst_18
    pointwise
  unfold val_main_v99 val_main_v93
  pointwise [e, ref_dpool2]
  rw [dzIn, add_comm, ← sub_eq_add_neg]
  rfl

theorem ref_page2 (k d : Fin 128) :
    val_main_v90 (F := Ideal) D h s (ix3 (0 : Fin 1) k d) = ∑ T ∈ Finset.range 16384, wTerm D h s 2 k d T := by
  unfold val_main_v90 val_main_v88 val_main_v87
  pointwise [ref_cols2, ref_pooled2]
  refine Eq.trans (Finset.sum_congr rfl fun T _ => ?_) (Fin.sum_univ_eq_sum_range (fun T => wTerm D h s 2 k d T) 16384)
  rw [mul_comm]
  exact wTerm_of D h s 2 k d T.val _ (by first | rfl | omega | (dsimp only; omega))

theorem ref_padpage2 (p : Fin 4) (k d : Fin 128) :
    val_main_v91 (F := Ideal) D h s (ix3 p k d) = if p.val = 2 then ∑ T ∈ Finset.range 16384, wTerm D h s 2 k d T else 0 := by
  unfold val_main_v91
  refine (pad_page _ _ _ _ p k d).trans ?_
  rw [ref_page2]
  unfold val_main_cst_16
  exact congrArg (fun a : EReal => if p.val = 2 then _ else a) Ideal.ofBits_zero_f32

theorem ref_padcols2 (T : Fin 16384) (q : Fin 512) :
    val_main_v100 (F := Ideal) D W s (ix2 T q) = if hc : 256 ≤ q.val ∧ q.val - 256 < 128 then dzIn D W s 2 T.val ⟨q.val - 256, hc.2⟩ else 0 := by
  unfold val_main_v100
  exact padcols _ _ (ref_dz2 D W s) _ (by unfold val_main_cst_19; exact Ideal.ofBits_zero_f32) _ T q

theorem ref_cols3 (T : Fin 16384) (d : Fin 128) :
    val_main_v73 (F := Ideal) D s (ix2 T d) = dmix D s T.val ⟨128 * 3 + d.val, by omega⟩ := by
  unfold val_main_v73
  pointwise [ref_dmix]

theorem ref_dpool3 (T : Fin 16384) (k : Fin 128) :
    val_main_v76 (F := Ideal) D W s (ix2 T k) = dpool D W s 3 T.val k := by
  unfold val_main_v76 val_main_v57 val_main_v56
  pointwise [ref_cols3]
  rfl

theorem ref_spread3 (T : Fin 16384) (k : Fin 128) :
    val_main_v81 (F := Ideal) D W s (ix2 T k) = spread D W s 3 k T.val := by
  unfold val_main_v81 val_main_v80 val_main_v52 val_main_v51 val_main_v50 val_main_v49 val_main_v48 val_main_c_8 val_main_c_9 val_main_v2 val_main_v1
  pointwise [ref_dpool3]
  rw [spread, if_pos T.isLt]
  rfl

theorem ref_padded3 (T : Fin 16399) (k : Fin 128) :
    val_main_v82 (F := Ideal) D W s (ix2 T k) = spread D W s 3 k T.val := by
  unfold val_main_v82
  exact padded D W s 3 k _ (ref_spread3 D W s · k) _ (by unfold val_main_cst_13; exact Ideal.ofBits_zero_f32) _ T

theorem ref_dz3 (T : Fin 16384) (k : Fin 128) :
    val_main_v85 (F := Ideal) D W s (ix2 T k) = dzIn D W s 3 T.val k := by
  have e : val_main_v84 (F := Ideal) D W s (ix2 T k) = lead (spread D W s 3 k) 16 T.val := by
    unfold val_main_v84
    refine (window_rows _ _ ?_ _ _ T k).trans (window_lead _ _ k (fun S => ref_padded3 D W s S k) T (by omega))
    unfold val_main_v83 val_main_cst_14
    pointwise
  unfold val_main_v85 val_main_v79
  pointwise [e, ref_dpool3]
  rw [dzIn, add_comm, ← sub_eq_add_neg]
  rfl

theorem ref_page3 (k d : Fin 128) :
    val_main_v77 (F := Ideal) D h s (ix3 (0 : Fin 1) k d) = ∑ T ∈ Finset.range 16384, wTerm D h s 3 k d T := by
  unfold val_main_v77 val_main_v75 val_main_v74
  pointwise [ref_cols3, ref_pooled3]
  refine Eq.trans (Finset.sum_congr rfl fun T _ => ?_) (Fin.sum_univ_eq_sum_range (fun T => wTerm D h s 3 k d T) 16384)
  rw [mul_comm]
  exact wTerm_of D h s 3 k d T.val _ (by first | rfl | omega | (dsimp only; omega))

theorem ref_padpage3 (p : Fin 4) (k d : Fin 128) :
    val_main_v78 (F := Ideal) D h s (ix3 p k d) = if p.val = 3 then ∑ T ∈ Finset.range 16384, wTerm D h s 3 k d T else 0 := by
  unfold val_main_v78
  refine (pad_page _ _ _ _ p k d).trans ?_
  rw [ref_page3]
  unfold val_main_cst_12
  exact congrArg (fun a : EReal => if p.val = 3 then _ else a) Ideal.ofBits_zero_f32

theorem ref_padcols3 (T : Fin 16384) (q : Fin 512) :
    val_main_v86 (F := Ideal) D W s (ix2 T q) = if hc : 384 ≤ q.val ∧ q.val - 384 < 128 then dzIn D W s 3 T.val ⟨q.val - 384, hc.2⟩ else 0 := by
  unfold val_main_v86
  exact padcols _ _ (ref_dz3 D W s) _ (by unfold val_main_cst_15; exact Ideal.ofBits_zero_f32) _ T q

/-- The reference's first result. -/
theorem ref_value6 : val_main_v131 (F := Ideal) D W s = dz D W s := by
  funext y
  obtain ⟨T, q, rfl⟩ : ∃ (T : Fin 16384) (q : Fin 512), y = ix2 T q := ⟨y 0, y 1, eq_ix2 y⟩
  show _ = dzAt D W s T q
  unfold val_main_v131 val_main_v116 val_main_v101
  pointwise [ref_padcols0, ref_padcols1, ref_padcols2, ref_padcols3]
  have hq := q.isLt
  by_cases h3 : 384 ≤ q.val
  · rw [dif_pos (by omega), dif_neg (by omega), dif_neg (by omega), dif_neg (by omega), add_zero, add_zero, add_zero]
    exact (dzAt_group D W s T q 3 _ (by show q.val = 128 * 3 + (q.val - 384); omega)).symm
  by_cases h2 : 256 ≤ q.val
  · rw [dif_neg (by omega), dif_pos (by omega), dif_neg (by omega), dif_neg (by omega), zero_add, add_zero, add_zero]
    exact (dzAt_group D W s T q 2 _ (by show q.val = 128 * 2 + (q.val - 256); omega)).symm
  by_cases h1 : 128 ≤ q.val
  · rw [dif_neg (by omega), dif_neg (by omega), dif_pos (by omega), dif_neg (by omega), zero_add, zero_add, add_zero]
    exact (dzAt_group D W s T q 1 _ (by show q.val = 128 * 1 + (q.val - 128); omega)).symm
  · rw [dif_neg (by omega), dif_neg (by omega), dif_neg (by omega), dif_pos (by omega), zero_add, zero_add, zero_add]
    exact (dzAt_group D W s T q 0 _ (by first | (show q.val = 128 * 0 + (q.val - 0); omega) | (dsimp only; omega))).symm

/-- The reference's second result. -/
theorem ref_value7 : val_main_v122 (F := Ideal) D h s = dw D h s := by
  funext y
  obtain ⟨g, k, d, rfl⟩ : ∃ (g : Fin 4) (k d : Fin 128), y = ix3 g k d := ⟨y 0, y 1, y 2, eq_ix3 y⟩
  show _ = ∑ T ∈ Finset.range 16384, wTerm D h s g k d T
  unfold val_main_v122 val_main_v107 val_main_v92
  pointwise [ref_padpage0, ref_padpage1, ref_padpage2, ref_padpage3]
  fin_cases g <;> simp

theorem ref_mixed (T : Fin 16384) (q : Fin 512) :
    val_main_v59 (F := Ideal) h W (ix2 T q) = mixed h W ⟨q.val / 128, by omega⟩ T.val ⟨q.val % 128, by omega⟩ := by
  unfold val_main_v59
  pointwise [ref_mixed0, ref_mixed1, ref_mixed2, ref_mixed3]
  have hq := q.isLt
  by_cases h1 : q.val < 128
  · rw [dif_pos h1]
    exact mixed_group h W T.val q 0 _ (by show q.val = 128 * 0 + q.val; omega)
  rw [dif_neg h1]
  by_cases h2 : q.val - 128 < 128
  · rw [dif_pos h2]
    exact mixed_group h W T.val q 1 _ (by show q.val = 128 * 1 + (q.val - 128); omega)
  rw [dif_neg h2]
  by_cases h3 : q.val - 128 - 128 < 128
  · rw [dif_pos h3]
    exact mixed_group h W T.val q 2 _ (by show q.val = 128 * 2 + (q.val - 128 - 128); omega)
  rw [dif_neg h3]
  exact mixed_group h W T.val q 3 _ (by show q.val = 128 * 3 + (q.val - 128 - 128 - 128); omega)

theorem ref_scale (i : Fin 1) (q : Fin 512) : val_main_v132 (F := Ideal) D h W (ix2 i q) = ∑ T ∈ Finset.range 16384, sTerm D h W q T := by
  unfold val_main_v132 val_main_v69 val_main_v66 val_main_v65 val_main_v64 val_main_v63 val_main_cst_10 val_main_cst_11
  pointwise [ref_mixed]
  refine (Fin.sum_univ_one _).trans ?_
  refine Eq.trans (Finset.sum_congr rfl fun T _ => ?_) (Fin.sum_univ_eq_sum_range (fun T => sTerm D h W q T) 16384)
  rw [mul_comm, sTerm]
  exact congrArg (· * _) (gy_of D T.val T.isLt q _ rfl)

theorem row_index (y : (⟨2, ![1, 512]⟩ : Shape).Idx) : ∃ (i : Fin 1) (q : Fin 512), y = ix2 i q := ⟨y 0, y 1, eq_ix2 y⟩

/-- The reference's third result. -/
theorem ref_value8 : val_main_v132 (F := Ideal) D h W = ds D h W := by
  funext y
  obtain ⟨i, q, rfl⟩ := row_index y
  exact ref_scale D h W i q

end Cert.PoolBwdRefProof
end
-- ==== Proof.PoolBwdBlock.lean ====
module

public import proofs.«01_k».proof.Proof.PoolBwdSpec
public import proofs.«01_k».proof.Proof.Gen.PoolBwdIdeal.Value
public import Idealize.ShloMosaic.Lib.Pipeline.ValueKit
public import Idealize.ShloMosaic.Lib.Pipeline.ReadBack
public import Idealize.ShloMosaic.Lib.WritesUnit

/-! The pooling mixer's backward call: a block of 512 rows, with the sixteen rows before and after it. -/

@[expose] public section

noncomputable section

namespace Cert.PoolBwdProof

open Idealize.ShloMosaic Idealize.SL.Sem Cert.PoolSpec Cert.PoolBwdSpec Cert.PoolBwdIdeal Cert.PoolBwdIdeal.Gen

variable (m : (ℓ : Loc nD τ sig) → Buf (Elt Ideal) ℓ) (c : Dev nD) (t : Fin cfg0.N)

/-- The four arguments on device `c`. -/
abbrev argD : Arr 16384 1024 := m ((c.tc : Thread nD τ).loc main_arg0)
abbrev argH : Arr 16384 2048 := m ((c.tc : Thread nD τ).loc main_arg1)
abbrev argW : Arr3 4 128 128 := m ((c.tc : Thread nD τ).loc main_arg2)
abbrev argS : (⟨1, ![512]⟩ : Shape).Idx → EReal := m ((c.tc : Thread nD τ).loc main_arg3)

theorem lt32 : t.val < 32 := t.isLt

theorem coord0 : ((grid0.coords t) 0).val = t.val := by
  revert t; decide +kernel

theorem idx0 : ∀ t : Fin cfg0.N, win0_0.index t = ![t.val, 1] := by decide +kernel
theorem idx1 : ∀ t : Fin cfg0.N, win0_1.index t = ![min (t.val + 1) 31, 1] := by decide +kernel
theorem idx2 : ∀ t : Fin cfg0.N, win0_2.index t = ![t.val, 3] := by decide +kernel
theorem idx3 : ∀ t : Fin cfg0.N, win0_3.index t = ![t.val - 1, 3] := by decide +kernel
theorem idx4 : ∀ t : Fin cfg0.N, win0_4.index t = ![0, 0, 0] := by decide +kernel
theorem idx5 : ∀ t : Fin cfg0.N, win0_5.index t = ![0, 0] := by decide +kernel

theorem weight : (V m c main_v0 : Arr3 4 128 128) = argW m c := by
  refine Eq.trans (b := truncf (F := Ideal) .bf16 (m ((c.tc : Thread nD τ).loc main_arg2)) bitsLt_bf16_f32) ?_ rfl
  simp only [V, hostOps0]
  after_results

theorem scale : (V m c main_v1 : Arr 1 512) = fun y => argS m c (ix1 (y 1)) := by
  refine Eq.trans (b := (shapeCast S1x512 (m ((c.tc : Thread nD τ).loc main_arg3)) shapeCasts_S512_S1x512 : Vec Ideal S1x512 .f32)) ?_ ?_
  · simp only [V, hostOps0]
    after_results
    rfl
  · funext y
    obtain ⟨i, j, rfl⟩ : ∃ (i : Fin 1) (j : Fin 512), y = ix2 i j := ⟨y 0, y 1, eq_ix2 y⟩
    pointwise

theorem blk0 (r j : Fin 512) : iblk m c 0 t (ix2 r j) =
    argD m c (ix2 ⟨t.val * 512 + r.val, by have := lt32 t; omega⟩ ⟨512 + j.val, by omega⟩) := by
  refine Eq.trans (b := (V m c main_arg0 : Arr 16384 1024) (ix2 ⟨t.val * 512 + r.val, by have := lt32 t; omega⟩ ⟨512 + j.val, by omega⟩)) ?_
    (congrFun (V_main_arg0 m c) _)
  blk_ext [iblk, idx0 t]

theorem blk1 (r j : Fin 512) : iblk m c 1 t (ix2 r j) =
    argD m c (ix2 ⟨min (t.val + 1) 31 * 512 + r.val, by omega⟩ ⟨512 + j.val, by omega⟩) := by
  refine Eq.trans (b := (V m c main_arg0 : Arr 16384 1024) (ix2 ⟨min (t.val + 1) 31 * 512 + r.val, by omega⟩ ⟨512 + j.val, by omega⟩)) ?_
    (congrFun (V_main_arg0 m c) _)
  blk_ext [iblk, idx1 t]

theorem blk2 (r j : Fin 512) : iblk m c 2 t (ix2 r j) =
    argH m c (ix2 ⟨t.val * 512 + r.val, by have := lt32 t; omega⟩ ⟨1536 + j.val, by omega⟩) := by
  refine Eq.trans (b := (V m c main_arg1 : Arr 16384 2048) (ix2 ⟨t.val * 512 + r.val, by have := lt32 t; omega⟩ ⟨1536 + j.val, by omega⟩)) ?_
    (congrFun (V_main_arg1 m c) _)
  blk_ext [iblk, idx2 t]

theorem blk3 (r j : Fin 512) : iblk m c 3 t (ix2 r j) =
    argH m c (ix2 ⟨(t.val - 1) * 512 + r.val, by have := lt32 t; omega⟩ ⟨1536 + j.val, by omega⟩) := by
  refine Eq.trans (b := (V m c main_arg1 : Arr 16384 2048) (ix2 ⟨(t.val - 1) * 512 + r.val, by have := lt32 t; omega⟩ ⟨1536 + j.val, by omega⟩)) ?_
    (congrFun (V_main_arg1 m c) _)
  blk_ext [iblk, idx3 t]

theorem blk4 (g : Fin 4) (k d : Fin 128) : iblk m c 4 t (ix3 g k d) = argW m c (ix3 g k d) := by
  refine Eq.trans (b := (V m c main_v0 : Arr3 4 128 128) (ix3 g k d)) ?_ (congrFun (weight m c) _)
  blk_ext [iblk, idx4 t]

theorem blk5 (i : Fin 1) (j : Fin 512) : iblk m c 5 t (ix2 i j) = argS m c (ix1 j) := by
  refine Eq.trans (b := (V m c main_v1 : Arr 1 512) (ix2 i j)) ?_ (congrFun (scale m c) _)
  blk_ext [iblk, idx5 t]

/-- `select` of a comparison with the first grid point, as an `if`. -/
theorem select_first {α : Type} (n : ℕ) (hn : n < 32) (a b : α) :
    Scalar.select (Scalar.cmpi CmpIPredicate.eq (BitVec.ofNat 32 n) 0#32) a b = if n = 0 then a else b := by
  interval_cases n <;> rfl

abbrev zcur := iblk m c 2 t
abbrev halo := View.ld (iblk m c 3 t) (Rect.unit ![496, 0] ![16, 512] inb_S512x512_S16x512_496_0)

theorem zcur_apply (r j : Fin 512) : zcur m c t (ix2 r j) = zPad (argH m c) j (t.val * 512 + r.val + 16) := by
  have := lt32 t
  pointwise [zcur]
  rw [blk2, zPad, dif_pos (by omega)]
  congr 3

theorem halo_apply (r : Fin 16) (j : Fin 512) : halo m c t (ix2 r j) =
    argH m c (ix2 ⟨(t.val - 1) * 512 + (496 + r.val), by have := lt32 t; omega⟩ ⟨1536 + j.val, by omega⟩) := by
  pointwise [halo]
  rw [blk3]

/-- The extended block: its row `s` is row `512 t + s` of the padded input. -/
theorem ext (j : Fin 512) (s : ℕ) (hs : s < 528) :
    (if h : s < 16 then Scalar.select (Scalar.cmpi CmpIPredicate.eq (BitVec.ofNat 32 t.val) 0#32) (0 : EReal) (halo m c t (ix2 ⟨s, h⟩ j))
      else zcur m c t (ix2 ⟨s - 16, by omega⟩ j)) = zPad (argH m c) j (t.val * 512 + s) := by
  have h32 := lt32 t
  by_cases hlt : s < 16
  · rw [dif_pos hlt]
    refine (select_first t.val h32 _ _).trans ?_
    by_cases h0 : t.val = 0
    · rw [if_pos h0, zPad, dif_neg (by omega)]
    · rw [if_neg h0, halo_apply, zPad, dif_pos (by omega)]
      congr 3; simp only [Fin.mk.injEq]; omega
  · rw [dif_neg hlt, zcur_apply]
    congr 1; simp only []; omega

theorem sum2 (j : Fin 512) (s : ℕ) (hs : s < 528) (h1 : 1 ≤ s) :
    k0_pay4 (grid0.coords t) (zcur m c t) (halo m c t) (ix2 ⟨s, hs⟩ j) = back (zPad (argH m c) j) 2 (t.val * 512 + s) := by
  unfold k0_pay4
  pointwise [coord0]
  rw [ext m c t j s hs, ext m c t j _ (by omega), back_double _ 1 2 _ rfl, back_one, back_one]
  congr 2; omega

theorem sum4 (j : Fin 512) (s : ℕ) (hs : s < 528) (h1 : 3 ≤ s) :
    k0_pay5 (grid0.coords t) (zcur m c t) (halo m c t) (ix2 ⟨s, hs⟩ j) = back (zPad (argH m c) j) 4 (t.val * 512 + s) := by
  unfold k0_pay5
  pointwise
  rw [sum2 m c t j s hs (by omega), sum2 m c t j _ _ (by omega), back_double _ 2 4 _ rfl]
  congr 2; omega

theorem sum8 (j : Fin 512) (s : ℕ) (hs : s < 528) (h1 : 7 ≤ s) :
    k0_pay6 (grid0.coords t) (zcur m c t) (halo m c t) (ix2 ⟨s, hs⟩ j) = back (zPad (argH m c) j) 8 (t.val * 512 + s) := by
  unfold k0_pay6
  pointwise
  rw [sum4 m c t j s hs (by omega), sum4 m c t j _ _ (by omega), back_double _ 4 8 _ rfl]
  congr 2; omega

theorem slice8 (r j : Fin 512) :
    k0_pay7 (grid0.coords t) (zcur m c t) (halo m c t) (ix2 r j) = back (zPad (argH m c) j) 8 (t.val * 512 + r.val + 16) := by
  unfold k0_pay7
  pointwise
  rw [sum8 m c t j _ _ (by omega)]
  congr 1; omega

theorem slice16 (r j : Fin 512) :
    k0_pay8 (grid0.coords t) (zcur m c t) (halo m c t) (ix2 r j) = back (zPad (argH m c) j) 16 (t.val * 512 + r.val + 16) := by
  unfold k0_pay8
  pointwise
  rw [sum8 m c t j _ _ (by omega), sum8 m c t j _ _ (by omega), back_double _ 8 16 _ rfl]
  congr 2 <;> omega

/-- The row's number, as the body counts it. -/
theorem row_number (r : Fin 512) (i : Fin 1) : k0_pay9 (grid0.coords t) (ix2 r i) = BitVec.ofNat 32 (t.val * 512 + r.val) := by
  unfold k0_pay9
  pointwise [coord0]
  show BitVec.ofNat 32 t.val * BitVec.ofNat 32 512 + BitVec.ofNat 32 r.val = _
  rw [← BitVec.ofNat_mul, ← BitVec.ofNat_add]

theorem pool0 (r : Fin 512) (j : Fin 128) :
    k0_pay10 (grid0.coords t) (zcur m c t) (halo m c t) (ix2 r j) = pooled (argH m c) 0 (t.val * 512 + r.val) j := by
  unfold k0_pay10
  pointwise [row_number]
  rw [sum2 m c t _ _ _ (by omega), zcur_apply]
  exact pooled_of _ 0 _ j _ _ _ (by show j.val = 128 * 0 + j.val; omega) (by show j.val = 128 * 0 + j.val; omega) (by omega)

theorem pool1 (r : Fin 512) (j : Fin 128) :
    k0_pay13 (zcur m c t) (k0_pay11 (grid0.coords t)) (k0_pay12 (grid0.coords t) (zcur m c t) (halo m c t)) (ix2 r j)
      = pooled (argH m c) 1 (t.val * 512 + r.val) j := by
  unfold k0_pay13 k0_pay12 k0_pay11
  pointwise [row_number]
  rw [sum4 m c t _ _ _ (by omega), zcur_apply]
  exact pooled_of _ 1 _ j _ _ _ (by show 128 + j.val = 128 * 1 + j.val; omega) (by show 128 + j.val = 128 * 1 + j.val; omega) (by omega)

theorem pool2 (r : Fin 512) (j : Fin 128) :
    k0_pay14 (zcur m c t) (k0_pay7 (grid0.coords t) (zcur m c t) (halo m c t)) (k0_pay9 (grid0.coords t)) (ix2 r j)
      = pooled (argH m c) 2 (t.val * 512 + r.val) j := by
  unfold k0_pay14
  pointwise [row_number, slice8]
  rw [zcur_apply]
  exact pooled_of _ 2 _ j _ _ _ (by show 256 + j.val = 128 * 2 + j.val; omega) (by show 256 + j.val = 128 * 2 + j.val; omega) (by omega)

theorem pool3 (r : Fin 512) (j : Fin 128) :
    k0_pay15 (zcur m c t) (k0_pay8 (grid0.coords t) (zcur m c t) (halo m c t)) (k0_pay9 (grid0.coords t)) (ix2 r j)
      = pooled (argH m c) 3 (t.val * 512 + r.val) j := by
  unfold k0_pay15
  pointwise [row_number, slice16]
  rw [zcur_apply]
  exact pooled_of _ 3 _ j _ _ _ (by show 384 + j.val = 128 * 3 + j.val; omega) (by show 384 + j.val = 128 * 3 + j.val; omega) (by omega)

theorem dmix_of (T : ℕ) (hT : T < 16384) (q q' : Fin 512) (f : Fin 1024) (hf : f.val = 512 + q.val) (hq : q'.val = q.val) :
    argD m c (ix2 ⟨T, hT⟩ f) * argS m c (ix1 q') = dmix (argD m c) (argS m c) T q := by
  rw [gy_of (argD m c) T hT q f hf, dmix]
  exact congrArg (fun v => gy (argD m c) T q * argS m c (ix1 v)) (Fin.ext hq)

/-- `select` of a comparison with the last grid point, as an `if`. -/
theorem select_last {α : Type} (n : ℕ) (hn : n < 32) (a b : α) :
    Scalar.select (Scalar.cmpi CmpIPredicate.eq (BitVec.ofNat 32 n) 31#32) a b = if n = 31 then a else b := by
  interval_cases n <;> rfl

abbrev sc0 := View.ld (iblk m c 5 t) (Rect.unit ![0, 0] ![1, 128] inb_S1x512_S1x128_0_0)
abbrev wt0 := View.ld (iblk m c 4 t) (Rect.unit ![0, 0, 0] ![1, 128, 128] inb_S4x128x128_S1x128x128_0_0_0)
abbrev nx0 := View.ld (iblk m c 1 t) (Rect.unit ![0, 0] ![16, 128] inb_S512x512_S16x128_0_0)
abbrev sc1 := View.ld (iblk m c 5 t) (Rect.unit ![0, 128] ![1, 128] inb_S1x512_S1x128_0_128)
abbrev wt1 := View.ld (iblk m c 4 t) (Rect.unit ![1, 0, 0] ![1, 128, 128] inb_S4x128x128_S1x128x128_1_0_0)
abbrev nx1 := View.ld (iblk m c 1 t) (Rect.unit ![0, 128] ![16, 128] inb_S512x512_S16x128_0_128)
abbrev sc2 := View.ld (iblk m c 5 t) (Rect.unit ![0, 256] ![1, 128] inb_S1x512_S1x128_0_256)
abbrev wt2 := View.ld (iblk m c 4 t) (Rect.unit ![2, 0, 0] ![1, 128, 128] inb_S4x128x128_S1x128x128_2_0_0)
abbrev nx2 := View.ld (iblk m c 1 t) (Rect.unit ![0, 256] ![16, 128] inb_S512x512_S16x128_0_256)
abbrev sc3 := View.ld (iblk m c 5 t) (Rect.unit ![0, 384] ![1, 128] inb_S1x512_S1x128_0_384)
abbrev wt3 := View.ld (iblk m c 4 t) (Rect.unit ![3, 0, 0] ![1, 128, 128] inb_S4x128x128_S1x128x128_3_0_0)
abbrev nx3 := View.ld (iblk m c 1 t) (Rect.unit ![0, 384] ![16, 128] inb_S512x512_S16x128_0_384)

theorem dm0 (r : Fin 512) (d : Fin 128) :
    k0_pay20 (k0_pay19 (iblk m c 0 t)) (sc0 m c t) (ix2 r d) = dmix (argD m c) (argS m c) (t.val * 512 + r.val) ⟨128 * 0 + d.val, by omega⟩ := by
  unfold k0_pay20 k0_pay19
  pointwise [blk0, blk5, sc0]
  exact dmix_of m c _ _ _ _ _ (by first | rfl | omega | (dsimp only; omega)) (by first | rfl | omega | (dsimp only; omega))

theorem dp0 (r : Fin 512) (k : Fin 128) :
    k0_pay22 (k0_pay19 (iblk m c 0 t)) (sc0 m c t) (wt0 m c t) (ix2 r k) = dpool (argD m c) (argW m c) (argS m c) 0 (t.val * 512 + r.val) k := by
  unfold k0_pay22
  pointwise [dm0, blk4, wt0]
  exact Finset.sum_congr rfl fun x _ => congrArg (fun v => dmix (argD m c) (argS m c) (t.val * 512 + r.val) v * argW m c (ix3 0 k x)) (Fin.ext (by first | rfl | omega | (dsimp only; omega)))

theorem dm1 (r : Fin 512) (d : Fin 128) :
    k0_pay28 (iblk m c 0 t) (sc1 m c t) (ix2 r d) = dmix (argD m c) (argS m c) (t.val * 512 + r.val) ⟨128 * 1 + d.val, by omega⟩ := by
  unfold k0_pay28
  pointwise [blk0, blk5, sc1]
  exact dmix_of m c _ _ _ _ _ (by first | rfl | omega | (dsimp only; omega)) (by first | rfl | omega | (dsimp only; omega))

theorem dm2 (r : Fin 512) (d : Fin 128) :
    k0_pay34 (iblk m c 0 t) (sc2 m c t) (ix2 r d) = dmix (argD m c) (argS m c) (t.val * 512 + r.val) ⟨128 * 2 + d.val, by omega⟩ := by
  unfold k0_pay34
  pointwise [blk0, blk5, sc2]
  exact dmix_of m c _ _ _ _ _ (by first | rfl | omega | (dsimp only; omega)) (by first | rfl | omega | (dsimp only; omega))

theorem dp2 (r : Fin 512) (k : Fin 128) :
    k0_pay36 (iblk m c 0 t) (sc2 m c t) (wt2 m c t) (ix2 r k) = dpool (argD m c) (argW m c) (argS m c) 2 (t.val * 512 + r.val) k := by
  unfold k0_pay36
  pointwise [dm2, blk4, wt2]
  exact Finset.sum_congr rfl fun x _ => congrArg (fun v => dmix (argD m c) (argS m c) (t.val * 512 + r.val) v * argW m c (ix3 2 k x)) (Fin.ext (by first | rfl | omega | (dsimp only; omega)))

theorem dm3 (r : Fin 512) (d : Fin 128) :
    k0_pay43 (k0_pay41 (iblk m c 0 t)) (k0_pay42 (sc3 m c t)) (ix2 r d) = dmix (argD m c) (argS m c) (t.val * 512 + r.val) ⟨128 * 3 + d.val, by omega⟩ := by
  unfold k0_pay43 k0_pay41 k0_pay42
  pointwise [blk0, blk5, sc3]
  exact dmix_of m c _ _ _ _ _ (by first | rfl | omega | (dsimp only; omega)) (by first | rfl | omega | (dsimp only; omega))

theorem dp3 (r : Fin 512) (k : Fin 128) :
    k0_pay45 (k0_pay41 (iblk m c 0 t)) (k0_pay42 (sc3 m c t)) (wt3 m c t) (ix2 r k) = dpool (argD m c) (argW m c) (argS m c) 3 (t.val * 512 + r.val) k := by
  unfold k0_pay45
  pointwise [dm3, blk4, wt3]
  exact Finset.sum_congr rfl fun x _ => congrArg (fun v => dmix (argD m c) (argS m c) (t.val * 512 + r.val) v * argW m c (ix3 3 k x)) (Fin.ext (by first | rfl | omega | (dsimp only; omega)))

end Cert.PoolBwdProof
end
-- ==== Proof.PoolBwdDz.lean ====
module

public import proofs.«01_k».proof.Proof.PoolBwdBlock

/-! The pooling mixer's backward call: the input's gradient, one group of columns at a time. -/

@[expose] public section

noncomputable section

namespace Cert.PoolBwdProof

open Idealize.ShloMosaic Idealize.SL.Sem Cert.PoolBwdIdeal Cert.PoolSpec Cert.PoolBwdSpec Cert.PoolBwdIdeal Cert.PoolBwdIdeal.Gen

variable (m : (ℓ : Loc nD τ sig) → Buf (Elt Ideal) ℓ) (c : Dev nD) (t : Fin cfg0.N)

/-- The row's number at grid point `t`. -/
theorem row_at (r : Fin 512) (i : Fin 1) : k0_pay16 (BitVec.ofNat 32 t.val) (ix2 r i) = BitVec.ofNat 32 (t.val * 512 + r.val) := by
  unfold k0_pay16
  pointwise
  show BitVec.ofNat 32 t.val * BitVec.ofNat 32 512 + BitVec.ofNat 32 r.val = _
  rw [← BitVec.ofNat_mul, ← BitVec.ofNat_add]

/-- A group's gradient over the count of frames, in the block itself. -/
theorem spread_of (g : Fin 4) (k : Fin 128) (w : BitVec 32) (hw : w = BitVec.ofNat 32 (width g)) (r : Fin 512) :
    Ideal.div (dpool (argD m c) (argW m c) (argS m c) g (t.val * 512 + r.val) k)
      (FloatOps.sitofp (F := Ideal) FTy.f32 (IntOp.minsi (IntOp.addi (BitVec.ofNat 32 (t.val * 512 + r.val)) 1#32) w))
      = spread (argD m c) (argW m c) (argS m c) g k (t.val * 512 + r.val) := by
  have := lt32 t
  rw [spread, if_pos (by omega), hw]
  rfl

/-- A group's gradient over the window's width, in the next block. -/
theorem spread_next (ht : t.val ≠ 31) (g : Fin 4) (k : Fin 128) (l : EReal)
    (hl : l = ((1 / (width g : ℝ) : ℝ) : EReal)) (f : Fin 128 → Fin 1024) (hf : ∀ x, (f x).val = 512 + (128 * g.val + x.val))
    (f' : Fin 128 → Fin 512) (hf' : ∀ x, (f' x).val = 128 * g.val + x.val) (r : Fin 16)
    (hb : min (t.val + 1) 31 * 512 + r.val < 16384) :
    (∑ x : Fin 128, argD m c (ix2 ⟨min (t.val + 1) 31 * 512 + r.val, hb⟩ (f x)) * argS m c (ix1 (f' x)) * argW m c (ix3 g k x)) * l
      = spread (argD m c) (argW m c) (argS m c) g k (t.val * 512 + 512 + r.val) := by
  have h32 := lt32 t
  rw [spread, if_pos (by omega), count_full g _ (by omega) (by omega),
    Ideal.div_coe (by exact_mod_cast (show width g ≠ 0 by fin_cases g <;> decide)), hl]
  refine congrArg (· * ((1 / (width g : ℝ) : ℝ) : EReal)) (Finset.sum_congr rfl fun x _ => congrArg (· * argW m c (ix3 g k x)) ?_)
  refine (dmix_of m c _ hb ⟨128 * g.val + x.val, by omega⟩ (f' x) (f x) (hf x) (hf' x)).trans ?_
  congr 1
  omega

/-- The extended gradient: the block's rows, then sixteen of the next block, or zeros after the last block. -/
theorem spread_cat (g : Fin 4) (k : Fin 128) (b : BitVec 32) (hb : b = BitVec.ofNat 32 t.val) (x : FVec Ideal S512x128 .f32)
    (y : FVec Ideal S16x128 .f32) (hx : ∀ r : Fin 512, x (ix2 r k) = spread (argD m c) (argW m c) (argS m c) g k (t.val * 512 + r.val))
    (hy : t.val ≠ 31 → ∀ r : Fin 16, y (ix2 r k) = spread (argD m c) (argW m c) (argS m c) g k (t.val * 512 + 512 + r.val)) (s : ℕ) (hs : s < 528) :
    concatenate S528x128 0 [⟨S512x128, x⟩, ⟨S16x128, Scalar.select (Scalar.cmpi CmpIPredicate.eq b 31#32)
        (broadcast S16x128 (FloatOps.ofBits (F := Ideal) .f32 0#32)) y⟩] concatenates_S512x128_S16x128_S528x128_d0 (ix2 ⟨s, hs⟩ k)
      = spread (argD m c) (argW m c) (argS m c) g k (t.val * 512 + s) := by
  have h32 := lt32 t
  subst hb
  pointwise
  by_cases h : s < 512
  · rw [dif_pos h]
    exact hx ⟨s, h⟩
  · rw [dif_neg h]
    refine (select_last t.val h32 _ _).trans ?_
    by_cases h31 : t.val = 31
    · rw [if_pos h31, spread, if_neg (by omega)]
    · rw [if_neg h31, hy h31]
      congr 1
      dsimp only
      omega

theorem bits0 : Ideal.ofBits .f32 0x3F000000#32 = ((1 / (width 0 : ℝ) : ℝ) : EReal) := by
  rw [show width 0 = 2 from rfl]
  simp [Ideal.ofBits, Ideal.ieee, -EReal.coe_mul]
  norm_num

theorem bits1 : Ideal.ofBits .f32 0x3E800000#32 = ((1 / (width 1 : ℝ) : ℝ) : EReal) := by
  rw [show width 1 = 4 from rfl]
  simp [Ideal.ofBits, Ideal.ieee, -EReal.coe_mul]
  norm_num

theorem bits2 : Ideal.ofBits .f32 0x3E000000#32 = ((1 / (width 2 : ℝ) : ℝ) : EReal) := by
  rw [show width 2 = 8 from rfl]
  simp [Ideal.ofBits, Ideal.ieee, -EReal.coe_mul]
  norm_num

theorem bits3 : Ideal.ofBits .f32 0x3D800000#32 = ((1 / (width 3 : ℝ) : ℝ) : EReal) := by
  rw [show width 3 = 16 from rfl]
  simp [Ideal.ofBits, Ideal.ieee, -EReal.coe_mul]
  norm_num

/-- The first 512 rows. -/
theorem first_rows (z : FVec Ideal S528x128 .f32) (r : Fin 512) (k : Fin 128) :
    extractStridedSlice S512x128 ![0, 0] z slices_S528x128_o0_0_S512x128 (ix2 r k) = z (ix2 ⟨r.val, by omega⟩ k) := by
  refine extractStridedSlice_apply _ _ _ _ _ fun a => ?_
  fin_cases a
  · exact (Nat.zero_add _).symm
  · exact (Nat.zero_add _).symm

section leading
variable (k : Fin 128) (f : ℕ → EReal) (z : FVec Ideal S528x128 .f32)

/-- A sum of 1 rows and the one 1 rows further on make a sum of 2. -/
theorem lead2 (hz : ∀ (s : ℕ) (hs : s < 528), s + 1 ≤ 528 → z (ix2 ⟨s, hs⟩ k) = lead f 1 s) (s : ℕ) (hs : s < 528) (h : s + 2 ≤ 528) :
    addf z (dynamicRotate 0 527#32 none z rotates_S528x128_d0) (ix2 ⟨s, hs⟩ k) = lead f 2 s := by
  pointwise
  rw [hz _ _ (by omega), hz _ _ (by omega), lead_double f 1 2 s rfl]
  congr 2
  omega

/-- A sum of 2 rows and the one 2 rows further on make a sum of 4. -/
theorem lead4 (hz : ∀ (s : ℕ) (hs : s < 528), s + 2 ≤ 528 → z (ix2 ⟨s, hs⟩ k) = lead f 2 s) (s : ℕ) (hs : s < 528) (h : s + 4 ≤ 528) :
    addf z (dynamicRotate 0 526#32 none z rotates_S528x128_d0) (ix2 ⟨s, hs⟩ k) = lead f 4 s := by
  pointwise
  rw [hz _ _ (by omega), hz _ _ (by omega), lead_double f 2 4 s rfl]
  congr 2
  omega

/-- A sum of 4 rows and the one 4 rows further on make a sum of 8. -/
theorem lead8 (hz : ∀ (s : ℕ) (hs : s < 528), s + 4 ≤ 528 → z (ix2 ⟨s, hs⟩ k) = lead f 4 s) (s : ℕ) (hs : s < 528) (h : s + 8 ≤ 528) :
    addf z (dynamicRotate 0 524#32 none z rotates_S528x128_d0) (ix2 ⟨s, hs⟩ k) = lead f 8 s := by
  pointwise
  rw [hz _ _ (by omega), hz _ _ (by omega), lead_double f 4 8 s rfl]
  congr 2
  omega

/-- A sum of 8 rows and the one 8 rows further on make a sum of 16. -/
theorem lead16 (hz : ∀ (s : ℕ) (hs : s < 528), s + 8 ≤ 528 → z (ix2 ⟨s, hs⟩ k) = lead f 8 s) (s : ℕ) (hs : s < 528) (h : s + 16 ≤ 528) :
    addf z (dynamicRotate 0 520#32 none z rotates_S528x128_d0) (ix2 ⟨s, hs⟩ k) = lead f 16 s := by
  pointwise
  rw [hz _ _ (by omega), hz _ _ (by omega), lead_double f 8 16 s rfl]
  congr 2
  omega

/-- The sums of 2 rows, minus a block. -/
theorem minus2 (v : FVec Ideal S512x128 .f32) (hf : ∀ (s : ℕ) (hs : s < 528), z (ix2 ⟨s, hs⟩ k) = f s) (r : Fin 512) :
    subf (extractStridedSlice S512x128 ![0, 0] (addf z (dynamicRotate 0 527#32 none z rotates_S528x128_d0)) slices_S528x128_o0_0_S512x128) v (ix2 r k) = lead f 2 r.val - v (ix2 r k) := by
  have hz : ∀ (s : ℕ) (hs : s < 528), s + 1 ≤ 528 → z (ix2 ⟨s, hs⟩ k) = lead f 1 s := fun s hs _ => (hf s hs).trans (lead_one f s).symm
  refine congrArg (· - v (ix2 r k)) (Eq.trans ?_ (lead2 k f z hz r.val (by omega) (by omega)))
  exact first_rows _ r k

/-- The sums of 4 rows, minus a block. -/
theorem minus4 (v : FVec Ideal S512x128 .f32) (hf : ∀ (s : ℕ) (hs : s < 528), z (ix2 ⟨s, hs⟩ k) = f s) (r : Fin 512) :
    subf (extractStridedSlice S512x128 ![0, 0] (addf (addf z (dynamicRotate 0 527#32 none z rotates_S528x128_d0)) (dynamicRotate 0 526#32 none (addf z (dynamicRotate 0 527#32 none z rotates_S528x128_d0)) rotates_S528x128_d0)) slices_S528x128_o0_0_S512x128) v (ix2 r k) = lead f 4 r.val - v (ix2 r k) := by
  have hz : ∀ (s : ℕ) (hs : s < 528), s + 1 ≤ 528 → z (ix2 ⟨s, hs⟩ k) = lead f 1 s := fun s hs _ => (hf s hs).trans (lead_one f s).symm
  refine congrArg (· - v (ix2 r k)) (Eq.trans ?_ (lead4 k f _ (lead2 k f z hz) r.val (by omega) (by omega)))
  exact first_rows _ r k

/-- The sums of 8 rows, minus a block. -/
theorem minus8 (v : FVec Ideal S512x128 .f32) (hf : ∀ (s : ℕ) (hs : s < 528), z (ix2 ⟨s, hs⟩ k) = f s) (r : Fin 512) :
    subf (extractStridedSlice S512x128 ![0, 0] (addf (addf (addf z (dynamicRotate 0 527#32 none z rotates_S528x128_d0)) (dynamicRotate 0 526#32 none (addf z (dynamicRotate 0 527#32 none z rotates_S528x128_d0)) rotates_S528x128_d0)) (dynamicRotate 0 524#32 none (addf (addf z (dynamicRotate 0 527#32 none z rotates_S528x128_d0)) (dynamicRotate 0 526#32 none (addf z (dynamicRotate 0 527#32 none z rotates_S528x128_d0)) rotates_S528x128_d0)) rotates_S528x128_d0)) slices_S528x128_o0_0_S512x128) v (ix2 r k) = lead f 8 r.val - v (ix2 r k) := by
  have hz : ∀ (s : ℕ) (hs : s < 528), s + 1 ≤ 528 → z (ix2 ⟨s, hs⟩ k) = lead f 1 s := fun s hs _ => (hf s hs).trans (lead_one f s).symm
  refine congrArg (· - v (ix2 r k)) (Eq.trans ?_ (lead8 k f _ (lead4 k f _ (lead2 k f z hz)) r.val (by omega) (by omega)))
  exact first_rows _ r k

/-- The sums of 16 rows, minus a block. -/
theorem minus16 (v : FVec Ideal S512x128 .f32) (hf : ∀ (s : ℕ) (hs : s < 528), z (ix2 ⟨s, hs⟩ k) = f s) (r : Fin 512) :
    subf (extractStridedSlice S512x128 ![0, 0] (addf (addf (addf (addf z (dynamicRotate 0 527#32 none z rotates_S528x128_d0)) (dynamicRotate 0 526#32 none (addf z (dynamicRotate 0 527#32 none z rotates_S528x128_d0)) rotates_S528x128_d0)) (dynamicRotate 0 524#32 none (addf (addf z (dynamicRotate 0 527#32 none z rotates_S528x128_d0)) (dynamicRotate 0 526#32 none (addf z (dynamicRotate 0 527#32 none z rotates_S528x128_d0)) rotates_S528x128_d0)) rotates_S528x128_d0)) (dynamicRotate 0 520#32 none (addf (addf (addf z (dynamicRotate 0 527#32 none z rotates_S528x128_d0)) (dynamicRotate 0 526#32 none (addf z (dynamicRotate 0 527#32 none z rotates_S528x128_d0)) rotates_S528x128_d0)) (dynamicRotate 0 524#32 none (addf (addf z (dynamicRotate 0 527#32 none z rotates_S528x128_d0)) (dynamicRotate 0 526#32 none (addf z (dynamicRotate 0 527#32 none z rotates_S528x128_d0)) rotates_S528x128_d0)) rotates_S528x128_d0)) rotates_S528x128_d0)) slices_S528x128_o0_0_S512x128) v (ix2 r k) = lead f 16 r.val - v (ix2 r k) := by
  have hz : ∀ (s : ℕ) (hs : s < 528), s + 1 ≤ 528 → z (ix2 ⟨s, hs⟩ k) = lead f 1 s := fun s hs _ => (hf s hs).trans (lead_one f s).symm
  refine congrArg (· - v (ix2 r k)) (Eq.trans ?_ (lead16 k f _ (lead8 k f _ (lead4 k f _ (lead2 k f z hz))) r.val (by omega) (by omega)))
  exact first_rows _ r k

end leading

theorem dz_of (g : Fin 4) (k : Fin 128) (w n : ℕ) (hw : width g = w) :
    lead (fun s => spread (argD m c) (argW m c) (argS m c) g k (t.val * 512 + s)) w n - dpool (argD m c) (argW m c) (argS m c) g (t.val * 512 + n) k
      = dzIn (argD m c) (argW m c) (argS m c) g (t.val * 512 + n) k := by
  rw [dzIn, hw]
  refine congrArg (· - _) (Finset.sum_congr rfl fun j _ => ?_)
  rw [Nat.add_assoc]

theorem dzCols0 (r : Fin 512) (k : Fin 128) :
    k0_pay25 (k0_pay22 (k0_pay19 (iblk m c 0 t)) (sc0 m c t) (wt0 m c t)) (k0_pay23 (k0_pay16 (BitVec.ofNat 32 (grid0.coords t 0).val)) (k0_pay19 (iblk m c 0 t)) (sc0 m c t) (wt0 m c t)) (Scalar.cmpi CmpIPredicate.eq (BitVec.ofNat 32 (grid0.coords t 0).val) 31#32) (k0_pay24 (nx0 m c t) (sc0 m c t) (wt0 m c t)) (FloatOps.ofBits FTy.f32 0#32) (ix2 r k) = dzIn (argD m c) (argW m c) (argS m c) 0 (t.val * 512 + r.val) k := by
  unfold k0_pay25
  refine (minus2 k (fun s => spread (argD m c) (argW m c) (argS m c) 0 k (t.val * 512 + s)) _ _ (fun s hs => ?_) r).trans ?_
  · refine spread_cat m c t 0 k _ (congrArg (BitVec.ofNat 32) (coord0 t)) _ _ (fun r' => ?_) (fun ht r' => ?_) s hs
    · unfold k0_pay23
      pointwise [dp0, coord0, row_at]
      exact spread_of m c t 0 k 2#32 rfl r'
    · unfold k0_pay24
      pointwise [nx0, sc0, wt0, blk1, blk4, blk5]
      exact spread_next m c t ht 0 k _ bits0 _ (fun x => by first | rfl | omega | (dsimp only; omega)) _ (fun x => by first | rfl | omega | (dsimp only; omega)) r' (by omega)
  · refine Eq.trans (congrArg (fun a : EReal => _ - a) ?_) (dz_of m c t 0 k 2 r.val rfl)
    exact dp0 m c t r k

theorem dzCols1 (r : Fin 512) (k : Fin 128) :
    k0_pay30 (BitVec.ofNat 32 (grid0.coords t 0).val) (k0_pay16 (BitVec.ofNat 32 (grid0.coords t 0).val)) (k0_pay28 (iblk m c 0 t) (sc1 m c t)) (wt1 m c t) (nx1 m c t) (sc1 m c t) (wt1 m c t) (ix2 r k) = dzIn (argD m c) (argW m c) (argS m c) 1 (t.val * 512 + r.val) k := by
  unfold k0_pay30
  refine (minus4 k (fun s => spread (argD m c) (argW m c) (argS m c) 1 k (t.val * 512 + s)) _ _ (fun s hs => ?_) r).trans ?_
  · refine spread_cat m c t 1 k _ (congrArg (BitVec.ofNat 32) (coord0 t)) _ _ (fun r' => ?_) (fun ht r' => ?_) s hs
    · pointwise [dm1, blk4, wt1, coord0, row_at]
      exact spread_of m c t 1 k 4#32 rfl r'
    · pointwise [nx1, sc1, wt1, blk1, blk4, blk5]
      exact spread_next m c t ht 1 k _ bits1 _ (fun x => by first | rfl | omega | (dsimp only; omega)) _ (fun x => by first | rfl | omega | (dsimp only; omega)) r' (by omega)
  · refine Eq.trans (congrArg (fun a : EReal => _ - a) ?_) (dz_of m c t 1 k 4 r.val rfl)
    pointwise [dm1, blk4, wt1]; rfl

theorem dzCols2 (r : Fin 512) (k : Fin 128) :
    k0_pay38 (BitVec.ofNat 32 (grid0.coords t 0).val) (k0_pay16 (BitVec.ofNat 32 (grid0.coords t 0).val)) (k0_pay36 (iblk m c 0 t) (sc2 m c t) (wt2 m c t)) (k0_pay37 (nx2 m c t) (sc2 m c t) (wt2 m c t)) (ix2 r k) = dzIn (argD m c) (argW m c) (argS m c) 2 (t.val * 512 + r.val) k := by
  unfold k0_pay38
  refine (minus8 k (fun s => spread (argD m c) (argW m c) (argS m c) 2 k (t.val * 512 + s)) _ _ (fun s hs => ?_) r).trans ?_
  · refine spread_cat m c t 2 k _ (congrArg (BitVec.ofNat 32) (coord0 t)) _ _ (fun r' => ?_) (fun ht r' => ?_) s hs
    · pointwise [dp2, coord0, row_at]
      exact spread_of m c t 2 k 8#32 rfl r'
    · unfold k0_pay37
      pointwise [nx2, sc2, wt2, blk1, blk4, blk5]
      exact spread_next m c t ht 2 k _ bits2 _ (fun x => by first | rfl | omega | (dsimp only; omega)) _ (fun x => by first | rfl | omega | (dsimp only; omega)) r' (by omega)
  · refine Eq.trans (congrArg (fun a : EReal => _ - a) ?_) (dz_of m c t 2 k 8 r.val rfl)
    exact dp2 m c t r k

theorem dzCols3 (r : Fin 512) (k : Fin 128) :
    k0_pay1 (k0_pay45 (k0_pay41 (iblk m c 0 t)) (k0_pay42 (sc3 m c t)) (wt3 m c t)) (k0_pay46 (BitVec.ofNat 32 (grid0.coords t 0).val) (k0_pay16 (BitVec.ofNat 32 (grid0.coords t 0).val)) (k0_pay41 (iblk m c 0 t)) (k0_pay42 (sc3 m c t)) (wt3 m c t) (nx3 m c t) (sc3 m c t) (wt3 m c t)) (ix2 r k) = dzIn (argD m c) (argW m c) (argS m c) 3 (t.val * 512 + r.val) k := by
  unfold k0_pay1
  refine (minus16 k (fun s => spread (argD m c) (argW m c) (argS m c) 3 k (t.val * 512 + s)) _ _ (fun s hs => ?_) r).trans ?_
  · unfold k0_pay46
    refine spread_cat m c t 3 k _ (congrArg (BitVec.ofNat 32) (coord0 t)) _ _ (fun r' => ?_) (fun ht r' => ?_) s hs
    · pointwise [dp3, coord0, row_at]
      exact spread_of m c t 3 k 16#32 rfl r'
    · pointwise [nx3, sc3, wt3, blk1, blk4, blk5]
      exact spread_next m c t ht 3 k _ bits3 _ (fun x => by first | rfl | omega | (dsimp only; omega)) _ (fun x => by first | rfl | omega | (dsimp only; omega)) r' (by omega)
  · refine Eq.trans (congrArg (fun a : EReal => _ - a) ?_) (dz_of m c t 3 k 16 r.val rfl)
    exact dp3 m c t r k

end Cert.PoolBwdProof
end
-- ==== Proof.PoolBwdSums.lean ====
module

public import proofs.«01_k».proof.Proof.PoolBwdBlock

/-! The pooling mixer's backward call: what one block adds to the weights' and the scale's gradients. -/

@[expose] public section

noncomputable section

namespace Cert.PoolBwdProof

open Idealize.ShloMosaic Idealize.SL.Sem Cert.PoolBwdIdeal Cert.PoolSpec Cert.PoolBwdSpec Cert.PoolBwdIdeal Cert.PoolBwdIdeal.Gen

variable (m : (ℓ : Loc nD τ sig) → Buf (Elt Ideal) ℓ) (c : Dev nD) (t : Fin cfg0.N)

theorem dwPage0 (cur : Vec Ideal S1x128x128 .f32) (k d : Fin 128) :
    k0_pay21 (k0_pay17 (k0_pay10 (grid0.coords t) (zcur m c t) (halo m c t))) (k0_pay19 (iblk m c 0 t)) (sc0 m c t) cur (ix3 (0 : Fin 1) k d)
      = cur (ix3 (0 : Fin 1) k d) + ∑ r : Fin 512, wTerm (argD m c) (argH m c) (argS m c) 0 k d (t.val * 512 + r.val) := by
  unfold k0_pay21 k0_pay17
  pointwise [pool0, dm0]
  exact congrArg (cur (ix3 (0 : Fin 1) k d) + ·) (Finset.sum_congr rfl fun r _ => wTerm_of _ _ _ 0 k d _ _ (by first | rfl | omega | (dsimp only; omega)))

theorem dsCols0 (cur : Vec Ideal S1x128 .f32) (d : Fin 128) (q : Fin 512) (hq : q.val = 128 * 0 + d.val) :
    k0_pay18 (k0_pay10 (grid0.coords t) (zcur m c t) (halo m c t)) (iblk m c 0 t) (wt0 m c t) cur (ix2 (0 : Fin 1) d)
      = cur (ix2 (0 : Fin 1) d) + ∑ r : Fin 512, sTerm (argD m c) (argH m c) (argW m c) q (t.val * 512 + r.val) := by
  unfold k0_pay18 k0_pay17
  pointwise [pool0, blk0, blk4, wt0]
  refine congrArg (cur (ix2 (0 : Fin 1) d) + ·) (Finset.sum_congr rfl fun r _ => ?_)
  rw [sTerm_group _ _ _ _ q 0 d hq]
  exact congrArg (· * mixed (argH m c) (argW m c) 0 (t.val * 512 + r.val) d) (gy_of (argD m c) _ _ q _ (by first | rfl | omega | (dsimp only; omega)))

theorem dwPage1 (cur : Vec Ideal S1x128x128 .f32) (k d : Fin 128) :
    k0_pay29 (k0_pay13 (zcur m c t) (k0_pay11 (grid0.coords t)) (k0_pay12 (grid0.coords t) (zcur m c t) (halo m c t))) (iblk m c 0 t) (sc1 m c t) cur (ix3 (0 : Fin 1) k d)
      = cur (ix3 (0 : Fin 1) k d) + ∑ r : Fin 512, wTerm (argD m c) (argH m c) (argS m c) 1 k d (t.val * 512 + r.val) := by
  unfold k0_pay29 k0_pay26
  pointwise [pool1, dm1]
  exact congrArg (cur (ix3 (0 : Fin 1) k d) + ·) (Finset.sum_congr rfl fun r _ => wTerm_of _ _ _ 1 k d _ _ (by first | rfl | omega | (dsimp only; omega)))

theorem dsCols1 (cur : Vec Ideal S1x128 .f32) (d : Fin 128) (q : Fin 512) (hq : q.val = 128 * 1 + d.val) :
    k0_pay27 (k0_pay13 (zcur m c t) (k0_pay11 (grid0.coords t)) (k0_pay12 (grid0.coords t) (zcur m c t) (halo m c t))) (iblk m c 0 t) (wt1 m c t) cur (ix2 (0 : Fin 1) d)
      = cur (ix2 (0 : Fin 1) d) + ∑ r : Fin 512, sTerm (argD m c) (argH m c) (argW m c) q (t.val * 512 + r.val) := by
  unfold k0_pay27 k0_pay26
  pointwise [pool1, blk0, blk4, wt1]
  refine congrArg (cur (ix2 (0 : Fin 1) d) + ·) (Finset.sum_congr rfl fun r _ => ?_)
  rw [sTerm_group _ _ _ _ q 1 d hq]
  exact congrArg (· * mixed (argH m c) (argW m c) 1 (t.val * 512 + r.val) d) (gy_of (argD m c) _ _ q _ (by first | rfl | omega | (dsimp only; omega)))

theorem dwPage2 (cur : Vec Ideal S1x128x128 .f32) (k d : Fin 128) :
    k0_pay35 (iblk m c 0 t) (k0_pay31 (k0_pay14 (zcur m c t) (k0_pay7 (grid0.coords t) (zcur m c t) (halo m c t)) (k0_pay9 (grid0.coords t)))) (sc2 m c t) cur (ix3 (0 : Fin 1) k d)
      = cur (ix3 (0 : Fin 1) k d) + ∑ r : Fin 512, wTerm (argD m c) (argH m c) (argS m c) 2 k d (t.val * 512 + r.val) := by
  unfold k0_pay35 k0_pay31
  pointwise [pool2, dm2]
  exact congrArg (cur (ix3 (0 : Fin 1) k d) + ·) (Finset.sum_congr rfl fun r _ => wTerm_of _ _ _ 2 k d _ _ (by first | rfl | omega | (dsimp only; omega)))

theorem dsCols2 (cur : Vec Ideal S1x128 .f32) (d : Fin 128) (q : Fin 512) (hq : q.val = 128 * 2 + d.val) :
    k0_pay33 (iblk m c 0 t) (k0_pay32 (k0_pay14 (zcur m c t) (k0_pay7 (grid0.coords t) (zcur m c t) (halo m c t)) (k0_pay9 (grid0.coords t))) (wt2 m c t)) cur (ix2 (0 : Fin 1) d)
      = cur (ix2 (0 : Fin 1) d) + ∑ r : Fin 512, sTerm (argD m c) (argH m c) (argW m c) q (t.val * 512 + r.val) := by
  unfold k0_pay33 k0_pay32 k0_pay31
  pointwise [pool2, blk0, blk4, wt2]
  refine congrArg (cur (ix2 (0 : Fin 1) d) + ·) (Finset.sum_congr rfl fun r _ => ?_)
  rw [sTerm_group _ _ _ _ q 2 d hq]
  exact congrArg (· * mixed (argH m c) (argW m c) 2 (t.val * 512 + r.val) d) (gy_of (argD m c) _ _ q _ (by first | rfl | omega | (dsimp only; omega)))

theorem dwPage3 (cur : Vec Ideal S1x128x128 .f32) (k d : Fin 128) :
    k0_pay44 (k0_pay39 (k0_pay15 (zcur m c t) (k0_pay8 (grid0.coords t) (zcur m c t) (halo m c t)) (k0_pay9 (grid0.coords t)))) (k0_pay41 (iblk m c 0 t)) (k0_pay42 (sc3 m c t)) cur (ix3 (0 : Fin 1) k d)
      = cur (ix3 (0 : Fin 1) k d) + ∑ r : Fin 512, wTerm (argD m c) (argH m c) (argS m c) 3 k d (t.val * 512 + r.val) := by
  unfold k0_pay44 k0_pay39
  pointwise [pool3, dm3]
  exact congrArg (cur (ix3 (0 : Fin 1) k d) + ·) (Finset.sum_congr rfl fun r _ => wTerm_of _ _ _ 3 k d _ _ (by first | rfl | omega | (dsimp only; omega)))

theorem dsCols3 (cur : Vec Ideal S1x128 .f32) (d : Fin 128) (q : Fin 512) (hq : q.val = 128 * 3 + d.val) :
    k0_pay40 (k0_pay15 (zcur m c t) (k0_pay8 (grid0.coords t) (zcur m c t) (halo m c t)) (k0_pay9 (grid0.coords t))) (iblk m c 0 t) (wt3 m c t) cur (ix2 (0 : Fin 1) d)
      = cur (ix2 (0 : Fin 1) d) + ∑ r : Fin 512, sTerm (argD m c) (argH m c) (argW m c) q (t.val * 512 + r.val) := by
  unfold k0_pay40 k0_pay39
  pointwise [pool3, blk0, blk4, wt3]
  refine congrArg (cur (ix2 (0 : Fin 1) d) + ·) (Finset.sum_congr rfl fun r _ => ?_)
  rw [sTerm_group _ _ _ _ q 3 d hq]
  exact congrArg (· * mixed (argH m c) (argW m c) 3 (t.val * 512 + r.val) d) (gy_of (argD m c) _ _ q _ (by first | rfl | omega | (dsimp only; omega)))

end Cert.PoolBwdProof
end
-- ==== Proof.PoolBwdOut.lean ====
module

public import proofs.«01_k».proof.Proof.PoolBwdDz
public import proofs.«01_k».proof.Proof.PoolBwdSums
public import Idealize.ShloMosaic.Lib.Pipeline.ReadBack
public import Idealize.ShloMosaic.Lib.WritesUnit

/-! The pooling mixer's backward call: the three results, whole. -/

@[expose] public section

noncomputable section

namespace Cert.PoolBwdProof

open Idealize.ShloMosaic Idealize.SL.Sem Cert.PoolBwdIdeal Cert.PoolSpec Cert.PoolBwdSpec Cert.PoolBwdIdeal Cert.PoolBwdIdeal.Gen

variable (m : (ℓ : Loc nD τ sig) → Buf (Elt Ideal) ℓ) (c : Dev nD) (t : Fin cfg0.N)

/-- A tile of 128 columns holds the gradients of its group. -/
theorem tile (P : FVec Ideal S512x128 .f32) (g : Fin 4)
    (hP : ∀ r k, P (ix2 r k) = dzIn (argD m c) (argW m c) (argS m c) g (t.val * 512 + r.val) k) (x : S512x128.Idx) (r q : Fin 512)
    (h0 : r.val = (x 0).val) (h1 : q.val = 128 * g.val + (x 1).val) :
    P x = dzAt (argD m c) (argW m c) (argS m c) ⟨t.val * 512 + r.val, by have := lt32 t; omega⟩ q := by
  obtain ⟨r', k, rfl⟩ : ∃ (r' : Fin 512) (k : Fin 128), x = ix2 r' k := ⟨x 0, x 1, eq_ix2 x⟩
  obtain rfl : r = r' := Fin.ext h0
  exact (hP r k).trans (dzAt_group (argD m c) (argW m c) (argS m c) ⟨t.val * 512 + r.val, by have := lt32 t; omega⟩ q g k h1).symm

theorem block6 (r q : Fin 512) : (outsAt0 m c t.val t.isLt).1 (ix2 r q)
    = dz (argD m c) (argW m c) (argS m c) (ix2 ⟨t.val * 512 + r.val, by have := lt32 t; omega⟩ q) := by
  show _ = dzAt (argD m c) (argW m c) (argS m c) ⟨t.val * 512 + r.val, by have := lt32 t; omega⟩ q
  by_cases hc : t.val % 32 = 0
  on_goal 1 => rw [outsAt0_A m c t hc]
  on_goal 2 => rw [outsAt0_B m c t hc]
  all_goals
    frame_out
    canon_tiles x h
    · exact tile m c t _ 3 (dzCols3 m c t) x r q h0 h1
    · exact tile m c t _ 2 (dzCols2 m c t) x r q h0 h1
    · exact tile m c t _ 1 (dzCols1 m c t) x r q h0 h1
    · exact tile m c t _ 0 (dzCols0 m c t) x r q h0 (h1.trans (Nat.zero_add _).symm)

theorem idx6 : ∀ t : Fin cfg0.N, win0_6.index t = ![t.val, 0] := by decide +kernel

/-- The call's first result: the gradient of the mixer's input. -/
theorem out6 : (dats m 0 c).arrAt 6 cfg0.N = dz (argD m c) (argW m c) (argS m c) := by
  refine (dats m 0 c).arrAt_eq_of_covers 6 _ (by decide +kernel) fun t hf y => ?_
  blk_simp
  rw [after0_6]
  obtain ⟨r, q, rfl⟩ : ∃ (r q : Fin 512), y = ix2 r q := ⟨y 0, y 1, eq_ix2 y⟩
  refine (block6 m c t r q).trans (congrArg (dz (argD m c) (argW m c) (argS m c)) (?_ : ix2 _ _ = _))
  blk_ext [idx6 t]

/-- The grid's last point. -/
def tEnd : Fin cfg0.N := ⟨31, by decide +kernel⟩

/-- Reading after a store of page `o`: the stored page at `o`, what was there before elsewhere. -/
theorem page_hit {o : ℕ} (inb : ∀ a, (![o, 0, 0] : Fin 3 → ℕ) a + (![1, 128, 128] : Fin 3 → ℕ) a ≤ S4x128x128.size a)
    (w : (Rect.unit (s := S4x128x128) ![o, 0, 0] ![1, 128, 128] inb).shape.Idx → EReal)
    (L : List (View.Piece (Elt Ideal) S4x128x128 .f32)) (g : Fin 4) (k d : Fin 128) (h : g.val = o) :
    View.canon (Val := Elt Ideal) (s := S4x128x128) (e := .f32) (⟨Rect.unit ![o, 0, 0] ![1, 128, 128] inb, w⟩ :: L) (ix3 g k d)
      = w (ix3 (0 : Fin 1) k d) := by
  have e : (ix3 g k d : S4x128x128.Idx) = (Rect.unit (s := S4x128x128) ![o, 0, 0] ![1, 128, 128] inb).emb (ix3 (0 : Fin 1) k d) := by
    funext a
    apply Fin.ext
    rw [Rect.emb_apply]
    fin_cases a
    · show g.val = o + 1 * 0; omega
    · show k.val = 0 + 1 * k.val; omega
    · show d.val = 0 + 1 * d.val; omega
  rw [e, View.canon_cons_emb]

theorem page_miss {o : ℕ} (inb : ∀ a, (![o, 0, 0] : Fin 3 → ℕ) a + (![1, 128, 128] : Fin 3 → ℕ) a ≤ S4x128x128.size a)
    (w : (Rect.unit (s := S4x128x128) ![o, 0, 0] ![1, 128, 128] inb).shape.Idx → EReal)
    (L : List (View.Piece (Elt Ideal) S4x128x128 .f32)) (g : Fin 4) (k d : Fin 128) (h : g.val ≠ o) :
    View.canon (Val := Elt Ideal) (s := S4x128x128) (e := .f32) (⟨Rect.unit ![o, 0, 0] ![1, 128, 128] inb, w⟩ :: L) (ix3 g k d)
      = View.canon L (ix3 g k d) := by
  refine View.canon_cons_of_not_mem _ L fun hm => h ?_
  have hb : (![o, 0, 0] : Fin 3 → ℕ) 0 ≤ ((ix3 g k d : S4x128x128.Idx) 0).val
      ∧ ((ix3 g k d : S4x128x128.Idx) 0).val < (![o, 0, 0] : Fin 3 → ℕ) 0 + (![1, 128, 128] : Fin 3 → ℕ) 0 :=
    (Rect.mem_set_unit (inb := inb)).mp hm 0
  have h1 : o ≤ g.val := hb.1
  have h2 : g.val < o + 1 := hb.2
  omega

/-- The same with 128 columns of the one row. -/
theorem cols_hit {o : ℕ} (inb : ∀ a, (![0, o] : Fin 2 → ℕ) a + (![1, 128] : Fin 2 → ℕ) a ≤ S1x512.size a)
    (w : (Rect.unit (s := S1x512) ![0, o] ![1, 128] inb).shape.Idx → EReal)
    (L : List (View.Piece (Elt Ideal) S1x512 .f32)) (q : Fin 512) (d : Fin 128) (h : q.val = o + d.val) :
    View.canon (Val := Elt Ideal) (s := S1x512) (e := .f32) (⟨Rect.unit ![0, o] ![1, 128] inb, w⟩ :: L) (ix2 (0 : Fin 1) q)
      = w (ix2 (0 : Fin 1) d) := by
  have e : (ix2 (0 : Fin 1) q : S1x512.Idx) = (Rect.unit (s := S1x512) ![0, o] ![1, 128] inb).emb (ix2 (0 : Fin 1) d) := by
    funext a
    apply Fin.ext
    rw [Rect.emb_apply]
    fin_cases a
    · rfl
    · show q.val = o + 1 * d.val; omega
  rw [e, View.canon_cons_emb]

theorem cols_miss {o : ℕ} (inb : ∀ a, (![0, o] : Fin 2 → ℕ) a + (![1, 128] : Fin 2 → ℕ) a ≤ S1x512.size a)
    (w : (Rect.unit (s := S1x512) ![0, o] ![1, 128] inb).shape.Idx → EReal)
    (L : List (View.Piece (Elt Ideal) S1x512 .f32)) (q : Fin 512) (h : ¬ (o ≤ q.val ∧ q.val < o + 128)) :
    View.canon (Val := Elt Ideal) (s := S1x512) (e := .f32) (⟨Rect.unit ![0, o] ![1, 128] inb, w⟩ :: L) (ix2 (0 : Fin 1) q)
      = View.canon L (ix2 (0 : Fin 1) q) := by
  refine View.canon_cons_of_not_mem _ L fun hm => h ?_
  have hb : (![0, o] : Fin 2 → ℕ) 1 ≤ ((ix2 (0 : Fin 1) q : S1x512.Idx) 1).val
      ∧ ((ix2 (0 : Fin 1) q : S1x512.Idx) 1).val < (![0, o] : Fin 2 → ℕ) 1 + (![1, 128] : Fin 2 → ℕ) 1 :=
    (Rect.mem_set_unit (inb := inb)).mp hm 1
  exact ⟨hb.1, hb.2⟩

/-- What block `b` adds to the weights' gradient. -/
def wBlock (b : ℕ) (y : S4x128x128.Idx) : EReal := ∑ r : Fin 512, wTerm (argD m c) (argH m c) (argS m c) (y 0) (y 1) (y 2) (b * 512 + r.val)

/-- What block `b` adds to the scale's gradient. -/
def sBlock (b : ℕ) (y : S1x512.Idx) : EReal := ∑ r : Fin 512, sTerm (argD m c) (argH m c) (argW m c) (y 1) (b * 512 + r.val)

theorem step7 (hc : ¬ t.val % 32 = 0) (y : S4x128x128.Idx) : (outsAt0 m c t.val t.isLt).2.1 y
    = (outsAt0 m c (t.val - 1) (Nat.lt_of_le_of_lt (Nat.sub_le _ _) t.isLt)).2.1 y + wBlock m c t.val y := by
  obtain ⟨g, k, d, rfl⟩ : ∃ (g : Fin 4) (k d : Fin 128), y = ix3 g k d := ⟨y 0, y 1, y 2, eq_ix3 y⟩
  rw [outsAt0_B m c t hc]
  frame_out
  canon_tiles x h
  · obtain ⟨i, k', d', rfl⟩ : ∃ (i : Fin 1) (k' d' : Fin 128), x = ix3 i k' d' := ⟨x 0, x 1, x 2, eq_ix3 x⟩
    obtain rfl : i = 0 := Subsingleton.elim _ _
    obtain rfl : k = k' := Fin.ext h1
    obtain rfl : d = d' := Fin.ext h2
    obtain rfl : g = 3 := Fin.ext h0
    refine (dwPage3 m c t _ k d).trans ?_
    refine congrArg (· + wBlock m c t.val (ix3 3 k d)) ?_
    pointwise
  · obtain ⟨i, k', d', rfl⟩ : ∃ (i : Fin 1) (k' d' : Fin 128), x = ix3 i k' d' := ⟨x 0, x 1, x 2, eq_ix3 x⟩
    obtain rfl : i = 0 := Subsingleton.elim _ _
    obtain rfl : k = k' := Fin.ext h1
    obtain rfl : d = d' := Fin.ext h2
    obtain rfl : g = 2 := Fin.ext h0
    refine (dwPage2 m c t _ k d).trans ?_
    refine congrArg (· + wBlock m c t.val (ix3 2 k d)) ?_
    pointwise
  · obtain ⟨i, k', d', rfl⟩ : ∃ (i : Fin 1) (k' d' : Fin 128), x = ix3 i k' d' := ⟨x 0, x 1, x 2, eq_ix3 x⟩
    obtain rfl : i = 0 := Subsingleton.elim _ _
    obtain rfl : k = k' := Fin.ext h1
    obtain rfl : d = d' := Fin.ext h2
    obtain rfl : g = 1 := Fin.ext h0
    refine (dwPage1 m c t _ k d).trans ?_
    refine congrArg (· + wBlock m c t.val (ix3 1 k d)) ?_
    pointwise
  · obtain ⟨i, k', d', rfl⟩ : ∃ (i : Fin 1) (k' d' : Fin 128), x = ix3 i k' d' := ⟨x 0, x 1, x 2, eq_ix3 x⟩
    obtain rfl : i = 0 := Subsingleton.elim _ _
    obtain rfl : k = k' := Fin.ext h1
    obtain rfl : d = d' := Fin.ext h2
    obtain rfl : g = 0 := Fin.ext h0
    refine (dwPage0 m c t _ k d).trans ?_
    refine congrArg (· + wBlock m c t.val (ix3 0 k d)) ?_
    pointwise

theorem start7 (hc : t.val % 32 = 0) (y : S4x128x128.Idx) : (outsAt0 m c t.val t.isLt).2.1 y = 0 + wBlock m c t.val y := by
  obtain ⟨g, k, d, rfl⟩ : ∃ (g : Fin 4) (k d : Fin 128), y = ix3 g k d := ⟨y 0, y 1, y 2, eq_ix3 y⟩
  rw [outsAt0_A m c t hc]
  frame_open
  simp (disch := decide) only [↓ View.readCov_skip, ↓ View.readCov_cons_toLoadRect, ↓ View.readCov_fill]
  frame_out
  have z : ∀ (g : Fin 4), (k0_pay2 (F := Ideal)) (ix3 g k d) = 0 := fun g => by
    unfold k0_pay2
    pointwise
  by_cases e3 : g.val = 3
  · obtain rfl : g = 3 := Fin.ext e3
    refine (page_hit _ _ _ 3 k d rfl).trans ((dwPage3 m c t _ k d).trans ?_)
    refine congrArg (· + wBlock m c t.val (ix3 3 k d)) ?_
    pointwise [z]
  refine (page_miss _ _ _ g k d e3).trans ?_
  by_cases e2 : g.val = 2
  · obtain rfl : g = 2 := Fin.ext e2
    refine (page_hit _ _ _ 2 k d rfl).trans ((dwPage2 m c t _ k d).trans ?_)
    refine congrArg (· + wBlock m c t.val (ix3 2 k d)) ?_
    pointwise [z]
  refine (page_miss _ _ _ g k d e2).trans ?_
  by_cases e1 : g.val = 1
  · obtain rfl : g = 1 := Fin.ext e1
    refine (page_hit _ _ _ 1 k d rfl).trans ((dwPage1 m c t _ k d).trans ?_)
    refine congrArg (· + wBlock m c t.val (ix3 1 k d)) ?_
    pointwise [z]
  refine (page_miss _ _ _ g k d e1).trans ?_
  by_cases e0 : g.val = 0
  · obtain rfl : g = 0 := Fin.ext e0
    refine (page_hit _ _ _ 0 k d rfl).trans ((dwPage0 m c t _ k d).trans ?_)
    refine congrArg (· + wBlock m c t.val (ix3 0 k d)) ?_
    pointwise [z]
  refine (page_miss _ _ _ g k d e0).trans ?_
  omega

theorem step8 (hc : ¬ t.val % 32 = 0) (y : S1x512.Idx) : (outsAt0 m c t.val t.isLt).2.2 y
    = (outsAt0 m c (t.val - 1) (Nat.lt_of_le_of_lt (Nat.sub_le _ _) t.isLt)).2.2 y + sBlock m c t.val y := by
  obtain ⟨i, q, rfl⟩ : ∃ (i : Fin 1) (q : Fin 512), y = ix2 i q := ⟨y 0, y 1, eq_ix2 y⟩
  obtain rfl : i = 0 := Subsingleton.elim _ _
  rw [outsAt0_B m c t hc]
  frame_out
  canon_tiles x h
  · obtain ⟨i, d, rfl⟩ : ∃ (i : Fin 1) (d : Fin 128), x = ix2 i d := ⟨x 0, x 1, eq_ix2 x⟩
    obtain rfl : i = 0 := Subsingleton.elim _ _
    refine (dsCols3 m c t _ d q (show q.val = 128 * 3 + d.val from h1)).trans ?_
    refine congrArg (· + sBlock m c t.val (ix2 0 q)) ?_
    pointwise
    exact congrArg (fun v => (outsAt0 m c (t.val - 1) (Nat.lt_of_le_of_lt (Nat.sub_le _ _) t.isLt)).2.2 (ix2 0 v)) (Fin.ext h1.symm)
  · obtain ⟨i, d, rfl⟩ : ∃ (i : Fin 1) (d : Fin 128), x = ix2 i d := ⟨x 0, x 1, eq_ix2 x⟩
    obtain rfl : i = 0 := Subsingleton.elim _ _
    refine (dsCols2 m c t _ d q (show q.val = 128 * 2 + d.val from h1)).trans ?_
    refine congrArg (· + sBlock m c t.val (ix2 0 q)) ?_
    pointwise
    exact congrArg (fun v => (outsAt0 m c (t.val - 1) (Nat.lt_of_le_of_lt (Nat.sub_le _ _) t.isLt)).2.2 (ix2 0 v)) (Fin.ext h1.symm)
  · obtain ⟨i, d, rfl⟩ : ∃ (i : Fin 1) (d : Fin 128), x = ix2 i d := ⟨x 0, x 1, eq_ix2 x⟩
    obtain rfl : i = 0 := Subsingleton.elim _ _
    refine (dsCols1 m c t _ d q (show q.val = 128 * 1 + d.val from h1)).trans ?_
    refine congrArg (· + sBlock m c t.val (ix2 0 q)) ?_
    pointwise
    exact congrArg (fun v => (outsAt0 m c (t.val - 1) (Nat.lt_of_le_of_lt (Nat.sub_le _ _) t.isLt)).2.2 (ix2 0 v)) (Fin.ext h1.symm)
  · obtain ⟨i, d, rfl⟩ : ∃ (i : Fin 1) (d : Fin 128), x = ix2 i d := ⟨x 0, x 1, eq_ix2 x⟩
    obtain rfl : i = 0 := Subsingleton.elim _ _
    refine (dsCols0 m c t _ d q (by show q.val = 128 * 0 + d.val; rw [Nat.mul_zero, Nat.zero_add]; exact h1)).trans ?_
    refine congrArg (· + sBlock m c t.val (ix2 0 q)) ?_
    pointwise
    exact congrArg (fun v => (outsAt0 m c (t.val - 1) (Nat.lt_of_le_of_lt (Nat.sub_le _ _) t.isLt)).2.2 (ix2 0 v)) (Fin.ext h1.symm)

theorem start8 (hc : t.val % 32 = 0) (y : S1x512.Idx) : (outsAt0 m c t.val t.isLt).2.2 y = 0 + sBlock m c t.val y := by
  obtain ⟨i, q, rfl⟩ : ∃ (i : Fin 1) (q : Fin 512), y = ix2 i q := ⟨y 0, y 1, eq_ix2 y⟩
  obtain rfl : i = 0 := Subsingleton.elim _ _
  rw [outsAt0_A m c t hc]
  frame_open
  simp (disch := decide) only [↓ View.readCov_skip, ↓ View.readCov_cons_toLoadRect, ↓ View.readCov_fill]
  frame_out
  have z : ∀ (q : Fin 512), (k0_pay3 (F := Ideal)) (ix2 (0 : Fin 1) q) = 0 := fun q => by
    unfold k0_pay3
    pointwise
  by_cases e3 : 384 ≤ q.val ∧ q.val < 384 + 128
  · refine (cols_hit _ _ _ q ⟨q.val - 384, by omega⟩ (by dsimp only; omega)).trans ((dsCols3 m c t _ _ q (by show q.val = 128 * 3 + (q.val - 384); omega)).trans ?_)
    refine congrArg (· + sBlock m c t.val (ix2 0 q)) ?_
    pointwise [z]
  refine (cols_miss _ _ _ q e3).trans ?_
  by_cases e2 : 256 ≤ q.val ∧ q.val < 256 + 128
  · refine (cols_hit _ _ _ q ⟨q.val - 256, by omega⟩ (by dsimp only; omega)).trans ((dsCols2 m c t _ _ q (by show q.val = 128 * 2 + (q.val - 256); omega)).trans ?_)
    refine congrArg (· + sBlock m c t.val (ix2 0 q)) ?_
    pointwise [z]
  refine (cols_miss _ _ _ q e2).trans ?_
  by_cases e1 : 128 ≤ q.val ∧ q.val < 128 + 128
  · refine (cols_hit _ _ _ q ⟨q.val - 128, by omega⟩ (by dsimp only; omega)).trans ((dsCols1 m c t _ _ q (by show q.val = 128 * 1 + (q.val - 128); omega)).trans ?_)
    refine congrArg (· + sBlock m c t.val (ix2 0 q)) ?_
    pointwise [z]
  refine (cols_miss _ _ _ q e1).trans ?_
  by_cases e0 : 0 ≤ q.val ∧ q.val < 0 + 128
  · refine (cols_hit _ _ _ q ⟨q.val - 0, by omega⟩ (by dsimp only; omega)).trans ((dsCols0 m c t _ _ q (by show q.val = 128 * 0 + (q.val - 0); omega)).trans ?_)
    refine congrArg (· + sBlock m c t.val (ix2 0 q)) ?_
    pointwise [z]
  refine (cols_miss _ _ _ q e0).trans ?_
  omega

theorem total7 (y : S4x128x128.Idx) : (outsAt0 m c t.val t.isLt).2.1 y = ∑ b ∈ Finset.range (t.val + 1), wBlock m c b y := by
  have h := Pipeline.eq_sum_of_reset_step_apply_single (M := EReal) (fun n h => ((outsAt0 m c n h).2.1 : S4x128x128.Idx → EReal)) 32 0
    (fun b y => wBlock m c b y) (fun t h0 y => start7 m c t h0 y) (fun t h0 y => step7 m c t h0 y) (by decide +kernel) t y
  exact h.trans (zero_add _)

theorem total8 (y : S1x512.Idx) : (outsAt0 m c t.val t.isLt).2.2 y = ∑ b ∈ Finset.range (t.val + 1), sBlock m c b y := by
  have h := Pipeline.eq_sum_of_reset_step_apply_single (M := EReal) (fun n h => ((outsAt0 m c n h).2.2 : S1x512.Idx → EReal)) 32 0
    (fun b y => sBlock m c b y) (fun t h0 y => start8 m c t h0 y) (fun t h0 y => step8 m c t h0 y) (by decide +kernel) t y
  exact h.trans (zero_add _)

/-- The blocks' sums add up to the sum over all rows. -/
theorem blocks (f : ℕ → EReal) : ∑ b ∈ Finset.range 32, ∑ r : Fin 512, f (b * 512 + r.val) = ∑ T ∈ Finset.range 16384, f T := by
  rw [show (16384 : ℕ) = 32 * 512 from rfl, Finset.sum_range_mul_split]
  exact Finset.sum_congr rfl fun b _ => Fin.sum_univ_eq_sum_range (fun r => f (b * 512 + r)) 512

/-- The call's second result: the gradient of the weights. -/
theorem out7 : (dats m 0 c).arrAt 7 cfg0.N = dw (argD m c) (argH m c) (argS m c) := by
  refine (dats m 0 c).arrAt_eq_of_after_last 7 tEnd (by decide +kernel) _ fun y => ?_
  blk_simp
  rw [after0_7]
  exact (total7 m c tEnd y).trans (blocks fun T => wTerm (argD m c) (argH m c) (argS m c) (y 0) (y 1) (y 2) T)

/-- The call's third result: the gradient of the scale. -/
theorem out8 : (dats m 0 c).arrAt 8 cfg0.N = ds (argD m c) (argH m c) (argW m c) := by
  refine (dats m 0 c).arrAt_eq_of_after_last 8 tEnd (by decide +kernel) _ fun y => ?_
  blk_simp
  rw [after0_8]
  exact (total8 m c tEnd y).trans (blocks fun T => sTerm (argD m c) (argH m c) (argW m c) (y 1) T)

end Cert.PoolBwdProof
end
-- ==== Proof.PoolBwdClaim.lean ====
module

public import proofs.«01_k».proof.Proof.PoolBwdRef
public import proofs.«01_k».proof.Proof.PoolBwdOut

/-! The pooling mixer's backward call: the claim. -/

@[expose] public section

noncomputable section

namespace Cert.PoolBwdProof

open Idealize.ShloMosaic Idealize.SL.Sem Cert.PoolSpec Cert.PoolBwdSpec Cert.PoolBwdRefProof

/-- The reference runs to its end and leaves its arguments and every counter as they were. -/
theorem ref_frame : Cert.quiescent_PoolBwdRefIdeal (hPoolBwdRefIdeal := Cert.PoolBwdRefIdeal.Gen.facts) := fun m ρ _ =>
  (θ_run _ _ _).mono (fun r h => ⟨fun c => (h c).2.2.2, sem_eq_zero_of_no_sems (by decide) r.2⟩)
    (Cert.PoolBwdRefIdeal.Value.run m ρ)

/-- The call and its reference end with the same arrays. -/
theorem algebraic :
    Cert.algebraic_PoolBwdIdeal_PoolBwdRefIdeal (hPoolBwdIdeal := Cert.PoolBwdIdeal.Gen.facts) (hPoolBwdRefIdeal := Cert.PoolBwdRefIdeal.Gen.facts) := by
  intro m g m' g' _ hargs
  refine ⟨fun c => dz (argD m c) (argW m c) (argS m c), fun c => dw (argD m c) (argH m c) (argS m c), fun c => ds (argD m c) (argH m c) (argW m c), ?_, ?_⟩
  · refine (θ_run _ _ _).mono (fun r hr c => ?_) (Cert.PoolBwdIdeal.Value.run_blocks m g)
    obtain ⟨h6, h7, h8, rest⟩ := hr c
    exact ⟨h6.trans (out6 m c), h7.trans (out7 m c), h8.trans (out8 m c), rest⟩
  · refine (θ_run _ _ _).mono (fun r hr c => ?_) (Cert.PoolBwdRefIdeal.Value.run m' g')
    obtain ⟨e0, e1, e2, e3⟩ := hargs c
    obtain ⟨h6, h7, h8, rest⟩ := hr c
    refine ⟨h6.trans ((Cert.PoolBwdRefIdeal.Read.val_main_v131_eq _ _).trans ?_), h7.trans ((Cert.PoolBwdRefIdeal.Read.val_main_v122_eq _ _).trans ?_),
      h8.trans ((Cert.PoolBwdRefIdeal.Read.val_main_v132_eq _ _).trans ?_), rest⟩
    · rw [e0, e2, e3]
      exact ref_value6 _ _ _
    · rw [e0, e1, e3]
      exact ref_value7 _ _ _
    · rw [e0, e1, e2]
      exact ref_value8 _ _ _

end Cert.PoolBwdProof
end
-- ==== Proof.lean ====
module

public import proofs.«01_k».proof.Defs
public import proofs.«01_k».proof.Proof.Gen.Conv.Frame
public import proofs.«01_k».proof.Proof.Gen.ConvIdeal.Frame
public import proofs.«01_k».proof.Proof.ConvClaim
public import proofs.«01_k».proof.Proof.Gen.DFfnDown.Frame
public import proofs.«01_k».proof.Proof.Gen.DFfnDownIdeal.Frame
public import proofs.«01_k».proof.Proof.DFfnDownClaim
public import proofs.«01_k».proof.Proof.Gen.DInA.Frame
public import proofs.«01_k».proof.Proof.Gen.DInAIdeal.Frame
public import proofs.«01_k».proof.Proof.DInAClaim
public import proofs.«01_k».proof.Proof.Gen.DInB.Frame
public import proofs.«01_k».proof.Proof.Gen.DInBIdeal.Frame
public import proofs.«01_k».proof.Proof.DInBClaim
public import proofs.«01_k».proof.Proof.Gen.DOut.Frame
public import proofs.«01_k».proof.Proof.Gen.DOutIdeal.Frame
public import proofs.«01_k».proof.Proof.DOutClaim
public import proofs.«01_k».proof.Proof.Gen.DPleGate.Frame
public import proofs.«01_k».proof.Proof.Gen.DPleGateIdeal.Frame
public import proofs.«01_k».proof.Proof.DPleGateClaim
public import proofs.«01_k».proof.Proof.Gen.DPleProj.Frame
public import proofs.«01_k».proof.Proof.Gen.DPleProjIdeal.Frame
public import proofs.«01_k».proof.Proof.DPleProjClaim
public import proofs.«01_k».proof.Proof.Gen.DGlu.Frame
public import proofs.«01_k».proof.Proof.Gen.DGluIdeal.Frame
public import proofs.«01_k».proof.Proof.DGluClaim
public import proofs.«01_k».proof.Proof.Gen.DFfnUp.Frame
public import proofs.«01_k».proof.Proof.Gen.DFfnUpIdeal.Frame
public import proofs.«01_k».proof.Proof.DFfnUpClaim
public import proofs.«01_k».proof.Proof.Gen.InProj.Frame
public import proofs.«01_k».proof.Proof.Gen.InProjIdeal.Frame
public import proofs.«01_k».proof.Proof.InProjClaim
public import proofs.«01_k».proof.Proof.Gen.OutBwd.Frame
public import proofs.«01_k».proof.Proof.Gen.OutBwdIdeal.Frame
public import proofs.«01_k».proof.Proof.OutBwdClaim
public import proofs.«01_k».proof.Proof.Gen.InBwdEven.Frame
public import proofs.«01_k».proof.Proof.Gen.InBwdEvenIdeal.Frame
public import proofs.«01_k».proof.Proof.InBwdEvenClaim
public import proofs.«01_k».proof.Proof.Gen.InBwdOdd.Frame
public import proofs.«01_k».proof.Proof.Gen.InBwdOddIdeal.Frame
public import proofs.«01_k».proof.Proof.InBwdOddClaim
public import proofs.«01_k».proof.Proof.Gen.OutLn.Frame
public import proofs.«01_k».proof.Proof.Gen.OutLnIdeal.Frame
public import proofs.«01_k».proof.Proof.OutLnClaim
public import proofs.«01_k».proof.Proof.Gen.DownLn.Frame
public import proofs.«01_k».proof.Proof.Gen.DownLnIdeal.Frame
public import proofs.«01_k».proof.Proof.DownLnClaim
public import proofs.«01_k».proof.Proof.Gen.Ple.Frame
public import proofs.«01_k».proof.Proof.Gen.PleIdeal.Frame
public import proofs.«01_k».proof.Proof.PleClaim
public import proofs.«01_k».proof.Proof.Gen.FfnUp.Frame
public import proofs.«01_k».proof.Proof.Gen.FfnUpIdeal.Frame
public import proofs.«01_k».proof.Proof.FfnUpClaim
public import proofs.«01_k».proof.Proof.Gen.AdamEvIn.Frame
public import proofs.«01_k».proof.Proof.Gen.AdamEvInIdeal.Frame
public import proofs.«01_k».proof.Proof.AdamEvInClaim
public import proofs.«01_k».proof.Proof.Gen.AdamEvGlu.Frame
public import proofs.«01_k».proof.Proof.Gen.AdamEvGluIdeal.Frame
public import proofs.«01_k».proof.Proof.AdamEvGluClaim
public import proofs.«01_k».proof.Proof.Gen.AdamEvOut.Frame
public import proofs.«01_k».proof.Proof.Gen.AdamEvOutIdeal.Frame
public import proofs.«01_k».proof.Proof.AdamEvOutClaim
public import proofs.«01_k».proof.Proof.Gen.AdamOdIn.Frame
public import proofs.«01_k».proof.Proof.Gen.AdamOdInIdeal.Frame
public import proofs.«01_k».proof.Proof.AdamOdInClaim
public import proofs.«01_k».proof.Proof.Gen.AdamOdOut.Frame
public import proofs.«01_k».proof.Proof.Gen.AdamOdOutIdeal.Frame
public import proofs.«01_k».proof.Proof.AdamOdOutClaim
public import proofs.«01_k».proof.Proof.Gen.AdamFfnUp.Frame
public import proofs.«01_k».proof.Proof.Gen.AdamFfnUpIdeal.Frame
public import proofs.«01_k».proof.Proof.AdamFfnUpClaim
public import proofs.«01_k».proof.Proof.Gen.AdamFfnDown.Frame
public import proofs.«01_k».proof.Proof.Gen.AdamFfnDownIdeal.Frame
public import proofs.«01_k».proof.Proof.AdamFfnDownClaim
public import proofs.«01_k».proof.Proof.Gen.AdamPleProj.Frame
public import proofs.«01_k».proof.Proof.Gen.AdamPleProjIdeal.Frame
public import proofs.«01_k».proof.Proof.AdamPleProjClaim
public import proofs.«01_k».proof.Proof.Gen.AdamPleGate.Frame
public import proofs.«01_k».proof.Proof.Gen.AdamPleGateIdeal.Frame
public import proofs.«01_k».proof.Proof.AdamPleGateClaim
public import proofs.«01_k».proof.Proof.Gen.FfnDownBwd.Frame
public import proofs.«01_k».proof.Proof.Gen.FfnDownBwdIdeal.Frame
public import proofs.«01_k».proof.Proof.FfnDownBwdClaim
public import proofs.«01_k».proof.Proof.Gen.UpLnBwd.Frame
public import proofs.«01_k».proof.Proof.Gen.UpLnBwdIdeal.Frame
public import proofs.«01_k».proof.Proof.UpLnBwdClaim
public import proofs.«01_k».proof.Proof.Gen.PleLnBwd.Frame
public import proofs.«01_k».proof.Proof.Gen.PleLnBwdIdeal.Frame
public import proofs.«01_k».proof.Proof.PleLnBwdClaim
public import proofs.«01_k».proof.Proof.Gen.DS5B.Frame
public import proofs.«01_k».proof.Proof.Gen.DS5BIdeal.Frame
public import proofs.«01_k».proof.Proof.DS5BClaim
public import proofs.«01_k».proof.Proof.Gen.DS5C.Frame
public import proofs.«01_k».proof.Proof.Gen.DS5CIdeal.Frame
public import proofs.«01_k».proof.Proof.DS5CClaim
public import proofs.«01_k».proof.Proof.Gen.AdamSmall.Frame
public import proofs.«01_k».proof.Proof.Gen.AdamSmallIdeal.Frame
public import proofs.«01_k».proof.Proof.AdamSmallClaim
public import proofs.«01_k».proof.Proof.Gen.LossHead.Frame
public import proofs.«01_k».proof.Proof.Gen.LossHeadIdeal.Frame
public import proofs.«01_k».proof.Proof.LossHeadClaim
public import proofs.«01_k».proof.Proof.Gen.SumIn.Frame
public import proofs.«01_k».proof.Proof.Gen.SumInIdeal.Frame
public import proofs.«01_k».proof.Proof.SumInClaim
public import proofs.«01_k».proof.Proof.Gen.SumGlu.Frame
public import proofs.«01_k».proof.Proof.Gen.SumGluIdeal.Frame
public import proofs.«01_k».proof.Proof.SumGluClaim
public import proofs.«01_k».proof.Proof.Gen.SumOut.Frame
public import proofs.«01_k».proof.Proof.Gen.SumOutIdeal.Frame
public import proofs.«01_k».proof.Proof.SumOutClaim
public import proofs.«01_k».proof.Proof.Gen.SumUp.Frame
public import proofs.«01_k».proof.Proof.Gen.SumUpIdeal.Frame
public import proofs.«01_k».proof.Proof.SumUpClaim
public import proofs.«01_k».proof.Proof.Gen.SumDown.Frame
public import proofs.«01_k».proof.Proof.Gen.SumDownIdeal.Frame
public import proofs.«01_k».proof.Proof.SumDownClaim
public import proofs.«01_k».proof.Proof.Gen.SumProj.Frame
public import proofs.«01_k».proof.Proof.Gen.SumProjIdeal.Frame
public import proofs.«01_k».proof.Proof.SumProjClaim
public import proofs.«01_k».proof.Proof.Gen.PoolFwd.Frame
public import proofs.«01_k».proof.Proof.Gen.PoolFwdIdeal.Frame
public import proofs.«01_k».proof.Proof.PoolFwdClaim
public import proofs.«01_k».proof.Proof.Gen.PoolBwd.Frame
public import proofs.«01_k».proof.Proof.Gen.PoolBwdIdeal.Frame
public import proofs.«01_k».proof.Proof.PoolBwdClaim
public import Idealize.ShloMosaic.Adequacy
public import Idealize.ShloMosaic.Init

@[expose] public section

noncomputable section

namespace Cert.Proof

open Idealize.ShloMosaic Idealize.SL.Sem Cert.Conv

/-- The convolution's reference runs to its end and leaves its arguments and every counter as they were. -/
theorem conv_ref_frame : Cert.quiescent_ConvRefIdeal (hConvRefIdeal := Cert.ConvRefIdeal.Gen.facts) := fun m ρ _ =>
  (θ_run _ _ _).mono (fun r h => ⟨fun c => (h c).2.2, sem_eq_zero_of_no_sems (by decide) r.2⟩)
    (Cert.ConvRefIdeal.Value.run m ρ)

/-- Every claim of every call, in the order in which they are stated. -/
theorem claim : Cert.Claim := ⟨Cert.Conv.Gen.facts, Cert.ConvIdeal.Gen.facts, Cert.ConvRefIdeal.Gen.facts, Cert.DFfnDown.Gen.facts, Cert.DFfnDownIdeal.Gen.facts, Cert.DFfnDownRefIdeal.Gen.facts, Cert.DInA.Gen.facts, Cert.DInAIdeal.Gen.facts, Cert.DInARefIdeal.Gen.facts, Cert.DInB.Gen.facts, Cert.DInBIdeal.Gen.facts, Cert.DInBRefIdeal.Gen.facts, Cert.DOut.Gen.facts, Cert.DOutIdeal.Gen.facts, Cert.DOutRefIdeal.Gen.facts, Cert.DPleGate.Gen.facts, Cert.DPleGateIdeal.Gen.facts, Cert.DPleGateRefIdeal.Gen.facts, Cert.DPleProj.Gen.facts, Cert.DPleProjIdeal.Gen.facts, Cert.DPleProjRefIdeal.Gen.facts, Cert.DGlu.Gen.facts, Cert.DGluIdeal.Gen.facts, Cert.DGluRefIdeal.Gen.facts, Cert.DFfnUp.Gen.facts, Cert.DFfnUpIdeal.Gen.facts, Cert.DFfnUpRefIdeal.Gen.facts, Cert.InProj.Gen.facts, Cert.InProjIdeal.Gen.facts, Cert.InProjRefIdeal.Gen.facts, Cert.OutBwd.Gen.facts, Cert.OutBwdIdeal.Gen.facts, Cert.OutBwdRefIdeal.Gen.facts, Cert.InBwdEven.Gen.facts, Cert.InBwdEvenIdeal.Gen.facts, Cert.InBwdEvenRefIdeal.Gen.facts, Cert.InBwdOdd.Gen.facts, Cert.InBwdOddIdeal.Gen.facts, Cert.InBwdOddRefIdeal.Gen.facts, Cert.OutLn.Gen.facts, Cert.OutLnIdeal.Gen.facts, Cert.OutLnRefIdeal.Gen.facts, Cert.DownLn.Gen.facts, Cert.DownLnIdeal.Gen.facts, Cert.DownLnRefIdeal.Gen.facts, Cert.Ple.Gen.facts, Cert.PleIdeal.Gen.facts, Cert.PleRefIdeal.Gen.facts, Cert.FfnUp.Gen.facts, Cert.FfnUpIdeal.Gen.facts, Cert.FfnUpRefIdeal.Gen.facts, Cert.AdamEvIn.Gen.facts, Cert.AdamEvInIdeal.Gen.facts, Cert.AdamEvInRefIdeal.Gen.facts, Cert.AdamEvGlu.Gen.facts, Cert.AdamEvGluIdeal.Gen.facts, Cert.AdamEvGluRefIdeal.Gen.facts, Cert.AdamEvOut.Gen.facts, Cert.AdamEvOutIdeal.Gen.facts, Cert.AdamEvOutRefIdeal.Gen.facts, Cert.AdamOdIn.Gen.facts, Cert.AdamOdInIdeal.Gen.facts, Cert.AdamOdInRefIdeal.Gen.facts, Cert.AdamOdOut.Gen.facts, Cert.AdamOdOutIdeal.Gen.facts, Cert.AdamOdOutRefIdeal.Gen.facts, Cert.AdamFfnUp.Gen.facts, Cert.AdamFfnUpIdeal.Gen.facts, Cert.AdamFfnUpRefIdeal.Gen.facts, Cert.AdamFfnDown.Gen.facts, Cert.AdamFfnDownIdeal.Gen.facts, Cert.AdamFfnDownRefIdeal.Gen.facts, Cert.AdamPleProj.Gen.facts, Cert.AdamPleProjIdeal.Gen.facts, Cert.AdamPleProjRefIdeal.Gen.facts, Cert.AdamPleGate.Gen.facts, Cert.AdamPleGateIdeal.Gen.facts, Cert.AdamPleGateRefIdeal.Gen.facts, Cert.FfnDownBwd.Gen.facts, Cert.FfnDownBwdIdeal.Gen.facts, Cert.FfnDownBwdRefIdeal.Gen.facts, Cert.UpLnBwd.Gen.facts, Cert.UpLnBwdIdeal.Gen.facts, Cert.UpLnBwdRefIdeal.Gen.facts, Cert.PleLnBwd.Gen.facts, Cert.PleLnBwdIdeal.Gen.facts, Cert.PleLnBwdRefIdeal.Gen.facts, Cert.DS5B.Gen.facts, Cert.DS5BIdeal.Gen.facts, Cert.DS5BRefIdeal.Gen.facts, Cert.DS5C.Gen.facts, Cert.DS5CIdeal.Gen.facts, Cert.DS5CRefIdeal.Gen.facts, Cert.AdamSmall.Gen.facts, Cert.AdamSmallIdeal.Gen.facts, Cert.AdamSmallRefIdeal.Gen.facts, Cert.LossHead.Gen.facts, Cert.LossHeadIdeal.Gen.facts, Cert.LossHeadRefIdeal.Gen.facts, Cert.SumIn.Gen.facts, Cert.SumInIdeal.Gen.facts, Cert.SumInRefIdeal.Gen.facts, Cert.SumGlu.Gen.facts, Cert.SumGluIdeal.Gen.facts, Cert.SumGluRefIdeal.Gen.facts, Cert.SumOut.Gen.facts, Cert.SumOutIdeal.Gen.facts, Cert.SumOutRefIdeal.Gen.facts, Cert.SumUp.Gen.facts, Cert.SumUpIdeal.Gen.facts, Cert.SumUpRefIdeal.Gen.facts, Cert.SumDown.Gen.facts, Cert.SumDownIdeal.Gen.facts, Cert.SumDownRefIdeal.Gen.facts, Cert.SumProj.Gen.facts, Cert.SumProjIdeal.Gen.facts, Cert.SumProjRefIdeal.Gen.facts, Cert.PoolFwd.Gen.facts, Cert.PoolFwdIdeal.Gen.facts, Cert.PoolFwdRefIdeal.Gen.facts, Cert.PoolBwd.Gen.facts, Cert.PoolBwdIdeal.Gen.facts, Cert.PoolBwdRefIdeal.Gen.facts, Cert.FfnDownBwdProof.pre_facts, Cert.UpLnBwdProof.pre_facts, Cert.PleLnBwdProof.pre_facts,
  fun m ρ _ => Cert.Conv.Gen.frame m ρ,
  fun m ρ _ => Cert.ConvIdeal.Gen.frame m ρ,
  conv_ref_frame,
  fun m ρ _ => Cert.DFfnDown.Gen.frame m ρ,
  fun m ρ _ => Cert.DFfnDownIdeal.Gen.frame m ρ,
  Cert.DFfnDownProof.ref_frame,
  fun m ρ _ => Cert.DInA.Gen.frame m ρ,
  fun m ρ _ => Cert.DInAIdeal.Gen.frame m ρ,
  Cert.DInAProof.ref_frame,
  fun m ρ _ => Cert.DInB.Gen.frame m ρ,
  fun m ρ _ => Cert.DInBIdeal.Gen.frame m ρ,
  Cert.DInBProof.ref_frame,
  fun m ρ _ => Cert.DOut.Gen.frame m ρ,
  fun m ρ _ => Cert.DOutIdeal.Gen.frame m ρ,
  Cert.DOutProof.ref_frame,
  fun m ρ _ => Cert.DPleGate.Gen.frame m ρ,
  fun m ρ _ => Cert.DPleGateIdeal.Gen.frame m ρ,
  Cert.DPleGateProof.ref_frame,
  fun m ρ _ => Cert.DPleProj.Gen.frame m ρ,
  fun m ρ _ => Cert.DPleProjIdeal.Gen.frame m ρ,
  Cert.DPleProjProof.ref_frame,
  fun m ρ _ => Cert.DGlu.Gen.frame m ρ,
  fun m ρ _ => Cert.DGluIdeal.Gen.frame m ρ,
  Cert.DGluProof.ref_frame,
  fun m ρ _ => Cert.DFfnUp.Gen.frame m ρ,
  fun m ρ _ => Cert.DFfnUpIdeal.Gen.frame m ρ,
  Cert.DFfnUpProof.ref_frame,
  fun m ρ _ => Cert.InProj.Gen.frame m ρ,
  fun m ρ _ => Cert.InProjIdeal.Gen.frame m ρ,
  Cert.InProjProof.ref_frame,
  fun m ρ _ => Cert.OutBwd.Gen.frame m ρ,
  fun m ρ _ => Cert.OutBwdIdeal.Gen.frame m ρ,
  Cert.OutBwdProof.ref_frame,
  fun m ρ _ => Cert.InBwdEven.Gen.frame m ρ,
  fun m ρ _ => Cert.InBwdEvenIdeal.Gen.frame m ρ,
  Cert.InBwdEvenProof.ref_frame,
  fun m ρ _ => Cert.InBwdOdd.Gen.frame m ρ,
  fun m ρ _ => Cert.InBwdOddIdeal.Gen.frame m ρ,
  Cert.InBwdOddProof.ref_frame,
  fun m ρ _ => Cert.OutLn.Gen.frame m ρ,
  fun m ρ _ => Cert.OutLnIdeal.Gen.frame m ρ,
  Cert.OutLnProof.ref_frame,
  fun m ρ _ => Cert.DownLn.Gen.frame m ρ,
  fun m ρ _ => Cert.DownLnIdeal.Gen.frame m ρ,
  Cert.DownLnProof.ref_frame,
  fun m ρ _ => Cert.Ple.Gen.frame m ρ,
  fun m ρ _ => Cert.PleIdeal.Gen.frame m ρ,
  Cert.PleProof.ref_frame,
  fun m ρ _ => Cert.FfnUp.Gen.frame m ρ,
  fun m ρ _ => Cert.FfnUpIdeal.Gen.frame m ρ,
  Cert.FfnUpProof.ref_frame,
  fun m ρ _ => Cert.AdamEvIn.Gen.frame m ρ,
  fun m ρ _ => Cert.AdamEvInIdeal.Gen.frame m ρ,
  Cert.AdamEvInProof.ref_frame,
  fun m ρ _ => Cert.AdamEvGlu.Gen.frame m ρ,
  fun m ρ _ => Cert.AdamEvGluIdeal.Gen.frame m ρ,
  Cert.AdamEvGluProof.ref_frame,
  fun m ρ _ => Cert.AdamEvOut.Gen.frame m ρ,
  fun m ρ _ => Cert.AdamEvOutIdeal.Gen.frame m ρ,
  Cert.AdamEvOutProof.ref_frame,
  fun m ρ _ => Cert.AdamOdIn.Gen.frame m ρ,
  fun m ρ _ => Cert.AdamOdInIdeal.Gen.frame m ρ,
  Cert.AdamOdInProof.ref_frame,
  fun m ρ _ => Cert.AdamOdOut.Gen.frame m ρ,
  fun m ρ _ => Cert.AdamOdOutIdeal.Gen.frame m ρ,
  Cert.AdamOdOutProof.ref_frame,
  fun m ρ _ => Cert.AdamFfnUp.Gen.frame m ρ,
  fun m ρ _ => Cert.AdamFfnUpIdeal.Gen.frame m ρ,
  Cert.AdamFfnUpProof.ref_frame,
  fun m ρ _ => Cert.AdamFfnDown.Gen.frame m ρ,
  fun m ρ _ => Cert.AdamFfnDownIdeal.Gen.frame m ρ,
  Cert.AdamFfnDownProof.ref_frame,
  fun m ρ _ => Cert.AdamPleProj.Gen.frame m ρ,
  fun m ρ _ => Cert.AdamPleProjIdeal.Gen.frame m ρ,
  Cert.AdamPleProjProof.ref_frame,
  fun m ρ _ => Cert.AdamPleGate.Gen.frame m ρ,
  fun m ρ _ => Cert.AdamPleGateIdeal.Gen.frame m ρ,
  Cert.AdamPleGateProof.ref_frame,
  fun m ρ _ => Cert.FfnDownBwd.Gen.frame m ρ,
  fun m ρ _ => Cert.FfnDownBwdIdeal.Gen.frame m ρ,
  fun m ρ _ => Cert.FfnDownBwdIdeal.Gen.frame m ρ,
  Cert.FfnDownBwdProof.ref_frame,
  Cert.FfnDownBwdProof.ref_frame_pre,
  fun m ρ _ => Cert.UpLnBwd.Gen.frame m ρ,
  fun m ρ _ => Cert.UpLnBwdIdeal.Gen.frame m ρ,
  fun m ρ _ => Cert.UpLnBwdIdeal.Gen.frame m ρ,
  Cert.UpLnBwdProof.ref_frame,
  Cert.UpLnBwdProof.ref_frame_pre,
  fun m ρ _ => Cert.PleLnBwd.Gen.frame m ρ,
  fun m ρ _ => Cert.PleLnBwdIdeal.Gen.frame m ρ,
  fun m ρ _ => Cert.PleLnBwdIdeal.Gen.frame m ρ,
  Cert.PleLnBwdProof.ref_frame,
  Cert.PleLnBwdProof.ref_frame_pre,
  fun m ρ _ => Cert.DS5B.Gen.frame m ρ,
  fun m ρ _ => Cert.DS5BIdeal.Gen.frame m ρ,
  Cert.DS5BProof.ref_frame,
  fun m ρ _ => Cert.DS5C.Gen.frame m ρ,
  fun m ρ _ => Cert.DS5CIdeal.Gen.frame m ρ,
  Cert.DS5CProof.ref_frame,
  fun m ρ _ => Cert.AdamSmall.Gen.frame m ρ,
  fun m ρ _ => Cert.AdamSmallIdeal.Gen.frame m ρ,
  Cert.AdamSmallProof.ref_frame,
  fun m ρ _ => Cert.LossHead.Gen.frame m ρ,
  fun m ρ _ => Cert.LossHeadIdeal.Gen.frame m ρ,
  Cert.LossHeadProof.ref_frame,
  fun m ρ _ => Cert.SumIn.Gen.frame m ρ,
  fun m ρ _ => Cert.SumInIdeal.Gen.frame m ρ,
  Cert.SumInProof.ref_frame,
  fun m ρ _ => Cert.SumGlu.Gen.frame m ρ,
  fun m ρ _ => Cert.SumGluIdeal.Gen.frame m ρ,
  Cert.SumGluProof.ref_frame,
  fun m ρ _ => Cert.SumOut.Gen.frame m ρ,
  fun m ρ _ => Cert.SumOutIdeal.Gen.frame m ρ,
  Cert.SumOutProof.ref_frame,
  fun m ρ _ => Cert.SumUp.Gen.frame m ρ,
  fun m ρ _ => Cert.SumUpIdeal.Gen.frame m ρ,
  Cert.SumUpProof.ref_frame,
  fun m ρ _ => Cert.SumDown.Gen.frame m ρ,
  fun m ρ _ => Cert.SumDownIdeal.Gen.frame m ρ,
  Cert.SumDownProof.ref_frame,
  fun m ρ _ => Cert.SumProj.Gen.frame m ρ,
  fun m ρ _ => Cert.SumProjIdeal.Gen.frame m ρ,
  Cert.SumProjProof.ref_frame,
  fun m ρ _ => Cert.PoolFwd.Gen.frame m ρ,
  fun m ρ _ => Cert.PoolFwdIdeal.Gen.frame m ρ,
  Cert.PoolFwdProof.ref_frame,
  fun m ρ _ => Cert.PoolBwd.Gen.frame m ρ,
  fun m ρ _ => Cert.PoolBwdIdeal.Gen.frame m ρ,
  Cert.PoolBwdProof.ref_frame,
  trivial,
  Cert.ConvProof.conv_algebraic,
  trivial,
  Cert.DFfnDownProof.algebraic,
  trivial,
  Cert.DInAProof.algebraic,
  trivial,
  Cert.DInBProof.algebraic,
  trivial,
  Cert.DOutProof.algebraic,
  trivial,
  Cert.DPleGateProof.algebraic,
  trivial,
  Cert.DPleProjProof.algebraic,
  trivial,
  Cert.DGluProof.algebraic,
  trivial,
  Cert.DFfnUpProof.algebraic,
  trivial,
  Cert.InProjProof.algebraic,
  trivial,
  Cert.OutBwdProof.algebraic,
  trivial,
  Cert.InBwdEvenProof.algebraic,
  trivial,
  Cert.InBwdOddProof.algebraic,
  trivial,
  Cert.OutLnProof.algebraic,
  trivial,
  Cert.DownLnProof.algebraic,
  trivial,
  Cert.PleProof.algebraic,
  trivial,
  Cert.FfnUpProof.algebraic,
  trivial,
  Cert.AdamEvInProof.algebraic,
  trivial,
  Cert.AdamEvGluProof.algebraic,
  trivial,
  Cert.AdamEvOutProof.algebraic,
  trivial,
  Cert.AdamOdInProof.algebraic,
  trivial,
  Cert.AdamOdOutProof.algebraic,
  trivial,
  Cert.AdamFfnUpProof.algebraic,
  trivial,
  Cert.AdamFfnDownProof.algebraic,
  trivial,
  Cert.AdamPleProjProof.algebraic,
  trivial,
  Cert.AdamPleGateProof.algebraic,
  trivial,
  Cert.FfnDownBwdProof.algebraic,
  trivial,
  Cert.UpLnBwdProof.algebraic,
  trivial,
  Cert.PleLnBwdProof.algebraic,
  trivial,
  Cert.DS5BProof.algebraic,
  trivial,
  Cert.DS5CProof.algebraic,
  trivial,
  Cert.AdamSmallProof.algebraic,
  trivial,
  Cert.LossHeadProof.algebraic,
  trivial,
  Cert.SumInProof.algebraic,
  trivial,
  Cert.SumGluProof.algebraic,
  trivial,
  Cert.SumOutProof.algebraic,
  trivial,
  Cert.SumUpProof.algebraic,
  trivial,
  Cert.SumDownProof.algebraic,
  trivial,
  Cert.SumProjProof.algebraic,
  trivial,
  Cert.PoolFwdProof.algebraic,
  trivial,
  Cert.PoolBwdProof.algebraic⟩

end Cert.Proof

end
